-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_UpBwdW (m : (ℓ : Loc Cert.UpBwdW.nD Cert.UpBwdW.τ Cert.UpBwdW.sig) → Buf (Elt Bits) ℓ) : Prop :=
  True

def Pre_UpBwdWIdeal (m : (ℓ : Loc Cert.UpBwdWIdeal.nD Cert.UpBwdWIdeal.τ Cert.UpBwdWIdeal.sig) → Buf (Elt Ideal) ℓ) : Prop :=
  True

def Pre_UpBwdWReferenceIdeal (m : (ℓ : Loc Cert.UpBwdWReferenceIdeal.nD Cert.UpBwdWReferenceIdeal.τ Cert.UpBwdWReferenceIdeal.sig) → Buf (Elt Ideal) ℓ) : Prop :=
  True

def Pre_UpBwdX (m : (ℓ : Loc Cert.UpBwdX.nD Cert.UpBwdX.τ Cert.UpBwdX.sig) → Buf (Elt Bits) ℓ) : Prop :=
  True

def Pre_UpBwdXIdeal (m : (ℓ : Loc Cert.UpBwdXIdeal.nD Cert.UpBwdXIdeal.τ Cert.UpBwdXIdeal.sig) → Buf (Elt Ideal) ℓ) : Prop :=
  True

def Pre_UpBwdXReferenceIdeal (m : (ℓ : Loc Cert.UpBwdXReferenceIdeal.nD Cert.UpBwdXReferenceIdeal.τ Cert.UpBwdXReferenceIdeal.sig) → Buf (Elt Ideal) ℓ) : Prop :=
  True

def Pre_DownBwdX (m : (ℓ : Loc Cert.DownBwdX.nD Cert.DownBwdX.τ Cert.DownBwdX.sig) → Buf (Elt Bits) ℓ) : Prop :=
  True

def Pre_DownBwdXIdeal (m : (ℓ : Loc Cert.DownBwdXIdeal.nD Cert.DownBwdXIdeal.τ Cert.DownBwdXIdeal.sig) → Buf (Elt Ideal) ℓ) : Prop :=
  True

def Pre_DownBwdXReferenceIdeal (m : (ℓ : Loc Cert.DownBwdXReferenceIdeal.nD Cert.DownBwdXReferenceIdeal.τ Cert.DownBwdXReferenceIdeal.sig) → Buf (Elt Ideal) ℓ) : Prop :=
  True

def Pre_DownBwdW (m : (ℓ : Loc Cert.DownBwdW.nD Cert.DownBwdW.τ Cert.DownBwdW.sig) → Buf (Elt Bits) ℓ) : Prop :=
  True

def Pre_DownBwdWIdeal (m : (ℓ : Loc Cert.DownBwdWIdeal.nD Cert.DownBwdWIdeal.τ Cert.DownBwdWIdeal.sig) → Buf (Elt Ideal) ℓ) : Prop :=
  True

def Pre_DownBwdWReferenceIdeal (m : (ℓ : Loc Cert.DownBwdWReferenceIdeal.nD Cert.DownBwdWReferenceIdeal.τ Cert.DownBwdWReferenceIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjReferenceIdeal (m : (ℓ : Loc Cert.UpProjReferenceIdeal.nD Cert.UpProjReferenceIdeal.τ Cert.UpProjReferenceIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjReferenceIdeal (m : (ℓ : Loc Cert.DownProjReferenceIdeal.nD Cert.DownProjReferenceIdeal.τ Cert.DownProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InBwdX (m : (ℓ : Loc Cert.InBwdX.nD Cert.InBwdX.τ Cert.InBwdX.sig) → Buf (Elt Bits) ℓ) : Prop :=
  True

def Pre_InBwdXIdeal (m : (ℓ : Loc Cert.InBwdXIdeal.nD Cert.InBwdXIdeal.τ Cert.InBwdXIdeal.sig) → Buf (Elt Ideal) ℓ) : Prop :=
  True

def Pre_InBwdXReferenceIdeal (m : (ℓ : Loc Cert.InBwdXReferenceIdeal.nD Cert.InBwdXReferenceIdeal.τ Cert.InBwdXReferenceIdeal.sig) → Buf (Elt Ideal) ℓ) : Prop :=
  True

def Pre_InBwdW (m : (ℓ : Loc Cert.InBwdW.nD Cert.InBwdW.τ Cert.InBwdW.sig) → Buf (Elt Bits) ℓ) : Prop :=
  True

def Pre_InBwdWIdeal (m : (ℓ : Loc Cert.InBwdWIdeal.nD Cert.InBwdWIdeal.τ Cert.InBwdWIdeal.sig) → Buf (Elt Ideal) ℓ) : Prop :=
  True

def Pre_InBwdWReferenceIdeal (m : (ℓ : Loc Cert.InBwdWReferenceIdeal.nD Cert.InBwdWReferenceIdeal.τ Cert.InBwdWReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OutBwdX (m : (ℓ : Loc Cert.OutBwdX.nD Cert.OutBwdX.τ Cert.OutBwdX.sig) → Buf (Elt Bits) ℓ) : Prop :=
  True

def Pre_OutBwdXIdeal (m : (ℓ : Loc Cert.OutBwdXIdeal.nD Cert.OutBwdXIdeal.τ Cert.OutBwdXIdeal.sig) → Buf (Elt Ideal) ℓ) : Prop :=
  True

def Pre_OutBwdXReferenceIdeal (m : (ℓ : Loc Cert.OutBwdXReferenceIdeal.nD Cert.OutBwdXReferenceIdeal.τ Cert.OutBwdXReferenceIdeal.sig) → Buf (Elt Ideal) ℓ) : Prop :=
  True

def Pre_OutBwdW (m : (ℓ : Loc Cert.OutBwdW.nD Cert.OutBwdW.τ Cert.OutBwdW.sig) → Buf (Elt Bits) ℓ) : Prop :=
  True

def Pre_OutBwdWIdeal (m : (ℓ : Loc Cert.OutBwdWIdeal.nD Cert.OutBwdWIdeal.τ Cert.OutBwdWIdeal.sig) → Buf (Elt Ideal) ℓ) : Prop :=
  True

def Pre_OutBwdWReferenceIdeal (m : (ℓ : Loc Cert.OutBwdWReferenceIdeal.nD Cert.OutBwdWReferenceIdeal.τ Cert.OutBwdWReferenceIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjReferenceIdeal (m : (ℓ : Loc Cert.GluProjReferenceIdeal.nD Cert.GluProjReferenceIdeal.τ Cert.GluProjReferenceIdeal.sig) → Buf (Elt Ideal) ℓ) : Prop :=
  True

def Pre_GluBwdX (m : (ℓ : Loc Cert.GluBwdX.nD Cert.GluBwdX.τ Cert.GluBwdX.sig) → Buf (Elt Bits) ℓ) : Prop :=
  True

def Pre_GluBwdXIdeal (m : (ℓ : Loc Cert.GluBwdXIdeal.nD Cert.GluBwdXIdeal.τ Cert.GluBwdXIdeal.sig) → Buf (Elt Ideal) ℓ) : Prop :=
  True

def Pre_GluBwdXReferenceIdeal (m : (ℓ : Loc Cert.GluBwdXReferenceIdeal.nD Cert.GluBwdXReferenceIdeal.τ Cert.GluBwdXReferenceIdeal.sig) → Buf (Elt Ideal) ℓ) : Prop :=
  True

def Pre_GluBwdW (m : (ℓ : Loc Cert.GluBwdW.nD Cert.GluBwdW.τ Cert.GluBwdW.sig) → Buf (Elt Bits) ℓ) : Prop :=
  True

def Pre_GluBwdWIdeal (m : (ℓ : Loc Cert.GluBwdWIdeal.nD Cert.GluBwdWIdeal.τ Cert.GluBwdWIdeal.sig) → Buf (Elt Ideal) ℓ) : Prop :=
  True

def Pre_GluBwdWReferenceIdeal (m : (ℓ : Loc Cert.GluBwdWReferenceIdeal.nD Cert.GluBwdWReferenceIdeal.τ Cert.GluBwdWReferenceIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjReferenceIdeal (m : (ℓ : Loc Cert.QProjReferenceIdeal.nD Cert.QProjReferenceIdeal.τ Cert.QProjReferenceIdeal.sig) → Buf (Elt Ideal) ℓ) : Prop :=
  True

def Pre_QBwdW (m : (ℓ : Loc Cert.QBwdW.nD Cert.QBwdW.τ Cert.QBwdW.sig) → Buf (Elt Bits) ℓ) : Prop :=
  True

def Pre_QBwdWIdeal (m : (ℓ : Loc Cert.QBwdWIdeal.nD Cert.QBwdWIdeal.τ Cert.QBwdWIdeal.sig) → Buf (Elt Ideal) ℓ) : Prop :=
  True

def Pre_QBwdWReferenceIdeal (m : (ℓ : Loc Cert.QBwdWReferenceIdeal.nD Cert.QBwdWReferenceIdeal.τ Cert.QBwdWReferenceIdeal.sig) → Buf (Elt Ideal) ℓ) : Prop :=
  True

def Pre_QBwdX (m : (ℓ : Loc Cert.QBwdX.nD Cert.QBwdX.τ Cert.QBwdX.sig) → Buf (Elt Bits) ℓ) : Prop :=
  True

def Pre_QBwdXIdeal (m : (ℓ : Loc Cert.QBwdXIdeal.nD Cert.QBwdXIdeal.τ Cert.QBwdXIdeal.sig) → Buf (Elt Ideal) ℓ) : Prop :=
  True

def Pre_QBwdXReferenceIdeal (m : (ℓ : Loc Cert.QBwdXReferenceIdeal.nD Cert.QBwdXReferenceIdeal.τ Cert.QBwdXReferenceIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjReferenceIdeal (m : (ℓ : Loc Cert.KvProjReferenceIdeal.nD Cert.KvProjReferenceIdeal.τ Cert.KvProjReferenceIdeal.sig) → Buf (Elt Ideal) ℓ) : Prop :=
  True

def Pre_KvBwdW (m : (ℓ : Loc Cert.KvBwdW.nD Cert.KvBwdW.τ Cert.KvBwdW.sig) → Buf (Elt Bits) ℓ) : Prop :=
  True

def Pre_KvBwdWIdeal (m : (ℓ : Loc Cert.KvBwdWIdeal.nD Cert.KvBwdWIdeal.τ Cert.KvBwdWIdeal.sig) → Buf (Elt Ideal) ℓ) : Prop :=
  True

def Pre_KvBwdWReferenceIdeal (m : (ℓ : Loc Cert.KvBwdWReferenceIdeal.nD Cert.KvBwdWReferenceIdeal.τ Cert.KvBwdWReferenceIdeal.sig) → Buf (Elt Ideal) ℓ) : Prop :=
  True

def Pre_KvBwdX (m : (ℓ : Loc Cert.KvBwdX.nD Cert.KvBwdX.τ Cert.KvBwdX.sig) → Buf (Elt Bits) ℓ) : Prop :=
  True

def Pre_KvBwdXIdeal (m : (ℓ : Loc Cert.KvBwdXIdeal.nD Cert.KvBwdXIdeal.τ Cert.KvBwdXIdeal.sig) → Buf (Elt Ideal) ℓ) : Prop :=
  True

def Pre_KvBwdXReferenceIdeal (m : (ℓ : Loc Cert.KvBwdXReferenceIdeal.nD Cert.KvBwdXReferenceIdeal.τ Cert.KvBwdXReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_forward [hPre_finite_forward : Cert.Pre_finite_forward.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_forward.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))) = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite_forward [hPre_finite_forward : Cert.Pre_finite_forward.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite_forward.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2)) (m ((c.tc : Thread Cert.AttnFwdReferenceIdeal.nD Cert.AttnFwdReferenceIdeal.τ).loc Cert.AttnFwdReferenceIdeal.main_arg3)) (m ((c.tc : Thread Cert.AttnFwdReferenceIdeal.nD Cert.AttnFwdReferenceIdeal.τ).loc Cert.AttnFwdReferenceIdeal.main_arg4))) = (fun _ => 1#1)

def Pre_RmsMixBwd (m : (ℓ : Loc Cert.RmsMixBwd.nD Cert.RmsMixBwd.τ Cert.RmsMixBwd.sig) → Buf (Elt Bits) ℓ) : Prop :=
  True

def Pre_RmsMixBwdIdeal (m : (ℓ : Loc Cert.RmsMixBwdIdeal.nD Cert.RmsMixBwdIdeal.τ Cert.RmsMixBwdIdeal.sig) → Buf (Elt Ideal) ℓ) : Prop :=
  True

def Pre_RmsMixBwdReferenceIdeal (m : (ℓ : Loc Cert.RmsMixBwdReferenceIdeal.nD Cert.RmsMixBwdReferenceIdeal.τ Cert.RmsMixBwdReferenceIdeal.sig) → Buf (Elt Ideal) ℓ) : Prop :=
  True

def Pre_RmsFfnBwd (m : (ℓ : Loc Cert.RmsFfnBwd.nD Cert.RmsFfnBwd.τ Cert.RmsFfnBwd.sig) → Buf (Elt Bits) ℓ) : Prop :=
  True

def Pre_RmsFfnBwdIdeal (m : (ℓ : Loc Cert.RmsFfnBwdIdeal.nD Cert.RmsFfnBwdIdeal.τ Cert.RmsFfnBwdIdeal.sig) → Buf (Elt Ideal) ℓ) : Prop :=
  True

def Pre_RmsFfnBwdReferenceIdeal (m : (ℓ : Loc Cert.RmsFfnBwdReferenceIdeal.nD Cert.RmsFfnBwdReferenceIdeal.τ Cert.RmsFfnBwdReferenceIdeal.sig) → Buf (Elt Ideal) ℓ) : Prop :=
  True

def Pre_RmsAttnBwd (m : (ℓ : Loc Cert.RmsAttnBwd.nD Cert.RmsAttnBwd.τ Cert.RmsAttnBwd.sig) → Buf (Elt Bits) ℓ) : Prop :=
  True

def Pre_RmsAttnBwdIdeal (m : (ℓ : Loc Cert.RmsAttnBwdIdeal.nD Cert.RmsAttnBwdIdeal.τ Cert.RmsAttnBwdIdeal.sig) → Buf (Elt Ideal) ℓ) : Prop :=
  True

def Pre_RmsAttnBwdReferenceIdeal (m : (ℓ : Loc Cert.RmsAttnBwdReferenceIdeal.nD Cert.RmsAttnBwdReferenceIdeal.τ Cert.RmsAttnBwdReferenceIdeal.sig) → Buf (Elt Ideal) ℓ) : Prop :=
  True

def Pre_AdamwLast (m : (ℓ : Loc Cert.AdamwLast.nD Cert.AdamwLast.τ Cert.AdamwLast.sig) → Buf (Elt Bits) ℓ) : Prop :=
  True

def Pre_AdamwLastIdeal (m : (ℓ : Loc Cert.AdamwLastIdeal.nD Cert.AdamwLastIdeal.τ Cert.AdamwLastIdeal.sig) → Buf (Elt Ideal) ℓ) : Prop :=
  True

def Pre_AdamwLastReferenceIdeal (m : (ℓ : Loc Cert.AdamwLastReferenceIdeal.nD Cert.AdamwLastReferenceIdeal.τ Cert.AdamwLastReferenceIdeal.sig) → Buf (Elt Ideal) ℓ) : Prop :=
  True

def Pre_AdamwCols (m : (ℓ : Loc Cert.AdamwCols.nD Cert.AdamwCols.τ Cert.AdamwCols.sig) → Buf (Elt Bits) ℓ) : Prop :=
  True

def Pre_AdamwColsIdeal (m : (ℓ : Loc Cert.AdamwColsIdeal.nD Cert.AdamwColsIdeal.τ Cert.AdamwColsIdeal.sig) → Buf (Elt Ideal) ℓ) : Prop :=
  True

def Pre_AdamwColsReferenceIdeal (m : (ℓ : Loc Cert.AdamwColsReferenceIdeal.nD Cert.AdamwColsReferenceIdeal.τ Cert.AdamwColsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpBwdW [hUpBwdW : Cert.UpBwdW.Facts] : Prop :=
  ∀ (m : (ℓ : Loc Cert.UpBwdW.nD Cert.UpBwdW.τ Cert.UpBwdW.sig) → Buf (Elt Bits) ℓ) (g : Dev Cert.UpBwdW.nD → PrngReg), Pre_UpBwdW m →
    θ_run (Cert.UpBwdW.defs (F := Bits)) (onTc (τ := Cert.UpBwdW.τ) (Cert.UpBwdW.main (F := Bits))) ⟨m, fun _ => 0, g⟩ (fun r => (∀ c : Dev Cert.UpBwdW.nD,
      r.2.mem ((c.tc : Thread Cert.UpBwdW.nD Cert.UpBwdW.τ).loc Cert.UpBwdW.main_arg0) = m ((c.tc : Thread Cert.UpBwdW.nD Cert.UpBwdW.τ).loc Cert.UpBwdW.main_arg0)
      ∧ r.2.mem ((c.tc : Thread Cert.UpBwdW.nD Cert.UpBwdW.τ).loc Cert.UpBwdW.main_arg1) = m ((c.tc : Thread Cert.UpBwdW.nD Cert.UpBwdW.τ).loc Cert.UpBwdW.main_arg1))
      ∧ r.2.sem = fun _ => 0)

def quiescent_UpBwdWIdeal [hUpBwdWIdeal : Cert.UpBwdWIdeal.Facts] : Prop :=
  ∀ (m : (ℓ : Loc Cert.UpBwdWIdeal.nD Cert.UpBwdWIdeal.τ Cert.UpBwdWIdeal.sig) → Buf (Elt Ideal) ℓ) (g : Dev Cert.UpBwdWIdeal.nD → PrngReg), Pre_UpBwdWIdeal m →
    θ_run (Cert.UpBwdWIdeal.defs (F := Ideal)) (onTc (τ := Cert.UpBwdWIdeal.τ) (Cert.UpBwdWIdeal.main (F := Ideal))) ⟨m, fun _ => 0, g⟩ (fun r => (∀ c : Dev Cert.UpBwdWIdeal.nD,
      r.2.mem ((c.tc : Thread Cert.UpBwdWIdeal.nD Cert.UpBwdWIdeal.τ).loc Cert.UpBwdWIdeal.main_arg0) = m ((c.tc : Thread Cert.UpBwdWIdeal.nD Cert.UpBwdWIdeal.τ).loc Cert.UpBwdWIdeal.main_arg0)
      ∧ r.2.mem ((c.tc : Thread Cert.UpBwdWIdeal.nD Cert.UpBwdWIdeal.τ).loc Cert.UpBwdWIdeal.main_arg1) = m ((c.tc : Thread Cert.UpBwdWIdeal.nD Cert.UpBwdWIdeal.τ).loc Cert.UpBwdWIdeal.main_arg1))
      ∧ r.2.sem = fun _ => 0)

def quiescent_UpBwdWReferenceIdeal [hUpBwdWReferenceIdeal : Cert.UpBwdWReferenceIdeal.Facts] : Prop :=
  ∀ (m : (ℓ : Loc Cert.UpBwdWReferenceIdeal.nD Cert.UpBwdWReferenceIdeal.τ Cert.UpBwdWReferenceIdeal.sig) → Buf (Elt Ideal) ℓ) (g : Dev Cert.UpBwdWReferenceIdeal.nD → PrngReg), Pre_UpBwdWReferenceIdeal m →
    θ_run (Cert.UpBwdWReferenceIdeal.defs (F := Ideal)) (onTc (τ := Cert.UpBwdWReferenceIdeal.τ) (Cert.UpBwdWReferenceIdeal.main (F := Ideal))) ⟨m, fun _ => 0, g⟩ (fun r => (∀ c : Dev Cert.UpBwdWReferenceIdeal.nD,
      r.2.mem ((c.tc : Thread Cert.UpBwdWReferenceIdeal.nD Cert.UpBwdWReferenceIdeal.τ).loc Cert.UpBwdWReferenceIdeal.main_arg0) = m ((c.tc : Thread Cert.UpBwdWReferenceIdeal.nD Cert.UpBwdWReferenceIdeal.τ).loc Cert.UpBwdWReferenceIdeal.main_arg0)
      ∧ r.2.mem ((c.tc : Thread Cert.UpBwdWReferenceIdeal.nD Cert.UpBwdWReferenceIdeal.τ).loc Cert.UpBwdWReferenceIdeal.main_arg1) = m ((c.tc : Thread Cert.UpBwdWReferenceIdeal.nD Cert.UpBwdWReferenceIdeal.τ).loc Cert.UpBwdWReferenceIdeal.main_arg1))
      ∧ r.2.sem = fun _ => 0)

def quiescent_UpBwdX [hUpBwdX : Cert.UpBwdX.Facts] : Prop :=
  ∀ (m : (ℓ : Loc Cert.UpBwdX.nD Cert.UpBwdX.τ Cert.UpBwdX.sig) → Buf (Elt Bits) ℓ) (g : Dev Cert.UpBwdX.nD → PrngReg), Pre_UpBwdX m →
    θ_run (Cert.UpBwdX.defs (F := Bits)) (onTc (τ := Cert.UpBwdX.τ) (Cert.UpBwdX.main (F := Bits))) ⟨m, fun _ => 0, g⟩ (fun r => (∀ c : Dev Cert.UpBwdX.nD,
      r.2.mem ((c.tc : Thread Cert.UpBwdX.nD Cert.UpBwdX.τ).loc Cert.UpBwdX.main_arg0) = m ((c.tc : Thread Cert.UpBwdX.nD Cert.UpBwdX.τ).loc Cert.UpBwdX.main_arg0)
      ∧ r.2.mem ((c.tc : Thread Cert.UpBwdX.nD Cert.UpBwdX.τ).loc Cert.UpBwdX.main_arg1) = m ((c.tc : Thread Cert.UpBwdX.nD Cert.UpBwdX.τ).loc Cert.UpBwdX.main_arg1))
      ∧ r.2.sem = fun _ => 0)

def quiescent_UpBwdXIdeal [hUpBwdXIdeal : Cert.UpBwdXIdeal.Facts] : Prop :=
  ∀ (m : (ℓ : Loc Cert.UpBwdXIdeal.nD Cert.UpBwdXIdeal.τ Cert.UpBwdXIdeal.sig) → Buf (Elt Ideal) ℓ) (g : Dev Cert.UpBwdXIdeal.nD → PrngReg), Pre_UpBwdXIdeal m →
    θ_run (Cert.UpBwdXIdeal.defs (F := Ideal)) (onTc (τ := Cert.UpBwdXIdeal.τ) (Cert.UpBwdXIdeal.main (F := Ideal))) ⟨m, fun _ => 0, g⟩ (fun r => (∀ c : Dev Cert.UpBwdXIdeal.nD,
      r.2.mem ((c.tc : Thread Cert.UpBwdXIdeal.nD Cert.UpBwdXIdeal.τ).loc Cert.UpBwdXIdeal.main_arg0) = m ((c.tc : Thread Cert.UpBwdXIdeal.nD Cert.UpBwdXIdeal.τ).loc Cert.UpBwdXIdeal.main_arg0)
      ∧ r.2.mem ((c.tc : Thread Cert.UpBwdXIdeal.nD Cert.UpBwdXIdeal.τ).loc Cert.UpBwdXIdeal.main_arg1) = m ((c.tc : Thread Cert.UpBwdXIdeal.nD Cert.UpBwdXIdeal.τ).loc Cert.UpBwdXIdeal.main_arg1))
      ∧ r.2.sem = fun _ => 0)

def quiescent_UpBwdXReferenceIdeal [hUpBwdXReferenceIdeal : Cert.UpBwdXReferenceIdeal.Facts] : Prop :=
  ∀ (m : (ℓ : Loc Cert.UpBwdXReferenceIdeal.nD Cert.UpBwdXReferenceIdeal.τ Cert.UpBwdXReferenceIdeal.sig) → Buf (Elt Ideal) ℓ) (g : Dev Cert.UpBwdXReferenceIdeal.nD → PrngReg), Pre_UpBwdXReferenceIdeal m →
    θ_run (Cert.UpBwdXReferenceIdeal.defs (F := Ideal)) (onTc (τ := Cert.UpBwdXReferenceIdeal.τ) (Cert.UpBwdXReferenceIdeal.main (F := Ideal))) ⟨m, fun _ => 0, g⟩ (fun r => (∀ c : Dev Cert.UpBwdXReferenceIdeal.nD,
      r.2.mem ((c.tc : Thread Cert.UpBwdXReferenceIdeal.nD Cert.UpBwdXReferenceIdeal.τ).loc Cert.UpBwdXReferenceIdeal.main_arg0) = m ((c.tc : Thread Cert.UpBwdXReferenceIdeal.nD Cert.UpBwdXReferenceIdeal.τ).loc Cert.UpBwdXReferenceIdeal.main_arg0)
      ∧ r.2.mem ((c.tc : Thread Cert.UpBwdXReferenceIdeal.nD Cert.UpBwdXReferenceIdeal.τ).loc Cert.UpBwdXReferenceIdeal.main_arg1) = m ((c.tc : Thread Cert.UpBwdXReferenceIdeal.nD Cert.UpBwdXReferenceIdeal.τ).loc Cert.UpBwdXReferenceIdeal.main_arg1))
      ∧ r.2.sem = fun _ => 0)

def quiescent_DownBwdX [hDownBwdX : Cert.DownBwdX.Facts] : Prop :=
  ∀ (m : (ℓ : Loc Cert.DownBwdX.nD Cert.DownBwdX.τ Cert.DownBwdX.sig) → Buf (Elt Bits) ℓ) (g : Dev Cert.DownBwdX.nD → PrngReg), Pre_DownBwdX m →
    θ_run (Cert.DownBwdX.defs (F := Bits)) (onTc (τ := Cert.DownBwdX.τ) (Cert.DownBwdX.main (F := Bits))) ⟨m, fun _ => 0, g⟩ (fun r => (∀ c : Dev Cert.DownBwdX.nD,
      r.2.mem ((c.tc : Thread Cert.DownBwdX.nD Cert.DownBwdX.τ).loc Cert.DownBwdX.main_arg0) = m ((c.tc : Thread Cert.DownBwdX.nD Cert.DownBwdX.τ).loc Cert.DownBwdX.main_arg0)
      ∧ r.2.mem ((c.tc : Thread Cert.DownBwdX.nD Cert.DownBwdX.τ).loc Cert.DownBwdX.main_arg1) = m ((c.tc : Thread Cert.DownBwdX.nD Cert.DownBwdX.τ).loc Cert.DownBwdX.main_arg1))
      ∧ r.2.sem = fun _ => 0)

def quiescent_DownBwdXIdeal [hDownBwdXIdeal : Cert.DownBwdXIdeal.Facts] : Prop :=
  ∀ (m : (ℓ : Loc Cert.DownBwdXIdeal.nD Cert.DownBwdXIdeal.τ Cert.DownBwdXIdeal.sig) → Buf (Elt Ideal) ℓ) (g : Dev Cert.DownBwdXIdeal.nD → PrngReg), Pre_DownBwdXIdeal m →
    θ_run (Cert.DownBwdXIdeal.defs (F := Ideal)) (onTc (τ := Cert.DownBwdXIdeal.τ) (Cert.DownBwdXIdeal.main (F := Ideal))) ⟨m, fun _ => 0, g⟩ (fun r => (∀ c : Dev Cert.DownBwdXIdeal.nD,
      r.2.mem ((c.tc : Thread Cert.DownBwdXIdeal.nD Cert.DownBwdXIdeal.τ).loc Cert.DownBwdXIdeal.main_arg0) = m ((c.tc : Thread Cert.DownBwdXIdeal.nD Cert.DownBwdXIdeal.τ).loc Cert.DownBwdXIdeal.main_arg0)
      ∧ r.2.mem ((c.tc : Thread Cert.DownBwdXIdeal.nD Cert.DownBwdXIdeal.τ).loc Cert.DownBwdXIdeal.main_arg1) = m ((c.tc : Thread Cert.DownBwdXIdeal.nD Cert.DownBwdXIdeal.τ).loc Cert.DownBwdXIdeal.main_arg1))
      ∧ r.2.sem = fun _ => 0)

def quiescent_DownBwdXReferenceIdeal [hDownBwdXReferenceIdeal : Cert.DownBwdXReferenceIdeal.Facts] : Prop :=
  ∀ (m : (ℓ : Loc Cert.DownBwdXReferenceIdeal.nD Cert.DownBwdXReferenceIdeal.τ Cert.DownBwdXReferenceIdeal.sig) → Buf (Elt Ideal) ℓ) (g : Dev Cert.DownBwdXReferenceIdeal.nD → PrngReg), Pre_DownBwdXReferenceIdeal m →
    θ_run (Cert.DownBwdXReferenceIdeal.defs (F := Ideal)) (onTc (τ := Cert.DownBwdXReferenceIdeal.τ) (Cert.DownBwdXReferenceIdeal.main (F := Ideal))) ⟨m, fun _ => 0, g⟩ (fun r => (∀ c : Dev Cert.DownBwdXReferenceIdeal.nD,
      r.2.mem ((c.tc : Thread Cert.DownBwdXReferenceIdeal.nD Cert.DownBwdXReferenceIdeal.τ).loc Cert.DownBwdXReferenceIdeal.main_arg0) = m ((c.tc : Thread Cert.DownBwdXReferenceIdeal.nD Cert.DownBwdXReferenceIdeal.τ).loc Cert.DownBwdXReferenceIdeal.main_arg0)
      ∧ r.2.mem ((c.tc : Thread Cert.DownBwdXReferenceIdeal.nD Cert.DownBwdXReferenceIdeal.τ).loc Cert.DownBwdXReferenceIdeal.main_arg1) = m ((c.tc : Thread Cert.DownBwdXReferenceIdeal.nD Cert.DownBwdXReferenceIdeal.τ).loc Cert.DownBwdXReferenceIdeal.main_arg1))
      ∧ r.2.sem = fun _ => 0)

def quiescent_DownBwdW [hDownBwdW : Cert.DownBwdW.Facts] : Prop :=
  ∀ (m : (ℓ : Loc Cert.DownBwdW.nD Cert.DownBwdW.τ Cert.DownBwdW.sig) → Buf (Elt Bits) ℓ) (g : Dev Cert.DownBwdW.nD → PrngReg), Pre_DownBwdW m →
    θ_run (Cert.DownBwdW.defs (F := Bits)) (onTc (τ := Cert.DownBwdW.τ) (Cert.DownBwdW.main (F := Bits))) ⟨m, fun _ => 0, g⟩ (fun r => (∀ c : Dev Cert.DownBwdW.nD,
      r.2.mem ((c.tc : Thread Cert.DownBwdW.nD Cert.DownBwdW.τ).loc Cert.DownBwdW.main_arg0) = m ((c.tc : Thread Cert.DownBwdW.nD Cert.DownBwdW.τ).loc Cert.DownBwdW.main_arg0)
      ∧ r.2.mem ((c.tc : Thread Cert.DownBwdW.nD Cert.DownBwdW.τ).loc Cert.DownBwdW.main_arg1) = m ((c.tc : Thread Cert.DownBwdW.nD Cert.DownBwdW.τ).loc Cert.DownBwdW.main_arg1))
      ∧ r.2.sem = fun _ => 0)

def quiescent_DownBwdWIdeal [hDownBwdWIdeal : Cert.DownBwdWIdeal.Facts] : Prop :=
  ∀ (m : (ℓ : Loc Cert.DownBwdWIdeal.nD Cert.DownBwdWIdeal.τ Cert.DownBwdWIdeal.sig) → Buf (Elt Ideal) ℓ) (g : Dev Cert.DownBwdWIdeal.nD → PrngReg), Pre_DownBwdWIdeal m →
    θ_run (Cert.DownBwdWIdeal.defs (F := Ideal)) (onTc (τ := Cert.DownBwdWIdeal.τ) (Cert.DownBwdWIdeal.main (F := Ideal))) ⟨m, fun _ => 0, g⟩ (fun r => (∀ c : Dev Cert.DownBwdWIdeal.nD,
      r.2.mem ((c.tc : Thread Cert.DownBwdWIdeal.nD Cert.DownBwdWIdeal.τ).loc Cert.DownBwdWIdeal.main_arg0) = m ((c.tc : Thread Cert.DownBwdWIdeal.nD Cert.DownBwdWIdeal.τ).loc Cert.DownBwdWIdeal.main_arg0)
      ∧ r.2.mem ((c.tc : Thread Cert.DownBwdWIdeal.nD Cert.DownBwdWIdeal.τ).loc Cert.DownBwdWIdeal.main_arg1) = m ((c.tc : Thread Cert.DownBwdWIdeal.nD Cert.DownBwdWIdeal.τ).loc Cert.DownBwdWIdeal.main_arg1))
      ∧ r.2.sem = fun _ => 0)

def quiescent_DownBwdWReferenceIdeal [hDownBwdWReferenceIdeal : Cert.DownBwdWReferenceIdeal.Facts] : Prop :=
  ∀ (m : (ℓ : Loc Cert.DownBwdWReferenceIdeal.nD Cert.DownBwdWReferenceIdeal.τ Cert.DownBwdWReferenceIdeal.sig) → Buf (Elt Ideal) ℓ) (g : Dev Cert.DownBwdWReferenceIdeal.nD → PrngReg), Pre_DownBwdWReferenceIdeal m →
    θ_run (Cert.DownBwdWReferenceIdeal.defs (F := Ideal)) (onTc (τ := Cert.DownBwdWReferenceIdeal.τ) (Cert.DownBwdWReferenceIdeal.main (F := Ideal))) ⟨m, fun _ => 0, g⟩ (fun r => (∀ c : Dev Cert.DownBwdWReferenceIdeal.nD,
      r.2.mem ((c.tc : Thread Cert.DownBwdWReferenceIdeal.nD Cert.DownBwdWReferenceIdeal.τ).loc Cert.DownBwdWReferenceIdeal.main_arg0) = m ((c.tc : Thread Cert.DownBwdWReferenceIdeal.nD Cert.DownBwdWReferenceIdeal.τ).loc Cert.DownBwdWReferenceIdeal.main_arg0)
      ∧ r.2.mem ((c.tc : Thread Cert.DownBwdWReferenceIdeal.nD Cert.DownBwdWReferenceIdeal.τ).loc Cert.DownBwdWReferenceIdeal.main_arg1) = m ((c.tc : Thread Cert.DownBwdWReferenceIdeal.nD Cert.DownBwdWReferenceIdeal.τ).loc Cert.DownBwdWReferenceIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjReferenceIdeal [hUpProjReferenceIdeal : Cert.UpProjReferenceIdeal.Facts] : Prop :=
  ∀ (m : (ℓ : Loc Cert.UpProjReferenceIdeal.nD Cert.UpProjReferenceIdeal.τ Cert.UpProjReferenceIdeal.sig) → Buf (Elt Ideal) ℓ) (g : Dev Cert.UpProjReferenceIdeal.nD → PrngReg), Pre_UpProjReferenceIdeal m →
    θ_run (Cert.UpProjReferenceIdeal.defs (F := Ideal)) (onTc (τ := Cert.UpProjReferenceIdeal.τ) (Cert.UpProjReferenceIdeal.main (F := Ideal))) ⟨m, fun _ => 0, g⟩ (fun r => (∀ c : Dev Cert.UpProjReferenceIdeal.nD,
      r.2.mem ((c.tc : Thread Cert.UpProjReferenceIdeal.nD Cert.UpProjReferenceIdeal.τ).loc Cert.UpProjReferenceIdeal.main_arg0) = m ((c.tc : Thread Cert.UpProjReferenceIdeal.nD Cert.UpProjReferenceIdeal.τ).loc Cert.UpProjReferenceIdeal.main_arg0)
      ∧ r.2.mem ((c.tc : Thread Cert.UpProjReferenceIdeal.nD Cert.UpProjReferenceIdeal.τ).loc Cert.UpProjReferenceIdeal.main_arg1) = m ((c.tc : Thread Cert.UpProjReferenceIdeal.nD Cert.UpProjReferenceIdeal.τ).loc Cert.UpProjReferenceIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjReferenceIdeal [hDownProjReferenceIdeal : Cert.DownProjReferenceIdeal.Facts] : Prop :=
  ∀ (m : (ℓ : Loc Cert.DownProjReferenceIdeal.nD Cert.DownProjReferenceIdeal.τ Cert.DownProjReferenceIdeal.sig) → Buf (Elt Ideal) ℓ) (g : Dev Cert.DownProjReferenceIdeal.nD → PrngReg), Pre_DownProjReferenceIdeal m →
    θ_run (Cert.DownProjReferenceIdeal.defs (F := Ideal)) (onTc (τ := Cert.DownProjReferenceIdeal.τ) (Cert.DownProjReferenceIdeal.main (F := Ideal))) ⟨m, fun _ => 0, g⟩ (fun r => (∀ c : Dev Cert.DownProjReferenceIdeal.nD,
      r.2.mem ((c.tc : Thread Cert.DownProjReferenceIdeal.nD Cert.DownProjReferenceIdeal.τ).loc Cert.DownProjReferenceIdeal.main_arg0) = m ((c.tc : Thread Cert.DownProjReferenceIdeal.nD Cert.DownProjReferenceIdeal.τ).loc Cert.DownProjReferenceIdeal.main_arg0)
      ∧ r.2.mem ((c.tc : Thread Cert.DownProjReferenceIdeal.nD Cert.DownProjReferenceIdeal.τ).loc Cert.DownProjReferenceIdeal.main_arg1) = m ((c.tc : Thread Cert.DownProjReferenceIdeal.nD Cert.DownProjReferenceIdeal.τ).loc Cert.DownProjReferenceIdeal.main_arg1)
      ∧ r.2.mem ((c.tc : Thread Cert.DownProjReferenceIdeal.nD Cert.DownProjReferenceIdeal.τ).loc Cert.DownProjReferenceIdeal.main_arg2) = m ((c.tc : Thread Cert.DownProjReferenceIdeal.nD Cert.DownProjReferenceIdeal.τ).loc Cert.DownProjReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_InBwdX [hInBwdX : Cert.InBwdX.Facts] : Prop :=
  ∀ (m : (ℓ : Loc Cert.InBwdX.nD Cert.InBwdX.τ Cert.InBwdX.sig) → Buf (Elt Bits) ℓ) (g : Dev Cert.InBwdX.nD → PrngReg), Pre_InBwdX m →
    θ_run (Cert.InBwdX.defs (F := Bits)) (onTc (τ := Cert.InBwdX.τ) (Cert.InBwdX.main (F := Bits))) ⟨m, fun _ => 0, g⟩ (fun r => (∀ c : Dev Cert.InBwdX.nD,
      r.2.mem ((c.tc : Thread Cert.InBwdX.nD Cert.InBwdX.τ).loc Cert.InBwdX.main_arg0) = m ((c.tc : Thread Cert.InBwdX.nD Cert.InBwdX.τ).loc Cert.InBwdX.main_arg0)
      ∧ r.2.mem ((c.tc : Thread Cert.InBwdX.nD Cert.InBwdX.τ).loc Cert.InBwdX.main_arg1) = m ((c.tc : Thread Cert.InBwdX.nD Cert.InBwdX.τ).loc Cert.InBwdX.main_arg1))
      ∧ r.2.sem = fun _ => 0)

def quiescent_InBwdXIdeal [hInBwdXIdeal : Cert.InBwdXIdeal.Facts] : Prop :=
  ∀ (m : (ℓ : Loc Cert.InBwdXIdeal.nD Cert.InBwdXIdeal.τ Cert.InBwdXIdeal.sig) → Buf (Elt Ideal) ℓ) (g : Dev Cert.InBwdXIdeal.nD → PrngReg), Pre_InBwdXIdeal m →
    θ_run (Cert.InBwdXIdeal.defs (F := Ideal)) (onTc (τ := Cert.InBwdXIdeal.τ) (Cert.InBwdXIdeal.main (F := Ideal))) ⟨m, fun _ => 0, g⟩ (fun r => (∀ c : Dev Cert.InBwdXIdeal.nD,
      r.2.mem ((c.tc : Thread Cert.InBwdXIdeal.nD Cert.InBwdXIdeal.τ).loc Cert.InBwdXIdeal.main_arg0) = m ((c.tc : Thread Cert.InBwdXIdeal.nD Cert.InBwdXIdeal.τ).loc Cert.InBwdXIdeal.main_arg0)
      ∧ r.2.mem ((c.tc : Thread Cert.InBwdXIdeal.nD Cert.InBwdXIdeal.τ).loc Cert.InBwdXIdeal.main_arg1) = m ((c.tc : Thread Cert.InBwdXIdeal.nD Cert.InBwdXIdeal.τ).loc Cert.InBwdXIdeal.main_arg1))
      ∧ r.2.sem = fun _ => 0)

def quiescent_InBwdXReferenceIdeal [hInBwdXReferenceIdeal : Cert.InBwdXReferenceIdeal.Facts] : Prop :=
  ∀ (m : (ℓ : Loc Cert.InBwdXReferenceIdeal.nD Cert.InBwdXReferenceIdeal.τ Cert.InBwdXReferenceIdeal.sig) → Buf (Elt Ideal) ℓ) (g : Dev Cert.InBwdXReferenceIdeal.nD → PrngReg), Pre_InBwdXReferenceIdeal m →
    θ_run (Cert.InBwdXReferenceIdeal.defs (F := Ideal)) (onTc (τ := Cert.InBwdXReferenceIdeal.τ) (Cert.InBwdXReferenceIdeal.main (F := Ideal))) ⟨m, fun _ => 0, g⟩ (fun r => (∀ c : Dev Cert.InBwdXReferenceIdeal.nD,
      r.2.mem ((c.tc : Thread Cert.InBwdXReferenceIdeal.nD Cert.InBwdXReferenceIdeal.τ).loc Cert.InBwdXReferenceIdeal.main_arg0) = m ((c.tc : Thread Cert.InBwdXReferenceIdeal.nD Cert.InBwdXReferenceIdeal.τ).loc Cert.InBwdXReferenceIdeal.main_arg0)
      ∧ r.2.mem ((c.tc : Thread Cert.InBwdXReferenceIdeal.nD Cert.InBwdXReferenceIdeal.τ).loc Cert.InBwdXReferenceIdeal.main_arg1) = m ((c.tc : Thread Cert.InBwdXReferenceIdeal.nD Cert.InBwdXReferenceIdeal.τ).loc Cert.InBwdXReferenceIdeal.main_arg1))
      ∧ r.2.sem = fun _ => 0)

def quiescent_InBwdW [hInBwdW : Cert.InBwdW.Facts] : Prop :=
  ∀ (m : (ℓ : Loc Cert.InBwdW.nD Cert.InBwdW.τ Cert.InBwdW.sig) → Buf (Elt Bits) ℓ) (g : Dev Cert.InBwdW.nD → PrngReg), Pre_InBwdW m →
    θ_run (Cert.InBwdW.defs (F := Bits)) (onTc (τ := Cert.InBwdW.τ) (Cert.InBwdW.main (F := Bits))) ⟨m, fun _ => 0, g⟩ (fun r => (∀ c : Dev Cert.InBwdW.nD,
      r.2.mem ((c.tc : Thread Cert.InBwdW.nD Cert.InBwdW.τ).loc Cert.InBwdW.main_arg0) = m ((c.tc : Thread Cert.InBwdW.nD Cert.InBwdW.τ).loc Cert.InBwdW.main_arg0)
      ∧ r.2.mem ((c.tc : Thread Cert.InBwdW.nD Cert.InBwdW.τ).loc Cert.InBwdW.main_arg1) = m ((c.tc : Thread Cert.InBwdW.nD Cert.InBwdW.τ).loc Cert.InBwdW.main_arg1))
      ∧ r.2.sem = fun _ => 0)

def quiescent_InBwdWIdeal [hInBwdWIdeal : Cert.InBwdWIdeal.Facts] : Prop :=
  ∀ (m : (ℓ : Loc Cert.InBwdWIdeal.nD Cert.InBwdWIdeal.τ Cert.InBwdWIdeal.sig) → Buf (Elt Ideal) ℓ) (g : Dev Cert.InBwdWIdeal.nD → PrngReg), Pre_InBwdWIdeal m →
    θ_run (Cert.InBwdWIdeal.defs (F := Ideal)) (onTc (τ := Cert.InBwdWIdeal.τ) (Cert.InBwdWIdeal.main (F := Ideal))) ⟨m, fun _ => 0, g⟩ (fun r => (∀ c : Dev Cert.InBwdWIdeal.nD,
      r.2.mem ((c.tc : Thread Cert.InBwdWIdeal.nD Cert.InBwdWIdeal.τ).loc Cert.InBwdWIdeal.main_arg0) = m ((c.tc : Thread Cert.InBwdWIdeal.nD Cert.InBwdWIdeal.τ).loc Cert.InBwdWIdeal.main_arg0)
      ∧ r.2.mem ((c.tc : Thread Cert.InBwdWIdeal.nD Cert.InBwdWIdeal.τ).loc Cert.InBwdWIdeal.main_arg1) = m ((c.tc : Thread Cert.InBwdWIdeal.nD Cert.InBwdWIdeal.τ).loc Cert.InBwdWIdeal.main_arg1))
      ∧ r.2.sem = fun _ => 0)

def quiescent_InBwdWReferenceIdeal [hInBwdWReferenceIdeal : Cert.InBwdWReferenceIdeal.Facts] : Prop :=
  ∀ (m : (ℓ : Loc Cert.InBwdWReferenceIdeal.nD Cert.InBwdWReferenceIdeal.τ Cert.InBwdWReferenceIdeal.sig) → Buf (Elt Ideal) ℓ) (g : Dev Cert.InBwdWReferenceIdeal.nD → PrngReg), Pre_InBwdWReferenceIdeal m →
    θ_run (Cert.InBwdWReferenceIdeal.defs (F := Ideal)) (onTc (τ := Cert.InBwdWReferenceIdeal.τ) (Cert.InBwdWReferenceIdeal.main (F := Ideal))) ⟨m, fun _ => 0, g⟩ (fun r => (∀ c : Dev Cert.InBwdWReferenceIdeal.nD,
      r.2.mem ((c.tc : Thread Cert.InBwdWReferenceIdeal.nD Cert.InBwdWReferenceIdeal.τ).loc Cert.InBwdWReferenceIdeal.main_arg0) = m ((c.tc : Thread Cert.InBwdWReferenceIdeal.nD Cert.InBwdWReferenceIdeal.τ).loc Cert.InBwdWReferenceIdeal.main_arg0)
      ∧ r.2.mem ((c.tc : Thread Cert.InBwdWReferenceIdeal.nD Cert.InBwdWReferenceIdeal.τ).loc Cert.InBwdWReferenceIdeal.main_arg1) = m ((c.tc : Thread Cert.InBwdWReferenceIdeal.nD Cert.InBwdWReferenceIdeal.τ).loc Cert.InBwdWReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_OutBwdX [hOutBwdX : Cert.OutBwdX.Facts] : Prop :=
  ∀ (m : (ℓ : Loc Cert.OutBwdX.nD Cert.OutBwdX.τ Cert.OutBwdX.sig) → Buf (Elt Bits) ℓ) (g : Dev Cert.OutBwdX.nD → PrngReg), Pre_OutBwdX m →
    θ_run (Cert.OutBwdX.defs (F := Bits)) (onTc (τ := Cert.OutBwdX.τ) (Cert.OutBwdX.main (F := Bits))) ⟨m, fun _ => 0, g⟩ (fun r => (∀ c : Dev Cert.OutBwdX.nD,
      r.2.mem ((c.tc : Thread Cert.OutBwdX.nD Cert.OutBwdX.τ).loc Cert.OutBwdX.main_arg0) = m ((c.tc : Thread Cert.OutBwdX.nD Cert.OutBwdX.τ).loc Cert.OutBwdX.main_arg0)
      ∧ r.2.mem ((c.tc : Thread Cert.OutBwdX.nD Cert.OutBwdX.τ).loc Cert.OutBwdX.main_arg1) = m ((c.tc : Thread Cert.OutBwdX.nD Cert.OutBwdX.τ).loc Cert.OutBwdX.main_arg1))
      ∧ r.2.sem = fun _ => 0)

def quiescent_OutBwdXIdeal [hOutBwdXIdeal : Cert.OutBwdXIdeal.Facts] : Prop :=
  ∀ (m : (ℓ : Loc Cert.OutBwdXIdeal.nD Cert.OutBwdXIdeal.τ Cert.OutBwdXIdeal.sig) → Buf (Elt Ideal) ℓ) (g : Dev Cert.OutBwdXIdeal.nD → PrngReg), Pre_OutBwdXIdeal m →
    θ_run (Cert.OutBwdXIdeal.defs (F := Ideal)) (onTc (τ := Cert.OutBwdXIdeal.τ) (Cert.OutBwdXIdeal.main (F := Ideal))) ⟨m, fun _ => 0, g⟩ (fun r => (∀ c : Dev Cert.OutBwdXIdeal.nD,
      r.2.mem ((c.tc : Thread Cert.OutBwdXIdeal.nD Cert.OutBwdXIdeal.τ).loc Cert.OutBwdXIdeal.main_arg0) = m ((c.tc : Thread Cert.OutBwdXIdeal.nD Cert.OutBwdXIdeal.τ).loc Cert.OutBwdXIdeal.main_arg0)
      ∧ r.2.mem ((c.tc : Thread Cert.OutBwdXIdeal.nD Cert.OutBwdXIdeal.τ).loc Cert.OutBwdXIdeal.main_arg1) = m ((c.tc : Thread Cert.OutBwdXIdeal.nD Cert.OutBwdXIdeal.τ).loc Cert.OutBwdXIdeal.main_arg1))
      ∧ r.2.sem = fun _ => 0)

def quiescent_OutBwdXReferenceIdeal [hOutBwdXReferenceIdeal : Cert.OutBwdXReferenceIdeal.Facts] : Prop :=
  ∀ (m : (ℓ : Loc Cert.OutBwdXReferenceIdeal.nD Cert.OutBwdXReferenceIdeal.τ Cert.OutBwdXReferenceIdeal.sig) → Buf (Elt Ideal) ℓ) (g : Dev Cert.OutBwdXReferenceIdeal.nD → PrngReg), Pre_OutBwdXReferenceIdeal m →
    θ_run (Cert.OutBwdXReferenceIdeal.defs (F := Ideal)) (onTc (τ := Cert.OutBwdXReferenceIdeal.τ) (Cert.OutBwdXReferenceIdeal.main (F := Ideal))) ⟨m, fun _ => 0, g⟩ (fun r => (∀ c : Dev Cert.OutBwdXReferenceIdeal.nD,
      r.2.mem ((c.tc : Thread Cert.OutBwdXReferenceIdeal.nD Cert.OutBwdXReferenceIdeal.τ).loc Cert.OutBwdXReferenceIdeal.main_arg0) = m ((c.tc : Thread Cert.OutBwdXReferenceIdeal.nD Cert.OutBwdXReferenceIdeal.τ).loc Cert.OutBwdXReferenceIdeal.main_arg0)
      ∧ r.2.mem ((c.tc : Thread Cert.OutBwdXReferenceIdeal.nD Cert.OutBwdXReferenceIdeal.τ).loc Cert.OutBwdXReferenceIdeal.main_arg1) = m ((c.tc : Thread Cert.OutBwdXReferenceIdeal.nD Cert.OutBwdXReferenceIdeal.τ).loc Cert.OutBwdXReferenceIdeal.main_arg1))
      ∧ r.2.sem = fun _ => 0)

def quiescent_OutBwdW [hOutBwdW : Cert.OutBwdW.Facts] : Prop :=
  ∀ (m : (ℓ : Loc Cert.OutBwdW.nD Cert.OutBwdW.τ Cert.OutBwdW.sig) → Buf (Elt Bits) ℓ) (g : Dev Cert.OutBwdW.nD → PrngReg), Pre_OutBwdW m →
    θ_run (Cert.OutBwdW.defs (F := Bits)) (onTc (τ := Cert.OutBwdW.τ) (Cert.OutBwdW.main (F := Bits))) ⟨m, fun _ => 0, g⟩ (fun r => (∀ c : Dev Cert.OutBwdW.nD,
      r.2.mem ((c.tc : Thread Cert.OutBwdW.nD Cert.OutBwdW.τ).loc Cert.OutBwdW.main_arg0) = m ((c.tc : Thread Cert.OutBwdW.nD Cert.OutBwdW.τ).loc Cert.OutBwdW.main_arg0)
      ∧ r.2.mem ((c.tc : Thread Cert.OutBwdW.nD Cert.OutBwdW.τ).loc Cert.OutBwdW.main_arg1) = m ((c.tc : Thread Cert.OutBwdW.nD Cert.OutBwdW.τ).loc Cert.OutBwdW.main_arg1))
      ∧ r.2.sem = fun _ => 0)

def quiescent_OutBwdWIdeal [hOutBwdWIdeal : Cert.OutBwdWIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg), Pre_OutBwdWIdeal m →
    θ_run (Cert.OutBwdWIdeal.defs (F := Ideal)) (onTc (τ := Cert.OutBwdWIdeal.τ) (Cert.OutBwdWIdeal.main (F := Ideal))) ⟨m, fun _ => 0, g⟩ (fun r => (∀ c : Dev Cert.OutBwdWIdeal.nD,
      r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
      ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ r.2.sem = fun _ => 0)

def quiescent_OutBwdWReferenceIdeal [hOutBwdWReferenceIdeal : Cert.OutBwdWReferenceIdeal.Facts] : Prop :=
  ∀ (m : (ℓ : Loc Cert.OutBwdWReferenceIdeal.nD Cert.OutBwdWReferenceIdeal.τ Cert.OutBwdWReferenceIdeal.sig) → Buf (Elt Ideal) ℓ) (g : Dev Cert.OutBwdWReferenceIdeal.nD → PrngReg), Pre_OutBwdWReferenceIdeal m →
    θ_run (Cert.OutBwdWReferenceIdeal.defs (F := Ideal)) (onTc (τ := Cert.OutBwdWReferenceIdeal.τ) (Cert.OutBwdWReferenceIdeal.main (F := Ideal))) ⟨m, fun _ => 0, g⟩ (fun r => (∀ c : Dev Cert.OutBwdWReferenceIdeal.nD,
      r.2.mem ((c.tc : Thread Cert.OutBwdWReferenceIdeal.nD Cert.OutBwdWReferenceIdeal.τ).loc Cert.OutBwdWReferenceIdeal.main_arg0) = m ((c.tc : Thread Cert.OutBwdWReferenceIdeal.nD Cert.OutBwdWReferenceIdeal.τ).loc Cert.OutBwdWReferenceIdeal.main_arg0)
      ∧ r.2.mem ((c.tc : Thread Cert.OutBwdWReferenceIdeal.nD Cert.OutBwdWReferenceIdeal.τ).loc Cert.OutBwdWReferenceIdeal.main_arg1) = m ((c.tc : Thread Cert.OutBwdWReferenceIdeal.nD Cert.OutBwdWReferenceIdeal.τ).loc Cert.OutBwdWReferenceIdeal.main_arg1))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ r.2.sem = fun _ => 0)

def quiescent_GluProjReferenceIdeal [hGluProjReferenceIdeal : Cert.GluProjReferenceIdeal.Facts] : Prop :=
  ∀ (m : (ℓ : Loc Cert.GluProjReferenceIdeal.nD Cert.GluProjReferenceIdeal.τ Cert.GluProjReferenceIdeal.sig) → Buf (Elt Ideal) ℓ) (g : Dev Cert.GluProjReferenceIdeal.nD → PrngReg), Pre_GluProjReferenceIdeal m →
    θ_run (Cert.GluProjReferenceIdeal.defs (F := Ideal)) (onTc (τ := Cert.GluProjReferenceIdeal.τ) (Cert.GluProjReferenceIdeal.main (F := Ideal))) ⟨m, fun _ => 0, g⟩ (fun r => (∀ c : Dev Cert.GluProjReferenceIdeal.nD,
      r.2.mem ((c.tc : Thread Cert.GluProjReferenceIdeal.nD Cert.GluProjReferenceIdeal.τ).loc Cert.GluProjReferenceIdeal.main_arg0) = m ((c.tc : Thread Cert.GluProjReferenceIdeal.nD Cert.GluProjReferenceIdeal.τ).loc Cert.GluProjReferenceIdeal.main_arg0)
      ∧ r.2.mem ((c.tc : Thread Cert.GluProjReferenceIdeal.nD Cert.GluProjReferenceIdeal.τ).loc Cert.GluProjReferenceIdeal.main_arg1) = m ((c.tc : Thread Cert.GluProjReferenceIdeal.nD Cert.GluProjReferenceIdeal.τ).loc Cert.GluProjReferenceIdeal.main_arg1))
      ∧ r.2.sem = fun _ => 0)

def quiescent_GluBwdX [hGluBwdX : Cert.GluBwdX.Facts] : Prop :=
  ∀ (m : (ℓ : Loc Cert.GluBwdX.nD Cert.GluBwdX.τ Cert.GluBwdX.sig) → Buf (Elt Bits) ℓ) (g : Dev Cert.GluBwdX.nD → PrngReg), Pre_GluBwdX m →
    θ_run (Cert.GluBwdX.defs (F := Bits)) (onTc (τ := Cert.GluBwdX.τ) (Cert.GluBwdX.main (F := Bits))) ⟨m, fun _ => 0, g⟩ (fun r => (∀ c : Dev Cert.GluBwdX.nD,
      r.2.mem ((c.tc : Thread Cert.GluBwdX.nD Cert.GluBwdX.τ).loc Cert.GluBwdX.main_arg0) = m ((c.tc : Thread Cert.GluBwdX.nD Cert.GluBwdX.τ).loc Cert.GluBwdX.main_arg0)
      ∧ r.2.mem ((c.tc : Thread Cert.GluBwdX.nD Cert.GluBwdX.τ).loc Cert.GluBwdX.main_arg1) = m ((c.tc : Thread Cert.GluBwdX.nD Cert.GluBwdX.τ).loc Cert.GluBwdX.main_arg1)
      ∧ r.2.mem ((c.tc : Thread Cert.GluBwdX.nD Cert.GluBwdX.τ).loc Cert.GluBwdX.main_arg2) = m ((c.tc : Thread Cert.GluBwdX.nD Cert.GluBwdX.τ).loc Cert.GluBwdX.main_arg2))
      ∧ r.2.sem = fun _ => 0)

def quiescent_GluBwdXIdeal [hGluBwdXIdeal : Cert.GluBwdXIdeal.Facts] : Prop :=
  ∀ (m : (ℓ : Loc Cert.GluBwdXIdeal.nD Cert.GluBwdXIdeal.τ Cert.GluBwdXIdeal.sig) → Buf (Elt Ideal) ℓ) (g : Dev Cert.GluBwdXIdeal.nD → PrngReg), Pre_GluBwdXIdeal m →
    θ_run (Cert.GluBwdXIdeal.defs (F := Ideal)) (onTc (τ := Cert.GluBwdXIdeal.τ) (Cert.GluBwdXIdeal.main (F := Ideal))) ⟨m, fun _ => 0, g⟩ (fun r => (∀ c : Dev Cert.GluBwdXIdeal.nD,
      r.2.mem ((c.tc : Thread Cert.GluBwdXIdeal.nD Cert.GluBwdXIdeal.τ).loc Cert.GluBwdXIdeal.main_arg0) = m ((c.tc : Thread Cert.GluBwdXIdeal.nD Cert.GluBwdXIdeal.τ).loc Cert.GluBwdXIdeal.main_arg0)
      ∧ r.2.mem ((c.tc : Thread Cert.GluBwdXIdeal.nD Cert.GluBwdXIdeal.τ).loc Cert.GluBwdXIdeal.main_arg1) = m ((c.tc : Thread Cert.GluBwdXIdeal.nD Cert.GluBwdXIdeal.τ).loc Cert.GluBwdXIdeal.main_arg1)
      ∧ r.2.mem ((c.tc : Thread Cert.GluBwdXIdeal.nD Cert.GluBwdXIdeal.τ).loc Cert.GluBwdXIdeal.main_arg2) = m ((c.tc : Thread Cert.GluBwdXIdeal.nD Cert.GluBwdXIdeal.τ).loc Cert.GluBwdXIdeal.main_arg2))
      ∧ r.2.sem = fun _ => 0)

def quiescent_GluBwdXReferenceIdeal [hGluBwdXReferenceIdeal : Cert.GluBwdXReferenceIdeal.Facts] : Prop :=
  ∀ (m : (ℓ : Loc Cert.GluBwdXReferenceIdeal.nD Cert.GluBwdXReferenceIdeal.τ Cert.GluBwdXReferenceIdeal.sig) → Buf (Elt Ideal) ℓ) (g : Dev Cert.GluBwdXReferenceIdeal.nD → PrngReg), Pre_GluBwdXReferenceIdeal m →
    θ_run (Cert.GluBwdXReferenceIdeal.defs (F := Ideal)) (onTc (τ := Cert.GluBwdXReferenceIdeal.τ) (Cert.GluBwdXReferenceIdeal.main (F := Ideal))) ⟨m, fun _ => 0, g⟩ (fun r => (∀ c : Dev Cert.GluBwdXReferenceIdeal.nD,
      r.2.mem ((c.tc : Thread Cert.GluBwdXReferenceIdeal.nD Cert.GluBwdXReferenceIdeal.τ).loc Cert.GluBwdXReferenceIdeal.main_arg0) = m ((c.tc : Thread Cert.GluBwdXReferenceIdeal.nD Cert.GluBwdXReferenceIdeal.τ).loc Cert.GluBwdXReferenceIdeal.main_arg0)
      ∧ r.2.mem ((c.tc : Thread Cert.GluBwdXReferenceIdeal.nD Cert.GluBwdXReferenceIdeal.τ).loc Cert.GluBwdXReferenceIdeal.main_arg1) = m ((c.tc : Thread Cert.GluBwdXReferenceIdeal.nD Cert.GluBwdXReferenceIdeal.τ).loc Cert.GluBwdXReferenceIdeal.main_arg1)
      ∧ r.2.mem ((c.tc : Thread Cert.GluBwdXReferenceIdeal.nD Cert.GluBwdXReferenceIdeal.τ).loc Cert.GluBwdXReferenceIdeal.main_arg2) = m ((c.tc : Thread Cert.GluBwdXReferenceIdeal.nD Cert.GluBwdXReferenceIdeal.τ).loc Cert.GluBwdXReferenceIdeal.main_arg2))
      ∧ r.2.sem = fun _ => 0)

def quiescent_GluBwdW [hGluBwdW : Cert.GluBwdW.Facts] : Prop :=
  ∀ (m : (ℓ : Loc Cert.GluBwdW.nD Cert.GluBwdW.τ Cert.GluBwdW.sig) → Buf (Elt Bits) ℓ) (g : Dev Cert.GluBwdW.nD → PrngReg), Pre_GluBwdW m →
    θ_run (Cert.GluBwdW.defs (F := Bits)) (onTc (τ := Cert.GluBwdW.τ) (Cert.GluBwdW.main (F := Bits))) ⟨m, fun _ => 0, g⟩ (fun r => (∀ c : Dev Cert.GluBwdW.nD,
      r.2.mem ((c.tc : Thread Cert.GluBwdW.nD Cert.GluBwdW.τ).loc Cert.GluBwdW.main_arg0) = m ((c.tc : Thread Cert.GluBwdW.nD Cert.GluBwdW.τ).loc Cert.GluBwdW.main_arg0)
      ∧ r.2.mem ((c.tc : Thread Cert.GluBwdW.nD Cert.GluBwdW.τ).loc Cert.GluBwdW.main_arg1) = m ((c.tc : Thread Cert.GluBwdW.nD Cert.GluBwdW.τ).loc Cert.GluBwdW.main_arg1))
      ∧ r.2.sem = fun _ => 0)

def quiescent_GluBwdWIdeal [hGluBwdWIdeal : Cert.GluBwdWIdeal.Facts] : Prop :=
  ∀ (m : (ℓ : Loc Cert.GluBwdWIdeal.nD Cert.GluBwdWIdeal.τ Cert.GluBwdWIdeal.sig) → Buf (Elt Ideal) ℓ) (g : Dev Cert.GluBwdWIdeal.nD → PrngReg), Pre_GluBwdWIdeal m →
    θ_run (Cert.GluBwdWIdeal.defs (F := Ideal)) (onTc (τ := Cert.GluBwdWIdeal.τ) (Cert.GluBwdWIdeal.main (F := Ideal))) ⟨m, fun _ => 0, g⟩ (fun r => (∀ c : Dev Cert.GluBwdWIdeal.nD,
      r.2.mem ((c.tc : Thread Cert.GluBwdWIdeal.nD Cert.GluBwdWIdeal.τ).loc Cert.GluBwdWIdeal.main_arg0) = m ((c.tc : Thread Cert.GluBwdWIdeal.nD Cert.GluBwdWIdeal.τ).loc Cert.GluBwdWIdeal.main_arg0)
      ∧ r.2.mem ((c.tc : Thread Cert.GluBwdWIdeal.nD Cert.GluBwdWIdeal.τ).loc Cert.GluBwdWIdeal.main_arg1) = m ((c.tc : Thread Cert.GluBwdWIdeal.nD Cert.GluBwdWIdeal.τ).loc Cert.GluBwdWIdeal.main_arg1))
      ∧ r.2.sem = fun _ => 0)

def quiescent_GluBwdWReferenceIdeal [hGluBwdWReferenceIdeal : Cert.GluBwdWReferenceIdeal.Facts] : Prop :=
  ∀ (m : (ℓ : Loc Cert.GluBwdWReferenceIdeal.nD Cert.GluBwdWReferenceIdeal.τ Cert.GluBwdWReferenceIdeal.sig) → Buf (Elt Ideal) ℓ) (g : Dev Cert.GluBwdWReferenceIdeal.nD → PrngReg), Pre_GluBwdWReferenceIdeal m →
    θ_run (Cert.GluBwdWReferenceIdeal.defs (F := Ideal)) (onTc (τ := Cert.GluBwdWReferenceIdeal.τ) (Cert.GluBwdWReferenceIdeal.main (F := Ideal))) ⟨m, fun _ => 0, g⟩ (fun r => (∀ c : Dev Cert.GluBwdWReferenceIdeal.nD,
      r.2.mem ((c.tc : Thread Cert.GluBwdWReferenceIdeal.nD Cert.GluBwdWReferenceIdeal.τ).loc Cert.GluBwdWReferenceIdeal.main_arg0) = m ((c.tc : Thread Cert.GluBwdWReferenceIdeal.nD Cert.GluBwdWReferenceIdeal.τ).loc Cert.GluBwdWReferenceIdeal.main_arg0)
      ∧ r.2.mem ((c.tc : Thread Cert.GluBwdWReferenceIdeal.nD Cert.GluBwdWReferenceIdeal.τ).loc Cert.GluBwdWReferenceIdeal.main_arg1) = m ((c.tc : Thread Cert.GluBwdWReferenceIdeal.nD Cert.GluBwdWReferenceIdeal.τ).loc Cert.GluBwdWReferenceIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1))
      ∧ r.2.sem = fun _ => 0)

def quiescent_QBwdW [hQBwdW : Cert.QBwdW.Facts] : Prop :=
  ∀ (m : (ℓ : Loc Cert.QBwdW.nD Cert.QBwdW.τ Cert.QBwdW.sig) → Buf (Elt Bits) ℓ) (g : Dev Cert.QBwdW.nD → PrngReg), Pre_QBwdW m →
    θ_run (Cert.QBwdW.defs (F := Bits)) (onTc (τ := Cert.QBwdW.τ) (Cert.QBwdW.main (F := Bits))) ⟨m, fun _ => 0, g⟩ (fun r => (∀ c : Dev Cert.QBwdW.nD,
      r.2.mem ((c.tc : Thread Cert.QBwdW.nD Cert.QBwdW.τ).loc Cert.QBwdW.main_arg0) = m ((c.tc : Thread Cert.QBwdW.nD Cert.QBwdW.τ).loc Cert.QBwdW.main_arg0)
      ∧ r.2.mem ((c.tc : Thread Cert.QBwdW.nD Cert.QBwdW.τ).loc Cert.QBwdW.main_arg1) = m ((c.tc : Thread Cert.QBwdW.nD Cert.QBwdW.τ).loc Cert.QBwdW.main_arg1))
      ∧ r.2.sem = fun _ => 0)

def quiescent_QBwdWIdeal [hQBwdWIdeal : Cert.QBwdWIdeal.Facts] : Prop :=
  ∀ (m : (ℓ : Loc Cert.QBwdWIdeal.nD Cert.QBwdWIdeal.τ Cert.QBwdWIdeal.sig) → Buf (Elt Ideal) ℓ) (g : Dev Cert.QBwdWIdeal.nD → PrngReg), Pre_QBwdWIdeal m →
    θ_run (Cert.QBwdWIdeal.defs (F := Ideal)) (onTc (τ := Cert.QBwdWIdeal.τ) (Cert.QBwdWIdeal.main (F := Ideal))) ⟨m, fun _ => 0, g⟩ (fun r => (∀ c : Dev Cert.QBwdWIdeal.nD,
      r.2.mem ((c.tc : Thread Cert.QBwdWIdeal.nD Cert.QBwdWIdeal.τ).loc Cert.QBwdWIdeal.main_arg0) = m ((c.tc : Thread Cert.QBwdWIdeal.nD Cert.QBwdWIdeal.τ).loc Cert.QBwdWIdeal.main_arg0)
      ∧ r.2.mem ((c.tc : Thread Cert.QBwdWIdeal.nD Cert.QBwdWIdeal.τ).loc Cert.QBwdWIdeal.main_arg1) = m ((c.tc : Thread Cert.QBwdWIdeal.nD Cert.QBwdWIdeal.τ).loc Cert.QBwdWIdeal.main_arg1))
      ∧ r.2.sem = fun _ => 0)

def quiescent_QBwdWReferenceIdeal [hQBwdWReferenceIdeal : Cert.QBwdWReferenceIdeal.Facts] : Prop :=
  ∀ (m : (ℓ : Loc Cert.QBwdWReferenceIdeal.nD Cert.QBwdWReferenceIdeal.τ Cert.QBwdWReferenceIdeal.sig) → Buf (Elt Ideal) ℓ) (g : Dev Cert.QBwdWReferenceIdeal.nD → PrngReg), Pre_QBwdWReferenceIdeal m →
    θ_run (Cert.QBwdWReferenceIdeal.defs (F := Ideal)) (onTc (τ := Cert.QBwdWReferenceIdeal.τ) (Cert.QBwdWReferenceIdeal.main (F := Ideal))) ⟨m, fun _ => 0, g⟩ (fun r => (∀ c : Dev Cert.QBwdWReferenceIdeal.nD,
      r.2.mem ((c.tc : Thread Cert.QBwdWReferenceIdeal.nD Cert.QBwdWReferenceIdeal.τ).loc Cert.QBwdWReferenceIdeal.main_arg0) = m ((c.tc : Thread Cert.QBwdWReferenceIdeal.nD Cert.QBwdWReferenceIdeal.τ).loc Cert.QBwdWReferenceIdeal.main_arg0)
      ∧ r.2.mem ((c.tc : Thread Cert.QBwdWReferenceIdeal.nD Cert.QBwdWReferenceIdeal.τ).loc Cert.QBwdWReferenceIdeal.main_arg1) = m ((c.tc : Thread Cert.QBwdWReferenceIdeal.nD Cert.QBwdWReferenceIdeal.τ).loc Cert.QBwdWReferenceIdeal.main_arg1))
      ∧ r.2.sem = fun _ => 0)

def quiescent_QBwdX [hQBwdX : Cert.QBwdX.Facts] : Prop :=
  ∀ (m : (ℓ : Loc Cert.QBwdX.nD Cert.QBwdX.τ Cert.QBwdX.sig) → Buf (Elt Bits) ℓ) (g : Dev Cert.QBwdX.nD → PrngReg), Pre_QBwdX m →
    θ_run (Cert.QBwdX.defs (F := Bits)) (onTc (τ := Cert.QBwdX.τ) (Cert.QBwdX.main (F := Bits))) ⟨m, fun _ => 0, g⟩ (fun r => (∀ c : Dev Cert.QBwdX.nD,
      r.2.mem ((c.tc : Thread Cert.QBwdX.nD Cert.QBwdX.τ).loc Cert.QBwdX.main_arg0) = m ((c.tc : Thread Cert.QBwdX.nD Cert.QBwdX.τ).loc Cert.QBwdX.main_arg0)
      ∧ r.2.mem ((c.tc : Thread Cert.QBwdX.nD Cert.QBwdX.τ).loc Cert.QBwdX.main_arg1) = m ((c.tc : Thread Cert.QBwdX.nD Cert.QBwdX.τ).loc Cert.QBwdX.main_arg1))
      ∧ r.2.sem = fun _ => 0)

def quiescent_QBwdXIdeal [hQBwdXIdeal : Cert.QBwdXIdeal.Facts] : Prop :=
  ∀ (m : (ℓ : Loc Cert.QBwdXIdeal.nD Cert.QBwdXIdeal.τ Cert.QBwdXIdeal.sig) → Buf (Elt Ideal) ℓ) (g : Dev Cert.QBwdXIdeal.nD → PrngReg), Pre_QBwdXIdeal m →
    θ_run (Cert.QBwdXIdeal.defs (F := Ideal)) (onTc (τ := Cert.QBwdXIdeal.τ) (Cert.QBwdXIdeal.main (F := Ideal))) ⟨m, fun _ => 0, g⟩ (fun r => (∀ c : Dev Cert.QBwdXIdeal.nD,
      r.2.mem ((c.tc : Thread Cert.QBwdXIdeal.nD Cert.QBwdXIdeal.τ).loc Cert.QBwdXIdeal.main_arg0) = m ((c.tc : Thread Cert.QBwdXIdeal.nD Cert.QBwdXIdeal.τ).loc Cert.QBwdXIdeal.main_arg0)
      ∧ r.2.mem ((c.tc : Thread Cert.QBwdXIdeal.nD Cert.QBwdXIdeal.τ).loc Cert.QBwdXIdeal.main_arg1) = m ((c.tc : Thread Cert.QBwdXIdeal.nD Cert.QBwdXIdeal.τ).loc Cert.QBwdXIdeal.main_arg1))
      ∧ r.2.sem = fun _ => 0)

def quiescent_QBwdXReferenceIdeal [hQBwdXReferenceIdeal : Cert.QBwdXReferenceIdeal.Facts] : Prop :=
  ∀ (m : (ℓ : Loc Cert.QBwdXReferenceIdeal.nD Cert.QBwdXReferenceIdeal.τ Cert.QBwdXReferenceIdeal.sig) → Buf (Elt Ideal) ℓ) (g : Dev Cert.QBwdXReferenceIdeal.nD → PrngReg), Pre_QBwdXReferenceIdeal m →
    θ_run (Cert.QBwdXReferenceIdeal.defs (F := Ideal)) (onTc (τ := Cert.QBwdXReferenceIdeal.τ) (Cert.QBwdXReferenceIdeal.main (F := Ideal))) ⟨m, fun _ => 0, g⟩ (fun r => (∀ c : Dev Cert.QBwdXReferenceIdeal.nD,
      r.2.mem ((c.tc : Thread Cert.QBwdXReferenceIdeal.nD Cert.QBwdXReferenceIdeal.τ).loc Cert.QBwdXReferenceIdeal.main_arg0) = m ((c.tc : Thread Cert.QBwdXReferenceIdeal.nD Cert.QBwdXReferenceIdeal.τ).loc Cert.QBwdXReferenceIdeal.main_arg0)
      ∧ r.2.mem ((c.tc : Thread Cert.QBwdXReferenceIdeal.nD Cert.QBwdXReferenceIdeal.τ).loc Cert.QBwdXReferenceIdeal.main_arg1) = m ((c.tc : Thread Cert.QBwdXReferenceIdeal.nD Cert.QBwdXReferenceIdeal.τ).loc Cert.QBwdXReferenceIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjReferenceIdeal [hKvProjReferenceIdeal : Cert.KvProjReferenceIdeal.Facts] : Prop :=
  ∀ (m : (ℓ : Loc Cert.KvProjReferenceIdeal.nD Cert.KvProjReferenceIdeal.τ Cert.KvProjReferenceIdeal.sig) → Buf (Elt Ideal) ℓ) (g : Dev Cert.KvProjReferenceIdeal.nD → PrngReg), Pre_KvProjReferenceIdeal m →
    θ_run (Cert.KvProjReferenceIdeal.defs (F := Ideal)) (onTc (τ := Cert.KvProjReferenceIdeal.τ) (Cert.KvProjReferenceIdeal.main (F := Ideal))) ⟨m, fun _ => 0, g⟩ (fun r => (∀ c : Dev Cert.KvProjReferenceIdeal.nD,
      r.2.mem ((c.tc : Thread Cert.KvProjReferenceIdeal.nD Cert.KvProjReferenceIdeal.τ).loc Cert.KvProjReferenceIdeal.main_arg0) = m ((c.tc : Thread Cert.KvProjReferenceIdeal.nD Cert.KvProjReferenceIdeal.τ).loc Cert.KvProjReferenceIdeal.main_arg0)
      ∧ r.2.mem ((c.tc : Thread Cert.KvProjReferenceIdeal.nD Cert.KvProjReferenceIdeal.τ).loc Cert.KvProjReferenceIdeal.main_arg1) = m ((c.tc : Thread Cert.KvProjReferenceIdeal.nD Cert.KvProjReferenceIdeal.τ).loc Cert.KvProjReferenceIdeal.main_arg1))
      ∧ r.2.sem = fun _ => 0)

def quiescent_KvBwdW [hKvBwdW : Cert.KvBwdW.Facts] : Prop :=
  ∀ (m : (ℓ : Loc Cert.KvBwdW.nD Cert.KvBwdW.τ Cert.KvBwdW.sig) → Buf (Elt Bits) ℓ) (g : Dev Cert.KvBwdW.nD → PrngReg), Pre_KvBwdW m →
    θ_run (Cert.KvBwdW.defs (F := Bits)) (onTc (τ := Cert.KvBwdW.τ) (Cert.KvBwdW.main (F := Bits))) ⟨m, fun _ => 0, g⟩ (fun r => (∀ c : Dev Cert.KvBwdW.nD,
      r.2.mem ((c.tc : Thread Cert.KvBwdW.nD Cert.KvBwdW.τ).loc Cert.KvBwdW.main_arg0) = m ((c.tc : Thread Cert.KvBwdW.nD Cert.KvBwdW.τ).loc Cert.KvBwdW.main_arg0)
      ∧ r.2.mem ((c.tc : Thread Cert.KvBwdW.nD Cert.KvBwdW.τ).loc Cert.KvBwdW.main_arg1) = m ((c.tc : Thread Cert.KvBwdW.nD Cert.KvBwdW.τ).loc Cert.KvBwdW.main_arg1))
      ∧ r.2.sem = fun _ => 0)

def quiescent_KvBwdWIdeal [hKvBwdWIdeal : Cert.KvBwdWIdeal.Facts] : Prop :=
  ∀ (m : (ℓ : Loc Cert.KvBwdWIdeal.nD Cert.KvBwdWIdeal.τ Cert.KvBwdWIdeal.sig) → Buf (Elt Ideal) ℓ) (g : Dev Cert.KvBwdWIdeal.nD → PrngReg), Pre_KvBwdWIdeal m →
    θ_run (Cert.KvBwdWIdeal.defs (F := Ideal)) (onTc (τ := Cert.KvBwdWIdeal.τ) (Cert.KvBwdWIdeal.main (F := Ideal))) ⟨m, fun _ => 0, g⟩ (fun r => (∀ c : Dev Cert.KvBwdWIdeal.nD,
      r.2.mem ((c.tc : Thread Cert.KvBwdWIdeal.nD Cert.KvBwdWIdeal.τ).loc Cert.KvBwdWIdeal.main_arg0) = m ((c.tc : Thread Cert.KvBwdWIdeal.nD Cert.KvBwdWIdeal.τ).loc Cert.KvBwdWIdeal.main_arg0)
      ∧ r.2.mem ((c.tc : Thread Cert.KvBwdWIdeal.nD Cert.KvBwdWIdeal.τ).loc Cert.KvBwdWIdeal.main_arg1) = m ((c.tc : Thread Cert.KvBwdWIdeal.nD Cert.KvBwdWIdeal.τ).loc Cert.KvBwdWIdeal.main_arg1))
      ∧ r.2.sem = fun _ => 0)

def quiescent_KvBwdWReferenceIdeal [hKvBwdWReferenceIdeal : Cert.KvBwdWReferenceIdeal.Facts] : Prop :=
  ∀ (m : (ℓ : Loc Cert.KvBwdWReferenceIdeal.nD Cert.KvBwdWReferenceIdeal.τ Cert.KvBwdWReferenceIdeal.sig) → Buf (Elt Ideal) ℓ) (g : Dev Cert.KvBwdWReferenceIdeal.nD → PrngReg), Pre_KvBwdWReferenceIdeal m →
    θ_run (Cert.KvBwdWReferenceIdeal.defs (F := Ideal)) (onTc (τ := Cert.KvBwdWReferenceIdeal.τ) (Cert.KvBwdWReferenceIdeal.main (F := Ideal))) ⟨m, fun _ => 0, g⟩ (fun r => (∀ c : Dev Cert.KvBwdWReferenceIdeal.nD,
      r.2.mem ((c.tc : Thread Cert.KvBwdWReferenceIdeal.nD Cert.KvBwdWReferenceIdeal.τ).loc Cert.KvBwdWReferenceIdeal.main_arg0) = m ((c.tc : Thread Cert.KvBwdWReferenceIdeal.nD Cert.KvBwdWReferenceIdeal.τ).loc Cert.KvBwdWReferenceIdeal.main_arg0)
      ∧ r.2.mem ((c.tc : Thread Cert.KvBwdWReferenceIdeal.nD Cert.KvBwdWReferenceIdeal.τ).loc Cert.KvBwdWReferenceIdeal.main_arg1) = m ((c.tc : Thread Cert.KvBwdWReferenceIdeal.nD Cert.KvBwdWReferenceIdeal.τ).loc Cert.KvBwdWReferenceIdeal.main_arg1))
      ∧ r.2.sem = fun _ => 0)

def quiescent_KvBwdX [hKvBwdX : Cert.KvBwdX.Facts] : Prop :=
  ∀ (m : (ℓ : Loc Cert.KvBwdX.nD Cert.KvBwdX.τ Cert.KvBwdX.sig) → Buf (Elt Bits) ℓ) (g : Dev Cert.KvBwdX.nD → PrngReg), Pre_KvBwdX m →
    θ_run (Cert.KvBwdX.defs (F := Bits)) (onTc (τ := Cert.KvBwdX.τ) (Cert.KvBwdX.main (F := Bits))) ⟨m, fun _ => 0, g⟩ (fun r => (∀ c : Dev Cert.KvBwdX.nD,
      r.2.mem ((c.tc : Thread Cert.KvBwdX.nD Cert.KvBwdX.τ).loc Cert.KvBwdX.main_arg0) = m ((c.tc : Thread Cert.KvBwdX.nD Cert.KvBwdX.τ).loc Cert.KvBwdX.main_arg0)
      ∧ r.2.mem ((c.tc : Thread Cert.KvBwdX.nD Cert.KvBwdX.τ).loc Cert.KvBwdX.main_arg1) = m ((c.tc : Thread Cert.KvBwdX.nD Cert.KvBwdX.τ).loc Cert.KvBwdX.main_arg1))
      ∧ r.2.sem = fun _ => 0)

def quiescent_KvBwdXIdeal [hKvBwdXIdeal : Cert.KvBwdXIdeal.Facts] : Prop :=
  ∀ (m : (ℓ : Loc Cert.KvBwdXIdeal.nD Cert.KvBwdXIdeal.τ Cert.KvBwdXIdeal.sig) → Buf (Elt Ideal) ℓ) (g : Dev Cert.KvBwdXIdeal.nD → PrngReg), Pre_KvBwdXIdeal m →
    θ_run (Cert.KvBwdXIdeal.defs (F := Ideal)) (onTc (τ := Cert.KvBwdXIdeal.τ) (Cert.KvBwdXIdeal.main (F := Ideal))) ⟨m, fun _ => 0, g⟩ (fun r => (∀ c : Dev Cert.KvBwdXIdeal.nD,
      r.2.mem ((c.tc : Thread Cert.KvBwdXIdeal.nD Cert.KvBwdXIdeal.τ).loc Cert.KvBwdXIdeal.main_arg0) = m ((c.tc : Thread Cert.KvBwdXIdeal.nD Cert.KvBwdXIdeal.τ).loc Cert.KvBwdXIdeal.main_arg0)
      ∧ r.2.mem ((c.tc : Thread Cert.KvBwdXIdeal.nD Cert.KvBwdXIdeal.τ).loc Cert.KvBwdXIdeal.main_arg1) = m ((c.tc : Thread Cert.KvBwdXIdeal.nD Cert.KvBwdXIdeal.τ).loc Cert.KvBwdXIdeal.main_arg1))
      ∧ r.2.sem = fun _ => 0)

def quiescent_KvBwdXReferenceIdeal [hKvBwdXReferenceIdeal : Cert.KvBwdXReferenceIdeal.Facts] : Prop :=
  ∀ (m : (ℓ : Loc Cert.KvBwdXReferenceIdeal.nD Cert.KvBwdXReferenceIdeal.τ Cert.KvBwdXReferenceIdeal.sig) → Buf (Elt Ideal) ℓ) (g : Dev Cert.KvBwdXReferenceIdeal.nD → PrngReg), Pre_KvBwdXReferenceIdeal m →
    θ_run (Cert.KvBwdXReferenceIdeal.defs (F := Ideal)) (onTc (τ := Cert.KvBwdXReferenceIdeal.τ) (Cert.KvBwdXReferenceIdeal.main (F := Ideal))) ⟨m, fun _ => 0, g⟩ (fun r => (∀ c : Dev Cert.KvBwdXReferenceIdeal.nD,
      r.2.mem ((c.tc : Thread Cert.KvBwdXReferenceIdeal.nD Cert.KvBwdXReferenceIdeal.τ).loc Cert.KvBwdXReferenceIdeal.main_arg0) = m ((c.tc : Thread Cert.KvBwdXReferenceIdeal.nD Cert.KvBwdXReferenceIdeal.τ).loc Cert.KvBwdXReferenceIdeal.main_arg0)
      ∧ r.2.mem ((c.tc : Thread Cert.KvBwdXReferenceIdeal.nD Cert.KvBwdXReferenceIdeal.τ).loc Cert.KvBwdXReferenceIdeal.main_arg1) = m ((c.tc : Thread Cert.KvBwdXReferenceIdeal.nD Cert.KvBwdXReferenceIdeal.τ).loc Cert.KvBwdXReferenceIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_finite_forward [hAttnFwdIdeal : Cert.AttnFwdIdeal.Facts] [hPre_finite_forward : Cert.Pre_finite_forward.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_forward m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2)
      ∧ r.2.mem ((c.tc : Thread Cert.AttnFwdReferenceIdeal.nD Cert.AttnFwdReferenceIdeal.τ).loc Cert.AttnFwdReferenceIdeal.main_arg3) = m ((c.tc : Thread Cert.AttnFwdReferenceIdeal.nD Cert.AttnFwdReferenceIdeal.τ).loc Cert.AttnFwdReferenceIdeal.main_arg3)
      ∧ r.2.mem ((c.tc : Thread Cert.AttnFwdReferenceIdeal.nD Cert.AttnFwdReferenceIdeal.τ).loc Cert.AttnFwdReferenceIdeal.main_arg4) = m ((c.tc : Thread Cert.AttnFwdReferenceIdeal.nD Cert.AttnFwdReferenceIdeal.τ).loc Cert.AttnFwdReferenceIdeal.main_arg4))
      ∧ r.2.sem = fun _ => 0)

def quiescent_AttnFwdReferenceIdeal_pre_finite_forward [hAttnFwdReferenceIdeal : Cert.AttnFwdReferenceIdeal.Facts] [hPre_finite_forward : Cert.Pre_finite_forward.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite_forward m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2)
      ∧ r.2.mem ((c.tc : Thread Cert.AttnFwdReferenceIdeal.nD Cert.AttnFwdReferenceIdeal.τ).loc Cert.AttnFwdReferenceIdeal.main_arg3) = m ((c.tc : Thread Cert.AttnFwdReferenceIdeal.nD Cert.AttnFwdReferenceIdeal.τ).loc Cert.AttnFwdReferenceIdeal.main_arg3)
      ∧ r.2.mem ((c.tc : Thread Cert.AttnFwdReferenceIdeal.nD Cert.AttnFwdReferenceIdeal.τ).loc Cert.AttnFwdReferenceIdeal.main_arg4) = m ((c.tc : Thread Cert.AttnFwdReferenceIdeal.nD Cert.AttnFwdReferenceIdeal.τ).loc Cert.AttnFwdReferenceIdeal.main_arg4))
      ∧ r.2.sem = fun _ => 0)

def quiescent_RmsMixBwd [hRmsMixBwd : Cert.RmsMixBwd.Facts] : Prop :=
  ∀ (m : (ℓ : Loc Cert.RmsMixBwd.nD Cert.RmsMixBwd.τ Cert.RmsMixBwd.sig) → Buf (Elt Bits) ℓ) (g : Dev Cert.RmsMixBwd.nD → PrngReg), Pre_RmsMixBwd m →
    θ_run (Cert.RmsMixBwd.defs (F := Bits)) (onTc (τ := Cert.RmsMixBwd.τ) (Cert.RmsMixBwd.main (F := Bits))) ⟨m, fun _ => 0, g⟩ (fun r => (∀ c : Dev Cert.RmsMixBwd.nD,
      r.2.mem ((c.tc : Thread Cert.RmsMixBwd.nD Cert.RmsMixBwd.τ).loc Cert.RmsMixBwd.main_arg0) = m ((c.tc : Thread Cert.RmsMixBwd.nD Cert.RmsMixBwd.τ).loc Cert.RmsMixBwd.main_arg0)
      ∧ r.2.mem ((c.tc : Thread Cert.RmsMixBwd.nD Cert.RmsMixBwd.τ).loc Cert.RmsMixBwd.main_arg1) = m ((c.tc : Thread Cert.RmsMixBwd.nD Cert.RmsMixBwd.τ).loc Cert.RmsMixBwd.main_arg1)
      ∧ r.2.mem ((c.tc : Thread Cert.RmsMixBwd.nD Cert.RmsMixBwd.τ).loc Cert.RmsMixBwd.main_arg2) = m ((c.tc : Thread Cert.RmsMixBwd.nD Cert.RmsMixBwd.τ).loc Cert.RmsMixBwd.main_arg2)
      ∧ r.2.mem ((c.tc : Thread Cert.RmsMixBwd.nD Cert.RmsMixBwd.τ).loc Cert.RmsMixBwd.main_arg3) = m ((c.tc : Thread Cert.RmsMixBwd.nD Cert.RmsMixBwd.τ).loc Cert.RmsMixBwd.main_arg3)
      ∧ r.2.mem ((c.tc : Thread Cert.RmsMixBwd.nD Cert.RmsMixBwd.τ).loc Cert.RmsMixBwd.main_arg4) = m ((c.tc : Thread Cert.RmsMixBwd.nD Cert.RmsMixBwd.τ).loc Cert.RmsMixBwd.main_arg4))
      ∧ r.2.sem = fun _ => 0)

def quiescent_RmsMixBwdIdeal [hRmsMixBwdIdeal : Cert.RmsMixBwdIdeal.Facts] : Prop :=
  ∀ (m : (ℓ : Loc Cert.RmsMixBwdIdeal.nD Cert.RmsMixBwdIdeal.τ Cert.RmsMixBwdIdeal.sig) → Buf (Elt Ideal) ℓ) (g : Dev Cert.RmsMixBwdIdeal.nD → PrngReg), Pre_RmsMixBwdIdeal m →
    θ_run (Cert.RmsMixBwdIdeal.defs (F := Ideal)) (onTc (τ := Cert.RmsMixBwdIdeal.τ) (Cert.RmsMixBwdIdeal.main (F := Ideal))) ⟨m, fun _ => 0, g⟩ (fun r => (∀ c : Dev Cert.RmsMixBwdIdeal.nD,
      r.2.mem ((c.tc : Thread Cert.RmsMixBwdIdeal.nD Cert.RmsMixBwdIdeal.τ).loc Cert.RmsMixBwdIdeal.main_arg0) = m ((c.tc : Thread Cert.RmsMixBwdIdeal.nD Cert.RmsMixBwdIdeal.τ).loc Cert.RmsMixBwdIdeal.main_arg0)
      ∧ r.2.mem ((c.tc : Thread Cert.RmsMixBwdIdeal.nD Cert.RmsMixBwdIdeal.τ).loc Cert.RmsMixBwdIdeal.main_arg1) = m ((c.tc : Thread Cert.RmsMixBwdIdeal.nD Cert.RmsMixBwdIdeal.τ).loc Cert.RmsMixBwdIdeal.main_arg1)
      ∧ r.2.mem ((c.tc : Thread Cert.RmsMixBwdIdeal.nD Cert.RmsMixBwdIdeal.τ).loc Cert.RmsMixBwdIdeal.main_arg2) = m ((c.tc : Thread Cert.RmsMixBwdIdeal.nD Cert.RmsMixBwdIdeal.τ).loc Cert.RmsMixBwdIdeal.main_arg2)
      ∧ r.2.mem ((c.tc : Thread Cert.RmsMixBwdIdeal.nD Cert.RmsMixBwdIdeal.τ).loc Cert.RmsMixBwdIdeal.main_arg3) = m ((c.tc : Thread Cert.RmsMixBwdIdeal.nD Cert.RmsMixBwdIdeal.τ).loc Cert.RmsMixBwdIdeal.main_arg3)
      ∧ r.2.mem ((c.tc : Thread Cert.RmsMixBwdIdeal.nD Cert.RmsMixBwdIdeal.τ).loc Cert.RmsMixBwdIdeal.main_arg4) = m ((c.tc : Thread Cert.RmsMixBwdIdeal.nD Cert.RmsMixBwdIdeal.τ).loc Cert.RmsMixBwdIdeal.main_arg4))
      ∧ r.2.sem = fun _ => 0)

def quiescent_RmsMixBwdReferenceIdeal [hRmsMixBwdReferenceIdeal : Cert.RmsMixBwdReferenceIdeal.Facts] : Prop :=
  ∀ (m : (ℓ : Loc Cert.RmsMixBwdReferenceIdeal.nD Cert.RmsMixBwdReferenceIdeal.τ Cert.RmsMixBwdReferenceIdeal.sig) → Buf (Elt Ideal) ℓ) (g : Dev Cert.RmsMixBwdReferenceIdeal.nD → PrngReg), Pre_RmsMixBwdReferenceIdeal m →
    θ_run (Cert.RmsMixBwdReferenceIdeal.defs (F := Ideal)) (onTc (τ := Cert.RmsMixBwdReferenceIdeal.τ) (Cert.RmsMixBwdReferenceIdeal.main (F := Ideal))) ⟨m, fun _ => 0, g⟩ (fun r => (∀ c : Dev Cert.RmsMixBwdReferenceIdeal.nD,
      r.2.mem ((c.tc : Thread Cert.RmsMixBwdReferenceIdeal.nD Cert.RmsMixBwdReferenceIdeal.τ).loc Cert.RmsMixBwdReferenceIdeal.main_arg0) = m ((c.tc : Thread Cert.RmsMixBwdReferenceIdeal.nD Cert.RmsMixBwdReferenceIdeal.τ).loc Cert.RmsMixBwdReferenceIdeal.main_arg0)
      ∧ r.2.mem ((c.tc : Thread Cert.RmsMixBwdReferenceIdeal.nD Cert.RmsMixBwdReferenceIdeal.τ).loc Cert.RmsMixBwdReferenceIdeal.main_arg1) = m ((c.tc : Thread Cert.RmsMixBwdReferenceIdeal.nD Cert.RmsMixBwdReferenceIdeal.τ).loc Cert.RmsMixBwdReferenceIdeal.main_arg1)
      ∧ r.2.mem ((c.tc : Thread Cert.RmsMixBwdReferenceIdeal.nD Cert.RmsMixBwdReferenceIdeal.τ).loc Cert.RmsMixBwdReferenceIdeal.main_arg2) = m ((c.tc : Thread Cert.RmsMixBwdReferenceIdeal.nD Cert.RmsMixBwdReferenceIdeal.τ).loc Cert.RmsMixBwdReferenceIdeal.main_arg2)
      ∧ r.2.mem ((c.tc : Thread Cert.RmsMixBwdReferenceIdeal.nD Cert.RmsMixBwdReferenceIdeal.τ).loc Cert.RmsMixBwdReferenceIdeal.main_arg3) = m ((c.tc : Thread Cert.RmsMixBwdReferenceIdeal.nD Cert.RmsMixBwdReferenceIdeal.τ).loc Cert.RmsMixBwdReferenceIdeal.main_arg3)
      ∧ r.2.mem ((c.tc : Thread Cert.RmsMixBwdReferenceIdeal.nD Cert.RmsMixBwdReferenceIdeal.τ).loc Cert.RmsMixBwdReferenceIdeal.main_arg4) = m ((c.tc : Thread Cert.RmsMixBwdReferenceIdeal.nD Cert.RmsMixBwdReferenceIdeal.τ).loc Cert.RmsMixBwdReferenceIdeal.main_arg4))
      ∧ r.2.sem = fun _ => 0)

def quiescent_RmsFfnBwd [hRmsFfnBwd : Cert.RmsFfnBwd.Facts] : Prop :=
  ∀ (m : (ℓ : Loc Cert.RmsFfnBwd.nD Cert.RmsFfnBwd.τ Cert.RmsFfnBwd.sig) → Buf (Elt Bits) ℓ) (g : Dev Cert.RmsFfnBwd.nD → PrngReg), Pre_RmsFfnBwd m →
    θ_run (Cert.RmsFfnBwd.defs (F := Bits)) (onTc (τ := Cert.RmsFfnBwd.τ) (Cert.RmsFfnBwd.main (F := Bits))) ⟨m, fun _ => 0, g⟩ (fun r => (∀ c : Dev Cert.RmsFfnBwd.nD,
      r.2.mem ((c.tc : Thread Cert.RmsFfnBwd.nD Cert.RmsFfnBwd.τ).loc Cert.RmsFfnBwd.main_arg0) = m ((c.tc : Thread Cert.RmsFfnBwd.nD Cert.RmsFfnBwd.τ).loc Cert.RmsFfnBwd.main_arg0)
      ∧ r.2.mem ((c.tc : Thread Cert.RmsFfnBwd.nD Cert.RmsFfnBwd.τ).loc Cert.RmsFfnBwd.main_arg1) = m ((c.tc : Thread Cert.RmsFfnBwd.nD Cert.RmsFfnBwd.τ).loc Cert.RmsFfnBwd.main_arg1)
      ∧ r.2.mem ((c.tc : Thread Cert.RmsFfnBwd.nD Cert.RmsFfnBwd.τ).loc Cert.RmsFfnBwd.main_arg2) = m ((c.tc : Thread Cert.RmsFfnBwd.nD Cert.RmsFfnBwd.τ).loc Cert.RmsFfnBwd.main_arg2)
      ∧ r.2.mem ((c.tc : Thread Cert.RmsFfnBwd.nD Cert.RmsFfnBwd.τ).loc Cert.RmsFfnBwd.main_arg3) = m ((c.tc : Thread Cert.RmsFfnBwd.nD Cert.RmsFfnBwd.τ).loc Cert.RmsFfnBwd.main_arg3))
      ∧ r.2.sem = fun _ => 0)

def quiescent_RmsFfnBwdIdeal [hRmsFfnBwdIdeal : Cert.RmsFfnBwdIdeal.Facts] : Prop :=
  ∀ (m : (ℓ : Loc Cert.RmsFfnBwdIdeal.nD Cert.RmsFfnBwdIdeal.τ Cert.RmsFfnBwdIdeal.sig) → Buf (Elt Ideal) ℓ) (g : Dev Cert.RmsFfnBwdIdeal.nD → PrngReg), Pre_RmsFfnBwdIdeal m →
    θ_run (Cert.RmsFfnBwdIdeal.defs (F := Ideal)) (onTc (τ := Cert.RmsFfnBwdIdeal.τ) (Cert.RmsFfnBwdIdeal.main (F := Ideal))) ⟨m, fun _ => 0, g⟩ (fun r => (∀ c : Dev Cert.RmsFfnBwdIdeal.nD,
      r.2.mem ((c.tc : Thread Cert.RmsFfnBwdIdeal.nD Cert.RmsFfnBwdIdeal.τ).loc Cert.RmsFfnBwdIdeal.main_arg0) = m ((c.tc : Thread Cert.RmsFfnBwdIdeal.nD Cert.RmsFfnBwdIdeal.τ).loc Cert.RmsFfnBwdIdeal.main_arg0)
      ∧ r.2.mem ((c.tc : Thread Cert.RmsFfnBwdIdeal.nD Cert.RmsFfnBwdIdeal.τ).loc Cert.RmsFfnBwdIdeal.main_arg1) = m ((c.tc : Thread Cert.RmsFfnBwdIdeal.nD Cert.RmsFfnBwdIdeal.τ).loc Cert.RmsFfnBwdIdeal.main_arg1)
      ∧ r.2.mem ((c.tc : Thread Cert.RmsFfnBwdIdeal.nD Cert.RmsFfnBwdIdeal.τ).loc Cert.RmsFfnBwdIdeal.main_arg2) = m ((c.tc : Thread Cert.RmsFfnBwdIdeal.nD Cert.RmsFfnBwdIdeal.τ).loc Cert.RmsFfnBwdIdeal.main_arg2)
      ∧ r.2.mem ((c.tc : Thread Cert.RmsFfnBwdIdeal.nD Cert.RmsFfnBwdIdeal.τ).loc Cert.RmsFfnBwdIdeal.main_arg3) = m ((c.tc : Thread Cert.RmsFfnBwdIdeal.nD Cert.RmsFfnBwdIdeal.τ).loc Cert.RmsFfnBwdIdeal.main_arg3))
      ∧ r.2.sem = fun _ => 0)

def quiescent_RmsFfnBwdReferenceIdeal [hRmsFfnBwdReferenceIdeal : Cert.RmsFfnBwdReferenceIdeal.Facts] : Prop :=
  ∀ (m : (ℓ : Loc Cert.RmsFfnBwdReferenceIdeal.nD Cert.RmsFfnBwdReferenceIdeal.τ Cert.RmsFfnBwdReferenceIdeal.sig) → Buf (Elt Ideal) ℓ) (g : Dev Cert.RmsFfnBwdReferenceIdeal.nD → PrngReg), Pre_RmsFfnBwdReferenceIdeal m →
    θ_run (Cert.RmsFfnBwdReferenceIdeal.defs (F := Ideal)) (onTc (τ := Cert.RmsFfnBwdReferenceIdeal.τ) (Cert.RmsFfnBwdReferenceIdeal.main (F := Ideal))) ⟨m, fun _ => 0, g⟩ (fun r => (∀ c : Dev Cert.RmsFfnBwdReferenceIdeal.nD,
      r.2.mem ((c.tc : Thread Cert.RmsFfnBwdReferenceIdeal.nD Cert.RmsFfnBwdReferenceIdeal.τ).loc Cert.RmsFfnBwdReferenceIdeal.main_arg0) = m ((c.tc : Thread Cert.RmsFfnBwdReferenceIdeal.nD Cert.RmsFfnBwdReferenceIdeal.τ).loc Cert.RmsFfnBwdReferenceIdeal.main_arg0)
      ∧ r.2.mem ((c.tc : Thread Cert.RmsFfnBwdReferenceIdeal.nD Cert.RmsFfnBwdReferenceIdeal.τ).loc Cert.RmsFfnBwdReferenceIdeal.main_arg1) = m ((c.tc : Thread Cert.RmsFfnBwdReferenceIdeal.nD Cert.RmsFfnBwdReferenceIdeal.τ).loc Cert.RmsFfnBwdReferenceIdeal.main_arg1)
      ∧ r.2.mem ((c.tc : Thread Cert.RmsFfnBwdReferenceIdeal.nD Cert.RmsFfnBwdReferenceIdeal.τ).loc Cert.RmsFfnBwdReferenceIdeal.main_arg2) = m ((c.tc : Thread Cert.RmsFfnBwdReferenceIdeal.nD Cert.RmsFfnBwdReferenceIdeal.τ).loc Cert.RmsFfnBwdReferenceIdeal.main_arg2)
      ∧ r.2.mem ((c.tc : Thread Cert.RmsFfnBwdReferenceIdeal.nD Cert.RmsFfnBwdReferenceIdeal.τ).loc Cert.RmsFfnBwdReferenceIdeal.main_arg3) = m ((c.tc : Thread Cert.RmsFfnBwdReferenceIdeal.nD Cert.RmsFfnBwdReferenceIdeal.τ).loc Cert.RmsFfnBwdReferenceIdeal.main_arg3))
      ∧ r.2.sem = fun _ => 0)

def quiescent_RmsAttnBwd [hRmsAttnBwd : Cert.RmsAttnBwd.Facts] : Prop :=
  ∀ (m : (ℓ : Loc Cert.RmsAttnBwd.nD Cert.RmsAttnBwd.τ Cert.RmsAttnBwd.sig) → Buf (Elt Bits) ℓ) (g : Dev Cert.RmsAttnBwd.nD → PrngReg), Pre_RmsAttnBwd m →
    θ_run (Cert.RmsAttnBwd.defs (F := Bits)) (onTc (τ := Cert.RmsAttnBwd.τ) (Cert.RmsAttnBwd.main (F := Bits))) ⟨m, fun _ => 0, g⟩ (fun r => (∀ c : Dev Cert.RmsAttnBwd.nD,
      r.2.mem ((c.tc : Thread Cert.RmsAttnBwd.nD Cert.RmsAttnBwd.τ).loc Cert.RmsAttnBwd.main_arg0) = m ((c.tc : Thread Cert.RmsAttnBwd.nD Cert.RmsAttnBwd.τ).loc Cert.RmsAttnBwd.main_arg0)
      ∧ r.2.mem ((c.tc : Thread Cert.RmsAttnBwd.nD Cert.RmsAttnBwd.τ).loc Cert.RmsAttnBwd.main_arg1) = m ((c.tc : Thread Cert.RmsAttnBwd.nD Cert.RmsAttnBwd.τ).loc Cert.RmsAttnBwd.main_arg1)
      ∧ r.2.mem ((c.tc : Thread Cert.RmsAttnBwd.nD Cert.RmsAttnBwd.τ).loc Cert.RmsAttnBwd.main_arg2) = m ((c.tc : Thread Cert.RmsAttnBwd.nD Cert.RmsAttnBwd.τ).loc Cert.RmsAttnBwd.main_arg2))
      ∧ r.2.sem = fun _ => 0)

def quiescent_RmsAttnBwdIdeal [hRmsAttnBwdIdeal : Cert.RmsAttnBwdIdeal.Facts] : Prop :=
  ∀ (m : (ℓ : Loc Cert.RmsAttnBwdIdeal.nD Cert.RmsAttnBwdIdeal.τ Cert.RmsAttnBwdIdeal.sig) → Buf (Elt Ideal) ℓ) (g : Dev Cert.RmsAttnBwdIdeal.nD → PrngReg), Pre_RmsAttnBwdIdeal m →
    θ_run (Cert.RmsAttnBwdIdeal.defs (F := Ideal)) (onTc (τ := Cert.RmsAttnBwdIdeal.τ) (Cert.RmsAttnBwdIdeal.main (F := Ideal))) ⟨m, fun _ => 0, g⟩ (fun r => (∀ c : Dev Cert.RmsAttnBwdIdeal.nD,
      r.2.mem ((c.tc : Thread Cert.RmsAttnBwdIdeal.nD Cert.RmsAttnBwdIdeal.τ).loc Cert.RmsAttnBwdIdeal.main_arg0) = m ((c.tc : Thread Cert.RmsAttnBwdIdeal.nD Cert.RmsAttnBwdIdeal.τ).loc Cert.RmsAttnBwdIdeal.main_arg0)
      ∧ r.2.mem ((c.tc : Thread Cert.RmsAttnBwdIdeal.nD Cert.RmsAttnBwdIdeal.τ).loc Cert.RmsAttnBwdIdeal.main_arg1) = m ((c.tc : Thread Cert.RmsAttnBwdIdeal.nD Cert.RmsAttnBwdIdeal.τ).loc Cert.RmsAttnBwdIdeal.main_arg1)
      ∧ r.2.mem ((c.tc : Thread Cert.RmsAttnBwdIdeal.nD Cert.RmsAttnBwdIdeal.τ).loc Cert.RmsAttnBwdIdeal.main_arg2) = m ((c.tc : Thread Cert.RmsAttnBwdIdeal.nD Cert.RmsAttnBwdIdeal.τ).loc Cert.RmsAttnBwdIdeal.main_arg2))
      ∧ r.2.sem = fun _ => 0)

def quiescent_RmsAttnBwdReferenceIdeal [hRmsAttnBwdReferenceIdeal : Cert.RmsAttnBwdReferenceIdeal.Facts] : Prop :=
  ∀ (m : (ℓ : Loc Cert.RmsAttnBwdReferenceIdeal.nD Cert.RmsAttnBwdReferenceIdeal.τ Cert.RmsAttnBwdReferenceIdeal.sig) → Buf (Elt Ideal) ℓ) (g : Dev Cert.RmsAttnBwdReferenceIdeal.nD → PrngReg), Pre_RmsAttnBwdReferenceIdeal m →
    θ_run (Cert.RmsAttnBwdReferenceIdeal.defs (F := Ideal)) (onTc (τ := Cert.RmsAttnBwdReferenceIdeal.τ) (Cert.RmsAttnBwdReferenceIdeal.main (F := Ideal))) ⟨m, fun _ => 0, g⟩ (fun r => (∀ c : Dev Cert.RmsAttnBwdReferenceIdeal.nD,
      r.2.mem ((c.tc : Thread Cert.RmsAttnBwdReferenceIdeal.nD Cert.RmsAttnBwdReferenceIdeal.τ).loc Cert.RmsAttnBwdReferenceIdeal.main_arg0) = m ((c.tc : Thread Cert.RmsAttnBwdReferenceIdeal.nD Cert.RmsAttnBwdReferenceIdeal.τ).loc Cert.RmsAttnBwdReferenceIdeal.main_arg0)
      ∧ r.2.mem ((c.tc : Thread Cert.RmsAttnBwdReferenceIdeal.nD Cert.RmsAttnBwdReferenceIdeal.τ).loc Cert.RmsAttnBwdReferenceIdeal.main_arg1) = m ((c.tc : Thread Cert.RmsAttnBwdReferenceIdeal.nD Cert.RmsAttnBwdReferenceIdeal.τ).loc Cert.RmsAttnBwdReferenceIdeal.main_arg1)
      ∧ r.2.mem ((c.tc : Thread Cert.RmsAttnBwdReferenceIdeal.nD Cert.RmsAttnBwdReferenceIdeal.τ).loc Cert.RmsAttnBwdReferenceIdeal.main_arg2) = m ((c.tc : Thread Cert.RmsAttnBwdReferenceIdeal.nD Cert.RmsAttnBwdReferenceIdeal.τ).loc Cert.RmsAttnBwdReferenceIdeal.main_arg2))
      ∧ r.2.sem = fun _ => 0)

def quiescent_AdamwLast [hAdamwLast : Cert.AdamwLast.Facts] : Prop :=
  ∀ (m : (ℓ : Loc Cert.AdamwLast.nD Cert.AdamwLast.τ Cert.AdamwLast.sig) → Buf (Elt Bits) ℓ) (g : Dev Cert.AdamwLast.nD → PrngReg), Pre_AdamwLast m →
    θ_run (Cert.AdamwLast.defs (F := Bits)) (onTc (τ := Cert.AdamwLast.τ) (Cert.AdamwLast.main (F := Bits))) ⟨m, fun _ => 0, g⟩ (fun r => (∀ c : Dev Cert.AdamwLast.nD,
      r.2.mem ((c.tc : Thread Cert.AdamwLast.nD Cert.AdamwLast.τ).loc Cert.AdamwLast.main_arg0) = m ((c.tc : Thread Cert.AdamwLast.nD Cert.AdamwLast.τ).loc Cert.AdamwLast.main_arg0)
      ∧ r.2.mem ((c.tc : Thread Cert.AdamwLast.nD Cert.AdamwLast.τ).loc Cert.AdamwLast.main_arg1) = m ((c.tc : Thread Cert.AdamwLast.nD Cert.AdamwLast.τ).loc Cert.AdamwLast.main_arg1)
      ∧ r.2.mem ((c.tc : Thread Cert.AdamwLast.nD Cert.AdamwLast.τ).loc Cert.AdamwLast.main_arg2) = m ((c.tc : Thread Cert.AdamwLast.nD Cert.AdamwLast.τ).loc Cert.AdamwLast.main_arg2)
      ∧ r.2.mem ((c.tc : Thread Cert.AdamwLast.nD Cert.AdamwLast.τ).loc Cert.AdamwLast.main_arg3) = m ((c.tc : Thread Cert.AdamwLast.nD Cert.AdamwLast.τ).loc Cert.AdamwLast.main_arg3)
      ∧ r.2.mem ((c.tc : Thread Cert.AdamwLast.nD Cert.AdamwLast.τ).loc Cert.AdamwLast.main_arg4) = m ((c.tc : Thread Cert.AdamwLast.nD Cert.AdamwLast.τ).loc Cert.AdamwLast.main_arg4)
      ∧ r.2.mem ((c.tc : Thread Cert.AdamwLast.nD Cert.AdamwLast.τ).loc Cert.AdamwLast.main_arg5) = m ((c.tc : Thread Cert.AdamwLast.nD Cert.AdamwLast.τ).loc Cert.AdamwLast.main_arg5)
      ∧ r.2.mem ((c.tc : Thread Cert.AdamwLast.nD Cert.AdamwLast.τ).loc Cert.AdamwLast.main_arg6) = m ((c.tc : Thread Cert.AdamwLast.nD Cert.AdamwLast.τ).loc Cert.AdamwLast.main_arg6)
      ∧ r.2.mem ((c.tc : Thread Cert.AdamwLast.nD Cert.AdamwLast.τ).loc Cert.AdamwLast.main_arg7) = m ((c.tc : Thread Cert.AdamwLast.nD Cert.AdamwLast.τ).loc Cert.AdamwLast.main_arg7))
      ∧ r.2.sem = fun _ => 0)

def quiescent_AdamwLastIdeal [hAdamwLastIdeal : Cert.AdamwLastIdeal.Facts] : Prop :=
  ∀ (m : (ℓ : Loc Cert.AdamwLastIdeal.nD Cert.AdamwLastIdeal.τ Cert.AdamwLastIdeal.sig) → Buf (Elt Ideal) ℓ) (g : Dev Cert.AdamwLastIdeal.nD → PrngReg), Pre_AdamwLastIdeal m →
    θ_run (Cert.AdamwLastIdeal.defs (F := Ideal)) (onTc (τ := Cert.AdamwLastIdeal.τ) (Cert.AdamwLastIdeal.main (F := Ideal))) ⟨m, fun _ => 0, g⟩ (fun r => (∀ c : Dev Cert.AdamwLastIdeal.nD,
      r.2.mem ((c.tc : Thread Cert.AdamwLastIdeal.nD Cert.AdamwLastIdeal.τ).loc Cert.AdamwLastIdeal.main_arg0) = m ((c.tc : Thread Cert.AdamwLastIdeal.nD Cert.AdamwLastIdeal.τ).loc Cert.AdamwLastIdeal.main_arg0)
      ∧ r.2.mem ((c.tc : Thread Cert.AdamwLastIdeal.nD Cert.AdamwLastIdeal.τ).loc Cert.AdamwLastIdeal.main_arg1) = m ((c.tc : Thread Cert.AdamwLastIdeal.nD Cert.AdamwLastIdeal.τ).loc Cert.AdamwLastIdeal.main_arg1)
      ∧ r.2.mem ((c.tc : Thread Cert.AdamwLastIdeal.nD Cert.AdamwLastIdeal.τ).loc Cert.AdamwLastIdeal.main_arg2) = m ((c.tc : Thread Cert.AdamwLastIdeal.nD Cert.AdamwLastIdeal.τ).loc Cert.AdamwLastIdeal.main_arg2)
      ∧ r.2.mem ((c.tc : Thread Cert.AdamwLastIdeal.nD Cert.AdamwLastIdeal.τ).loc Cert.AdamwLastIdeal.main_arg3) = m ((c.tc : Thread Cert.AdamwLastIdeal.nD Cert.AdamwLastIdeal.τ).loc Cert.AdamwLastIdeal.main_arg3)
      ∧ r.2.mem ((c.tc : Thread Cert.AdamwLastIdeal.nD Cert.AdamwLastIdeal.τ).loc Cert.AdamwLastIdeal.main_arg4) = m ((c.tc : Thread Cert.AdamwLastIdeal.nD Cert.AdamwLastIdeal.τ).loc Cert.AdamwLastIdeal.main_arg4)
      ∧ r.2.mem ((c.tc : Thread Cert.AdamwLastIdeal.nD Cert.AdamwLastIdeal.τ).loc Cert.AdamwLastIdeal.main_arg5) = m ((c.tc : Thread Cert.AdamwLastIdeal.nD Cert.AdamwLastIdeal.τ).loc Cert.AdamwLastIdeal.main_arg5)
      ∧ r.2.mem ((c.tc : Thread Cert.AdamwLastIdeal.nD Cert.AdamwLastIdeal.τ).loc Cert.AdamwLastIdeal.main_arg6) = m ((c.tc : Thread Cert.AdamwLastIdeal.nD Cert.AdamwLastIdeal.τ).loc Cert.AdamwLastIdeal.main_arg6)
      ∧ r.2.mem ((c.tc : Thread Cert.AdamwLastIdeal.nD Cert.AdamwLastIdeal.τ).loc Cert.AdamwLastIdeal.main_arg7) = m ((c.tc : Thread Cert.AdamwLastIdeal.nD Cert.AdamwLastIdeal.τ).loc Cert.AdamwLastIdeal.main_arg7))
      ∧ r.2.sem = fun _ => 0)

def quiescent_AdamwLastReferenceIdeal [hAdamwLastReferenceIdeal : Cert.AdamwLastReferenceIdeal.Facts] : Prop :=
  ∀ (m : (ℓ : Loc Cert.AdamwLastReferenceIdeal.nD Cert.AdamwLastReferenceIdeal.τ Cert.AdamwLastReferenceIdeal.sig) → Buf (Elt Ideal) ℓ) (g : Dev Cert.AdamwLastReferenceIdeal.nD → PrngReg), Pre_AdamwLastReferenceIdeal m →
    θ_run (Cert.AdamwLastReferenceIdeal.defs (F := Ideal)) (onTc (τ := Cert.AdamwLastReferenceIdeal.τ) (Cert.AdamwLastReferenceIdeal.main (F := Ideal))) ⟨m, fun _ => 0, g⟩ (fun r => (∀ c : Dev Cert.AdamwLastReferenceIdeal.nD,
      r.2.mem ((c.tc : Thread Cert.AdamwLastReferenceIdeal.nD Cert.AdamwLastReferenceIdeal.τ).loc Cert.AdamwLastReferenceIdeal.main_arg0) = m ((c.tc : Thread Cert.AdamwLastReferenceIdeal.nD Cert.AdamwLastReferenceIdeal.τ).loc Cert.AdamwLastReferenceIdeal.main_arg0)
      ∧ r.2.mem ((c.tc : Thread Cert.AdamwLastReferenceIdeal.nD Cert.AdamwLastReferenceIdeal.τ).loc Cert.AdamwLastReferenceIdeal.main_arg1) = m ((c.tc : Thread Cert.AdamwLastReferenceIdeal.nD Cert.AdamwLastReferenceIdeal.τ).loc Cert.AdamwLastReferenceIdeal.main_arg1)
      ∧ r.2.mem ((c.tc : Thread Cert.AdamwLastReferenceIdeal.nD Cert.AdamwLastReferenceIdeal.τ).loc Cert.AdamwLastReferenceIdeal.main_arg2) = m ((c.tc : Thread Cert.AdamwLastReferenceIdeal.nD Cert.AdamwLastReferenceIdeal.τ).loc Cert.AdamwLastReferenceIdeal.main_arg2)
      ∧ r.2.mem ((c.tc : Thread Cert.AdamwLastReferenceIdeal.nD Cert.AdamwLastReferenceIdeal.τ).loc Cert.AdamwLastReferenceIdeal.main_arg3) = m ((c.tc : Thread Cert.AdamwLastReferenceIdeal.nD Cert.AdamwLastReferenceIdeal.τ).loc Cert.AdamwLastReferenceIdeal.main_arg3)
      ∧ r.2.mem ((c.tc : Thread Cert.AdamwLastReferenceIdeal.nD Cert.AdamwLastReferenceIdeal.τ).loc Cert.AdamwLastReferenceIdeal.main_arg4) = m ((c.tc : Thread Cert.AdamwLastReferenceIdeal.nD Cert.AdamwLastReferenceIdeal.τ).loc Cert.AdamwLastReferenceIdeal.main_arg4)
      ∧ r.2.mem ((c.tc : Thread Cert.AdamwLastReferenceIdeal.nD Cert.AdamwLastReferenceIdeal.τ).loc Cert.AdamwLastReferenceIdeal.main_arg5) = m ((c.tc : Thread Cert.AdamwLastReferenceIdeal.nD Cert.AdamwLastReferenceIdeal.τ).loc Cert.AdamwLastReferenceIdeal.main_arg5)
      ∧ r.2.mem ((c.tc : Thread Cert.AdamwLastReferenceIdeal.nD Cert.AdamwLastReferenceIdeal.τ).loc Cert.AdamwLastReferenceIdeal.main_arg6) = m ((c.tc : Thread Cert.AdamwLastReferenceIdeal.nD Cert.AdamwLastReferenceIdeal.τ).loc Cert.AdamwLastReferenceIdeal.main_arg6)
      ∧ r.2.mem ((c.tc : Thread Cert.AdamwLastReferenceIdeal.nD Cert.AdamwLastReferenceIdeal.τ).loc Cert.AdamwLastReferenceIdeal.main_arg7) = m ((c.tc : Thread Cert.AdamwLastReferenceIdeal.nD Cert.AdamwLastReferenceIdeal.τ).loc Cert.AdamwLastReferenceIdeal.main_arg7))
      ∧ r.2.sem = fun _ => 0)

def quiescent_AdamwCols [hAdamwCols : Cert.AdamwCols.Facts] : Prop :=
  ∀ (m : (ℓ : Loc Cert.AdamwCols.nD Cert.AdamwCols.τ Cert.AdamwCols.sig) → Buf (Elt Bits) ℓ) (g : Dev Cert.AdamwCols.nD → PrngReg), Pre_AdamwCols m →
    θ_run (Cert.AdamwCols.defs (F := Bits)) (onTc (τ := Cert.AdamwCols.τ) (Cert.AdamwCols.main (F := Bits))) ⟨m, fun _ => 0, g⟩ (fun r => (∀ c : Dev Cert.AdamwCols.nD,
      r.2.mem ((c.tc : Thread Cert.AdamwCols.nD Cert.AdamwCols.τ).loc Cert.AdamwCols.main_arg0) = m ((c.tc : Thread Cert.AdamwCols.nD Cert.AdamwCols.τ).loc Cert.AdamwCols.main_arg0)
      ∧ r.2.mem ((c.tc : Thread Cert.AdamwCols.nD Cert.AdamwCols.τ).loc Cert.AdamwCols.main_arg1) = m ((c.tc : Thread Cert.AdamwCols.nD Cert.AdamwCols.τ).loc Cert.AdamwCols.main_arg1)
      ∧ r.2.mem ((c.tc : Thread Cert.AdamwCols.nD Cert.AdamwCols.τ).loc Cert.AdamwCols.main_arg2) = m ((c.tc : Thread Cert.AdamwCols.nD Cert.AdamwCols.τ).loc Cert.AdamwCols.main_arg2)
      ∧ r.2.mem ((c.tc : Thread Cert.AdamwCols.nD Cert.AdamwCols.τ).loc Cert.AdamwCols.main_arg3) = m ((c.tc : Thread Cert.AdamwCols.nD Cert.AdamwCols.τ).loc Cert.AdamwCols.main_arg3)
      ∧ r.2.mem ((c.tc : Thread Cert.AdamwCols.nD Cert.AdamwCols.τ).loc Cert.AdamwCols.main_arg4) = m ((c.tc : Thread Cert.AdamwCols.nD Cert.AdamwCols.τ).loc Cert.AdamwCols.main_arg4)
      ∧ r.2.mem ((c.tc : Thread Cert.AdamwCols.nD Cert.AdamwCols.τ).loc Cert.AdamwCols.main_arg5) = m ((c.tc : Thread Cert.AdamwCols.nD Cert.AdamwCols.τ).loc Cert.AdamwCols.main_arg5)
      ∧ r.2.mem ((c.tc : Thread Cert.AdamwCols.nD Cert.AdamwCols.τ).loc Cert.AdamwCols.main_arg6) = m ((c.tc : Thread Cert.AdamwCols.nD Cert.AdamwCols.τ).loc Cert.AdamwCols.main_arg6)
      ∧ r.2.mem ((c.tc : Thread Cert.AdamwCols.nD Cert.AdamwCols.τ).loc Cert.AdamwCols.main_arg7) = m ((c.tc : Thread Cert.AdamwCols.nD Cert.AdamwCols.τ).loc Cert.AdamwCols.main_arg7))
      ∧ r.2.sem = fun _ => 0)

def quiescent_AdamwColsIdeal [hAdamwColsIdeal : Cert.AdamwColsIdeal.Facts] : Prop :=
  ∀ (m : (ℓ : Loc Cert.AdamwColsIdeal.nD Cert.AdamwColsIdeal.τ Cert.AdamwColsIdeal.sig) → Buf (Elt Ideal) ℓ) (g : Dev Cert.AdamwColsIdeal.nD → PrngReg), Pre_AdamwColsIdeal m →
    θ_run (Cert.AdamwColsIdeal.defs (F := Ideal)) (onTc (τ := Cert.AdamwColsIdeal.τ) (Cert.AdamwColsIdeal.main (F := Ideal))) ⟨m, fun _ => 0, g⟩ (fun r => (∀ c : Dev Cert.AdamwColsIdeal.nD,
      r.2.mem ((c.tc : Thread Cert.AdamwColsIdeal.nD Cert.AdamwColsIdeal.τ).loc Cert.AdamwColsIdeal.main_arg0) = m ((c.tc : Thread Cert.AdamwColsIdeal.nD Cert.AdamwColsIdeal.τ).loc Cert.AdamwColsIdeal.main_arg0)
      ∧ r.2.mem ((c.tc : Thread Cert.AdamwColsIdeal.nD Cert.AdamwColsIdeal.τ).loc Cert.AdamwColsIdeal.main_arg1) = m ((c.tc : Thread Cert.AdamwColsIdeal.nD Cert.AdamwColsIdeal.τ).loc Cert.AdamwColsIdeal.main_arg1)
      ∧ r.2.mem ((c.tc : Thread Cert.AdamwColsIdeal.nD Cert.AdamwColsIdeal.τ).loc Cert.AdamwColsIdeal.main_arg2) = m ((c.tc : Thread Cert.AdamwColsIdeal.nD Cert.AdamwColsIdeal.τ).loc Cert.AdamwColsIdeal.main_arg2)
      ∧ r.2.mem ((c.tc : Thread Cert.AdamwColsIdeal.nD Cert.AdamwColsIdeal.τ).loc Cert.AdamwColsIdeal.main_arg3) = m ((c.tc : Thread Cert.AdamwColsIdeal.nD Cert.AdamwColsIdeal.τ).loc Cert.AdamwColsIdeal.main_arg3)
      ∧ r.2.mem ((c.tc : Thread Cert.AdamwColsIdeal.nD Cert.AdamwColsIdeal.τ).loc Cert.AdamwColsIdeal.main_arg4) = m ((c.tc : Thread Cert.AdamwColsIdeal.nD Cert.AdamwColsIdeal.τ).loc Cert.AdamwColsIdeal.main_arg4)
      ∧ r.2.mem ((c.tc : Thread Cert.AdamwColsIdeal.nD Cert.AdamwColsIdeal.τ).loc Cert.AdamwColsIdeal.main_arg5) = m ((c.tc : Thread Cert.AdamwColsIdeal.nD Cert.AdamwColsIdeal.τ).loc Cert.AdamwColsIdeal.main_arg5)
      ∧ r.2.mem ((c.tc : Thread Cert.AdamwColsIdeal.nD Cert.AdamwColsIdeal.τ).loc Cert.AdamwColsIdeal.main_arg6) = m ((c.tc : Thread Cert.AdamwColsIdeal.nD Cert.AdamwColsIdeal.τ).loc Cert.AdamwColsIdeal.main_arg6)
      ∧ r.2.mem ((c.tc : Thread Cert.AdamwColsIdeal.nD Cert.AdamwColsIdeal.τ).loc Cert.AdamwColsIdeal.main_arg7) = m ((c.tc : Thread Cert.AdamwColsIdeal.nD Cert.AdamwColsIdeal.τ).loc Cert.AdamwColsIdeal.main_arg7))
      ∧ r.2.sem = fun _ => 0)

def quiescent_AdamwColsReferenceIdeal [hAdamwColsReferenceIdeal : Cert.AdamwColsReferenceIdeal.Facts] : Prop :=
  ∀ (m : (ℓ : Loc Cert.AdamwColsReferenceIdeal.nD Cert.AdamwColsReferenceIdeal.τ Cert.AdamwColsReferenceIdeal.sig) → Buf (Elt Ideal) ℓ) (g : Dev Cert.AdamwColsReferenceIdeal.nD → PrngReg), Pre_AdamwColsReferenceIdeal m →
    θ_run (Cert.AdamwColsReferenceIdeal.defs (F := Ideal)) (onTc (τ := Cert.AdamwColsReferenceIdeal.τ) (Cert.AdamwColsReferenceIdeal.main (F := Ideal))) ⟨m, fun _ => 0, g⟩ (fun r => (∀ c : Dev Cert.AdamwColsReferenceIdeal.nD,
      r.2.mem ((c.tc : Thread Cert.AdamwColsReferenceIdeal.nD Cert.AdamwColsReferenceIdeal.τ).loc Cert.AdamwColsReferenceIdeal.main_arg0) = m ((c.tc : Thread Cert.AdamwColsReferenceIdeal.nD Cert.AdamwColsReferenceIdeal.τ).loc Cert.AdamwColsReferenceIdeal.main_arg0)
      ∧ r.2.mem ((c.tc : Thread Cert.AdamwColsReferenceIdeal.nD Cert.AdamwColsReferenceIdeal.τ).loc Cert.AdamwColsReferenceIdeal.main_arg1) = m ((c.tc : Thread Cert.AdamwColsReferenceIdeal.nD Cert.AdamwColsReferenceIdeal.τ).loc Cert.AdamwColsReferenceIdeal.main_arg1)
      ∧ r.2.mem ((c.tc : Thread Cert.AdamwColsReferenceIdeal.nD Cert.AdamwColsReferenceIdeal.τ).loc Cert.AdamwColsReferenceIdeal.main_arg2) = m ((c.tc : Thread Cert.AdamwColsReferenceIdeal.nD Cert.AdamwColsReferenceIdeal.τ).loc Cert.AdamwColsReferenceIdeal.main_arg2)
      ∧ r.2.mem ((c.tc : Thread Cert.AdamwColsReferenceIdeal.nD Cert.AdamwColsReferenceIdeal.τ).loc Cert.AdamwColsReferenceIdeal.main_arg3) = m ((c.tc : Thread Cert.AdamwColsReferenceIdeal.nD Cert.AdamwColsReferenceIdeal.τ).loc Cert.AdamwColsReferenceIdeal.main_arg3)
      ∧ r.2.mem ((c.tc : Thread Cert.AdamwColsReferenceIdeal.nD Cert.AdamwColsReferenceIdeal.τ).loc Cert.AdamwColsReferenceIdeal.main_arg4) = m ((c.tc : Thread Cert.AdamwColsReferenceIdeal.nD Cert.AdamwColsReferenceIdeal.τ).loc Cert.AdamwColsReferenceIdeal.main_arg4)
      ∧ r.2.mem ((c.tc : Thread Cert.AdamwColsReferenceIdeal.nD Cert.AdamwColsReferenceIdeal.τ).loc Cert.AdamwColsReferenceIdeal.main_arg5) = m ((c.tc : Thread Cert.AdamwColsReferenceIdeal.nD Cert.AdamwColsReferenceIdeal.τ).loc Cert.AdamwColsReferenceIdeal.main_arg5)
      ∧ r.2.mem ((c.tc : Thread Cert.AdamwColsReferenceIdeal.nD Cert.AdamwColsReferenceIdeal.τ).loc Cert.AdamwColsReferenceIdeal.main_arg6) = m ((c.tc : Thread Cert.AdamwColsReferenceIdeal.nD Cert.AdamwColsReferenceIdeal.τ).loc Cert.AdamwColsReferenceIdeal.main_arg6)
      ∧ r.2.mem ((c.tc : Thread Cert.AdamwColsReferenceIdeal.nD Cert.AdamwColsReferenceIdeal.τ).loc Cert.AdamwColsReferenceIdeal.main_arg7) = m ((c.tc : Thread Cert.AdamwColsReferenceIdeal.nD Cert.AdamwColsReferenceIdeal.τ).loc Cert.AdamwColsReferenceIdeal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpBwdW_UpBwdWIdeal : Prop :=
  True

def algebraic_UpBwdWIdeal_UpBwdWReferenceIdeal [hUpBwdWIdeal : Cert.UpBwdWIdeal.Facts] [hUpBwdWReferenceIdeal : Cert.UpBwdWReferenceIdeal.Facts] : Prop :=
  ∀ (m : (ℓ : Loc Cert.UpBwdWIdeal.nD Cert.UpBwdWIdeal.τ Cert.UpBwdWIdeal.sig) → Buf (Elt Ideal) ℓ) (g : Dev Cert.UpBwdWIdeal.nD → PrngReg)
    (m' : (ℓ : Loc Cert.UpBwdWReferenceIdeal.nD Cert.UpBwdWReferenceIdeal.τ Cert.UpBwdWReferenceIdeal.sig) → Buf (Elt Ideal) ℓ) (g' : Dev Cert.UpBwdWReferenceIdeal.nD → PrngReg), Pre_UpBwdWIdeal m →
    (∀ c : Dev Cert.UpBwdWIdeal.nD,
      m' ((c.tc : Thread Cert.UpBwdWReferenceIdeal.nD Cert.UpBwdWReferenceIdeal.τ).loc Cert.UpBwdWReferenceIdeal.main_arg0) = m ((c.tc : Thread Cert.UpBwdWIdeal.nD Cert.UpBwdWIdeal.τ).loc Cert.UpBwdWIdeal.main_arg0)
      ∧ m' ((c.tc : Thread Cert.UpBwdWReferenceIdeal.nD Cert.UpBwdWReferenceIdeal.τ).loc Cert.UpBwdWReferenceIdeal.main_arg1) = m ((c.tc : Thread Cert.UpBwdWIdeal.nD Cert.UpBwdWIdeal.τ).loc Cert.UpBwdWIdeal.main_arg1)) →
    ∃ (v0 : (c : Dev Cert.UpBwdWIdeal.nD) → Buf (Elt Ideal) ((c.tc : Thread Cert.UpBwdWIdeal.nD Cert.UpBwdWIdeal.τ).loc Cert.UpBwdWIdeal.main_v0)),
      θ_run (Cert.UpBwdWIdeal.defs (F := Ideal)) (onTc (τ := Cert.UpBwdWIdeal.τ) (Cert.UpBwdWIdeal.main (F := Ideal))) ⟨m, fun _ => 0, g⟩ (fun r => ∀ c : Dev Cert.UpBwdWIdeal.nD,
          r.2.mem ((c.tc : Thread Cert.UpBwdWIdeal.nD Cert.UpBwdWIdeal.τ).loc Cert.UpBwdWIdeal.main_v0) = v0 c
          ∧ r.2.mem ((c.tc : Thread Cert.UpBwdWIdeal.nD Cert.UpBwdWIdeal.τ).loc Cert.UpBwdWIdeal.main_arg0) = m ((c.tc : Thread Cert.UpBwdWIdeal.nD Cert.UpBwdWIdeal.τ).loc Cert.UpBwdWIdeal.main_arg0)
          ∧ r.2.mem ((c.tc : Thread Cert.UpBwdWIdeal.nD Cert.UpBwdWIdeal.τ).loc Cert.UpBwdWIdeal.main_arg1) = m ((c.tc : Thread Cert.UpBwdWIdeal.nD Cert.UpBwdWIdeal.τ).loc Cert.UpBwdWIdeal.main_arg1))
      ∧ θ_run (Cert.UpBwdWReferenceIdeal.defs (F := Ideal)) (onTc (τ := Cert.UpBwdWReferenceIdeal.τ) (Cert.UpBwdWReferenceIdeal.main (F := Ideal))) ⟨m', fun _ => 0, g'⟩ (fun r => ∀ c : Dev Cert.UpBwdWReferenceIdeal.nD,
          r.2.mem ((c.tc : Thread Cert.UpBwdWReferenceIdeal.nD Cert.UpBwdWReferenceIdeal.τ).loc Cert.UpBwdWReferenceIdeal.main_v9) = v0 c
          ∧ r.2.mem ((c.tc : Thread Cert.UpBwdWReferenceIdeal.nD Cert.UpBwdWReferenceIdeal.τ).loc Cert.UpBwdWReferenceIdeal.main_arg0) = m' ((c.tc : Thread Cert.UpBwdWReferenceIdeal.nD Cert.UpBwdWReferenceIdeal.τ).loc Cert.UpBwdWReferenceIdeal.main_arg0)
          ∧ r.2.mem ((c.tc : Thread Cert.UpBwdWReferenceIdeal.nD Cert.UpBwdWReferenceIdeal.τ).loc Cert.UpBwdWReferenceIdeal.main_arg1) = m' ((c.tc : Thread Cert.UpBwdWReferenceIdeal.nD Cert.UpBwdWReferenceIdeal.τ).loc Cert.UpBwdWReferenceIdeal.main_arg1))

def preserves_UpBwdX_UpBwdXIdeal : Prop :=
  True

def algebraic_UpBwdXIdeal_UpBwdXReferenceIdeal [hUpBwdXIdeal : Cert.UpBwdXIdeal.Facts] [hUpBwdXReferenceIdeal : Cert.UpBwdXReferenceIdeal.Facts] : Prop :=
  ∀ (m : (ℓ : Loc Cert.UpBwdXIdeal.nD Cert.UpBwdXIdeal.τ Cert.UpBwdXIdeal.sig) → Buf (Elt Ideal) ℓ) (g : Dev Cert.UpBwdXIdeal.nD → PrngReg)
    (m' : (ℓ : Loc Cert.UpBwdXReferenceIdeal.nD Cert.UpBwdXReferenceIdeal.τ Cert.UpBwdXReferenceIdeal.sig) → Buf (Elt Ideal) ℓ) (g' : Dev Cert.UpBwdXReferenceIdeal.nD → PrngReg), Pre_UpBwdXIdeal m →
    (∀ c : Dev Cert.UpBwdXIdeal.nD,
      m' ((c.tc : Thread Cert.UpBwdXReferenceIdeal.nD Cert.UpBwdXReferenceIdeal.τ).loc Cert.UpBwdXReferenceIdeal.main_arg0) = m ((c.tc : Thread Cert.UpBwdXIdeal.nD Cert.UpBwdXIdeal.τ).loc Cert.UpBwdXIdeal.main_arg0)
      ∧ m' ((c.tc : Thread Cert.UpBwdXReferenceIdeal.nD Cert.UpBwdXReferenceIdeal.τ).loc Cert.UpBwdXReferenceIdeal.main_arg1) = m ((c.tc : Thread Cert.UpBwdXIdeal.nD Cert.UpBwdXIdeal.τ).loc Cert.UpBwdXIdeal.main_arg1)) →
    ∃ (v0 : (c : Dev Cert.UpBwdXIdeal.nD) → Buf (Elt Ideal) ((c.tc : Thread Cert.UpBwdXIdeal.nD Cert.UpBwdXIdeal.τ).loc Cert.UpBwdXIdeal.main_v0)),
      θ_run (Cert.UpBwdXIdeal.defs (F := Ideal)) (onTc (τ := Cert.UpBwdXIdeal.τ) (Cert.UpBwdXIdeal.main (F := Ideal))) ⟨m, fun _ => 0, g⟩ (fun r => ∀ c : Dev Cert.UpBwdXIdeal.nD,
          r.2.mem ((c.tc : Thread Cert.UpBwdXIdeal.nD Cert.UpBwdXIdeal.τ).loc Cert.UpBwdXIdeal.main_v0) = v0 c
          ∧ r.2.mem ((c.tc : Thread Cert.UpBwdXIdeal.nD Cert.UpBwdXIdeal.τ).loc Cert.UpBwdXIdeal.main_arg0) = m ((c.tc : Thread Cert.UpBwdXIdeal.nD Cert.UpBwdXIdeal.τ).loc Cert.UpBwdXIdeal.main_arg0)
          ∧ r.2.mem ((c.tc : Thread Cert.UpBwdXIdeal.nD Cert.UpBwdXIdeal.τ).loc Cert.UpBwdXIdeal.main_arg1) = m ((c.tc : Thread Cert.UpBwdXIdeal.nD Cert.UpBwdXIdeal.τ).loc Cert.UpBwdXIdeal.main_arg1))
      ∧ θ_run (Cert.UpBwdXReferenceIdeal.defs (F := Ideal)) (onTc (τ := Cert.UpBwdXReferenceIdeal.τ) (Cert.UpBwdXReferenceIdeal.main (F := Ideal))) ⟨m', fun _ => 0, g'⟩ (fun r => ∀ c : Dev Cert.UpBwdXReferenceIdeal.nD,
          r.2.mem ((c.tc : Thread Cert.UpBwdXReferenceIdeal.nD Cert.UpBwdXReferenceIdeal.τ).loc Cert.UpBwdXReferenceIdeal.main_v6) = v0 c
          ∧ r.2.mem ((c.tc : Thread Cert.UpBwdXReferenceIdeal.nD Cert.UpBwdXReferenceIdeal.τ).loc Cert.UpBwdXReferenceIdeal.main_arg0) = m' ((c.tc : Thread Cert.UpBwdXReferenceIdeal.nD Cert.UpBwdXReferenceIdeal.τ).loc Cert.UpBwdXReferenceIdeal.main_arg0)
          ∧ r.2.mem ((c.tc : Thread Cert.UpBwdXReferenceIdeal.nD Cert.UpBwdXReferenceIdeal.τ).loc Cert.UpBwdXReferenceIdeal.main_arg1) = m' ((c.tc : Thread Cert.UpBwdXReferenceIdeal.nD Cert.UpBwdXReferenceIdeal.τ).loc Cert.UpBwdXReferenceIdeal.main_arg1))

def preserves_DownBwdX_DownBwdXIdeal : Prop :=
  True

def algebraic_DownBwdXIdeal_DownBwdXReferenceIdeal [hDownBwdXIdeal : Cert.DownBwdXIdeal.Facts] [hDownBwdXReferenceIdeal : Cert.DownBwdXReferenceIdeal.Facts] : Prop :=
  ∀ (m : (ℓ : Loc Cert.DownBwdXIdeal.nD Cert.DownBwdXIdeal.τ Cert.DownBwdXIdeal.sig) → Buf (Elt Ideal) ℓ) (g : Dev Cert.DownBwdXIdeal.nD → PrngReg)
    (m' : (ℓ : Loc Cert.DownBwdXReferenceIdeal.nD Cert.DownBwdXReferenceIdeal.τ Cert.DownBwdXReferenceIdeal.sig) → Buf (Elt Ideal) ℓ) (g' : Dev Cert.DownBwdXReferenceIdeal.nD → PrngReg), Pre_DownBwdXIdeal m →
    (∀ c : Dev Cert.DownBwdXIdeal.nD,
      m' ((c.tc : Thread Cert.DownBwdXReferenceIdeal.nD Cert.DownBwdXReferenceIdeal.τ).loc Cert.DownBwdXReferenceIdeal.main_arg0) = m ((c.tc : Thread Cert.DownBwdXIdeal.nD Cert.DownBwdXIdeal.τ).loc Cert.DownBwdXIdeal.main_arg0)
      ∧ m' ((c.tc : Thread Cert.DownBwdXReferenceIdeal.nD Cert.DownBwdXReferenceIdeal.τ).loc Cert.DownBwdXReferenceIdeal.main_arg1) = m ((c.tc : Thread Cert.DownBwdXIdeal.nD Cert.DownBwdXIdeal.τ).loc Cert.DownBwdXIdeal.main_arg1)) →
    ∃ (v0 : (c : Dev Cert.DownBwdXIdeal.nD) → Buf (Elt Ideal) ((c.tc : Thread Cert.DownBwdXIdeal.nD Cert.DownBwdXIdeal.τ).loc Cert.DownBwdXIdeal.main_v0)),
      θ_run (Cert.DownBwdXIdeal.defs (F := Ideal)) (onTc (τ := Cert.DownBwdXIdeal.τ) (Cert.DownBwdXIdeal.main (F := Ideal))) ⟨m, fun _ => 0, g⟩ (fun r => ∀ c : Dev Cert.DownBwdXIdeal.nD,
          r.2.mem ((c.tc : Thread Cert.DownBwdXIdeal.nD Cert.DownBwdXIdeal.τ).loc Cert.DownBwdXIdeal.main_v0) = v0 c
          ∧ r.2.mem ((c.tc : Thread Cert.DownBwdXIdeal.nD Cert.DownBwdXIdeal.τ).loc Cert.DownBwdXIdeal.main_arg0) = m ((c.tc : Thread Cert.DownBwdXIdeal.nD Cert.DownBwdXIdeal.τ).loc Cert.DownBwdXIdeal.main_arg0)
          ∧ r.2.mem ((c.tc : Thread Cert.DownBwdXIdeal.nD Cert.DownBwdXIdeal.τ).loc Cert.DownBwdXIdeal.main_arg1) = m ((c.tc : Thread Cert.DownBwdXIdeal.nD Cert.DownBwdXIdeal.τ).loc Cert.DownBwdXIdeal.main_arg1))
      ∧ θ_run (Cert.DownBwdXReferenceIdeal.defs (F := Ideal)) (onTc (τ := Cert.DownBwdXReferenceIdeal.τ) (Cert.DownBwdXReferenceIdeal.main (F := Ideal))) ⟨m', fun _ => 0, g'⟩ (fun r => ∀ c : Dev Cert.DownBwdXReferenceIdeal.nD,
          r.2.mem ((c.tc : Thread Cert.DownBwdXReferenceIdeal.nD Cert.DownBwdXReferenceIdeal.τ).loc Cert.DownBwdXReferenceIdeal.main_v6) = v0 c
          ∧ r.2.mem ((c.tc : Thread Cert.DownBwdXReferenceIdeal.nD Cert.DownBwdXReferenceIdeal.τ).loc Cert.DownBwdXReferenceIdeal.main_arg0) = m' ((c.tc : Thread Cert.DownBwdXReferenceIdeal.nD Cert.DownBwdXReferenceIdeal.τ).loc Cert.DownBwdXReferenceIdeal.main_arg0)
          ∧ r.2.mem ((c.tc : Thread Cert.DownBwdXReferenceIdeal.nD Cert.DownBwdXReferenceIdeal.τ).loc Cert.DownBwdXReferenceIdeal.main_arg1) = m' ((c.tc : Thread Cert.DownBwdXReferenceIdeal.nD Cert.DownBwdXReferenceIdeal.τ).loc Cert.DownBwdXReferenceIdeal.main_arg1))

def preserves_DownBwdW_DownBwdWIdeal : Prop :=
  True

def algebraic_DownBwdWIdeal_DownBwdWReferenceIdeal [hDownBwdWIdeal : Cert.DownBwdWIdeal.Facts] [hDownBwdWReferenceIdeal : Cert.DownBwdWReferenceIdeal.Facts] : Prop :=
  ∀ (m : (ℓ : Loc Cert.DownBwdWIdeal.nD Cert.DownBwdWIdeal.τ Cert.DownBwdWIdeal.sig) → Buf (Elt Ideal) ℓ) (g : Dev Cert.DownBwdWIdeal.nD → PrngReg)
    (m' : (ℓ : Loc Cert.DownBwdWReferenceIdeal.nD Cert.DownBwdWReferenceIdeal.τ Cert.DownBwdWReferenceIdeal.sig) → Buf (Elt Ideal) ℓ) (g' : Dev Cert.DownBwdWReferenceIdeal.nD → PrngReg), Pre_DownBwdWIdeal m →
    (∀ c : Dev Cert.DownBwdWIdeal.nD,
      m' ((c.tc : Thread Cert.DownBwdWReferenceIdeal.nD Cert.DownBwdWReferenceIdeal.τ).loc Cert.DownBwdWReferenceIdeal.main_arg0) = m ((c.tc : Thread Cert.DownBwdWIdeal.nD Cert.DownBwdWIdeal.τ).loc Cert.DownBwdWIdeal.main_arg0)
      ∧ m' ((c.tc : Thread Cert.DownBwdWReferenceIdeal.nD Cert.DownBwdWReferenceIdeal.τ).loc Cert.DownBwdWReferenceIdeal.main_arg1) = m ((c.tc : Thread Cert.DownBwdWIdeal.nD Cert.DownBwdWIdeal.τ).loc Cert.DownBwdWIdeal.main_arg1)) →
    ∃ (v0 : (c : Dev Cert.DownBwdWIdeal.nD) → Buf (Elt Ideal) ((c.tc : Thread Cert.DownBwdWIdeal.nD Cert.DownBwdWIdeal.τ).loc Cert.DownBwdWIdeal.main_v0)),
      θ_run (Cert.DownBwdWIdeal.defs (F := Ideal)) (onTc (τ := Cert.DownBwdWIdeal.τ) (Cert.DownBwdWIdeal.main (F := Ideal))) ⟨m, fun _ => 0, g⟩ (fun r => ∀ c : Dev Cert.DownBwdWIdeal.nD,
          r.2.mem ((c.tc : Thread Cert.DownBwdWIdeal.nD Cert.DownBwdWIdeal.τ).loc Cert.DownBwdWIdeal.main_v0) = v0 c
          ∧ r.2.mem ((c.tc : Thread Cert.DownBwdWIdeal.nD Cert.DownBwdWIdeal.τ).loc Cert.DownBwdWIdeal.main_arg0) = m ((c.tc : Thread Cert.DownBwdWIdeal.nD Cert.DownBwdWIdeal.τ).loc Cert.DownBwdWIdeal.main_arg0)
          ∧ r.2.mem ((c.tc : Thread Cert.DownBwdWIdeal.nD Cert.DownBwdWIdeal.τ).loc Cert.DownBwdWIdeal.main_arg1) = m ((c.tc : Thread Cert.DownBwdWIdeal.nD Cert.DownBwdWIdeal.τ).loc Cert.DownBwdWIdeal.main_arg1))
      ∧ θ_run (Cert.DownBwdWReferenceIdeal.defs (F := Ideal)) (onTc (τ := Cert.DownBwdWReferenceIdeal.τ) (Cert.DownBwdWReferenceIdeal.main (F := Ideal))) ⟨m', fun _ => 0, g'⟩ (fun r => ∀ c : Dev Cert.DownBwdWReferenceIdeal.nD,
          r.2.mem ((c.tc : Thread Cert.DownBwdWReferenceIdeal.nD Cert.DownBwdWReferenceIdeal.τ).loc Cert.DownBwdWReferenceIdeal.main_v6) = v0 c
          ∧ r.2.mem ((c.tc : Thread Cert.DownBwdWReferenceIdeal.nD Cert.DownBwdWReferenceIdeal.τ).loc Cert.DownBwdWReferenceIdeal.main_arg0) = m' ((c.tc : Thread Cert.DownBwdWReferenceIdeal.nD Cert.DownBwdWReferenceIdeal.τ).loc Cert.DownBwdWReferenceIdeal.main_arg0)
          ∧ r.2.mem ((c.tc : Thread Cert.DownBwdWReferenceIdeal.nD Cert.DownBwdWReferenceIdeal.τ).loc Cert.DownBwdWReferenceIdeal.main_arg1) = m' ((c.tc : Thread Cert.DownBwdWReferenceIdeal.nD Cert.DownBwdWReferenceIdeal.τ).loc Cert.DownBwdWReferenceIdeal.main_arg1))

def preserves_UpProj_UpProjIdeal : Prop :=
  True

def algebraic_UpProjIdeal_UpProjReferenceIdeal [hUpProjIdeal : Cert.UpProjIdeal.Facts] [hUpProjReferenceIdeal : Cert.UpProjReferenceIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjReferenceIdeal.nD Cert.UpProjReferenceIdeal.τ Cert.UpProjReferenceIdeal.sig) → Buf (Elt Ideal) ℓ) (g' : Dev Cert.UpProjReferenceIdeal.nD → PrngReg), Pre_UpProjIdeal m →
    (∀ c : Dev Cert.UpProjIdeal.nD,
      m' ((c.tc : Thread Cert.UpProjReferenceIdeal.nD Cert.UpProjReferenceIdeal.τ).loc Cert.UpProjReferenceIdeal.main_arg0) = m ((c.tc : Thread Cert.UpProjIdeal.nD Cert.UpProjIdeal.τ).loc Cert.UpProjIdeal.main_arg0)
      ∧ m' ((c.tc : Thread Cert.UpProjReferenceIdeal.nD Cert.UpProjReferenceIdeal.τ).loc Cert.UpProjReferenceIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjReferenceIdeal.defs (F := Ideal)) (onTc (τ := Cert.UpProjReferenceIdeal.τ) (Cert.UpProjReferenceIdeal.main (F := Ideal))) ⟨m', fun _ => 0, g'⟩ (fun r => ∀ c : Dev Cert.UpProjReferenceIdeal.nD,
          r.2.mem ((c.tc : Thread Cert.UpProjReferenceIdeal.nD Cert.UpProjReferenceIdeal.τ).loc Cert.UpProjReferenceIdeal.main_v4) = v0 c
          ∧ r.2.mem ((c.tc : Thread Cert.UpProjReferenceIdeal.nD Cert.UpProjReferenceIdeal.τ).loc Cert.UpProjReferenceIdeal.main_arg0) = m' ((c.tc : Thread Cert.UpProjReferenceIdeal.nD Cert.UpProjReferenceIdeal.τ).loc Cert.UpProjReferenceIdeal.main_arg0)
          ∧ r.2.mem ((c.tc : Thread Cert.UpProjReferenceIdeal.nD Cert.UpProjReferenceIdeal.τ).loc Cert.UpProjReferenceIdeal.main_arg1) = m' ((c.tc : Thread Cert.UpProjReferenceIdeal.nD Cert.UpProjReferenceIdeal.τ).loc Cert.UpProjReferenceIdeal.main_arg1))

def preserves_DownProj_DownProjIdeal : Prop :=
  True

def algebraic_DownProjIdeal_DownProjReferenceIdeal [hDownProjIdeal : Cert.DownProjIdeal.Facts] [hDownProjReferenceIdeal : Cert.DownProjReferenceIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjReferenceIdeal.nD Cert.DownProjReferenceIdeal.τ Cert.DownProjReferenceIdeal.sig) → Buf (Elt Ideal) ℓ) (g' : Dev Cert.DownProjReferenceIdeal.nD → PrngReg), Pre_DownProjIdeal m →
    (∀ c : Dev Cert.DownProjIdeal.nD,
      m' ((c.tc : Thread Cert.DownProjReferenceIdeal.nD Cert.DownProjReferenceIdeal.τ).loc Cert.DownProjReferenceIdeal.main_arg0) = m ((c.tc : Thread Cert.DownProjIdeal.nD Cert.DownProjIdeal.τ).loc Cert.DownProjIdeal.main_arg0)
      ∧ m' ((c.tc : Thread Cert.DownProjReferenceIdeal.nD Cert.DownProjReferenceIdeal.τ).loc Cert.DownProjReferenceIdeal.main_arg1) = m ((c.tc : Thread Cert.DownProjIdeal.nD Cert.DownProjIdeal.τ).loc Cert.DownProjIdeal.main_arg1)
      ∧ m' ((c.tc : Thread Cert.DownProjReferenceIdeal.nD Cert.DownProjReferenceIdeal.τ).loc Cert.DownProjReferenceIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjReferenceIdeal.defs (F := Ideal)) (onTc (τ := Cert.DownProjReferenceIdeal.τ) (Cert.DownProjReferenceIdeal.main (F := Ideal))) ⟨m', fun _ => 0, g'⟩ (fun r => ∀ c : Dev Cert.DownProjReferenceIdeal.nD,
          r.2.mem ((c.tc : Thread Cert.DownProjReferenceIdeal.nD Cert.DownProjReferenceIdeal.τ).loc Cert.DownProjReferenceIdeal.main_v3) = v0 c
          ∧ r.2.mem ((c.tc : Thread Cert.DownProjReferenceIdeal.nD Cert.DownProjReferenceIdeal.τ).loc Cert.DownProjReferenceIdeal.main_arg0) = m' ((c.tc : Thread Cert.DownProjReferenceIdeal.nD Cert.DownProjReferenceIdeal.τ).loc Cert.DownProjReferenceIdeal.main_arg0)
          ∧ r.2.mem ((c.tc : Thread Cert.DownProjReferenceIdeal.nD Cert.DownProjReferenceIdeal.τ).loc Cert.DownProjReferenceIdeal.main_arg1) = m' ((c.tc : Thread Cert.DownProjReferenceIdeal.nD Cert.DownProjReferenceIdeal.τ).loc Cert.DownProjReferenceIdeal.main_arg1)
          ∧ r.2.mem ((c.tc : Thread Cert.DownProjReferenceIdeal.nD Cert.DownProjReferenceIdeal.τ).loc Cert.DownProjReferenceIdeal.main_arg2) = m' ((c.tc : Thread Cert.DownProjReferenceIdeal.nD Cert.DownProjReferenceIdeal.τ).loc Cert.DownProjReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_InBwdX_InBwdXIdeal : Prop :=
  True

def algebraic_InBwdXIdeal_InBwdXReferenceIdeal [hInBwdXIdeal : Cert.InBwdXIdeal.Facts] [hInBwdXReferenceIdeal : Cert.InBwdXReferenceIdeal.Facts] : Prop :=
  ∀ (m : (ℓ : Loc Cert.InBwdXIdeal.nD Cert.InBwdXIdeal.τ Cert.InBwdXIdeal.sig) → Buf (Elt Ideal) ℓ) (g : Dev Cert.InBwdXIdeal.nD → PrngReg)
    (m' : (ℓ : Loc Cert.InBwdXReferenceIdeal.nD Cert.InBwdXReferenceIdeal.τ Cert.InBwdXReferenceIdeal.sig) → Buf (Elt Ideal) ℓ) (g' : Dev Cert.InBwdXReferenceIdeal.nD → PrngReg), Pre_InBwdXIdeal m →
    (∀ c : Dev Cert.InBwdXIdeal.nD,
      m' ((c.tc : Thread Cert.InBwdXReferenceIdeal.nD Cert.InBwdXReferenceIdeal.τ).loc Cert.InBwdXReferenceIdeal.main_arg0) = m ((c.tc : Thread Cert.InBwdXIdeal.nD Cert.InBwdXIdeal.τ).loc Cert.InBwdXIdeal.main_arg0)
      ∧ m' ((c.tc : Thread Cert.InBwdXReferenceIdeal.nD Cert.InBwdXReferenceIdeal.τ).loc Cert.InBwdXReferenceIdeal.main_arg1) = m ((c.tc : Thread Cert.InBwdXIdeal.nD Cert.InBwdXIdeal.τ).loc Cert.InBwdXIdeal.main_arg1)) →
    ∃ (v0 : (c : Dev Cert.InBwdXIdeal.nD) → Buf (Elt Ideal) ((c.tc : Thread Cert.InBwdXIdeal.nD Cert.InBwdXIdeal.τ).loc Cert.InBwdXIdeal.main_v2)),
      θ_run (Cert.InBwdXIdeal.defs (F := Ideal)) (onTc (τ := Cert.InBwdXIdeal.τ) (Cert.InBwdXIdeal.main (F := Ideal))) ⟨m, fun _ => 0, g⟩ (fun r => ∀ c : Dev Cert.InBwdXIdeal.nD,
          r.2.mem ((c.tc : Thread Cert.InBwdXIdeal.nD Cert.InBwdXIdeal.τ).loc Cert.InBwdXIdeal.main_v2) = v0 c
          ∧ r.2.mem ((c.tc : Thread Cert.InBwdXIdeal.nD Cert.InBwdXIdeal.τ).loc Cert.InBwdXIdeal.main_arg0) = m ((c.tc : Thread Cert.InBwdXIdeal.nD Cert.InBwdXIdeal.τ).loc Cert.InBwdXIdeal.main_arg0)
          ∧ r.2.mem ((c.tc : Thread Cert.InBwdXIdeal.nD Cert.InBwdXIdeal.τ).loc Cert.InBwdXIdeal.main_arg1) = m ((c.tc : Thread Cert.InBwdXIdeal.nD Cert.InBwdXIdeal.τ).loc Cert.InBwdXIdeal.main_arg1))
      ∧ θ_run (Cert.InBwdXReferenceIdeal.defs (F := Ideal)) (onTc (τ := Cert.InBwdXReferenceIdeal.τ) (Cert.InBwdXReferenceIdeal.main (F := Ideal))) ⟨m', fun _ => 0, g'⟩ (fun r => ∀ c : Dev Cert.InBwdXReferenceIdeal.nD,
          r.2.mem ((c.tc : Thread Cert.InBwdXReferenceIdeal.nD Cert.InBwdXReferenceIdeal.τ).loc Cert.InBwdXReferenceIdeal.main_v4) = v0 c
          ∧ r.2.mem ((c.tc : Thread Cert.InBwdXReferenceIdeal.nD Cert.InBwdXReferenceIdeal.τ).loc Cert.InBwdXReferenceIdeal.main_arg0) = m' ((c.tc : Thread Cert.InBwdXReferenceIdeal.nD Cert.InBwdXReferenceIdeal.τ).loc Cert.InBwdXReferenceIdeal.main_arg0)
          ∧ r.2.mem ((c.tc : Thread Cert.InBwdXReferenceIdeal.nD Cert.InBwdXReferenceIdeal.τ).loc Cert.InBwdXReferenceIdeal.main_arg1) = m' ((c.tc : Thread Cert.InBwdXReferenceIdeal.nD Cert.InBwdXReferenceIdeal.τ).loc Cert.InBwdXReferenceIdeal.main_arg1))

def preserves_InBwdW_InBwdWIdeal : Prop :=
  True

def algebraic_InBwdWIdeal_InBwdWReferenceIdeal [hInBwdWIdeal : Cert.InBwdWIdeal.Facts] [hInBwdWReferenceIdeal : Cert.InBwdWReferenceIdeal.Facts] : Prop :=
  ∀ (m : (ℓ : Loc Cert.InBwdWIdeal.nD Cert.InBwdWIdeal.τ Cert.InBwdWIdeal.sig) → Buf (Elt Ideal) ℓ) (g : Dev Cert.InBwdWIdeal.nD → PrngReg)
    (m' : (ℓ : Loc Cert.InBwdWReferenceIdeal.nD Cert.InBwdWReferenceIdeal.τ Cert.InBwdWReferenceIdeal.sig) → Buf (Elt Ideal) ℓ) (g' : Dev Cert.InBwdWReferenceIdeal.nD → PrngReg), Pre_InBwdWIdeal m →
    (∀ c : Dev Cert.InBwdWIdeal.nD,
      m' ((c.tc : Thread Cert.InBwdWReferenceIdeal.nD Cert.InBwdWReferenceIdeal.τ).loc Cert.InBwdWReferenceIdeal.main_arg0) = m ((c.tc : Thread Cert.InBwdWIdeal.nD Cert.InBwdWIdeal.τ).loc Cert.InBwdWIdeal.main_arg0)
      ∧ m' ((c.tc : Thread Cert.InBwdWReferenceIdeal.nD Cert.InBwdWReferenceIdeal.τ).loc Cert.InBwdWReferenceIdeal.main_arg1) = m ((c.tc : Thread Cert.InBwdWIdeal.nD Cert.InBwdWIdeal.τ).loc Cert.InBwdWIdeal.main_arg1)) →
    ∃ (v0 : (c : Dev Cert.InBwdWIdeal.nD) → Buf (Elt Ideal) ((c.tc : Thread Cert.InBwdWIdeal.nD Cert.InBwdWIdeal.τ).loc Cert.InBwdWIdeal.main_v1)),
      θ_run (Cert.InBwdWIdeal.defs (F := Ideal)) (onTc (τ := Cert.InBwdWIdeal.τ) (Cert.InBwdWIdeal.main (F := Ideal))) ⟨m, fun _ => 0, g⟩ (fun r => ∀ c : Dev Cert.InBwdWIdeal.nD,
          r.2.mem ((c.tc : Thread Cert.InBwdWIdeal.nD Cert.InBwdWIdeal.τ).loc Cert.InBwdWIdeal.main_v1) = v0 c
          ∧ r.2.mem ((c.tc : Thread Cert.InBwdWIdeal.nD Cert.InBwdWIdeal.τ).loc Cert.InBwdWIdeal.main_arg0) = m ((c.tc : Thread Cert.InBwdWIdeal.nD Cert.InBwdWIdeal.τ).loc Cert.InBwdWIdeal.main_arg0)
          ∧ r.2.mem ((c.tc : Thread Cert.InBwdWIdeal.nD Cert.InBwdWIdeal.τ).loc Cert.InBwdWIdeal.main_arg1) = m ((c.tc : Thread Cert.InBwdWIdeal.nD Cert.InBwdWIdeal.τ).loc Cert.InBwdWIdeal.main_arg1))
      ∧ θ_run (Cert.InBwdWReferenceIdeal.defs (F := Ideal)) (onTc (τ := Cert.InBwdWReferenceIdeal.τ) (Cert.InBwdWReferenceIdeal.main (F := Ideal))) ⟨m', fun _ => 0, g'⟩ (fun r => ∀ c : Dev Cert.InBwdWReferenceIdeal.nD,
          r.2.mem ((c.tc : Thread Cert.InBwdWReferenceIdeal.nD Cert.InBwdWReferenceIdeal.τ).loc Cert.InBwdWReferenceIdeal.main_v7) = v0 c
          ∧ r.2.mem ((c.tc : Thread Cert.InBwdWReferenceIdeal.nD Cert.InBwdWReferenceIdeal.τ).loc Cert.InBwdWReferenceIdeal.main_arg0) = m' ((c.tc : Thread Cert.InBwdWReferenceIdeal.nD Cert.InBwdWReferenceIdeal.τ).loc Cert.InBwdWReferenceIdeal.main_arg0)
          ∧ r.2.mem ((c.tc : Thread Cert.InBwdWReferenceIdeal.nD Cert.InBwdWReferenceIdeal.τ).loc Cert.InBwdWReferenceIdeal.main_arg1) = m' ((c.tc : Thread Cert.InBwdWReferenceIdeal.nD Cert.InBwdWReferenceIdeal.τ).loc Cert.InBwdWReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_OutBwdX_OutBwdXIdeal : Prop :=
  True

def algebraic_OutBwdXIdeal_OutBwdXReferenceIdeal [hOutBwdXIdeal : Cert.OutBwdXIdeal.Facts] [hOutBwdXReferenceIdeal : Cert.OutBwdXReferenceIdeal.Facts] : Prop :=
  ∀ (m : (ℓ : Loc Cert.OutBwdXIdeal.nD Cert.OutBwdXIdeal.τ Cert.OutBwdXIdeal.sig) → Buf (Elt Ideal) ℓ) (g : Dev Cert.OutBwdXIdeal.nD → PrngReg)
    (m' : (ℓ : Loc Cert.OutBwdXReferenceIdeal.nD Cert.OutBwdXReferenceIdeal.τ Cert.OutBwdXReferenceIdeal.sig) → Buf (Elt Ideal) ℓ) (g' : Dev Cert.OutBwdXReferenceIdeal.nD → PrngReg), Pre_OutBwdXIdeal m →
    (∀ c : Dev Cert.OutBwdXIdeal.nD,
      m' ((c.tc : Thread Cert.OutBwdXReferenceIdeal.nD Cert.OutBwdXReferenceIdeal.τ).loc Cert.OutBwdXReferenceIdeal.main_arg0) = m ((c.tc : Thread Cert.OutBwdXIdeal.nD Cert.OutBwdXIdeal.τ).loc Cert.OutBwdXIdeal.main_arg0)
      ∧ m' ((c.tc : Thread Cert.OutBwdXReferenceIdeal.nD Cert.OutBwdXReferenceIdeal.τ).loc Cert.OutBwdXReferenceIdeal.main_arg1) = m ((c.tc : Thread Cert.OutBwdXIdeal.nD Cert.OutBwdXIdeal.τ).loc Cert.OutBwdXIdeal.main_arg1)) →
    ∃ (v0 : (c : Dev Cert.OutBwdXIdeal.nD) → Buf (Elt Ideal) ((c.tc : Thread Cert.OutBwdXIdeal.nD Cert.OutBwdXIdeal.τ).loc Cert.OutBwdXIdeal.main_v0)),
      θ_run (Cert.OutBwdXIdeal.defs (F := Ideal)) (onTc (τ := Cert.OutBwdXIdeal.τ) (Cert.OutBwdXIdeal.main (F := Ideal))) ⟨m, fun _ => 0, g⟩ (fun r => ∀ c : Dev Cert.OutBwdXIdeal.nD,
          r.2.mem ((c.tc : Thread Cert.OutBwdXIdeal.nD Cert.OutBwdXIdeal.τ).loc Cert.OutBwdXIdeal.main_v0) = v0 c
          ∧ r.2.mem ((c.tc : Thread Cert.OutBwdXIdeal.nD Cert.OutBwdXIdeal.τ).loc Cert.OutBwdXIdeal.main_arg0) = m ((c.tc : Thread Cert.OutBwdXIdeal.nD Cert.OutBwdXIdeal.τ).loc Cert.OutBwdXIdeal.main_arg0)
          ∧ r.2.mem ((c.tc : Thread Cert.OutBwdXIdeal.nD Cert.OutBwdXIdeal.τ).loc Cert.OutBwdXIdeal.main_arg1) = m ((c.tc : Thread Cert.OutBwdXIdeal.nD Cert.OutBwdXIdeal.τ).loc Cert.OutBwdXIdeal.main_arg1))
      ∧ θ_run (Cert.OutBwdXReferenceIdeal.defs (F := Ideal)) (onTc (τ := Cert.OutBwdXReferenceIdeal.τ) (Cert.OutBwdXReferenceIdeal.main (F := Ideal))) ⟨m', fun _ => 0, g'⟩ (fun r => ∀ c : Dev Cert.OutBwdXReferenceIdeal.nD,
          r.2.mem ((c.tc : Thread Cert.OutBwdXReferenceIdeal.nD Cert.OutBwdXReferenceIdeal.τ).loc Cert.OutBwdXReferenceIdeal.main_v4) = v0 c
          ∧ r.2.mem ((c.tc : Thread Cert.OutBwdXReferenceIdeal.nD Cert.OutBwdXReferenceIdeal.τ).loc Cert.OutBwdXReferenceIdeal.main_arg0) = m' ((c.tc : Thread Cert.OutBwdXReferenceIdeal.nD Cert.OutBwdXReferenceIdeal.τ).loc Cert.OutBwdXReferenceIdeal.main_arg0)
          ∧ r.2.mem ((c.tc : Thread Cert.OutBwdXReferenceIdeal.nD Cert.OutBwdXReferenceIdeal.τ).loc Cert.OutBwdXReferenceIdeal.main_arg1) = m' ((c.tc : Thread Cert.OutBwdXReferenceIdeal.nD Cert.OutBwdXReferenceIdeal.τ).loc Cert.OutBwdXReferenceIdeal.main_arg1))

def preserves_OutBwdW_OutBwdWIdeal : Prop :=
  True

def algebraic_OutBwdWIdeal_OutBwdWReferenceIdeal [hOutBwdWIdeal : Cert.OutBwdWIdeal.Facts] [hOutBwdWReferenceIdeal : Cert.OutBwdWReferenceIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg)
    (m' : (ℓ : Loc Cert.OutBwdWReferenceIdeal.nD Cert.OutBwdWReferenceIdeal.τ Cert.OutBwdWReferenceIdeal.sig) → Buf (Elt Ideal) ℓ) (g' : Dev Cert.OutBwdWReferenceIdeal.nD → PrngReg), Pre_OutBwdWIdeal m →
    (∀ c : Dev Cert.OutBwdWIdeal.nD,
      m' ((c.tc : Thread Cert.OutBwdWReferenceIdeal.nD Cert.OutBwdWReferenceIdeal.τ).loc Cert.OutBwdWReferenceIdeal.main_arg0) = m ((c.tc : Thread Cert.OutBwdWIdeal.nD Cert.OutBwdWIdeal.τ).loc Cert.OutBwdWIdeal.main_arg0)
      ∧ m' ((c.tc : Thread Cert.OutBwdWReferenceIdeal.nD Cert.OutBwdWReferenceIdeal.τ).loc Cert.OutBwdWReferenceIdeal.main_arg1) = m ((c.tc : Thread Cert.OutBwdWIdeal.nD Cert.OutBwdWIdeal.τ).loc Cert.OutBwdWIdeal.main_arg1)) →
    ∃ (v0 : (c : Dev Cert.OutBwdWIdeal.nD) → Buf (Elt Ideal) ((c.tc : Thread Cert.OutBwdWIdeal.nD Cert.OutBwdWIdeal.τ).loc Cert.OutBwdWIdeal.main_v0)),
      θ_run (Cert.OutBwdWIdeal.defs (F := Ideal)) (onTc (τ := Cert.OutBwdWIdeal.τ) (Cert.OutBwdWIdeal.main (F := Ideal))) ⟨m, fun _ => 0, g⟩ (fun r => ∀ c : Dev Cert.OutBwdWIdeal.nD,
          r.2.mem ((c.tc : Thread Cert.OutBwdWIdeal.nD Cert.OutBwdWIdeal.τ).loc Cert.OutBwdWIdeal.main_v0) = v0 c
          ∧ r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
          ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ θ_run (Cert.OutBwdWReferenceIdeal.defs (F := Ideal)) (onTc (τ := Cert.OutBwdWReferenceIdeal.τ) (Cert.OutBwdWReferenceIdeal.main (F := Ideal))) ⟨m', fun _ => 0, g'⟩ (fun r => ∀ c : Dev Cert.OutBwdWReferenceIdeal.nD,
          r.2.mem ((c.tc : Thread Cert.OutBwdWReferenceIdeal.nD Cert.OutBwdWReferenceIdeal.τ).loc Cert.OutBwdWReferenceIdeal.main_v6) = v0 c
          ∧ r.2.mem ((c.tc : Thread Cert.OutBwdWReferenceIdeal.nD Cert.OutBwdWReferenceIdeal.τ).loc Cert.OutBwdWReferenceIdeal.main_arg0) = m' ((c.tc : Thread Cert.OutBwdWReferenceIdeal.nD Cert.OutBwdWReferenceIdeal.τ).loc Cert.OutBwdWReferenceIdeal.main_arg0)
          ∧ r.2.mem ((c.tc : Thread Cert.OutBwdWReferenceIdeal.nD Cert.OutBwdWReferenceIdeal.τ).loc Cert.OutBwdWReferenceIdeal.main_arg1) = m' ((c.tc : Thread Cert.OutBwdWReferenceIdeal.nD Cert.OutBwdWReferenceIdeal.τ).loc Cert.OutBwdWReferenceIdeal.main_arg1))

def preserves_GluProj_GluProjIdeal : Prop :=
  True

def algebraic_GluProjIdeal_GluProjReferenceIdeal [hGluProjIdeal : Cert.GluProjIdeal.Facts] [hGluProjReferenceIdeal : Cert.GluProjReferenceIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjReferenceIdeal.nD Cert.GluProjReferenceIdeal.τ Cert.GluProjReferenceIdeal.sig) → Buf (Elt Ideal) ℓ) (g' : Dev Cert.GluProjReferenceIdeal.nD → PrngReg), Pre_GluProjIdeal m →
    (∀ c : Dev Cert.GluProjIdeal.nD,
      m' ((c.tc : Thread Cert.GluProjReferenceIdeal.nD Cert.GluProjReferenceIdeal.τ).loc Cert.GluProjReferenceIdeal.main_arg0) = m ((c.tc : Thread Cert.GluProjIdeal.nD Cert.GluProjIdeal.τ).loc Cert.GluProjIdeal.main_arg0)
      ∧ m' ((c.tc : Thread Cert.GluProjReferenceIdeal.nD Cert.GluProjReferenceIdeal.τ).loc Cert.GluProjReferenceIdeal.main_arg1) = m ((c.tc : Thread Cert.GluProjIdeal.nD Cert.GluProjIdeal.τ).loc Cert.GluProjIdeal.main_arg1)) →
    ∃ (v0 : (c : Dev Cert.GluProjIdeal.nD) → Buf (Elt Ideal) ((c.tc : Thread Cert.GluProjIdeal.nD Cert.GluProjIdeal.τ).loc Cert.GluProjIdeal.main_v0)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v0) = v0 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ θ_run (Cert.GluProjReferenceIdeal.defs (F := Ideal)) (onTc (τ := Cert.GluProjReferenceIdeal.τ) (Cert.GluProjReferenceIdeal.main (F := Ideal))) ⟨m', fun _ => 0, g'⟩ (fun r => ∀ c : Dev Cert.GluProjReferenceIdeal.nD,
          r.2.mem ((c.tc : Thread Cert.GluProjReferenceIdeal.nD Cert.GluProjReferenceIdeal.τ).loc Cert.GluProjReferenceIdeal.main_v2) = v0 c
          ∧ r.2.mem ((c.tc : Thread Cert.GluProjReferenceIdeal.nD Cert.GluProjReferenceIdeal.τ).loc Cert.GluProjReferenceIdeal.main_arg0) = m' ((c.tc : Thread Cert.GluProjReferenceIdeal.nD Cert.GluProjReferenceIdeal.τ).loc Cert.GluProjReferenceIdeal.main_arg0)
          ∧ r.2.mem ((c.tc : Thread Cert.GluProjReferenceIdeal.nD Cert.GluProjReferenceIdeal.τ).loc Cert.GluProjReferenceIdeal.main_arg1) = m' ((c.tc : Thread Cert.GluProjReferenceIdeal.nD Cert.GluProjReferenceIdeal.τ).loc Cert.GluProjReferenceIdeal.main_arg1))

def preserves_GluBwdX_GluBwdXIdeal : Prop :=
  True

def algebraic_GluBwdXIdeal_GluBwdXReferenceIdeal [hGluBwdXIdeal : Cert.GluBwdXIdeal.Facts] [hGluBwdXReferenceIdeal : Cert.GluBwdXReferenceIdeal.Facts] : Prop :=
  ∀ (m : (ℓ : Loc Cert.GluBwdXIdeal.nD Cert.GluBwdXIdeal.τ Cert.GluBwdXIdeal.sig) → Buf (Elt Ideal) ℓ) (g : Dev Cert.GluBwdXIdeal.nD → PrngReg)
    (m' : (ℓ : Loc Cert.GluBwdXReferenceIdeal.nD Cert.GluBwdXReferenceIdeal.τ Cert.GluBwdXReferenceIdeal.sig) → Buf (Elt Ideal) ℓ) (g' : Dev Cert.GluBwdXReferenceIdeal.nD → PrngReg), Pre_GluBwdXIdeal m →
    (∀ c : Dev Cert.GluBwdXIdeal.nD,
      m' ((c.tc : Thread Cert.GluBwdXReferenceIdeal.nD Cert.GluBwdXReferenceIdeal.τ).loc Cert.GluBwdXReferenceIdeal.main_arg0) = m ((c.tc : Thread Cert.GluBwdXIdeal.nD Cert.GluBwdXIdeal.τ).loc Cert.GluBwdXIdeal.main_arg0)
      ∧ m' ((c.tc : Thread Cert.GluBwdXReferenceIdeal.nD Cert.GluBwdXReferenceIdeal.τ).loc Cert.GluBwdXReferenceIdeal.main_arg1) = m ((c.tc : Thread Cert.GluBwdXIdeal.nD Cert.GluBwdXIdeal.τ).loc Cert.GluBwdXIdeal.main_arg1)
      ∧ m' ((c.tc : Thread Cert.GluBwdXReferenceIdeal.nD Cert.GluBwdXReferenceIdeal.τ).loc Cert.GluBwdXReferenceIdeal.main_arg2) = m ((c.tc : Thread Cert.GluBwdXIdeal.nD Cert.GluBwdXIdeal.τ).loc Cert.GluBwdXIdeal.main_arg2)) →
    ∃ (v0 : (c : Dev Cert.GluBwdXIdeal.nD) → Buf (Elt Ideal) ((c.tc : Thread Cert.GluBwdXIdeal.nD Cert.GluBwdXIdeal.τ).loc Cert.GluBwdXIdeal.main_v0)),
      θ_run (Cert.GluBwdXIdeal.defs (F := Ideal)) (onTc (τ := Cert.GluBwdXIdeal.τ) (Cert.GluBwdXIdeal.main (F := Ideal))) ⟨m, fun _ => 0, g⟩ (fun r => ∀ c : Dev Cert.GluBwdXIdeal.nD,
          r.2.mem ((c.tc : Thread Cert.GluBwdXIdeal.nD Cert.GluBwdXIdeal.τ).loc Cert.GluBwdXIdeal.main_v0) = v0 c
          ∧ r.2.mem ((c.tc : Thread Cert.GluBwdXIdeal.nD Cert.GluBwdXIdeal.τ).loc Cert.GluBwdXIdeal.main_arg0) = m ((c.tc : Thread Cert.GluBwdXIdeal.nD Cert.GluBwdXIdeal.τ).loc Cert.GluBwdXIdeal.main_arg0)
          ∧ r.2.mem ((c.tc : Thread Cert.GluBwdXIdeal.nD Cert.GluBwdXIdeal.τ).loc Cert.GluBwdXIdeal.main_arg1) = m ((c.tc : Thread Cert.GluBwdXIdeal.nD Cert.GluBwdXIdeal.τ).loc Cert.GluBwdXIdeal.main_arg1)
          ∧ r.2.mem ((c.tc : Thread Cert.GluBwdXIdeal.nD Cert.GluBwdXIdeal.τ).loc Cert.GluBwdXIdeal.main_arg2) = m ((c.tc : Thread Cert.GluBwdXIdeal.nD Cert.GluBwdXIdeal.τ).loc Cert.GluBwdXIdeal.main_arg2))
      ∧ θ_run (Cert.GluBwdXReferenceIdeal.defs (F := Ideal)) (onTc (τ := Cert.GluBwdXReferenceIdeal.τ) (Cert.GluBwdXReferenceIdeal.main (F := Ideal))) ⟨m', fun _ => 0, g'⟩ (fun r => ∀ c : Dev Cert.GluBwdXReferenceIdeal.nD,
          r.2.mem ((c.tc : Thread Cert.GluBwdXReferenceIdeal.nD Cert.GluBwdXReferenceIdeal.τ).loc Cert.GluBwdXReferenceIdeal.main_v5) = v0 c
          ∧ r.2.mem ((c.tc : Thread Cert.GluBwdXReferenceIdeal.nD Cert.GluBwdXReferenceIdeal.τ).loc Cert.GluBwdXReferenceIdeal.main_arg0) = m' ((c.tc : Thread Cert.GluBwdXReferenceIdeal.nD Cert.GluBwdXReferenceIdeal.τ).loc Cert.GluBwdXReferenceIdeal.main_arg0)
          ∧ r.2.mem ((c.tc : Thread Cert.GluBwdXReferenceIdeal.nD Cert.GluBwdXReferenceIdeal.τ).loc Cert.GluBwdXReferenceIdeal.main_arg1) = m' ((c.tc : Thread Cert.GluBwdXReferenceIdeal.nD Cert.GluBwdXReferenceIdeal.τ).loc Cert.GluBwdXReferenceIdeal.main_arg1)
          ∧ r.2.mem ((c.tc : Thread Cert.GluBwdXReferenceIdeal.nD Cert.GluBwdXReferenceIdeal.τ).loc Cert.GluBwdXReferenceIdeal.main_arg2) = m' ((c.tc : Thread Cert.GluBwdXReferenceIdeal.nD Cert.GluBwdXReferenceIdeal.τ).loc Cert.GluBwdXReferenceIdeal.main_arg2))

def preserves_GluBwdW_GluBwdWIdeal : Prop :=
  True

def algebraic_GluBwdWIdeal_GluBwdWReferenceIdeal [hGluBwdWIdeal : Cert.GluBwdWIdeal.Facts] [hGluBwdWReferenceIdeal : Cert.GluBwdWReferenceIdeal.Facts] : Prop :=
  ∀ (m : (ℓ : Loc Cert.GluBwdWIdeal.nD Cert.GluBwdWIdeal.τ Cert.GluBwdWIdeal.sig) → Buf (Elt Ideal) ℓ) (g : Dev Cert.GluBwdWIdeal.nD → PrngReg)
    (m' : (ℓ : Loc Cert.GluBwdWReferenceIdeal.nD Cert.GluBwdWReferenceIdeal.τ Cert.GluBwdWReferenceIdeal.sig) → Buf (Elt Ideal) ℓ) (g' : Dev Cert.GluBwdWReferenceIdeal.nD → PrngReg), Pre_GluBwdWIdeal m →
    (∀ c : Dev Cert.GluBwdWIdeal.nD,
      m' ((c.tc : Thread Cert.GluBwdWReferenceIdeal.nD Cert.GluBwdWReferenceIdeal.τ).loc Cert.GluBwdWReferenceIdeal.main_arg0) = m ((c.tc : Thread Cert.GluBwdWIdeal.nD Cert.GluBwdWIdeal.τ).loc Cert.GluBwdWIdeal.main_arg0)
      ∧ m' ((c.tc : Thread Cert.GluBwdWReferenceIdeal.nD Cert.GluBwdWReferenceIdeal.τ).loc Cert.GluBwdWReferenceIdeal.main_arg1) = m ((c.tc : Thread Cert.GluBwdWIdeal.nD Cert.GluBwdWIdeal.τ).loc Cert.GluBwdWIdeal.main_arg1)) →
    ∃ (v0 : (c : Dev Cert.GluBwdWIdeal.nD) → Buf (Elt Ideal) ((c.tc : Thread Cert.GluBwdWIdeal.nD Cert.GluBwdWIdeal.τ).loc Cert.GluBwdWIdeal.main_v0)),
      θ_run (Cert.GluBwdWIdeal.defs (F := Ideal)) (onTc (τ := Cert.GluBwdWIdeal.τ) (Cert.GluBwdWIdeal.main (F := Ideal))) ⟨m, fun _ => 0, g⟩ (fun r => ∀ c : Dev Cert.GluBwdWIdeal.nD,
          r.2.mem ((c.tc : Thread Cert.GluBwdWIdeal.nD Cert.GluBwdWIdeal.τ).loc Cert.GluBwdWIdeal.main_v0) = v0 c
          ∧ r.2.mem ((c.tc : Thread Cert.GluBwdWIdeal.nD Cert.GluBwdWIdeal.τ).loc Cert.GluBwdWIdeal.main_arg0) = m ((c.tc : Thread Cert.GluBwdWIdeal.nD Cert.GluBwdWIdeal.τ).loc Cert.GluBwdWIdeal.main_arg0)
          ∧ r.2.mem ((c.tc : Thread Cert.GluBwdWIdeal.nD Cert.GluBwdWIdeal.τ).loc Cert.GluBwdWIdeal.main_arg1) = m ((c.tc : Thread Cert.GluBwdWIdeal.nD Cert.GluBwdWIdeal.τ).loc Cert.GluBwdWIdeal.main_arg1))
      ∧ θ_run (Cert.GluBwdWReferenceIdeal.defs (F := Ideal)) (onTc (τ := Cert.GluBwdWReferenceIdeal.τ) (Cert.GluBwdWReferenceIdeal.main (F := Ideal))) ⟨m', fun _ => 0, g'⟩ (fun r => ∀ c : Dev Cert.GluBwdWReferenceIdeal.nD,
          r.2.mem ((c.tc : Thread Cert.GluBwdWReferenceIdeal.nD Cert.GluBwdWReferenceIdeal.τ).loc Cert.GluBwdWReferenceIdeal.main_v6) = v0 c
          ∧ r.2.mem ((c.tc : Thread Cert.GluBwdWReferenceIdeal.nD Cert.GluBwdWReferenceIdeal.τ).loc Cert.GluBwdWReferenceIdeal.main_arg0) = m' ((c.tc : Thread Cert.GluBwdWReferenceIdeal.nD Cert.GluBwdWReferenceIdeal.τ).loc Cert.GluBwdWReferenceIdeal.main_arg0)
          ∧ r.2.mem ((c.tc : Thread Cert.GluBwdWReferenceIdeal.nD Cert.GluBwdWReferenceIdeal.τ).loc Cert.GluBwdWReferenceIdeal.main_arg1) = m' ((c.tc : Thread Cert.GluBwdWReferenceIdeal.nD Cert.GluBwdWReferenceIdeal.τ).loc Cert.GluBwdWReferenceIdeal.main_arg1))

def preserves_QProj_QProjIdeal : Prop :=
  True

def algebraic_QProjIdeal_QProjReferenceIdeal [hQProjIdeal : Cert.QProjIdeal.Facts] [hQProjReferenceIdeal : Cert.QProjReferenceIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v1)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v1) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v4) = v0 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1))

def preserves_QBwdW_QBwdWIdeal : Prop :=
  True

def algebraic_QBwdWIdeal_QBwdWReferenceIdeal [hQBwdWIdeal : Cert.QBwdWIdeal.Facts] [hQBwdWReferenceIdeal : Cert.QBwdWReferenceIdeal.Facts] : Prop :=
  ∀ (m : (ℓ : Loc Cert.QBwdWIdeal.nD Cert.QBwdWIdeal.τ Cert.QBwdWIdeal.sig) → Buf (Elt Ideal) ℓ) (g : Dev Cert.QBwdWIdeal.nD → PrngReg)
    (m' : (ℓ : Loc Cert.QBwdWReferenceIdeal.nD Cert.QBwdWReferenceIdeal.τ Cert.QBwdWReferenceIdeal.sig) → Buf (Elt Ideal) ℓ) (g' : Dev Cert.QBwdWReferenceIdeal.nD → PrngReg), Pre_QBwdWIdeal m →
    (∀ c : Dev Cert.QBwdWIdeal.nD,
      m' ((c.tc : Thread Cert.QBwdWReferenceIdeal.nD Cert.QBwdWReferenceIdeal.τ).loc Cert.QBwdWReferenceIdeal.main_arg0) = m ((c.tc : Thread Cert.QBwdWIdeal.nD Cert.QBwdWIdeal.τ).loc Cert.QBwdWIdeal.main_arg0)
      ∧ m' ((c.tc : Thread Cert.QBwdWReferenceIdeal.nD Cert.QBwdWReferenceIdeal.τ).loc Cert.QBwdWReferenceIdeal.main_arg1) = m ((c.tc : Thread Cert.QBwdWIdeal.nD Cert.QBwdWIdeal.τ).loc Cert.QBwdWIdeal.main_arg1)) →
    ∃ (v0 : (c : Dev Cert.QBwdWIdeal.nD) → Buf (Elt Ideal) ((c.tc : Thread Cert.QBwdWIdeal.nD Cert.QBwdWIdeal.τ).loc Cert.QBwdWIdeal.main_v1)),
      θ_run (Cert.QBwdWIdeal.defs (F := Ideal)) (onTc (τ := Cert.QBwdWIdeal.τ) (Cert.QBwdWIdeal.main (F := Ideal))) ⟨m, fun _ => 0, g⟩ (fun r => ∀ c : Dev Cert.QBwdWIdeal.nD,
          r.2.mem ((c.tc : Thread Cert.QBwdWIdeal.nD Cert.QBwdWIdeal.τ).loc Cert.QBwdWIdeal.main_v1) = v0 c
          ∧ r.2.mem ((c.tc : Thread Cert.QBwdWIdeal.nD Cert.QBwdWIdeal.τ).loc Cert.QBwdWIdeal.main_arg0) = m ((c.tc : Thread Cert.QBwdWIdeal.nD Cert.QBwdWIdeal.τ).loc Cert.QBwdWIdeal.main_arg0)
          ∧ r.2.mem ((c.tc : Thread Cert.QBwdWIdeal.nD Cert.QBwdWIdeal.τ).loc Cert.QBwdWIdeal.main_arg1) = m ((c.tc : Thread Cert.QBwdWIdeal.nD Cert.QBwdWIdeal.τ).loc Cert.QBwdWIdeal.main_arg1))
      ∧ θ_run (Cert.QBwdWReferenceIdeal.defs (F := Ideal)) (onTc (τ := Cert.QBwdWReferenceIdeal.τ) (Cert.QBwdWReferenceIdeal.main (F := Ideal))) ⟨m', fun _ => 0, g'⟩ (fun r => ∀ c : Dev Cert.QBwdWReferenceIdeal.nD,
          r.2.mem ((c.tc : Thread Cert.QBwdWReferenceIdeal.nD Cert.QBwdWReferenceIdeal.τ).loc Cert.QBwdWReferenceIdeal.main_v9) = v0 c
          ∧ r.2.mem ((c.tc : Thread Cert.QBwdWReferenceIdeal.nD Cert.QBwdWReferenceIdeal.τ).loc Cert.QBwdWReferenceIdeal.main_arg0) = m' ((c.tc : Thread Cert.QBwdWReferenceIdeal.nD Cert.QBwdWReferenceIdeal.τ).loc Cert.QBwdWReferenceIdeal.main_arg0)
          ∧ r.2.mem ((c.tc : Thread Cert.QBwdWReferenceIdeal.nD Cert.QBwdWReferenceIdeal.τ).loc Cert.QBwdWReferenceIdeal.main_arg1) = m' ((c.tc : Thread Cert.QBwdWReferenceIdeal.nD Cert.QBwdWReferenceIdeal.τ).loc Cert.QBwdWReferenceIdeal.main_arg1))

def preserves_QBwdX_QBwdXIdeal : Prop :=
  True

def algebraic_QBwdXIdeal_QBwdXReferenceIdeal [hQBwdXIdeal : Cert.QBwdXIdeal.Facts] [hQBwdXReferenceIdeal : Cert.QBwdXReferenceIdeal.Facts] : Prop :=
  ∀ (m : (ℓ : Loc Cert.QBwdXIdeal.nD Cert.QBwdXIdeal.τ Cert.QBwdXIdeal.sig) → Buf (Elt Ideal) ℓ) (g : Dev Cert.QBwdXIdeal.nD → PrngReg)
    (m' : (ℓ : Loc Cert.QBwdXReferenceIdeal.nD Cert.QBwdXReferenceIdeal.τ Cert.QBwdXReferenceIdeal.sig) → Buf (Elt Ideal) ℓ) (g' : Dev Cert.QBwdXReferenceIdeal.nD → PrngReg), Pre_QBwdXIdeal m →
    (∀ c : Dev Cert.QBwdXIdeal.nD,
      m' ((c.tc : Thread Cert.QBwdXReferenceIdeal.nD Cert.QBwdXReferenceIdeal.τ).loc Cert.QBwdXReferenceIdeal.main_arg0) = m ((c.tc : Thread Cert.QBwdXIdeal.nD Cert.QBwdXIdeal.τ).loc Cert.QBwdXIdeal.main_arg0)
      ∧ m' ((c.tc : Thread Cert.QBwdXReferenceIdeal.nD Cert.QBwdXReferenceIdeal.τ).loc Cert.QBwdXReferenceIdeal.main_arg1) = m ((c.tc : Thread Cert.QBwdXIdeal.nD Cert.QBwdXIdeal.τ).loc Cert.QBwdXIdeal.main_arg1)) →
    ∃ (v0 : (c : Dev Cert.QBwdXIdeal.nD) → Buf (Elt Ideal) ((c.tc : Thread Cert.QBwdXIdeal.nD Cert.QBwdXIdeal.τ).loc Cert.QBwdXIdeal.main_v2)),
      θ_run (Cert.QBwdXIdeal.defs (F := Ideal)) (onTc (τ := Cert.QBwdXIdeal.τ) (Cert.QBwdXIdeal.main (F := Ideal))) ⟨m, fun _ => 0, g⟩ (fun r => ∀ c : Dev Cert.QBwdXIdeal.nD,
          r.2.mem ((c.tc : Thread Cert.QBwdXIdeal.nD Cert.QBwdXIdeal.τ).loc Cert.QBwdXIdeal.main_v2) = v0 c
          ∧ r.2.mem ((c.tc : Thread Cert.QBwdXIdeal.nD Cert.QBwdXIdeal.τ).loc Cert.QBwdXIdeal.main_arg0) = m ((c.tc : Thread Cert.QBwdXIdeal.nD Cert.QBwdXIdeal.τ).loc Cert.QBwdXIdeal.main_arg0)
          ∧ r.2.mem ((c.tc : Thread Cert.QBwdXIdeal.nD Cert.QBwdXIdeal.τ).loc Cert.QBwdXIdeal.main_arg1) = m ((c.tc : Thread Cert.QBwdXIdeal.nD Cert.QBwdXIdeal.τ).loc Cert.QBwdXIdeal.main_arg1))
      ∧ θ_run (Cert.QBwdXReferenceIdeal.defs (F := Ideal)) (onTc (τ := Cert.QBwdXReferenceIdeal.τ) (Cert.QBwdXReferenceIdeal.main (F := Ideal))) ⟨m', fun _ => 0, g'⟩ (fun r => ∀ c : Dev Cert.QBwdXReferenceIdeal.nD,
          r.2.mem ((c.tc : Thread Cert.QBwdXReferenceIdeal.nD Cert.QBwdXReferenceIdeal.τ).loc Cert.QBwdXReferenceIdeal.main_v6) = v0 c
          ∧ r.2.mem ((c.tc : Thread Cert.QBwdXReferenceIdeal.nD Cert.QBwdXReferenceIdeal.τ).loc Cert.QBwdXReferenceIdeal.main_arg0) = m' ((c.tc : Thread Cert.QBwdXReferenceIdeal.nD Cert.QBwdXReferenceIdeal.τ).loc Cert.QBwdXReferenceIdeal.main_arg0)
          ∧ r.2.mem ((c.tc : Thread Cert.QBwdXReferenceIdeal.nD Cert.QBwdXReferenceIdeal.τ).loc Cert.QBwdXReferenceIdeal.main_arg1) = m' ((c.tc : Thread Cert.QBwdXReferenceIdeal.nD Cert.QBwdXReferenceIdeal.τ).loc Cert.QBwdXReferenceIdeal.main_arg1))

def preserves_KvProj_KvProjIdeal : Prop :=
  True

def algebraic_KvProjIdeal_KvProjReferenceIdeal [hKvProjIdeal : Cert.KvProjIdeal.Facts] [hKvProjReferenceIdeal : Cert.KvProjReferenceIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjReferenceIdeal.nD Cert.KvProjReferenceIdeal.τ Cert.KvProjReferenceIdeal.sig) → Buf (Elt Ideal) ℓ) (g' : Dev Cert.KvProjReferenceIdeal.nD → PrngReg), Pre_KvProjIdeal m →
    (∀ c : Dev Cert.KvProjIdeal.nD,
      m' ((c.tc : Thread Cert.KvProjReferenceIdeal.nD Cert.KvProjReferenceIdeal.τ).loc Cert.KvProjReferenceIdeal.main_arg0) = m ((c.tc : Thread Cert.KvProjIdeal.nD Cert.KvProjIdeal.τ).loc Cert.KvProjIdeal.main_arg0)
      ∧ m' ((c.tc : Thread Cert.KvProjReferenceIdeal.nD Cert.KvProjReferenceIdeal.τ).loc Cert.KvProjReferenceIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjReferenceIdeal.defs (F := Ideal)) (onTc (τ := Cert.KvProjReferenceIdeal.τ) (Cert.KvProjReferenceIdeal.main (F := Ideal))) ⟨m', fun _ => 0, g'⟩ (fun r => ∀ c : Dev Cert.KvProjReferenceIdeal.nD,
          r.2.mem ((c.tc : Thread Cert.KvProjReferenceIdeal.nD Cert.KvProjReferenceIdeal.τ).loc Cert.KvProjReferenceIdeal.main_v3) = v0 c
          ∧ r.2.mem ((c.tc : Thread Cert.KvProjReferenceIdeal.nD Cert.KvProjReferenceIdeal.τ).loc Cert.KvProjReferenceIdeal.main_arg0) = m' ((c.tc : Thread Cert.KvProjReferenceIdeal.nD Cert.KvProjReferenceIdeal.τ).loc Cert.KvProjReferenceIdeal.main_arg0)
          ∧ r.2.mem ((c.tc : Thread Cert.KvProjReferenceIdeal.nD Cert.KvProjReferenceIdeal.τ).loc Cert.KvProjReferenceIdeal.main_arg1) = m' ((c.tc : Thread Cert.KvProjReferenceIdeal.nD Cert.KvProjReferenceIdeal.τ).loc Cert.KvProjReferenceIdeal.main_arg1))

def preserves_KvBwdW_KvBwdWIdeal : Prop :=
  True

def algebraic_KvBwdWIdeal_KvBwdWReferenceIdeal [hKvBwdWIdeal : Cert.KvBwdWIdeal.Facts] [hKvBwdWReferenceIdeal : Cert.KvBwdWReferenceIdeal.Facts] : Prop :=
  ∀ (m : (ℓ : Loc Cert.KvBwdWIdeal.nD Cert.KvBwdWIdeal.τ Cert.KvBwdWIdeal.sig) → Buf (Elt Ideal) ℓ) (g : Dev Cert.KvBwdWIdeal.nD → PrngReg)
    (m' : (ℓ : Loc Cert.KvBwdWReferenceIdeal.nD Cert.KvBwdWReferenceIdeal.τ Cert.KvBwdWReferenceIdeal.sig) → Buf (Elt Ideal) ℓ) (g' : Dev Cert.KvBwdWReferenceIdeal.nD → PrngReg), Pre_KvBwdWIdeal m →
    (∀ c : Dev Cert.KvBwdWIdeal.nD,
      m' ((c.tc : Thread Cert.KvBwdWReferenceIdeal.nD Cert.KvBwdWReferenceIdeal.τ).loc Cert.KvBwdWReferenceIdeal.main_arg0) = m ((c.tc : Thread Cert.KvBwdWIdeal.nD Cert.KvBwdWIdeal.τ).loc Cert.KvBwdWIdeal.main_arg0)
      ∧ m' ((c.tc : Thread Cert.KvBwdWReferenceIdeal.nD Cert.KvBwdWReferenceIdeal.τ).loc Cert.KvBwdWReferenceIdeal.main_arg1) = m ((c.tc : Thread Cert.KvBwdWIdeal.nD Cert.KvBwdWIdeal.τ).loc Cert.KvBwdWIdeal.main_arg1)) →
    ∃ (v0 : (c : Dev Cert.KvBwdWIdeal.nD) → Buf (Elt Ideal) ((c.tc : Thread Cert.KvBwdWIdeal.nD Cert.KvBwdWIdeal.τ).loc Cert.KvBwdWIdeal.main_v0)),
      θ_run (Cert.KvBwdWIdeal.defs (F := Ideal)) (onTc (τ := Cert.KvBwdWIdeal.τ) (Cert.KvBwdWIdeal.main (F := Ideal))) ⟨m, fun _ => 0, g⟩ (fun r => ∀ c : Dev Cert.KvBwdWIdeal.nD,
          r.2.mem ((c.tc : Thread Cert.KvBwdWIdeal.nD Cert.KvBwdWIdeal.τ).loc Cert.KvBwdWIdeal.main_v0) = v0 c
          ∧ r.2.mem ((c.tc : Thread Cert.KvBwdWIdeal.nD Cert.KvBwdWIdeal.τ).loc Cert.KvBwdWIdeal.main_arg0) = m ((c.tc : Thread Cert.KvBwdWIdeal.nD Cert.KvBwdWIdeal.τ).loc Cert.KvBwdWIdeal.main_arg0)
          ∧ r.2.mem ((c.tc : Thread Cert.KvBwdWIdeal.nD Cert.KvBwdWIdeal.τ).loc Cert.KvBwdWIdeal.main_arg1) = m ((c.tc : Thread Cert.KvBwdWIdeal.nD Cert.KvBwdWIdeal.τ).loc Cert.KvBwdWIdeal.main_arg1))
      ∧ θ_run (Cert.KvBwdWReferenceIdeal.defs (F := Ideal)) (onTc (τ := Cert.KvBwdWReferenceIdeal.τ) (Cert.KvBwdWReferenceIdeal.main (F := Ideal))) ⟨m', fun _ => 0, g'⟩ (fun r => ∀ c : Dev Cert.KvBwdWReferenceIdeal.nD,
          r.2.mem ((c.tc : Thread Cert.KvBwdWReferenceIdeal.nD Cert.KvBwdWReferenceIdeal.τ).loc Cert.KvBwdWReferenceIdeal.main_v7) = v0 c
          ∧ r.2.mem ((c.tc : Thread Cert.KvBwdWReferenceIdeal.nD Cert.KvBwdWReferenceIdeal.τ).loc Cert.KvBwdWReferenceIdeal.main_arg0) = m' ((c.tc : Thread Cert.KvBwdWReferenceIdeal.nD Cert.KvBwdWReferenceIdeal.τ).loc Cert.KvBwdWReferenceIdeal.main_arg0)
          ∧ r.2.mem ((c.tc : Thread Cert.KvBwdWReferenceIdeal.nD Cert.KvBwdWReferenceIdeal.τ).loc Cert.KvBwdWReferenceIdeal.main_arg1) = m' ((c.tc : Thread Cert.KvBwdWReferenceIdeal.nD Cert.KvBwdWReferenceIdeal.τ).loc Cert.KvBwdWReferenceIdeal.main_arg1))

def preserves_KvBwdX_KvBwdXIdeal : Prop :=
  True

def algebraic_KvBwdXIdeal_KvBwdXReferenceIdeal [hKvBwdXIdeal : Cert.KvBwdXIdeal.Facts] [hKvBwdXReferenceIdeal : Cert.KvBwdXReferenceIdeal.Facts] : Prop :=
  ∀ (m : (ℓ : Loc Cert.KvBwdXIdeal.nD Cert.KvBwdXIdeal.τ Cert.KvBwdXIdeal.sig) → Buf (Elt Ideal) ℓ) (g : Dev Cert.KvBwdXIdeal.nD → PrngReg)
    (m' : (ℓ : Loc Cert.KvBwdXReferenceIdeal.nD Cert.KvBwdXReferenceIdeal.τ Cert.KvBwdXReferenceIdeal.sig) → Buf (Elt Ideal) ℓ) (g' : Dev Cert.KvBwdXReferenceIdeal.nD → PrngReg), Pre_KvBwdXIdeal m →
    (∀ c : Dev Cert.KvBwdXIdeal.nD,
      m' ((c.tc : Thread Cert.KvBwdXReferenceIdeal.nD Cert.KvBwdXReferenceIdeal.τ).loc Cert.KvBwdXReferenceIdeal.main_arg0) = m ((c.tc : Thread Cert.KvBwdXIdeal.nD Cert.KvBwdXIdeal.τ).loc Cert.KvBwdXIdeal.main_arg0)
      ∧ m' ((c.tc : Thread Cert.KvBwdXReferenceIdeal.nD Cert.KvBwdXReferenceIdeal.τ).loc Cert.KvBwdXReferenceIdeal.main_arg1) = m ((c.tc : Thread Cert.KvBwdXIdeal.nD Cert.KvBwdXIdeal.τ).loc Cert.KvBwdXIdeal.main_arg1)) →
    ∃ (v0 : (c : Dev Cert.KvBwdXIdeal.nD) → Buf (Elt Ideal) ((c.tc : Thread Cert.KvBwdXIdeal.nD Cert.KvBwdXIdeal.τ).loc Cert.KvBwdXIdeal.main_v0)),
      θ_run (Cert.KvBwdXIdeal.defs (F := Ideal)) (onTc (τ := Cert.KvBwdXIdeal.τ) (Cert.KvBwdXIdeal.main (F := Ideal))) ⟨m, fun _ => 0, g⟩ (fun r => ∀ c : Dev Cert.KvBwdXIdeal.nD,
          r.2.mem ((c.tc : Thread Cert.KvBwdXIdeal.nD Cert.KvBwdXIdeal.τ).loc Cert.KvBwdXIdeal.main_v0) = v0 c
          ∧ r.2.mem ((c.tc : Thread Cert.KvBwdXIdeal.nD Cert.KvBwdXIdeal.τ).loc Cert.KvBwdXIdeal.main_arg0) = m ((c.tc : Thread Cert.KvBwdXIdeal.nD Cert.KvBwdXIdeal.τ).loc Cert.KvBwdXIdeal.main_arg0)
          ∧ r.2.mem ((c.tc : Thread Cert.KvBwdXIdeal.nD Cert.KvBwdXIdeal.τ).loc Cert.KvBwdXIdeal.main_arg1) = m ((c.tc : Thread Cert.KvBwdXIdeal.nD Cert.KvBwdXIdeal.τ).loc Cert.KvBwdXIdeal.main_arg1))
      ∧ θ_run (Cert.KvBwdXReferenceIdeal.defs (F := Ideal)) (onTc (τ := Cert.KvBwdXReferenceIdeal.τ) (Cert.KvBwdXReferenceIdeal.main (F := Ideal))) ⟨m', fun _ => 0, g'⟩ (fun r => ∀ c : Dev Cert.KvBwdXReferenceIdeal.nD,
          r.2.mem ((c.tc : Thread Cert.KvBwdXReferenceIdeal.nD Cert.KvBwdXReferenceIdeal.τ).loc Cert.KvBwdXReferenceIdeal.main_v5) = v0 c
          ∧ r.2.mem ((c.tc : Thread Cert.KvBwdXReferenceIdeal.nD Cert.KvBwdXReferenceIdeal.τ).loc Cert.KvBwdXReferenceIdeal.main_arg0) = m' ((c.tc : Thread Cert.KvBwdXReferenceIdeal.nD Cert.KvBwdXReferenceIdeal.τ).loc Cert.KvBwdXReferenceIdeal.main_arg0)
          ∧ r.2.mem ((c.tc : Thread Cert.KvBwdXReferenceIdeal.nD Cert.KvBwdXReferenceIdeal.τ).loc Cert.KvBwdXReferenceIdeal.main_arg1) = m' ((c.tc : Thread Cert.KvBwdXReferenceIdeal.nD Cert.KvBwdXReferenceIdeal.τ).loc Cert.KvBwdXReferenceIdeal.main_arg1))

def preserves_AttnFwd_AttnFwdIdeal : Prop :=
  True

def algebraic_AttnFwdIdeal_AttnFwdReferenceIdeal_pre_finite_forward [hAttnFwdIdeal : Cert.AttnFwdIdeal.Facts] [hAttnFwdReferenceIdeal : Cert.AttnFwdReferenceIdeal.Facts] [hPre_finite_forward : Cert.Pre_finite_forward.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite_forward m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)
      ∧ m' ((c.tc : Thread Cert.AttnFwdReferenceIdeal.nD Cert.AttnFwdReferenceIdeal.τ).loc Cert.AttnFwdReferenceIdeal.main_arg3) = m ((c.tc : Thread Cert.AttnFwdIdeal.nD Cert.AttnFwdIdeal.τ).loc Cert.AttnFwdIdeal.main_arg3)
      ∧ m' ((c.tc : Thread Cert.AttnFwdReferenceIdeal.nD Cert.AttnFwdReferenceIdeal.τ).loc Cert.AttnFwdReferenceIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v8)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v8) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v67) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2)
          ∧ r.2.mem ((c.tc : Thread Cert.AttnFwdReferenceIdeal.nD Cert.AttnFwdReferenceIdeal.τ).loc Cert.AttnFwdReferenceIdeal.main_arg3) = m' ((c.tc : Thread Cert.AttnFwdReferenceIdeal.nD Cert.AttnFwdReferenceIdeal.τ).loc Cert.AttnFwdReferenceIdeal.main_arg3)
          ∧ r.2.mem ((c.tc : Thread Cert.AttnFwdReferenceIdeal.nD Cert.AttnFwdReferenceIdeal.τ).loc Cert.AttnFwdReferenceIdeal.main_arg4) = m' ((c.tc : Thread Cert.AttnFwdReferenceIdeal.nD Cert.AttnFwdReferenceIdeal.τ).loc Cert.AttnFwdReferenceIdeal.main_arg4))

def preserves_RmsMixBwd_RmsMixBwdIdeal : Prop :=
  True

def algebraic_RmsMixBwdIdeal_RmsMixBwdReferenceIdeal [hRmsMixBwdIdeal : Cert.RmsMixBwdIdeal.Facts] [hRmsMixBwdReferenceIdeal : Cert.RmsMixBwdReferenceIdeal.Facts] : Prop :=
  ∀ (m : (ℓ : Loc Cert.RmsMixBwdIdeal.nD Cert.RmsMixBwdIdeal.τ Cert.RmsMixBwdIdeal.sig) → Buf (Elt Ideal) ℓ) (g : Dev Cert.RmsMixBwdIdeal.nD → PrngReg)
    (m' : (ℓ : Loc Cert.RmsMixBwdReferenceIdeal.nD Cert.RmsMixBwdReferenceIdeal.τ Cert.RmsMixBwdReferenceIdeal.sig) → Buf (Elt Ideal) ℓ) (g' : Dev Cert.RmsMixBwdReferenceIdeal.nD → PrngReg), Pre_RmsMixBwdIdeal m →
    (∀ c : Dev Cert.RmsMixBwdIdeal.nD,
      m' ((c.tc : Thread Cert.RmsMixBwdReferenceIdeal.nD Cert.RmsMixBwdReferenceIdeal.τ).loc Cert.RmsMixBwdReferenceIdeal.main_arg0) = m ((c.tc : Thread Cert.RmsMixBwdIdeal.nD Cert.RmsMixBwdIdeal.τ).loc Cert.RmsMixBwdIdeal.main_arg0)
      ∧ m' ((c.tc : Thread Cert.RmsMixBwdReferenceIdeal.nD Cert.RmsMixBwdReferenceIdeal.τ).loc Cert.RmsMixBwdReferenceIdeal.main_arg1) = m ((c.tc : Thread Cert.RmsMixBwdIdeal.nD Cert.RmsMixBwdIdeal.τ).loc Cert.RmsMixBwdIdeal.main_arg1)
      ∧ m' ((c.tc : Thread Cert.RmsMixBwdReferenceIdeal.nD Cert.RmsMixBwdReferenceIdeal.τ).loc Cert.RmsMixBwdReferenceIdeal.main_arg2) = m ((c.tc : Thread Cert.RmsMixBwdIdeal.nD Cert.RmsMixBwdIdeal.τ).loc Cert.RmsMixBwdIdeal.main_arg2)
      ∧ m' ((c.tc : Thread Cert.RmsMixBwdReferenceIdeal.nD Cert.RmsMixBwdReferenceIdeal.τ).loc Cert.RmsMixBwdReferenceIdeal.main_arg3) = m ((c.tc : Thread Cert.RmsMixBwdIdeal.nD Cert.RmsMixBwdIdeal.τ).loc Cert.RmsMixBwdIdeal.main_arg3)
      ∧ m' ((c.tc : Thread Cert.RmsMixBwdReferenceIdeal.nD Cert.RmsMixBwdReferenceIdeal.τ).loc Cert.RmsMixBwdReferenceIdeal.main_arg4) = m ((c.tc : Thread Cert.RmsMixBwdIdeal.nD Cert.RmsMixBwdIdeal.τ).loc Cert.RmsMixBwdIdeal.main_arg4)) →
    ∃ (v0 : (c : Dev Cert.RmsMixBwdIdeal.nD) → Buf (Elt Ideal) ((c.tc : Thread Cert.RmsMixBwdIdeal.nD Cert.RmsMixBwdIdeal.τ).loc Cert.RmsMixBwdIdeal.main_v10_0)) (v1 : (c : Dev Cert.RmsMixBwdIdeal.nD) → Buf (Elt Ideal) ((c.tc : Thread Cert.RmsMixBwdIdeal.nD Cert.RmsMixBwdIdeal.τ).loc Cert.RmsMixBwdIdeal.main_v10_1)),
      θ_run (Cert.RmsMixBwdIdeal.defs (F := Ideal)) (onTc (τ := Cert.RmsMixBwdIdeal.τ) (Cert.RmsMixBwdIdeal.main (F := Ideal))) ⟨m, fun _ => 0, g⟩ (fun r => ∀ c : Dev Cert.RmsMixBwdIdeal.nD,
          r.2.mem ((c.tc : Thread Cert.RmsMixBwdIdeal.nD Cert.RmsMixBwdIdeal.τ).loc Cert.RmsMixBwdIdeal.main_v10_0) = v0 c
          ∧ r.2.mem ((c.tc : Thread Cert.RmsMixBwdIdeal.nD Cert.RmsMixBwdIdeal.τ).loc Cert.RmsMixBwdIdeal.main_v10_1) = v1 c
          ∧ r.2.mem ((c.tc : Thread Cert.RmsMixBwdIdeal.nD Cert.RmsMixBwdIdeal.τ).loc Cert.RmsMixBwdIdeal.main_arg0) = m ((c.tc : Thread Cert.RmsMixBwdIdeal.nD Cert.RmsMixBwdIdeal.τ).loc Cert.RmsMixBwdIdeal.main_arg0)
          ∧ r.2.mem ((c.tc : Thread Cert.RmsMixBwdIdeal.nD Cert.RmsMixBwdIdeal.τ).loc Cert.RmsMixBwdIdeal.main_arg1) = m ((c.tc : Thread Cert.RmsMixBwdIdeal.nD Cert.RmsMixBwdIdeal.τ).loc Cert.RmsMixBwdIdeal.main_arg1)
          ∧ r.2.mem ((c.tc : Thread Cert.RmsMixBwdIdeal.nD Cert.RmsMixBwdIdeal.τ).loc Cert.RmsMixBwdIdeal.main_arg2) = m ((c.tc : Thread Cert.RmsMixBwdIdeal.nD Cert.RmsMixBwdIdeal.τ).loc Cert.RmsMixBwdIdeal.main_arg2)
          ∧ r.2.mem ((c.tc : Thread Cert.RmsMixBwdIdeal.nD Cert.RmsMixBwdIdeal.τ).loc Cert.RmsMixBwdIdeal.main_arg3) = m ((c.tc : Thread Cert.RmsMixBwdIdeal.nD Cert.RmsMixBwdIdeal.τ).loc Cert.RmsMixBwdIdeal.main_arg3)
          ∧ r.2.mem ((c.tc : Thread Cert.RmsMixBwdIdeal.nD Cert.RmsMixBwdIdeal.τ).loc Cert.RmsMixBwdIdeal.main_arg4) = m ((c.tc : Thread Cert.RmsMixBwdIdeal.nD Cert.RmsMixBwdIdeal.τ).loc Cert.RmsMixBwdIdeal.main_arg4))
      ∧ θ_run (Cert.RmsMixBwdReferenceIdeal.defs (F := Ideal)) (onTc (τ := Cert.RmsMixBwdReferenceIdeal.τ) (Cert.RmsMixBwdReferenceIdeal.main (F := Ideal))) ⟨m', fun _ => 0, g'⟩ (fun r => ∀ c : Dev Cert.RmsMixBwdReferenceIdeal.nD,
          r.2.mem ((c.tc : Thread Cert.RmsMixBwdReferenceIdeal.nD Cert.RmsMixBwdReferenceIdeal.τ).loc Cert.RmsMixBwdReferenceIdeal.main_v40) = v0 c
          ∧ r.2.mem ((c.tc : Thread Cert.RmsMixBwdReferenceIdeal.nD Cert.RmsMixBwdReferenceIdeal.τ).loc Cert.RmsMixBwdReferenceIdeal.main_v41) = v1 c
          ∧ r.2.mem ((c.tc : Thread Cert.RmsMixBwdReferenceIdeal.nD Cert.RmsMixBwdReferenceIdeal.τ).loc Cert.RmsMixBwdReferenceIdeal.main_arg0) = m' ((c.tc : Thread Cert.RmsMixBwdReferenceIdeal.nD Cert.RmsMixBwdReferenceIdeal.τ).loc Cert.RmsMixBwdReferenceIdeal.main_arg0)
          ∧ r.2.mem ((c.tc : Thread Cert.RmsMixBwdReferenceIdeal.nD Cert.RmsMixBwdReferenceIdeal.τ).loc Cert.RmsMixBwdReferenceIdeal.main_arg1) = m' ((c.tc : Thread Cert.RmsMixBwdReferenceIdeal.nD Cert.RmsMixBwdReferenceIdeal.τ).loc Cert.RmsMixBwdReferenceIdeal.main_arg1)
          ∧ r.2.mem ((c.tc : Thread Cert.RmsMixBwdReferenceIdeal.nD Cert.RmsMixBwdReferenceIdeal.τ).loc Cert.RmsMixBwdReferenceIdeal.main_arg2) = m' ((c.tc : Thread Cert.RmsMixBwdReferenceIdeal.nD Cert.RmsMixBwdReferenceIdeal.τ).loc Cert.RmsMixBwdReferenceIdeal.main_arg2)
          ∧ r.2.mem ((c.tc : Thread Cert.RmsMixBwdReferenceIdeal.nD Cert.RmsMixBwdReferenceIdeal.τ).loc Cert.RmsMixBwdReferenceIdeal.main_arg3) = m' ((c.tc : Thread Cert.RmsMixBwdReferenceIdeal.nD Cert.RmsMixBwdReferenceIdeal.τ).loc Cert.RmsMixBwdReferenceIdeal.main_arg3)
          ∧ r.2.mem ((c.tc : Thread Cert.RmsMixBwdReferenceIdeal.nD Cert.RmsMixBwdReferenceIdeal.τ).loc Cert.RmsMixBwdReferenceIdeal.main_arg4) = m' ((c.tc : Thread Cert.RmsMixBwdReferenceIdeal.nD Cert.RmsMixBwdReferenceIdeal.τ).loc Cert.RmsMixBwdReferenceIdeal.main_arg4))

def preserves_RmsFfnBwd_RmsFfnBwdIdeal : Prop :=
  True

def algebraic_RmsFfnBwdIdeal_RmsFfnBwdReferenceIdeal [hRmsFfnBwdIdeal : Cert.RmsFfnBwdIdeal.Facts] [hRmsFfnBwdReferenceIdeal : Cert.RmsFfnBwdReferenceIdeal.Facts] : Prop :=
  ∀ (m : (ℓ : Loc Cert.RmsFfnBwdIdeal.nD Cert.RmsFfnBwdIdeal.τ Cert.RmsFfnBwdIdeal.sig) → Buf (Elt Ideal) ℓ) (g : Dev Cert.RmsFfnBwdIdeal.nD → PrngReg)
    (m' : (ℓ : Loc Cert.RmsFfnBwdReferenceIdeal.nD Cert.RmsFfnBwdReferenceIdeal.τ Cert.RmsFfnBwdReferenceIdeal.sig) → Buf (Elt Ideal) ℓ) (g' : Dev Cert.RmsFfnBwdReferenceIdeal.nD → PrngReg), Pre_RmsFfnBwdIdeal m →
    (∀ c : Dev Cert.RmsFfnBwdIdeal.nD,
      m' ((c.tc : Thread Cert.RmsFfnBwdReferenceIdeal.nD Cert.RmsFfnBwdReferenceIdeal.τ).loc Cert.RmsFfnBwdReferenceIdeal.main_arg0) = m ((c.tc : Thread Cert.RmsFfnBwdIdeal.nD Cert.RmsFfnBwdIdeal.τ).loc Cert.RmsFfnBwdIdeal.main_arg0)
      ∧ m' ((c.tc : Thread Cert.RmsFfnBwdReferenceIdeal.nD Cert.RmsFfnBwdReferenceIdeal.τ).loc Cert.RmsFfnBwdReferenceIdeal.main_arg1) = m ((c.tc : Thread Cert.RmsFfnBwdIdeal.nD Cert.RmsFfnBwdIdeal.τ).loc Cert.RmsFfnBwdIdeal.main_arg1)
      ∧ m' ((c.tc : Thread Cert.RmsFfnBwdReferenceIdeal.nD Cert.RmsFfnBwdReferenceIdeal.τ).loc Cert.RmsFfnBwdReferenceIdeal.main_arg2) = m ((c.tc : Thread Cert.RmsFfnBwdIdeal.nD Cert.RmsFfnBwdIdeal.τ).loc Cert.RmsFfnBwdIdeal.main_arg2)
      ∧ m' ((c.tc : Thread Cert.RmsFfnBwdReferenceIdeal.nD Cert.RmsFfnBwdReferenceIdeal.τ).loc Cert.RmsFfnBwdReferenceIdeal.main_arg3) = m ((c.tc : Thread Cert.RmsFfnBwdIdeal.nD Cert.RmsFfnBwdIdeal.τ).loc Cert.RmsFfnBwdIdeal.main_arg3)) →
    ∃ (v0 : (c : Dev Cert.RmsFfnBwdIdeal.nD) → Buf (Elt Ideal) ((c.tc : Thread Cert.RmsFfnBwdIdeal.nD Cert.RmsFfnBwdIdeal.τ).loc Cert.RmsFfnBwdIdeal.main_v9_0)) (v1 : (c : Dev Cert.RmsFfnBwdIdeal.nD) → Buf (Elt Ideal) ((c.tc : Thread Cert.RmsFfnBwdIdeal.nD Cert.RmsFfnBwdIdeal.τ).loc Cert.RmsFfnBwdIdeal.main_v9_1)) (v2 : (c : Dev Cert.RmsFfnBwdIdeal.nD) → Buf (Elt Ideal) ((c.tc : Thread Cert.RmsFfnBwdIdeal.nD Cert.RmsFfnBwdIdeal.τ).loc Cert.RmsFfnBwdIdeal.main_v9_2)),
      θ_run (Cert.RmsFfnBwdIdeal.defs (F := Ideal)) (onTc (τ := Cert.RmsFfnBwdIdeal.τ) (Cert.RmsFfnBwdIdeal.main (F := Ideal))) ⟨m, fun _ => 0, g⟩ (fun r => ∀ c : Dev Cert.RmsFfnBwdIdeal.nD,
          r.2.mem ((c.tc : Thread Cert.RmsFfnBwdIdeal.nD Cert.RmsFfnBwdIdeal.τ).loc Cert.RmsFfnBwdIdeal.main_v9_0) = v0 c
          ∧ r.2.mem ((c.tc : Thread Cert.RmsFfnBwdIdeal.nD Cert.RmsFfnBwdIdeal.τ).loc Cert.RmsFfnBwdIdeal.main_v9_1) = v1 c
          ∧ r.2.mem ((c.tc : Thread Cert.RmsFfnBwdIdeal.nD Cert.RmsFfnBwdIdeal.τ).loc Cert.RmsFfnBwdIdeal.main_v9_2) = v2 c
          ∧ r.2.mem ((c.tc : Thread Cert.RmsFfnBwdIdeal.nD Cert.RmsFfnBwdIdeal.τ).loc Cert.RmsFfnBwdIdeal.main_arg0) = m ((c.tc : Thread Cert.RmsFfnBwdIdeal.nD Cert.RmsFfnBwdIdeal.τ).loc Cert.RmsFfnBwdIdeal.main_arg0)
          ∧ r.2.mem ((c.tc : Thread Cert.RmsFfnBwdIdeal.nD Cert.RmsFfnBwdIdeal.τ).loc Cert.RmsFfnBwdIdeal.main_arg1) = m ((c.tc : Thread Cert.RmsFfnBwdIdeal.nD Cert.RmsFfnBwdIdeal.τ).loc Cert.RmsFfnBwdIdeal.main_arg1)
          ∧ r.2.mem ((c.tc : Thread Cert.RmsFfnBwdIdeal.nD Cert.RmsFfnBwdIdeal.τ).loc Cert.RmsFfnBwdIdeal.main_arg2) = m ((c.tc : Thread Cert.RmsFfnBwdIdeal.nD Cert.RmsFfnBwdIdeal.τ).loc Cert.RmsFfnBwdIdeal.main_arg2)
          ∧ r.2.mem ((c.tc : Thread Cert.RmsFfnBwdIdeal.nD Cert.RmsFfnBwdIdeal.τ).loc Cert.RmsFfnBwdIdeal.main_arg3) = m ((c.tc : Thread Cert.RmsFfnBwdIdeal.nD Cert.RmsFfnBwdIdeal.τ).loc Cert.RmsFfnBwdIdeal.main_arg3))
      ∧ θ_run (Cert.RmsFfnBwdReferenceIdeal.defs (F := Ideal)) (onTc (τ := Cert.RmsFfnBwdReferenceIdeal.τ) (Cert.RmsFfnBwdReferenceIdeal.main (F := Ideal))) ⟨m', fun _ => 0, g'⟩ (fun r => ∀ c : Dev Cert.RmsFfnBwdReferenceIdeal.nD,
          r.2.mem ((c.tc : Thread Cert.RmsFfnBwdReferenceIdeal.nD Cert.RmsFfnBwdReferenceIdeal.τ).loc Cert.RmsFfnBwdReferenceIdeal.main_v36) = v0 c
          ∧ r.2.mem ((c.tc : Thread Cert.RmsFfnBwdReferenceIdeal.nD Cert.RmsFfnBwdReferenceIdeal.τ).loc Cert.RmsFfnBwdReferenceIdeal.main_v37) = v1 c
          ∧ r.2.mem ((c.tc : Thread Cert.RmsFfnBwdReferenceIdeal.nD Cert.RmsFfnBwdReferenceIdeal.τ).loc Cert.RmsFfnBwdReferenceIdeal.main_v38) = v2 c
          ∧ r.2.mem ((c.tc : Thread Cert.RmsFfnBwdReferenceIdeal.nD Cert.RmsFfnBwdReferenceIdeal.τ).loc Cert.RmsFfnBwdReferenceIdeal.main_arg0) = m' ((c.tc : Thread Cert.RmsFfnBwdReferenceIdeal.nD Cert.RmsFfnBwdReferenceIdeal.τ).loc Cert.RmsFfnBwdReferenceIdeal.main_arg0)
          ∧ r.2.mem ((c.tc : Thread Cert.RmsFfnBwdReferenceIdeal.nD Cert.RmsFfnBwdReferenceIdeal.τ).loc Cert.RmsFfnBwdReferenceIdeal.main_arg1) = m' ((c.tc : Thread Cert.RmsFfnBwdReferenceIdeal.nD Cert.RmsFfnBwdReferenceIdeal.τ).loc Cert.RmsFfnBwdReferenceIdeal.main_arg1)
          ∧ r.2.mem ((c.tc : Thread Cert.RmsFfnBwdReferenceIdeal.nD Cert.RmsFfnBwdReferenceIdeal.τ).loc Cert.RmsFfnBwdReferenceIdeal.main_arg2) = m' ((c.tc : Thread Cert.RmsFfnBwdReferenceIdeal.nD Cert.RmsFfnBwdReferenceIdeal.τ).loc Cert.RmsFfnBwdReferenceIdeal.main_arg2)
          ∧ r.2.mem ((c.tc : Thread Cert.RmsFfnBwdReferenceIdeal.nD Cert.RmsFfnBwdReferenceIdeal.τ).loc Cert.RmsFfnBwdReferenceIdeal.main_arg3) = m' ((c.tc : Thread Cert.RmsFfnBwdReferenceIdeal.nD Cert.RmsFfnBwdReferenceIdeal.τ).loc Cert.RmsFfnBwdReferenceIdeal.main_arg3))

def preserves_RmsAttnBwd_RmsAttnBwdIdeal : Prop :=
  True

def algebraic_RmsAttnBwdIdeal_RmsAttnBwdReferenceIdeal [hRmsAttnBwdIdeal : Cert.RmsAttnBwdIdeal.Facts] [hRmsAttnBwdReferenceIdeal : Cert.RmsAttnBwdReferenceIdeal.Facts] : Prop :=
  ∀ (m : (ℓ : Loc Cert.RmsAttnBwdIdeal.nD Cert.RmsAttnBwdIdeal.τ Cert.RmsAttnBwdIdeal.sig) → Buf (Elt Ideal) ℓ) (g : Dev Cert.RmsAttnBwdIdeal.nD → PrngReg)
    (m' : (ℓ : Loc Cert.RmsAttnBwdReferenceIdeal.nD Cert.RmsAttnBwdReferenceIdeal.τ Cert.RmsAttnBwdReferenceIdeal.sig) → Buf (Elt Ideal) ℓ) (g' : Dev Cert.RmsAttnBwdReferenceIdeal.nD → PrngReg), Pre_RmsAttnBwdIdeal m →
    (∀ c : Dev Cert.RmsAttnBwdIdeal.nD,
      m' ((c.tc : Thread Cert.RmsAttnBwdReferenceIdeal.nD Cert.RmsAttnBwdReferenceIdeal.τ).loc Cert.RmsAttnBwdReferenceIdeal.main_arg0) = m ((c.tc : Thread Cert.RmsAttnBwdIdeal.nD Cert.RmsAttnBwdIdeal.τ).loc Cert.RmsAttnBwdIdeal.main_arg0)
      ∧ m' ((c.tc : Thread Cert.RmsAttnBwdReferenceIdeal.nD Cert.RmsAttnBwdReferenceIdeal.τ).loc Cert.RmsAttnBwdReferenceIdeal.main_arg1) = m ((c.tc : Thread Cert.RmsAttnBwdIdeal.nD Cert.RmsAttnBwdIdeal.τ).loc Cert.RmsAttnBwdIdeal.main_arg1)
      ∧ m' ((c.tc : Thread Cert.RmsAttnBwdReferenceIdeal.nD Cert.RmsAttnBwdReferenceIdeal.τ).loc Cert.RmsAttnBwdReferenceIdeal.main_arg2) = m ((c.tc : Thread Cert.RmsAttnBwdIdeal.nD Cert.RmsAttnBwdIdeal.τ).loc Cert.RmsAttnBwdIdeal.main_arg2)) →
    ∃ (v0 : (c : Dev Cert.RmsAttnBwdIdeal.nD) → Buf (Elt Ideal) ((c.tc : Thread Cert.RmsAttnBwdIdeal.nD Cert.RmsAttnBwdIdeal.τ).loc Cert.RmsAttnBwdIdeal.main_v9_0)) (v1 : (c : Dev Cert.RmsAttnBwdIdeal.nD) → Buf (Elt Ideal) ((c.tc : Thread Cert.RmsAttnBwdIdeal.nD Cert.RmsAttnBwdIdeal.τ).loc Cert.RmsAttnBwdIdeal.main_v9_1)),
      θ_run (Cert.RmsAttnBwdIdeal.defs (F := Ideal)) (onTc (τ := Cert.RmsAttnBwdIdeal.τ) (Cert.RmsAttnBwdIdeal.main (F := Ideal))) ⟨m, fun _ => 0, g⟩ (fun r => ∀ c : Dev Cert.RmsAttnBwdIdeal.nD,
          r.2.mem ((c.tc : Thread Cert.RmsAttnBwdIdeal.nD Cert.RmsAttnBwdIdeal.τ).loc Cert.RmsAttnBwdIdeal.main_v9_0) = v0 c
          ∧ r.2.mem ((c.tc : Thread Cert.RmsAttnBwdIdeal.nD Cert.RmsAttnBwdIdeal.τ).loc Cert.RmsAttnBwdIdeal.main_v9_1) = v1 c
          ∧ r.2.mem ((c.tc : Thread Cert.RmsAttnBwdIdeal.nD Cert.RmsAttnBwdIdeal.τ).loc Cert.RmsAttnBwdIdeal.main_arg0) = m ((c.tc : Thread Cert.RmsAttnBwdIdeal.nD Cert.RmsAttnBwdIdeal.τ).loc Cert.RmsAttnBwdIdeal.main_arg0)
          ∧ r.2.mem ((c.tc : Thread Cert.RmsAttnBwdIdeal.nD Cert.RmsAttnBwdIdeal.τ).loc Cert.RmsAttnBwdIdeal.main_arg1) = m ((c.tc : Thread Cert.RmsAttnBwdIdeal.nD Cert.RmsAttnBwdIdeal.τ).loc Cert.RmsAttnBwdIdeal.main_arg1)
          ∧ r.2.mem ((c.tc : Thread Cert.RmsAttnBwdIdeal.nD Cert.RmsAttnBwdIdeal.τ).loc Cert.RmsAttnBwdIdeal.main_arg2) = m ((c.tc : Thread Cert.RmsAttnBwdIdeal.nD Cert.RmsAttnBwdIdeal.τ).loc Cert.RmsAttnBwdIdeal.main_arg2))
      ∧ θ_run (Cert.RmsAttnBwdReferenceIdeal.defs (F := Ideal)) (onTc (τ := Cert.RmsAttnBwdReferenceIdeal.τ) (Cert.RmsAttnBwdReferenceIdeal.main (F := Ideal))) ⟨m', fun _ => 0, g'⟩ (fun r => ∀ c : Dev Cert.RmsAttnBwdReferenceIdeal.nD,
          r.2.mem ((c.tc : Thread Cert.RmsAttnBwdReferenceIdeal.nD Cert.RmsAttnBwdReferenceIdeal.τ).loc Cert.RmsAttnBwdReferenceIdeal.main_v36) = v0 c
          ∧ r.2.mem ((c.tc : Thread Cert.RmsAttnBwdReferenceIdeal.nD Cert.RmsAttnBwdReferenceIdeal.τ).loc Cert.RmsAttnBwdReferenceIdeal.main_v37) = v1 c
          ∧ r.2.mem ((c.tc : Thread Cert.RmsAttnBwdReferenceIdeal.nD Cert.RmsAttnBwdReferenceIdeal.τ).loc Cert.RmsAttnBwdReferenceIdeal.main_arg0) = m' ((c.tc : Thread Cert.RmsAttnBwdReferenceIdeal.nD Cert.RmsAttnBwdReferenceIdeal.τ).loc Cert.RmsAttnBwdReferenceIdeal.main_arg0)
          ∧ r.2.mem ((c.tc : Thread Cert.RmsAttnBwdReferenceIdeal.nD Cert.RmsAttnBwdReferenceIdeal.τ).loc Cert.RmsAttnBwdReferenceIdeal.main_arg1) = m' ((c.tc : Thread Cert.RmsAttnBwdReferenceIdeal.nD Cert.RmsAttnBwdReferenceIdeal.τ).loc Cert.RmsAttnBwdReferenceIdeal.main_arg1)
          ∧ r.2.mem ((c.tc : Thread Cert.RmsAttnBwdReferenceIdeal.nD Cert.RmsAttnBwdReferenceIdeal.τ).loc Cert.RmsAttnBwdReferenceIdeal.main_arg2) = m' ((c.tc : Thread Cert.RmsAttnBwdReferenceIdeal.nD Cert.RmsAttnBwdReferenceIdeal.τ).loc Cert.RmsAttnBwdReferenceIdeal.main_arg2))

def preserves_AdamwLast_AdamwLastIdeal : Prop :=
  True

def algebraic_AdamwLastIdeal_AdamwLastReferenceIdeal [hAdamwLastIdeal : Cert.AdamwLastIdeal.Facts] [hAdamwLastReferenceIdeal : Cert.AdamwLastReferenceIdeal.Facts] : Prop :=
  ∀ (m : (ℓ : Loc Cert.AdamwLastIdeal.nD Cert.AdamwLastIdeal.τ Cert.AdamwLastIdeal.sig) → Buf (Elt Ideal) ℓ) (g : Dev Cert.AdamwLastIdeal.nD → PrngReg)
    (m' : (ℓ : Loc Cert.AdamwLastReferenceIdeal.nD Cert.AdamwLastReferenceIdeal.τ Cert.AdamwLastReferenceIdeal.sig) → Buf (Elt Ideal) ℓ) (g' : Dev Cert.AdamwLastReferenceIdeal.nD → PrngReg), Pre_AdamwLastIdeal m →
    (∀ c : Dev Cert.AdamwLastIdeal.nD,
      m' ((c.tc : Thread Cert.AdamwLastReferenceIdeal.nD Cert.AdamwLastReferenceIdeal.τ).loc Cert.AdamwLastReferenceIdeal.main_arg0) = m ((c.tc : Thread Cert.AdamwLastIdeal.nD Cert.AdamwLastIdeal.τ).loc Cert.AdamwLastIdeal.main_arg0)
      ∧ m' ((c.tc : Thread Cert.AdamwLastReferenceIdeal.nD Cert.AdamwLastReferenceIdeal.τ).loc Cert.AdamwLastReferenceIdeal.main_arg1) = m ((c.tc : Thread Cert.AdamwLastIdeal.nD Cert.AdamwLastIdeal.τ).loc Cert.AdamwLastIdeal.main_arg1)
      ∧ m' ((c.tc : Thread Cert.AdamwLastReferenceIdeal.nD Cert.AdamwLastReferenceIdeal.τ).loc Cert.AdamwLastReferenceIdeal.main_arg2) = m ((c.tc : Thread Cert.AdamwLastIdeal.nD Cert.AdamwLastIdeal.τ).loc Cert.AdamwLastIdeal.main_arg2)
      ∧ m' ((c.tc : Thread Cert.AdamwLastReferenceIdeal.nD Cert.AdamwLastReferenceIdeal.τ).loc Cert.AdamwLastReferenceIdeal.main_arg3) = m ((c.tc : Thread Cert.AdamwLastIdeal.nD Cert.AdamwLastIdeal.τ).loc Cert.AdamwLastIdeal.main_arg3)
      ∧ m' ((c.tc : Thread Cert.AdamwLastReferenceIdeal.nD Cert.AdamwLastReferenceIdeal.τ).loc Cert.AdamwLastReferenceIdeal.main_arg4) = m ((c.tc : Thread Cert.AdamwLastIdeal.nD Cert.AdamwLastIdeal.τ).loc Cert.AdamwLastIdeal.main_arg4)
      ∧ m' ((c.tc : Thread Cert.AdamwLastReferenceIdeal.nD Cert.AdamwLastReferenceIdeal.τ).loc Cert.AdamwLastReferenceIdeal.main_arg5) = m ((c.tc : Thread Cert.AdamwLastIdeal.nD Cert.AdamwLastIdeal.τ).loc Cert.AdamwLastIdeal.main_arg5)
      ∧ m' ((c.tc : Thread Cert.AdamwLastReferenceIdeal.nD Cert.AdamwLastReferenceIdeal.τ).loc Cert.AdamwLastReferenceIdeal.main_arg6) = m ((c.tc : Thread Cert.AdamwLastIdeal.nD Cert.AdamwLastIdeal.τ).loc Cert.AdamwLastIdeal.main_arg6)
      ∧ m' ((c.tc : Thread Cert.AdamwLastReferenceIdeal.nD Cert.AdamwLastReferenceIdeal.τ).loc Cert.AdamwLastReferenceIdeal.main_arg7) = m ((c.tc : Thread Cert.AdamwLastIdeal.nD Cert.AdamwLastIdeal.τ).loc Cert.AdamwLastIdeal.main_arg7)) →
    ∃ (v0 : (c : Dev Cert.AdamwLastIdeal.nD) → Buf (Elt Ideal) ((c.tc : Thread Cert.AdamwLastIdeal.nD Cert.AdamwLastIdeal.τ).loc Cert.AdamwLastIdeal.main_v0_0)) (v1 : (c : Dev Cert.AdamwLastIdeal.nD) → Buf (Elt Ideal) ((c.tc : Thread Cert.AdamwLastIdeal.nD Cert.AdamwLastIdeal.τ).loc Cert.AdamwLastIdeal.main_v0_1)) (v2 : (c : Dev Cert.AdamwLastIdeal.nD) → Buf (Elt Ideal) ((c.tc : Thread Cert.AdamwLastIdeal.nD Cert.AdamwLastIdeal.τ).loc Cert.AdamwLastIdeal.main_v0_2)) (v3 : (c : Dev Cert.AdamwLastIdeal.nD) → Buf (Elt Ideal) ((c.tc : Thread Cert.AdamwLastIdeal.nD Cert.AdamwLastIdeal.τ).loc Cert.AdamwLastIdeal.main_v0_3)) (v4 : (c : Dev Cert.AdamwLastIdeal.nD) → Buf (Elt Ideal) ((c.tc : Thread Cert.AdamwLastIdeal.nD Cert.AdamwLastIdeal.τ).loc Cert.AdamwLastIdeal.main_v0_4)),
      θ_run (Cert.AdamwLastIdeal.defs (F := Ideal)) (onTc (τ := Cert.AdamwLastIdeal.τ) (Cert.AdamwLastIdeal.main (F := Ideal))) ⟨m, fun _ => 0, g⟩ (fun r => ∀ c : Dev Cert.AdamwLastIdeal.nD,
          r.2.mem ((c.tc : Thread Cert.AdamwLastIdeal.nD Cert.AdamwLastIdeal.τ).loc Cert.AdamwLastIdeal.main_v0_0) = v0 c
          ∧ r.2.mem ((c.tc : Thread Cert.AdamwLastIdeal.nD Cert.AdamwLastIdeal.τ).loc Cert.AdamwLastIdeal.main_v0_1) = v1 c
          ∧ r.2.mem ((c.tc : Thread Cert.AdamwLastIdeal.nD Cert.AdamwLastIdeal.τ).loc Cert.AdamwLastIdeal.main_v0_2) = v2 c
          ∧ r.2.mem ((c.tc : Thread Cert.AdamwLastIdeal.nD Cert.AdamwLastIdeal.τ).loc Cert.AdamwLastIdeal.main_v0_3) = v3 c
          ∧ r.2.mem ((c.tc : Thread Cert.AdamwLastIdeal.nD Cert.AdamwLastIdeal.τ).loc Cert.AdamwLastIdeal.main_v0_4) = v4 c
          ∧ r.2.mem ((c.tc : Thread Cert.AdamwLastIdeal.nD Cert.AdamwLastIdeal.τ).loc Cert.AdamwLastIdeal.main_arg0) = m ((c.tc : Thread Cert.AdamwLastIdeal.nD Cert.AdamwLastIdeal.τ).loc Cert.AdamwLastIdeal.main_arg0)
          ∧ r.2.mem ((c.tc : Thread Cert.AdamwLastIdeal.nD Cert.AdamwLastIdeal.τ).loc Cert.AdamwLastIdeal.main_arg1) = m ((c.tc : Thread Cert.AdamwLastIdeal.nD Cert.AdamwLastIdeal.τ).loc Cert.AdamwLastIdeal.main_arg1)
          ∧ r.2.mem ((c.tc : Thread Cert.AdamwLastIdeal.nD Cert.AdamwLastIdeal.τ).loc Cert.AdamwLastIdeal.main_arg2) = m ((c.tc : Thread Cert.AdamwLastIdeal.nD Cert.AdamwLastIdeal.τ).loc Cert.AdamwLastIdeal.main_arg2)
          ∧ r.2.mem ((c.tc : Thread Cert.AdamwLastIdeal.nD Cert.AdamwLastIdeal.τ).loc Cert.AdamwLastIdeal.main_arg3) = m ((c.tc : Thread Cert.AdamwLastIdeal.nD Cert.AdamwLastIdeal.τ).loc Cert.AdamwLastIdeal.main_arg3)
          ∧ r.2.mem ((c.tc : Thread Cert.AdamwLastIdeal.nD Cert.AdamwLastIdeal.τ).loc Cert.AdamwLastIdeal.main_arg4) = m ((c.tc : Thread Cert.AdamwLastIdeal.nD Cert.AdamwLastIdeal.τ).loc Cert.AdamwLastIdeal.main_arg4)
          ∧ r.2.mem ((c.tc : Thread Cert.AdamwLastIdeal.nD Cert.AdamwLastIdeal.τ).loc Cert.AdamwLastIdeal.main_arg5) = m ((c.tc : Thread Cert.AdamwLastIdeal.nD Cert.AdamwLastIdeal.τ).loc Cert.AdamwLastIdeal.main_arg5)
          ∧ r.2.mem ((c.tc : Thread Cert.AdamwLastIdeal.nD Cert.AdamwLastIdeal.τ).loc Cert.AdamwLastIdeal.main_arg6) = m ((c.tc : Thread Cert.AdamwLastIdeal.nD Cert.AdamwLastIdeal.τ).loc Cert.AdamwLastIdeal.main_arg6)
          ∧ r.2.mem ((c.tc : Thread Cert.AdamwLastIdeal.nD Cert.AdamwLastIdeal.τ).loc Cert.AdamwLastIdeal.main_arg7) = m ((c.tc : Thread Cert.AdamwLastIdeal.nD Cert.AdamwLastIdeal.τ).loc Cert.AdamwLastIdeal.main_arg7))
      ∧ θ_run (Cert.AdamwLastReferenceIdeal.defs (F := Ideal)) (onTc (τ := Cert.AdamwLastReferenceIdeal.τ) (Cert.AdamwLastReferenceIdeal.main (F := Ideal))) ⟨m', fun _ => 0, g'⟩ (fun r => ∀ c : Dev Cert.AdamwLastReferenceIdeal.nD,
          r.2.mem ((c.tc : Thread Cert.AdamwLastReferenceIdeal.nD Cert.AdamwLastReferenceIdeal.τ).loc Cert.AdamwLastReferenceIdeal.main_v6) = v0 c
          ∧ r.2.mem ((c.tc : Thread Cert.AdamwLastReferenceIdeal.nD Cert.AdamwLastReferenceIdeal.τ).loc Cert.AdamwLastReferenceIdeal.main_v30) = v1 c
          ∧ r.2.mem ((c.tc : Thread Cert.AdamwLastReferenceIdeal.nD Cert.AdamwLastReferenceIdeal.τ).loc Cert.AdamwLastReferenceIdeal.main_v11) = v2 c
          ∧ r.2.mem ((c.tc : Thread Cert.AdamwLastReferenceIdeal.nD Cert.AdamwLastReferenceIdeal.τ).loc Cert.AdamwLastReferenceIdeal.main_v17) = v3 c
          ∧ r.2.mem ((c.tc : Thread Cert.AdamwLastReferenceIdeal.nD Cert.AdamwLastReferenceIdeal.τ).loc Cert.AdamwLastReferenceIdeal.main_v37) = v4 c
          ∧ r.2.mem ((c.tc : Thread Cert.AdamwLastReferenceIdeal.nD Cert.AdamwLastReferenceIdeal.τ).loc Cert.AdamwLastReferenceIdeal.main_arg0) = m' ((c.tc : Thread Cert.AdamwLastReferenceIdeal.nD Cert.AdamwLastReferenceIdeal.τ).loc Cert.AdamwLastReferenceIdeal.main_arg0)
          ∧ r.2.mem ((c.tc : Thread Cert.AdamwLastReferenceIdeal.nD Cert.AdamwLastReferenceIdeal.τ).loc Cert.AdamwLastReferenceIdeal.main_arg1) = m' ((c.tc : Thread Cert.AdamwLastReferenceIdeal.nD Cert.AdamwLastReferenceIdeal.τ).loc Cert.AdamwLastReferenceIdeal.main_arg1)
          ∧ r.2.mem ((c.tc : Thread Cert.AdamwLastReferenceIdeal.nD Cert.AdamwLastReferenceIdeal.τ).loc Cert.AdamwLastReferenceIdeal.main_arg2) = m' ((c.tc : Thread Cert.AdamwLastReferenceIdeal.nD Cert.AdamwLastReferenceIdeal.τ).loc Cert.AdamwLastReferenceIdeal.main_arg2)
          ∧ r.2.mem ((c.tc : Thread Cert.AdamwLastReferenceIdeal.nD Cert.AdamwLastReferenceIdeal.τ).loc Cert.AdamwLastReferenceIdeal.main_arg3) = m' ((c.tc : Thread Cert.AdamwLastReferenceIdeal.nD Cert.AdamwLastReferenceIdeal.τ).loc Cert.AdamwLastReferenceIdeal.main_arg3)
          ∧ r.2.mem ((c.tc : Thread Cert.AdamwLastReferenceIdeal.nD Cert.AdamwLastReferenceIdeal.τ).loc Cert.AdamwLastReferenceIdeal.main_arg4) = m' ((c.tc : Thread Cert.AdamwLastReferenceIdeal.nD Cert.AdamwLastReferenceIdeal.τ).loc Cert.AdamwLastReferenceIdeal.main_arg4)
          ∧ r.2.mem ((c.tc : Thread Cert.AdamwLastReferenceIdeal.nD Cert.AdamwLastReferenceIdeal.τ).loc Cert.AdamwLastReferenceIdeal.main_arg5) = m' ((c.tc : Thread Cert.AdamwLastReferenceIdeal.nD Cert.AdamwLastReferenceIdeal.τ).loc Cert.AdamwLastReferenceIdeal.main_arg5)
          ∧ r.2.mem ((c.tc : Thread Cert.AdamwLastReferenceIdeal.nD Cert.AdamwLastReferenceIdeal.τ).loc Cert.AdamwLastReferenceIdeal.main_arg6) = m' ((c.tc : Thread Cert.AdamwLastReferenceIdeal.nD Cert.AdamwLastReferenceIdeal.τ).loc Cert.AdamwLastReferenceIdeal.main_arg6)
          ∧ r.2.mem ((c.tc : Thread Cert.AdamwLastReferenceIdeal.nD Cert.AdamwLastReferenceIdeal.τ).loc Cert.AdamwLastReferenceIdeal.main_arg7) = m' ((c.tc : Thread Cert.AdamwLastReferenceIdeal.nD Cert.AdamwLastReferenceIdeal.τ).loc Cert.AdamwLastReferenceIdeal.main_arg7))

def preserves_AdamwCols_AdamwColsIdeal : Prop :=
  True

def algebraic_AdamwColsIdeal_AdamwColsReferenceIdeal [hAdamwColsIdeal : Cert.AdamwColsIdeal.Facts] [hAdamwColsReferenceIdeal : Cert.AdamwColsReferenceIdeal.Facts] : Prop :=
  ∀ (m : (ℓ : Loc Cert.AdamwColsIdeal.nD Cert.AdamwColsIdeal.τ Cert.AdamwColsIdeal.sig) → Buf (Elt Ideal) ℓ) (g : Dev Cert.AdamwColsIdeal.nD → PrngReg)
    (m' : (ℓ : Loc Cert.AdamwColsReferenceIdeal.nD Cert.AdamwColsReferenceIdeal.τ Cert.AdamwColsReferenceIdeal.sig) → Buf (Elt Ideal) ℓ) (g' : Dev Cert.AdamwColsReferenceIdeal.nD → PrngReg), Pre_AdamwColsIdeal m →
    (∀ c : Dev Cert.AdamwColsIdeal.nD,
      m' ((c.tc : Thread Cert.AdamwColsReferenceIdeal.nD Cert.AdamwColsReferenceIdeal.τ).loc Cert.AdamwColsReferenceIdeal.main_arg0) = m ((c.tc : Thread Cert.AdamwColsIdeal.nD Cert.AdamwColsIdeal.τ).loc Cert.AdamwColsIdeal.main_arg0)
      ∧ m' ((c.tc : Thread Cert.AdamwColsReferenceIdeal.nD Cert.AdamwColsReferenceIdeal.τ).loc Cert.AdamwColsReferenceIdeal.main_arg1) = m ((c.tc : Thread Cert.AdamwColsIdeal.nD Cert.AdamwColsIdeal.τ).loc Cert.AdamwColsIdeal.main_arg1)
      ∧ m' ((c.tc : Thread Cert.AdamwColsReferenceIdeal.nD Cert.AdamwColsReferenceIdeal.τ).loc Cert.AdamwColsReferenceIdeal.main_arg2) = m ((c.tc : Thread Cert.AdamwColsIdeal.nD Cert.AdamwColsIdeal.τ).loc Cert.AdamwColsIdeal.main_arg2)
      ∧ m' ((c.tc : Thread Cert.AdamwColsReferenceIdeal.nD Cert.AdamwColsReferenceIdeal.τ).loc Cert.AdamwColsReferenceIdeal.main_arg3) = m ((c.tc : Thread Cert.AdamwColsIdeal.nD Cert.AdamwColsIdeal.τ).loc Cert.AdamwColsIdeal.main_arg3)
      ∧ m' ((c.tc : Thread Cert.AdamwColsReferenceIdeal.nD Cert.AdamwColsReferenceIdeal.τ).loc Cert.AdamwColsReferenceIdeal.main_arg4) = m ((c.tc : Thread Cert.AdamwColsIdeal.nD Cert.AdamwColsIdeal.τ).loc Cert.AdamwColsIdeal.main_arg4)
      ∧ m' ((c.tc : Thread Cert.AdamwColsReferenceIdeal.nD Cert.AdamwColsReferenceIdeal.τ).loc Cert.AdamwColsReferenceIdeal.main_arg5) = m ((c.tc : Thread Cert.AdamwColsIdeal.nD Cert.AdamwColsIdeal.τ).loc Cert.AdamwColsIdeal.main_arg5)
      ∧ m' ((c.tc : Thread Cert.AdamwColsReferenceIdeal.nD Cert.AdamwColsReferenceIdeal.τ).loc Cert.AdamwColsReferenceIdeal.main_arg6) = m ((c.tc : Thread Cert.AdamwColsIdeal.nD Cert.AdamwColsIdeal.τ).loc Cert.AdamwColsIdeal.main_arg6)
      ∧ m' ((c.tc : Thread Cert.AdamwColsReferenceIdeal.nD Cert.AdamwColsReferenceIdeal.τ).loc Cert.AdamwColsReferenceIdeal.main_arg7) = m ((c.tc : Thread Cert.AdamwColsIdeal.nD Cert.AdamwColsIdeal.τ).loc Cert.AdamwColsIdeal.main_arg7)) →
    ∃ (v0 : (c : Dev Cert.AdamwColsIdeal.nD) → Buf (Elt Ideal) ((c.tc : Thread Cert.AdamwColsIdeal.nD Cert.AdamwColsIdeal.τ).loc Cert.AdamwColsIdeal.main_v6_0)) (v1 : (c : Dev Cert.AdamwColsIdeal.nD) → Buf (Elt Ideal) ((c.tc : Thread Cert.AdamwColsIdeal.nD Cert.AdamwColsIdeal.τ).loc Cert.AdamwColsIdeal.main_v6_1)) (v2 : (c : Dev Cert.AdamwColsIdeal.nD) → Buf (Elt Ideal) ((c.tc : Thread Cert.AdamwColsIdeal.nD Cert.AdamwColsIdeal.τ).loc Cert.AdamwColsIdeal.main_v6_2)) (v3 : (c : Dev Cert.AdamwColsIdeal.nD) → Buf (Elt Ideal) ((c.tc : Thread Cert.AdamwColsIdeal.nD Cert.AdamwColsIdeal.τ).loc Cert.AdamwColsIdeal.main_v6_3)) (v4 : (c : Dev Cert.AdamwColsIdeal.nD) → Buf (Elt Ideal) ((c.tc : Thread Cert.AdamwColsIdeal.nD Cert.AdamwColsIdeal.τ).loc Cert.AdamwColsIdeal.main_v6_4)) (v5 : (c : Dev Cert.AdamwColsIdeal.nD) → Buf (Elt Ideal) ((c.tc : Thread Cert.AdamwColsIdeal.nD Cert.AdamwColsIdeal.τ).loc Cert.AdamwColsIdeal.main_v6_5)) (v6 : (c : Dev Cert.AdamwColsIdeal.nD) → Buf (Elt Ideal) ((c.tc : Thread Cert.AdamwColsIdeal.nD Cert.AdamwColsIdeal.τ).loc Cert.AdamwColsIdeal.main_v6_6)) (v7 : (c : Dev Cert.AdamwColsIdeal.nD) → Buf (Elt Ideal) ((c.tc : Thread Cert.AdamwColsIdeal.nD Cert.AdamwColsIdeal.τ).loc Cert.AdamwColsIdeal.main_v6_7)),
      θ_run (Cert.AdamwColsIdeal.defs (F := Ideal)) (onTc (τ := Cert.AdamwColsIdeal.τ) (Cert.AdamwColsIdeal.main (F := Ideal))) ⟨m, fun _ => 0, g⟩ (fun r => ∀ c : Dev Cert.AdamwColsIdeal.nD,
          r.2.mem ((c.tc : Thread Cert.AdamwColsIdeal.nD Cert.AdamwColsIdeal.τ).loc Cert.AdamwColsIdeal.main_v6_0) = v0 c
          ∧ r.2.mem ((c.tc : Thread Cert.AdamwColsIdeal.nD Cert.AdamwColsIdeal.τ).loc Cert.AdamwColsIdeal.main_v6_1) = v1 c
          ∧ r.2.mem ((c.tc : Thread Cert.AdamwColsIdeal.nD Cert.AdamwColsIdeal.τ).loc Cert.AdamwColsIdeal.main_v6_2) = v2 c
          ∧ r.2.mem ((c.tc : Thread Cert.AdamwColsIdeal.nD Cert.AdamwColsIdeal.τ).loc Cert.AdamwColsIdeal.main_v6_3) = v3 c
          ∧ r.2.mem ((c.tc : Thread Cert.AdamwColsIdeal.nD Cert.AdamwColsIdeal.τ).loc Cert.AdamwColsIdeal.main_v6_4) = v4 c
          ∧ r.2.mem ((c.tc : Thread Cert.AdamwColsIdeal.nD Cert.AdamwColsIdeal.τ).loc Cert.AdamwColsIdeal.main_v6_5) = v5 c
          ∧ r.2.mem ((c.tc : Thread Cert.AdamwColsIdeal.nD Cert.AdamwColsIdeal.τ).loc Cert.AdamwColsIdeal.main_v6_6) = v6 c
          ∧ r.2.mem ((c.tc : Thread Cert.AdamwColsIdeal.nD Cert.AdamwColsIdeal.τ).loc Cert.AdamwColsIdeal.main_v6_7) = v7 c
          ∧ r.2.mem ((c.tc : Thread Cert.AdamwColsIdeal.nD Cert.AdamwColsIdeal.τ).loc Cert.AdamwColsIdeal.main_arg0) = m ((c.tc : Thread Cert.AdamwColsIdeal.nD Cert.AdamwColsIdeal.τ).loc Cert.AdamwColsIdeal.main_arg0)
          ∧ r.2.mem ((c.tc : Thread Cert.AdamwColsIdeal.nD Cert.AdamwColsIdeal.τ).loc Cert.AdamwColsIdeal.main_arg1) = m ((c.tc : Thread Cert.AdamwColsIdeal.nD Cert.AdamwColsIdeal.τ).loc Cert.AdamwColsIdeal.main_arg1)
          ∧ r.2.mem ((c.tc : Thread Cert.AdamwColsIdeal.nD Cert.AdamwColsIdeal.τ).loc Cert.AdamwColsIdeal.main_arg2) = m ((c.tc : Thread Cert.AdamwColsIdeal.nD Cert.AdamwColsIdeal.τ).loc Cert.AdamwColsIdeal.main_arg2)
          ∧ r.2.mem ((c.tc : Thread Cert.AdamwColsIdeal.nD Cert.AdamwColsIdeal.τ).loc Cert.AdamwColsIdeal.main_arg3) = m ((c.tc : Thread Cert.AdamwColsIdeal.nD Cert.AdamwColsIdeal.τ).loc Cert.AdamwColsIdeal.main_arg3)
          ∧ r.2.mem ((c.tc : Thread Cert.AdamwColsIdeal.nD Cert.AdamwColsIdeal.τ).loc Cert.AdamwColsIdeal.main_arg4) = m ((c.tc : Thread Cert.AdamwColsIdeal.nD Cert.AdamwColsIdeal.τ).loc Cert.AdamwColsIdeal.main_arg4)
          ∧ r.2.mem ((c.tc : Thread Cert.AdamwColsIdeal.nD Cert.AdamwColsIdeal.τ).loc Cert.AdamwColsIdeal.main_arg5) = m ((c.tc : Thread Cert.AdamwColsIdeal.nD Cert.AdamwColsIdeal.τ).loc Cert.AdamwColsIdeal.main_arg5)
          ∧ r.2.mem ((c.tc : Thread Cert.AdamwColsIdeal.nD Cert.AdamwColsIdeal.τ).loc Cert.AdamwColsIdeal.main_arg6) = m ((c.tc : Thread Cert.AdamwColsIdeal.nD Cert.AdamwColsIdeal.τ).loc Cert.AdamwColsIdeal.main_arg6)
          ∧ r.2.mem ((c.tc : Thread Cert.AdamwColsIdeal.nD Cert.AdamwColsIdeal.τ).loc Cert.AdamwColsIdeal.main_arg7) = m ((c.tc : Thread Cert.AdamwColsIdeal.nD Cert.AdamwColsIdeal.τ).loc Cert.AdamwColsIdeal.main_arg7))
      ∧ θ_run (Cert.AdamwColsReferenceIdeal.defs (F := Ideal)) (onTc (τ := Cert.AdamwColsReferenceIdeal.τ) (Cert.AdamwColsReferenceIdeal.main (F := Ideal))) ⟨m', fun _ => 0, g'⟩ (fun r => ∀ c : Dev Cert.AdamwColsReferenceIdeal.nD,
          r.2.mem ((c.tc : Thread Cert.AdamwColsReferenceIdeal.nD Cert.AdamwColsReferenceIdeal.τ).loc Cert.AdamwColsReferenceIdeal.main_arg0) = v0 c
          ∧ r.2.mem ((c.tc : Thread Cert.AdamwColsReferenceIdeal.nD Cert.AdamwColsReferenceIdeal.τ).loc Cert.AdamwColsReferenceIdeal.main_v23) = v1 c
          ∧ r.2.mem ((c.tc : Thread Cert.AdamwColsReferenceIdeal.nD Cert.AdamwColsReferenceIdeal.τ).loc Cert.AdamwColsReferenceIdeal.main_v4) = v2 c
          ∧ r.2.mem ((c.tc : Thread Cert.AdamwColsReferenceIdeal.nD Cert.AdamwColsReferenceIdeal.τ).loc Cert.AdamwColsReferenceIdeal.main_v10) = v3 c
          ∧ r.2.mem ((c.tc : Thread Cert.AdamwColsReferenceIdeal.nD Cert.AdamwColsReferenceIdeal.τ).loc Cert.AdamwColsReferenceIdeal.main_v48) = v4 c
          ∧ r.2.mem ((c.tc : Thread Cert.AdamwColsReferenceIdeal.nD Cert.AdamwColsReferenceIdeal.τ).loc Cert.AdamwColsReferenceIdeal.main_v49) = v5 c
          ∧ r.2.mem ((c.tc : Thread Cert.AdamwColsReferenceIdeal.nD Cert.AdamwColsReferenceIdeal.τ).loc Cert.AdamwColsReferenceIdeal.main_v50) = v6 c
          ∧ r.2.mem ((c.tc : Thread Cert.AdamwColsReferenceIdeal.nD Cert.AdamwColsReferenceIdeal.τ).loc Cert.AdamwColsReferenceIdeal.main_v51) = v7 c
          ∧ r.2.mem ((c.tc : Thread Cert.AdamwColsReferenceIdeal.nD Cert.AdamwColsReferenceIdeal.τ).loc Cert.AdamwColsReferenceIdeal.main_arg0) = m' ((c.tc : Thread Cert.AdamwColsReferenceIdeal.nD Cert.AdamwColsReferenceIdeal.τ).loc Cert.AdamwColsReferenceIdeal.main_arg0)
          ∧ r.2.mem ((c.tc : Thread Cert.AdamwColsReferenceIdeal.nD Cert.AdamwColsReferenceIdeal.τ).loc Cert.AdamwColsReferenceIdeal.main_arg1) = m' ((c.tc : Thread Cert.AdamwColsReferenceIdeal.nD Cert.AdamwColsReferenceIdeal.τ).loc Cert.AdamwColsReferenceIdeal.main_arg1)
          ∧ r.2.mem ((c.tc : Thread Cert.AdamwColsReferenceIdeal.nD Cert.AdamwColsReferenceIdeal.τ).loc Cert.AdamwColsReferenceIdeal.main_arg2) = m' ((c.tc : Thread Cert.AdamwColsReferenceIdeal.nD Cert.AdamwColsReferenceIdeal.τ).loc Cert.AdamwColsReferenceIdeal.main_arg2)
          ∧ r.2.mem ((c.tc : Thread Cert.AdamwColsReferenceIdeal.nD Cert.AdamwColsReferenceIdeal.τ).loc Cert.AdamwColsReferenceIdeal.main_arg3) = m' ((c.tc : Thread Cert.AdamwColsReferenceIdeal.nD Cert.AdamwColsReferenceIdeal.τ).loc Cert.AdamwColsReferenceIdeal.main_arg3)
          ∧ r.2.mem ((c.tc : Thread Cert.AdamwColsReferenceIdeal.nD Cert.AdamwColsReferenceIdeal.τ).loc Cert.AdamwColsReferenceIdeal.main_arg4) = m' ((c.tc : Thread Cert.AdamwColsReferenceIdeal.nD Cert.AdamwColsReferenceIdeal.τ).loc Cert.AdamwColsReferenceIdeal.main_arg4)
          ∧ r.2.mem ((c.tc : Thread Cert.AdamwColsReferenceIdeal.nD Cert.AdamwColsReferenceIdeal.τ).loc Cert.AdamwColsReferenceIdeal.main_arg5) = m' ((c.tc : Thread Cert.AdamwColsReferenceIdeal.nD Cert.AdamwColsReferenceIdeal.τ).loc Cert.AdamwColsReferenceIdeal.main_arg5)
          ∧ r.2.mem ((c.tc : Thread Cert.AdamwColsReferenceIdeal.nD Cert.AdamwColsReferenceIdeal.τ).loc Cert.AdamwColsReferenceIdeal.main_arg6) = m' ((c.tc : Thread Cert.AdamwColsReferenceIdeal.nD Cert.AdamwColsReferenceIdeal.τ).loc Cert.AdamwColsReferenceIdeal.main_arg6)
          ∧ r.2.mem ((c.tc : Thread Cert.AdamwColsReferenceIdeal.nD Cert.AdamwColsReferenceIdeal.τ).loc Cert.AdamwColsReferenceIdeal.main_arg7) = m' ((c.tc : Thread Cert.AdamwColsReferenceIdeal.nD Cert.AdamwColsReferenceIdeal.τ).loc Cert.AdamwColsReferenceIdeal.main_arg7))

def Claim : Prop :=
  ∃ (hKernel : Cert.Kernel.Facts) (hKernelIdeal : Cert.KernelIdeal.Facts) (hReferenceIdeal : Cert.ReferenceIdeal.Facts) (hUpBwdW : Cert.UpBwdW.Facts) (hUpBwdWIdeal : Cert.UpBwdWIdeal.Facts) (hUpBwdWReferenceIdeal : Cert.UpBwdWReferenceIdeal.Facts) (hUpBwdX : Cert.UpBwdX.Facts) (hUpBwdXIdeal : Cert.UpBwdXIdeal.Facts) (hUpBwdXReferenceIdeal : Cert.UpBwdXReferenceIdeal.Facts) (hDownBwdX : Cert.DownBwdX.Facts) (hDownBwdXIdeal : Cert.DownBwdXIdeal.Facts) (hDownBwdXReferenceIdeal : Cert.DownBwdXReferenceIdeal.Facts) (hDownBwdW : Cert.DownBwdW.Facts) (hDownBwdWIdeal : Cert.DownBwdWIdeal.Facts) (hDownBwdWReferenceIdeal : Cert.DownBwdWReferenceIdeal.Facts) (hUpProj : Cert.UpProj.Facts) (hUpProjIdeal : Cert.UpProjIdeal.Facts) (hUpProjReferenceIdeal : Cert.UpProjReferenceIdeal.Facts) (hDownProj : Cert.DownProj.Facts) (hDownProjIdeal : Cert.DownProjIdeal.Facts) (hDownProjReferenceIdeal : Cert.DownProjReferenceIdeal.Facts) (hInProj : Cert.InProj.Facts) (hInProjIdeal : Cert.InProjIdeal.Facts) (hInProjReferenceIdeal : Cert.InProjReferenceIdeal.Facts) (hInBwdX : Cert.InBwdX.Facts) (hInBwdXIdeal : Cert.InBwdXIdeal.Facts) (hInBwdXReferenceIdeal : Cert.InBwdXReferenceIdeal.Facts) (hInBwdW : Cert.InBwdW.Facts) (hInBwdWIdeal : Cert.InBwdWIdeal.Facts) (hInBwdWReferenceIdeal : Cert.InBwdWReferenceIdeal.Facts) (hOutProj : Cert.OutProj.Facts) (hOutProjIdeal : Cert.OutProjIdeal.Facts) (hOutProjReferenceIdeal : Cert.OutProjReferenceIdeal.Facts) (hOutBwdX : Cert.OutBwdX.Facts) (hOutBwdXIdeal : Cert.OutBwdXIdeal.Facts) (hOutBwdXReferenceIdeal : Cert.OutBwdXReferenceIdeal.Facts) (hOutBwdW : Cert.OutBwdW.Facts) (hOutBwdWIdeal : Cert.OutBwdWIdeal.Facts) (hOutBwdWReferenceIdeal : Cert.OutBwdWReferenceIdeal.Facts) (hGluProj : Cert.GluProj.Facts) (hGluProjIdeal : Cert.GluProjIdeal.Facts) (hGluProjReferenceIdeal : Cert.GluProjReferenceIdeal.Facts) (hGluBwdX : Cert.GluBwdX.Facts) (hGluBwdXIdeal : Cert.GluBwdXIdeal.Facts) (hGluBwdXReferenceIdeal : Cert.GluBwdXReferenceIdeal.Facts) (hGluBwdW : Cert.GluBwdW.Facts) (hGluBwdWIdeal : Cert.GluBwdWIdeal.Facts) (hGluBwdWReferenceIdeal : Cert.GluBwdWReferenceIdeal.Facts) (hQProj : Cert.QProj.Facts) (hQProjIdeal : Cert.QProjIdeal.Facts) (hQProjReferenceIdeal : Cert.QProjReferenceIdeal.Facts) (hQBwdW : Cert.QBwdW.Facts) (hQBwdWIdeal : Cert.QBwdWIdeal.Facts) (hQBwdWReferenceIdeal : Cert.QBwdWReferenceIdeal.Facts) (hQBwdX : Cert.QBwdX.Facts) (hQBwdXIdeal : Cert.QBwdXIdeal.Facts) (hQBwdXReferenceIdeal : Cert.QBwdXReferenceIdeal.Facts) (hKvProj : Cert.KvProj.Facts) (hKvProjIdeal : Cert.KvProjIdeal.Facts) (hKvProjReferenceIdeal : Cert.KvProjReferenceIdeal.Facts) (hKvBwdW : Cert.KvBwdW.Facts) (hKvBwdWIdeal : Cert.KvBwdWIdeal.Facts) (hKvBwdWReferenceIdeal : Cert.KvBwdWReferenceIdeal.Facts) (hKvBwdX : Cert.KvBwdX.Facts) (hKvBwdXIdeal : Cert.KvBwdXIdeal.Facts) (hKvBwdXReferenceIdeal : Cert.KvBwdXReferenceIdeal.Facts) (hAttnFwd : Cert.AttnFwd.Facts) (hAttnFwdIdeal : Cert.AttnFwdIdeal.Facts) (hAttnFwdReferenceIdeal : Cert.AttnFwdReferenceIdeal.Facts) (hRmsMixBwd : Cert.RmsMixBwd.Facts) (hRmsMixBwdIdeal : Cert.RmsMixBwdIdeal.Facts) (hRmsMixBwdReferenceIdeal : Cert.RmsMixBwdReferenceIdeal.Facts) (hRmsFfnBwd : Cert.RmsFfnBwd.Facts) (hRmsFfnBwdIdeal : Cert.RmsFfnBwdIdeal.Facts) (hRmsFfnBwdReferenceIdeal : Cert.RmsFfnBwdReferenceIdeal.Facts) (hRmsAttnBwd : Cert.RmsAttnBwd.Facts) (hRmsAttnBwdIdeal : Cert.RmsAttnBwdIdeal.Facts) (hRmsAttnBwdReferenceIdeal : Cert.RmsAttnBwdReferenceIdeal.Facts) (hAdamwLast : Cert.AdamwLast.Facts) (hAdamwLastIdeal : Cert.AdamwLastIdeal.Facts) (hAdamwLastReferenceIdeal : Cert.AdamwLastReferenceIdeal.Facts) (hAdamwCols : Cert.AdamwCols.Facts) (hAdamwColsIdeal : Cert.AdamwColsIdeal.Facts) (hAdamwColsReferenceIdeal : Cert.AdamwColsReferenceIdeal.Facts) (hPre_finite_scores : Cert.Pre_finite_scores.Facts) (hPre_finite_forward : Cert.Pre_finite_forward.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_UpBwdW (hUpBwdW := hUpBwdW)
    ∧ quiescent_UpBwdWIdeal (hUpBwdWIdeal := hUpBwdWIdeal)
    ∧ quiescent_UpBwdWReferenceIdeal (hUpBwdWReferenceIdeal := hUpBwdWReferenceIdeal)
    ∧ quiescent_UpBwdX (hUpBwdX := hUpBwdX)
    ∧ quiescent_UpBwdXIdeal (hUpBwdXIdeal := hUpBwdXIdeal)
    ∧ quiescent_UpBwdXReferenceIdeal (hUpBwdXReferenceIdeal := hUpBwdXReferenceIdeal)
    ∧ quiescent_DownBwdX (hDownBwdX := hDownBwdX)
    ∧ quiescent_DownBwdXIdeal (hDownBwdXIdeal := hDownBwdXIdeal)
    ∧ quiescent_DownBwdXReferenceIdeal (hDownBwdXReferenceIdeal := hDownBwdXReferenceIdeal)
    ∧ quiescent_DownBwdW (hDownBwdW := hDownBwdW)
    ∧ quiescent_DownBwdWIdeal (hDownBwdWIdeal := hDownBwdWIdeal)
    ∧ quiescent_DownBwdWReferenceIdeal (hDownBwdWReferenceIdeal := hDownBwdWReferenceIdeal)
    ∧ quiescent_UpProj (hUpProj := hUpProj)
    ∧ quiescent_UpProjIdeal (hUpProjIdeal := hUpProjIdeal)
    ∧ quiescent_UpProjReferenceIdeal (hUpProjReferenceIdeal := hUpProjReferenceIdeal)
    ∧ quiescent_DownProj (hDownProj := hDownProj)
    ∧ quiescent_DownProjIdeal (hDownProjIdeal := hDownProjIdeal)
    ∧ quiescent_DownProjReferenceIdeal (hDownProjReferenceIdeal := hDownProjReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_InBwdX (hInBwdX := hInBwdX)
    ∧ quiescent_InBwdXIdeal (hInBwdXIdeal := hInBwdXIdeal)
    ∧ quiescent_InBwdXReferenceIdeal (hInBwdXReferenceIdeal := hInBwdXReferenceIdeal)
    ∧ quiescent_InBwdW (hInBwdW := hInBwdW)
    ∧ quiescent_InBwdWIdeal (hInBwdWIdeal := hInBwdWIdeal)
    ∧ quiescent_InBwdWReferenceIdeal (hInBwdWReferenceIdeal := hInBwdWReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OutBwdX (hOutBwdX := hOutBwdX)
    ∧ quiescent_OutBwdXIdeal (hOutBwdXIdeal := hOutBwdXIdeal)
    ∧ quiescent_OutBwdXReferenceIdeal (hOutBwdXReferenceIdeal := hOutBwdXReferenceIdeal)
    ∧ quiescent_OutBwdW (hOutBwdW := hOutBwdW)
    ∧ quiescent_OutBwdWIdeal (hOutBwdWIdeal := hOutBwdWIdeal)
    ∧ quiescent_OutBwdWReferenceIdeal (hOutBwdWReferenceIdeal := hOutBwdWReferenceIdeal)
    ∧ quiescent_GluProj (hGluProj := hGluProj)
    ∧ quiescent_GluProjIdeal (hGluProjIdeal := hGluProjIdeal)
    ∧ quiescent_GluProjReferenceIdeal (hGluProjReferenceIdeal := hGluProjReferenceIdeal)
    ∧ quiescent_GluBwdX (hGluBwdX := hGluBwdX)
    ∧ quiescent_GluBwdXIdeal (hGluBwdXIdeal := hGluBwdXIdeal)
    ∧ quiescent_GluBwdXReferenceIdeal (hGluBwdXReferenceIdeal := hGluBwdXReferenceIdeal)
    ∧ quiescent_GluBwdW (hGluBwdW := hGluBwdW)
    ∧ quiescent_GluBwdWIdeal (hGluBwdWIdeal := hGluBwdWIdeal)
    ∧ quiescent_GluBwdWReferenceIdeal (hGluBwdWReferenceIdeal := hGluBwdWReferenceIdeal)
    ∧ quiescent_QProj (hQProj := hQProj)
    ∧ quiescent_QProjIdeal (hQProjIdeal := hQProjIdeal)
    ∧ quiescent_QProjReferenceIdeal (hQProjReferenceIdeal := hQProjReferenceIdeal)
    ∧ quiescent_QBwdW (hQBwdW := hQBwdW)
    ∧ quiescent_QBwdWIdeal (hQBwdWIdeal := hQBwdWIdeal)
    ∧ quiescent_QBwdWReferenceIdeal (hQBwdWReferenceIdeal := hQBwdWReferenceIdeal)
    ∧ quiescent_QBwdX (hQBwdX := hQBwdX)
    ∧ quiescent_QBwdXIdeal (hQBwdXIdeal := hQBwdXIdeal)
    ∧ quiescent_QBwdXReferenceIdeal (hQBwdXReferenceIdeal := hQBwdXReferenceIdeal)
    ∧ quiescent_KvProj (hKvProj := hKvProj)
    ∧ quiescent_KvProjIdeal (hKvProjIdeal := hKvProjIdeal)
    ∧ quiescent_KvProjReferenceIdeal (hKvProjReferenceIdeal := hKvProjReferenceIdeal)
    ∧ quiescent_KvBwdW (hKvBwdW := hKvBwdW)
    ∧ quiescent_KvBwdWIdeal (hKvBwdWIdeal := hKvBwdWIdeal)
    ∧ quiescent_KvBwdWReferenceIdeal (hKvBwdWReferenceIdeal := hKvBwdWReferenceIdeal)
    ∧ quiescent_KvBwdX (hKvBwdX := hKvBwdX)
    ∧ quiescent_KvBwdXIdeal (hKvBwdXIdeal := hKvBwdXIdeal)
    ∧ quiescent_KvBwdXReferenceIdeal (hKvBwdXReferenceIdeal := hKvBwdXReferenceIdeal)
    ∧ quiescent_AttnFwd (hAttnFwd := hAttnFwd)
    ∧ quiescent_AttnFwdIdeal (hAttnFwdIdeal := hAttnFwdIdeal)
    ∧ quiescent_AttnFwdIdeal_pre_finite_forward (hAttnFwdIdeal := hAttnFwdIdeal) (hPre_finite_forward := hPre_finite_forward)
    ∧ quiescent_AttnFwdReferenceIdeal (hAttnFwdReferenceIdeal := hAttnFwdReferenceIdeal)
    ∧ quiescent_AttnFwdReferenceIdeal_pre_finite_forward (hAttnFwdReferenceIdeal := hAttnFwdReferenceIdeal) (hPre_finite_forward := hPre_finite_forward)
    ∧ quiescent_RmsMixBwd (hRmsMixBwd := hRmsMixBwd)
    ∧ quiescent_RmsMixBwdIdeal (hRmsMixBwdIdeal := hRmsMixBwdIdeal)
    ∧ quiescent_RmsMixBwdReferenceIdeal (hRmsMixBwdReferenceIdeal := hRmsMixBwdReferenceIdeal)
    ∧ quiescent_RmsFfnBwd (hRmsFfnBwd := hRmsFfnBwd)
    ∧ quiescent_RmsFfnBwdIdeal (hRmsFfnBwdIdeal := hRmsFfnBwdIdeal)
    ∧ quiescent_RmsFfnBwdReferenceIdeal (hRmsFfnBwdReferenceIdeal := hRmsFfnBwdReferenceIdeal)
    ∧ quiescent_RmsAttnBwd (hRmsAttnBwd := hRmsAttnBwd)
    ∧ quiescent_RmsAttnBwdIdeal (hRmsAttnBwdIdeal := hRmsAttnBwdIdeal)
    ∧ quiescent_RmsAttnBwdReferenceIdeal (hRmsAttnBwdReferenceIdeal := hRmsAttnBwdReferenceIdeal)
    ∧ quiescent_AdamwLast (hAdamwLast := hAdamwLast)
    ∧ quiescent_AdamwLastIdeal (hAdamwLastIdeal := hAdamwLastIdeal)
    ∧ quiescent_AdamwLastReferenceIdeal (hAdamwLastReferenceIdeal := hAdamwLastReferenceIdeal)
    ∧ quiescent_AdamwCols (hAdamwCols := hAdamwCols)
    ∧ quiescent_AdamwColsIdeal (hAdamwColsIdeal := hAdamwColsIdeal)
    ∧ quiescent_AdamwColsReferenceIdeal (hAdamwColsReferenceIdeal := hAdamwColsReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_UpBwdW_UpBwdWIdeal
    ∧ algebraic_UpBwdWIdeal_UpBwdWReferenceIdeal (hUpBwdWIdeal := hUpBwdWIdeal) (hUpBwdWReferenceIdeal := hUpBwdWReferenceIdeal)
    ∧ preserves_UpBwdX_UpBwdXIdeal
    ∧ algebraic_UpBwdXIdeal_UpBwdXReferenceIdeal (hUpBwdXIdeal := hUpBwdXIdeal) (hUpBwdXReferenceIdeal := hUpBwdXReferenceIdeal)
    ∧ preserves_DownBwdX_DownBwdXIdeal
    ∧ algebraic_DownBwdXIdeal_DownBwdXReferenceIdeal (hDownBwdXIdeal := hDownBwdXIdeal) (hDownBwdXReferenceIdeal := hDownBwdXReferenceIdeal)
    ∧ preserves_DownBwdW_DownBwdWIdeal
    ∧ algebraic_DownBwdWIdeal_DownBwdWReferenceIdeal (hDownBwdWIdeal := hDownBwdWIdeal) (hDownBwdWReferenceIdeal := hDownBwdWReferenceIdeal)
    ∧ preserves_UpProj_UpProjIdeal
    ∧ algebraic_UpProjIdeal_UpProjReferenceIdeal (hUpProjIdeal := hUpProjIdeal) (hUpProjReferenceIdeal := hUpProjReferenceIdeal)
    ∧ preserves_DownProj_DownProjIdeal
    ∧ algebraic_DownProjIdeal_DownProjReferenceIdeal (hDownProjIdeal := hDownProjIdeal) (hDownProjReferenceIdeal := hDownProjReferenceIdeal)
    ∧ preserves_InProj_InProjIdeal
    ∧ algebraic_InProjIdeal_InProjReferenceIdeal (hInProjIdeal := hInProjIdeal) (hInProjReferenceIdeal := hInProjReferenceIdeal)
    ∧ preserves_InBwdX_InBwdXIdeal
    ∧ algebraic_InBwdXIdeal_InBwdXReferenceIdeal (hInBwdXIdeal := hInBwdXIdeal) (hInBwdXReferenceIdeal := hInBwdXReferenceIdeal)
    ∧ preserves_InBwdW_InBwdWIdeal
    ∧ algebraic_InBwdWIdeal_InBwdWReferenceIdeal (hInBwdWIdeal := hInBwdWIdeal) (hInBwdWReferenceIdeal := hInBwdWReferenceIdeal)
    ∧ preserves_OutProj_OutProjIdeal
    ∧ algebraic_OutProjIdeal_OutProjReferenceIdeal (hOutProjIdeal := hOutProjIdeal) (hOutProjReferenceIdeal := hOutProjReferenceIdeal)
    ∧ preserves_OutBwdX_OutBwdXIdeal
    ∧ algebraic_OutBwdXIdeal_OutBwdXReferenceIdeal (hOutBwdXIdeal := hOutBwdXIdeal) (hOutBwdXReferenceIdeal := hOutBwdXReferenceIdeal)
    ∧ preserves_OutBwdW_OutBwdWIdeal
    ∧ algebraic_OutBwdWIdeal_OutBwdWReferenceIdeal (hOutBwdWIdeal := hOutBwdWIdeal) (hOutBwdWReferenceIdeal := hOutBwdWReferenceIdeal)
    ∧ preserves_GluProj_GluProjIdeal
    ∧ algebraic_GluProjIdeal_GluProjReferenceIdeal (hGluProjIdeal := hGluProjIdeal) (hGluProjReferenceIdeal := hGluProjReferenceIdeal)
    ∧ preserves_GluBwdX_GluBwdXIdeal
    ∧ algebraic_GluBwdXIdeal_GluBwdXReferenceIdeal (hGluBwdXIdeal := hGluBwdXIdeal) (hGluBwdXReferenceIdeal := hGluBwdXReferenceIdeal)
    ∧ preserves_GluBwdW_GluBwdWIdeal
    ∧ algebraic_GluBwdWIdeal_GluBwdWReferenceIdeal (hGluBwdWIdeal := hGluBwdWIdeal) (hGluBwdWReferenceIdeal := hGluBwdWReferenceIdeal)
    ∧ preserves_QProj_QProjIdeal
    ∧ algebraic_QProjIdeal_QProjReferenceIdeal (hQProjIdeal := hQProjIdeal) (hQProjReferenceIdeal := hQProjReferenceIdeal)
    ∧ preserves_QBwdW_QBwdWIdeal
    ∧ algebraic_QBwdWIdeal_QBwdWReferenceIdeal (hQBwdWIdeal := hQBwdWIdeal) (hQBwdWReferenceIdeal := hQBwdWReferenceIdeal)
    ∧ preserves_QBwdX_QBwdXIdeal
    ∧ algebraic_QBwdXIdeal_QBwdXReferenceIdeal (hQBwdXIdeal := hQBwdXIdeal) (hQBwdXReferenceIdeal := hQBwdXReferenceIdeal)
    ∧ preserves_KvProj_KvProjIdeal
    ∧ algebraic_KvProjIdeal_KvProjReferenceIdeal (hKvProjIdeal := hKvProjIdeal) (hKvProjReferenceIdeal := hKvProjReferenceIdeal)
    ∧ preserves_KvBwdW_KvBwdWIdeal
    ∧ algebraic_KvBwdWIdeal_KvBwdWReferenceIdeal (hKvBwdWIdeal := hKvBwdWIdeal) (hKvBwdWReferenceIdeal := hKvBwdWReferenceIdeal)
    ∧ preserves_KvBwdX_KvBwdXIdeal
    ∧ algebraic_KvBwdXIdeal_KvBwdXReferenceIdeal (hKvBwdXIdeal := hKvBwdXIdeal) (hKvBwdXReferenceIdeal := hKvBwdXReferenceIdeal)
    ∧ preserves_AttnFwd_AttnFwdIdeal
    ∧ algebraic_AttnFwdIdeal_AttnFwdReferenceIdeal_pre_finite_forward (hAttnFwdIdeal := hAttnFwdIdeal) (hAttnFwdReferenceIdeal := hAttnFwdReferenceIdeal) (hPre_finite_forward := hPre_finite_forward)
    ∧ preserves_RmsMixBwd_RmsMixBwdIdeal
    ∧ algebraic_RmsMixBwdIdeal_RmsMixBwdReferenceIdeal (hRmsMixBwdIdeal := hRmsMixBwdIdeal) (hRmsMixBwdReferenceIdeal := hRmsMixBwdReferenceIdeal)
    ∧ preserves_RmsFfnBwd_RmsFfnBwdIdeal
    ∧ algebraic_RmsFfnBwdIdeal_RmsFfnBwdReferenceIdeal (hRmsFfnBwdIdeal := hRmsFfnBwdIdeal) (hRmsFfnBwdReferenceIdeal := hRmsFfnBwdReferenceIdeal)
    ∧ preserves_RmsAttnBwd_RmsAttnBwdIdeal
    ∧ algebraic_RmsAttnBwdIdeal_RmsAttnBwdReferenceIdeal (hRmsAttnBwdIdeal := hRmsAttnBwdIdeal) (hRmsAttnBwdReferenceIdeal := hRmsAttnBwdReferenceIdeal)
    ∧ preserves_AdamwLast_AdamwLastIdeal
    ∧ algebraic_AdamwLastIdeal_AdamwLastReferenceIdeal (hAdamwLastIdeal := hAdamwLastIdeal) (hAdamwLastReferenceIdeal := hAdamwLastReferenceIdeal)
    ∧ preserves_AdamwCols_AdamwColsIdeal
    ∧ algebraic_AdamwColsIdeal_AdamwColsReferenceIdeal (hAdamwColsIdeal := hAdamwColsIdeal) (hAdamwColsReferenceIdeal := hAdamwColsReferenceIdeal)
-- ==== Pre_finite_forward.lean ====
abbrev S8x2064x192 : Shape := ⟨3, ![8, 2064, 192]⟩
abbrev S8x2064x256 : Shape := ⟨3, ![8, 2064, 256]⟩
abbrev S2064x1856 : Shape := ⟨2, ![2064, 1856]⟩
abbrev S2064x32 : Shape := ⟨2, ![2064, 32]⟩
abbrev S8x2064x128 : Shape := ⟨3, ![8, 2064, 128]⟩
abbrev S2064x64 : Shape := ⟨2, ![2064, 64]⟩
abbrev S_ : Shape := ⟨0, ![]⟩

class Facts : Prop where
  slices_S8x2064x256_S8x2064x128_0_0_0 : S8x2064x256.Slices ![0, 0, 0] S8x2064x128
  slices_S2064x1856_S2064x64_0_1792 : S2064x1856.Slices ![0, 1792] S2064x64
  bcast_S_S8x2064x192 : S_.BroadcastsInDim S8x2064x192 (![] : Fin 0 → Fin S8x2064x192.rank)
  reducesTo_S8x2064x192_S_d0_1_2 : S8x2064x192.ReducesTo [0, 1, 2] S_
  h_S_ : 0 < S_.numel
  bcast_S_S8x2064x128 : S_.BroadcastsInDim S8x2064x128 (![] : Fin 0 → Fin S8x2064x128.rank)
  reducesTo_S8x2064x128_S_d0_1_2 : S8x2064x128.ReducesTo [0, 1, 2] S_
  bcast_S_S2064x64 : S_.BroadcastsInDim S2064x64 (![] : Fin 0 → Fin S2064x64.rank)
  reducesTo_S2064x64_S_d0_1 : S2064x64.ReducesTo [0, 1] S_
  bcast_S_S2064x32 : S_.BroadcastsInDim S2064x32 (![] : Fin 0 → Fin S2064x32.rank)
  reducesTo_S2064x32_S_d0_1 : S2064x32.ReducesTo [0, 1] S_

variable [Facts]

def fn_part1 {F : FTy → Type} [FloatOps F] (main_arg4 : FVec F S2064x32 .f32) (main_v15 : IVec S_ 1) (main_v16 : FVec F S2064x32 .f32) (main_cst_4 : FVec F S_ .f32) : IVec S_ 1 :=
  let main_v17 : FVec F S2064x32 .f32 := broadcastInDim S2064x32 ![] bcast_S_S2064x32 main_cst_4
  let main_v18 : IVec S2064x32 1 := cmpf .olt main_v16 main_v17
  let main_c_5 : IVec S_ 1 := constantI S_ 1 1#1
  let main_v19 : IVec S_ 1 := (fun x v => Host.reduce IntOp.andi x v reducesTo_S2064x32_S_d0_1 h_S_) main_v18 main_c_5
  let main_v20 : IVec S_ 1 := andi main_v15 main_v19
  let main_v21 : FVec F S2064x32 .f32 := Host.absf main_arg4
  let main_cst_6 : FVec F S_ .f32 := constant S_ .f32 0x7F800000#32
  let main_v22 : FVec F S2064x32 .f32 := broadcastInDim S2064x32 ![] bcast_S_S2064x32 main_cst_6
  let main_v23 : IVec S2064x32 1 := cmpf .olt main_v21 main_v22
  let main_c_7 : IVec S_ 1 := constantI S_ 1 1#1
  let main_v24 : IVec S_ 1 := (fun x v => Host.reduce IntOp.andi x v reducesTo_S2064x32_S_d0_1 h_S_) main_v23 main_c_7
  let main_v25 : IVec S_ 1 := andi main_v20 main_v24
  main_v25

def fn {F : FTy → Type} [FloatOps F] (main_arg0 : FVec F S8x2064x192 .f32) (main_arg1 : FVec F S8x2064x256 .f32) (main_arg2 : FVec F S2064x1856 .f32) (main_arg3 : FVec F S2064x32 .f32) (main_arg4 : FVec F S2064x32 .f32) : IVec S_ 1 :=
  let main_v0 : FVec F S8x2064x128 .f32 := (extractStridedSlice S8x2064x128 ![0, 0, 0] · slices_S8x2064x256_S8x2064x128_0_0_0) main_arg1
  let main_v1 : FVec F S2064x64 .f32 := (extractStridedSlice S2064x64 ![0, 1792] · slices_S2064x1856_S2064x64_0_1792) main_arg2
  let main_v2 : FVec F S8x2064x192 .f32 := Host.absf main_arg0
  let main_cst : FVec F S_ .f32 := constant S_ .f32 0x7F800000#32
  let main_v3 : FVec F S8x2064x192 .f32 := broadcastInDim S8x2064x192 ![] bcast_S_S8x2064x192 main_cst
  let main_v4 : IVec S8x2064x192 1 := cmpf .olt main_v2 main_v3
  let main_c : IVec S_ 1 := constantI S_ 1 1#1
  let main_v5 : IVec S_ 1 := (fun x v => Host.reduce IntOp.andi x v reducesTo_S8x2064x192_S_d0_1_2 h_S_) main_v4 main_c
  let main_v6 : FVec F S8x2064x128 .f32 := Host.absf main_v0
  let main_cst_0 : FVec F S_ .f32 := constant S_ .f32 0x7F800000#32
  let main_v7 : FVec F S8x2064x128 .f32 := broadcastInDim S8x2064x128 ![] bcast_S_S8x2064x128 main_cst_0
  let main_v8 : IVec S8x2064x128 1 := cmpf .olt main_v6 main_v7
  let main_c_1 : IVec S_ 1 := constantI S_ 1 1#1
  let main_v9 : IVec S_ 1 := (fun x v => Host.reduce IntOp.andi x v reducesTo_S8x2064x128_S_d0_1_2 h_S_) main_v8 main_c_1
  let main_v10 : IVec S_ 1 := andi main_v5 main_v9
  let main_v11 : FVec F S2064x64 .f32 := Host.absf main_v1
  let main_cst_2 : FVec F S_ .f32 := constant S_ .f32 0x7F800000#32
  let main_v12 : FVec F S2064x64 .f32 := broadcastInDim S2064x64 ![] bcast_S_S2064x64 main_cst_2
  let main_v13 : IVec S2064x64 1 := cmpf .olt main_v11 main_v12
  let main_c_3 : IVec S_ 1 := constantI S_ 1 1#1
  let main_v14 : IVec S_ 1 := (fun x v => Host.reduce IntOp.andi x v reducesTo_S2064x64_S_d0_1 h_S_) main_v13 main_c_3
  let main_v15 : IVec S_ 1 := andi main_v10 main_v14
  let main_v16 : FVec F S2064x32 .f32 := Host.absf main_arg3
  let main_cst_4 : FVec F S_ .f32 := constant S_ .f32 0x7F800000#32
  fn_part1 (F := F) main_arg4 main_v15 main_v16 main_cst_4
-- ==== Pre_finite_scores.lean ====
abbrev S8x2064x192 : Shape := ⟨3, ![8, 2064, 192]⟩
abbrev S8x2064x256 : Shape := ⟨3, ![8, 2064, 256]⟩
abbrev S2064x1856 : Shape := ⟨2, ![2064, 1856]⟩
abbrev S2064x32 : Shape := ⟨2, ![2064, 32]⟩
abbrev S2064x1024 : Shape := ⟨2, ![2064, 1024]⟩
abbrev S8x2064x128 : Shape := ⟨3, ![8, 2064, 128]⟩
abbrev S2064x64 : Shape := ⟨2, ![2064, 64]⟩
abbrev S_ : Shape := ⟨0, ![]⟩

class Facts : Prop where
  slices_S8x2064x256_S8x2064x128_0_0_0 : S8x2064x256.Slices ![0, 0, 0] S8x2064x128
  slices_S2064x1856_S2064x64_0_1792 : S2064x1856.Slices ![0, 1792] S2064x64
  bcast_S_S8x2064x192 : S_.BroadcastsInDim S8x2064x192 (![] : Fin 0 → Fin S8x2064x192.rank)
  reducesTo_S8x2064x192_S_d0_1_2 : S8x2064x192.ReducesTo [0, 1, 2] S_
  h_S_ : 0 < S_.numel
  bcast_S_S8x2064x128 : S_.BroadcastsInDim S8x2064x128 (![] : Fin 0 → Fin S8x2064x128.rank)
  reducesTo_S8x2064x128_S_d0_1_2 : S8x2064x128.ReducesTo [0, 1, 2] S_
  bcast_S_S2064x64 : S_.BroadcastsInDim S2064x64 (![] : Fin 0 → Fin S2064x64.rank)
  reducesTo_S2064x64_S_d0_1 : S2064x64.ReducesTo [0, 1] S_
  bcast_S_S2064x32 : S_.BroadcastsInDim S2064x32 (![] : Fin 0 → Fin S2064x32.rank)
  reducesTo_S2064x32_S_d0_1 : S2064x32.ReducesTo [0, 1] S_

variable [Facts]

def fn_part1 {F : FTy → Type} [FloatOps F] (main_arg4 : FVec F S2064x32 .f32) (main_v15 : IVec S_ 1) (main_v16 : FVec F S2064x32 .f32) (main_cst_4 : FVec F S_ .f32) : IVec S_ 1 :=
  let main_v17 : FVec F S2064x32 .f32 := broadcastInDim S2064x32 ![] bcast_S_S2064x32 main_cst_4
  let main_v18 : IVec S2064x32 1 := cmpf .olt main_v16 main_v17
  let main_c_5 : IVec S_ 1 := constantI S_ 1 1#1
  let main_v19 : IVec S_ 1 := (fun x v => Host.reduce IntOp.andi x v reducesTo_S2064x32_S_d0_1 h_S_) main_v18 main_c_5
  let main_v20 : IVec S_ 1 := andi main_v15 main_v19
  let main_v21 : FVec F S2064x32 .f32 := Host.absf main_arg4
  let main_cst_6 : FVec F S_ .f32 := constant S_ .f32 0x7F800000#32
  let main_v22 : FVec F S2064x32 .f32 := broadcastInDim S2064x32 ![] bcast_S_S2064x32 main_cst_6
  let main_v23 : IVec S2064x32 1 := cmpf .olt main_v21 main_v22
  let main_c_7 : IVec S_ 1 := constantI S_ 1 1#1
  let main_v24 : IVec S_ 1 := (fun x v => Host.reduce IntOp.andi x v reducesTo_S2064x32_S_d0_1 h_S_) main_v23 main_c_7
  let main_v25 : IVec S_ 1 := andi main_v20 main_v24
  main_v25

def fn {F : FTy → Type} [FloatOps F] (main_arg0 : FVec F S8x2064x192 .f32) (main_arg1 : FVec F S8x2064x256 .f32) (main_arg2 : FVec F S2064x1856 .f32) (main_arg3 : FVec F S2064x32 .f32) (main_arg4 : FVec F S2064x32 .f32) (main_arg5 : FVec F S2064x1024 .f32) : IVec S_ 1 :=
  let main_v0 : FVec F S8x2064x128 .f32 := (extractStridedSlice S8x2064x128 ![0, 0, 0] · slices_S8x2064x256_S8x2064x128_0_0_0) main_arg1
  let main_v1 : FVec F S2064x64 .f32 := (extractStridedSlice S2064x64 ![0, 1792] · slices_S2064x1856_S2064x64_0_1792) main_arg2
  let main_v2 : FVec F S8x2064x192 .f32 := Host.absf main_arg0
  let main_cst : FVec F S_ .f32 := constant S_ .f32 0x7F800000#32
  let main_v3 : FVec F S8x2064x192 .f32 := broadcastInDim S8x2064x192 ![] bcast_S_S8x2064x192 main_cst
  let main_v4 : IVec S8x2064x192 1 := cmpf .olt main_v2 main_v3
  let main_c : IVec S_ 1 := constantI S_ 1 1#1
  let main_v5 : IVec S_ 1 := (fun x v => Host.reduce IntOp.andi x v reducesTo_S8x2064x192_S_d0_1_2 h_S_) main_v4 main_c
  let main_v6 : FVec F S8x2064x128 .f32 := Host.absf main_v0
  let main_cst_0 : FVec F S_ .f32 := constant S_ .f32 0x7F800000#32
  let main_v7 : FVec F S8x2064x128 .f32 := broadcastInDim S8x2064x128 ![] bcast_S_S8x2064x128 main_cst_0
  let main_v8 : IVec S8x2064x128 1 := cmpf .olt main_v6 main_v7
  let main_c_1 : IVec S_ 1 := constantI S_ 1 1#1
  let main_v9 : IVec S_ 1 := (fun x v => Host.reduce IntOp.andi x v reducesTo_S8x2064x128_S_d0_1_2 h_S_) main_v8 main_c_1
  let main_v10 : IVec S_ 1 := andi main_v5 main_v9
  let main_v11 : FVec F S2064x64 .f32 := Host.absf main_v1
  let main_cst_2 : FVec F S_ .f32 := constant S_ .f32 0x7F800000#32
  let main_v12 : FVec F S2064x64 .f32 := broadcastInDim S2064x64 ![] bcast_S_S2064x64 main_cst_2
  let main_v13 : IVec S2064x64 1 := cmpf .olt main_v11 main_v12
  let main_c_3 : IVec S_ 1 := constantI S_ 1 1#1
  let main_v14 : IVec S_ 1 := (fun x v => Host.reduce IntOp.andi x v reducesTo_S2064x64_S_d0_1 h_S_) main_v13 main_c_3
  let main_v15 : IVec S_ 1 := andi main_v10 main_v14
  let main_v16 : FVec F S2064x32 .f32 := Host.absf main_arg3
  let main_cst_4 : FVec F S_ .f32 := constant S_ .f32 0x7F800000#32
  fn_part1 (F := F) main_arg4 main_v15 main_v16 main_cst_4
-- ==== Kernel.lean ====
abbrev S8x2064x192 : Shape := ⟨3, ![8, 2064, 192]⟩
abbrev S8x2064x256 : Shape := ⟨3, ![8, 2064, 256]⟩
abbrev S2064x1856 : Shape := ⟨2, ![2064, 1856]⟩
abbrev S2064x32 : Shape := ⟨2, ![2064, 32]⟩
abbrev S2064x1024 : Shape := ⟨2, ![2064, 1024]⟩
abbrev S_ : Shape := ⟨0, ![]⟩
abbrev S2064x64 : Shape := ⟨2, ![2064, 64]⟩
abbrev S2064x128 : Shape := ⟨2, ![2064, 128]⟩
abbrev S2064x1920 : Shape := ⟨2, ![2064, 1920]⟩
abbrev S8x2064x128 : Shape := ⟨3, ![8, 2064, 128]⟩
abbrev S1x688x256 : Shape := ⟨3, ![1, 688, 256]⟩
abbrev S1x2064x256 : Shape := ⟨3, ![1, 2064, 256]⟩
abbrev S688x128 : Shape := ⟨2, ![688, 128]⟩
abbrev S1x2064x128 : Shape := ⟨3, ![1, 2064, 128]⟩
abbrev S2064x256 : Shape := ⟨2, ![2064, 256]⟩
abbrev S1x768x128 : Shape := ⟨3, ![1, 768, 128]⟩
abbrev S768x128 : Shape := ⟨2, ![768, 128]⟩
abbrev S512x128 : Shape := ⟨2, ![512, 128]⟩
abbrev S1x352x128 : Shape := ⟨3, ![1, 352, 128]⟩
abbrev S352x128 : Shape := ⟨2, ![352, 128]⟩
abbrev S352x512 : Shape := ⟨2, ![352, 512]⟩
abbrev S352x1 : Shape := ⟨2, ![352, 1]⟩
abbrev S1x512 : Shape := ⟨2, ![1, 512]⟩
abbrev S352 : Shape := ⟨1, ![352]⟩
abbrev S1x512x128 : Shape := ⟨3, ![1, 512, 128]⟩
abbrev S1x336x128 : Shape := ⟨3, ![1, 336, 128]⟩
abbrev S336x128 : Shape := ⟨2, ![336, 128]⟩
abbrev S336x768 : Shape := ⟨2, ![336, 768]⟩
abbrev S336x1 : Shape := ⟨2, ![336, 1]⟩
abbrev S1x768 : Shape := ⟨2, ![1, 768]⟩
abbrev S336 : Shape := ⟨1, ![336]⟩
abbrev S1x1536x128 : Shape := ⟨3, ![1, 1536, 128]⟩
abbrev S1536x128 : Shape := ⟨2, ![1536, 128]⟩
abbrev S1152x128 : Shape := ⟨2, ![1152, 128]⟩
abbrev S352x1152 : Shape := ⟨2, ![352, 1152]⟩
abbrev S1x1152 : Shape := ⟨2, ![1, 1152]⟩
abbrev S1x1152x128 : Shape := ⟨3, ![1, 1152, 128]⟩
abbrev S336x1536 : Shape := ⟨2, ![336, 1536]⟩
abbrev S1x1536 : Shape := ⟨2, ![1, 1536]⟩
abbrev S1792x128 : Shape := ⟨2, ![1792, 128]⟩
abbrev S352x1792 : Shape := ⟨2, ![352, 1792]⟩
abbrev S1x1792 : Shape := ⟨2, ![1, 1792]⟩
abbrev S1x1792x128 : Shape := ⟨3, ![1, 1792, 128]⟩
abbrev S336x2064 : Shape := ⟨2, ![336, 2064]⟩
abbrev S1x2064 : Shape := ⟨2, ![1, 2064]⟩

abbrev nBuf : Space → Nat
  | .hbm => 23
  | .vmem => 22
  | .smem => 0
  | _ => 0

abbrev bufTy : (tb : Table) → Fin (tcTables nBuf tb) → BufTy
  | .hbm, ⟨0, _⟩ => ⟨S8x2064x192, .f32⟩
  | .hbm, ⟨1, _⟩ => ⟨S8x2064x256, .f32⟩
  | .hbm, ⟨2, _⟩ => ⟨S2064x1856, .f32⟩
  | .hbm, ⟨3, _⟩ => ⟨S2064x32, .f32⟩
  | .hbm, ⟨4, _⟩ => ⟨S2064x32, .f32⟩
  | .hbm, ⟨5, _⟩ => ⟨S2064x1024, .f32⟩
  | .hbm, ⟨6, _⟩ => ⟨S_, .f32⟩
  | .hbm, ⟨7, _⟩ => ⟨S2064x32, .f32⟩
  | .hbm, ⟨8, _⟩ => ⟨S_, .f32⟩
  | .hbm, ⟨9, _⟩ => ⟨S2064x64, .f32⟩
  | .hbm, ⟨10, _⟩ => ⟨S2064x128, .f32⟩
  | .hbm, ⟨11, _⟩ => ⟨S2064x32, .f32⟩
  | .hbm, ⟨12, _⟩ => ⟨S2064x128, .f32⟩
  | .hbm, ⟨13, _⟩ => ⟨S2064x128, .f32⟩
  | .hbm, ⟨14, _⟩ => ⟨S_, .i32⟩
  | .hbm, ⟨15, _⟩ => ⟨S_, .f32⟩
  | .hbm, ⟨16, _⟩ => ⟨S8x2064x256, .f32⟩
  | .hbm, ⟨17, _⟩ => ⟨S_, .i32⟩
  | .hbm, ⟨18, _⟩ => ⟨S_, .f32⟩
  | .hbm, ⟨19, _⟩ => ⟨S2064x1920, .f32⟩
  | .hbm, ⟨20, _⟩ => ⟨S8x2064x256, .bf16⟩
  | .hbm, ⟨21, _⟩ => ⟨S8x2064x256, .f32⟩
  | .hbm, ⟨22, _⟩ => ⟨S8x2064x128, .f32⟩
  | .local _ .vmem, ⟨0, _⟩ => ⟨S1x688x256, .f32⟩
  | .local _ .vmem, ⟨1, _⟩ => ⟨S1x688x256, .f32⟩
  | .local _ .vmem, ⟨2, _⟩ => ⟨S1x2064x256, .f32⟩
  | .local _ .vmem, ⟨3, _⟩ => ⟨S1x2064x256, .f32⟩
  | .local _ .vmem, ⟨4, _⟩ => ⟨S2064x128, .f32⟩
  | .local _ .vmem, ⟨5, _⟩ => ⟨S688x128, .f32⟩
  | .local _ .vmem, ⟨6, _⟩ => ⟨S688x128, .f32⟩
  | .local _ .vmem, ⟨7, _⟩ => ⟨S688x128, .f32⟩
  | .local _ .vmem, ⟨8, _⟩ => ⟨S688x128, .f32⟩
  | .local _ .vmem, ⟨9, _⟩ => ⟨S688x128, .f32⟩
  | .local _ .vmem, ⟨10, _⟩ => ⟨S688x128, .f32⟩
  | .local _ .vmem, ⟨11, _⟩ => ⟨S2064x128, .f32⟩
  | .local _ .vmem, ⟨12, _⟩ => ⟨S2064x128, .f32⟩
  | .local _ .vmem, ⟨13, _⟩ => ⟨S2064x128, .f32⟩
  | .local _ .vmem, ⟨14, _⟩ => ⟨S688x128, .f32⟩
  | .local _ .vmem, ⟨15, _⟩ => ⟨S688x128, .f32⟩
  | .local _ .vmem, ⟨16, _⟩ => ⟨S1x688x256, .bf16⟩
  | .local _ .vmem, ⟨17, _⟩ => ⟨S1x688x256, .bf16⟩
  | .local _ .vmem, ⟨18, _⟩ => ⟨S1x2064x256, .f32⟩
  | .local _ .vmem, ⟨19, _⟩ => ⟨S1x2064x256, .f32⟩
  | .local _ .vmem, ⟨20, _⟩ => ⟨S1x2064x128, .f32⟩
  | .local _ .vmem, ⟨21, _⟩ => ⟨S1x2064x128, .f32⟩
  | _, _ => ⟨S8x2064x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_c_1 : Ref sig .tc := ⟨.hbm, 17, rfl⟩
abbrev main_call1_v0 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c14_i32 : BitVec 32 := 14#32
  let c0_i32_0 : BitVec 32 := 0#32
  ![c0_i32.toNat, c14_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x688x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2064x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S688x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S688x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S688x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2064x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2064x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2064x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S688x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x688x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2064x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2064x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x2064x192 : Shape := ⟨3, ![8, 2064, 192]⟩
abbrev S8x2064x256 : Shape := ⟨3, ![8, 2064, 256]⟩
abbrev S2064x1856 : Shape := ⟨2, ![2064, 1856]⟩
abbrev S2064x32 : Shape := ⟨2, ![2064, 32]⟩
abbrev S2064x1024 : Shape := ⟨2, ![2064, 1024]⟩
abbrev S2064x64 : Shape := ⟨2, ![2064, 64]⟩
abbrev S1x2064x64 : Shape := ⟨3, ![1, 2064, 64]⟩
abbrev S8x2064x64 : Shape := ⟨3, ![8, 2064, 64]⟩
abbrev S2064 : Shape := ⟨1, ![2064]⟩
abbrev S_ : Shape := ⟨0, ![]⟩
abbrev S8x2064x128 : Shape := ⟨3, ![8, 2064, 128]⟩
abbrev S8x2064x32 : Shape := ⟨3, ![8, 2064, 32]⟩
abbrev S1x2064x32 : Shape := ⟨3, ![1, 2064, 32]⟩
abbrev S8x2064x2064 : Shape := ⟨3, ![8, 2064, 2064]⟩
abbrev S1x2064 : Shape := ⟨2, ![1, 2064]⟩
abbrev S2064x1 : Shape := ⟨2, ![2064, 1]⟩
abbrev S2064x2064 : Shape := ⟨2, ![2064, 2064]⟩
abbrev S1x2064x2064 : Shape := ⟨3, ![1, 2064, 2064]⟩
abbrev S8x2064 : Shape := ⟨2, ![8, 2064]⟩
abbrev S8x2064x1 : Shape := ⟨3, ![8, 2064, 1]⟩
abbrev S2064x8x128 : Shape := ⟨3, ![2064, 8, 128]⟩
abbrev S8x128x2064 : Shape := ⟨3, ![8, 128, 2064]⟩

abbrev nBuf : Space → Nat
  | .hbm => 191
  | .vmem => 0
  | .smem => 0
  | _ => 0

abbrev hbmTy0_0 (i : Nat) : BufTy := match i % 128 with
  | 0 => ⟨S8x2064x192, .f32⟩
  | 1 => ⟨S8x2064x256, .f32⟩
  | 2 => ⟨S2064x1856, .f32⟩
  | 3 => ⟨S2064x32, .f32⟩
  | 4 => ⟨S2064x32, .f32⟩
  | 5 => ⟨S2064x1024, .f32⟩
  | 6 => ⟨S2064x64, .f32⟩
  | 7 => ⟨S2064x32, .f32⟩
  | 8 => ⟨S2064x32, .f32⟩
  | 9 => ⟨S2064x32, .f32⟩
  | 10 => ⟨S2064x32, .f32⟩
  | 11 => ⟨S2064x32, .f32⟩
  | 12 => ⟨S2064x32, .f32⟩
  | 13 => ⟨S2064x32, .f32⟩
  | 14 => ⟨S2064x32, .f32⟩
  | 15 => ⟨S2064x64, .f32⟩
  | 16 => ⟨S1x2064x64, .f32⟩
  | 17 => ⟨S8x2064x64, .f32⟩
  | 18 => ⟨S2064, .i32⟩
  | 19 => ⟨S_, .i32⟩
  | 20 => ⟨S2064, .i32⟩
  | 21 => ⟨S2064, .i1⟩
  | 22 => ⟨S_, .i32⟩
  | 23 => ⟨S2064, .i32⟩
  | 24 => ⟨S2064, .i32⟩
  | 25 => ⟨S_, .i32⟩
  | 26 => ⟨S_, .i32⟩
  | 27 => ⟨S2064, .i32⟩
  | 28 => ⟨S2064, .i32⟩
  | 29 => ⟨S2064, .i32⟩
  | 30 => ⟨S_, .i32⟩
  | 31 => ⟨S2064, .i32⟩
  | 32 => ⟨S2064, .i1⟩
  | 33 => ⟨S2064, .i32⟩
  | 34 => ⟨S2064, .i32⟩
  | 35 => ⟨S_, .i32⟩
  | 36 => ⟨S2064, .i32⟩
  | 37 => ⟨S2064, .i1⟩
  | 38 => ⟨S2064, .i1⟩
  | 39 => ⟨S_, .i32⟩
  | 40 => ⟨S2064, .i32⟩
  | 41 => ⟨S2064, .i32⟩
  | 42 => ⟨S2064, .i32⟩
  | 43 => ⟨S_, .i32⟩
  | 44 => ⟨S2064, .i32⟩
  | 45 => ⟨S2064, .i32⟩
  | 46 => ⟨S_, .i32⟩
  | 47 => ⟨S_, .i32⟩
  | 48 => ⟨S2064, .i32⟩
  | 49 => ⟨S2064, .i32⟩
  | 50 => ⟨S8x2064x128, .f32⟩
  | 51 => ⟨S8x2064x64, .f32⟩
  | 52 => ⟨S8x2064x32, .f32⟩
  | 53 => ⟨S8x2064x32, .f32⟩
  | 54 => ⟨S1x2064x32, .f32⟩
  | 55 => ⟨S8x2064x32, .f32⟩
  | 56 => ⟨S8x2064x32, .f32⟩
  | 57 => ⟨S1x2064x32, .f32⟩
  | 58 => ⟨S8x2064x32, .f32⟩
  | 59 => ⟨S8x2064x32, .f32⟩
  | 60 => ⟨S8x2064x32, .f32⟩
  | 61 => ⟨S1x2064x32, .f32⟩
  | 62 => ⟨S8x2064x32, .f32⟩
  | 63 => ⟨S8x2064x32, .f32⟩
  | 64 => ⟨S1x2064x32, .f32⟩
  | 65 => ⟨S8x2064x32, .f32⟩
  | 66 => ⟨S8x2064x32, .f32⟩
  | 67 => ⟨S8x2064x32, .f32⟩
  | 68 => ⟨S8x2064x64, .f32⟩
  | 69 => ⟨S8x2064x128, .f32⟩
  | 70 => ⟨S8x2064x128, .f32⟩
  | 71 => ⟨S8x2064x2064, .f32⟩
  | 72 => ⟨S8x2064x2064, .f32⟩
  | 73 => ⟨S8x2064x2064, .f32⟩
  | 74 => ⟨S1x2064, .i32⟩
  | 75 => ⟨S2064x1, .i32⟩
  | 76 => ⟨S2064x2064, .i32⟩
  | 77 => ⟨S2064x2064, .i32⟩
  | 78 => ⟨S2064x2064, .i1⟩
  | 79 => ⟨S1x2064x2064, .i1⟩
  | 80 => ⟨S_, .f32⟩
  | 81 => ⟨S8x2064x2064, .f32⟩
  | 82 => ⟨S8x2064x2064, .f32⟩
  | 83 => ⟨S_, .f32⟩
  | 84 => ⟨S_, .f32⟩
  | 85 => ⟨S8x2064x2064, .i1⟩
  | 86 => ⟨S8x2064x2064, .f32⟩
  | 87 => ⟨S8x2064x2064, .f32⟩
  | 88 => ⟨S_, .f32⟩
  | 89 => ⟨S8x2064x2064, .f32⟩
  | 90 => ⟨S_, .f32⟩
  | 91 => ⟨S8x2064, .f32⟩
  | 92 => ⟨S8x2064x1, .f32⟩
  | 93 => ⟨S8x2064x2064, .f32⟩
  | 94 => ⟨S8x2064x2064, .i1⟩
  | 95 => ⟨S8x2064x2064, .f32⟩
  | 96 => ⟨S_, .f32⟩
  | 97 => ⟨S8x2064, .f32⟩
  | 98 => ⟨S_, .f32⟩
  | 99 => ⟨S8x2064, .f32⟩
  | 100 => ⟨S8x2064, .f32⟩
  | 101 => ⟨S_, .f32⟩
  | 102 => ⟨S8x2064, .f32⟩
  | 103 => ⟨S8x2064, .i1⟩
  | 104 => ⟨S_, .f32⟩
  | 105 => ⟨S8x2064, .f32⟩
  | 106 => ⟨S8x2064, .i1⟩
  | 107 => ⟨S_, .f32⟩
  | 108 => ⟨S8x2064, .f32⟩
  | 109 => ⟨S_, .f32⟩
  | 110 => ⟨S8x2064, .f32⟩
  | 111 => ⟨S_, .f32⟩
  | 112 => ⟨S8x2064, .f32⟩
  | 113 => ⟨S8x2064, .f32⟩
  | 114 => ⟨S8x2064, .f32⟩
  | 115 => ⟨S8x2064x1, .f32⟩
  | 116 => ⟨S8x2064x2064, .f32⟩
  | 117 => ⟨S8x2064x2064, .f32⟩
  | 118 => ⟨S8x2064x2064, .f32⟩
  | 119 => ⟨S_, .f32⟩
  | 120 => ⟨S8x2064, .f32⟩
  | 121 => ⟨S8x2064x1, .f32⟩
  | 122 => ⟨S8x2064x2064, .f32⟩
  | 123 => ⟨S8x2064x2064, .f32⟩
  | 124 => ⟨S8x2064x1, .f32⟩
  | 125 => ⟨S_, .f32⟩
  | 126 => ⟨S8x2064x1, .f32⟩
  | 127 => ⟨S8x2064x1, .f32⟩
  | _ => ⟨S8x2064x192, .f32⟩

abbrev hbmTy0_1 (i : Nat) : BufTy := match i % 128 with
  | 0 => ⟨S8x2064x128, .f32⟩
  | 1 => ⟨S2064x8x128, .f32⟩
  | 2 => ⟨S2064x1024, .f32⟩
  | 3 => ⟨S2064x8x128, .f32⟩
  | 4 => ⟨S8x2064x128, .f32⟩
  | 5 => ⟨S8x128x2064, .f32⟩
  | 6 => ⟨S8x2064x128, .f32⟩
  | 7 => ⟨S8x2064x2064, .f32⟩
  | 8 => ⟨S8x2064x2064, .f32⟩
  | 9 => ⟨S8x2064x2064, .f32⟩
  | 10 => ⟨S8x2064x2064, .f32⟩
  | 11 => ⟨S_, .f32⟩
  | 12 => ⟨S8x2064, .f32⟩
  | 13 => ⟨S8x2064x1, .f32⟩
  | 14 => ⟨S8x2064x1, .f32⟩
  | 15 => ⟨S8x2064x2064, .f32⟩
  | 16 => ⟨S8x2064x2064, .f32⟩
  | 17 => ⟨S_, .f32⟩
  | 18 => ⟨S8x2064, .f32⟩
  | 19 => ⟨S8x2064x2064, .f32⟩
  | 20 => ⟨S8x2064x2064, .f32⟩
  | 21 => ⟨S8x2064x2064, .f32⟩
  | 22 => ⟨S_, .f32⟩
  | 23 => ⟨S8x2064x2064, .f32⟩
  | 24 => ⟨S8x2064x2064, .f32⟩
  | 25 => ⟨S_, .f32⟩
  | 26 => ⟨S8x2064x2064, .f32⟩
  | 27 => ⟨S8x2064x2064, .f32⟩
  | 28 => ⟨S8x2064x64, .f32⟩
  | 29 => ⟨S8x2064x64, .f32⟩
  | 30 => ⟨S8x2064x128, .f32⟩
  | 31 => ⟨S8x2064x128, .f32⟩
  | 32 => ⟨S_, .f32⟩
  | 33 => ⟨S8x2064x256, .f32⟩
  | 34 => ⟨S_, .f32⟩
  | 35 => ⟨S8x2064x256, .f32⟩
  | 36 => ⟨S8x2064x256, .f32⟩
  | 37 => ⟨S8x2064x32, .f32⟩
  | 38 => ⟨S8x2064x32, .f32⟩
  | 39 => ⟨S8x2064x32, .f32⟩
  | 40 => ⟨S8x2064x32, .f32⟩
  | 41 => ⟨S8x2064x32, .f32⟩
  | 42 => ⟨S8x2064x32, .f32⟩
  | 43 => ⟨S8x2064x32, .f32⟩
  | 44 => ⟨S8x2064x32, .f32⟩
  | 45 => ⟨S8x2064x32, .f32⟩
  | 46 => ⟨S8x2064x32, .f32⟩
  | 47 => ⟨S8x2064x32, .f32⟩
  | 48 => ⟨S8x2064x32, .f32⟩
  | 49 => ⟨S8x2064x32, .f32⟩
  | 50 => ⟨S8x2064x64, .f32⟩
  | 51 => ⟨S_, .f32⟩
  | 52 => ⟨S8x2064x192, .f32⟩
  | 53 => ⟨S_, .f32⟩
  | 54 => ⟨S8x2064x192, .f32⟩
  | 55 => ⟨S8x2064x192, .f32⟩
  | 56 => ⟨S_, .i32⟩
  | 57 => ⟨S_, .f32⟩
  | 58 => ⟨S8x2064x256, .f32⟩
  | 59 => ⟨S_, .i32⟩
  | 60 => ⟨S_, .f32⟩
  | 61 => ⟨S8x2064x128, .f32⟩
  | 62 => ⟨S8x2064x256, .bf16⟩
  | _ => ⟨S8x2064x192, .f32⟩

abbrev hbmTy (i : Nat) : BufTy := match i / 128 with
  | 0 => hbmTy0_0 i
  | 1 => hbmTy0_1 i
  | _ => ⟨S8x2064x192, .f32⟩

abbrev bufTy : (tb : Table) → Fin (tcTables nBuf tb) → BufTy
  | .hbm, ⟨i, _⟩ => hbmTy i
  | _, _ => ⟨S8x2064x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v17 : Ref sig .tc := ⟨.hbm, 42, rfl⟩
abbrev main_c_2 : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_call1_v0 : Ref sig .tc := ⟨.hbm, 47, rfl⟩
abbrev main_call1_v1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_call2_v0 : Ref sig .tc := ⟨.hbm, 84, rfl⟩
abbrev main_v53_1 : Ref sig .tc := ⟨.hbm, 85, rfl⟩
abbrev main_call2_v2 : Ref sig .tc := ⟨.hbm, 86, rfl⟩
abbrev main_v53_0 : Ref sig .tc := ⟨.hbm, 87, rfl⟩
abbrev main_call2_cst : Ref sig .tc := ⟨.hbm, 88, rfl⟩
abbrev main_v53_2 : Ref sig .tc := ⟨.hbm, 89, rfl⟩
abbrev main_cst_5 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_cst_7 : Ref sig .tc := ⟨.hbm, 98, rfl⟩
abbrev main_v60 : Ref sig .tc := ⟨.hbm, 99, rfl⟩
abbrev main_v61 : Ref sig .tc := ⟨.hbm, 100, rfl⟩
abbrev main_cst_8 : Ref sig .tc := ⟨.hbm, 101, rfl⟩
abbrev main_v62 : Ref sig .tc := ⟨.hbm, 102, rfl⟩
abbrev main_v63 : Ref sig .tc := ⟨.hbm, 103, rfl⟩
abbrev main_cst_9 : Ref sig .tc := ⟨.hbm, 104, rfl⟩
abbrev main_v64 : Ref sig .tc := ⟨.hbm, 105, rfl⟩
abbrev main_v65 : Ref sig .tc := ⟨.hbm, 106, rfl⟩
abbrev main_cst_10 : Ref sig .tc := ⟨.hbm, 107, rfl⟩
abbrev main_v66 : Ref sig .tc := ⟨.hbm, 108, rfl⟩
abbrev main_cst_11 : Ref sig .tc := ⟨.hbm, 109, rfl⟩
abbrev main_v67 : Ref sig .tc := ⟨.hbm, 110, rfl⟩
abbrev main_cst_12 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_14 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_15 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_16 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_call3_cst : Ref sig .tc := ⟨.hbm, 150, rfl⟩
abbrev main_call3_v0 : Ref sig .tc := ⟨.hbm, 151, rfl⟩
abbrev main_v102 : Ref sig .tc := ⟨.hbm, 152, rfl⟩
abbrev main_cst_17 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_18 : Ref sig .tc := ⟨.hbm, 160, rfl⟩
abbrev main_v109 : Ref sig .tc := ⟨.hbm, 161, rfl⟩
abbrev main_cst_19 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_20 : Ref sig .tc := ⟨.hbm, 179, rfl⟩
abbrev main_v126 : Ref sig .tc := ⟨.hbm, 180, rfl⟩
abbrev main_cst_21 : Ref sig .tc := ⟨.hbm, 181, rfl⟩
abbrev main_v127 : Ref sig .tc := ⟨.hbm, 182, rfl⟩
abbrev main_v128 : Ref sig .tc := ⟨.hbm, 183, rfl⟩
abbrev main_c_22 : Ref sig .tc := ⟨.hbm, 184, rfl⟩
abbrev main_call4_v0 : Ref sig .tc := ⟨.hbm, 185, rfl⟩
abbrev main_v129 : Ref sig .tc := ⟨.hbm, 186, rfl⟩
abbrev main_c_23 : Ref sig .tc := ⟨.hbm, 187, rfl⟩
abbrev main_call5_v0 : Ref sig .tc := ⟨.hbm, 188, rfl⟩
abbrev main_v130 : Ref sig .tc := ⟨.hbm, 189, rfl⟩
abbrev main_v131 : Ref sig .tc := ⟨.hbm, 190, rfl⟩

abbrev nD : Nat := 1
abbrev τ : Topo := Topo.v7x

variable {F : FTy → Type} [FloatOps F]
-- ==== UpBwdW.lean ====
abbrev S8x2064x1376 : Shape := ⟨3, ![8, 2064, 1376]⟩
abbrev S2064x2048 : Shape := ⟨2, ![2064, 2048]⟩
abbrev S8x1376x2048 : Shape := ⟨3, ![8, 1376, 2048]⟩
abbrev S1x2064x1376 : Shape := ⟨3, ![1, 2064, 1376]⟩
abbrev S2064x1024 : Shape := ⟨2, ![2064, 1024]⟩
abbrev S1x1376x1024 : Shape := ⟨3, ![1, 1376, 1024]⟩
abbrev S2064x1376 : Shape := ⟨2, ![2064, 1376]⟩
abbrev S1376x1024 : Shape := ⟨2, ![1376, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2064x1376, .bf16⟩
  | .hbm, ⟨1, _⟩ => ⟨S2064x2048, .bf16⟩
  | .hbm, ⟨2, _⟩ => ⟨S8x1376x2048, .bf16⟩
  | .local _ .vmem, ⟨0, _⟩ => ⟨S1x2064x1376, .bf16⟩
  | .local _ .vmem, ⟨1, _⟩ => ⟨S1x2064x1376, .bf16⟩
  | .local _ .vmem, ⟨2, _⟩ => ⟨S2064x1024, .bf16⟩
  | .local _ .vmem, ⟨3, _⟩ => ⟨S2064x1024, .bf16⟩
  | .local _ .vmem, ⟨4, _⟩ => ⟨S1x1376x1024, .bf16⟩
  | .local _ .vmem, ⟨5, _⟩ => ⟨S1x1376x1024, .bf16⟩
  | _, _ => ⟨S8x2064x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![8, 1, 2, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1x2064x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S2064x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== UpBwdWReferenceIdeal.lean ====
abbrev S8x2064x1376 : Shape := ⟨3, ![8, 2064, 1376]⟩
abbrev S2064x2048 : Shape := ⟨2, ![2064, 2048]⟩
abbrev S_ : Shape := ⟨0, ![]⟩
abbrev S8x2048x1376 : Shape := ⟨3, ![8, 2048, 1376]⟩
abbrev S8x1376x2064 : Shape := ⟨3, ![8, 1376, 2064]⟩
abbrev S8x1376x2048 : Shape := ⟨3, ![8, 1376, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x2064x1376, .bf16⟩
  | .hbm, ⟨1, _⟩ => ⟨S2064x2048, .bf16⟩
  | .hbm, ⟨2, _⟩ => ⟨S8x2064x1376, .f32⟩
  | .hbm, ⟨3, _⟩ => ⟨S2064x2048, .f32⟩
  | .hbm, ⟨4, _⟩ => ⟨S_, .f32⟩
  | .hbm, ⟨5, _⟩ => ⟨S8x2048x1376, .f32⟩
  | .hbm, ⟨6, _⟩ => ⟨S8x1376x2064, .f32⟩
  | .hbm, ⟨7, _⟩ => ⟨S8x2064x1376, .f32⟩
  | .hbm, ⟨8, _⟩ => ⟨S8x1376x2064, .f32⟩
  | .hbm, ⟨9, _⟩ => ⟨S8x1376x2048, .f32⟩
  | .hbm, ⟨10, _⟩ => ⟨S8x2048x1376, .f32⟩
  | .hbm, ⟨11, _⟩ => ⟨S8x1376x2048, .f32⟩
  | .hbm, ⟨12, _⟩ => ⟨S8x1376x2048, .bf16⟩
  | _, _ => ⟨S8x2064x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== UpBwdX.lean ====
abbrev S8x2064x1376 : Shape := ⟨3, ![8, 2064, 1376]⟩
abbrev S8x2048x1376 : Shape := ⟨3, ![8, 2048, 1376]⟩
abbrev S2064x2048 : Shape := ⟨2, ![2064, 2048]⟩
abbrev S1x688x1376 : Shape := ⟨3, ![1, 688, 1376]⟩
abbrev S1x2048x1376 : Shape := ⟨3, ![1, 2048, 1376]⟩
abbrev S688x2048 : Shape := ⟨2, ![688, 2048]⟩
abbrev S688x1376 : Shape := ⟨2, ![688, 1376]⟩
abbrev S2048x1376 : Shape := ⟨2, ![2048, 1376]⟩

abbrev nBuf : Space → Nat
  | .hbm => 3
  | .vmem => 7
  | .smem => 0
  | _ => 0

abbrev bufTy : (tb : Table) → Fin (tcTables nBuf tb) → BufTy
  | .hbm, ⟨0, _⟩ => ⟨S8x2064x1376, .bf16⟩
  | .hbm, ⟨1, _⟩ => ⟨S8x2048x1376, .bf16⟩
  | .hbm, ⟨2, _⟩ => ⟨S2064x2048, .f32⟩
  | .local _ .vmem, ⟨0, _⟩ => ⟨S1x688x1376, .bf16⟩
  | .local _ .vmem, ⟨1, _⟩ => ⟨S1x688x1376, .bf16⟩
  | .local _ .vmem, ⟨2, _⟩ => ⟨S1x2048x1376, .bf16⟩
  | .local _ .vmem, ⟨3, _⟩ => ⟨S1x2048x1376, .bf16⟩
  | .local _ .vmem, ⟨4, _⟩ => ⟨S688x2048, .f32⟩
  | .local _ .vmem, ⟨5, _⟩ => ⟨S688x2048, .f32⟩
  | .local _ .vmem, ⟨6, _⟩ => ⟨S688x2048, .f32⟩
  | _, _ => ⟨S8x2064x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 3, 1, 8, 1], ![false, false, false, false, false]⟩

def k0_cond3 (i : grid0.Coords) : BitVec 1 :=
  let arg3 : BitVec 32 := BitVec.ofNat 32 (i 3).val
  let c1_i32 : BitVec 32 := 1#32
  let v5 : BitVec 32 := Scalar.muli arg3 c1_i32
  let arg4 : BitVec 32 := BitVec.ofNat 32 (i 4).val
  let v6 : BitVec 32 := Scalar.addi v5 arg4
  let c7_i32 : BitVec 32 := 7#32
  let v13 : BitVec 1 := Scalar.cmpi .eq v6 c7_i32
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1x688x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true, true]

abbrev stage0_1 : Fin 2 → Memref sig .tc .vmem S1x2048x1376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true, true]

abbrev stage0_2 : Fin 2 → Memref sig .tc .vmem S688x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== UpBwdXReferenceIdeal.lean ====
abbrev S8x2064x1376 : Shape := ⟨3, ![8, 2064, 1376]⟩
abbrev S8x2048x1376 : Shape := ⟨3, ![8, 2048, 1376]⟩
abbrev S_ : Shape := ⟨0, ![]⟩
abbrev S2064x2048 : Shape := ⟨2, ![2064, 2048]⟩
abbrev S8x1376x2064 : Shape := ⟨3, ![8, 1376, 2064]⟩

abbrev nBuf : Space → Nat
  | .hbm => 10
  | .vmem => 0
  | .smem => 0
  | _ => 0

abbrev bufTy : (tb : Table) → Fin (tcTables nBuf tb) → BufTy
  | .hbm, ⟨0, _⟩ => ⟨S8x2064x1376, .bf16⟩
  | .hbm, ⟨1, _⟩ => ⟨S8x2048x1376, .bf16⟩
  | .hbm, ⟨2, _⟩ => ⟨S8x2064x1376, .f32⟩
  | .hbm, ⟨3, _⟩ => ⟨S8x2048x1376, .f32⟩
  | .hbm, ⟨4, _⟩ => ⟨S_, .f32⟩
  | .hbm, ⟨5, _⟩ => ⟨S2064x2048, .f32⟩
  | .hbm, ⟨6, _⟩ => ⟨S8x1376x2064, .f32⟩
  | .hbm, ⟨7, _⟩ => ⟨S8x2064x1376, .f32⟩
  | .hbm, ⟨8, _⟩ => ⟨S8x1376x2064, .f32⟩
  | .hbm, ⟨9, _⟩ => ⟨S2064x2048, .f32⟩
  | _, _ => ⟨S8x2064x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownBwdX.lean ====
abbrev S2064x2048 : Shape := ⟨2, ![2064, 2048]⟩
abbrev S4x1376x2048 : Shape := ⟨3, ![4, 1376, 2048]⟩
abbrev S4x2064x1376 : Shape := ⟨3, ![4, 2064, 1376]⟩
abbrev S688x2048 : Shape := ⟨2, ![688, 2048]⟩
abbrev S1x1376x2048 : Shape := ⟨3, ![1, 1376, 2048]⟩
abbrev S1x688x1376 : Shape := ⟨3, ![1, 688, 1376]⟩
abbrev S1376x2048 : Shape := ⟨2, ![1376, 2048]⟩
abbrev S688x1376 : Shape := ⟨2, ![688, 1376]⟩

abbrev nBuf : Space → Nat
  | .hbm => 3
  | .vmem => 6
  | .smem => 0
  | _ => 0

abbrev bufTy : (tb : Table) → Fin (tcTables nBuf tb) → BufTy
  | .hbm, ⟨0, _⟩ => ⟨S2064x2048, .bf16⟩
  | .hbm, ⟨1, _⟩ => ⟨S4x1376x2048, .bf16⟩
  | .hbm, ⟨2, _⟩ => ⟨S4x2064x1376, .bf16⟩
  | .local _ .vmem, ⟨0, _⟩ => ⟨S688x2048, .bf16⟩
  | .local _ .vmem, ⟨1, _⟩ => ⟨S688x2048, .bf16⟩
  | .local _ .vmem, ⟨2, _⟩ => ⟨S1x1376x2048, .bf16⟩
  | .local _ .vmem, ⟨3, _⟩ => ⟨S1x1376x2048, .bf16⟩
  | .local _ .vmem, ⟨4, _⟩ => ⟨S1x688x1376, .bf16⟩
  | .local _ .vmem, ⟨5, _⟩ => ⟨S1x688x1376, .bf16⟩
  | _, _ => ⟨S2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 3, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg2.toNat, arg4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x1376x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x688x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== DownBwdXReferenceIdeal.lean ====
abbrev S2064x2048 : Shape := ⟨2, ![2064, 2048]⟩
abbrev S4x1376x2048 : Shape := ⟨3, ![4, 1376, 2048]⟩
abbrev S_ : Shape := ⟨0, ![]⟩
abbrev S4x2064x1376 : Shape := ⟨3, ![4, 2064, 1376]⟩
abbrev S2064x4x1376 : Shape := ⟨3, ![2064, 4, 1376]⟩

abbrev nBuf : Space → Nat
  | .hbm => 10
  | .vmem => 0
  | .smem => 0
  | _ => 0

abbrev bufTy : (tb : Table) → Fin (tcTables nBuf tb) → BufTy
  | .hbm, ⟨0, _⟩ => ⟨S2064x2048, .bf16⟩
  | .hbm, ⟨1, _⟩ => ⟨S4x1376x2048, .bf16⟩
  | .hbm, ⟨2, _⟩ => ⟨S2064x2048, .f32⟩
  | .hbm, ⟨3, _⟩ => ⟨S4x1376x2048, .f32⟩
  | .hbm, ⟨4, _⟩ => ⟨S_, .f32⟩
  | .hbm, ⟨5, _⟩ => ⟨S4x2064x1376, .f32⟩
  | .hbm, ⟨6, _⟩ => ⟨S2064x2048, .f32⟩
  | .hbm, ⟨7, _⟩ => ⟨S2064x4x1376, .f32⟩
  | .hbm, ⟨8, _⟩ => ⟨S4x2064x1376, .f32⟩
  | .hbm, ⟨9, _⟩ => ⟨S4x2064x1376, .bf16⟩
  | _, _ => ⟨S2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownBwdW.lean ====
abbrev S4x2064x1376 : Shape := ⟨3, ![4, 2064, 1376]⟩
abbrev S2064x2048 : Shape := ⟨2, ![2064, 2048]⟩
abbrev S4x1376x2048 : Shape := ⟨3, ![4, 1376, 2048]⟩
abbrev S1x2064x1376 : Shape := ⟨3, ![1, 2064, 1376]⟩
abbrev S2064x512 : Shape := ⟨2, ![2064, 512]⟩
abbrev S1x1376x512 : Shape := ⟨3, ![1, 1376, 512]⟩
abbrev S2064x1376 : Shape := ⟨2, ![2064, 1376]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x2064x1376, .bf16⟩
  | .hbm, ⟨1, _⟩ => ⟨S2064x2048, .bf16⟩
  | .hbm, ⟨2, _⟩ => ⟨S4x1376x2048, .bf16⟩
  | .local _ .vmem, ⟨0, _⟩ => ⟨S1x2064x1376, .bf16⟩
  | .local _ .vmem, ⟨1, _⟩ => ⟨S1x2064x1376, .bf16⟩
  | .local _ .vmem, ⟨2, _⟩ => ⟨S2064x512, .bf16⟩
  | .local _ .vmem, ⟨3, _⟩ => ⟨S2064x512, .bf16⟩
  | .local _ .vmem, ⟨4, _⟩ => ⟨S1x1376x512, .bf16⟩
  | .local _ .vmem, ⟨5, _⟩ => ⟨S1x1376x512, .bf16⟩
  | _, _ => ⟨S4x2064x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 1, 4, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1x2064x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S2064x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== DownBwdWReferenceIdeal.lean ====
abbrev S4x2064x1376 : Shape := ⟨3, ![4, 2064, 1376]⟩
abbrev S2064x2048 : Shape := ⟨2, ![2064, 2048]⟩
abbrev S_ : Shape := ⟨0, ![]⟩
abbrev S4x1376x2048 : Shape := ⟨3, ![4, 1376, 2048]⟩
abbrev S2048x4x1376 : Shape := ⟨3, ![2048, 4, 1376]⟩

abbrev nBuf : Space → Nat
  | .hbm => 10
  | .vmem => 0
  | .smem => 0
  | _ => 0

abbrev bufTy : (tb : Table) → Fin (tcTables nBuf tb) → BufTy
  | .hbm, ⟨0, _⟩ => ⟨S4x2064x1376, .bf16⟩
  | .hbm, ⟨1, _⟩ => ⟨S2064x2048, .bf16⟩
  | .hbm, ⟨2, _⟩ => ⟨S4x2064x1376, .f32⟩
  | .hbm, ⟨3, _⟩ => ⟨S2064x2048, .f32⟩
  | .hbm, ⟨4, _⟩ => ⟨S_, .f32⟩
  | .hbm, ⟨5, _⟩ => ⟨S4x1376x2048, .f32⟩
  | .hbm, ⟨6, _⟩ => ⟨S2064x2048, .f32⟩
  | .hbm, ⟨7, _⟩ => ⟨S2048x4x1376, .f32⟩
  | .hbm, ⟨8, _⟩ => ⟨S4x1376x2048, .f32⟩
  | .hbm, ⟨9, _⟩ => ⟨S4x1376x2048, .bf16⟩
  | _, _ => ⟨S4x2064x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpProj.lean ====
abbrev S2064x2048 : Shape := ⟨2, ![2064, 2048]⟩
abbrev S8x2048x1376 : Shape := ⟨3, ![8, 2048, 1376]⟩
abbrev S8x2064x1376 : Shape := ⟨3, ![8, 2064, 1376]⟩
abbrev S688x2048 : Shape := ⟨2, ![688, 2048]⟩
abbrev S1x2048x1376 : Shape := ⟨3, ![1, 2048, 1376]⟩
abbrev S1x688x1376 : Shape := ⟨3, ![1, 688, 1376]⟩
abbrev S2048x1376 : Shape := ⟨2, ![2048, 1376]⟩
abbrev S688x1376 : Shape := ⟨2, ![688, 1376]⟩

abbrev nBuf : Space → Nat
  | .hbm => 3
  | .vmem => 6
  | .smem => 0
  | _ => 0

abbrev bufTy : (tb : Table) → Fin (tcTables nBuf tb) → BufTy
  | .hbm, ⟨0, _⟩ => ⟨S2064x2048, .bf16⟩
  | .hbm, ⟨1, _⟩ => ⟨S8x2048x1376, .bf16⟩
  | .hbm, ⟨2, _⟩ => ⟨S8x2064x1376, .bf16⟩
  | .local _ .vmem, ⟨0, _⟩ => ⟨S688x2048, .bf16⟩
  | .local _ .vmem, ⟨1, _⟩ => ⟨S688x2048, .bf16⟩
  | .local _ .vmem, ⟨2, _⟩ => ⟨S1x2048x1376, .bf16⟩
  | .local _ .vmem, ⟨3, _⟩ => ⟨S1x2048x1376, .bf16⟩
  | .local _ .vmem, ⟨4, _⟩ => ⟨S1x688x1376, .bf16⟩
  | .local _ .vmem, ⟨5, _⟩ => ⟨S1x688x1376, .bf16⟩
  | _, _ => ⟨S2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![8, 3, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2048x1376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x688x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== UpProjReferenceIdeal.lean ====
abbrev S2064x2048 : Shape := ⟨2, ![2064, 2048]⟩
abbrev S8x2048x1376 : Shape := ⟨3, ![8, 2048, 1376]⟩
abbrev S8x1376x2064 : Shape := ⟨3, ![8, 1376, 2064]⟩
abbrev S8x2064x1376 : Shape := ⟨3, ![8, 2064, 1376]⟩

abbrev nBuf : Space → Nat
  | .hbm => 7
  | .vmem => 0
  | .smem => 0
  | _ => 0

abbrev bufTy : (tb : Table) → Fin (tcTables nBuf tb) → BufTy
  | .hbm, ⟨0, _⟩ => ⟨S2064x2048, .bf16⟩
  | .hbm, ⟨1, _⟩ => ⟨S8x2048x1376, .bf16⟩
  | .hbm, ⟨2, _⟩ => ⟨S2064x2048, .f32⟩
  | .hbm, ⟨3, _⟩ => ⟨S8x2048x1376, .f32⟩
  | .hbm, ⟨4, _⟩ => ⟨S8x1376x2064, .f32⟩
  | .hbm, ⟨5, _⟩ => ⟨S8x2064x1376, .f32⟩
  | .hbm, ⟨6, _⟩ => ⟨S8x2064x1376, .bf16⟩
  | _, _ => ⟨S2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownProj.lean ====
abbrev S4x2064x1376 : Shape := ⟨3, ![4, 2064, 1376]⟩
abbrev S4x1376x2048 : Shape := ⟨3, ![4, 1376, 2048]⟩
abbrev S2064x2048 : Shape := ⟨2, ![2064, 2048]⟩
abbrev S1x688x1376 : Shape := ⟨3, ![1, 688, 1376]⟩
abbrev S1x1376x1024 : Shape := ⟨3, ![1, 1376, 1024]⟩
abbrev S688x1024 : Shape := ⟨2, ![688, 1024]⟩
abbrev S688x1376 : Shape := ⟨2, ![688, 1376]⟩
abbrev S1376x1024 : Shape := ⟨2, ![1376, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4x2064x1376, .bf16⟩
  | .hbm, ⟨1, _⟩ => ⟨S4x1376x2048, .bf16⟩
  | .hbm, ⟨2, _⟩ => ⟨S2064x2048, .f32⟩
  | .hbm, ⟨3, _⟩ => ⟨S2064x2048, .f32⟩
  | .local _ .vmem, ⟨0, _⟩ => ⟨S1x688x1376, .bf16⟩
  | .local _ .vmem, ⟨1, _⟩ => ⟨S1x688x1376, .bf16⟩
  | .local _ .vmem, ⟨2, _⟩ => ⟨S1x1376x1024, .bf16⟩
  | .local _ .vmem, ⟨3, _⟩ => ⟨S1x1376x1024, .bf16⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | _, _ => ⟨S4x2064x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨5, ![1, 3, 2, 4, 1], ![false, false, false, false, false]⟩

def k0_cond3 (i : grid0.Coords) : BitVec 1 :=
  let arg3 : BitVec 32 := BitVec.ofNat 32 (i 3).val
  let c1_i32 : BitVec 32 := 1#32
  let v5 : BitVec 32 := Scalar.muli arg3 c1_i32
  let arg4 : BitVec 32 := BitVec.ofNat 32 (i 4).val
  let v6 : BitVec 32 := Scalar.addi v5 arg4
  let c3_i32 : BitVec 32 := 3#32
  let v13 : BitVec 1 := Scalar.cmpi .eq v6 c3_i32
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1x688x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true, true]

abbrev stage0_1 : Fin 2 → Memref sig .tc .vmem S1x1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false, false]
-- ==== DownProjReferenceIdeal.lean ====
abbrev S4x2064x1376 : Shape := ⟨3, ![4, 2064, 1376]⟩
abbrev S4x1376x2048 : Shape := ⟨3, ![4, 1376, 2048]⟩
abbrev S2064x2048 : Shape := ⟨2, ![2064, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x2064x1376, .bf16⟩
  | .hbm, ⟨1, _⟩ => ⟨S4x1376x2048, .bf16⟩
  | .hbm, ⟨2, _⟩ => ⟨S2064x2048, .f32⟩
  | .hbm, ⟨3, _⟩ => ⟨S4x2064x1376, .f32⟩
  | .hbm, ⟨4, _⟩ => ⟨S4x1376x2048, .f32⟩
  | .hbm, ⟨5, _⟩ => ⟨S2064x2048, .f32⟩
  | .hbm, ⟨6, _⟩ => ⟨S2064x2048, .f32⟩
  | _, _ => ⟨S4x2064x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S2064x2048 : Shape := ⟨2, ![2064, 2048]⟩
abbrev S2048x1856 : Shape := ⟨2, ![2048, 1856]⟩
abbrev S_ : Shape := ⟨0, ![]⟩
abbrev S2048x1920 : Shape := ⟨2, ![2048, 1920]⟩
abbrev S2064x1920 : Shape := ⟨2, ![2064, 1920]⟩
abbrev S688x2048 : Shape := ⟨2, ![688, 2048]⟩
abbrev S2048x640 : Shape := ⟨2, ![2048, 640]⟩
abbrev S688x640 : Shape := ⟨2, ![688, 640]⟩

abbrev nBuf : Space → Nat
  | .hbm => 6
  | .vmem => 6
  | .smem => 0
  | _ => 0

abbrev bufTy : (tb : Table) → Fin (tcTables nBuf tb) → BufTy
  | .hbm, ⟨0, _⟩ => ⟨S2064x2048, .bf16⟩
  | .hbm, ⟨1, _⟩ => ⟨S2048x1856, .bf16⟩
  | .hbm, ⟨2, _⟩ => ⟨S_, .i32⟩
  | .hbm, ⟨3, _⟩ => ⟨S_, .bf16⟩
  | .hbm, ⟨4, _⟩ => ⟨S2048x1920, .bf16⟩
  | .hbm, ⟨5, _⟩ => ⟨S2064x1920, .f32⟩
  | .local _ .vmem, ⟨0, _⟩ => ⟨S688x2048, .bf16⟩
  | .local _ .vmem, ⟨1, _⟩ => ⟨S688x2048, .bf16⟩
  | .local _ .vmem, ⟨2, _⟩ => ⟨S2048x640, .bf16⟩
  | .local _ .vmem, ⟨3, _⟩ => ⟨S2048x640, .bf16⟩
  | .local _ .vmem, ⟨4, _⟩ => ⟨S688x640, .f32⟩
  | .local _ .vmem, ⟨5, _⟩ => ⟨S688x640, .f32⟩
  | _, _ => ⟨S2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 3, 3, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S688x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== InProjReferenceIdeal.lean ====
abbrev S2064x2048 : Shape := ⟨2, ![2064, 2048]⟩
abbrev S2048x1856 : Shape := ⟨2, ![2048, 1856]⟩
abbrev S2064x1856 : Shape := ⟨2, ![2064, 1856]⟩
abbrev S_ : Shape := ⟨0, ![]⟩
abbrev S2064x1920 : Shape := ⟨2, ![2064, 1920]⟩

abbrev nBuf : Space → Nat
  | .hbm => 8
  | .vmem => 0
  | .smem => 0
  | _ => 0

abbrev bufTy : (tb : Table) → Fin (tcTables nBuf tb) → BufTy
  | .hbm, ⟨0, _⟩ => ⟨S2064x2048, .bf16⟩
  | .hbm, ⟨1, _⟩ => ⟨S2048x1856, .bf16⟩
  | .hbm, ⟨2, _⟩ => ⟨S2064x2048, .f32⟩
  | .hbm, ⟨3, _⟩ => ⟨S2048x1856, .f32⟩
  | .hbm, ⟨4, _⟩ => ⟨S2064x1856, .f32⟩
  | .hbm, ⟨5, _⟩ => ⟨S_, .i32⟩
  | .hbm, ⟨6, _⟩ => ⟨S_, .f32⟩
  | .hbm, ⟨7, _⟩ => ⟨S2064x1920, .f32⟩
  | _, _ => ⟨S2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InBwdX.lean ====
abbrev S2064x1856 : Shape := ⟨2, ![2064, 1856]⟩
abbrev S2048x1856 : Shape := ⟨2, ![2048, 1856]⟩
abbrev S_ : Shape := ⟨0, ![]⟩
abbrev S2064x1920 : Shape := ⟨2, ![2064, 1920]⟩
abbrev S2048x1920 : Shape := ⟨2, ![2048, 1920]⟩
abbrev S2064x2048 : Shape := ⟨2, ![2064, 2048]⟩
abbrev S688x1920 : Shape := ⟨2, ![688, 1920]⟩
abbrev S1024x1920 : Shape := ⟨2, ![1024, 1920]⟩
abbrev S688x1024 : Shape := ⟨2, ![688, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2064x1856, .bf16⟩
  | .hbm, ⟨1, _⟩ => ⟨S2048x1856, .bf16⟩
  | .hbm, ⟨2, _⟩ => ⟨S_, .i32⟩
  | .hbm, ⟨3, _⟩ => ⟨S_, .bf16⟩
  | .hbm, ⟨4, _⟩ => ⟨S2064x1920, .bf16⟩
  | .hbm, ⟨5, _⟩ => ⟨S_, .i32⟩
  | .hbm, ⟨6, _⟩ => ⟨S_, .bf16⟩
  | .hbm, ⟨7, _⟩ => ⟨S2048x1920, .bf16⟩
  | .hbm, ⟨8, _⟩ => ⟨S2064x2048, .f32⟩
  | .local _ .vmem, ⟨0, _⟩ => ⟨S688x1920, .bf16⟩
  | .local _ .vmem, ⟨1, _⟩ => ⟨S688x1920, .bf16⟩
  | .local _ .vmem, ⟨2, _⟩ => ⟨S1024x1920, .bf16⟩
  | .local _ .vmem, ⟨3, _⟩ => ⟨S1024x1920, .bf16⟩
  | .local _ .vmem, ⟨4, _⟩ => ⟨S688x1024, .f32⟩
  | .local _ .vmem, ⟨5, _⟩ => ⟨S688x1024, .f32⟩
  | _, _ => ⟨S2064x1856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 3, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S688x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== InBwdXReferenceIdeal.lean ====
abbrev S2064x1856 : Shape := ⟨2, ![2064, 1856]⟩
abbrev S2048x1856 : Shape := ⟨2, ![2048, 1856]⟩
abbrev S_ : Shape := ⟨0, ![]⟩
abbrev S2064x2048 : Shape := ⟨2, ![2064, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2064x1856, .bf16⟩
  | .hbm, ⟨1, _⟩ => ⟨S2048x1856, .bf16⟩
  | .hbm, ⟨2, _⟩ => ⟨S_, .f32⟩
  | .hbm, ⟨3, _⟩ => ⟨S2064x2048, .f32⟩
  | .hbm, ⟨4, _⟩ => ⟨S2048x1856, .f32⟩
  | .hbm, ⟨5, _⟩ => ⟨S2064x1856, .f32⟩
  | .hbm, ⟨6, _⟩ => ⟨S2064x1856, .f32⟩
  | .hbm, ⟨7, _⟩ => ⟨S2064x2048, .f32⟩
  | _, _ => ⟨S2064x1856, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InBwdW.lean ====
abbrev S2064x2048 : Shape := ⟨2, ![2064, 2048]⟩
abbrev S2064x1856 : Shape := ⟨2, ![2064, 1856]⟩
abbrev S_ : Shape := ⟨0, ![]⟩
abbrev S2064x1920 : Shape := ⟨2, ![2064, 1920]⟩
abbrev S2048x1920 : Shape := ⟨2, ![2048, 1920]⟩
abbrev S2064x1024 : Shape := ⟨2, ![2064, 1024]⟩
abbrev S2064x640 : Shape := ⟨2, ![2064, 640]⟩
abbrev S1024x640 : Shape := ⟨2, ![1024, 640]⟩

abbrev nBuf : Space → Nat
  | .hbm => 6
  | .vmem => 6
  | .smem => 0
  | _ => 0

abbrev bufTy : (tb : Table) → Fin (tcTables nBuf tb) → BufTy
  | .hbm, ⟨0, _⟩ => ⟨S2064x2048, .bf16⟩
  | .hbm, ⟨1, _⟩ => ⟨S2064x1856, .bf16⟩
  | .hbm, ⟨2, _⟩ => ⟨S_, .i32⟩
  | .hbm, ⟨3, _⟩ => ⟨S_, .bf16⟩
  | .hbm, ⟨4, _⟩ => ⟨S2064x1920, .bf16⟩
  | .hbm, ⟨5, _⟩ => ⟨S2048x1920, .bf16⟩
  | .local _ .vmem, ⟨0, _⟩ => ⟨S2064x1024, .bf16⟩
  | .local _ .vmem, ⟨1, _⟩ => ⟨S2064x1024, .bf16⟩
  | .local _ .vmem, ⟨2, _⟩ => ⟨S2064x640, .bf16⟩
  | .local _ .vmem, ⟨3, _⟩ => ⟨S2064x640, .bf16⟩
  | .local _ .vmem, ⟨4, _⟩ => ⟨S1024x640, .bf16⟩
  | .local _ .vmem, ⟨5, _⟩ => ⟨S1024x640, .bf16⟩
  | _, _ => ⟨S2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 2, 3, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S2064x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== InBwdWReferenceIdeal.lean ====
abbrev S2064x2048 : Shape := ⟨2, ![2064, 2048]⟩
abbrev S2064x1856 : Shape := ⟨2, ![2064, 1856]⟩
abbrev S_ : Shape := ⟨0, ![]⟩
abbrev S2048x1856 : Shape := ⟨2, ![2048, 1856]⟩
abbrev S1856x2048 : Shape := ⟨2, ![1856, 2048]⟩
abbrev S2048x1920 : Shape := ⟨2, ![2048, 1920]⟩

abbrev nBuf : Space → Nat
  | .hbm => 13
  | .vmem => 0
  | .smem => 0
  | _ => 0

abbrev bufTy : (tb : Table) → Fin (tcTables nBuf tb) → BufTy
  | .hbm, ⟨0, _⟩ => ⟨S2064x2048, .bf16⟩
  | .hbm, ⟨1, _⟩ => ⟨S2064x1856, .bf16⟩
  | .hbm, ⟨2, _⟩ => ⟨S_, .f32⟩
  | .hbm, ⟨3, _⟩ => ⟨S2048x1856, .f32⟩
  | .hbm, ⟨4, _⟩ => ⟨S2064x2048, .f32⟩
  | .hbm, ⟨5, _⟩ => ⟨S2064x1856, .f32⟩
  | .hbm, ⟨6, _⟩ => ⟨S2064x1856, .f32⟩
  | .hbm, ⟨7, _⟩ => ⟨S1856x2048, .f32⟩
  | .hbm, ⟨8, _⟩ => ⟨S2048x1856, .f32⟩
  | .hbm, ⟨9, _⟩ => ⟨S_, .i32⟩
  | .hbm, ⟨10, _⟩ => ⟨S_, .f32⟩
  | .hbm, ⟨11, _⟩ => ⟨S2048x1920, .f32⟩
  | .hbm, ⟨12, _⟩ => ⟨S2048x1920, .bf16⟩
  | _, _ => ⟨S2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OutProj.lean ====
abbrev S2064x2048 : Shape := ⟨2, ![2064, 2048]⟩
abbrev S2048x2048 : Shape := ⟨2, ![2048, 2048]⟩
abbrev S688x2048 : Shape := ⟨2, ![688, 2048]⟩
abbrev S2048x1024 : Shape := ⟨2, ![2048, 1024]⟩
abbrev S688x1024 : Shape := ⟨2, ![688, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2064x2048, .bf16⟩
  | .hbm, ⟨1, _⟩ => ⟨S2048x2048, .bf16⟩
  | .hbm, ⟨2, _⟩ => ⟨S2064x2048, .f32⟩
  | .hbm, ⟨3, _⟩ => ⟨S2064x2048, .f32⟩
  | .local _ .vmem, ⟨0, _⟩ => ⟨S688x2048, .bf16⟩
  | .local _ .vmem, ⟨1, _⟩ => ⟨S688x2048, .bf16⟩
  | .local _ .vmem, ⟨2, _⟩ => ⟨S2048x1024, .bf16⟩
  | .local _ .vmem, ⟨3, _⟩ => ⟨S2048x1024, .bf16⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | _, _ => ⟨S2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨5, ![1, 3, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false, false]
-- ==== OutProjReferenceIdeal.lean ====
abbrev S2064x2048 : Shape := ⟨2, ![2064, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2064x2048, .bf16⟩
  | .hbm, ⟨1, _⟩ => ⟨S2048x2048, .bf16⟩
  | .hbm, ⟨2, _⟩ => ⟨S2064x2048, .f32⟩
  | .hbm, ⟨3, _⟩ => ⟨S2064x2048, .f32⟩
  | .hbm, ⟨4, _⟩ => ⟨S2048x2048, .f32⟩
  | .hbm, ⟨5, _⟩ => ⟨S2064x2048, .f32⟩
  | .hbm, ⟨6, _⟩ => ⟨S2064x2048, .f32⟩
  | _, _ => ⟨S2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutBwdX.lean ====
abbrev S2064x2048 : Shape := ⟨2, ![2064, 2048]⟩
abbrev S2048x2048 : Shape := ⟨2, ![2048, 2048]⟩
abbrev S688x2048 : Shape := ⟨2, ![688, 2048]⟩
abbrev S1024x2048 : Shape := ⟨2, ![1024, 2048]⟩
abbrev S688x1024 : Shape := ⟨2, ![688, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2064x2048, .bf16⟩
  | .hbm, ⟨1, _⟩ => ⟨S2048x2048, .bf16⟩
  | .hbm, ⟨2, _⟩ => ⟨S2064x2048, .f32⟩
  | .local _ .vmem, ⟨0, _⟩ => ⟨S688x2048, .bf16⟩
  | .local _ .vmem, ⟨1, _⟩ => ⟨S688x2048, .bf16⟩
  | .local _ .vmem, ⟨2, _⟩ => ⟨S1024x2048, .bf16⟩
  | .local _ .vmem, ⟨3, _⟩ => ⟨S1024x2048, .bf16⟩
  | .local _ .vmem, ⟨4, _⟩ => ⟨S688x1024, .f32⟩
  | .local _ .vmem, ⟨5, _⟩ => ⟨S688x1024, .f32⟩
  | _, _ => ⟨S2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 3, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== OutBwdXReferenceIdeal.lean ====
abbrev S2064x2048 : Shape := ⟨2, ![2064, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2064x2048, .bf16⟩
  | .hbm, ⟨1, _⟩ => ⟨S2048x2048, .bf16⟩
  | .hbm, ⟨2, _⟩ => ⟨S_, .f32⟩
  | .hbm, ⟨3, _⟩ => ⟨S2064x2048, .f32⟩
  | .hbm, ⟨4, _⟩ => ⟨S2048x2048, .f32⟩
  | .hbm, ⟨5, _⟩ => ⟨S2064x2048, .f32⟩
  | .hbm, ⟨6, _⟩ => ⟨S2064x2048, .f32⟩
  | .hbm, ⟨7, _⟩ => ⟨S2064x2048, .f32⟩
  | _, _ => ⟨S2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutBwdW.lean ====
abbrev S2064x2048 : Shape := ⟨2, ![2064, 2048]⟩
abbrev S2048x2048 : Shape := ⟨2, ![2048, 2048]⟩
abbrev S2064x1024 : Shape := ⟨2, ![2064, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2064x2048, .bf16⟩
  | .hbm, ⟨1, _⟩ => ⟨S2064x2048, .bf16⟩
  | .hbm, ⟨2, _⟩ => ⟨S2048x2048, .bf16⟩
  | .local _ .vmem, ⟨0, _⟩ => ⟨S2064x1024, .bf16⟩
  | .local _ .vmem, ⟨1, _⟩ => ⟨S2064x1024, .bf16⟩
  | .local _ .vmem, ⟨2, _⟩ => ⟨S2064x1024, .bf16⟩
  | .local _ .vmem, ⟨3, _⟩ => ⟨S2064x1024, .bf16⟩
  | .local _ .vmem, ⟨4, _⟩ => ⟨S1024x1024, .bf16⟩
  | .local _ .vmem, ⟨5, _⟩ => ⟨S1024x1024, .bf16⟩
  | _, _ => ⟨S2064x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 2, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S2064x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== OutBwdWReferenceIdeal.lean ====
abbrev S2064x2048 : Shape := ⟨2, ![2064, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2064x2048, .bf16⟩
  | .hbm, ⟨1, _⟩ => ⟨S2064x2048, .bf16⟩
  | .hbm, ⟨2, _⟩ => ⟨S_, .f32⟩
  | .hbm, ⟨3, _⟩ => ⟨S2048x2048, .f32⟩
  | .hbm, ⟨4, _⟩ => ⟨S2064x2048, .f32⟩
  | .hbm, ⟨5, _⟩ => ⟨S2064x2048, .f32⟩
  | .hbm, ⟨6, _⟩ => ⟨S2064x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2064x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluProj.lean ====
abbrev S2064x1024 : Shape := ⟨2, ![2064, 1024]⟩
abbrev S1024x1024 : Shape := ⟨2, ![1024, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S1024x1024, .bf16⟩
  | .hbm, ⟨2, _⟩ => ⟨S2064x1024, .f32⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .f32⟩
  | .local _ .vmem, ⟨4, _⟩ => ⟨S688x1024, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 3, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== GluProjReferenceIdeal.lean ====
abbrev S2064x1024 : Shape := ⟨2, ![2064, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S1024x1024, .bf16⟩
  | .hbm, ⟨2, _⟩ => ⟨S2064x1024, .f32⟩
  | .hbm, ⟨3, _⟩ => ⟨S1024x1024, .f32⟩
  | .hbm, ⟨4, _⟩ => ⟨S2064x1024, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluBwdX.lean ====
abbrev S2064x1024 : Shape := ⟨2, ![2064, 1024]⟩
abbrev S1024x1024 : Shape := ⟨2, ![1024, 1024]⟩
abbrev S688x1024 : Shape := ⟨2, ![688, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2064x1024, .bf16⟩
  | .hbm, ⟨1, _⟩ => ⟨S1024x1024, .bf16⟩
  | .hbm, ⟨2, _⟩ => ⟨S2064x1024, .f32⟩
  | .hbm, ⟨3, _⟩ => ⟨S2064x1024, .f32⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨5, ![1, 3, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false, false]
-- ==== GluBwdXReferenceIdeal.lean ====
abbrev S2064x1024 : Shape := ⟨2, ![2064, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S1024x1024, .bf16⟩
  | .hbm, ⟨2, _⟩ => ⟨S2064x1024, .f32⟩
  | .hbm, ⟨3, _⟩ => ⟨S_, .f32⟩
  | .hbm, ⟨4, _⟩ => ⟨S2064x1024, .f32⟩
  | .hbm, ⟨5, _⟩ => ⟨S1024x1024, .f32⟩
  | .hbm, ⟨6, _⟩ => ⟨S2064x1024, .f32⟩
  | .hbm, ⟨7, _⟩ => ⟨S2064x1024, .f32⟩
  | .hbm, ⟨8, _⟩ => ⟨S2064x1024, .f32⟩
  | .hbm, ⟨9, _⟩ => ⟨S2064x1024, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GluBwdW.lean ====
abbrev S2064x1024 : Shape := ⟨2, ![2064, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .bf16⟩
  | .hbm, ⟨2, _⟩ => ⟨S1024x1024, .bf16⟩
  | .local _ .vmem, ⟨0, _⟩ => ⟨S2064x1024, .bf16⟩
  | .local _ .vmem, ⟨1, _⟩ => ⟨S2064x1024, .bf16⟩
  | .local _ .vmem, ⟨2, _⟩ => ⟨S1024x1024, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨5, ![1, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 1 → Memref sig .tc .vmem S2064x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false, false]
-- ==== GluBwdWReferenceIdeal.lean ====
abbrev S2064x1024 : Shape := ⟨2, ![2064, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .bf16⟩
  | .hbm, ⟨2, _⟩ => ⟨S_, .f32⟩
  | .hbm, ⟨3, _⟩ => ⟨S1024x1024, .f32⟩
  | .hbm, ⟨4, _⟩ => ⟨S2064x1024, .f32⟩
  | .hbm, ⟨5, _⟩ => ⟨S2064x1024, .f32⟩
  | .hbm, ⟨6, _⟩ => ⟨S2064x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QProj.lean ====
abbrev S2064x512 : Shape := ⟨2, ![2064, 512]⟩
abbrev S8x512x192 : Shape := ⟨3, ![8, 512, 192]⟩
abbrev S_ : Shape := ⟨0, ![]⟩
abbrev S8x512x256 : Shape := ⟨3, ![8, 512, 256]⟩
abbrev S8x2064x256 : Shape := ⟨3, ![8, 2064, 256]⟩
abbrev S1x512x256 : Shape := ⟨3, ![1, 512, 256]⟩
abbrev S1x2064x256 : Shape := ⟨3, ![1, 2064, 256]⟩
abbrev S512x256 : Shape := ⟨2, ![512, 256]⟩
abbrev S2064x256 : Shape := ⟨2, ![2064, 256]⟩

abbrev nBuf : Space → Nat
  | .hbm => 6
  | .vmem => 5
  | .smem => 0
  | _ => 0

abbrev bufTy : (tb : Table) → Fin (tcTables nBuf tb) → BufTy
  | .hbm, ⟨0, _⟩ => ⟨S2064x512, .bf16⟩
  | .hbm, ⟨1, _⟩ => ⟨S8x512x192, .bf16⟩
  | .hbm, ⟨2, _⟩ => ⟨S_, .i32⟩
  | .hbm, ⟨3, _⟩ => ⟨S_, .bf16⟩
  | .hbm, ⟨4, _⟩ => ⟨S8x512x256, .bf16⟩
  | .hbm, ⟨5, _⟩ => ⟨S8x2064x256, .f32⟩
  | .local _ .vmem, ⟨0, _⟩ => ⟨S2064x512, .bf16⟩
  | .local _ .vmem, ⟨1, _⟩ => ⟨S1x512x256, .bf16⟩
  | .local _ .vmem, ⟨2, _⟩ => ⟨S1x512x256, .bf16⟩
  | .local _ .vmem, ⟨3, _⟩ => ⟨S1x2064x256, .f32⟩
  | .local _ .vmem, ⟨4, _⟩ => ⟨S1x2064x256, .f32⟩
  | _, _ => ⟨S2064x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![8, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 1 → Memref sig .tc .vmem S2064x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x2064x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== QProjReferenceIdeal.lean ====
abbrev S2064x512 : Shape := ⟨2, ![2064, 512]⟩
abbrev S8x512x192 : Shape := ⟨3, ![8, 512, 192]⟩
abbrev S8x192x2064 : Shape := ⟨3, ![8, 192, 2064]⟩
abbrev S8x2064x192 : Shape := ⟨3, ![8, 2064, 192]⟩
abbrev S_ : Shape := ⟨0, ![]⟩
abbrev S8x2064x256 : Shape := ⟨3, ![8, 2064, 256]⟩

abbrev nBuf : Space → Nat
  | .hbm => 9
  | .vmem => 0
  | .smem => 0
  | _ => 0

abbrev bufTy : (tb : Table) → Fin (tcTables nBuf tb) → BufTy
  | .hbm, ⟨0, _⟩ => ⟨S2064x512, .bf16⟩
  | .hbm, ⟨1, _⟩ => ⟨S8x512x192, .bf16⟩
  | .hbm, ⟨2, _⟩ => ⟨S2064x512, .f32⟩
  | .hbm, ⟨3, _⟩ => ⟨S8x512x192, .f32⟩
  | .hbm, ⟨4, _⟩ => ⟨S8x192x2064, .f32⟩
  | .hbm, ⟨5, _⟩ => ⟨S8x2064x192, .f32⟩
  | .hbm, ⟨6, _⟩ => ⟨S_, .i32⟩
  | .hbm, ⟨7, _⟩ => ⟨S_, .f32⟩
  | .hbm, ⟨8, _⟩ => ⟨S8x2064x256, .f32⟩
  | _, _ => ⟨S2064x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== QBwdW.lean ====
abbrev S2064x512 : Shape := ⟨2, ![2064, 512]⟩
abbrev S8x2064x192 : Shape := ⟨3, ![8, 2064, 192]⟩
abbrev S_ : Shape := ⟨0, ![]⟩
abbrev S8x2064x256 : Shape := ⟨3, ![8, 2064, 256]⟩
abbrev S8x512x256 : Shape := ⟨3, ![8, 512, 256]⟩
abbrev S1x2064x256 : Shape := ⟨3, ![1, 2064, 256]⟩
abbrev S1x512x256 : Shape := ⟨3, ![1, 512, 256]⟩
abbrev S2064x256 : Shape := ⟨2, ![2064, 256]⟩
abbrev S512x256 : Shape := ⟨2, ![512, 256]⟩

abbrev nBuf : Space → Nat
  | .hbm => 6
  | .vmem => 5
  | .smem => 0
  | _ => 0

abbrev bufTy : (tb : Table) → Fin (tcTables nBuf tb) → BufTy
  | .hbm, ⟨0, _⟩ => ⟨S2064x512, .bf16⟩
  | .hbm, ⟨1, _⟩ => ⟨S8x2064x192, .bf16⟩
  | .hbm, ⟨2, _⟩ => ⟨S_, .i32⟩
  | .hbm, ⟨3, _⟩ => ⟨S_, .bf16⟩
  | .hbm, ⟨4, _⟩ => ⟨S8x2064x256, .bf16⟩
  | .hbm, ⟨5, _⟩ => ⟨S8x512x256, .bf16⟩
  | .local _ .vmem, ⟨0, _⟩ => ⟨S2064x512, .bf16⟩
  | .local _ .vmem, ⟨1, _⟩ => ⟨S1x2064x256, .bf16⟩
  | .local _ .vmem, ⟨2, _⟩ => ⟨S1x2064x256, .bf16⟩
  | .local _ .vmem, ⟨3, _⟩ => ⟨S1x512x256, .bf16⟩
  | .local _ .vmem, ⟨4, _⟩ => ⟨S1x512x256, .bf16⟩
  | _, _ => ⟨S2064x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![8, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 1 → Memref sig .tc .vmem S2064x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 2 → Memref sig .tc .vmem S1x2064x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== QBwdWReferenceIdeal.lean ====
abbrev S2064x512 : Shape := ⟨2, ![2064, 512]⟩
abbrev S8x2064x192 : Shape := ⟨3, ![8, 2064, 192]⟩
abbrev S_ : Shape := ⟨0, ![]⟩
abbrev S8x512x192 : Shape := ⟨3, ![8, 512, 192]⟩
abbrev S8x192x2064 : Shape := ⟨3, ![8, 192, 2064]⟩
abbrev S8x192x512 : Shape := ⟨3, ![8, 192, 512]⟩
abbrev S8x512x256 : Shape := ⟨3, ![8, 512, 256]⟩

abbrev nBuf : Space → Nat
  | .hbm => 15
  | .vmem => 0
  | .smem => 0
  | _ => 0

abbrev bufTy : (tb : Table) → Fin (tcTables nBuf tb) → BufTy
  | .hbm, ⟨0, _⟩ => ⟨S2064x512, .bf16⟩
  | .hbm, ⟨1, _⟩ => ⟨S8x2064x192, .bf16⟩
  | .hbm, ⟨2, _⟩ => ⟨S_, .f32⟩
  | .hbm, ⟨3, _⟩ => ⟨S8x512x192, .f32⟩
  | .hbm, ⟨4, _⟩ => ⟨S2064x512, .f32⟩
  | .hbm, ⟨5, _⟩ => ⟨S8x192x2064, .f32⟩
  | .hbm, ⟨6, _⟩ => ⟨S8x2064x192, .f32⟩
  | .hbm, ⟨7, _⟩ => ⟨S8x2064x192, .f32⟩
  | .hbm, ⟨8, _⟩ => ⟨S8x192x2064, .f32⟩
  | .hbm, ⟨9, _⟩ => ⟨S8x192x512, .f32⟩
  | .hbm, ⟨10, _⟩ => ⟨S8x512x192, .f32⟩
  | .hbm, ⟨11, _⟩ => ⟨S_, .i32⟩
  | .hbm, ⟨12, _⟩ => ⟨S_, .f32⟩
  | .hbm, ⟨13, _⟩ => ⟨S8x512x256, .f32⟩
  | .hbm, ⟨14, _⟩ => ⟨S8x512x256, .bf16⟩
  | _, _ => ⟨S2064x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== QBwdX.lean ====
abbrev S8x2064x192 : Shape := ⟨3, ![8, 2064, 192]⟩
abbrev S8x512x192 : Shape := ⟨3, ![8, 512, 192]⟩
abbrev S_ : Shape := ⟨0, ![]⟩
abbrev S8x2064x256 : Shape := ⟨3, ![8, 2064, 256]⟩
abbrev S8x512x256 : Shape := ⟨3, ![8, 512, 256]⟩
abbrev S2064x512 : Shape := ⟨2, ![2064, 512]⟩
abbrev S1x2064x256 : Shape := ⟨3, ![1, 2064, 256]⟩
abbrev S1x512x256 : Shape := ⟨3, ![1, 512, 256]⟩
abbrev S2064x256 : Shape := ⟨2, ![2064, 256]⟩
abbrev S512x256 : Shape := ⟨2, ![512, 256]⟩

abbrev nBuf : Space → Nat
  | .hbm => 9
  | .vmem => 6
  | .smem => 0
  | _ => 0

abbrev bufTy : (tb : Table) → Fin (tcTables nBuf tb) → BufTy
  | .hbm, ⟨0, _⟩ => ⟨S8x2064x192, .bf16⟩
  | .hbm, ⟨1, _⟩ => ⟨S8x512x192, .bf16⟩
  | .hbm, ⟨2, _⟩ => ⟨S_, .i32⟩
  | .hbm, ⟨3, _⟩ => ⟨S_, .bf16⟩
  | .hbm, ⟨4, _⟩ => ⟨S8x2064x256, .bf16⟩
  | .hbm, ⟨5, _⟩ => ⟨S_, .i32⟩
  | .hbm, ⟨6, _⟩ => ⟨S_, .bf16⟩
  | .hbm, ⟨7, _⟩ => ⟨S8x512x256, .bf16⟩
  | .hbm, ⟨8, _⟩ => ⟨S2064x512, .f32⟩
  | .local _ .vmem, ⟨0, _⟩ => ⟨S1x2064x256, .bf16⟩
  | .local _ .vmem, ⟨1, _⟩ => ⟨S1x2064x256, .bf16⟩
  | .local _ .vmem, ⟨2, _⟩ => ⟨S1x512x256, .bf16⟩
  | .local _ .vmem, ⟨3, _⟩ => ⟨S1x512x256, .bf16⟩
  | .local _ .vmem, ⟨4, _⟩ => ⟨S2064x512, .f32⟩
  | .local _ .vmem, ⟨5, _⟩ => ⟨S2064x512, .f32⟩
  | _, _ => ⟨S8x2064x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨5, ![1, 1, 1, 8, 1], ![false, false, false, false, false]⟩

def k0_cond3 (i : grid0.Coords) : BitVec 1 :=
  let arg3 : BitVec 32 := BitVec.ofNat 32 (i 3).val
  let c1_i32 : BitVec 32 := 1#32
  let v5 : BitVec 32 := Scalar.muli arg3 c1_i32
  let arg4 : BitVec 32 := BitVec.ofNat 32 (i 4).val
  let v6 : BitVec 32 := Scalar.addi v5 arg4
  let c7_i32 : BitVec 32 := 7#32
  let v13 : BitVec 1 := Scalar.cmpi .eq v6 c7_i32
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1x2064x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true, true]

abbrev stage0_2 : Fin 1 → Memref sig .tc .vmem S2064x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false, false]
-- ==== QBwdXReferenceIdeal.lean ====
abbrev S8x2064x192 : Shape := ⟨3, ![8, 2064, 192]⟩
abbrev S8x512x192 : Shape := ⟨3, ![8, 512, 192]⟩
abbrev S_ : Shape := ⟨0, ![]⟩
abbrev S2064x512 : Shape := ⟨2, ![2064, 512]⟩
abbrev S8x192x2064 : Shape := ⟨3, ![8, 192, 2064]⟩

abbrev nBuf : Space → Nat
  | .hbm => 10
  | .vmem => 0
  | .smem => 0
  | _ => 0

abbrev bufTy : (tb : Table) → Fin (tcTables nBuf tb) → BufTy
  | .hbm, ⟨0, _⟩ => ⟨S8x2064x192, .bf16⟩
  | .hbm, ⟨1, _⟩ => ⟨S8x512x192, .bf16⟩
  | .hbm, ⟨2, _⟩ => ⟨S_, .f32⟩
  | .hbm, ⟨3, _⟩ => ⟨S2064x512, .f32⟩
  | .hbm, ⟨4, _⟩ => ⟨S8x512x192, .f32⟩
  | .hbm, ⟨5, _⟩ => ⟨S8x192x2064, .f32⟩
  | .hbm, ⟨6, _⟩ => ⟨S8x2064x192, .f32⟩
  | .hbm, ⟨7, _⟩ => ⟨S8x2064x192, .f32⟩
  | .hbm, ⟨8, _⟩ => ⟨S8x192x2064, .f32⟩
  | .hbm, ⟨9, _⟩ => ⟨S2064x512, .f32⟩
  | _, _ => ⟨S8x2064x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvProj.lean ====
abbrev S2064x256 : Shape := ⟨2, ![2064, 256]⟩
abbrev S8x256x256 : Shape := ⟨3, ![8, 256, 256]⟩
abbrev S8x2064x256 : Shape := ⟨3, ![8, 2064, 256]⟩
abbrev S1x256x256 : Shape := ⟨3, ![1, 256, 256]⟩
abbrev S1x2064x256 : Shape := ⟨3, ![1, 2064, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S2064x256, .bf16⟩
  | .hbm, ⟨1, _⟩ => ⟨S8x256x256, .bf16⟩
  | .hbm, ⟨2, _⟩ => ⟨S8x2064x256, .f32⟩
  | .local _ .vmem, ⟨0, _⟩ => ⟨S2064x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x2064x256, .f32⟩
  | .local _ .vmem, ⟨4, _⟩ => ⟨S1x2064x256, .f32⟩
  | _, _ => ⟨S2064x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![8, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 1 → Memref sig .tc .vmem S2064x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x2064x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== KvProjReferenceIdeal.lean ====
abbrev S2064x256 : Shape := ⟨2, ![2064, 256]⟩
abbrev S8x256x256 : Shape := ⟨3, ![8, 256, 256]⟩
abbrev S8x256x2064 : Shape := ⟨3, ![8, 256, 2064]⟩
abbrev S8x2064x256 : Shape := ⟨3, ![8, 2064, 256]⟩

abbrev nBuf : Space → Nat
  | .hbm => 6
  | .vmem => 0
  | .smem => 0
  | _ => 0

abbrev bufTy : (tb : Table) → Fin (tcTables nBuf tb) → BufTy
  | .hbm, ⟨0, _⟩ => ⟨S2064x256, .bf16⟩
  | .hbm, ⟨1, _⟩ => ⟨S8x256x256, .bf16⟩
  | .hbm, ⟨2, _⟩ => ⟨S2064x256, .f32⟩
  | .hbm, ⟨3, _⟩ => ⟨S8x256x256, .f32⟩
  | .hbm, ⟨4, _⟩ => ⟨S8x256x2064, .f32⟩
  | .hbm, ⟨5, _⟩ => ⟨S8x2064x256, .f32⟩
  | _, _ => ⟨S2064x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvBwdW.lean ====
abbrev S2064x256 : Shape := ⟨2, ![2064, 256]⟩
abbrev S8x2064x256 : Shape := ⟨3, ![8, 2064, 256]⟩
abbrev S8x256x256 : Shape := ⟨3, ![8, 256, 256]⟩
abbrev S1x2064x256 : Shape := ⟨3, ![1, 2064, 256]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S2064x256, .bf16⟩
  | .hbm, ⟨1, _⟩ => ⟨S8x2064x256, .f32⟩
  | .hbm, ⟨2, _⟩ => ⟨S8x256x256, .bf16⟩
  | .local _ .vmem, ⟨0, _⟩ => ⟨S2064x256, .bf16⟩
  | .local _ .vmem, ⟨1, _⟩ => ⟨S1x2064x256, .f32⟩
  | .local _ .vmem, ⟨2, _⟩ => ⟨S1x2064x256, .f32⟩
  | .local _ .vmem, ⟨3, _⟩ => ⟨S1x256x256, .bf16⟩
  | .local _ .vmem, ⟨4, _⟩ => ⟨S1x256x256, .bf16⟩
  | _, _ => ⟨S2064x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![8, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 1 → Memref sig .tc .vmem S2064x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 2 → Memref sig .tc .vmem S1x2064x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== KvBwdWReferenceIdeal.lean ====
abbrev S2064x256 : Shape := ⟨2, ![2064, 256]⟩
abbrev S8x2064x256 : Shape := ⟨3, ![8, 2064, 256]⟩
abbrev S_ : Shape := ⟨0, ![]⟩
abbrev S8x256x256 : Shape := ⟨3, ![8, 256, 256]⟩
abbrev S8x256x2064 : Shape := ⟨3, ![8, 256, 2064]⟩

abbrev nBuf : Space → Nat
  | .hbm => 11
  | .vmem => 0
  | .smem => 0
  | _ => 0

abbrev bufTy : (tb : Table) → Fin (tcTables nBuf tb) → BufTy
  | .hbm, ⟨0, _⟩ => ⟨S2064x256, .bf16⟩
  | .hbm, ⟨1, _⟩ => ⟨S8x2064x256, .f32⟩
  | .hbm, ⟨2, _⟩ => ⟨S_, .f32⟩
  | .hbm, ⟨3, _⟩ => ⟨S8x256x256, .f32⟩
  | .hbm, ⟨4, _⟩ => ⟨S2064x256, .f32⟩
  | .hbm, ⟨5, _⟩ => ⟨S8x256x2064, .f32⟩
  | .hbm, ⟨6, _⟩ => ⟨S8x2064x256, .f32⟩
  | .hbm, ⟨7, _⟩ => ⟨S8x256x2064, .f32⟩
  | .hbm, ⟨8, _⟩ => ⟨S8x256x256, .f32⟩
  | .hbm, ⟨9, _⟩ => ⟨S8x256x256, .f32⟩
  | .hbm, ⟨10, _⟩ => ⟨S8x256x256, .bf16⟩
  | _, _ => ⟨S2064x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvBwdX.lean ====
abbrev S8x2064x256 : Shape := ⟨3, ![8, 2064, 256]⟩
abbrev S8x256x256 : Shape := ⟨3, ![8, 256, 256]⟩
abbrev S2064x256 : Shape := ⟨2, ![2064, 256]⟩
abbrev S1x2064x256 : Shape := ⟨3, ![1, 2064, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x2064x256, .f32⟩
  | .hbm, ⟨1, _⟩ => ⟨S8x256x256, .bf16⟩
  | .hbm, ⟨2, _⟩ => ⟨S2064x256, .f32⟩
  | .local _ .vmem, ⟨0, _⟩ => ⟨S1x2064x256, .f32⟩
  | .local _ .vmem, ⟨1, _⟩ => ⟨S1x2064x256, .f32⟩
  | .local _ .vmem, ⟨2, _⟩ => ⟨S1x256x256, .bf16⟩
  | .local _ .vmem, ⟨3, _⟩ => ⟨S1x256x256, .bf16⟩
  | .local _ .vmem, ⟨4, _⟩ => ⟨S2064x256, .f32⟩
  | .local _ .vmem, ⟨5, _⟩ => ⟨S2064x256, .f32⟩
  | _, _ => ⟨S8x2064x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨5, ![1, 1, 1, 8, 1], ![false, false, false, false, false]⟩

def k0_cond3 (i : grid0.Coords) : BitVec 1 :=
  let arg3 : BitVec 32 := BitVec.ofNat 32 (i 3).val
  let c1_i32 : BitVec 32 := 1#32
  let v6 : BitVec 32 := Scalar.muli arg3 c1_i32
  let arg4 : BitVec 32 := BitVec.ofNat 32 (i 4).val
  let v7 : BitVec 32 := Scalar.addi v6 arg4
  let c7_i32 : BitVec 32 := 7#32
  let v14 : BitVec 1 := Scalar.cmpi .eq v7 c7_i32
  let v15 : BitVec 32 := Scalar.extui v14
  let c0_i32_8 : BitVec 32 := 0#32
  let v16 : BitVec 1 := Scalar.cmpi .ne v15 c0_i32_8
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1x2064x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true, true]

abbrev stage0_2 : Fin 1 → Memref sig .tc .vmem S2064x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false, false]
-- ==== KvBwdXReferenceIdeal.lean ====
abbrev S8x2064x256 : Shape := ⟨3, ![8, 2064, 256]⟩
abbrev S8x256x256 : Shape := ⟨3, ![8, 256, 256]⟩
abbrev S_ : Shape := ⟨0, ![]⟩
abbrev S2064x256 : Shape := ⟨2, ![2064, 256]⟩
abbrev S8x256x2064 : Shape := ⟨3, ![8, 256, 2064]⟩

abbrev nBuf : Space → Nat
  | .hbm => 9
  | .vmem => 0
  | .smem => 0
  | _ => 0

abbrev bufTy : (tb : Table) → Fin (tcTables nBuf tb) → BufTy
  | .hbm, ⟨0, _⟩ => ⟨S8x2064x256, .f32⟩
  | .hbm, ⟨1, _⟩ => ⟨S8x256x256, .bf16⟩
  | .hbm, ⟨2, _⟩ => ⟨S_, .f32⟩
  | .hbm, ⟨3, _⟩ => ⟨S2064x256, .f32⟩
  | .hbm, ⟨4, _⟩ => ⟨S8x256x256, .f32⟩
  | .hbm, ⟨5, _⟩ => ⟨S8x256x2064, .f32⟩
  | .hbm, ⟨6, _⟩ => ⟨S8x2064x256, .f32⟩
  | .hbm, ⟨7, _⟩ => ⟨S8x256x2064, .f32⟩
  | .hbm, ⟨8, _⟩ => ⟨S2064x256, .f32⟩
  | _, _ => ⟨S8x2064x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnFwd.lean ====
abbrev S8x2064x192 : Shape := ⟨3, ![8, 2064, 192]⟩
abbrev S8x2064x256 : Shape := ⟨3, ![8, 2064, 256]⟩
abbrev S2064x1856 : Shape := ⟨2, ![2064, 1856]⟩
abbrev S2064x32 : Shape := ⟨2, ![2064, 32]⟩
abbrev S_ : Shape := ⟨0, ![]⟩
abbrev S2064x1920 : Shape := ⟨2, ![2064, 1920]⟩
abbrev S2064x64 : Shape := ⟨2, ![2064, 64]⟩
abbrev S2064x128 : Shape := ⟨2, ![2064, 128]⟩
abbrev S2064x1024 : Shape := ⟨2, ![2064, 1024]⟩
abbrev S1x688x256 : Shape := ⟨3, ![1, 688, 256]⟩
abbrev S1x2064x256 : Shape := ⟨3, ![1, 2064, 256]⟩
abbrev S688x128 : Shape := ⟨2, ![688, 128]⟩
abbrev S1x768x128 : Shape := ⟨3, ![1, 768, 128]⟩
abbrev S768x128 : Shape := ⟨2, ![768, 128]⟩
abbrev S512x128 : Shape := ⟨2, ![512, 128]⟩
abbrev S1x352x128 : Shape := ⟨3, ![1, 352, 128]⟩
abbrev S352x128 : Shape := ⟨2, ![352, 128]⟩
abbrev S352x512 : Shape := ⟨2, ![352, 512]⟩
abbrev S352x1 : Shape := ⟨2, ![352, 1]⟩
abbrev S1x512 : Shape := ⟨2, ![1, 512]⟩
abbrev S352 : Shape := ⟨1, ![352]⟩
abbrev S1x336x128 : Shape := ⟨3, ![1, 336, 128]⟩
abbrev S336x128 : Shape := ⟨2, ![336, 128]⟩
abbrev S336x768 : Shape := ⟨2, ![336, 768]⟩
abbrev S336x1 : Shape := ⟨2, ![336, 1]⟩
abbrev S1x768 : Shape := ⟨2, ![1, 768]⟩
abbrev S336 : Shape := ⟨1, ![336]⟩
abbrev S1x1536x128 : Shape := ⟨3, ![1, 1536, 128]⟩
abbrev S1536x128 : Shape := ⟨2, ![1536, 128]⟩
abbrev S1152x128 : Shape := ⟨2, ![1152, 128]⟩
abbrev S352x1152 : Shape := ⟨2, ![352, 1152]⟩
abbrev S1x1152 : Shape := ⟨2, ![1, 1152]⟩
abbrev S336x1536 : Shape := ⟨2, ![336, 1536]⟩
abbrev S1x1536 : Shape := ⟨2, ![1, 1536]⟩
abbrev S1x2064x128 : Shape := ⟨3, ![1, 2064, 128]⟩
abbrev S1792x128 : Shape := ⟨2, ![1792, 128]⟩
abbrev S352x1792 : Shape := ⟨2, ![352, 1792]⟩
abbrev S1x1792 : Shape := ⟨2, ![1, 1792]⟩
abbrev S336x2064 : Shape := ⟨2, ![336, 2064]⟩
abbrev S1x2064 : Shape := ⟨2, ![1, 2064]⟩

abbrev nBuf : Space → Nat
  | .hbm => 20
  | .vmem => 16
  | .smem => 0
  | _ => 0

abbrev bufTy : (tb : Table) → Fin (tcTables nBuf tb) → BufTy
  | .hbm, ⟨0, _⟩ => ⟨S8x2064x192, .f32⟩
  | .hbm, ⟨1, _⟩ => ⟨S8x2064x256, .f32⟩
  | .hbm, ⟨2, _⟩ => ⟨S2064x1856, .f32⟩
  | .hbm, ⟨3, _⟩ => ⟨S2064x32, .f32⟩
  | .hbm, ⟨4, _⟩ => ⟨S2064x32, .f32⟩
  | .hbm, ⟨5, _⟩ => ⟨S_, .i32⟩
  | .hbm, ⟨6, _⟩ => ⟨S_, .f32⟩
  | .hbm, ⟨7, _⟩ => ⟨S8x2064x256, .f32⟩
  | .hbm, ⟨8, _⟩ => ⟨S_, .i32⟩
  | .hbm, ⟨9, _⟩ => ⟨S_, .f32⟩
  | .hbm, ⟨10, _⟩ => ⟨S2064x1920, .f32⟩
  | .hbm, ⟨11, _⟩ => ⟨S_, .f32⟩
  | .hbm, ⟨12, _⟩ => ⟨S2064x32, .f32⟩
  | .hbm, ⟨13, _⟩ => ⟨S_, .f32⟩
  | .hbm, ⟨14, _⟩ => ⟨S2064x64, .f32⟩
  | .hbm, ⟨15, _⟩ => ⟨S2064x128, .f32⟩
  | .hbm, ⟨16, _⟩ => ⟨S2064x32, .f32⟩
  | .hbm, ⟨17, _⟩ => ⟨S2064x128, .f32⟩
  | .hbm, ⟨18, _⟩ => ⟨S2064x128, .f32⟩
  | .hbm, ⟨19, _⟩ => ⟨S2064x1024, .f32⟩
  | .local _ .vmem, ⟨0, _⟩ => ⟨S1x688x256, .f32⟩
  | .local _ .vmem, ⟨1, _⟩ => ⟨S1x688x256, .f32⟩
  | .local _ .vmem, ⟨2, _⟩ => ⟨S1x2064x256, .f32⟩
  | .local _ .vmem, ⟨3, _⟩ => ⟨S1x2064x256, .f32⟩
  | .local _ .vmem, ⟨4, _⟩ => ⟨S2064x128, .f32⟩
  | .local _ .vmem, ⟨5, _⟩ => ⟨S688x128, .f32⟩
  | .local _ .vmem, ⟨6, _⟩ => ⟨S688x128, .f32⟩
  | .local _ .vmem, ⟨7, _⟩ => ⟨S688x128, .f32⟩
  | .local _ .vmem, ⟨8, _⟩ => ⟨S688x128, .f32⟩
  | .local _ .vmem, ⟨9, _⟩ => ⟨S688x128, .f32⟩
  | .local _ .vmem, ⟨10, _⟩ => ⟨S688x128, .f32⟩
  | .local _ .vmem, ⟨11, _⟩ => ⟨S2064x128, .f32⟩
  | .local _ .vmem, ⟨12, _⟩ => ⟨S2064x128, .f32⟩
  | .local _ .vmem, ⟨13, _⟩ => ⟨S2064x128, .f32⟩
  | .local _ .vmem, ⟨14, _⟩ => ⟨S688x128, .f32⟩
  | .local _ .vmem, ⟨15, _⟩ => ⟨S688x128, .f32⟩
  | _, _ => ⟨S8x2064x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c14_i32 : BitVec 32 := 14#32
  let c0_i32_0 : BitVec 32 := 0#32
  ![c0_i32.toNat, c14_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x688x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2064x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S688x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S688x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S688x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2064x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2064x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2064x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S688x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnFwdReferenceIdeal.lean ====
abbrev S8x2064x192 : Shape := ⟨3, ![8, 2064, 192]⟩
abbrev S8x2064x256 : Shape := ⟨3, ![8, 2064, 256]⟩
abbrev S2064x1856 : Shape := ⟨2, ![2064, 1856]⟩
abbrev S2064x32 : Shape := ⟨2, ![2064, 32]⟩
abbrev S2064x64 : Shape := ⟨2, ![2064, 64]⟩
abbrev S1x2064x64 : Shape := ⟨3, ![1, 2064, 64]⟩
abbrev S8x2064x64 : Shape := ⟨3, ![8, 2064, 64]⟩
abbrev S2064 : Shape := ⟨1, ![2064]⟩
abbrev S_ : Shape := ⟨0, ![]⟩
abbrev S8x2064x128 : Shape := ⟨3, ![8, 2064, 128]⟩
abbrev S8x2064x32 : Shape := ⟨3, ![8, 2064, 32]⟩
abbrev S1x2064x32 : Shape := ⟨3, ![1, 2064, 32]⟩
abbrev S8x2064x2064 : Shape := ⟨3, ![8, 2064, 2064]⟩
abbrev S1x2064 : Shape := ⟨2, ![1, 2064]⟩
abbrev S2064x1 : Shape := ⟨2, ![2064, 1]⟩
abbrev S2064x2064 : Shape := ⟨2, ![2064, 2064]⟩
abbrev S1x2064x2064 : Shape := ⟨3, ![1, 2064, 2064]⟩
abbrev S8x2064 : Shape := ⟨2, ![8, 2064]⟩
abbrev S8x2064x1 : Shape := ⟨3, ![8, 2064, 1]⟩
abbrev S2064x8x128 : Shape := ⟨3, ![2064, 8, 128]⟩
abbrev S2064x1024 : Shape := ⟨2, ![2064, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x2064x192, .f32⟩
  | .hbm, ⟨1, _⟩ => ⟨S8x2064x256, .f32⟩
  | .hbm, ⟨2, _⟩ => ⟨S2064x1856, .f32⟩
  | .hbm, ⟨3, _⟩ => ⟨S2064x32, .f32⟩
  | .hbm, ⟨4, _⟩ => ⟨S2064x32, .f32⟩
  | .hbm, ⟨5, _⟩ => ⟨S2064x64, .f32⟩
  | .hbm, ⟨6, _⟩ => ⟨S2064x32, .f32⟩
  | .hbm, ⟨7, _⟩ => ⟨S2064x32, .f32⟩
  | .hbm, ⟨8, _⟩ => ⟨S2064x32, .f32⟩
  | .hbm, ⟨9, _⟩ => ⟨S2064x32, .f32⟩
  | .hbm, ⟨10, _⟩ => ⟨S2064x32, .f32⟩
  | .hbm, ⟨11, _⟩ => ⟨S2064x32, .f32⟩
  | .hbm, ⟨12, _⟩ => ⟨S2064x32, .f32⟩
  | .hbm, ⟨13, _⟩ => ⟨S2064x32, .f32⟩
  | .hbm, ⟨14, _⟩ => ⟨S2064x64, .f32⟩
  | .hbm, ⟨15, _⟩ => ⟨S1x2064x64, .f32⟩
  | .hbm, ⟨16, _⟩ => ⟨S8x2064x64, .f32⟩
  | .hbm, ⟨17, _⟩ => ⟨S2064, .i32⟩
  | .hbm, ⟨18, _⟩ => ⟨S_, .i32⟩
  | .hbm, ⟨19, _⟩ => ⟨S2064, .i32⟩
  | .hbm, ⟨20, _⟩ => ⟨S2064, .i1⟩
  | .hbm, ⟨21, _⟩ => ⟨S_, .i32⟩
  | .hbm, ⟨22, _⟩ => ⟨S2064, .i32⟩
  | .hbm, ⟨23, _⟩ => ⟨S2064, .i32⟩
  | .hbm, ⟨24, _⟩ => ⟨S_, .i32⟩
  | .hbm, ⟨25, _⟩ => ⟨S_, .i32⟩
  | .hbm, ⟨26, _⟩ => ⟨S2064, .i32⟩
  | .hbm, ⟨27, _⟩ => ⟨S2064, .i32⟩
  | .hbm, ⟨28, _⟩ => ⟨S2064, .i32⟩
  | .hbm, ⟨29, _⟩ => ⟨S_, .i32⟩
  | .hbm, ⟨30, _⟩ => ⟨S2064, .i32⟩
  | .hbm, ⟨31, _⟩ => ⟨S2064, .i1⟩
  | .hbm, ⟨32, _⟩ => ⟨S2064, .i32⟩
  | .hbm, ⟨33, _⟩ => ⟨S2064, .i32⟩
  | .hbm, ⟨34, _⟩ => ⟨S_, .i32⟩
  | .hbm, ⟨35, _⟩ => ⟨S2064, .i32⟩
  | .hbm, ⟨36, _⟩ => ⟨S2064, .i1⟩
  | .hbm, ⟨37, _⟩ => ⟨S2064, .i1⟩
  | .hbm, ⟨38, _⟩ => ⟨S_, .i32⟩
  | .hbm, ⟨39, _⟩ => ⟨S2064, .i32⟩
  | .hbm, ⟨40, _⟩ => ⟨S2064, .i32⟩
  | .hbm, ⟨41, _⟩ => ⟨S2064, .i32⟩
  | .hbm, ⟨42, _⟩ => ⟨S_, .i32⟩
  | .hbm, ⟨43, _⟩ => ⟨S2064, .i32⟩
  | .hbm, ⟨44, _⟩ => ⟨S2064, .i32⟩
  | .hbm, ⟨45, _⟩ => ⟨S_, .i32⟩
  | .hbm, ⟨46, _⟩ => ⟨S_, .i32⟩
  | .hbm, ⟨47, _⟩ => ⟨S2064, .i32⟩
  | .hbm, ⟨48, _⟩ => ⟨S2064, .i32⟩
  | .hbm, ⟨49, _⟩ => ⟨S8x2064x128, .f32⟩
  | .hbm, ⟨50, _⟩ => ⟨S8x2064x64, .f32⟩
  | .hbm, ⟨51, _⟩ => ⟨S8x2064x32, .f32⟩
  | .hbm, ⟨52, _⟩ => ⟨S8x2064x32, .f32⟩
  | .hbm, ⟨53, _⟩ => ⟨S1x2064x32, .f32⟩
  | .hbm, ⟨54, _⟩ => ⟨S8x2064x32, .f32⟩
  | .hbm, ⟨55, _⟩ => ⟨S8x2064x32, .f32⟩
  | .hbm, ⟨56, _⟩ => ⟨S1x2064x32, .f32⟩
  | .hbm, ⟨57, _⟩ => ⟨S8x2064x32, .f32⟩
  | .hbm, ⟨58, _⟩ => ⟨S8x2064x32, .f32⟩
  | .hbm, ⟨59, _⟩ => ⟨S8x2064x32, .f32⟩
  | .hbm, ⟨60, _⟩ => ⟨S1x2064x32, .f32⟩
  | .hbm, ⟨61, _⟩ => ⟨S8x2064x32, .f32⟩
  | .hbm, ⟨62, _⟩ => ⟨S8x2064x32, .f32⟩
  | .hbm, ⟨63, _⟩ => ⟨S1x2064x32, .f32⟩
  | .hbm, ⟨64, _⟩ => ⟨S8x2064x32, .f32⟩
  | .hbm, ⟨65, _⟩ => ⟨S8x2064x32, .f32⟩
  | .hbm, ⟨66, _⟩ => ⟨S8x2064x32, .f32⟩
  | .hbm, ⟨67, _⟩ => ⟨S8x2064x64, .f32⟩
  | .hbm, ⟨68, _⟩ => ⟨S8x2064x128, .f32⟩
  | .hbm, ⟨69, _⟩ => ⟨S8x2064x128, .f32⟩
  | .hbm, ⟨70, _⟩ => ⟨S8x2064x2064, .f32⟩
  | .hbm, ⟨71, _⟩ => ⟨S8x2064x2064, .f32⟩
  | .hbm, ⟨72, _⟩ => ⟨S8x2064x2064, .f32⟩
  | .hbm, ⟨73, _⟩ => ⟨S1x2064, .i32⟩
  | .hbm, ⟨74, _⟩ => ⟨S2064x1, .i32⟩
  | .hbm, ⟨75, _⟩ => ⟨S2064x2064, .i32⟩
  | .hbm, ⟨76, _⟩ => ⟨S2064x2064, .i32⟩
  | .hbm, ⟨77, _⟩ => ⟨S2064x2064, .i1⟩
  | .hbm, ⟨78, _⟩ => ⟨S1x2064x2064, .i1⟩
  | .hbm, ⟨79, _⟩ => ⟨S_, .f32⟩
  | .hbm, ⟨80, _⟩ => ⟨S8x2064x2064, .f32⟩
  | .hbm, ⟨81, _⟩ => ⟨S8x2064x2064, .f32⟩
  | .hbm, ⟨82, _⟩ => ⟨S_, .f32⟩
  | .hbm, ⟨83, _⟩ => ⟨S_, .f32⟩
  | .hbm, ⟨84, _⟩ => ⟨S8x2064x2064, .i1⟩
  | .hbm, ⟨85, _⟩ => ⟨S8x2064x2064, .f32⟩
  | .hbm, ⟨86, _⟩ => ⟨S8x2064x2064, .f32⟩
  | .hbm, ⟨87, _⟩ => ⟨S_, .f32⟩
  | .hbm, ⟨88, _⟩ => ⟨S8x2064, .f32⟩
  | .hbm, ⟨89, _⟩ => ⟨S_, .f32⟩
  | .hbm, ⟨90, _⟩ => ⟨S8x2064, .f32⟩
  | .hbm, ⟨91, _⟩ => ⟨S8x2064, .f32⟩
  | .hbm, ⟨92, _⟩ => ⟨S8x2064x1, .f32⟩
  | .hbm, ⟨93, _⟩ => ⟨S8x2064x2064, .f32⟩
  | .hbm, ⟨94, _⟩ => ⟨S8x2064x2064, .f32⟩
  | .hbm, ⟨95, _⟩ => ⟨S8x2064x2064, .f32⟩
  | .hbm, ⟨96, _⟩ => ⟨S_, .f32⟩
  | .hbm, ⟨97, _⟩ => ⟨S8x2064, .f32⟩
  | .hbm, ⟨98, _⟩ => ⟨S8x2064x1, .f32⟩
  | .hbm, ⟨99, _⟩ => ⟨S8x2064x2064, .f32⟩
  | .hbm, ⟨100, _⟩ => ⟨S8x2064x2064, .f32⟩
  | .hbm, ⟨101, _⟩ => ⟨S8x2064x128, .f32⟩
  | .hbm, ⟨102, _⟩ => ⟨S2064x8x128, .f32⟩
  | .hbm, ⟨103, _⟩ => ⟨S2064x1024, .f32⟩
  | _, _ => ⟨S8x2064x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_call1_v0 : Ref sig .tc := ⟨.hbm, 46, rfl⟩
abbrev main_call1_v1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst : Ref sig .tc := ⟨.hbm, 79, rfl⟩
abbrev main_v51 : Ref sig .tc := ⟨.hbm, 80, rfl⟩
abbrev main_v52 : Ref sig .tc := ⟨.hbm, 81, rfl⟩
abbrev main_cst_4 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v53 : Ref sig .tc := ⟨.hbm, 86, rfl⟩
abbrev main_cst_5 : Ref sig .tc := ⟨.hbm, 87, rfl⟩
abbrev main_v54 : Ref sig .tc := ⟨.hbm, 88, rfl⟩
abbrev main_cst_6 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_7 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩

abbrev nD : Nat := 1
abbrev τ : Topo := Topo.v7x

variable {F : FTy → Type} [FloatOps F]
-- ==== RmsMixBwd.lean ====
abbrev S2048x2048 : Shape := ⟨2, ![2048, 2048]⟩
abbrev S16x2048 : Shape := ⟨2, ![16, 2048]⟩
abbrev S2048 : Shape := ⟨1, ![2048]⟩
abbrev S2064x2048 : Shape := ⟨2, ![2064, 2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩
abbrev S688x2048 : Shape := ⟨2, ![688, 2048]⟩
abbrev S688x1 : Shape := ⟨2, ![688, 1]⟩
abbrev S688 : Shape := ⟨1, ![688]⟩

abbrev nBuf : Space → Nat
  | .hbm => 20
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S16x2048, .f32⟩
  | .hbm, ⟨2, _⟩ => ⟨S2048, .f32⟩
  | .hbm, ⟨3, _⟩ => ⟨S2064x2048, .f32⟩
  | .hbm, ⟨4, _⟩ => ⟨S2064x2048, .f32⟩
  | .hbm, ⟨5, _⟩ => ⟨S2064x2048, .f32⟩
  | .hbm, ⟨6, _⟩ => ⟨S2064x2048, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S1x2048, .f32⟩
  | .hbm, ⟨18, _⟩ => ⟨S2064x2048, .f32⟩
  | .hbm, ⟨19, _⟩ => ⟨S1x2048, .f32⟩
  | .local _ .vmem, ⟨0, _⟩ => ⟨S688x2048, .f32⟩
  | .local _ .vmem, ⟨1, _⟩ => ⟨S688x2048, .f32⟩
  | .local _ .vmem, ⟨2, _⟩ => ⟨S688x2048, .f32⟩
  | .local _ .vmem, ⟨3, _⟩ => ⟨S688x2048, .f32⟩
  | .local _ .vmem, ⟨4, _⟩ => ⟨S688x1, .f32⟩
  | .local _ .vmem, ⟨5, _⟩ => ⟨S688x1, .f32⟩
  | .local _ .vmem, ⟨6, _⟩ => ⟨S688x2048, .f32⟩
  | .local _ .vmem, ⟨7, _⟩ => ⟨S688x2048, .f32⟩
  | .local _ .vmem, ⟨8, _⟩ => ⟨S1x2048, .f32⟩
  | .local _ .vmem, ⟨9, _⟩ => ⟨S688x2048, .f32⟩
  | .local _ .vmem, ⟨10, _⟩ => ⟨S688x2048, .f32⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_13 : BitVec 32 := 0#32
  let v31 : BitVec 1 := Scalar.cmpi .ne v30 c0_i32_13
  v31

def k0_cond2 (i : grid0.Coords) : BitVec 1 :=
  let arg0 : BitVec 32 := BitVec.ofNat 32 (i 0).val
  let c0_i32_14 : BitVec 32 := 0#32
  let v32 : BitVec 1 := Scalar.cmpi .sgt arg0 c0_i32_14
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsMixBwdReferenceIdeal.lean ====
abbrev S2048x2048 : Shape := ⟨2, ![2048, 2048]⟩
abbrev S16x2048 : Shape := ⟨2, ![16, 2048]⟩
abbrev S2048 : Shape := ⟨1, ![2048]⟩
abbrev S2064x2048 : Shape := ⟨2, ![2064, 2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S16x2048, .f32⟩
  | .hbm, ⟨2, _⟩ => ⟨S2048, .f32⟩
  | .hbm, ⟨3, _⟩ => ⟨S2064x2048, .f32⟩
  | .hbm, ⟨4, _⟩ => ⟨S2064x2048, .f32⟩
  | .hbm, ⟨5, _⟩ => ⟨S2064x2048, .f32⟩
  | .hbm, ⟨6, _⟩ => ⟨S2064x2048, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S_, .f32⟩
  | .hbm, ⟨19, _⟩ => ⟨S2064x1, .f32⟩
  | .hbm, ⟨20, _⟩ => ⟨S2064x1, .f32⟩
  | .hbm, ⟨21, _⟩ => ⟨S2064x2048, .f32⟩
  | .hbm, ⟨22, _⟩ => ⟨S2064x2048, .f32⟩
  | .hbm, ⟨23, _⟩ => ⟨S1x2048, .f32⟩
  | .hbm, ⟨24, _⟩ => ⟨S2064x2048, .f32⟩
  | .hbm, ⟨25, _⟩ => ⟨S2064x2048, .f32⟩
  | .hbm, ⟨26, _⟩ => ⟨S2064x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2064x2048, .f32⟩
  | .hbm, ⟨31, _⟩ => ⟨S2064x2048, .f32⟩
  | .hbm, ⟨32, _⟩ => ⟨S_, .f32⟩
  | .hbm, ⟨33, _⟩ => ⟨S2048, .f32⟩
  | .hbm, ⟨34, _⟩ => ⟨S2064x2048, .f32⟩
  | .hbm, ⟨35, _⟩ => ⟨S_, .f32⟩
  | .hbm, ⟨36, _⟩ => ⟨S2064, .f32⟩
  | .hbm, ⟨37, _⟩ => ⟨S2064x1, .f32⟩
  | .hbm, ⟨38, _⟩ => ⟨S2064x2048, .f32⟩
  | .hbm, ⟨39, _⟩ => ⟨S2064x2048, .f32⟩
  | .hbm, ⟨40, _⟩ => ⟨S2064x2048, .f32⟩
  | .hbm, ⟨41, _⟩ => ⟨S2064x1, .f32⟩
  | .hbm, ⟨42, _⟩ => ⟨S_, .f32⟩
  | .hbm, ⟨43, _⟩ => ⟨S2064x1, .f32⟩
  | .hbm, ⟨44, _⟩ => ⟨S2064x1, .f32⟩
  | .hbm, ⟨45, _⟩ => ⟨S_, .f32⟩
  | .hbm, ⟨46, _⟩ => ⟨S2064, .f32⟩
  | .hbm, ⟨47, _⟩ => ⟨S2064x2048, .f32⟩
  | .hbm, ⟨48, _⟩ => ⟨S2064x2048, .f32⟩
  | .hbm, ⟨49, _⟩ => ⟨S2064x2048, .f32⟩
  | .hbm, ⟨50, _⟩ => ⟨S2064x2048, .f32⟩
  | .hbm, ⟨51, _⟩ => ⟨S2064x2048, .f32⟩
  | .hbm, ⟨52, _⟩ => ⟨S16x2048, .f32⟩
  | .hbm, ⟨53, _⟩ => ⟨S2048x2048, .f32⟩
  | .hbm, ⟨54, _⟩ => ⟨S2064x2048, .f32⟩
  | .hbm, ⟨55, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== RmsFfnBwd.lean ====
abbrev S2064x2048 : Shape := ⟨2, ![2064, 2048]⟩
abbrev S2048 : Shape := ⟨1, ![2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩
abbrev S688x2048 : Shape := ⟨2, ![688, 2048]⟩
abbrev S688x1 : Shape := ⟨2, ![688, 1]⟩
abbrev S688 : Shape := ⟨1, ![688]⟩

abbrev nBuf : Space → Nat
  | .hbm => 19
  | .vmem => 14
  | .smem => 0
  | _ => 0

abbrev bufTy : (tb : Table) → Fin (tcTables nBuf tb) → BufTy
  | .hbm, ⟨0, _⟩ => ⟨S2064x2048, .f32⟩
  | .hbm, ⟨1, _⟩ => ⟨S2048, .f32⟩
  | .hbm, ⟨2, _⟩ => ⟨S2064x2048, .f32⟩
  | .hbm, ⟨3, _⟩ => ⟨S2064x2048, .f32⟩
  | .hbm, ⟨4, _⟩ => ⟨S2064x2048, .f32⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S1x2048, .f32⟩
  | .hbm, ⟨16, _⟩ => ⟨S2064x2048, .f32⟩
  | .hbm, ⟨17, _⟩ => ⟨S2064x2048, .bf16⟩
  | .hbm, ⟨18, _⟩ => ⟨S1x2048, .f32⟩
  | .local _ .vmem, ⟨0, _⟩ => ⟨S688x2048, .f32⟩
  | .local _ .vmem, ⟨1, _⟩ => ⟨S688x2048, .f32⟩
  | .local _ .vmem, ⟨2, _⟩ => ⟨S688x2048, .f32⟩
  | .local _ .vmem, ⟨3, _⟩ => ⟨S688x2048, .f32⟩
  | .local _ .vmem, ⟨4, _⟩ => ⟨S688x1, .f32⟩
  | .local _ .vmem, ⟨5, _⟩ => ⟨S688x1, .f32⟩
  | .local _ .vmem, ⟨6, _⟩ => ⟨S688x2048, .f32⟩
  | .local _ .vmem, ⟨7, _⟩ => ⟨S688x2048, .f32⟩
  | .local _ .vmem, ⟨8, _⟩ => ⟨S1x2048, .f32⟩
  | .local _ .vmem, ⟨9, _⟩ => ⟨S688x2048, .f32⟩
  | .local _ .vmem, ⟨10, _⟩ => ⟨S688x2048, .f32⟩
  | .local _ .vmem, ⟨11, _⟩ => ⟨S688x2048, .bf16⟩
  | .local _ .vmem, ⟨12, _⟩ => ⟨S688x2048, .bf16⟩
  | .local _ .vmem, ⟨13, _⟩ => ⟨S1x2048, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_15 : BitVec 32 := 0#32
  let v34 : BitVec 1 := Scalar.cmpi .ne v33 c0_i32_15
  v34

def k0_cond2 (i : grid0.Coords) : BitVec 1 :=
  let arg0 : BitVec 32 := BitVec.ofNat 32 (i 0).val
  let c0_i32_16 : BitVec 32 := 0#32
  let v35 : BitVec 1 := Scalar.cmpi .sgt arg0 c0_i32_16
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsFfnBwdReferenceIdeal.lean ====
abbrev S2064x2048 : Shape := ⟨2, ![2064, 2048]⟩
abbrev S2048 : Shape := ⟨1, ![2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048, .f32⟩
  | .hbm, ⟨2, _⟩ => ⟨S2064x2048, .f32⟩
  | .hbm, ⟨3, _⟩ => ⟨S2064x2048, .f32⟩
  | .hbm, ⟨4, _⟩ => ⟨S2064x2048, .f32⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S_, .f32⟩
  | .hbm, ⟨17, _⟩ => ⟨S2064x1, .f32⟩
  | .hbm, ⟨18, _⟩ => ⟨S2064x1, .f32⟩
  | .hbm, ⟨19, _⟩ => ⟨S2064x2048, .f32⟩
  | .hbm, ⟨20, _⟩ => ⟨S2064x2048, .f32⟩
  | .hbm, ⟨21, _⟩ => ⟨S1x2048, .f32⟩
  | .hbm, ⟨22, _⟩ => ⟨S2064x2048, .f32⟩
  | .hbm, ⟨23, _⟩ => ⟨S2064x2048, .f32⟩
  | .hbm, ⟨24, _⟩ => ⟨S2064x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2064x2048, .f32⟩
  | .hbm, ⟨29, _⟩ => ⟨S2064x2048, .f32⟩
  | .hbm, ⟨30, _⟩ => ⟨S_, .f32⟩
  | .hbm, ⟨31, _⟩ => ⟨S2048, .f32⟩
  | .hbm, ⟨32, _⟩ => ⟨S2064x2048, .f32⟩
  | .hbm, ⟨33, _⟩ => ⟨S_, .f32⟩
  | .hbm, ⟨34, _⟩ => ⟨S2064, .f32⟩
  | .hbm, ⟨35, _⟩ => ⟨S2064x1, .f32⟩
  | .hbm, ⟨36, _⟩ => ⟨S2064x2048, .f32⟩
  | .hbm, ⟨37, _⟩ => ⟨S2064x2048, .f32⟩
  | .hbm, ⟨38, _⟩ => ⟨S2064x2048, .f32⟩
  | .hbm, ⟨39, _⟩ => ⟨S2064x1, .f32⟩
  | .hbm, ⟨40, _⟩ => ⟨S_, .f32⟩
  | .hbm, ⟨41, _⟩ => ⟨S2064x1, .f32⟩
  | .hbm, ⟨42, _⟩ => ⟨S2064x1, .f32⟩
  | .hbm, ⟨43, _⟩ => ⟨S_, .f32⟩
  | .hbm, ⟨44, _⟩ => ⟨S2064, .f32⟩
  | .hbm, ⟨45, _⟩ => ⟨S2064x2048, .f32⟩
  | .hbm, ⟨46, _⟩ => ⟨S2064x2048, .f32⟩
  | .hbm, ⟨47, _⟩ => ⟨S2064x2048, .f32⟩
  | .hbm, ⟨48, _⟩ => ⟨S2064x2048, .f32⟩
  | .hbm, ⟨49, _⟩ => ⟨S2064x2048, .f32⟩
  | .hbm, ⟨50, _⟩ => ⟨S2064x2048, .bf16⟩
  | .hbm, ⟨51, _⟩ => ⟨S1x2048, .f32⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== RmsAttnBwd.lean ====
abbrev S2064x1024 : Shape := ⟨2, ![2064, 1024]⟩
abbrev S1024 : Shape := ⟨1, ![1024]⟩
abbrev S2064x2048 : Shape := ⟨2, ![2064, 2048]⟩
abbrev S_ : Shape := ⟨0, ![]⟩
abbrev S2064 : Shape := ⟨1, ![2064]⟩
abbrev S2064x1 : Shape := ⟨2, ![2064, 1]⟩
abbrev S1x1024 : Shape := ⟨2, ![1, 1024]⟩
abbrev S688x1024 : Shape := ⟨2, ![688, 1024]⟩
abbrev S688x1 : Shape := ⟨2, ![688, 1]⟩
abbrev S688 : Shape := ⟨1, ![688]⟩

abbrev nBuf : Space → Nat
  | .hbm => 17
  | .vmem => 10
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S2064x2048, .f32⟩
  | .hbm, ⟨3, _⟩ => ⟨S2064x1024, .f32⟩
  | .hbm, ⟨4, _⟩ => ⟨S_, .f32⟩
  | .hbm, ⟨5, _⟩ => ⟨S2064, .f32⟩
  | .hbm, ⟨6, _⟩ => ⟨S2064x1, .f32⟩
  | .hbm, ⟨7, _⟩ => ⟨S_, .f32⟩
  | .hbm, ⟨8, _⟩ => ⟨S2064x1, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S2064x1, .f32⟩
  | .hbm, ⟨14, _⟩ => ⟨S1x1024, .f32⟩
  | .hbm, ⟨15, _⟩ => ⟨S2064x1024, .f32⟩
  | .hbm, ⟨16, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S688x1, .f32⟩
  | .local _ .vmem, ⟨5, _⟩ => ⟨S688x1, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_11 : BitVec 32 := 0#32
  let v28 : BitVec 1 := Scalar.cmpi .ne v27 c0_i32_11
  v28

def k0_cond2 (i : grid0.Coords) : BitVec 1 :=
  let arg0 : BitVec 32 := BitVec.ofNat 32 (i 0).val
  let c0_i32_12 : BitVec 32 := 0#32
  let v29 : BitVec 1 := Scalar.cmpi .sgt arg0 c0_i32_12
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsAttnBwdReferenceIdeal.lean ====
abbrev S2064x1024 : Shape := ⟨2, ![2064, 1024]⟩
abbrev S1024 : Shape := ⟨1, ![1024]⟩
abbrev S2064x2048 : Shape := ⟨2, ![2064, 2048]⟩
abbrev S_ : Shape := ⟨0, ![]⟩
abbrev S2064 : Shape := ⟨1, ![2064]⟩
abbrev S2064x1 : Shape := ⟨2, ![2064, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024, .f32⟩
  | .hbm, ⟨2, _⟩ => ⟨S2064x2048, .f32⟩
  | .hbm, ⟨3, _⟩ => ⟨S2064x1024, .f32⟩
  | .hbm, ⟨4, _⟩ => ⟨S_, .f32⟩
  | .hbm, ⟨5, _⟩ => ⟨S2064, .f32⟩
  | .hbm, ⟨6, _⟩ => ⟨S2064x1, .f32⟩
  | .hbm, ⟨7, _⟩ => ⟨S_, .f32⟩
  | .hbm, ⟨8, _⟩ => ⟨S2064x1, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x1024, .f32⟩
  | .hbm, ⟨19, _⟩ => ⟨S2064x1024, .f32⟩
  | .hbm, ⟨20, _⟩ => ⟨S1x1024, .f32⟩
  | .hbm, ⟨21, _⟩ => ⟨S2064x1024, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2064x1024, .f32⟩
  | .hbm, ⟨29, _⟩ => ⟨S2064x1024, .f32⟩
  | .hbm, ⟨30, _⟩ => ⟨S_, .f32⟩
  | .hbm, ⟨31, _⟩ => ⟨S1024, .f32⟩
  | .hbm, ⟨32, _⟩ => ⟨S2064x1024, .f32⟩
  | .hbm, ⟨33, _⟩ => ⟨S_, .f32⟩
  | .hbm, ⟨34, _⟩ => ⟨S2064, .f32⟩
  | .hbm, ⟨35, _⟩ => ⟨S2064x1, .f32⟩
  | .hbm, ⟨36, _⟩ => ⟨S2064x1024, .f32⟩
  | .hbm, ⟨37, _⟩ => ⟨S2064x1024, .f32⟩
  | .hbm, ⟨38, _⟩ => ⟨S2064x1, .f32⟩
  | .hbm, ⟨39, _⟩ => ⟨S_, .f32⟩
  | .hbm, ⟨40, _⟩ => ⟨S2064x1, .f32⟩
  | .hbm, ⟨41, _⟩ => ⟨S2064x1, .f32⟩
  | .hbm, ⟨42, _⟩ => ⟨S_, .f32⟩
  | .hbm, ⟨43, _⟩ => ⟨S2064, .f32⟩
  | .hbm, ⟨44, _⟩ => ⟨S2064x1024, .f32⟩
  | .hbm, ⟨45, _⟩ => ⟨S2064x1024, .f32⟩
  | .hbm, ⟨46, _⟩ => ⟨S2064x1024, .f32⟩
  | .hbm, ⟨47, _⟩ => ⟨S2064x1024, .f32⟩
  | .hbm, ⟨48, _⟩ => ⟨S2064x1024, .f32⟩
  | .hbm, ⟨49, _⟩ => ⟨S1x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== AdamwLast.lean ====
abbrev S1 : Shape := ⟨1, ![1]⟩
abbrev S1x2048 : Shape := ⟨2, ![1, 2048]⟩
abbrev S16x2048 : Shape := ⟨2, ![16, 2048]⟩
abbrev S8x1x2048 : Shape := ⟨3, ![8, 1, 2048]⟩
abbrev S8x16x2048 : Shape := ⟨3, ![8, 16, 2048]⟩
abbrev S1x1x2048 : Shape := ⟨3, ![1, 1, 2048]⟩
abbrev S1x16x2048 : Shape := ⟨3, ![1, 16, 2048]⟩

abbrev nBuf : Space → Nat
  | .hbm => 13
  | .vmem => 12
  | .smem => 1
  | _ => 0

abbrev bufTy : (tb : Table) → Fin (tcTables nBuf tb) → BufTy
  | .hbm, ⟨0, _⟩ => ⟨S1, .i32⟩
  | .hbm, ⟨1, _⟩ => ⟨S1x2048, .f32⟩
  | .hbm, ⟨2, _⟩ => ⟨S16x2048, .f32⟩
  | .hbm, ⟨3, _⟩ => ⟨S8x1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8x16x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S16x2048, .f32⟩
  | .local _ .vmem, ⟨0, _⟩ => ⟨S1x2048, .f32⟩
  | .local _ .vmem, ⟨1, _⟩ => ⟨S16x2048, .f32⟩
  | .local _ .vmem, ⟨2, _⟩ => ⟨S8x1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S8x16x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S16x2048, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== AdamwLastReferenceIdeal.lean ====
abbrev S1 : Shape := ⟨1, ![1]⟩
abbrev S1x2048 : Shape := ⟨2, ![1, 2048]⟩
abbrev S16x2048 : Shape := ⟨2, ![16, 2048]⟩
abbrev S8x1x2048 : Shape := ⟨3, ![8, 1, 2048]⟩
abbrev S8x16x2048 : Shape := ⟨3, ![8, 16, 2048]⟩
abbrev S_ : Shape := ⟨0, ![]⟩
abbrev S1x1x2048 : Shape := ⟨3, ![1, 1, 2048]⟩
abbrev S1x16x2048 : Shape := ⟨3, ![1, 16, 2048]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x2048, .f32⟩
  | .hbm, ⟨2, _⟩ => ⟨S16x2048, .f32⟩
  | .hbm, ⟨3, _⟩ => ⟨S8x1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8x16x2048, .f32⟩
  | .hbm, ⟨8, _⟩ => ⟨S8x1x2048, .i32⟩
  | .hbm, ⟨9, _⟩ => ⟨S_, .i32⟩
  | .hbm, ⟨10, _⟩ => ⟨S8x1x2048, .i32⟩
  | .hbm, ⟨11, _⟩ => ⟨S8x1x2048, .i1⟩
  | .hbm, ⟨12, _⟩ => ⟨S1x1x2048, .f32⟩
  | .hbm, ⟨13, _⟩ => ⟨S8x1x2048, .f32⟩
  | .hbm, ⟨14, _⟩ => ⟨S8x1x2048, .f32⟩
  | .hbm, ⟨15, _⟩ => ⟨S_, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S_, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S_, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S8x16x2048, .i32⟩
  | .hbm, ⟨51, _⟩ => ⟨S_, .i32⟩
  | .hbm, ⟨52, _⟩ => ⟨S8x16x2048, .i32⟩
  | .hbm, ⟨53, _⟩ => ⟨S8x16x2048, .i1⟩
  | .hbm, ⟨54, _⟩ => ⟨S1x16x2048, .f32⟩
  | .hbm, ⟨55, _⟩ => ⟨S8x16x2048, .f32⟩
  | .hbm, ⟨56, _⟩ => ⟨S8x16x2048, .f32⟩
  | .hbm, ⟨57, _⟩ => ⟨S_, .f32⟩
  | .hbm, ⟨58, _⟩ => ⟨S16x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== AdamwCols.lean ====
abbrev S16x256 : Shape := ⟨2, ![16, 256]⟩
abbrev S3x688 : Shape := ⟨2, ![3, 688]⟩
abbrev S1x16x256 : Shape := ⟨3, ![1, 16, 256]⟩
abbrev S_ : Shape := ⟨0, ![]⟩
abbrev S8x688 : Shape := ⟨2, ![8, 688]⟩
abbrev S1x8x688 : Shape := ⟨3, ![1, 8, 688]⟩

abbrev nBuf : Space → Nat
  | .hbm => 30
  | .vmem => 16
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S3x688, .f32⟩
  | .hbm, ⟨5, _⟩ => ⟨S3x688, .f32⟩
  | .hbm, ⟨6, _⟩ => ⟨S3x688, .f32⟩
  | .hbm, ⟨7, _⟩ => ⟨S3x688, .f32⟩
  | .hbm, ⟨8, _⟩ => ⟨S1x16x256, .f32⟩
  | .hbm, ⟨9, _⟩ => ⟨S_, .i32⟩
  | .hbm, ⟨10, _⟩ => ⟨S_, .f32⟩
  | .hbm, ⟨11, _⟩ => ⟨S8x688, .f32⟩
  | .hbm, ⟨12, _⟩ => ⟨S1x8x688, .f32⟩
  | .hbm, ⟨13, _⟩ => ⟨S_, .i32⟩
  | .hbm, ⟨14, _⟩ => ⟨S_, .f32⟩
  | .hbm, ⟨15, _⟩ => ⟨S8x688, .f32⟩
  | .hbm, ⟨16, _⟩ => ⟨S_, .i32⟩
  | .hbm, ⟨17, _⟩ => ⟨S_, .f32⟩
  | .hbm, ⟨18, _⟩ => ⟨S8x688, .f32⟩
  | .hbm, ⟨19, _⟩ => ⟨S_, .i32⟩
  | .hbm, ⟨20, _⟩ => ⟨S_, .f32⟩
  | .hbm, ⟨21, _⟩ => ⟨S8x688, .f32⟩
  | .hbm, ⟨22, _⟩ => ⟨S16x256, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S8x688, .f32⟩
  | .hbm, ⟨27, _⟩ => ⟨S8x688, .f32⟩
  | .hbm, ⟨28, _⟩ => ⟨S8x688, .f32⟩
  | .hbm, ⟨29, _⟩ => ⟨S8x688, .f32⟩
  | .local _ .vmem, ⟨0, _⟩ => ⟨S1x16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S1x8x688, .f32⟩
  | .local _ .vmem, ⟨5, _⟩ => ⟨S8x688, .f32⟩
  | .local _ .vmem, ⟨6, _⟩ => ⟨S8x688, .f32⟩
  | .local _ .vmem, ⟨7, _⟩ => ⟨S8x688, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S8x688, .f32⟩
  | .local _ .vmem, ⟨13, _⟩ => ⟨S8x688, .f32⟩
  | .local _ .vmem, ⟨14, _⟩ => ⟨S8x688, .f32⟩
  | .local _ .vmem, ⟨15, _⟩ => ⟨S8x688, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_c_1 : Ref sig .tc := ⟨.hbm, 16, rfl⟩
abbrev main_call2_v0 : Ref sig .tc := ⟨.hbm, 17, rfl⟩
abbrev main_v4 : Ref sig .tc := ⟨.hbm, 18, rfl⟩
abbrev main_c_2 : Ref sig .tc := ⟨.hbm, 19, rfl⟩
abbrev main_call3_v0 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev main_v6_3 : Ref sig .tc := ⟨.hbm, 25, rfl⟩
abbrev main_v6_4 : Ref sig .tc := ⟨.hbm, 26, rfl⟩
abbrev main_v6_5 : Ref sig .tc := ⟨.hbm, 27, rfl⟩
abbrev main_v6_6 : Ref sig .tc := ⟨.hbm, 28, rfl⟩
abbrev main_v6_7 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x688 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S16x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S16x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S8x688 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S8x688 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S8x688 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S8x688 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== AdamwColsReferenceIdeal.lean ====
abbrev S16x256 : Shape := ⟨2, ![16, 256]⟩
abbrev S3x688 : Shape := ⟨2, ![3, 688]⟩
abbrev S_ : Shape := ⟨0, ![]⟩
abbrev S8x688 : Shape := ⟨2, ![8, 688]⟩

abbrev nBuf : Space → Nat
  | .hbm => 86
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S3x688, .f32⟩
  | .hbm, ⟨5, _⟩ => ⟨S3x688, .f32⟩
  | .hbm, ⟨6, _⟩ => ⟨S3x688, .f32⟩
  | .hbm, ⟨7, _⟩ => ⟨S3x688, .f32⟩
  | .hbm, ⟨8, _⟩ => ⟨S_, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S_, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | .hbm, ⟨37, _⟩ => ⟨S16x256, .f32⟩
  | .hbm, ⟨38, _⟩ => ⟨S_, .f32⟩
  | .hbm, ⟨39, _⟩ => ⟨S16x256, .f32⟩
  | .hbm, ⟨40, _⟩ => ⟨S16x256, .f32⟩
  | .hbm, ⟨41, _⟩ => ⟨S_, .f32⟩
  | .hbm, ⟨42, _⟩ => ⟨S3x688, .f32⟩
  | .hbm, ⟨43, _⟩ => ⟨S3x688, .f32⟩
  | .hbm, ⟨44, _⟩ => ⟨S_, .f32⟩
  | .hbm, ⟨45, _⟩ => ⟨S3x688, .f32⟩
  | .hbm, ⟨46, _⟩ => ⟨S3x688, .f32⟩
  | .hbm, ⟨47, _⟩ => ⟨S3x688, .f32⟩
  | .hbm, ⟨48, _⟩ => ⟨S_, .f32⟩
  | .hbm, ⟨49, _⟩ => ⟨S3x688, .f32⟩
  | .hbm, ⟨50, _⟩ => ⟨S3x688, .f32⟩
  | .hbm, ⟨51, _⟩ => ⟨S3x688, .f32⟩
  | .hbm, ⟨52, _⟩ => ⟨S_, .f32⟩
  | .hbm, ⟨53, _⟩ => ⟨S3x688, .f32⟩
  | .hbm, ⟨54, _⟩ => ⟨S3x688, .f32⟩
  | .hbm, ⟨55, _⟩ => ⟨S3x688, .f32⟩
  | .hbm, ⟨56, _⟩ => ⟨S_, .f32⟩
  | .hbm, ⟨57, _⟩ => ⟨S3x688, .f32⟩
  | .hbm, ⟨58, _⟩ => ⟨S3x688, .f32⟩
  | .hbm, ⟨59, _⟩ => ⟨S_, .f32⟩
  | .hbm, ⟨60, _⟩ => ⟨S3x688, .f32⟩
  | .hbm, ⟨61, _⟩ => ⟨S3x688, .f32⟩
  | .hbm, ⟨62, _⟩ => ⟨S3x688, .f32⟩
  | .hbm, ⟨63, _⟩ => ⟨S_, .f32⟩
  | .hbm, ⟨64, _⟩ => ⟨S3x688, .f32⟩
  | .hbm, ⟨65, _⟩ => ⟨S3x688, .f32⟩
  | .hbm, ⟨66, _⟩ => ⟨S3x688, .f32⟩
  | .hbm, ⟨67, _⟩ => ⟨S_, .f32⟩
  | .hbm, ⟨68, _⟩ => ⟨S3x688, .f32⟩
  | .hbm, ⟨69, _⟩ => ⟨S3x688, .f32⟩
  | .hbm, ⟨70, _⟩ => ⟨S3x688, .f32⟩
  | .hbm, ⟨71, _⟩ => ⟨S_, .f32⟩
  | .hbm, ⟨72, _⟩ => ⟨S3x688, .f32⟩
  | .hbm, ⟨73, _⟩ => ⟨S3x688, .f32⟩
  | .hbm, ⟨74, _⟩ => ⟨S_, .i32⟩
  | .hbm, ⟨75, _⟩ => ⟨S_, .f32⟩
  | .hbm, ⟨76, _⟩ => ⟨S8x688, .f32⟩
  | .hbm, ⟨77, _⟩ => ⟨S_, .i32⟩
  | .hbm, ⟨78, _⟩ => ⟨S_, .f32⟩
  | .hbm, ⟨79, _⟩ => ⟨S8x688, .f32⟩
  | .hbm, ⟨80, _⟩ => ⟨S_, .i32⟩
  | .hbm, ⟨81, _⟩ => ⟨S_, .f32⟩
  | .hbm, ⟨82, _⟩ => ⟨S8x688, .f32⟩
  | .hbm, ⟨83, _⟩ => ⟨S_, .i32⟩
  | .hbm, ⟨84, _⟩ => ⟨S_, .f32⟩
  | .hbm, ⟨85, _⟩ => ⟨S8x688, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩
abbrev main_c : Ref sig .tc := ⟨.hbm, 74, rfl⟩
abbrev main_call0_v0 : Ref sig .tc := ⟨.hbm, 75, rfl⟩
abbrev main_v48 : Ref sig .tc := ⟨.hbm, 76, rfl⟩
abbrev main_c_17 : Ref sig .tc := ⟨.hbm, 77, rfl⟩
abbrev main_call1_v0 : Ref sig .tc := ⟨.hbm, 78, rfl⟩
abbrev main_v49 : Ref sig .tc := ⟨.hbm, 79, rfl⟩
abbrev main_c_18 : Ref sig .tc := ⟨.hbm, 80, rfl⟩
abbrev main_call2_v0 : Ref sig .tc := ⟨.hbm, 81, rfl⟩
abbrev main_v50 : Ref sig .tc := ⟨.hbm, 82, rfl⟩
abbrev main_c_19 : Ref sig .tc := ⟨.hbm, 83, rfl⟩
abbrev main_call3_v0 : Ref sig .tc := ⟨.hbm, 84, rfl⟩
abbrev main_v51 : Ref sig .tc := ⟨.hbm, 85, rfl⟩

abbrev nD : Nat := 1
abbrev τ : Topo := Topo.v7x

variable {F : FTy → Type} [FloatOps F]
-- ==== Proof.Products.lean ====
/-
  The products the calls below compute, as sums over their shapes: a stack of pieces `p` is held apart in the
  result, or summed over.
-/
module

public import Idealize.ShloMosaic.Lib.Pipeline.ValueKit
public import Idealize.ShloMosaic.Lib.Pointwise

@[expose] public section

noncomputable section

namespace Cert.Products

open Idealize.ShloMosaic

variable {P T F D : Nat} {d e o : FTy}

/-- The product: `∑ k, a t k * b k f`. -/
def prod (a : FVec Ideal ⟨2, ![T, D]⟩ d) (b : FVec Ideal ⟨2, ![D, F]⟩ e) : FVec Ideal ⟨2, ![T, F]⟩ o :=
  fun i => (∑ d : Fin D, (show EReal from a (ix2 (i 0) d)) * (show EReal from b (ix2 d (i 1))) : EReal)

/-- The product with the second transposed: `∑ k, a t k * b f k`. -/
def prodR (a : FVec Ideal ⟨2, ![T, D]⟩ d) (b : FVec Ideal ⟨2, ![F, D]⟩ e) : FVec Ideal ⟨2, ![T, F]⟩ o :=
  fun i => (∑ d : Fin D, (show EReal from a (ix2 (i 0) d)) * (show EReal from b (ix2 (i 1) d)) : EReal)

/-- The product with the first transposed: `∑ k, a k d * b k f`. -/
def prodT (a : FVec Ideal ⟨2, ![T, D]⟩ d) (b : FVec Ideal ⟨2, ![T, F]⟩ e) : FVec Ideal ⟨2, ![D, F]⟩ o :=
  fun i => (∑ t : Fin T, (show EReal from a (ix2 t (i 0))) * (show EReal from b (ix2 t (i 1))) : EReal)

/-- Piece by piece, the first array transposed times the second: `∑ t, a p t f * b t d`. -/
def piecesT (a : FVec Ideal ⟨3, ![P, T, F]⟩ d) (b : FVec Ideal ⟨2, ![T, D]⟩ e) : FVec Ideal ⟨3, ![P, F, D]⟩ o :=
  fun i => (∑ t : Fin T, (show EReal from a (ix3 (i 0) t (i 1))) * (show EReal from b (ix2 t (i 2))) : EReal)

/-- Piece by piece, the first array transposed times a piece: `∑ t, a t d * b p t f`. -/
def piecesL (a : FVec Ideal ⟨2, ![T, D]⟩ d) (b : FVec Ideal ⟨3, ![P, T, F]⟩ e) : FVec Ideal ⟨3, ![P, D, F]⟩ o :=
  fun i => (∑ t : Fin T, (show EReal from a (ix2 t (i 1))) * (show EReal from b (ix3 (i 0) t (i 2))) : EReal)

/-- Piece by piece, the first array times the second transposed: `∑ d, a t d * b p f d`. -/
def piecesR (a : FVec Ideal ⟨2, ![T, D]⟩ d) (b : FVec Ideal ⟨3, ![P, F, D]⟩ e) : FVec Ideal ⟨3, ![P, T, F]⟩ o :=
  fun i => (∑ d : Fin D, (show EReal from a (ix2 (i 1) d)) * (show EReal from b (ix3 (i 0) (i 2) d)) : EReal)

/-- Piece by piece, the product: `∑ d, a t d * b p d f`. -/
def pieces (a : FVec Ideal ⟨2, ![T, D]⟩ d) (b : FVec Ideal ⟨3, ![P, D, F]⟩ e) : FVec Ideal ⟨3, ![P, T, F]⟩ o :=
  fun i => (∑ d : Fin D, (show EReal from a (ix2 (i 1) d)) * (show EReal from b (ix3 (i 0) d (i 2))) : EReal)

/-- The sum over the pieces of the first times the second transposed: `∑ p, ∑ f, a p t f * b p d f`. -/
def summedR (a : FVec Ideal ⟨3, ![P, T, F]⟩ d) (b : FVec Ideal ⟨3, ![P, D, F]⟩ e) : FVec Ideal ⟨2, ![T, D]⟩ o :=
  fun i => (∑ p : Fin P, ∑ f : Fin F, (show EReal from a (ix3 p (i 0) f)) * (show EReal from b (ix3 p (i 1) f)) : EReal)

/-- The sum over the pieces of the products: `∑ p, ∑ f, a p t f * b p f d`. -/
def summed (a : FVec Ideal ⟨3, ![P, T, F]⟩ d) (b : FVec Ideal ⟨3, ![P, F, D]⟩ e) : FVec Ideal ⟨2, ![T, D]⟩ o :=
  fun i => (∑ p : Fin P, ∑ f : Fin F, (show EReal from a (ix3 p (i 0) f)) * (show EReal from b (ix3 p f (i 1))) : EReal)

/-! ## Columns of zeros -/

/-- The columns of `w`, and zeros up to `N` columns. -/
def wide (N : Nat) (w : FVec Ideal ⟨2, ![T, D]⟩ e) : FVec Ideal ⟨2, ![T, N]⟩ e :=
  fun i => if h : (i 1).val < D then (show EReal from w (ix2 (i 0) ⟨(i 1).val, h⟩)) else (0 : EReal)

/-- The columns of each of `w`'s pieces, and zeros up to `N` columns. -/
def widePieces (N : Nat) (w : FVec Ideal ⟨3, ![P, T, D]⟩ e) : FVec Ideal ⟨3, ![P, T, N]⟩ e :=
  fun i => if h : (i 2).val < D then (show EReal from w (ix3 (i 0) (i 1) ⟨(i 2).val, h⟩)) else (0 : EReal)

/-- The filling. -/
theorem word_zero : (FloatOps.sitofp e 0#32 : Ideal e) = (0 : EReal) := by
  show ((((0#32 : BitVec 32).toInt : ℝ)) : EReal) = 0
  simp

/-- Columns of zeros add nothing to a sum of products over the columns. -/
theorem sum_zeros (n k : Nat) (a b : Fin n → EReal) :
    ∑ x : Fin (n + k), (if h : x.val < n then a ⟨x.val, h⟩ else 0) * (if h : x.val < n then b ⟨x.val, h⟩ else 0) = ∑ x : Fin n, a x * b x := by
  rw [Fin.sum_univ_add, Finset.sum_congr rfl fun (x : Fin n) _ => show _ = a x * b x from ?_,
    Finset.sum_eq_zero fun (x : Fin k) _ => ?_, add_zero]
  · have h : ¬ (Fin.natAdd n x).val < n := by simp
    rw [dif_neg h, dif_neg h, mul_zero (M₀ := EReal)]
  · have h : (Fin.castAdd k x).val < n := x.isLt
    rw [dif_pos h, dif_pos h]; rfl

/-- A column of zeros gives zeros. -/
theorem sum_column {n : Nat} (q : Prop) [Decidable q] (a : Fin n → EReal) (b : q → Fin n → EReal) :
    ∑ x, a x * (if h : q then b h x else 0) = if h : q then ∑ x, a x * b h x else 0 := by
  by_cases h : q
  · simp only [dif_pos h]
  · simp only [dif_neg h, mul_zero (M₀ := EReal), Finset.sum_const_zero]

/-- The same, the factors exchanged. -/
theorem sum_column_comm {n : Nat} (q : Prop) [Decidable q] (a : Fin n → EReal) (b : q → Fin n → EReal) :
    ∑ x, a x * (if h : q then b h x else 0) = if h : q then ∑ x, b h x * a x else 0 := by
  rw [sum_column]
  by_cases h : q
  · simp only [dif_pos h, mul_comm (G := EReal)]
  · simp only [dif_neg h]

end Cert.Products

end
-- ==== Proof.UpBwdW.lean ====
/-
  The gradient of the widening product's weights, piece by piece.
-/
module

public import proofs.«01_k».proof.Defs
public import proofs.«01_k».proof.Proof.Gen.UpBwdWIdeal.Value
public import proofs.«01_k».proof.Proof.Gen.UpBwdWReferenceIdeal.Run
public import proofs.«01_k».proof.Proof.Products

@[expose] public section

set_option maxRecDepth 16384

noncomputable section

namespace Cert.UpBwdWIdeal.Call

open Idealize.ShloMosaic Idealize.ShloMosaic.TcCoe Idealize.SL.Sem
open Cert.UpBwdWIdeal Cert.UpBwdWIdeal.Gen
open Idealize.ShloMosaic.Pipeline (Dat)

variable (m : (ℓ : Loc nD τ sig) → Buf (Elt Ideal) ℓ)

/-- The result. -/
abbrev out (c : Dev nD) : FVec Ideal ⟨3, ![8, 1376, 2048]⟩ .bf16 :=
  Products.piecesT (d := .bf16) (e := .bf16) (m ((c : Thread nD τ).loc main_arg0)) (m ((c : Thread nD τ).loc main_arg1))

/-- The blocks of a grid point. -/
theorem idx : ∀ t : Fin cfg0.N, win0_0.index t = ![t.val / 2, 0, 0] ∧ win0_1.index t = ![0, t.val % 2] ∧ win0_2.index t = ![t.val / 2, 0, t.val % 2] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.piecesT]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_UpBwdWIdeal_UpBwdWReferenceIdeal (hUpBwdWIdeal := Gen.facts) (hUpBwdWReferenceIdeal := Cert.UpBwdWReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.piecesT]), (h c).2⟩)
      (Cert.UpBwdWReferenceIdeal.Value.run (F := Ideal) m' g')⟩

end Cert.UpBwdWIdeal.Call

end
-- ==== Proof.UpBwdX.lean ====
/-
  The gradient of the widening product's input, summed over the pieces.
-/
module

public import proofs.«01_k».proof.Defs
public import proofs.«01_k».proof.Proof.Gen.UpBwdXIdeal.Value
public import proofs.«01_k».proof.Proof.Gen.UpBwdXReferenceIdeal.Run
public import proofs.«01_k».proof.Proof.Products

@[expose] public section

set_option maxRecDepth 16384

noncomputable section

namespace Cert.UpBwdXIdeal.Call

open Idealize.ShloMosaic Idealize.ShloMosaic.TcCoe Idealize.SL.Sem
open Cert.UpBwdXIdeal Cert.UpBwdXIdeal.Gen
open Idealize.ShloMosaic.Pipeline (Dat)

variable (m : (ℓ : Loc nD τ sig) → Buf (Elt Ideal) ℓ)

/-- The result. -/
abbrev out (c : Dev nD) : FVec Ideal ⟨2, ![2064, 2048]⟩ .f32 :=
  Products.summedR (d := .bf16) (e := .bf16) (m ((c : Thread nD τ).loc main_arg0)) (m ((c : Thread nD τ).loc main_arg1))

/-- The blocks of a grid point. -/
theorem idx : ∀ t : Fin cfg0.N, win0_0.index t = ![t.val % 8, t.val / 8, 0] ∧ win0_1.index t = ![t.val % 8, 0, 0] ∧ win0_2.index t = ![t.val / 8, 0] :=
  (by decide +kernel : ∀ t : Fin grid0.N, _)

/-- What a point adds to the running sum. -/
abbrev part (c : Dev nD) (t : Fin cfg0.N) : FVec Ideal S688x2048 .f32 := k0_pay1 (F := Ideal) (iblk m c 0 t) (iblk m c 1 t)

/-- The first point of a run leaves its part in the running sum. -/
theorem first (c : Dev nD) (t : Fin cfg0.N) (h : t.val % 8 = 0) (y) :
    (show EReal from (outsAt0 m c t.val t.isLt).2 y) = 0 + (show EReal from part m c t y) := by
  have hN := lt_of_lt_of_eq t.isLt N_0
  rw [outsAt0_A m c t h (by omega) (by omega)]
  frame_out
  rw [zero_add]
  pointwise [k0_pay2]

/-- A later point adds its part to the running sum. -/
theorem next (c : Dev nD) (t : Fin cfg0.N) (h : ¬t.val % 8 = 0) (y) :
    (show EReal from (outsAt0 m c t.val t.isLt).2 y)
      = (show EReal from (outsAt0 m c (t.val - 1) (Nat.lt_of_le_of_lt (Nat.sub_le _ _) t.isLt)).2 y) + (show EReal from part m c t y) := by
  by_cases h7 : t.val % 8 = 7
  · rw [outsAt0_C m c t h (by omega) h7]
    frame_out
    pointwise [k0_pay3]
    exact congrArg (· + (show EReal from part m c t y)) (congrFun (Memref.IsWhole.read_unread (Memref.isWhole_whole cc0_scratch0) _) y)
  · rw [outsAt0_B m c t h (by omega) h7]
    frame_out
    pointwise [k0_pay3]
    exact congrArg (· + (show EReal from part m c t y)) (congrFun (Memref.IsWhole.read_unread (Memref.isWhole_whole cc0_scratch0) _) y)

/-- The last point of a run leaves the run's sum. -/
theorem total (c : Dev nD) (t : Fin cfg0.N) (h : t.val % 8 = 7) (y) :
    (show EReal from (outsAt0 m c t.val t.isLt).2 y)
      = 0 + ∑ s : Fin 8, (show EReal from part m c ⟨8 * (t.val / 8) + s.val, Pipeline.run_point_lt_of_flush t h s⟩ y) :=
  Pipeline.eq_sum_fin_of_reset_step_apply_of_flush (fun n hn y => (show EReal from (outsAt0 m c n hn).2 y)) 8 (fun _ => 0)
    (fun t y => (show EReal from part m c t y)) (fun t h y => first m c t h y) (fun t h y => next m c t h y) t h y

/-- The last point of a run writes the running sum out. -/
theorem last (c : Dev nD) (t : Fin cfg0.N) (h : t.val % 8 = 7) :
    (outsAt0 m c t.val t.isLt).1 = (outsAt0 m c t.val t.isLt).2 := by
  rw [outsAt0_C m c t (by omega) (by omega) h]
  frame_out
  funext y
  pointwise [k0_pay4]

/-- The array the call leaves. -/
theorem final (c : Dev nD) : (dats m 0 c).arrAt 2 (cfgs 0).N = out m c := by
  refine (dats m 0 c).arrAt_eq_of_covers 2 _ (by decide +kernel) fun t hf y => ?_
  have h := (flush0_2 t).mp hf
  blk_simp
  rw [after0_2, last m c t h]
  refine (total m c t h y).trans ?_
  rw [zero_add]
  pointwise [k0_pay1, out, Products.summedR]
  refine Finset.sum_congr rfl fun s _ => ?_
  blk_point [iblk, V, idx t, idx ⟨_, Pipeline.run_point_lt_of_flush t h s⟩]

/-- The call and the reference compute the same array. -/
theorem equal : algebraic_UpBwdXIdeal_UpBwdXReferenceIdeal (hUpBwdXIdeal := Gen.facts) (hUpBwdXReferenceIdeal := Cert.UpBwdXReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.summedR]), (h c).2⟩)
      (Cert.UpBwdXReferenceIdeal.Value.run (F := Ideal) m' g')⟩

end Cert.UpBwdXIdeal.Call

end
-- ==== Proof.DownBwdX.lean ====
/-
  The gradient of the narrowing product's input, piece by piece.
-/
module

public import proofs.«01_k».proof.Defs
public import proofs.«01_k».proof.Proof.Gen.DownBwdXIdeal.Value
public import proofs.«01_k».proof.Proof.Gen.DownBwdXReferenceIdeal.Run
public import proofs.«01_k».proof.Proof.Products

@[expose] public section

set_option maxRecDepth 16384

noncomputable section

namespace Cert.DownBwdXIdeal.Call

open Idealize.ShloMosaic Idealize.ShloMosaic.TcCoe Idealize.SL.Sem
open Cert.DownBwdXIdeal Cert.DownBwdXIdeal.Gen
open Idealize.ShloMosaic.Pipeline (Dat)

variable (m : (ℓ : Loc nD τ sig) → Buf (Elt Ideal) ℓ)

/-- The result. -/
abbrev out (c : Dev nD) : FVec Ideal ⟨3, ![4, 2064, 1376]⟩ .bf16 :=
  Products.piecesR (d := .bf16) (e := .bf16) (m ((c : Thread nD τ).loc main_arg0)) (m ((c : Thread nD τ).loc main_arg1))

/-- The blocks of a grid point. -/
theorem idx : ∀ t : Fin cfg0.N, win0_0.index t = ![t.val % 3, 0] ∧ win0_1.index t = ![t.val / 3, 0, 0] ∧ win0_2.index t = ![t.val / 3, t.val % 3, 0] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.piecesR]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_DownBwdXIdeal_DownBwdXReferenceIdeal (hDownBwdXIdeal := Gen.facts) (hDownBwdXReferenceIdeal := Cert.DownBwdXReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.piecesR]), (h c).2⟩)
      (Cert.DownBwdXReferenceIdeal.Value.run (F := Ideal) m' g')⟩

end Cert.DownBwdXIdeal.Call

end
-- ==== Proof.DownBwdW.lean ====
/-
  The gradient of the narrowing product's weights, piece by piece.
-/
module

public import proofs.«01_k».proof.Defs
public import proofs.«01_k».proof.Proof.Gen.DownBwdWIdeal.Value
public import proofs.«01_k».proof.Proof.Gen.DownBwdWReferenceIdeal.Run
public import proofs.«01_k».proof.Proof.Products

@[expose] public section

set_option maxRecDepth 16384

noncomputable section

namespace Cert.DownBwdWIdeal.Call

open Idealize.ShloMosaic Idealize.ShloMosaic.TcCoe Idealize.SL.Sem
open Cert.DownBwdWIdeal Cert.DownBwdWIdeal.Gen
open Idealize.ShloMosaic.Pipeline (Dat)

variable (m : (ℓ : Loc nD τ sig) → Buf (Elt Ideal) ℓ)

/-- The result. -/
abbrev out (c : Dev nD) : FVec Ideal ⟨3, ![4, 1376, 2048]⟩ .bf16 :=
  Products.piecesT (d := .bf16) (e := .bf16) (m ((c : Thread nD τ).loc main_arg0)) (m ((c : Thread nD τ).loc main_arg1))

/-- The blocks of a grid point. -/
theorem idx : ∀ t : Fin cfg0.N, win0_0.index t = ![t.val / 4, 0, 0] ∧ win0_1.index t = ![0, t.val % 4] ∧ win0_2.index t = ![t.val / 4, 0, t.val % 4] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.piecesT]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_DownBwdWIdeal_DownBwdWReferenceIdeal (hDownBwdWIdeal := Gen.facts) (hDownBwdWReferenceIdeal := Cert.DownBwdWReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.piecesT]
      exact Finset.sum_congr rfl fun _ _ => mul_comm (G := EReal) _ _), (h c).2⟩)
      (Cert.DownBwdWReferenceIdeal.Value.run (F := Ideal) m' g')⟩

end Cert.DownBwdWIdeal.Call

end
-- ==== Proof.UpProj.lean ====
/-
  The widening product, piece by piece.
-/
module

public import proofs.«01_k».proof.Defs
public import proofs.«01_k».proof.Proof.Gen.UpProjIdeal.Value
public import proofs.«01_k».proof.Proof.Gen.UpProjReferenceIdeal.Run
public import proofs.«01_k».proof.Proof.Products

@[expose] public section

set_option maxRecDepth 16384

noncomputable section

namespace Cert.UpProjIdeal.Call

open Idealize.ShloMosaic Idealize.ShloMosaic.TcCoe Idealize.SL.Sem
open Cert.UpProjIdeal Cert.UpProjIdeal.Gen
open Idealize.ShloMosaic.Pipeline (Dat)

variable (m : (ℓ : Loc nD τ sig) → Buf (Elt Ideal) ℓ)

/-- The result. -/
abbrev out (c : Dev nD) : FVec Ideal ⟨3, ![8, 2064, 1376]⟩ .bf16 :=
  Products.pieces (d := .bf16) (e := .bf16) (m ((c : Thread nD τ).loc main_arg0)) (m ((c : Thread nD τ).loc main_arg1))

/-- The blocks of a grid point. -/
theorem idx : ∀ t : Fin cfg0.N, win0_0.index t = ![t.val % 3, 0] ∧ win0_1.index t = ![t.val / 3, 0, 0] ∧ win0_2.index t = ![t.val / 3, t.val % 3, 0] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.pieces]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_UpProjIdeal_UpProjReferenceIdeal (hUpProjIdeal := Gen.facts) (hUpProjReferenceIdeal := Cert.UpProjReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.pieces]
      exact Finset.sum_congr rfl fun _ _ => mul_comm (G := EReal) _ _), (h c).2⟩)
      (Cert.UpProjReferenceIdeal.Value.run (F := Ideal) m' g')⟩

end Cert.UpProjIdeal.Call

end
-- ==== Proof.DownProj.lean ====
/-
  The narrowing product, summed over the pieces, and the residual.
-/
module

public import proofs.«01_k».proof.Defs
public import proofs.«01_k».proof.Proof.Gen.DownProjIdeal.Value
public import proofs.«01_k».proof.Proof.Gen.DownProjReferenceIdeal.Run
public import proofs.«01_k».proof.Proof.Products

@[expose] public section

set_option maxRecDepth 16384

noncomputable section

namespace Cert.DownProjIdeal.Call

open Idealize.ShloMosaic Idealize.ShloMosaic.TcCoe Idealize.SL.Sem
open Cert.DownProjIdeal Cert.DownProjIdeal.Gen
open Idealize.ShloMosaic.Pipeline (Dat)

variable (m : (ℓ : Loc nD τ sig) → Buf (Elt Ideal) ℓ)

/-- The result. -/
abbrev out (c : Dev nD) : FVec Ideal ⟨2, ![2064, 2048]⟩ .f32 :=
  fun i => ((show EReal from Products.summed (o := .f32) (d := .bf16) (e := .bf16) (m ((c : Thread nD τ).loc main_arg0)) (m ((c : Thread nD τ).loc main_arg1)) i) + (show EReal from (m ((c : Thread nD τ).loc main_arg2)) i) : EReal)

/-- The blocks of a grid point. -/
theorem idx : ∀ t : Fin cfg0.N, win0_0.index t = ![t.val % 4, t.val / 8, 0] ∧ win0_1.index t = ![t.val % 4, 0, t.val / 4 % 2] ∧ win0_2.index t = ![t.val / 8, t.val / 4 % 2] ∧ win0_3.index t = ![t.val / 8, t.val / 4 % 2] :=
  (by decide +kernel : ∀ t : Fin grid0.N, _)

/-- What a point adds to the running sum. -/
abbrev part (c : Dev nD) (t : Fin cfg0.N) : FVec Ideal S688x1024 .f32 := k0_pay1 (F := Ideal) (iblk m c 0 t) (iblk m c 1 t)

/-- The first point of a run leaves its part in the running sum. -/
theorem first (c : Dev nD) (t : Fin cfg0.N) (h : t.val % 4 = 0) (y) :
    (show EReal from (outsAt0 m c t.val t.isLt).2 y) = 0 + (show EReal from part m c t y) := by
  have hN := lt_of_lt_of_eq t.isLt N_0
  rw [outsAt0_A m c t h (by omega) (by omega)]
  frame_out
  rw [zero_add]
  pointwise [k0_pay2]

/-- A later point adds its part to the running sum. -/
theorem next (c : Dev nD) (t : Fin cfg0.N) (h : ¬t.val % 4 = 0) (y) :
    (show EReal from (outsAt0 m c t.val t.isLt).2 y)
      = (show EReal from (outsAt0 m c (t.val - 1) (Nat.lt_of_le_of_lt (Nat.sub_le _ _) t.isLt)).2 y) + (show EReal from part m c t y) := by
  by_cases h7 : t.val % 4 = 3
  · rw [outsAt0_C m c t h (by omega) h7]
    frame_out
    pointwise [k0_pay3]
    exact congrArg (· + (show EReal from part m c t y)) (congrFun (Memref.IsWhole.read_unread (Memref.isWhole_whole cc0_scratch0) _) y)
  · rw [outsAt0_B m c t h (by omega) h7]
    frame_out
    pointwise [k0_pay3]
    exact congrArg (· + (show EReal from part m c t y)) (congrFun (Memref.IsWhole.read_unread (Memref.isWhole_whole cc0_scratch0) _) y)

/-- The last point of a run leaves the run's sum. -/
theorem total (c : Dev nD) (t : Fin cfg0.N) (h : t.val % 4 = 3) (y) :
    (show EReal from (outsAt0 m c t.val t.isLt).2 y)
      = 0 + ∑ s : Fin 4, (show EReal from part m c ⟨4 * (t.val / 4) + s.val, Pipeline.run_point_lt_of_flush t h s⟩ y) :=
  Pipeline.eq_sum_fin_of_reset_step_apply_of_flush (fun n hn y => (show EReal from (outsAt0 m c n hn).2 y)) 4 (fun _ => 0)
    (fun t y => (show EReal from part m c t y)) (fun t h y => first m c t h y) (fun t h y => next m c t h y) t h y

/-- The last point of a run writes the running sum out, with the residual added. -/
theorem last (c : Dev nD) (t : Fin cfg0.N) (h : t.val % 4 = 3) (y) :
    (show EReal from (outsAt0 m c t.val t.isLt).1 y)
      = (show EReal from (outsAt0 m c t.val t.isLt).2 y) + (show EReal from iblk m c 2 t y) := by
  rw [outsAt0_C m c t (by omega) (by omega) h]
  frame_out
  pointwise [k0_pay4]

/-- The array the call leaves. -/
theorem final (c : Dev nD) : (dats m 0 c).arrAt 3 (cfgs 0).N = out m c := by
  refine (dats m 0 c).arrAt_eq_of_covers 3 _ (by decide +kernel) fun t hf y => ?_
  have h := (flush0_3 t).mp hf
  blk_simp
  rw [after0_3]
  refine ((last m c t h y).trans (congrArg (· + _) (total m c t h y))).trans ?_
  rw [zero_add]
  pointwise [k0_pay1, out, Products.summed]
  refine congrArg₂ (fun a b : EReal => a + b) ?_ (by blk_point [iblk, V, idx t])
  refine Finset.sum_congr rfl fun s _ => ?_
  blk_point [iblk, V, idx t, idx ⟨_, Pipeline.run_point_lt_of_flush t h s⟩]

/-- The call and the reference compute the same array. -/
theorem equal : algebraic_DownProjIdeal_DownProjReferenceIdeal (hDownProjIdeal := Gen.facts) (hDownProjReferenceIdeal := Cert.DownProjReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2.1, (args c).2.2]
      funext i
      pointwise [out, Products.summed]
      exact (add_comm (G := EReal) _ _).trans (congrArg (· + _) Finset.sum_comm)), (h c).2⟩)
      (Cert.DownProjReferenceIdeal.Value.run (F := Ideal) m' g')⟩

end Cert.DownProjIdeal.Call

end
-- ==== Proof.InProj.lean ====
/-
  The input projection, with its columns of zeros.
-/
module

public import proofs.«01_k».proof.Defs
public import proofs.«01_k».proof.Proof.Gen.InProjIdeal.Value
public import proofs.«01_k».proof.Proof.Gen.InProjReferenceIdeal.Run
public import proofs.«01_k».proof.Proof.Products

@[expose] public section

set_option maxRecDepth 16384

noncomputable section

namespace Cert.InProjIdeal.Call

open Idealize.ShloMosaic Idealize.ShloMosaic.TcCoe Idealize.SL.Sem
open Cert.InProjIdeal Cert.InProjIdeal.Gen
open Idealize.ShloMosaic.Pipeline (Dat)

variable (m : (ℓ : Loc nD τ sig) → Buf (Elt Ideal) ℓ)

/-- The result. -/
abbrev out (c : Dev nD) : FVec Ideal ⟨2, ![2064, 1920]⟩ .f32 :=
  Products.prod (d := .bf16) (e := .bf16) (m ((c : Thread nD τ).loc main_arg0)) (Products.wide (e := .bf16) 1920 (m ((c : Thread nD τ).loc main_arg1)))

/-- The blocks of a grid point. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The host's columns of zeros. -/
theorem entry_v0 (c : Dev nD) : V m c main_v0 = Products.wide (e := .bf16) 1920 (m ((c : Thread nD τ).loc main_arg1)) := by
  rw [V]
  simp only [hostOps0, hostOps0_1, List.flatten_cons, List.flatten_nil, List.cons_append, List.nil_append, List.append_nil]
  after_results_simp
  simp only [StableHlo.TRef.toBuf, StableHlo.TRef.ofBuf, cast_eq]
  funext i
  pointwise [Products.wide]
  rw [Products.word_zero]

/-- The result, of the operands the host leaves. -/
abbrev held (c : Dev nD) : FVec Ideal ⟨2, ![2064, 1920]⟩ .f32 :=
  Products.prod (d := .bf16) (e := .bf16) (V m c main_arg0) (V m c main_v0)

theorem held_eq (c : Dev nD) : held m c = out m c := by
  unfold held out
  rw [V_main_arg0, entry_v0]

/-- What a point stores is the result at the place of its block. -/
theorem point (c : Dev nD) (t : Fin cfg0.N) (y) : k0_pay1 (F := Ideal) (iblk m c 0 t) (iblk m c 1 t) y
    = held m c (((cfg0.win 2).blk t).view.emb y) := by
  pointwise [k0_pay1, held, Products.prod]
  blk_point [iblk, idx t]

/-- The array the call leaves. -/
theorem final (c : Dev nD) : (dats m 0 c).arrAt 2 (cfgs 0).N = out m c := by
  rw [← held_eq m c]
  refine (dats m 0 c).arrAt_eq_of_covers 2 _ (by decide +kernel) fun t hf y => ?_
  blk_simp
  rw [after0_2]; frame_out
  exact point m c t y

/-- The call and the reference compute the same array. -/
theorem equal : algebraic_InProjIdeal_InProjReferenceIdeal (hInProjIdeal := Gen.facts) (hInProjReferenceIdeal := Cert.InProjReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.prod]
      rw [Products.word_zero]
      exact (Products.sum_column ((i 1).val < 1856) (fun x => (show EReal from m ((c : Thread nD τ).loc main_arg0) (ix2 (i 0) x))) (fun h x => (show EReal from m ((c : Thread nD τ).loc main_arg1) (ix2 x ⟨(i 1).val, h⟩)))).symm), (h c).2⟩)
      (Cert.InProjReferenceIdeal.Value.run (F := Ideal) m' g')⟩

end Cert.InProjIdeal.Call

end
-- ==== Proof.InBwdX.lean ====
/-
  The gradient of the input projection's input.
-/
module

public import proofs.«01_k».proof.Defs
public import proofs.«01_k».proof.Proof.Gen.InBwdXIdeal.Value
public import proofs.«01_k».proof.Proof.Gen.InBwdXReferenceIdeal.Run
public import proofs.«01_k».proof.Proof.Products

@[expose] public section

set_option maxRecDepth 16384

noncomputable section

namespace Cert.InBwdXIdeal.Call

open Idealize.ShloMosaic Idealize.ShloMosaic.TcCoe Idealize.SL.Sem
open Cert.InBwdXIdeal Cert.InBwdXIdeal.Gen
open Idealize.ShloMosaic.Pipeline (Dat)

variable (m : (ℓ : Loc nD τ sig) → Buf (Elt Ideal) ℓ)

/-- The result. -/
abbrev out (c : Dev nD) : FVec Ideal ⟨2, ![2064, 2048]⟩ .f32 :=
  Products.prodR (d := .bf16) (e := .bf16) (Products.wide (e := .bf16) 1920 (m ((c : Thread nD τ).loc main_arg0))) (Products.wide (e := .bf16) 1920 (m ((c : Thread nD τ).loc main_arg1)))

/-- The blocks of a grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The host's columns of zeros. -/
theorem entry_v0 (c : Dev nD) : V m c main_v0 = Products.wide (e := .bf16) 1920 (m ((c : Thread nD τ).loc main_arg0)) := by
  rw [V]
  simp only [hostOps0, hostOps0_1, hostOps0_2, hostOps0_3, List.flatten_cons, List.flatten_nil, List.cons_append, List.nil_append, List.append_nil]
  after_results_simp
  simp only [StableHlo.TRef.toBuf, StableHlo.TRef.ofBuf, cast_eq]
  funext i
  pointwise [Products.wide]
  rw [Products.word_zero]

/-- The host's columns of zeros. -/
theorem entry_v1 (c : Dev nD) : V m c main_v1 = Products.wide (e := .bf16) 1920 (m ((c : Thread nD τ).loc main_arg1)) := by
  rw [V]
  simp only [hostOps0, hostOps0_1, hostOps0_2, hostOps0_3, List.flatten_cons, List.flatten_nil, List.cons_append, List.nil_append, List.append_nil]
  after_results_simp
  simp only [StableHlo.TRef.toBuf, StableHlo.TRef.ofBuf, cast_eq]
  funext i
  pointwise [Products.wide]
  rw [Products.word_zero]

/-- The result, of the operands the host leaves. -/
abbrev held (c : Dev nD) : FVec Ideal ⟨2, ![2064, 2048]⟩ .f32 :=
  Products.prodR (d := .bf16) (e := .bf16) (V m c main_v0) (V m c main_v1)

theorem held_eq (c : Dev nD) : held m c = out m c := by
  unfold held out
  rw [entry_v0, entry_v1]

/-- What a point stores is the result at the place of its block. -/
theorem point (c : Dev nD) (t : Fin cfg0.N) (y) : k0_pay1 (F := Ideal) (iblk m c 0 t) (iblk m c 1 t) y
    = held m c (((cfg0.win 2).blk t).view.emb y) := by
  pointwise [k0_pay1, held, Products.prodR]
  blk_point [iblk, idx t]

/-- The array the call leaves. -/
theorem final (c : Dev nD) : (dats m 0 c).arrAt 2 (cfgs 0).N = out m c := by
  rw [← held_eq m c]
  refine (dats m 0 c).arrAt_eq_of_covers 2 _ (by decide +kernel) fun t hf y => ?_
  blk_simp
  rw [after0_2]; frame_out
  exact point m c t y

/-- The call and the reference compute the same array. -/
theorem equal : algebraic_InBwdXIdeal_InBwdXReferenceIdeal (hInBwdXIdeal := Gen.facts) (hInBwdXReferenceIdeal := Cert.InBwdXReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.prodR]
      exact (Products.sum_zeros 1856 64 (fun x => (show EReal from m ((c : Thread nD τ).loc main_arg0) (ix2 (i 0) x))) (fun x => (show EReal from m ((c : Thread nD τ).loc main_arg1) (ix2 (i 1) x)))).symm), (h c).2⟩)
      (Cert.InBwdXReferenceIdeal.Value.run (F := Ideal) m' g')⟩

end Cert.InBwdXIdeal.Call

end
-- ==== Proof.InBwdW.lean ====
/-
  The gradient of the input projection's weights, with its columns of zeros.
-/
module

public import proofs.«01_k».proof.Defs
public import proofs.«01_k».proof.Proof.Gen.InBwdWIdeal.Value
public import proofs.«01_k».proof.Proof.Gen.InBwdWReferenceIdeal.Run
public import proofs.«01_k».proof.Proof.Products

@[expose] public section

set_option maxRecDepth 16384

noncomputable section

namespace Cert.InBwdWIdeal.Call

open Idealize.ShloMosaic Idealize.ShloMosaic.TcCoe Idealize.SL.Sem
open Cert.InBwdWIdeal Cert.InBwdWIdeal.Gen
open Idealize.ShloMosaic.Pipeline (Dat)

variable (m : (ℓ : Loc nD τ sig) → Buf (Elt Ideal) ℓ)

/-- The result. -/
abbrev out (c : Dev nD) : FVec Ideal ⟨2, ![2048, 1920]⟩ .bf16 :=
  Products.prodT (d := .bf16) (e := .bf16) (m ((c : Thread nD τ).loc main_arg0)) (Products.wide (e := .bf16) 1920 (m ((c : Thread nD τ).loc main_arg1)))

/-- The blocks of a grid point. -/
theorem idx : ∀ t : Fin cfg0.N, win0_0.index t = ![0, t.val / 3] ∧ win0_1.index t = ![0, t.val % 3] ∧ win0_2.index t = ![t.val / 3, t.val % 3] :=
  (by decide +kernel : ∀ t : Fin grid0.N, _)

/-- The host's columns of zeros. -/
theorem entry_v0 (c : Dev nD) : V m c main_v0 = Products.wide (e := .bf16) 1920 (m ((c : Thread nD τ).loc main_arg1)) := by
  rw [V]
  simp only [hostOps0, hostOps0_1, List.flatten_cons, List.flatten_nil, List.cons_append, List.nil_append, List.append_nil]
  after_results_simp
  simp only [StableHlo.TRef.toBuf, StableHlo.TRef.ofBuf, cast_eq]
  funext i
  pointwise [Products.wide]
  rw [Products.word_zero]

/-- The result, of the operands the host leaves. -/
abbrev held (c : Dev nD) : FVec Ideal ⟨2, ![2048, 1920]⟩ .bf16 :=
  Products.prodT (d := .bf16) (e := .bf16) (V m c main_arg0) (V m c main_v0)

theorem held_eq (c : Dev nD) : held m c = out m c := by
  unfold held out
  rw [V_main_arg0, entry_v0]

/-- What a point stores is the result at the place of its block. -/
theorem point (c : Dev nD) (t : Fin cfg0.N) (y) : k0_pay1 (F := Ideal) (iblk m c 0 t) (iblk m c 1 t) y
    = held m c (((cfg0.win 2).blk t).view.emb y) := by
  pointwise [k0_pay1, held, Products.prodT]
  blk_point [iblk, idx t]

/-- The array the call leaves. -/
theorem final (c : Dev nD) : (dats m 0 c).arrAt 2 (cfgs 0).N = out m c := by
  rw [← held_eq m c]
  refine (dats m 0 c).arrAt_eq_of_covers 2 _ (by decide +kernel) fun t hf y => ?_
  blk_simp
  rw [after0_2]; frame_out
  exact point m c t y

/-- The call and the reference compute the same array. -/
theorem equal : algebraic_InBwdWIdeal_InBwdWReferenceIdeal (hInBwdWIdeal := Gen.facts) (hInBwdWReferenceIdeal := Cert.InBwdWReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.prodT]
      rw [Products.word_zero]
      exact (Products.sum_column_comm ((i 1).val < 1856) (fun x => (show EReal from m ((c : Thread nD τ).loc main_arg0) (ix2 x (i 0)))) (fun h x => (show EReal from m ((c : Thread nD τ).loc main_arg1) (ix2 x ⟨(i 1).val, h⟩)))).symm), (h c).2⟩)
      (Cert.InBwdWReferenceIdeal.Value.run (F := Ideal) m' g')⟩

end Cert.InBwdWIdeal.Call

end
-- ==== Proof.OutProj.lean ====
/-
  The mixers' output projection, and the residual.
-/
module

public import proofs.«01_k».proof.Defs
public import proofs.«01_k».proof.Proof.Gen.OutProjIdeal.Value
public import proofs.«01_k».proof.Proof.Gen.OutProjReferenceIdeal.Run
public import proofs.«01_k».proof.Proof.Products

@[expose] public section

set_option maxRecDepth 16384

noncomputable section

namespace Cert.OutProjIdeal.Call

open Idealize.ShloMosaic Idealize.ShloMosaic.TcCoe Idealize.SL.Sem
open Cert.OutProjIdeal Cert.OutProjIdeal.Gen
open Idealize.ShloMosaic.Pipeline (Dat)

variable (m : (ℓ : Loc nD τ sig) → Buf (Elt Ideal) ℓ)

/-- The result. -/
abbrev out (c : Dev nD) : FVec Ideal ⟨2, ![2064, 2048]⟩ .f32 :=
  fun i => ((show EReal from Products.prod (o := .f32) (d := .bf16) (e := .bf16) (m ((c : Thread nD τ).loc main_arg0)) (m ((c : Thread nD τ).loc main_arg1)) i) + (show EReal from (m ((c : Thread nD τ).loc main_arg2)) i) : EReal)

/-- The blocks of a grid point. -/
theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- What a point stores is the result at the place of its block. -/
theorem point (c : Dev nD) (t : Fin cfg0.N) (y) : k0_pay1 (F := Ideal) (iblk m c 0 t) (iblk m c 1 t) (iblk m c 2 t) y
    = out m c (((cfg0.win 3).blk t).view.emb y) := by
  pointwise [k0_pay1, out, Products.prod]
  blk_point [iblk, V, idx t]

/-- The array the call leaves. -/
theorem final (c : Dev nD) : (dats m 0 c).arrAt 3 (cfgs 0).N = out m c := by
  refine (dats m 0 c).arrAt_eq_of_covers 3 _ (by decide +kernel) fun t hf y => ?_
  blk_simp
  rw [after0_3]; frame_out
  exact point m c t y

/-- The call and the reference compute the same array. -/
theorem equal : algebraic_OutProjIdeal_OutProjReferenceIdeal (hOutProjIdeal := Gen.facts) (hOutProjReferenceIdeal := Cert.OutProjReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2.1, (args c).2.2]
      funext i
      pointwise [out, Products.prod]
      exact add_comm (G := EReal) _ _), (h c).2⟩)
      (Cert.OutProjReferenceIdeal.Value.run (F := Ideal) m' g')⟩

end Cert.OutProjIdeal.Call

end
-- ==== Proof.OutBwdX.lean ====
/-
  The gradient of the output projection's input.
-/
module

public import proofs.«01_k».proof.Defs
public import proofs.«01_k».proof.Proof.Gen.OutBwdXIdeal.Value
public import proofs.«01_k».proof.Proof.Gen.OutBwdXReferenceIdeal.Run
public import proofs.«01_k».proof.Proof.Products

@[expose] public section

set_option maxRecDepth 16384

noncomputable section

namespace Cert.OutBwdXIdeal.Call

open Idealize.ShloMosaic Idealize.ShloMosaic.TcCoe Idealize.SL.Sem
open Cert.OutBwdXIdeal Cert.OutBwdXIdeal.Gen
open Idealize.ShloMosaic.Pipeline (Dat)

variable (m : (ℓ : Loc nD τ sig) → Buf (Elt Ideal) ℓ)

/-- The result. -/
abbrev out (c : Dev nD) : FVec Ideal ⟨2, ![2064, 2048]⟩ .f32 :=
  Products.prodR (d := .bf16) (e := .bf16) (m ((c : Thread nD τ).loc main_arg0)) (m ((c : Thread nD τ).loc main_arg1))

/-- The blocks of a grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.prodR]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_OutBwdXIdeal_OutBwdXReferenceIdeal (hOutBwdXIdeal := Gen.facts) (hOutBwdXReferenceIdeal := Cert.OutBwdXReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.prodR]), (h c).2⟩)
      (Cert.OutBwdXReferenceIdeal.Value.run (F := Ideal) m' g')⟩

end Cert.OutBwdXIdeal.Call

end
-- ==== Proof.OutBwdW.lean ====
/-
  The gradient of the output projection's weights.
-/
module

public import proofs.«01_k».proof.Defs
public import proofs.«01_k».proof.Proof.Gen.OutBwdWIdeal.Value
public import proofs.«01_k».proof.Proof.Gen.OutBwdWReferenceIdeal.Run
public import proofs.«01_k».proof.Proof.Products

@[expose] public section

set_option maxRecDepth 16384

noncomputable section

namespace Cert.OutBwdWIdeal.Call

open Idealize.ShloMosaic Idealize.ShloMosaic.TcCoe Idealize.SL.Sem
open Cert.OutBwdWIdeal Cert.OutBwdWIdeal.Gen
open Idealize.ShloMosaic.Pipeline (Dat)

variable (m : (ℓ : Loc nD τ sig) → Buf (Elt Ideal) ℓ)

/-- The result. -/
abbrev out (c : Dev nD) : FVec Ideal ⟨2, ![2048, 2048]⟩ .bf16 :=
  Products.prodT (d := .bf16) (e := .bf16) (m ((c : Thread nD τ).loc main_arg0)) (m ((c : Thread nD τ).loc main_arg1))

/-- The blocks of a grid point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.prodT]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_OutBwdWIdeal_OutBwdWReferenceIdeal (hOutBwdWIdeal := Gen.facts) (hOutBwdWReferenceIdeal := Cert.OutBwdWReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.prodT]
      exact Finset.sum_congr rfl fun _ _ => mul_comm (G := EReal) _ _), (h c).2⟩)
      (Cert.OutBwdWReferenceIdeal.Value.run (F := Ideal) m' g')⟩

end Cert.OutBwdWIdeal.Call

end
-- ==== Proof.GluProj.lean ====
/-
  The gate's product.
-/
module

public import proofs.«01_k».proof.Defs
public import proofs.«01_k».proof.Proof.Gen.GluProjIdeal.Value
public import proofs.«01_k».proof.Proof.Gen.GluProjReferenceIdeal.Run
public import proofs.«01_k».proof.Proof.Products

@[expose] public section

set_option maxRecDepth 16384

noncomputable section

namespace Cert.GluProjIdeal.Call

open Idealize.ShloMosaic Idealize.ShloMosaic.TcCoe Idealize.SL.Sem
open Cert.GluProjIdeal Cert.GluProjIdeal.Gen
open Idealize.ShloMosaic.Pipeline (Dat)

variable (m : (ℓ : Loc nD τ sig) → Buf (Elt Ideal) ℓ)

/-- The result. -/
abbrev out (c : Dev nD) : FVec Ideal ⟨2, ![2064, 1024]⟩ .f32 :=
  Products.prod (d := .bf16) (e := .bf16) (m ((c : Thread nD τ).loc main_arg0)) (m ((c : Thread nD τ).loc main_arg1))

/-- The blocks of a grid point. -/
theorem idx : ∀ t : Fin cfg0.N, win0_0.index t = ![t.val, 0] ∧ win0_1.index t = ![0, 0] ∧ win0_2.index t = ![t.val, 0] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.prod]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_GluProjIdeal_GluProjReferenceIdeal (hGluProjIdeal := Gen.facts) (hGluProjReferenceIdeal := Cert.GluProjReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.prod]), (h c).2⟩)
      (Cert.GluProjReferenceIdeal.Value.run (F := Ideal) m' g')⟩

end Cert.GluProjIdeal.Call

end
-- ==== Proof.GluBwdX.lean ====
/-
  The gradient of the gate's product with respect to its input, added to the gradient past the gate.
-/
module

public import proofs.«01_k».proof.Defs
public import proofs.«01_k».proof.Proof.Gen.GluBwdXIdeal.Value
public import proofs.«01_k».proof.Proof.Gen.GluBwdXReferenceIdeal.Run
public import proofs.«01_k».proof.Proof.Products

@[expose] public section

set_option maxRecDepth 16384

noncomputable section

namespace Cert.GluBwdXIdeal.Call

open Idealize.ShloMosaic Idealize.ShloMosaic.TcCoe Idealize.SL.Sem
open Cert.GluBwdXIdeal Cert.GluBwdXIdeal.Gen
open Idealize.ShloMosaic.Pipeline (Dat)

variable (m : (ℓ : Loc nD τ sig) → Buf (Elt Ideal) ℓ)

/-- The result. -/
abbrev out (c : Dev nD) : FVec Ideal ⟨2, ![2064, 1024]⟩ .f32 :=
  fun i => ((show EReal from Products.prodR (o := .f32) (d := .bf16) (e := .bf16) (m ((c : Thread nD τ).loc main_arg0)) (m ((c : Thread nD τ).loc main_arg1)) i) + (show EReal from (m ((c : Thread nD τ).loc main_arg2)) i) : EReal)

/-- The blocks of a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What a point stores is the result at the place of its block. -/
theorem point (c : Dev nD) (t : Fin cfg0.N) (y) : k0_pay1 (F := Ideal) (iblk m c 0 t) (iblk m c 1 t) (iblk m c 2 t) y
    = out m c (((cfg0.win 3).blk t).view.emb y) := by
  pointwise [k0_pay1, out, Products.prodR]
  blk_point [iblk, V, idx t]

/-- The array the call leaves. -/
theorem final (c : Dev nD) : (dats m 0 c).arrAt 3 (cfgs 0).N = out m c := by
  refine (dats m 0 c).arrAt_eq_of_covers 3 _ (by decide +kernel) fun t hf y => ?_
  blk_simp
  rw [after0_3]; frame_out
  exact point m c t y

/-- The call and the reference compute the same array. -/
theorem equal : algebraic_GluBwdXIdeal_GluBwdXReferenceIdeal (hGluBwdXIdeal := Gen.facts) (hGluBwdXReferenceIdeal := Cert.GluBwdXReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2.1, (args c).2.2]
      funext i
      pointwise [out, Products.prodR]
      exact add_comm (G := EReal) _ _), (h c).2⟩)
      (Cert.GluBwdXReferenceIdeal.Value.run (F := Ideal) m' g')⟩

end Cert.GluBwdXIdeal.Call

end
-- ==== Proof.GluBwdW.lean ====
/-
  The gradient of the gate's weights.
-/
module

public import proofs.«01_k».proof.Defs
public import proofs.«01_k».proof.Proof.Gen.GluBwdWIdeal.Value
public import proofs.«01_k».proof.Proof.Gen.GluBwdWReferenceIdeal.Run
public import proofs.«01_k».proof.Proof.Products

@[expose] public section

set_option maxRecDepth 16384

noncomputable section

namespace Cert.GluBwdWIdeal.Call

open Idealize.ShloMosaic Idealize.ShloMosaic.TcCoe Idealize.SL.Sem
open Cert.GluBwdWIdeal Cert.GluBwdWIdeal.Gen
open Idealize.ShloMosaic.Pipeline (Dat)

variable (m : (ℓ : Loc nD τ sig) → Buf (Elt Ideal) ℓ)

/-- The result. -/
abbrev out (c : Dev nD) : FVec Ideal ⟨2, ![1024, 1024]⟩ .bf16 :=
  Products.prodT (d := .bf16) (e := .bf16) (m ((c : Thread nD τ).loc main_arg0)) (m ((c : Thread nD τ).loc main_arg1))

/-- The blocks of a grid point. -/
theorem idx : ∀ t : Fin cfg0.N, win0_0.index t = ![0, 0] ∧ win0_1.index t = ![0, 0] ∧ win0_2.index t = ![0, 0] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.prodT]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_GluBwdWIdeal_GluBwdWReferenceIdeal (hGluBwdWIdeal := Gen.facts) (hGluBwdWReferenceIdeal := Cert.GluBwdWReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.prodT]
      exact Finset.sum_congr rfl fun _ _ => mul_comm (G := EReal) _ _), (h c).2⟩)
      (Cert.GluBwdWReferenceIdeal.Value.run (F := Ideal) m' g')⟩

end Cert.GluBwdWIdeal.Call

end
-- ==== Proof.QProj.lean ====
/-
  The queries, head by head, with their columns of zeros.
-/
module

public import proofs.«01_k».proof.Defs
public import proofs.«01_k».proof.Proof.Gen.QProjIdeal.Value
public import proofs.«01_k».proof.Proof.Gen.QProjReferenceIdeal.Run
public import proofs.«01_k».proof.Proof.Products

@[expose] public section

set_option maxRecDepth 16384

noncomputable section

namespace Cert.QProjIdeal.Call

open Idealize.ShloMosaic Idealize.ShloMosaic.TcCoe Idealize.SL.Sem
open Cert.QProjIdeal Cert.QProjIdeal.Gen
open Idealize.ShloMosaic.Pipeline (Dat)

variable (m : (ℓ : Loc nD τ sig) → Buf (Elt Ideal) ℓ)

/-- The result. -/
abbrev out (c : Dev nD) : FVec Ideal ⟨3, ![8, 2064, 256]⟩ .f32 :=
  Products.pieces (d := .bf16) (e := .bf16) (m ((c : Thread nD τ).loc main_arg0)) (Products.widePieces (e := .bf16) 256 (m ((c : Thread nD τ).loc main_arg1)))

/-- The blocks of a grid point. -/
theorem idx : ∀ t : Fin cfg0.N, win0_0.index t = ![0, 0] ∧ win0_1.index t = ![t.val, 0, 0] ∧ win0_2.index t = ![t.val, 0, 0] :=
  (by decide +kernel : ∀ t : Fin grid0.N, _)

/-- The host's columns of zeros. -/
theorem entry_v0 (c : Dev nD) : V m c main_v0 = Products.widePieces (e := .bf16) 256 (m ((c : Thread nD τ).loc main_arg1)) := by
  rw [V]
  simp only [hostOps0, hostOps0_1, List.flatten_cons, List.flatten_nil, List.cons_append, List.nil_append, List.append_nil]
  after_results_simp
  simp only [StableHlo.TRef.toBuf, StableHlo.TRef.ofBuf, cast_eq]
  funext i
  pointwise [Products.widePieces]
  rw [Products.word_zero]

/-- The result, of the operands the host leaves. -/
abbrev held (c : Dev nD) : FVec Ideal ⟨3, ![8, 2064, 256]⟩ .f32 :=
  Products.pieces (d := .bf16) (e := .bf16) (V m c main_arg0) (V m c main_v0)

theorem held_eq (c : Dev nD) : held m c = out m c := by
  unfold held out
  rw [V_main_arg0, entry_v0]

/-- What a point stores is the result at the place of its block. -/
theorem point (c : Dev nD) (t : Fin cfg0.N) (y) : k0_pay1 (F := Ideal) (iblk m c 0 t) (iblk m c 1 t) y
    = held m c (((cfg0.win 2).blk t).view.emb y) := by
  pointwise [k0_pay1, held, Products.pieces]
  blk_point [iblk, idx t]

/-- The array the call leaves. -/
theorem final (c : Dev nD) : (dats m 0 c).arrAt 2 (cfgs 0).N = out m c := by
  rw [← held_eq m c]
  refine (dats m 0 c).arrAt_eq_of_covers 2 _ (by decide +kernel) fun t hf y => ?_
  blk_simp
  rw [after0_2]; frame_out
  exact point m c t y

/-- The call and the reference compute the same array. -/
theorem equal : algebraic_QProjIdeal_QProjReferenceIdeal (hQProjIdeal := Gen.facts) (hQProjReferenceIdeal := Cert.QProjReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.pieces]
      rw [Products.word_zero]
      exact (Products.sum_column_comm ((i 2).val < 192) (fun x => (show EReal from m ((c : Thread nD τ).loc main_arg0) (ix2 (i 1) x))) (fun h x => (show EReal from m ((c : Thread nD τ).loc main_arg1) (ix3 (i 0) x ⟨(i 2).val, h⟩)))).symm), (h c).2⟩)
      (Cert.QProjReferenceIdeal.Value.run (F := Ideal) m' g')⟩

end Cert.QProjIdeal.Call

end
-- ==== Proof.QBwdW.lean ====
/-
  The gradient of the weights of the queries, head by head, with its columns of zeros.
-/
module

public import proofs.«01_k».proof.Defs
public import proofs.«01_k».proof.Proof.Gen.QBwdWIdeal.Value
public import proofs.«01_k».proof.Proof.Gen.QBwdWReferenceIdeal.Run
public import proofs.«01_k».proof.Proof.Products

@[expose] public section

set_option maxRecDepth 16384

noncomputable section

namespace Cert.QBwdWIdeal.Call

open Idealize.ShloMosaic Idealize.ShloMosaic.TcCoe Idealize.SL.Sem
open Cert.QBwdWIdeal Cert.QBwdWIdeal.Gen
open Idealize.ShloMosaic.Pipeline (Dat)

variable (m : (ℓ : Loc nD τ sig) → Buf (Elt Ideal) ℓ)

/-- The result. -/
abbrev out (c : Dev nD) : FVec Ideal ⟨3, ![8, 512, 256]⟩ .bf16 :=
  Products.piecesL (d := .bf16) (e := .bf16) (m ((c : Thread nD τ).loc main_arg0)) (Products.widePieces (e := .bf16) 256 (m ((c : Thread nD τ).loc main_arg1)))

/-- The blocks of a grid point. -/
theorem idx : ∀ t : Fin cfg0.N, win0_0.index t = ![0, 0] ∧ win0_1.index t = ![t.val, 0, 0] ∧ win0_2.index t = ![t.val, 0, 0] :=
  (by decide +kernel : ∀ t : Fin grid0.N, _)

/-- The host's columns of zeros. -/
theorem entry_v0 (c : Dev nD) : V m c main_v0 = Products.widePieces (e := .bf16) 256 (m ((c : Thread nD τ).loc main_arg1)) := by
  rw [V]
  simp only [hostOps0, hostOps0_1, List.flatten_cons, List.flatten_nil, List.cons_append, List.nil_append, List.append_nil]
  after_results_simp
  simp only [StableHlo.TRef.toBuf, StableHlo.TRef.ofBuf, cast_eq]
  funext i
  pointwise [Products.widePieces]
  rw [Products.word_zero]

/-- The result, of the operands the host leaves. -/
abbrev held (c : Dev nD) : FVec Ideal ⟨3, ![8, 512, 256]⟩ .bf16 :=
  Products.piecesL (d := .bf16) (e := .bf16) (V m c main_arg0) (V m c main_v0)

theorem held_eq (c : Dev nD) : held m c = out m c := by
  unfold held out
  rw [V_main_arg0, entry_v0]

/-- What a point stores is the result at the place of its block. -/
theorem point (c : Dev nD) (t : Fin cfg0.N) (y) : k0_pay1 (F := Ideal) (iblk m c 0 t) (iblk m c 1 t) y
    = held m c (((cfg0.win 2).blk t).view.emb y) := by
  pointwise [k0_pay1, held, Products.piecesL]
  blk_point [iblk, idx t]

/-- The array the call leaves. -/
theorem final (c : Dev nD) : (dats m 0 c).arrAt 2 (cfgs 0).N = out m c := by
  rw [← held_eq m c]
  refine (dats m 0 c).arrAt_eq_of_covers 2 _ (by decide +kernel) fun t hf y => ?_
  blk_simp
  rw [after0_2]; frame_out
  exact point m c t y

/-- The call and the reference compute the same array. -/
theorem equal : algebraic_QBwdWIdeal_QBwdWReferenceIdeal (hQBwdWIdeal := Gen.facts) (hQBwdWReferenceIdeal := Cert.QBwdWReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.piecesL]
      rw [Products.word_zero]
      exact (Products.sum_column_comm ((i 2).val < 192) (fun x => (show EReal from m ((c : Thread nD τ).loc main_arg0) (ix2 x (i 1)))) (fun h x => (show EReal from m ((c : Thread nD τ).loc main_arg1) (ix3 (i 0) x ⟨(i 2).val, h⟩)))).symm), (h c).2⟩)
      (Cert.QBwdWReferenceIdeal.Value.run (F := Ideal) m' g')⟩

end Cert.QBwdWIdeal.Call

end
-- ==== Proof.QBwdX.lean ====
/-
  The gradient of the input of the queries' projection, summed over the heads.
-/
module

public import proofs.«01_k».proof.Defs
public import proofs.«01_k».proof.Proof.Gen.QBwdXIdeal.Value
public import proofs.«01_k».proof.Proof.Gen.QBwdXReferenceIdeal.Run
public import proofs.«01_k».proof.Proof.Products

@[expose] public section

set_option maxRecDepth 16384

noncomputable section

namespace Cert.QBwdXIdeal.Call

open Idealize.ShloMosaic Idealize.ShloMosaic.TcCoe Idealize.SL.Sem
open Cert.QBwdXIdeal Cert.QBwdXIdeal.Gen
open Idealize.ShloMosaic.Pipeline (Dat)

variable (m : (ℓ : Loc nD τ sig) → Buf (Elt Ideal) ℓ)

/-- The result. -/
abbrev out (c : Dev nD) : FVec Ideal ⟨2, ![2064, 512]⟩ .f32 :=
  Products.summedR (d := .bf16) (e := .bf16) (Products.widePieces (e := .bf16) 256 (m ((c : Thread nD τ).loc main_arg0))) (Products.widePieces (e := .bf16) 256 (m ((c : Thread nD τ).loc main_arg1)))

/-- The blocks of a grid point. -/
theorem idx : ∀ t : Fin cfg0.N, win0_0.index t = ![t.val, 0, 0] ∧ win0_1.index t = ![t.val, 0, 0] ∧ win0_2.index t = ![0, 0] :=
  (by decide +kernel : ∀ t : Fin grid0.N, _)

/-- The host's columns of zeros. -/
theorem entry_v0 (c : Dev nD) : V m c main_v0 = Products.widePieces (e := .bf16) 256 (m ((c : Thread nD τ).loc main_arg0)) := by
  rw [V]
  simp only [hostOps0, hostOps0_1, hostOps0_2, hostOps0_3, List.flatten_cons, List.flatten_nil, List.cons_append, List.nil_append, List.append_nil]
  after_results_simp
  simp only [StableHlo.TRef.toBuf, StableHlo.TRef.ofBuf, cast_eq]
  funext i
  pointwise [Products.widePieces]
  rw [Products.word_zero]

/-- The host's columns of zeros. -/
theorem entry_v1 (c : Dev nD) : V m c main_v1 = Products.widePieces (e := .bf16) 256 (m ((c : Thread nD τ).loc main_arg1)) := by
  rw [V]
  simp only [hostOps0, hostOps0_1, hostOps0_2, hostOps0_3, List.flatten_cons, List.flatten_nil, List.cons_append, List.nil_append, List.append_nil]
  after_results_simp
  simp only [StableHlo.TRef.toBuf, StableHlo.TRef.ofBuf, cast_eq]
  funext i
  pointwise [Products.widePieces]
  rw [Products.word_zero]

/-- The result, of the operands the host leaves. -/
abbrev held (c : Dev nD) : FVec Ideal ⟨2, ![2064, 512]⟩ .f32 :=
  Products.summedR (d := .bf16) (e := .bf16) (V m c main_v0) (V m c main_v1)

theorem held_eq (c : Dev nD) : held m c = out m c := by
  unfold held out
  rw [entry_v0, entry_v1]

/-- What a point adds to the running sum. -/
abbrev part (c : Dev nD) (t : Fin cfg0.N) : FVec Ideal S2064x512 .f32 := k0_pay1 (F := Ideal) (iblk m c 0 t) (iblk m c 1 t)

/-- The first point of a run leaves its part in the running sum. -/
theorem first (c : Dev nD) (t : Fin cfg0.N) (h : t.val % 8 = 0) (y) :
    (show EReal from (outsAt0 m c t.val t.isLt).2 y) = 0 + (show EReal from part m c t y) := by
  have hN := lt_of_lt_of_eq t.isLt N_0
  rw [outsAt0_A m c t h (by omega) (by omega)]
  frame_out
  rw [zero_add]
  pointwise [k0_pay2]

/-- A later point adds its part to the running sum. -/
theorem next (c : Dev nD) (t : Fin cfg0.N) (h : ¬t.val % 8 = 0) (y) :
    (show EReal from (outsAt0 m c t.val t.isLt).2 y)
      = (show EReal from (outsAt0 m c (t.val - 1) (Nat.lt_of_le_of_lt (Nat.sub_le _ _) t.isLt)).2 y) + (show EReal from part m c t y) := by
  by_cases h7 : t.val % 8 = 7
  · rw [outsAt0_C m c t h (by omega) h7]
    frame_out
    pointwise [k0_pay3]
    exact congrArg (· + (show EReal from part m c t y)) (congrFun (Memref.IsWhole.read_unread (Memref.isWhole_whole cc0_scratch0) _) y)
  · rw [outsAt0_B m c t h (by omega) h7]
    frame_out
    pointwise [k0_pay3]
    exact congrArg (· + (show EReal from part m c t y)) (congrFun (Memref.IsWhole.read_unread (Memref.isWhole_whole cc0_scratch0) _) y)

/-- The last point of a run leaves the run's sum. -/
theorem total (c : Dev nD) (t : Fin cfg0.N) (h : t.val % 8 = 7) (y) :
    (show EReal from (outsAt0 m c t.val t.isLt).2 y)
      = 0 + ∑ s : Fin 8, (show EReal from part m c ⟨8 * (t.val / 8) + s.val, Pipeline.run_point_lt_of_flush t h s⟩ y) :=
  Pipeline.eq_sum_fin_of_reset_step_apply_of_flush (fun n hn y => (show EReal from (outsAt0 m c n hn).2 y)) 8 (fun _ => 0)
    (fun t y => (show EReal from part m c t y)) (fun t h y => first m c t h y) (fun t h y => next m c t h y) t h y

/-- The last point of a run writes the running sum out. -/
theorem last (c : Dev nD) (t : Fin cfg0.N) (h : t.val % 8 = 7) :
    (outsAt0 m c t.val t.isLt).1 = (outsAt0 m c t.val t.isLt).2 := by
  rw [outsAt0_C m c t (by omega) (by omega) h]
  frame_out
  funext y
  pointwise [k0_pay4]

/-- The array the call leaves. -/
theorem final (c : Dev nD) : (dats m 0 c).arrAt 2 (cfgs 0).N = out m c := by
  rw [← held_eq m c]
  refine (dats m 0 c).arrAt_eq_of_covers 2 _ (by decide +kernel) fun t hf y => ?_
  have h := (flush0_2 t).mp hf
  blk_simp
  rw [after0_2, last m c t h]
  refine (total m c t h y).trans ?_
  rw [zero_add]
  pointwise [k0_pay1, held, Products.summedR]
  refine Finset.sum_congr rfl fun s _ => ?_
  blk_point [iblk, idx t, idx ⟨_, Pipeline.run_point_lt_of_flush t h s⟩]

/-- The call and the reference compute the same array. -/
theorem equal : algebraic_QBwdXIdeal_QBwdXReferenceIdeal (hQBwdXIdeal := Gen.facts) (hQBwdXReferenceIdeal := Cert.QBwdXReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.summedR]
      exact Finset.sum_congr rfl fun q _ => (Products.sum_zeros 192 64 (fun x => (show EReal from m ((c : Thread nD τ).loc main_arg0) (ix3 q (i 0) x))) (fun x => (show EReal from m ((c : Thread nD τ).loc main_arg1) (ix3 q (i 1) x)))).symm), (h c).2⟩)
      (Cert.QBwdXReferenceIdeal.Value.run (F := Ideal) m' g')⟩

end Cert.QBwdXIdeal.Call

end
-- ==== Proof.KvProj.lean ====
/-
  The keys and values, head by head.
-/
module

public import proofs.«01_k».proof.Defs
public import proofs.«01_k».proof.Proof.Gen.KvProjIdeal.Value
public import proofs.«01_k».proof.Proof.Gen.KvProjReferenceIdeal.Run
public import proofs.«01_k».proof.Proof.Products

@[expose] public section

set_option maxRecDepth 16384

noncomputable section

namespace Cert.KvProjIdeal.Call

open Idealize.ShloMosaic Idealize.ShloMosaic.TcCoe Idealize.SL.Sem
open Cert.KvProjIdeal Cert.KvProjIdeal.Gen
open Idealize.ShloMosaic.Pipeline (Dat)

variable (m : (ℓ : Loc nD τ sig) → Buf (Elt Ideal) ℓ)

/-- The result. -/
abbrev out (c : Dev nD) : FVec Ideal ⟨3, ![8, 2064, 256]⟩ .f32 :=
  Products.pieces (d := .bf16) (e := .bf16) (m ((c : Thread nD τ).loc main_arg0)) (m ((c : Thread nD τ).loc main_arg1))

/-- The blocks of a grid point. -/
theorem idx : ∀ t : Fin cfg0.N, win0_0.index t = ![0, 0] ∧ win0_1.index t = ![t.val, 0, 0] ∧ win0_2.index t = ![t.val, 0, 0] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.pieces]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_KvProjIdeal_KvProjReferenceIdeal (hKvProjIdeal := Gen.facts) (hKvProjReferenceIdeal := Cert.KvProjReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.pieces]
      exact Finset.sum_congr rfl fun _ _ => mul_comm (G := EReal) _ _), (h c).2⟩)
      (Cert.KvProjReferenceIdeal.Value.run (F := Ideal) m' g')⟩

end Cert.KvProjIdeal.Call

end
-- ==== Proof.KvBwdW.lean ====
/-
  The gradient of the weights of the keys and values, head by head.
-/
module

public import proofs.«01_k».proof.Defs
public import proofs.«01_k».proof.Proof.Gen.KvBwdWIdeal.Value
public import proofs.«01_k».proof.Proof.Gen.KvBwdWReferenceIdeal.Run
public import proofs.«01_k».proof.Proof.Products

@[expose] public section

set_option maxRecDepth 16384

noncomputable section

namespace Cert.KvBwdWIdeal.Call

open Idealize.ShloMosaic Idealize.ShloMosaic.TcCoe Idealize.SL.Sem
open Cert.KvBwdWIdeal Cert.KvBwdWIdeal.Gen
open Idealize.ShloMosaic.Pipeline (Dat)

variable (m : (ℓ : Loc nD τ sig) → Buf (Elt Ideal) ℓ)

/-- The result. -/
abbrev out (c : Dev nD) : FVec Ideal ⟨3, ![8, 256, 256]⟩ .bf16 :=
  Products.piecesL (d := .bf16) (e := .f32) (m ((c : Thread nD τ).loc main_arg0)) (m ((c : Thread nD τ).loc main_arg1))

/-- The blocks of a grid point. -/
theorem idx : ∀ t : Fin cfg0.N, win0_0.index t = ![0, 0] ∧ win0_1.index t = ![t.val, 0, 0] ∧ win0_2.index t = ![t.val, 0, 0] :=
  (by decide +kernel : ∀ t : Fin grid0.N, _)

/-- What a point stores is the result at the place of its block. -/
theorem point (c : Dev nD) (t : Fin cfg0.N) (y) : k0_pay1 (F := Ideal) (iblk m c 0 t) (iblk m c 1 t) y
    = out m c (((cfg0.win 2).blk t).view.emb y) := by
  pointwise [k0_pay1, out, Products.piecesL]
  blk_point [iblk, V, idx t]

/-- The array the call leaves. -/
theorem final (c : Dev nD) : (dats m 0 c).arrAt 2 (cfgs 0).N = out m c := by
  refine (dats m 0 c).arrAt_eq_of_covers 2 _ (by decide +kernel) fun t hf y => ?_
  blk_simp
  rw [after0_2]; frame_out
  exact point m c t y

/-- The call and the reference compute the same array. -/
theorem equal : algebraic_KvBwdWIdeal_KvBwdWReferenceIdeal (hKvBwdWIdeal := Gen.facts) (hKvBwdWReferenceIdeal := Cert.KvBwdWReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.piecesL]
      exact Finset.sum_congr rfl fun _ _ => mul_comm (G := EReal) _ _), (h c).2⟩)
      (Cert.KvBwdWReferenceIdeal.Value.run (F := Ideal) m' g')⟩

end Cert.KvBwdWIdeal.Call

end
-- ==== Proof.KvBwdX.lean ====
/-
  The gradient of the input of the keys' and values' projection, summed over the heads.
-/
module

public import proofs.«01_k».proof.Defs
public import proofs.«01_k».proof.Proof.Gen.KvBwdXIdeal.Value
public import proofs.«01_k».proof.Proof.Gen.KvBwdXReferenceIdeal.Run
public import proofs.«01_k».proof.Proof.Products

@[expose] public section

set_option maxRecDepth 16384

noncomputable section

namespace Cert.KvBwdXIdeal.Call

open Idealize.ShloMosaic Idealize.ShloMosaic.TcCoe Idealize.SL.Sem
open Cert.KvBwdXIdeal Cert.KvBwdXIdeal.Gen
open Idealize.ShloMosaic.Pipeline (Dat)

variable (m : (ℓ : Loc nD τ sig) → Buf (Elt Ideal) ℓ)

/-- The result. -/
abbrev out (c : Dev nD) : FVec Ideal ⟨2, ![2064, 256]⟩ .f32 :=
  Products.summedR (d := .f32) (e := .bf16) (m ((c : Thread nD τ).loc main_arg0)) (m ((c : Thread nD τ).loc main_arg1))

/-- The blocks of a grid point. -/
theorem idx : ∀ t : Fin cfg0.N, win0_0.index t = ![t.val, 0, 0] ∧ win0_1.index t = ![t.val, 0, 0] ∧ win0_2.index t = ![0, 0] :=
  (by decide +kernel : ∀ t : Fin grid0.N, _)

/-- What a point adds to the running sum. -/
abbrev part (c : Dev nD) (t : Fin cfg0.N) : FVec Ideal S2064x256 .f32 := k0_pay1 (F := Ideal) (iblk m c 0 t) (iblk m c 1 t)

/-- The first point of a run leaves its part in the running sum. -/
theorem first (c : Dev nD) (t : Fin cfg0.N) (h : t.val % 8 = 0) (y) :
    (show EReal from (outsAt0 m c t.val t.isLt).2 y) = 0 + (show EReal from part m c t y) := by
  have hN := lt_of_lt_of_eq t.isLt N_0
  rw [outsAt0_A m c t h (by omega) (by omega)]
  frame_out
  rw [zero_add]
  pointwise [k0_pay2]

/-- A later point adds its part to the running sum. -/
theorem next (c : Dev nD) (t : Fin cfg0.N) (h : ¬t.val % 8 = 0) (y) :
    (show EReal from (outsAt0 m c t.val t.isLt).2 y)
      = (show EReal from (outsAt0 m c (t.val - 1) (Nat.lt_of_le_of_lt (Nat.sub_le _ _) t.isLt)).2 y) + (show EReal from part m c t y) := by
  by_cases h7 : t.val % 8 = 7
  · rw [outsAt0_C m c t h (by omega) h7]
    frame_out
    pointwise [k0_pay3]
    exact congrArg (· + (show EReal from part m c t y)) (congrFun (Memref.IsWhole.read_unread (Memref.isWhole_whole cc0_scratch0) _) y)
  · rw [outsAt0_B m c t h (by omega) h7]
    frame_out
    pointwise [k0_pay3]
    exact congrArg (· + (show EReal from part m c t y)) (congrFun (Memref.IsWhole.read_unread (Memref.isWhole_whole cc0_scratch0) _) y)

/-- The last point of a run leaves the run's sum. -/
theorem total (c : Dev nD) (t : Fin cfg0.N) (h : t.val % 8 = 7) (y) :
    (show EReal from (outsAt0 m c t.val t.isLt).2 y)
      = 0 + ∑ s : Fin 8, (show EReal from part m c ⟨8 * (t.val / 8) + s.val, Pipeline.run_point_lt_of_flush t h s⟩ y) :=
  Pipeline.eq_sum_fin_of_reset_step_apply_of_flush (fun n hn y => (show EReal from (outsAt0 m c n hn).2 y)) 8 (fun _ => 0)
    (fun t y => (show EReal from part m c t y)) (fun t h y => first m c t h y) (fun t h y => next m c t h y) t h y

/-- The last point of a run writes the running sum out. -/
theorem last (c : Dev nD) (t : Fin cfg0.N) (h : t.val % 8 = 7) :
    (outsAt0 m c t.val t.isLt).1 = (outsAt0 m c t.val t.isLt).2 := by
  rw [outsAt0_C m c t (by omega) (by omega) h]
  frame_out
  funext y
  pointwise [k0_pay4]

/-- The array the call leaves. -/
theorem final (c : Dev nD) : (dats m 0 c).arrAt 2 (cfgs 0).N = out m c := by
  refine (dats m 0 c).arrAt_eq_of_covers 2 _ (by decide +kernel) fun t hf y => ?_
  have h := (flush0_2 t).mp hf
  blk_simp
  rw [after0_2, last m c t h]
  refine (total m c t h y).trans ?_
  rw [zero_add]
  pointwise [k0_pay1, out, Products.summedR]
  refine Finset.sum_congr rfl fun s _ => ?_
  blk_point [iblk, V, idx t, idx ⟨_, Pipeline.run_point_lt_of_flush t h s⟩]

/-- The call and the reference compute the same array. -/
theorem equal : algebraic_KvBwdXIdeal_KvBwdXReferenceIdeal (hKvBwdXIdeal := Gen.facts) (hKvBwdXReferenceIdeal := Cert.KvBwdXReferenceIdeal.Gen.facts) :=
  fun m g m' g' _ args => ⟨fun c => out m c,
    (θ_run _ _ _).mono (fun _ h c => ⟨(h c).1.trans (final m c), (h c).2⟩) (Value.run_blocks m g),
    (θ_run _ _ _).mono (fun _ h c => ⟨(h c).1.trans (by
      rw [(args c).1, (args c).2]
      funext i
      pointwise [out, Products.summedR]), (h c).2⟩)
      (Cert.KvBwdXReferenceIdeal.Value.run (F := Ideal) m' g')⟩

end Cert.KvBwdXIdeal.Call

end
-- ==== Proof.Blocks.lean ====
/-
  What one point of the grid holds while its body runs: the ten input blocks, named once for every module after
  this one, and the two steps by which the contents the run names are read — a load is a window of a block, a store
  puts a payload over what was there.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.AttnBwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (UR sig nD τ) ℕ

/-- The ten blocks a point reads: a tile of queries, a head's keys and values, the unrotated shared key, the rotary
    tables of the tile's rows and of all the keys, and the tile of the output's gradient. -/
structure Blocks (F : FTy → Type) [FloatOps F] where
  q : Vec F S1x688x256 .f32
  kv : Vec F S1x2064x256 .f32
  kpe : Vec F S2064x128 .f32
  c1 : Vec F S688x128 .f32
  c2 : Vec F S688x128 .f32
  c3 : Vec F S688x128 .f32
  k1 : Vec F S2064x128 .f32
  k2 : Vec F S2064x128 .f32
  k3 : Vec F S2064x128 .f32
  dy : Vec F S688x128 .f32

/-- The staging buffers of the ten inputs, each whole and each at its block. -/
def held (c : Dev nD) (a2 : Memref sig .tc .vmem S1x688x256 .f32) (a3 : Memref sig .tc .vmem S1x2064x256 .f32) (a4 : Memref sig .tc .vmem S2064x128 .f32)
    (a5 a6 a7 : Memref sig .tc .vmem S688x128 .f32) (a8 a9 a10 : Memref sig .tc .vmem S2064x128 .f32) (a11 : Memref sig .tc .vmem S688x128 .f32)
    (X : Blocks F) : sProp 𝕄 :=
  iprop(owns (c : Thread nD τ) a2 fullShare X.q ∗ owns (c : Thread nD τ) a3 fullShare X.kv ∗ owns (c : Thread nD τ) a4 fullShare X.kpe
    ∗ owns (c : Thread nD τ) a5 fullShare X.c1 ∗ owns (c : Thread nD τ) a6 fullShare X.c2 ∗ owns (c : Thread nD τ) a7 fullShare X.c3
    ∗ owns (c : Thread nD τ) a8 fullShare X.k1 ∗ owns (c : Thread nD τ) a9 fullShare X.k2 ∗ owns (c : Thread nD τ) a10 fullShare X.k3
    ∗ owns (c : Thread nD τ) a11 fullShare X.dy)

/-- A whole memref owned at `x` is its points-to at the contents that read `x`. -/
theorem owns_unread (c : Thread nD τ) {sp : Space} {s : Shape} {e : EltTy} {a : Memref sig c.2.kind sp s e} (h : a.IsWhole) (x : s.Idx → Elt F e) :
    (owns c a fullShare x : sProp 𝕄) = (a.view.loc c ↦[a.view.set]{fullShare} h.unread x) := by
  have hx := h.read_unread x
  have h₁ : (owns c a fullShare x : sProp 𝕄) ⊢ (a.view.loc c ↦[a.view.set]{fullShare} h.unread x) := by
    unfold owns
    iintro ⟨%f, %hf, H⟩
    obtain rfl := h.eq_unread hf
    iexact H
  have h₂ : (a.view.loc c ↦[a.view.set]{fullShare} h.unread x : sProp 𝕄) ⊢ owns c a fullShare x := by
    have h₃ : (a.view.loc c ↦[a.view.set]{fullShare} h.unread x : sProp 𝕄) ⊢ owns c a fullShare (a.view.read (Elt F) (h.unread x)) :=
      owns_intro c a fullShare (h.unread x)
    rwa [hx] at h₃
  exact BI.equiv_iff.mp ⟨h₁, h₂⟩

/-- Contents that read `x` own the memref at `x`. -/
theorem owns_of_read (c : Thread nD τ) {sp : Space} {s : Shape} {e : EltTy} (a : Memref sig c.2.kind sp s e) {f : a.view.ty.Contents (Elt F)} {x : s.Idx → Elt F e}
    (h : a.view.read (Elt F) f = x) : (a.view.loc c ↦[a.view.set]{fullShare} f : sProp 𝕄) ⊢ owns c a fullShare x :=
  h ▸ owns_intro c a fullShare f

section Reading

variable {κ : Kind} {sp : Space} {s : Shape} {e : EltTy} {Val : EltTy → Type}

/-- What a view reads after a store over earlier ones. -/
theorem read_store (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- A load is a window of what the view reads. -/
theorem load_window (v : View sig κ sp s e) (f : v.ty.Contents Val) {off size : Fin s.rank → ℕ} (inb : ∀ a, off a + size a ≤ s.size a) :
    v.readAt Val (Rect.unit off size inb).toLoadRect f = window (v.read Val f) off size inb :=
  View.readAt_unit v f inb rfl inb

/-- A store of the whole shape replaces the contents. -/
theorem put_whole {α : Type} (x : s.Idx → α) {off : Fin s.rank → ℕ} (h : ∀ a, off a = 0) (w : s.Idx → α) : put x off s.size w = w := by
  funext y
  have hin : ∀ a, off a ≤ y a ∧ (y a : ℕ) < off a + s.size a := fun a => by
    have := (y a).isLt
    rw [h a]; omega
  refine (dif_pos hin).trans (congrArg w (funext fun a => Fin.ext ?_))
  show (y a : ℕ) - off a = y a
  rw [h a]; omega

end Reading

/-- Two stores on each of the two runs of rows, side by side, cover a tile of the queries' gradient: what was under
    them does not show. -/
theorem put_four {α : Type} (b b' : S1x688x256.Idx → α) (w₁ w₂ : ((a : Fin 3) → Fin (S1x352x128.size a)) → α) (w₃ w₄ : ((a : Fin 3) → Fin (S1x336x128.size a)) → α) :
    put (put (put (put b ![0, 0, 0] S1x352x128.size w₁) ![0, 0, 128] S1x352x128.size w₂) ![0, 352, 0] S1x336x128.size w₃) ![0, 352, 128] S1x336x128.size w₄
      = put (put (put (put b' ![0, 0, 0] S1x352x128.size w₁) ![0, 0, 128] S1x352x128.size w₂) ![0, 352, 0] S1x336x128.size w₃) ![0, 352, 128] S1x336x128.size w₄ := by
  funext y
  have h0 : (y 0 : ℕ) < 1 := (y 0).isLt
  have h1 : (y 1 : ℕ) < 688 := (y 1).isLt
  have h2 : (y 2 : ℕ) < 256 := (y 2).isLt
  unfold put
  split_ifs with ha hb hc hd
  · rfl
  · rfl
  · rfl
  · rfl
  · exfalso
    simp [Fin.forall_fin_succ] at ha hb hc hd
    omega

end Cert.KernelIdeal.AttnBwd

end
-- ==== Proof.FirstTile.lean ====
/-
  The body at the first tile of queries: what it leaves in its three output blocks, as stores of the printed payloads
  over what was there, and the run that leaves it. The tile is worked in two runs of rows, 0–351 against the first
  512 keys and 352–687 against the first 768.
-/
module

public import proofs.«01_k».proof.Proof.Blocks

@[expose] public section

set_option maxRecDepth 16384

noncomputable section

namespace Cert.KernelIdeal.AttnBwd.FirstTile

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (UR sig nD τ) ℕ

/-! ## What the tile computes -/

variable (X : Blocks F)

/-- The keys, the values and the rotated shared key, as far as the tile's last row looks. -/
def keys : FVec F S768x128 .bf16 := k0_pay9 (window X.kv ![0, 0, 0] S1x768x128.size inb_S1x2064x256_S1x768x128_0_0_0)
def vals : FVec F S768x128 .bf16 := k0_pay10 (window X.kv ![0, 0, 128] S1x768x128.size inb_S1x2064x256_S1x768x128_0_0_128)
def krot : FVec F S768x128 .bf16 :=
  k0_pay11 (window X.kpe ![0, 0] S768x128.size inb_S2064x128_S768x128_0_0) (window X.k1 ![0, 0] S768x128.size inb_S2064x128_S768x128_0_0)
    (window X.k2 ![0, 0] S768x128.size inb_S2064x128_S768x128_0_0) (window X.k3 ![0, 0] S768x128.size inb_S2064x128_S768x128_0_0)

/-- The same for the tile's first rows. -/
def keysA : FVec F S512x128 .bf16 := k0_pay12 (window X.kv ![0, 0, 0] S1x768x128.size inb_S1x2064x256_S1x768x128_0_0_0)
def krotA : FVec F S512x128 .bf16 :=
  k0_pay13 (window X.kpe ![0, 0] S768x128.size inb_S2064x128_S768x128_0_0) (window X.k1 ![0, 0] S768x128.size inb_S2064x128_S768x128_0_0)
    (window X.k2 ![0, 0] S768x128.size inb_S2064x128_S768x128_0_0) (window X.k3 ![0, 0] S768x128.size inb_S2064x128_S768x128_0_0)
def valsA : FVec F S512x128 .bf16 := k0_pay14 (window X.kv ![0, 0, 128] S1x768x128.size inb_S1x2064x256_S1x768x128_0_0_128)

/-- The first rows: queries, rotated queries, scaled scores, gradient of the scores, weights before their
    normalisation, normalised gradient of the output. -/
def qA : FVec F S352x128 .bf16 := k0_pay15 (window X.q ![0, 0, 0] S1x352x128.size inb_S1x688x256_S1x352x128_0_0_0)
def qpeA : FVec F S352x128 .f32 := k0_pay16 (window X.q ![0, 0, 128] S1x352x128.size inb_S1x688x256_S1x352x128_0_0_128)
def c1A : FVec F S352x128 .f32 := k0_pay17 (window X.c1 ![0, 0] S352x128.size inb_S688x128_S352x128_0_0)
def c2A : FVec F S352x128 .f32 := k0_pay18 (window X.c2 ![0, 0] S352x128.size inb_S688x128_S352x128_0_0)
def qrotA : FVec F S352x128 .bf16 := k0_pay19 (qpeA X) (c1A X) (c2A X) (window X.c3 ![0, 0] S352x128.size inb_S688x128_S352x128_0_0)
def scoreA : FVec F S352x512 .f32 :=
  k0_pay21 (keysA X) (krotA X) (qA X) (qpeA X) (c1A X) (c2A X) (window X.c3 ![0, 0] S352x128.size inb_S688x128_S352x128_0_0)
def dsA : FVec F S352x512 .bf16 := k0_pay24 (valsA X) k0_pay20 (scoreA X) (window X.dy ![0, 0] S352x128.size inb_S688x128_S352x128_0_0)
def wA : FVec F S352x512 .bf16 := k0_pay25 k0_pay20 (scoreA X)
def doA : FVec F S352x128 .bf16 := k0_pay26 k0_pay20 (scoreA X) (window X.dy ![0, 0] S352x128.size inb_S688x128_S352x128_0_0)

/-- The last rows: the same. -/
def qB : FVec F S336x128 .bf16 := k0_pay36 (window X.q ![0, 352, 0] S1x336x128.size inb_S1x688x256_S1x336x128_0_352_0)
def qrotB : FVec F S336x128 .bf16 :=
  k0_pay37 (window X.q ![0, 352, 128] S1x336x128.size inb_S1x688x256_S1x336x128_0_352_128) (window X.c1 ![352, 0] S336x128.size inb_S688x128_S336x128_352_0)
    (window X.c2 ![352, 0] S336x128.size inb_S688x128_S336x128_352_0) (window X.c3 ![352, 0] S336x128.size inb_S688x128_S336x128_352_0)
def scoreB : FVec F S336x768 .f32 :=
  k0_pay38 (keys X) (krot X) (window X.q ![0, 352, 0] S1x336x128.size inb_S1x688x256_S1x336x128_0_352_0)
    (window X.q ![0, 352, 128] S1x336x128.size inb_S1x688x256_S1x336x128_0_352_128) (window X.c1 ![352, 0] S336x128.size inb_S688x128_S336x128_352_0)
    (window X.c2 ![352, 0] S336x128.size inb_S688x128_S336x128_352_0) (window X.c3 ![352, 0] S336x128.size inb_S688x128_S336x128_352_0)
def dsB : FVec F S336x768 .bf16 :=
  k0_pay44 (vals X) (scoreB X) k0_pay40 k0_pay41 0#32 (window X.dy ![352, 0] S336x128.size inb_S688x128_S336x128_352_0)
def wB : FVec F S336x768 .bf16 := k0_pay45 (scoreB X) k0_pay40 k0_pay41 0#32
def doB : FVec F S336x128 .bf16 :=
  k0_pay46 (k0_pay43 (scoreB X) k0_pay40 k0_pay41 0#32) (window X.dy ![352, 0] S336x128.size inb_S688x128_S336x128_352_0)

/-- The four stores of the queries' gradient. -/
def dqPe1 : FVec F S1x352x128 .bf16 :=
  k0_pay31 (k0_pay28 (krotA X) (valsA X) k0_pay20 (scoreA X) (window X.dy ![0, 0] S352x128.size inb_S688x128_S352x128_0_0))
    (k0_pay29 (window X.c1 ![0, 0] S352x128.size inb_S688x128_S352x128_0_0)) (k0_pay30 (window X.c2 ![0, 0] S352x128.size inb_S688x128_S352x128_0_0))
    (window X.c3 ![0, 0] S352x128.size inb_S688x128_S352x128_0_0)
def dqNope1 : FVec F S1x352x128 .bf16 :=
  k0_pay27 (keysA X) (valsA X) k0_pay20 (scoreA X) (window X.dy ![0, 0] S352x128.size inb_S688x128_S352x128_0_0)
def dqNope2 : FVec F S1x336x128 .bf16 := k0_pay47 (keys X) (dsB X)
def dqPe2 : FVec F S1x336x128 .bf16 :=
  k0_pay48 (krot X) (dsB X) (window X.c1 ![352, 0] S336x128.size inb_S688x128_S336x128_352_0) (window X.c2 ![352, 0] S336x128.size inb_S688x128_S336x128_352_0)
    (window X.c3 ![352, 0] S336x128.size inb_S688x128_S336x128_352_0)

/-- The queries' gradient of the tile, stored over `b`. -/
def dq (b : Vec F S1x688x256 .bf16) : Vec F S1x688x256 .bf16 :=
  put (put (put (put b ![0, 0, 0] S1x352x128.size (dqNope1 X)) ![0, 0, 128] S1x352x128.size (dqPe1 X))
    ![0, 352, 0] S1x336x128.size (dqNope2 X)) ![0, 352, 128] S1x336x128.size (dqPe2 X)

/-- The keys' and values' gradient after the tile's first rows, from what it was before, the keys' half first. -/
def dkvA1 (b : Vec F S1x2064x256 .f32) : Vec F S1x2064x256 .f32 :=
  put b ![0, 0, 0] S1x512x128.size (k0_pay32 (qA X) (dsA X) (window b ![0, 0, 0] S1x512x128.size inb_S1x2064x256_S1x512x128_0_0_0))
def dkvA (b : Vec F S1x2064x256 .f32) : Vec F S1x2064x256 .f32 :=
  put (dkvA1 X b) ![0, 0, 128] S1x512x128.size (k0_pay33 (wA X) (doA X) (window (dkvA1 X b) ![0, 0, 128] S1x512x128.size inb_S1x2064x256_S1x512x128_0_0_128))
/-- What the last rows make of it, the keys' half first. -/
def dkvB1 (b : Vec F S1x2064x256 .f32) : Vec F S1x2064x256 .f32 :=
  put b ![0, 0, 0] S1x768x128.size (k0_pay49 (qB X) (dsB X) (window b ![0, 0, 0] S1x768x128.size inb_S1x2064x256_S1x768x128_0_0_0))
def dkvB (b : Vec F S1x2064x256 .f32) : Vec F S1x2064x256 .f32 :=
  put (dkvB1 X b) ![0, 0, 128] S1x768x128.size (k0_pay3 (wB X) (doB X) (window (dkvB1 X b) ![0, 0, 128] S1x768x128.size inb_S1x2064x256_S1x768x128_0_0_128))
def dkv (b : Vec F S1x2064x256 .f32) : Vec F S1x2064x256 .f32 := dkvB X (dkvA X b)

/-- The shared key's gradient after the tile's first rows, and after its last. -/
def dkpeA (b : Vec F S1x2064x128 .f32) : Vec F S1x2064x128 .f32 :=
  put b ![0, 0, 0] S1x512x128.size (k0_pay35 (k0_pay34 (qrotA X) (dsA X) (window b ![0, 0, 0] S1x512x128.size inb_S1x2064x128_S1x512x128_0_0_0)))
def dkpe (b : Vec F S1x2064x128 .f32) : Vec F S1x2064x128 .f32 :=
  put (dkpeA X b) ![0, 0, 0] S1x768x128.size
    (k0_pay4 (qrotB X) (dsB X) (window (dkpeA X b) ![0, 0, 0] S1x768x128.size inb_S1x2064x128_S1x768x128_0_0_0))

/-- The four stores of the queries' gradient cover its block, so nothing of `b` is left. -/
theorem dq_base (b b' : Vec F S1x688x256 .bf16) : dq X b = dq X b' := by
  unfold dq
  exact put_four b b' _ _ _ _

/-! ## The run -/

set_option maxHeartbeats 1600000 in
/-- The body at a point of the first tile: from the ten input blocks and the two gradients it adds to, it leaves the
    inputs as they were and the three blocks above. -/
theorem run (c : Dev nD) (i : grid0.Coords) (arg2 : Memref sig .tc .vmem S1x688x256 .f32) (harg2 : arg2.IsWhole) (arg3 : Memref sig .tc .vmem S1x2064x256 .f32) (harg3 : arg3.IsWhole)
    (arg4 : Memref sig .tc .vmem S2064x128 .f32) (harg4 : arg4.IsWhole) (arg5 : Memref sig .tc .vmem S688x128 .f32) (harg5 : arg5.IsWhole) (arg6 : Memref sig .tc .vmem S688x128 .f32) (harg6 : arg6.IsWhole)
    (arg7 : Memref sig .tc .vmem S688x128 .f32) (harg7 : arg7.IsWhole) (arg8 : Memref sig .tc .vmem S2064x128 .f32) (harg8 : arg8.IsWhole) (arg9 : Memref sig .tc .vmem S2064x128 .f32) (harg9 : arg9.IsWhole)
    (arg10 : Memref sig .tc .vmem S2064x128 .f32) (harg10 : arg10.IsWhole) (arg11 : Memref sig .tc .vmem S688x128 .f32) (harg11 : arg11.IsWhole) (arg12 : Memref sig .tc .vmem S1x688x256 .bf16) (harg12 : arg12.IsWhole)
    (arg13 : Memref sig .tc .vmem S1x2064x256 .f32) (harg13 : arg13.IsWhole) (arg14 : Memref sig .tc .vmem S1x2064x128 .f32) (harg14 : arg14.IsWhole)
    (hc0 : (k0_cond1 i = 1#1)) (hc1 : (k0_cond2 i = 1#1)) (hc2 : ¬ (k0_cond3 i = 1#1)) (hc3 : ¬ (k0_cond4 i = 1#1))
    (d : Vec F S1x688x256 .bf16) (b : Vec F S1x2064x256 .f32) (p : Vec F S1x2064x128 .f32) (E : Set ℕ) (K : PUnit → sProp 𝕄) :
    iprop(held c arg2 arg3 arg4 arg5 arg6 arg7 arg8 arg9 arg10 arg11 X ∗ owns (c : Thread nD τ) arg12 fullShare d
        ∗ owns (c : Thread nD τ) arg13 fullShare b ∗ owns (c : Thread nD τ) arg14 fullShare p
        ∗ (iprop(held c arg2 arg3 arg4 arg5 arg6 arg7 arg8 arg9 arg10 arg11 X ∗ owns (c : Thread nD τ) arg12 fullShare (dq X d)
            ∗ owns (c : Thread nD τ) arg13 fullShare (dkv X k0_pay1) ∗ owns (c : Thread nD τ) arg14 fullShare (dkpe X k0_pay2)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton]
  unfold held
  rw [owns_unread _ harg2 X.q, owns_unread _ harg3 X.kv, owns_unread _ harg4 X.kpe, owns_unread _ harg5 X.c1, owns_unread _ harg6 X.c2, owns_unread _ harg7 X.c3,
    owns_unread _ harg8 X.k1, owns_unread _ harg9 X.k2, owns_unread _ harg10 X.k3, owns_unread _ harg11 X.dy, owns_unread _ harg12 d, owns_unread _ harg13 b,
    owns_unread _ harg14 p]
  iintro ⟨⟨H0, H1, H2, H3, H4, H5, H6, H7, H8, H9⟩, H10, H11, H12, Hk⟩
  sl_exec (disch := first | sl_exact hc0 | sl_exact hc1 | sl_exact hc2 | sl_exact hc3)
  sl_step
  iapply Hk
  iframe
  have e₁ : ∀ x : Vec F S1x2064x256 .f32, put x ![0, 0, 0] ![1, 2064, 256] k0_pay1 = k0_pay1 := fun x => put_whole x (by decide) _
  have e₂ : ∀ x : Vec F S1x2064x128 .f32, put x ![0, 0, 0] ![1, 2064, 128] k0_pay2 = k0_pay2 := fun x => put_whole x (by decide) _
  isplitl [H10]
  · iapply (owns_of_read (c : Thread nD τ) arg12 ?_)
    rotate_left
    · iexact H10
    · delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17 run.sl.r_18 run.sl.r_19 run.sl.r_20 run.sl.r_21 run.sl.r_22 run.sl.r_23 run.sl.r_24 run.sl.r_25 run.sl.r_26
      simp only [read_store, load_window, View.writes_nil, Memref.IsWhole.read_unread]
      rfl
  isplitl [H11]
  · iapply (owns_of_read (c : Thread nD τ) arg13 ?_)
    rotate_left
    · iexact H11
    · delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17 run.sl.r_18 run.sl.r_19 run.sl.r_20 run.sl.r_21 run.sl.r_22 run.sl.r_23 run.sl.r_24 run.sl.r_25 run.sl.r_26 run.sl.v273 run.sl.H11_4 run.sl.v266 run.sl.H11_3 run.sl.H11_2 run.sl.H11_1 run.sl.v148 run.sl.v141 View.readCov
      simp only [read_store, load_window, View.writes_nil, Memref.IsWhole.read_unread, e₁]
      rfl
  · iapply (owns_of_read (c : Thread nD τ) arg14 ?_)
    rotate_left
    · iexact H12
    · delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17 run.sl.r_18 run.sl.r_19 run.sl.r_20 run.sl.r_21 run.sl.r_22 run.sl.r_23 run.sl.r_24 run.sl.r_25 run.sl.r_26 run.sl.v280 run.sl.H12_2 run.sl.H12_1 run.sl.v155 View.readCov
      simp only [read_store, load_window, View.writes_nil, Memref.IsWhole.read_unread, e₂]
      rfl

end Cert.KernelIdeal.AttnBwd.FirstTile

end
-- ==== Proof.SecondTile.lean ====
/-
  The body at the second tile of queries: what it leaves in its three output blocks, as stores of the printed payloads
  over what was there, and the run that leaves it. The tile is worked in two runs of rows, 0–351 against the first
  1152 keys and 352–687 against the first 1536.
-/
module

public import proofs.«01_k».proof.Proof.Blocks

@[expose] public section

set_option maxRecDepth 16384

noncomputable section

namespace Cert.KernelIdeal.AttnBwd.SecondTile

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (UR sig nD τ) ℕ

/-! ## What the tile computes -/

variable (X : Blocks F)

/-- The keys, the values and the rotated shared key, as far as the tile's last row looks. -/
def keys : FVec F S1536x128 .bf16 := k0_pay50 (window X.kv ![0, 0, 0] S1x1536x128.size inb_S1x2064x256_S1x1536x128_0_0_0)
def vals : FVec F S1536x128 .bf16 := k0_pay51 (window X.kv ![0, 0, 128] S1x1536x128.size inb_S1x2064x256_S1x1536x128_0_0_128)
def krot : FVec F S1536x128 .bf16 :=
  k0_pay52 (window X.kpe ![0, 0] S1536x128.size inb_S2064x128_S1536x128_0_0) (window X.k1 ![0, 0] S1536x128.size inb_S2064x128_S1536x128_0_0)
    (window X.k2 ![0, 0] S1536x128.size inb_S2064x128_S1536x128_0_0) (window X.k3 ![0, 0] S1536x128.size inb_S2064x128_S1536x128_0_0)

/-- The same for the tile's first rows. -/
def keysA : FVec F S1152x128 .bf16 := k0_pay53 (window X.kv ![0, 0, 0] S1x1536x128.size inb_S1x2064x256_S1x1536x128_0_0_0)
def krotA : FVec F S1152x128 .bf16 :=
  k0_pay54 (window X.kpe ![0, 0] S1536x128.size inb_S2064x128_S1536x128_0_0) (window X.k1 ![0, 0] S1536x128.size inb_S2064x128_S1536x128_0_0)
    (window X.k2 ![0, 0] S1536x128.size inb_S2064x128_S1536x128_0_0) (window X.k3 ![0, 0] S1536x128.size inb_S2064x128_S1536x128_0_0)
def valsA : FVec F S1152x128 .bf16 := k0_pay55 (window X.kv ![0, 0, 128] S1x1536x128.size inb_S1x2064x256_S1x1536x128_0_0_128)

/-- The first rows: queries, rotated queries, scaled scores, gradient of the scores, weights before their
    normalisation, normalised gradient of the output. -/
def qA : FVec F S352x128 .bf16 := k0_pay56 (window X.q ![0, 0, 0] S1x352x128.size inb_S1x688x256_S1x352x128_0_0_0)
def qpeA : FVec F S352x128 .f32 := k0_pay57 (window X.q ![0, 0, 128] S1x352x128.size inb_S1x688x256_S1x352x128_0_0_128)
def c1A : FVec F S352x128 .f32 := k0_pay58 (window X.c1 ![0, 0] S352x128.size inb_S688x128_S352x128_0_0)
def c2A : FVec F S352x128 .f32 := k0_pay59 (window X.c2 ![0, 0] S352x128.size inb_S688x128_S352x128_0_0)
def qrotA : FVec F S352x128 .bf16 := k0_pay60 (qpeA X) (c1A X) (c2A X) (window X.c3 ![0, 0] S352x128.size inb_S688x128_S352x128_0_0)
def scoreA : FVec F S352x1152 .f32 :=
  k0_pay62 (keysA X) (krotA X) (qA X) (qpeA X) (c1A X) (c2A X) (window X.c3 ![0, 0] S352x128.size inb_S688x128_S352x128_0_0)
def dsA : FVec F S352x1152 .bf16 := k0_pay65 (valsA X) k0_pay61 (scoreA X) (window X.dy ![0, 0] S352x128.size inb_S688x128_S352x128_0_0)
def wA : FVec F S352x1152 .bf16 := k0_pay66 k0_pay61 (scoreA X)
def doA : FVec F S352x128 .bf16 := k0_pay67 k0_pay61 (scoreA X) (window X.dy ![0, 0] S352x128.size inb_S688x128_S352x128_0_0)

/-- The last rows: the same. -/
def qB : FVec F S336x128 .bf16 := k0_pay77 (window X.q ![0, 352, 0] S1x336x128.size inb_S1x688x256_S1x336x128_0_352_0)
def qrotB : FVec F S336x128 .bf16 :=
  k0_pay78 (window X.q ![0, 352, 128] S1x336x128.size inb_S1x688x256_S1x336x128_0_352_128) (window X.c1 ![352, 0] S336x128.size inb_S688x128_S336x128_352_0)
    (window X.c2 ![352, 0] S336x128.size inb_S688x128_S336x128_352_0) (window X.c3 ![352, 0] S336x128.size inb_S688x128_S336x128_352_0)
def scoreB : FVec F S336x1536 .f32 :=
  k0_pay79 (keys X) (krot X) (window X.q ![0, 352, 0] S1x336x128.size inb_S1x688x256_S1x336x128_0_352_0)
    (window X.q ![0, 352, 128] S1x336x128.size inb_S1x688x256_S1x336x128_0_352_128) (window X.c1 ![352, 0] S336x128.size inb_S688x128_S336x128_352_0)
    (window X.c2 ![352, 0] S336x128.size inb_S688x128_S336x128_352_0) (window X.c3 ![352, 0] S336x128.size inb_S688x128_S336x128_352_0)
def dsB : FVec F S336x1536 .bf16 :=
  k0_pay85 (vals X) (scoreB X) k0_pay81 k0_pay82 0#32 (window X.dy ![352, 0] S336x128.size inb_S688x128_S336x128_352_0)
def wB : FVec F S336x1536 .bf16 := k0_pay86 (scoreB X) k0_pay81 k0_pay82 0#32
def doB : FVec F S336x128 .bf16 :=
  k0_pay87 (k0_pay84 (scoreB X) k0_pay81 k0_pay82 0#32) (window X.dy ![352, 0] S336x128.size inb_S688x128_S336x128_352_0)

/-- The four stores of the queries' gradient. -/
def dqPe1 : FVec F S1x352x128 .bf16 :=
  k0_pay72 (k0_pay69 (krotA X) (valsA X) k0_pay61 (scoreA X) (window X.dy ![0, 0] S352x128.size inb_S688x128_S352x128_0_0))
    (k0_pay70 (window X.c1 ![0, 0] S352x128.size inb_S688x128_S352x128_0_0)) (k0_pay71 (window X.c2 ![0, 0] S352x128.size inb_S688x128_S352x128_0_0))
    (window X.c3 ![0, 0] S352x128.size inb_S688x128_S352x128_0_0)
def dqNope1 : FVec F S1x352x128 .bf16 :=
  k0_pay68 (keysA X) (valsA X) k0_pay61 (scoreA X) (window X.dy ![0, 0] S352x128.size inb_S688x128_S352x128_0_0)
def dqNope2 : FVec F S1x336x128 .bf16 := k0_pay88 (keys X) (dsB X)
def dqPe2 : FVec F S1x336x128 .bf16 :=
  k0_pay89 (krot X) (dsB X) (window X.c1 ![352, 0] S336x128.size inb_S688x128_S336x128_352_0) (window X.c2 ![352, 0] S336x128.size inb_S688x128_S336x128_352_0)
    (window X.c3 ![352, 0] S336x128.size inb_S688x128_S336x128_352_0)

/-- The queries' gradient of the tile, stored over `b`. -/
def dq (b : Vec F S1x688x256 .bf16) : Vec F S1x688x256 .bf16 :=
  put (put (put (put b ![0, 0, 0] S1x352x128.size (dqNope1 X)) ![0, 0, 128] S1x352x128.size (dqPe1 X))
    ![0, 352, 0] S1x336x128.size (dqNope2 X)) ![0, 352, 128] S1x336x128.size (dqPe2 X)

/-- The keys' and values' gradient after the tile's first rows, from what it was before, the keys' half first. -/
def dkvA1 (b : Vec F S1x2064x256 .f32) : Vec F S1x2064x256 .f32 :=
  put b ![0, 0, 0] S1x1152x128.size (k0_pay73 (qA X) (dsA X) (window b ![0, 0, 0] S1x1152x128.size inb_S1x2064x256_S1x1152x128_0_0_0))
def dkvA (b : Vec F S1x2064x256 .f32) : Vec F S1x2064x256 .f32 :=
  put (dkvA1 X b) ![0, 0, 128] S1x1152x128.size (k0_pay74 (wA X) (doA X) (window b ![0, 0, 128] S1x1152x128.size inb_S1x2064x256_S1x1152x128_0_0_128))
/-- What the last rows make of it, the keys' half first. -/
def dkvB1 (b : Vec F S1x2064x256 .f32) : Vec F S1x2064x256 .f32 :=
  put b ![0, 0, 0] S1x1536x128.size (k0_pay90 (qB X) (dsB X) (window b ![0, 0, 0] S1x1536x128.size inb_S1x2064x256_S1x1536x128_0_0_0))
def dkvB (b : Vec F S1x2064x256 .f32) : Vec F S1x2064x256 .f32 :=
  put (dkvB1 X b) ![0, 0, 128] S1x1536x128.size (k0_pay5 (wB X) (doB X) (window (dkvB1 X b) ![0, 0, 128] S1x1536x128.size inb_S1x2064x256_S1x1536x128_0_0_128))
def dkv (b : Vec F S1x2064x256 .f32) : Vec F S1x2064x256 .f32 := dkvB X (dkvA X b)

/-- The shared key's gradient after the tile's first rows, and after its last. -/
def dkpeA (b : Vec F S1x2064x128 .f32) : Vec F S1x2064x128 .f32 :=
  put b ![0, 0, 0] S1x1152x128.size (k0_pay76 (k0_pay75 (qrotA X) (dsA X) (window b ![0, 0, 0] S1x1152x128.size inb_S1x2064x128_S1x1152x128_0_0_0)))
def dkpe (b : Vec F S1x2064x128 .f32) : Vec F S1x2064x128 .f32 :=
  put (dkpeA X b) ![0, 0, 0] S1x1536x128.size
    (k0_pay6 (qrotB X) (dsB X) (window (dkpeA X b) ![0, 0, 0] S1x1536x128.size inb_S1x2064x128_S1x1536x128_0_0_0))

/-- The four stores of the queries' gradient cover its block, so nothing of `b` is left. -/
theorem dq_base (b b' : Vec F S1x688x256 .bf16) : dq X b = dq X b' := by
  unfold dq
  exact put_four b b' _ _ _ _

/-! ## The run -/

set_option maxHeartbeats 1600000 in
/-- The body at a point of the second tile: from the ten input blocks and the two gradients it adds to, it leaves the
    inputs as they were and the three blocks above. -/
theorem run (c : Dev nD) (i : grid0.Coords) (arg2 : Memref sig .tc .vmem S1x688x256 .f32) (harg2 : arg2.IsWhole) (arg3 : Memref sig .tc .vmem S1x2064x256 .f32) (harg3 : arg3.IsWhole)
    (arg4 : Memref sig .tc .vmem S2064x128 .f32) (harg4 : arg4.IsWhole) (arg5 : Memref sig .tc .vmem S688x128 .f32) (harg5 : arg5.IsWhole) (arg6 : Memref sig .tc .vmem S688x128 .f32) (harg6 : arg6.IsWhole)
    (arg7 : Memref sig .tc .vmem S688x128 .f32) (harg7 : arg7.IsWhole) (arg8 : Memref sig .tc .vmem S2064x128 .f32) (harg8 : arg8.IsWhole) (arg9 : Memref sig .tc .vmem S2064x128 .f32) (harg9 : arg9.IsWhole)
    (arg10 : Memref sig .tc .vmem S2064x128 .f32) (harg10 : arg10.IsWhole) (arg11 : Memref sig .tc .vmem S688x128 .f32) (harg11 : arg11.IsWhole) (arg12 : Memref sig .tc .vmem S1x688x256 .bf16) (harg12 : arg12.IsWhole)
    (arg13 : Memref sig .tc .vmem S1x2064x256 .f32) (harg13 : arg13.IsWhole) (arg14 : Memref sig .tc .vmem S1x2064x128 .f32) (harg14 : arg14.IsWhole)
    (hc0 : ¬ (k0_cond1 i = 1#1)) (hc1 : ¬ (k0_cond2 i = 1#1)) (hc2 : (k0_cond3 i = 1#1)) (hc3 : ¬ (k0_cond4 i = 1#1))
    (d : Vec F S1x688x256 .bf16) (b : Vec F S1x2064x256 .f32) (p : Vec F S1x2064x128 .f32) (E : Set ℕ) (K : PUnit → sProp 𝕄) :
    iprop(held c arg2 arg3 arg4 arg5 arg6 arg7 arg8 arg9 arg10 arg11 X ∗ owns (c : Thread nD τ) arg12 fullShare d
        ∗ owns (c : Thread nD τ) arg13 fullShare b ∗ owns (c : Thread nD τ) arg14 fullShare p
        ∗ (iprop(held c arg2 arg3 arg4 arg5 arg6 arg7 arg8 arg9 arg10 arg11 X ∗ owns (c : Thread nD τ) arg12 fullShare (dq X d)
            ∗ owns (c : Thread nD τ) arg13 fullShare (dkv X b) ∗ owns (c : Thread nD τ) arg14 fullShare (dkpe X p)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part8_eq_skeleton, k0_part9_eq_skeleton, k0_part10_eq_skeleton, k0_part11_eq_skeleton, k0_part12_eq_skeleton, k0_part13_eq_skeleton, k0_part14_eq_skeleton]
  unfold held
  rw [owns_unread _ harg2 X.q, owns_unread _ harg3 X.kv, owns_unread _ harg4 X.kpe, owns_unread _ harg5 X.c1, owns_unread _ harg6 X.c2, owns_unread _ harg7 X.c3,
    owns_unread _ harg8 X.k1, owns_unread _ harg9 X.k2, owns_unread _ harg10 X.k3, owns_unread _ harg11 X.dy, owns_unread _ harg12 d, owns_unread _ harg13 b,
    owns_unread _ harg14 p]
  iintro ⟨⟨H0, H1, H2, H3, H4, H5, H6, H7, H8, H9⟩, H10, H11, H12, Hk⟩
  sl_exec (disch := first | sl_exact hc0 | sl_exact hc1 | sl_exact hc2 | sl_exact hc3)
  sl_step
  iapply Hk
  iframe
  isplitl [H10]
  · iapply (owns_of_read (c : Thread nD τ) arg12 ?_)
    rotate_left
    · iexact H10
    · delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17 run.sl.r_18 run.sl.r_19 run.sl.r_20 run.sl.r_21 run.sl.r_22 run.sl.r_23 run.sl.r_24 run.sl.r_25 run.sl.r_26
      simp only [read_store, load_window, View.writes_nil, Memref.IsWhole.read_unread]
      rfl
  isplitl [H11]
  · iapply (owns_of_read (c : Thread nD τ) arg13 ?_)
    rotate_left
    · iexact H11
    · delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17 run.sl.r_18 run.sl.r_19 run.sl.r_20 run.sl.r_21 run.sl.r_22 run.sl.r_23 run.sl.r_24 run.sl.r_25 run.sl.r_26 run.sl.v273 run.sl.H11_3 run.sl.v266 run.sl.H11_2 run.sl.v148
      simp only [read_store, load_window, View.writes_nil, Memref.IsWhole.read_unread]
      rfl
  · iapply (owns_of_read (c : Thread nD τ) arg14 ?_)
    rotate_left
    · iexact H12
    · delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17 run.sl.r_18 run.sl.r_19 run.sl.r_20 run.sl.r_21 run.sl.r_22 run.sl.r_23 run.sl.r_24 run.sl.r_25 run.sl.r_26 run.sl.v280 run.sl.H12_1
      simp only [read_store, load_window, View.writes_nil, Memref.IsWhole.read_unread]
      rfl

end Cert.KernelIdeal.AttnBwd.SecondTile

end
-- ==== Proof.ThirdTile.lean ====
/-
  The body at the third tile of queries: what it leaves in its three output blocks, as stores of the printed payloads
  over what was there, and the run that leaves it. The tile is worked in two runs of rows, 0–351 against the first
  1792 keys and 352–687 against the first 2064.
-/
module

public import proofs.«01_k».proof.Proof.Blocks

@[expose] public section

set_option maxRecDepth 16384

noncomputable section

namespace Cert.KernelIdeal.AttnBwd.ThirdTile

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (UR sig nD τ) ℕ

/-! ## What the tile computes -/

variable (X : Blocks F)

/-- The keys, the values and the rotated shared key, as far as the tile's last row looks. -/
def keys : FVec F S2064x128 .bf16 := k0_pay91 (window X.kv ![0, 0, 0] S1x2064x128.size inb_S1x2064x256_S1x2064x128_0_0_0)
def vals : FVec F S2064x128 .bf16 := k0_pay92 (window X.kv ![0, 0, 128] S1x2064x128.size inb_S1x2064x256_S1x2064x128_0_0_128)
def krot : FVec F S2064x128 .bf16 :=
  k0_pay93 (window X.kpe ![0, 0] S2064x128.size inb_S2064x128_S2064x128_0_0) (window X.k1 ![0, 0] S2064x128.size inb_S2064x128_S2064x128_0_0)
    (window X.k2 ![0, 0] S2064x128.size inb_S2064x128_S2064x128_0_0) (window X.k3 ![0, 0] S2064x128.size inb_S2064x128_S2064x128_0_0)

/-- The same for the tile's first rows. -/
def keysA : FVec F S1792x128 .bf16 := k0_pay94 (window X.kv ![0, 0, 0] S1x2064x128.size inb_S1x2064x256_S1x2064x128_0_0_0)
def krotA : FVec F S1792x128 .bf16 :=
  k0_pay95 (window X.kpe ![0, 0] S2064x128.size inb_S2064x128_S2064x128_0_0) (window X.k1 ![0, 0] S2064x128.size inb_S2064x128_S2064x128_0_0)
    (window X.k2 ![0, 0] S2064x128.size inb_S2064x128_S2064x128_0_0) (window X.k3 ![0, 0] S2064x128.size inb_S2064x128_S2064x128_0_0)
def valsA : FVec F S1792x128 .bf16 := k0_pay96 (window X.kv ![0, 0, 128] S1x2064x128.size inb_S1x2064x256_S1x2064x128_0_0_128)

/-- The first rows: queries, rotated queries, scaled scores, gradient of the scores, weights before their
    normalisation, normalised gradient of the output. -/
def qA : FVec F S352x128 .bf16 := k0_pay97 (window X.q ![0, 0, 0] S1x352x128.size inb_S1x688x256_S1x352x128_0_0_0)
def qpeA : FVec F S352x128 .f32 := k0_pay98 (window X.q ![0, 0, 128] S1x352x128.size inb_S1x688x256_S1x352x128_0_0_128)
def c1A : FVec F S352x128 .f32 := k0_pay99 (window X.c1 ![0, 0] S352x128.size inb_S688x128_S352x128_0_0)
def c2A : FVec F S352x128 .f32 := k0_pay100 (window X.c2 ![0, 0] S352x128.size inb_S688x128_S352x128_0_0)
def qrotA : FVec F S352x128 .bf16 := k0_pay101 (qpeA X) (c1A X) (c2A X) (window X.c3 ![0, 0] S352x128.size inb_S688x128_S352x128_0_0)
def scoreA : FVec F S352x1792 .f32 :=
  k0_pay103 (keysA X) (krotA X) (qA X) (qpeA X) (c1A X) (c2A X) (window X.c3 ![0, 0] S352x128.size inb_S688x128_S352x128_0_0)
def dsA : FVec F S352x1792 .bf16 := k0_pay106 (valsA X) k0_pay102 (scoreA X) (window X.dy ![0, 0] S352x128.size inb_S688x128_S352x128_0_0)
def wA : FVec F S352x1792 .bf16 := k0_pay107 k0_pay102 (scoreA X)
def doA : FVec F S352x128 .bf16 := k0_pay108 k0_pay102 (scoreA X) (window X.dy ![0, 0] S352x128.size inb_S688x128_S352x128_0_0)

/-- The last rows: the same. -/
def qB : FVec F S336x128 .bf16 := k0_pay118 (window X.q ![0, 352, 0] S1x336x128.size inb_S1x688x256_S1x336x128_0_352_0)
def qrotB : FVec F S336x128 .bf16 :=
  k0_pay119 (window X.q ![0, 352, 128] S1x336x128.size inb_S1x688x256_S1x336x128_0_352_128) (window X.c1 ![352, 0] S336x128.size inb_S688x128_S336x128_352_0)
    (window X.c2 ![352, 0] S336x128.size inb_S688x128_S336x128_352_0) (window X.c3 ![352, 0] S336x128.size inb_S688x128_S336x128_352_0)
def scoreB : FVec F S336x2064 .f32 :=
  k0_pay120 (keys X) (krot X) (window X.q ![0, 352, 0] S1x336x128.size inb_S1x688x256_S1x336x128_0_352_0)
    (window X.q ![0, 352, 128] S1x336x128.size inb_S1x688x256_S1x336x128_0_352_128) (window X.c1 ![352, 0] S336x128.size inb_S688x128_S336x128_352_0)
    (window X.c2 ![352, 0] S336x128.size inb_S688x128_S336x128_352_0) (window X.c3 ![352, 0] S336x128.size inb_S688x128_S336x128_352_0)
def dsB : FVec F S336x2064 .bf16 :=
  k0_pay126 (vals X) (scoreB X) k0_pay122 k0_pay123 0#32 (window X.dy ![352, 0] S336x128.size inb_S688x128_S336x128_352_0)
def wB : FVec F S336x2064 .bf16 := k0_pay127 (scoreB X) k0_pay122 k0_pay123 0#32
def doB : FVec F S336x128 .bf16 :=
  k0_pay128 (k0_pay125 (scoreB X) k0_pay122 k0_pay123 0#32) (window X.dy ![352, 0] S336x128.size inb_S688x128_S336x128_352_0)

/-- The four stores of the queries' gradient. -/
def dqPe1 : FVec F S1x352x128 .bf16 :=
  k0_pay113 (k0_pay110 (krotA X) (valsA X) k0_pay102 (scoreA X) (window X.dy ![0, 0] S352x128.size inb_S688x128_S352x128_0_0))
    (k0_pay111 (window X.c1 ![0, 0] S352x128.size inb_S688x128_S352x128_0_0)) (k0_pay112 (window X.c2 ![0, 0] S352x128.size inb_S688x128_S352x128_0_0))
    (window X.c3 ![0, 0] S352x128.size inb_S688x128_S352x128_0_0)
def dqNope1 : FVec F S1x352x128 .bf16 :=
  k0_pay109 (keysA X) (valsA X) k0_pay102 (scoreA X) (window X.dy ![0, 0] S352x128.size inb_S688x128_S352x128_0_0)
def dqNope2 : FVec F S1x336x128 .bf16 := k0_pay129 (keys X) (dsB X)
def dqPe2 : FVec F S1x336x128 .bf16 :=
  k0_pay130 (krot X) (dsB X) (window X.c1 ![352, 0] S336x128.size inb_S688x128_S336x128_352_0) (window X.c2 ![352, 0] S336x128.size inb_S688x128_S336x128_352_0)
    (window X.c3 ![352, 0] S336x128.size inb_S688x128_S336x128_352_0)

/-- The queries' gradient of the tile, stored over `b`. -/
def dq (b : Vec F S1x688x256 .bf16) : Vec F S1x688x256 .bf16 :=
  put (put (put (put b ![0, 0, 0] S1x352x128.size (dqNope1 X)) ![0, 0, 128] S1x352x128.size (dqPe1 X))
    ![0, 352, 0] S1x336x128.size (dqNope2 X)) ![0, 352, 128] S1x336x128.size (dqPe2 X)

/-- The keys' and values' gradient after the tile's first rows, from what it was before, the keys' half first. -/
def dkvA1 (b : Vec F S1x2064x256 .f32) : Vec F S1x2064x256 .f32 :=
  put b ![0, 0, 0] S1x1792x128.size (k0_pay114 (qA X) (dsA X) (window b ![0, 0, 0] S1x1792x128.size inb_S1x2064x256_S1x1792x128_0_0_0))
def dkvA (b : Vec F S1x2064x256 .f32) : Vec F S1x2064x256 .f32 :=
  put (dkvA1 X b) ![0, 0, 128] S1x1792x128.size (k0_pay115 (wA X) (doA X) (window b ![0, 0, 128] S1x1792x128.size inb_S1x2064x256_S1x1792x128_0_0_128))
/-- What the last rows make of it, the keys' half first. -/
def dkvB1 (b : Vec F S1x2064x256 .f32) : Vec F S1x2064x256 .f32 :=
  put b ![0, 0, 0] S1x2064x128.size (k0_pay131 (qB X) (dsB X) (window b ![0, 0, 0] S1x2064x128.size inb_S1x2064x256_S1x2064x128_0_0_0))
def dkvB (b : Vec F S1x2064x256 .f32) : Vec F S1x2064x256 .f32 :=
  put (dkvB1 X b) ![0, 0, 128] S1x2064x128.size (k0_pay7 (wB X) (doB X) (window (dkvB1 X b) ![0, 0, 128] S1x2064x128.size inb_S1x2064x256_S1x2064x128_0_0_128))
def dkv (b : Vec F S1x2064x256 .f32) : Vec F S1x2064x256 .f32 := dkvB X (dkvA X b)

/-- The shared key's gradient after the tile's first rows, and after its last. -/
def dkpeA (b : Vec F S1x2064x128 .f32) : Vec F S1x2064x128 .f32 :=
  put b ![0, 0, 0] S1x1792x128.size (k0_pay117 (k0_pay116 (qrotA X) (dsA X) (window b ![0, 0, 0] S1x1792x128.size inb_S1x2064x128_S1x1792x128_0_0_0)))
def dkpe (b : Vec F S1x2064x128 .f32) : Vec F S1x2064x128 .f32 :=
  put (dkpeA X b) ![0, 0, 0] S1x2064x128.size
    (k0_pay8 (qrotB X) (dsB X) (window (dkpeA X b) ![0, 0, 0] S1x2064x128.size inb_S1x2064x128_S1x2064x128_0_0_0))

/-- The four stores of the queries' gradient cover its block, so nothing of `b` is left. -/
theorem dq_base (b b' : Vec F S1x688x256 .bf16) : dq X b = dq X b' := by
  unfold dq
  exact put_four b b' _ _ _ _

/-! ## The run -/

set_option maxHeartbeats 1600000 in
/-- The body at a point of the third tile: from the ten input blocks and the two gradients it adds to, it leaves the
    inputs as they were and the three blocks above. -/
theorem run (c : Dev nD) (i : grid0.Coords) (arg2 : Memref sig .tc .vmem S1x688x256 .f32) (harg2 : arg2.IsWhole) (arg3 : Memref sig .tc .vmem S1x2064x256 .f32) (harg3 : arg3.IsWhole)
    (arg4 : Memref sig .tc .vmem S2064x128 .f32) (harg4 : arg4.IsWhole) (arg5 : Memref sig .tc .vmem S688x128 .f32) (harg5 : arg5.IsWhole) (arg6 : Memref sig .tc .vmem S688x128 .f32) (harg6 : arg6.IsWhole)
    (arg7 : Memref sig .tc .vmem S688x128 .f32) (harg7 : arg7.IsWhole) (arg8 : Memref sig .tc .vmem S2064x128 .f32) (harg8 : arg8.IsWhole) (arg9 : Memref sig .tc .vmem S2064x128 .f32) (harg9 : arg9.IsWhole)
    (arg10 : Memref sig .tc .vmem S2064x128 .f32) (harg10 : arg10.IsWhole) (arg11 : Memref sig .tc .vmem S688x128 .f32) (harg11 : arg11.IsWhole) (arg12 : Memref sig .tc .vmem S1x688x256 .bf16) (harg12 : arg12.IsWhole)
    (arg13 : Memref sig .tc .vmem S1x2064x256 .f32) (harg13 : arg13.IsWhole) (arg14 : Memref sig .tc .vmem S1x2064x128 .f32) (harg14 : arg14.IsWhole)
    (hc0 : ¬ (k0_cond1 i = 1#1)) (hc1 : ¬ (k0_cond2 i = 1#1)) (hc2 : ¬ (k0_cond3 i = 1#1)) (hc3 : (k0_cond4 i = 1#1))
    (d : Vec F S1x688x256 .bf16) (b : Vec F S1x2064x256 .f32) (p : Vec F S1x2064x128 .f32) (E : Set ℕ) (K : PUnit → sProp 𝕄) :
    iprop(held c arg2 arg3 arg4 arg5 arg6 arg7 arg8 arg9 arg10 arg11 X ∗ owns (c : Thread nD τ) arg12 fullShare d
        ∗ owns (c : Thread nD τ) arg13 fullShare b ∗ owns (c : Thread nD τ) arg14 fullShare p
        ∗ (iprop(held c arg2 arg3 arg4 arg5 arg6 arg7 arg8 arg9 arg10 arg11 X ∗ owns (c : Thread nD τ) arg12 fullShare (dq X d)
            ∗ owns (c : Thread nD τ) arg13 fullShare (dkv X b) ∗ owns (c : Thread nD τ) arg14 fullShare (dkpe X p)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part15_eq_skeleton, k0_part16_eq_skeleton, k0_part17_eq_skeleton, k0_part18_eq_skeleton, k0_part19_eq_skeleton, k0_part20_eq_skeleton, k0_part21_eq_skeleton]
  unfold held
  rw [owns_unread _ harg2 X.q, owns_unread _ harg3 X.kv, owns_unread _ harg4 X.kpe, owns_unread _ harg5 X.c1, owns_unread _ harg6 X.c2, owns_unread _ harg7 X.c3,
    owns_unread _ harg8 X.k1, owns_unread _ harg9 X.k2, owns_unread _ harg10 X.k3, owns_unread _ harg11 X.dy, owns_unread _ harg12 d, owns_unread _ harg13 b,
    owns_unread _ harg14 p]
  iintro ⟨⟨H0, H1, H2, H3, H4, H5, H6, H7, H8, H9⟩, H10, H11, H12, Hk⟩
  sl_exec (disch := first | sl_exact hc0 | sl_exact hc1 | sl_exact hc2 | sl_exact hc3)
  sl_step
  iapply Hk
  iframe
  isplitl [H10]
  · iapply (owns_of_read (c : Thread nD τ) arg12 ?_)
    rotate_left
    · iexact H10
    · delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17 run.sl.r_18 run.sl.r_19 run.sl.r_20 run.sl.r_21 run.sl.r_22 run.sl.r_23 run.sl.r_24 run.sl.r_25 run.sl.r_26
      simp only [read_store, load_window, View.writes_nil, Memref.IsWhole.read_unread]
      rfl
  isplitl [H11]
  · iapply (owns_of_read (c : Thread nD τ) arg13 ?_)
    rotate_left
    · iexact H11
    · delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17 run.sl.r_18 run.sl.r_19 run.sl.r_20 run.sl.r_21 run.sl.r_22 run.sl.r_23 run.sl.r_24 run.sl.r_25 run.sl.r_26 run.sl.v273 run.sl.H11_3 run.sl.v266 run.sl.H11_2 run.sl.v148
      simp only [read_store, load_window, View.writes_nil, Memref.IsWhole.read_unread]
      rfl
  · iapply (owns_of_read (c : Thread nD τ) arg14 ?_)
    rotate_left
    · iexact H12
    · delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16 run.sl.r_17 run.sl.r_18 run.sl.r_19 run.sl.r_20 run.sl.r_21 run.sl.r_22 run.sl.r_23 run.sl.r_24 run.sl.r_25 run.sl.r_26 run.sl.v280 run.sl.H12_1
      simp only [read_store, load_window, View.writes_nil, Memref.IsWhole.read_unread]
      rfl

end Cert.KernelIdeal.AttnBwd.ThirdTile

end
-- ==== Proof.Walk.lean ====
/-
  The kernel's walk over its grid: three tiles of queries for each of the eight heads. Which body runs at a point,
  what the three results' staging buffers hold after it, and the run of the whole call from that.
-/
module

public import proofs.«01_k».proof.Proof.FirstTile
public import proofs.«01_k».proof.Proof.SecondTile
public import proofs.«01_k».proof.Proof.ThirdTile
public import Idealize.ShloMosaic.Lib.Claim

@[expose] public section

set_option maxRecDepth 16384

noncomputable section

namespace Cert.KernelIdeal.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions -/

theorem coord0 (t : Fin cfg0.N) : (grid0.coords t 0).val = t.val / 3 % 8 := Pipeline.Grid.coords_val t 0 (by decide) rfl
theorem coord1 (t : Fin cfg0.N) : (grid0.coords t 1).val = t.val / 1 % 3 := Pipeline.Grid.coords_val t 1 (by decide) rfl

theorem lt_24 (t : Fin cfg0.N) : t.val < 24 := Nat.lt_of_lt_of_eq t.isLt N_0

/-- The accumulators are cleared at a head's first tile, -/
theorem clears (t : Fin cfg0.N) : k0_cond1 (grid0.coords t) = 1#1 ↔ t.val % 3 = 0 := by
  have ht := lt_24 t
  have e0 := coord0 t
  have e1 := coord1 t
  simp only [k0_cond1, e0, e1]; word_cmp

/-- and each tile has its own body. -/
theorem isFirst (t : Fin cfg0.N) : k0_cond2 (grid0.coords t) = 1#1 ↔ t.val % 3 = 0 := by
  have ht := lt_24 t
  have e0 := coord0 t
  have e1 := coord1 t
  simp only [k0_cond2, e0, e1]; word_cmp
theorem isSecond (t : Fin cfg0.N) : k0_cond3 (grid0.coords t) = 1#1 ↔ t.val % 3 = 1 := by
  have ht := lt_24 t
  have e0 := coord0 t
  have e1 := coord1 t
  simp only [k0_cond3, e0, e1]; word_cmp
theorem isThird (t : Fin cfg0.N) : k0_cond4 (grid0.coords t) = 1#1 ↔ t.val % 3 = 2 := by
  have ht := lt_24 t
  have e0 := coord0 t
  have e1 := coord1 t
  simp only [k0_cond4, e0, e1]; word_cmp

/-- No window rests at any point. -/
theorem never_idle : ∀ (w : Fin cfg0.W) (i : cfg0.grid.Coords), cfg0.idle w i = false :=
  (by decide +kernel : ∀ (w : Fin 13) (i : grid0.Coords), idle0 w i = false)

/-! ## What the buffers hold -/

/-- The blocks the inputs' windows bring to point `t`. -/
def blocksAt (c : Dev nD) (t : Fin cfg0.N) : Blocks F where
  q := iblk m c 0 t
  kv := iblk m c 1 t
  kpe := iblk m c 2 t
  c1 := iblk m c 3 t
  c2 := iblk m c 4 t
  c3 := iblk m c 5 t
  k1 := iblk m c 6 t
  k2 := iblk m c 7 t
  k3 := iblk m c 8 t
  dy := iblk m c 9 t

/-- The tile of the queries' gradient a point leaves: its own body's, whatever the buffer held. -/
def dqAt (c : Dev nD) (t : Fin cfg0.N) : Vec F S1x688x256 .bf16 :=
  if t.val % 3 = 0 then FirstTile.dq (blocksAt m c t) (fun _ => Scalar.ofBits .bf16 0x0000#16)
  else if t.val % 3 = 1 then SecondTile.dq (blocksAt m c t) (fun _ => Scalar.ofBits .bf16 0x0000#16)
  else ThirdTile.dq (blocksAt m c t) (fun _ => Scalar.ofBits .bf16 0x0000#16)

/-- What a point makes of the head's accumulated gradient of keys and values. -/
def dkvStep (c : Dev nD) (t : Fin cfg0.N) (b : Vec F S1x2064x256 .f32) : Vec F S1x2064x256 .f32 :=
  if t.val % 3 = 0 then FirstTile.dkv (blocksAt m c t) k0_pay1
  else if t.val % 3 = 1 then SecondTile.dkv (blocksAt m c t) b
  else ThirdTile.dkv (blocksAt m c t) b

/-- What a point makes of the head's accumulated gradient of the shared key. -/
def dkpeStep (c : Dev nD) (t : Fin cfg0.N) (p : Vec F S1x2064x128 .f32) : Vec F S1x2064x128 .f32 :=
  if t.val % 3 = 0 then FirstTile.dkpe (blocksAt m c t) k0_pay2
  else if t.val % 3 = 1 then SecondTile.dkpe (blocksAt m c t) p
  else ThirdTile.dkpe (blocksAt m c t) p

/-- The accumulated gradient of keys and values after point `n`. -/
def dkvAt (c : Dev nD) : (n : ℕ) → n < cfg0.N → Vec F S1x2064x256 .f32
  | 0, h => dkvStep m c ⟨0, h⟩ k0_pay1
  | n + 1, h => dkvStep m c ⟨n + 1, h⟩ (dkvAt c n (Nat.lt_of_succ_lt h))

/-- The accumulated gradient of the shared key after point `n`. -/
def dkpeAt (c : Dev nD) : (n : ℕ) → n < cfg0.N → Vec F S1x2064x128 .f32
  | 0, h => dkpeStep m c ⟨0, h⟩ k0_pay2
  | n + 1, h => dkpeStep m c ⟨n + 1, h⟩ (dkpeAt c n (Nat.lt_of_succ_lt h))

/-- A head's first tile starts both sums anew; -/
theorem dkvAt_first (c : Dev nD) (t : Fin cfg0.N) (h : t.val % 3 = 0) :
    dkvAt m c t.val t.isLt = FirstTile.dkv (blocksAt m c t) k0_pay1 := by
  obtain ⟨n, hn⟩ := t
  cases n with
  | zero => rfl
  | succ n => exact if_pos h
theorem dkpeAt_first (c : Dev nD) (t : Fin cfg0.N) (h : t.val % 3 = 0) :
    dkpeAt m c t.val t.isLt = FirstTile.dkpe (blocksAt m c t) k0_pay2 := by
  obtain ⟨n, hn⟩ := t
  cases n with
  | zero => rfl
  | succ n => exact if_pos h

/-- the later ones go on from the tile before. -/
theorem dkvAt_later (c : Dev nD) (t : Fin cfg0.N) (h : t.val ≠ 0) :
    dkvAt m c t.val t.isLt = dkvStep m c t (dkvAt m c (t.val - 1) (Nat.lt_of_le_of_lt (Nat.sub_le _ _) t.isLt)) := by
  obtain ⟨n, hn⟩ := t
  cases n with
  | zero => exact absurd rfl h
  | succ n => rfl
theorem dkpeAt_later (c : Dev nD) (t : Fin cfg0.N) (h : t.val ≠ 0) :
    dkpeAt m c t.val t.isLt = dkpeStep m c t (dkpeAt m c (t.val - 1) (Nat.lt_of_le_of_lt (Nat.sub_le _ _) t.isLt)) := by
  obtain ⟨n, hn⟩ := t
  cases n with
  | zero => exact absurd rfl h
  | succ n => rfl

/-- The proof data of the call on core `c`: the arrays as the host code leaves them; after a point each input's buffer
    at its block and each result's at what is named above; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dqAt m c t
    | ⟨11, _⟩ => dkvAt m c t.val t.isLt
    | ⟨12, _⟩ => dkpeAt m c t.val t.isLt
  Φ _ := Pipeline.ΦA spec0 c
  q w := Pipeline.shareOf spec0 w
  owed _ := 0

theorem entry (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = dqAt m c t := by dsimp only [dats]
theorem after_11 (c : Dev nD) (t : Fin cfg0.N) : (dats m 0 c).after 11 t = dkvAt m c t.val t.isLt := by dsimp only [dats]
theorem after_12 (c : Dev nD) (t : Fin cfg0.N) : (dats m 0 c).after 12 t = dkpeAt m c t.val t.isLt := by dsimp only [dats]

/-- A buffer is handed back at exactly what the point leaves. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [never_idle w]

/-- At a later tile an accumulator's buffer holds what the tile before left. -/
theorem before_11 (c : Dev nD) (t : Fin cfg0.N) (h : t.val % 3 ≠ 0) (d) :
    (dats m 0 c).before 11 t d = dkvAt m c (t.val - 1) (Nat.lt_of_le_of_lt (Nat.sub_le _ _) t.isLt) := by
  have ht : t.val ≠ 0 := fun e => h (by rw [e])
  rw [(dats m 0 c).before_out_kept 11 rfl t ht ?_ (never_idle 11) (fun _ _ => rfl), after_11]
  rw [Bool.eq_false_iff]
  intro hf
  have := (flush0_11 _).mp hf
  dsimp only at this; omega
theorem before_12 (c : Dev nD) (t : Fin cfg0.N) (h : t.val % 3 ≠ 0) (d) :
    (dats m 0 c).before 12 t d = dkpeAt m c (t.val - 1) (Nat.lt_of_le_of_lt (Nat.sub_le _ _) t.isLt) := by
  have ht : t.val ≠ 0 := fun e => h (by rw [e])
  rw [(dats m 0 c).before_out_kept 12 rfl t ht ?_ (never_idle 12) (fun _ _ => rfl), after_12]
  rw [Bool.eq_false_iff]
  intro hf
  have := (flush0_12 _).mp hf
  dsimp only at this; omega

/-! ## The body at a point -/

/-- The ten inputs' buffers at point `t`. -/
abbrev inputsAt (c : Dev nD) (t : Fin cfg0.N) : sProp 𝕄 :=
  held c (st0_0 t) (st0_1 t) (st0_2 t) (st0_3 t) (st0_4 t) (st0_5 t) (st0_6 t) (st0_7 t) (st0_8 t) (st0_9 t) (blocksAt m c t)

/-- The body at point `t`, in one statement for the three tiles. -/
theorem body_at (c : Dev nD) (t : Fin cfg0.N) (d : Vec F S1x688x256 .bf16) (b : Vec F S1x2064x256 .f32) (p : Vec F S1x2064x128 .f32)
    (hb : t.val % 3 ≠ 0 → b = dkvAt m c (t.val - 1) (Nat.lt_of_le_of_lt (Nat.sub_le _ _) t.isLt))
    (hp : t.val % 3 ≠ 0 → p = dkpeAt m c (t.val - 1) (Nat.lt_of_le_of_lt (Nat.sub_le _ _) t.isLt))
    (E : Set ℕ) (K : PUnit → sProp 𝕄) :
    iprop(inputsAt m c t ∗ owns (c : Thread nD τ) (st0_10 t) fullShare d
        ∗ owns (c : Thread nD τ) (st0_11 t) fullShare b ∗ owns (c : Thread nD τ) (st0_12 t) fullShare p
        ∗ (iprop(inputsAt m c t ∗ owns (c : Thread nD τ) (st0_10 t) fullShare (dqAt m c t)
            ∗ owns (c : Thread nD τ) (st0_11 t) fullShare (dkvAt m c t.val t.isLt)
            ∗ owns (c : Thread nD τ) (st0_12 t) fullShare (dkpeAt m c t.val t.isLt)) -∗ K ⟨⟩))
      ⊢ wp frame (wpE (defs₀ (F := F)) Variants.none c none) E (bodyAt0 t) K := by
  by_cases h0 : t.val % 3 = 0
  · rw [dkvAt_first m c t h0, dkpeAt_first m c t h0,
      show dqAt m c t = FirstTile.dq (blocksAt m c t) d from (if_pos h0).trans (FirstTile.dq_base _ _ _)]
    exact FirstTile.run (blocksAt m c t) c (grid0.coords t) _ _ _ _ _ _ _ _ _ _ _ _ _ _ _ _ _ _ _ _ _ _ _ _ _ _
      ((clears t).mpr h0) ((isFirst t).mpr h0) (fun h => by have := (isSecond t).mp h; omega) (fun h => by have := (isThird t).mp h; omega) d b p E K
  · have ht : t.val ≠ 0 := fun e => h0 (by rw [e])
    rw [dkvAt_later m c t ht, dkpeAt_later m c t ht, ← hb h0, ← hp h0]
    by_cases h1 : t.val % 3 = 1
    · rw [show dqAt m c t = SecondTile.dq (blocksAt m c t) d from ((if_neg h0).trans (if_pos h1)).trans (SecondTile.dq_base _ _ _),
        show dkvStep m c t b = SecondTile.dkv (blocksAt m c t) b from (if_neg h0).trans (if_pos h1),
        show dkpeStep m c t p = SecondTile.dkpe (blocksAt m c t) p from (if_neg h0).trans (if_pos h1)]
      exact SecondTile.run (blocksAt m c t) c (grid0.coords t) _ _ _ _ _ _ _ _ _ _ _ _ _ _ _ _ _ _ _ _ _ _ _ _ _ _
        (fun h => h0 ((clears t).mp h)) (fun h => h0 ((isFirst t).mp h)) ((isSecond t).mpr h1) (fun h => by have := (isThird t).mp h; omega) d b p E K
    · rw [show dqAt m c t = ThirdTile.dq (blocksAt m c t) d from ((if_neg h0).trans (if_neg h1)).trans (ThirdTile.dq_base _ _ _),
        show dkvStep m c t b = ThirdTile.dkv (blocksAt m c t) b from (if_neg h0).trans (if_neg h1),
        show dkpeStep m c t p = ThirdTile.dkpe (blocksAt m c t) p from (if_neg h0).trans (if_neg h1)]
      exact ThirdTile.run (blocksAt m c t) c (grid0.coords t) _ _ _ _ _ _ _ _ _ _ _ _ _ _ _ _ _ _ _ _ _ _ _ _ _ _
        (fun h => h0 ((clears t).mp h)) (fun h => h0 ((isFirst t).mp h)) (fun h => h1 ((isSecond t).mp h)) ((isThird t).mpr (by omega)) d b p E K

/-- What the pipeline hands the body at a point, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it is to hand back. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t
    ∗ (dats m 0 c).leavesExact 12 t)

set_option maxHeartbeats 3600000 in
/-- The body does so at every point. -/
theorem body_sound (c : Dev nD) (t : Fin cfg0.N) :
    given m c t ⊢ wp frame (wpE (defs₀ (F := F)) Variants.none c none) Set.univ (bodyAt0 t) (fun _ => returned m c t) := by
  unfold given returned
  simp only [before0_0_of m (dats m 0 c) (entry m c 0) (after_0 m c), before0_1_of m (dats m 0 c) (entry m c 1) (after_1 m c),
    before0_2_of m (dats m 0 c) (entry m c 2) (after_2 m c), before0_3_of m (dats m 0 c) (entry m c 3) (after_3 m c),
    before0_4_of m (dats m 0 c) (entry m c 4) (after_4 m c), before0_5_of m (dats m 0 c) (entry m c 5) (after_5 m c),
    before0_6_of m (dats m 0 c) (entry m c 6) (after_6 m c), before0_7_of m (dats m 0 c) (entry m c 7) (after_7 m c),
    before0_8_of m (dats m 0 c) (entry m c 8) (after_8 m c), before0_9_of m (dats m 0 c) (entry m c 9) (after_9 m c)]
  rw [show (dats m 0 c).Φ t.succ = (dats m 0 c).Φ t.castSucc from rfl,
    show (dats m 0 c).owesAt () t.succ = (dats m 0 c).owesAt () t.castSucc from rfl]
  rw [leaves m c 0, leaves m c 1, leaves m c 2, leaves m c 3, leaves m c 4, leaves m c 5, leaves m c 6, leaves m c 7, leaves m c 8,
    leaves m c 9, leaves m c 10, leaves m c 11, leaves m c 12,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_at m c t _ _ _ (fun h => before_11 m c t h d11) (fun h => before_12 m c t h d12) Set.univ _)
  unfold inputsAt held
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [H11]; · iexact H11
  isplitl [H12]; · iexact H12
  iintro ⟨⟨H0, H1, H2, H3, H4, H5, H6, H7, H8, H9⟩, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point is the body there. -/
theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run -/

set_option backward.isDefEq.respectTransparency.types false in
/-- Every execution of the call ends, with every array at what the walk leaves in it and every semaphore at zero. -/
theorem run : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := entry m) (hΦ := fun _ _ => rfl)

end Cert.KernelIdeal.AttnBwd

end
-- ==== Proof.Rows.lean ====
/-
  One row of the attention's backward pass over the extended reals: from a row of masked scores and the row of the
  weights' gradients, the softmax of the first and the scores' gradient. A row may be cut where its scores are masked.
-/
module

public import Idealize.ShloMosaic.PureOps.Ideal
public import Mathlib.Data.EReal.Inv

@[expose] public section

noncomputable section

namespace Cert.AttnRow

open Idealize.ShloMosaic

variable {n N : ℕ}

/-- The word the scores are scaled by, and the word a masked score is replaced by. -/
def scale : EReal := Ideal.ofBits .f32 0x3D93CD3A#32
def masked : EReal := Ideal.ofBits .f32 0xFF800000#32

theorem masked_eq : masked = ⊥ := by simp [masked, Ideal.ofBits, Ideal.ieee]

/-- The chunk position `p` belongs to: the memory's sixteen positions first, then chunks of sixty-four. -/
def chunk (p : ℕ) : ℕ := if p < 16 then 0 else 1 + (p - 16) / 64

/-- The greatest score, the weights before their normalisation, their sum and its reciprocal. -/
def top (s : Fin n → EReal) : EReal := Finset.univ.fold max masked s
def weight (s : Fin n → EReal) (k : Fin n) : EReal := Ideal.exp (s k - top s)
def total (s : Fin n → EReal) : EReal := ∑ k, weight s k
def recip (s : Fin n → EReal) : EReal := Ideal.div 1 (total s)

/-- The gradient of the scores, from the weights' gradients `p`. -/
def grad (s p : Fin n → EReal) (k : Fin n) : EReal :=
  weight s k * ((p k - (∑ x, weight s x * p x) * recip s) * (recip s * scale))

/-- A sum whose terms vanish from `n` on is the sum of its first `n` terms. -/
theorem sum_cut (h : n ≤ N) (f : Fin N → EReal) (hf : ∀ k : Fin N, n ≤ k.val → f k = 0) :
    ∑ k, f k = ∑ k : Fin n, f (k.castLE h) := by
  obtain ⟨d, rfl⟩ := Nat.exists_eq_add_of_le h
  rw [Fin.sum_univ_add, Finset.sum_eq_zero (s := Finset.univ) (f := fun i : Fin d => f (Fin.natAdd n i)) (fun i _ => hf _ (Nat.le_add_right _ _)), add_zero]
  rfl

variable (h : n ≤ N) (s p : Fin N → EReal)

/-- The row cut after its first `n` entries. -/
def cut (s : Fin N → EReal) : Fin n → EReal := fun k => s (k.castLE h)

variable (hs : ∀ k : Fin N, n ≤ k.val → s k = masked)

include hs

theorem top_cut : top (cut h s) = top s := by
  refine le_antisymm ?_ ?_
  · refine (Finset.fold_max_le (top s)).mpr ⟨?_, fun k _ => ?_⟩
    · exact (Finset.fold_max_le (top s)).mp le_rfl |>.1
    · exact ((Finset.fold_max_le (top s)).mp le_rfl).2 _ (Finset.mem_univ _)
  · have hc := (Finset.fold_max_le (s := Finset.univ) (b := masked) (f := cut h s) (top (cut h s))).mp le_rfl
    refine (Finset.fold_max_le _).mpr ⟨hc.1, fun k _ => ?_⟩
    by_cases hk : k.val < n
    · exact hc.2 ⟨k.val, hk⟩ (Finset.mem_univ _)
    · rw [hs k (by omega)]; exact hc.1

theorem weight_cut (k : Fin n) : weight (cut h s) k = weight s (k.castLE h) := by
  unfold weight; rw [top_cut h s hs]; rfl

/-- Past the cut a weight is zero. -/
theorem weight_past (k : Fin N) (hk : n ≤ k.val) : weight s k = 0 := by
  unfold weight
  rw [hs k hk, masked_eq, sub_eq_add_neg, EReal.bot_add]
  rfl

theorem total_cut : total (cut h s) = total s := by
  unfold total
  rw [sum_cut h (weight s) (weight_past s hs)]
  exact Finset.sum_congr rfl fun k _ => weight_cut h s hs k

theorem recip_cut : recip (cut h s) = recip s := by unfold recip; rw [total_cut h s hs]

theorem grad_cut (k : Fin n) : grad (cut h s) (cut h p) k = grad s p (k.castLE h) := by
  unfold grad
  rw [weight_cut h s hs, recip_cut h s hs, sum_cut h (fun x => weight s x * p x) (fun x hx => by rw [weight_past s hs x hx, zero_mul])]
  simp only [weight_cut h s hs]
  rfl

theorem grad_past (k : Fin N) (hk : n ≤ k.val) : grad s p k = 0 := by
  unfold grad; rw [weight_past s hs k hk, zero_mul]

end Cert.AttnRow

end
-- ==== Proof.Index.lean ====
/-
  A window of an array and a window put over one, read at an index; and the words of the mask: the chunk a position
  belongs to, and the comparison of two chunks.
-/
module

public import Idealize.ShloMosaic.Lib.VecWindow
public import Idealize.ShloMosaic.Lib.ValueIdxCore
public import Idealize.ShloMosaic.Lib.Pipeline.ValueKit
public import proofs.«01_k».proof.Proof.Rows

@[expose] public section

noncomputable section

namespace Cert.AttnRow

open Idealize.ShloMosaic VecWindow

variable {α : Type}

/-- A window of a matrix, -/
theorem window_ix2 {n0 n1 o0 o1 s0 s1 : ℕ} (x : (⟨2, ![n0, n1]⟩ : Shape).Idx → α)
    (inb : ∀ a, (![o0, o1] : Fin 2 → ℕ) a + (![s0, s1] : Fin 2 → ℕ) a ≤ (⟨2, ![n0, n1]⟩ : Shape).size a) (i : Fin s0) (j : Fin s1) :
    window x ![o0, o1] ![s0, s1] inb (ix2 i j)
      = x (ix2 ⟨o0 + i.val, Nat.lt_of_lt_of_le (Nat.add_lt_add_left i.isLt _) (inb 0)⟩ ⟨o1 + j.val, Nat.lt_of_lt_of_le (Nat.add_lt_add_left j.isLt _) (inb 1)⟩) := by
  refine congrArg x (funext fun a => Fin.ext ?_)
  rw [ValueKit.rect_emb_unit_val]
  match a with
  | ⟨0, _⟩ => rfl
  | ⟨1, _⟩ => rfl

/-- and of a rank-three array. -/
theorem window_ix3 {n0 n1 n2 o0 o1 o2 s0 s1 s2 : ℕ} (x : (⟨3, ![n0, n1, n2]⟩ : Shape).Idx → α)
    (inb : ∀ a, (![o0, o1, o2] : Fin 3 → ℕ) a + (![s0, s1, s2] : Fin 3 → ℕ) a ≤ (⟨3, ![n0, n1, n2]⟩ : Shape).size a) (i : Fin s0) (j : Fin s1) (k : Fin s2) :
    window x ![o0, o1, o2] ![s0, s1, s2] inb (ix3 i j k)
      = x (ix3 ⟨o0 + i.val, Nat.lt_of_lt_of_le (Nat.add_lt_add_left i.isLt _) (inb 0)⟩ ⟨o1 + j.val, Nat.lt_of_lt_of_le (Nat.add_lt_add_left j.isLt _) (inb 1)⟩
          ⟨o2 + k.val, Nat.lt_of_lt_of_le (Nat.add_lt_add_left k.isLt _) (inb 2)⟩) := by
  refine congrArg x (funext fun a => Fin.ext ?_)
  rw [ValueKit.rect_emb_unit_val]
  match a with
  | ⟨0, _⟩ => rfl
  | ⟨1, _⟩ => rfl
  | ⟨2, _⟩ => rfl

/-- Inside the window that was put, the array is what was put there; -/
theorem put_ix3_inside {n1 n2 o1 o2 s1 s2 : ℕ} (x : (⟨3, ![1, n1, n2]⟩ : Shape).Idx → α) (w : (⟨3, ![1, s1, s2]⟩ : Shape).Idx → α)
    (j : Fin n1) (k : Fin n2) (j' : Fin s1) (k' : Fin s2) (hj : j.val = o1 + j'.val) (hk : k.val = o2 + k'.val) :
    put x ![0, o1, o2] ![1, s1, s2] w (ix3 (0 : Fin 1) j k) = w (ix3 (0 : Fin 1) j' k') := by
  have h : ∀ a : Fin 3, (![0, o1, o2] : Fin 3 → ℕ) a ≤ (ix3 (0 : Fin 1) j k a).val ∧ (ix3 (0 : Fin 1) j k a).val < (![0, o1, o2] : Fin 3 → ℕ) a + (![1, s1, s2] : Fin 3 → ℕ) a := by
    have := j'.isLt; have := k'.isLt
    intro a
    match a with
    | ⟨0, _⟩ => exact ⟨Nat.le_refl 0, Nat.lt_of_lt_of_eq Nat.zero_lt_one rfl⟩
    | ⟨1, _⟩ => exact ⟨show o1 ≤ j.val by omega, show j.val < o1 + s1 by omega⟩
    | ⟨2, _⟩ => exact ⟨show o2 ≤ k.val by omega, show k.val < o2 + s2 by omega⟩
  refine (dif_pos h).trans (congrArg w (funext fun a => Fin.ext ?_))
  match a with
  | ⟨0, _⟩ => rfl
  | ⟨1, _⟩ => show j.val - o1 = j'.val; omega
  | ⟨2, _⟩ => show k.val - o2 = k'.val; omega

/-- outside it, what it was. -/
theorem put_ix3_outside {n1 n2 o1 o2 s1 s2 : ℕ} (x : (⟨3, ![1, n1, n2]⟩ : Shape).Idx → α) (w : (⟨3, ![1, s1, s2]⟩ : Shape).Idx → α)
    (j : Fin n1) (k : Fin n2) (h : ¬ ((o1 ≤ j.val ∧ j.val < o1 + s1) ∧ (o2 ≤ k.val ∧ k.val < o2 + s2))) :
    put x ![0, o1, o2] ![1, s1, s2] w (ix3 (0 : Fin 1) j k) = x (ix3 (0 : Fin 1) j k) :=
  dif_neg fun hh => h ⟨hh 1, hh 2⟩

/-! ## The mask's words -/

/-- The chunk of a position, as the kernel computes it on words. -/
abbrev chunkWord (w : BitVec 32) : BitVec 32 :=
  Scalar.select (IntOp.cmpi .slt w 16#32) 0#32 (IntOp.addi 1#32 (IntOp.shrsi .vector (IntOp.subi w 16#32) 6#32))

theorem chunkWord_eq : ∀ p : Fin 2064, chunkWord (BitVec.ofNat 32 p.val) = BitVec.ofNat 32 (chunk p.val) := by decide +kernel

theorem chunk_lt (p : Fin 2064) : chunk p.val < 64 := by
  have := p.isLt; unfold chunk; split <;> omega

theorem sle_small : ∀ a b : Fin 64, IntOp.cmpi .sle (BitVec.ofNat 32 a.val) (BitVec.ofNat 32 b.val) = if a.val ≤ b.val then 1#1 else 0#1 := by decide +kernel

/-- A key is seen by a query of its own chunk or of a later one. -/
theorem sees (k q : Fin 2064) :
    IntOp.cmpi .sle (chunkWord (BitVec.ofNat 32 k.val)) (chunkWord (BitVec.ofNat 32 q.val)) = if chunk k.val ≤ chunk q.val then 1#1 else 0#1 := by
  rw [chunkWord_eq, chunkWord_eq]
  exact sle_small ⟨chunk k.val, chunk_lt k⟩ ⟨chunk q.val, chunk_lt q⟩

/-- A score under the mask. -/
theorem select_sees (p : Prop) [Decidable p] (a b : α) : Scalar.select (if p then 1#1 else 0#1) a b = if p then a else b := by
  by_cases h : p
  · rw [if_pos h, if_pos h]; rfl
  · rw [if_neg h, if_neg h]; rfl

end Cert.AttnRow

end
-- ==== Proof.Tile.lean ====
/-
  What a tile's body is to compute, over the extended reals: of the blocks a point holds, each quantity of the
  backward pass as a function of a row, a key and a lane.
-/
module

public import proofs.«01_k».proof.Proof.Blocks
public import proofs.«01_k».proof.Proof.Index

@[expose] public section

set_option maxRecDepth 16384

noncomputable section

namespace Cert.KernelIdeal.AttnBwd

open Idealize.ShloMosaic Idealize.ShloMosaic.TcCoe
open Cert.AttnRow

/-- The two halves of a row of 256 lanes. -/
def lo (d : Fin 128) : Fin 256 := ⟨d.val, by omega⟩
def hi (d : Fin 128) : Fin 256 := ⟨128 + d.val, by omega⟩

/-- The lane that a rotation by `n` brings to lane `j`. -/
def back (n : ℕ) (j : Fin 128) : Fin 128 := ⟨(j.val + 128 - n) % 128, Nat.mod_lt _ (by decide)⟩

/-- The rotary embedding of a row on padded lanes, from its three tables, and its transpose. -/
def turn (x a b c : Fin 128 → EReal) (j : Fin 128) : EReal := x j * a j + x (back 96 j) * b j + x (back 32 j) * c j
def unturn (u a b c : Fin 128 → EReal) (j : Fin 128) : EReal :=
  u j * a j + u (back 32 j) * b (back 32 j) + u (back 96 j) * c (back 96 j)

/-- A tile's first rows and its last. -/
def rowA (r : Fin 352) : Fin 688 := ⟨r.val, by omega⟩
def rowB (r : Fin 336) : Fin 688 := ⟨352 + r.val, by omega⟩

/-- The position of a tile's row. -/
def pos (i : Fin 3) (r : Fin 688) : Fin 2064 := ⟨688 * i.val + r.val, by omega⟩

variable (X : Blocks Ideal) (i : Fin 3)

def query (r : Fin 688) (d : Fin 128) : EReal := X.q (ix3 0 r (lo d))
def queryPe (r : Fin 688) : Fin 128 → EReal :=
  turn (fun j => X.q (ix3 0 r (hi j))) (fun j => X.c1 (ix2 r j)) (fun j => X.c2 (ix2 r j)) (fun j => X.c3 (ix2 r j))
def key (k : Fin 2064) (d : Fin 128) : EReal := X.kv (ix3 0 k (lo d))
def val (k : Fin 2064) (v : Fin 128) : EReal := X.kv (ix3 0 k (hi v))
def keyPe (k : Fin 2064) : Fin 128 → EReal :=
  turn (fun j => X.kpe (ix2 k j)) (fun j => X.k1 (ix2 k j)) (fun j => X.k2 (ix2 k j)) (fun j => X.k3 (ix2 k j))

/-- The score of a key for a row, before its scaling, -/
def score (r : Fin 688) (k : Fin 2064) : EReal := (∑ d, query X r d * key X k d) + ∑ j, queryPe X r j * keyPe X k j

/-- under the scale and the mask, -/
def scores (r : Fin 688) (k : Fin 2064) : EReal := if chunk k.val ≤ chunk (pos i r).val then score X r k * scale else masked

/-- and the gradient that reaches its weight. -/
def slope (r : Fin 688) (k : Fin 2064) : EReal := ∑ v, X.dy (ix2 r v) * val X k v

/-- The weight before normalisation, the score's gradient, the normalised gradient of the output. -/
def wt (r : Fin 688) (k : Fin 2064) : EReal := weight (scores X i r) k
def gr (r : Fin 688) (k : Fin 2064) : EReal := grad (scores X i r) (slope X r) k
def nd (r : Fin 688) (v : Fin 128) : EReal := X.dy (ix2 r v) * recip (scores X i r)

/-- The queries' gradient on the first lanes and, turned back, on the last. -/
def dqLo (r : Fin 688) (d : Fin 128) : EReal := ∑ k, gr X i r k * key X k d
def dqHi (r : Fin 688) : Fin 128 → EReal :=
  unturn (fun j => ∑ k, gr X i r k * keyPe X k j) (fun j => X.c1 (ix2 r j)) (fun j => X.c2 (ix2 r j)) (fun j => X.c3 (ix2 r j))

/-- A key past the chunk of a row is masked. -/
theorem scores_past (r : Fin 688) (k : Fin 2064) (h : chunk (pos i r).val < chunk k.val) : scores X i r k = masked := if_neg (by omega)

/-- Two words' sum is the word of the sum. -/
theorem addi_ofNat (a b : ℕ) : IntOp.addi (BitVec.ofNat 32 a) (BitVec.ofNat 32 b) = BitVec.ofNat 32 (a + b) := (BitVec.ofNat_add a b).symm

/-- What the mask's words say of a key and a row. -/
theorem sees_pos (k : Fin 2064) (r : Fin 688) (q : ℕ) (hq : q = (pos i r).val) :
    IntOp.cmpi .sle (chunkWord (BitVec.ofNat 32 k.val)) (chunkWord (BitVec.ofNat 32 q)) = if chunk k.val ≤ chunk (pos i r).val then 1#1 else 0#1 := by
  subst hq; exact sees k (pos i r)

/-! ## The sums over a tile's rows -/

/-- A sum over a tile's rows in the two parts it is added up in. -/
theorem sum_rows (f : Fin 688 → EReal) : ∑ r, f r = (∑ r, f (rowA r)) + ∑ r, f (rowB r) := Fin.sum_univ_add (a := 352) (b := 336) f

open VecWindow in
/-- An update of the first keys of an array on 128 of its lanes, read on those lanes, -/
theorem update_at {N o n : ℕ} (h : n ≤ 2064) (b : (⟨3, ![1, 2064, N]⟩ : Shape).Idx → EReal) (w : (⟨3, ![1, n, 128]⟩ : Shape).Idx → EReal)
    (lane : Fin 128 → Fin N) (hl : ∀ d, (lane d).val = o + d.val) (A : Fin 2064 → Fin 128 → EReal) (b' : (⟨3, ![1, 2064, N]⟩ : Shape).Idx → EReal)
    (hA : ∀ k d, n ≤ k.val → A k d = 0) (hb : ∀ k d, b (ix3 0 k (lane d)) = b' (ix3 0 k (lane d)))
    (hw : ∀ k d, w (ix3 0 k d) = b' (ix3 0 (k.castLE h) (lane d)) + A (k.castLE h) d) (k : Fin 2064) (d : Fin 128) :
    put b ![0, 0, o] ![1, n, 128] w (ix3 0 k (lane d)) = b' (ix3 0 k (lane d)) + A k d := by
  by_cases hk : k.val < n
  · rw [put_ix3_inside b w k (lane d) ⟨k.val, hk⟩ d (Nat.zero_add _).symm (hl d), hw]; rfl
  · rw [put_ix3_outside b w k (lane d) (by omega), hA k d (by omega), add_zero, hb]

open VecWindow in
/-- and on the other half of the lanes. -/
theorem update_lo {n : ℕ} (b : (⟨3, ![1, 2064, 256]⟩ : Shape).Idx → EReal) (w : (⟨3, ![1, n, 128]⟩ : Shape).Idx → EReal) (k : Fin 2064) (d : Fin 128) :
    put b ![0, 0, 128] ![1, n, 128] w (ix3 0 k (lo d)) = b (ix3 0 k (lo d)) :=
  put_ix3_outside b w k (lo d) (by show ¬ (_ ∧ (128 ≤ d.val ∧ _)); omega)
open VecWindow in
theorem update_hi {n : ℕ} (b : (⟨3, ![1, 2064, 256]⟩ : Shape).Idx → EReal) (w : (⟨3, ![1, n, 128]⟩ : Shape).Idx → EReal) (k : Fin 2064) (d : Fin 128) :
    put b ![0, 0, 0] ![1, n, 128] w (ix3 0 k (hi d)) = b (ix3 0 k (hi d)) :=
  put_ix3_outside b w k (hi d) (by show ¬ (_ ∧ (_ ∧ 128 + d.val < 0 + 128)); omega)

end Cert.KernelIdeal.AttnBwd

end
-- ==== Proof.Attention.lean ====
/-
  The attention's backward pass as mathematics, over the extended reals: from the call's six arguments the scores, the
  softmax's rows and the three gradients, each a function of a head, a position and a lane.
-/
module

public import proofs.«01_k».proof.Proof.Rows
public import Idealize.ShloMosaic.Lib.Pointwise

@[expose] public section

noncomputable section

namespace Cert.Attention

open Idealize.ShloMosaic
open Cert.AttnRow

/-- The call's arguments: queries, keys with values, the projection that ends in the keys' rotary lanes, the rotary
    tables, the gradient of the output. -/
structure Inputs where
  q : (⟨3, ![8, 2064, 192]⟩ : Shape).Idx → EReal
  kv : (⟨3, ![8, 2064, 256]⟩ : Shape).Idx → EReal
  z : (⟨2, ![2064, 1856]⟩ : Shape).Idx → EReal
  cos : (⟨2, ![2064, 32]⟩ : Shape).Idx → EReal
  sin : (⟨2, ![2064, 32]⟩ : Shape).Idx → EReal
  dy : (⟨2, ![2064, 1024]⟩ : Shape).Idx → EReal

variable (I : Inputs)

/-- The two halves of a rotated pair of lanes. -/
def turnA (a b c s : EReal) : EReal := a * c - b * s
def turnB (a b c s : EReal) : EReal := b * c + a * s

/-- A query's plain lanes and its rotated ones. -/
def qn (h : Fin 8) (p : Fin 2064) (d : Fin 128) : EReal := I.q (ix3 h p ⟨d.val, by omega⟩)
def qa (h : Fin 8) (p : Fin 2064) (j : Fin 32) : EReal :=
  turnA (I.q (ix3 h p ⟨128 + j.val, by omega⟩)) (I.q (ix3 h p ⟨128 + (32 + j.val), by omega⟩)) (I.cos (ix2 p j)) (I.sin (ix2 p j))
def qb (h : Fin 8) (p : Fin 2064) (j : Fin 32) : EReal :=
  turnB (I.q (ix3 h p ⟨128 + j.val, by omega⟩)) (I.q (ix3 h p ⟨128 + (32 + j.val), by omega⟩)) (I.cos (ix2 p j)) (I.sin (ix2 p j))

/-- A key's plain lanes, its rotated ones (the heads share them), and its value. -/
def kn (h : Fin 8) (k : Fin 2064) (d : Fin 128) : EReal := I.kv (ix3 h k ⟨d.val, by omega⟩)
def ka (k : Fin 2064) (j : Fin 32) : EReal :=
  turnA (I.z (ix2 k ⟨1792 + j.val, by omega⟩)) (I.z (ix2 k ⟨1792 + (32 + j.val), by omega⟩)) (I.cos (ix2 k j)) (I.sin (ix2 k j))
def kb (k : Fin 2064) (j : Fin 32) : EReal :=
  turnB (I.z (ix2 k ⟨1792 + j.val, by omega⟩)) (I.z (ix2 k ⟨1792 + (32 + j.val), by omega⟩)) (I.cos (ix2 k j)) (I.sin (ix2 k j))
def va (h : Fin 8) (k : Fin 2064) (v : Fin 128) : EReal := I.kv (ix3 h k ⟨128 + v.val, by omega⟩)

/-- The gradient of a row of the output, head by head. -/
def dyo (h : Fin 8) (p : Fin 2064) (v : Fin 128) : EReal := I.dy (ix2 p ⟨h.val * 128 + v.val, by omega⟩)

/-- The scores, scaled and masked, -/
def score (h : Fin 8) (p k : Fin 2064) : EReal :=
  (∑ d, qn I h p d * kn I h k d) + ((∑ j, qa I h p j * ka I k j) + ∑ j, qb I h p j * kb I k j)
def scores (h : Fin 8) (p k : Fin 2064) : EReal := if chunk k.val ≤ chunk p.val then score I h p k * scale else masked
/-- the weights' gradients, -/
def slope (h : Fin 8) (p k : Fin 2064) : EReal := ∑ v, dyo I h p v * va I h k v
/-- and the scores' gradients. -/
def gr (h : Fin 8) (p k : Fin 2064) : EReal := grad (scores I h p) (slope I h p) k

/-- The gradient of the queries: the plain lanes, and the rotated pair turned back. -/
def dqn (h : Fin 8) (p : Fin 2064) (d : Fin 128) : EReal := ∑ k, gr I h p k * kn I h k d
def ua (h : Fin 8) (p : Fin 2064) (j : Fin 32) : EReal := ∑ k, gr I h p k * ka I k j
def ub (h : Fin 8) (p : Fin 2064) (j : Fin 32) : EReal := ∑ k, gr I h p k * kb I k j
def dqa (h : Fin 8) (p : Fin 2064) (j : Fin 32) : EReal := ua I h p j * I.cos (ix2 p j) + ub I h p j * I.sin (ix2 p j)
def dqb (h : Fin 8) (p : Fin 2064) (j : Fin 32) : EReal := ub I h p j * I.cos (ix2 p j) + ua I h p j * -I.sin (ix2 p j)

/-- The gradient of the keys, of the values and, head by head, of the rotated keys. -/
def dkn (h : Fin 8) (k : Fin 2064) (d : Fin 128) : EReal := ∑ p, gr I h p k * qn I h p d
def dva (h : Fin 8) (k : Fin 2064) (v : Fin 128) : EReal := ∑ p, weight (scores I h p) k * (dyo I h p v * recip (scores I h p))
def dka (h : Fin 8) (k : Fin 2064) (j : Fin 32) : EReal := ∑ p, gr I h p k * qa I h p j
def dkb (h : Fin 8) (k : Fin 2064) (j : Fin 32) : EReal := ∑ p, gr I h p k * qb I h p j

/-! ## The three results on their lanes -/

/-- A row of 128 plain lanes, a pair of 32 and zeros after them; a pair and zeros; two halves. -/
def three (a : Fin 128 → EReal) (b c : Fin 32 → EReal) (l : Fin 256) : EReal :=
  if h : l.val < 128 then a ⟨l.val, h⟩ else if h : l.val < 160 then b ⟨l.val - 128, by omega⟩
    else if h : l.val < 192 then c ⟨l.val - 160, by omega⟩ else 0
def pair (b c : Fin 32 → EReal) (l : Fin 128) : EReal :=
  if h : l.val < 32 then b ⟨l.val, h⟩ else if h : l.val < 64 then c ⟨l.val - 32, by omega⟩ else 0
def halves (a b : Fin 128 → EReal) (l : Fin 256) : EReal :=
  if h : l.val < 128 then a ⟨l.val, h⟩ else b ⟨l.val - 128, by omega⟩

def dq : (⟨3, ![8, 2064, 256]⟩ : Shape).Idx → EReal := fun i => three (dqn I (i 0) (i 1)) (dqa I (i 0) (i 1)) (dqb I (i 0) (i 1)) (i 2)
def dkv : (⟨3, ![8, 2064, 256]⟩ : Shape).Idx → EReal := fun i => halves (dkn I (i 0) (i 1)) (dva I (i 0) (i 1)) (i 2)
def dkpe : (⟨3, ![8, 2064, 128]⟩ : Shape).Idx → EReal := fun i => pair (dka I (i 0) (i 1)) (dkb I (i 0) (i 1)) (i 2)

/-- An array of 256 lanes is given by its plain lanes, its pair and its zeros; -/
theorem eq_three (f : Fin 256 → EReal) (a : Fin 128 → EReal) (b c : Fin 32 → EReal)
    (ha : ∀ d : Fin 128, f ⟨d.val, by omega⟩ = a d) (hb : ∀ j : Fin 32, f ⟨128 + j.val, by omega⟩ = b j)
    (hc : ∀ j : Fin 32, f ⟨128 + (32 + j.val), by omega⟩ = c j) (hz : ∀ j : Fin 64, f ⟨192 + j.val, by omega⟩ = 0) (l : Fin 256) :
    f l = three a b c l := by
  unfold three
  split_ifs with h₁ h₂ h₃
  · exact ha ⟨l.val, h₁⟩
  · rw [← hb]; congr 1; ext; show l.val = 128 + (l.val - 128); omega
  · rw [← hc]; congr 1; ext; show l.val = 128 + (32 + (l.val - 160)); omega
  · rw [← hz ⟨l.val - 192, by omega⟩]; congr 1; ext; show l.val = 192 + (l.val - 192); omega

/-- one of 128 by its pair and its zeros; -/
theorem eq_pair (f : Fin 128 → EReal) (b c : Fin 32 → EReal) (hb : ∀ j : Fin 32, f ⟨j.val, by omega⟩ = b j)
    (hc : ∀ j : Fin 32, f ⟨32 + j.val, by omega⟩ = c j) (hz : ∀ j : Fin 64, f ⟨64 + j.val, by omega⟩ = 0) (l : Fin 128) :
    f l = pair b c l := by
  unfold pair
  split_ifs with h₁ h₂
  · exact hb ⟨l.val, h₁⟩
  · rw [← hc]; congr 1; ext; show l.val = 32 + (l.val - 32); omega
  · rw [← hz ⟨l.val - 64, by omega⟩]; congr 1; ext; show l.val = 64 + (l.val - 64); omega

/-- one of two halves by both. -/
theorem eq_halves (f : Fin 256 → EReal) (a b : Fin 128 → EReal) (ha : ∀ d : Fin 128, f ⟨d.val, by omega⟩ = a d)
    (hb : ∀ d : Fin 128, f ⟨128 + d.val, by omega⟩ = b d) (l : Fin 256) : f l = halves a b l := by
  unfold halves
  split_ifs with h₁
  · exact ha ⟨l.val, h₁⟩
  · rw [← hb]; congr 1; ext; show l.val = 128 + (l.val - 128); omega

/-- A sum over 128 lanes is one over the pair and the zeros' lanes, -/
theorem sum_lanes (f : Fin 128 → EReal) :
    ∑ j, f j = ((∑ j : Fin 32, f ⟨j.val, by omega⟩) + ∑ j : Fin 32, f ⟨32 + j.val, by omega⟩) + ∑ j : Fin 64, f ⟨64 + j.val, by omega⟩ := by
  rw [Fin.sum_univ_add (a := 64) (b := 64) f, Fin.sum_univ_add (a := 32) (b := 32) (fun i => f (Fin.castAdd 64 i))]
  rfl

/-- one over 64 lanes a sum over the pair. -/
theorem sum_pair (f : Fin 64 → EReal) : ∑ j, f j = (∑ j : Fin 32, f ⟨j.val, by omega⟩) + ∑ j : Fin 32, f ⟨32 + j.val, by omega⟩ :=
  Fin.sum_univ_add (a := 32) (b := 32) f

/-- The three results, each given by its lanes. -/
theorem eq_dq (T : (⟨3, ![8, 2064, 256]⟩ : Shape).Idx → EReal) (ha : ∀ h p (d : Fin 128), T (ix3 h p ⟨d.val, by omega⟩) = dqn I h p d)
    (hb : ∀ h p (j : Fin 32), T (ix3 h p ⟨128 + j.val, by omega⟩) = dqa I h p j) (hc : ∀ h p (j : Fin 32), T (ix3 h p ⟨128 + (32 + j.val), by omega⟩) = dqb I h p j)
    (hz : ∀ h p (o : Fin 64), T (ix3 h p ⟨192 + o.val, by omega⟩) = 0) : T = dq I := by
  funext i
  have e : i = ix3 (i 0) (i 1) (i 2) := by funext x; fin_cases x <;> rfl
  rw [e]
  exact eq_three (fun l => T (ix3 (i 0) (i 1) l)) _ _ _ (ha _ _) (hb _ _) (hc _ _) (hz _ _) (i 2)
theorem eq_dkv (T : (⟨3, ![8, 2064, 256]⟩ : Shape).Idx → EReal) (ha : ∀ h k (d : Fin 128), T (ix3 h k ⟨d.val, by omega⟩) = dkn I h k d)
    (hb : ∀ h k (d : Fin 128), T (ix3 h k ⟨128 + d.val, by omega⟩) = dva I h k d) : T = dkv I := by
  funext i
  have e : i = ix3 (i 0) (i 1) (i 2) := by funext x; fin_cases x <;> rfl
  rw [e]
  exact eq_halves (fun l => T (ix3 (i 0) (i 1) l)) _ _ (ha _ _) (hb _ _) (i 2)
theorem eq_dkpe (T : (⟨3, ![8, 2064, 128]⟩ : Shape).Idx → EReal) (hb : ∀ h k (j : Fin 32), T (ix3 h k ⟨j.val, by omega⟩) = dka I h k j)
    (hc : ∀ h k (j : Fin 32), T (ix3 h k ⟨32 + j.val, by omega⟩) = dkb I h k j) (hz : ∀ h k (o : Fin 64), T (ix3 h k ⟨64 + o.val, by omega⟩) = 0) : T = dkpe I := by
  funext i
  have e : i = ix3 (i 0) (i 1) (i 2) := by funext x; fin_cases x <;> rfl
  rw [e]
  exact eq_pair (fun l => T (ix3 (i 0) (i 1) l)) _ _ (hb _ _) (hc _ _) (hz _ _) (i 2)

/-- The word the host pads with. -/
theorem word_zero : (FloatOps.sitofp FTy.f32 0#32 : Ideal .f32) = (0 : EReal) := by
  show ((((0#32 : BitVec 32).toInt : ℝ)) : EReal) = 0
  simp

end Cert.Attention

end
-- ==== Proof.Entries.lean ====
/-
  What the blocks a point holds read of the call's arguments: the queries and the keys on their lanes, the rotary
  tables spread over padded lanes, the output's gradient.
-/
module

public import proofs.«01_k».proof.Proof.Walk
public import proofs.«01_k».proof.Proof.Tile
public import proofs.«01_k».proof.Proof.Attention
public import Idealize.ShloMosaic.Lib.Pipeline.ValueKit
public import Idealize.ShloMosaic.Lib.Pointwise

@[expose] public section

set_option maxRecDepth 16384

noncomputable section

namespace Cert.KernelIdeal.AttnBwd

open Idealize.ShloMosaic Idealize.ShloMosaic.TcCoe Idealize.ShloMosaic.Tactic
open Cert.KernelIdeal.Gen

variable (m : (ℓ : Loc nD τ sig) → Buf (Elt Ideal) ℓ)

/-- Where each window stands at a point: the head is `t / 3`, the tile of queries `t % 3`. -/
theorem idx : ∀ t : Fin cfg0.N, win0_0.index t = ![t.val / 3, t.val % 3, 0] ∧ win0_1.index t = ![t.val / 3, 0, 0]
    ∧ win0_2.index t = ![0, 14] ∧ win0_3.index t = ![t.val % 3, 0] ∧ win0_4.index t = ![t.val % 3, 0] ∧ win0_5.index t = ![t.val % 3, 0]
    ∧ win0_6.index t = ![0, 0] ∧ win0_7.index t = ![0, 0] ∧ win0_8.index t = ![0, 0] ∧ win0_9.index t = ![t.val % 3, t.val / 3]
    ∧ win0_10.index t = ![t.val / 3, t.val % 3, 0] ∧ win0_11.index t = ![t.val / 3, 0, 0] ∧ win0_12.index t = ![t.val / 3, 0, 0] :=
  (by decide +kernel : ∀ t : Fin grid0.N, _)

/-- The head and the tile of a point. -/
def headOf (t : Fin cfg0.N) : Fin 8 := ⟨t.val / 3, by have := lt_24 t; omega⟩
def tileOf (t : Fin cfg0.N) : Fin 3 := ⟨t.val % 3, by omega⟩

theorem q_at (c : Dev nD) (t : Fin cfg0.N) (r : Fin 688) (l : Fin 256) :
    (blocksAt m c t).q (ix3 0 r l) = V m c main_v6 (ix3 (headOf t) (pos (tileOf t) r) l) := by
  show iblk m c 0 t _ = _
  blk_ext [iblk, idx t, headOf, tileOf, pos]
theorem kv_at (c : Dev nD) (t : Fin cfg0.N) (k : Fin 2064) (l : Fin 256) :
    (blocksAt m c t).kv (ix3 0 k l) = m ((c : Thread nD τ).loc main_arg1) (ix3 (headOf t) k l) := by
  show iblk m c 1 t _ = _
  blk_ext [iblk, V, idx t, headOf]
theorem dy_at (c : Dev nD) (t : Fin cfg0.N) (r : Fin 688) (v : Fin 128) :
    (blocksAt m c t).dy (ix2 r v) = m ((c : Thread nD τ).loc main_arg5) (ix2 (pos (tileOf t) r) ⟨(headOf t).val * 128 + v.val, by omega⟩) := by
  show iblk m c 9 t _ = _
  blk_ext [iblk, V, idx t, headOf, tileOf, pos]
theorem kpe_at (c : Dev nD) (t : Fin cfg0.N) (k : Fin 2064) (j : Fin 128) :
    (blocksAt m c t).kpe (ix2 k j) = V m c main_v7 (ix2 k ⟨1792 + j.val, by omega⟩) := by
  show iblk m c 2 t _ = _
  blk_ext [iblk, idx t]
theorem c1_at (c : Dev nD) (t : Fin cfg0.N) (r : Fin 688) (j : Fin 128) :
    (blocksAt m c t).c1 (ix2 r j) = V m c main_v2 (ix2 (pos (tileOf t) r) j) := by
  show iblk m c 3 t _ = _
  blk_ext [iblk, idx t, tileOf, pos]
theorem c2_at (c : Dev nD) (t : Fin cfg0.N) (r : Fin 688) (j : Fin 128) :
    (blocksAt m c t).c2 (ix2 r j) = V m c main_v4 (ix2 (pos (tileOf t) r) j) := by
  show iblk m c 4 t _ = _
  blk_ext [iblk, idx t, tileOf, pos]
theorem c3_at (c : Dev nD) (t : Fin cfg0.N) (r : Fin 688) (j : Fin 128) :
    (blocksAt m c t).c3 (ix2 r j) = V m c main_v5 (ix2 (pos (tileOf t) r) j) := by
  show iblk m c 5 t _ = _
  blk_ext [iblk, idx t, tileOf, pos]
theorem k1_at (c : Dev nD) (t : Fin cfg0.N) (k : Fin 2064) (j : Fin 128) :
    (blocksAt m c t).k1 (ix2 k j) = V m c main_v2 (ix2 k j) := by
  show iblk m c 6 t _ = _
  blk_ext [iblk, idx t]
theorem k2_at (c : Dev nD) (t : Fin cfg0.N) (k : Fin 2064) (j : Fin 128) :
    (blocksAt m c t).k2 (ix2 k j) = V m c main_v4 (ix2 k j) := by
  show iblk m c 7 t _ = _
  blk_ext [iblk, idx t]
theorem k3_at (c : Dev nD) (t : Fin cfg0.N) (k : Fin 2064) (j : Fin 128) :
    (blocksAt m c t).k3 (ix2 k j) = V m c main_v5 (ix2 k j) := by
  show iblk m c 8 t _ = _
  blk_ext [iblk, idx t]

/-! ## The operands the host prepares -/

/-- The queries on padded lanes. -/
theorem v6_at (c : Dev nD) (h : Fin 8) (p : Fin 2064) (l : Fin 256) :
    V m c main_v6 (ix3 h p l) = if h' : l.val < 192 then m ((c : Thread nD τ).loc main_arg0) (ix3 h p ⟨l.val, h'⟩) else (0 : EReal) := by
  rw [V]
  simp only [hostOps0, hostOps0_1, hostOps0_2, hostOps0_3, List.flatten_cons, List.flatten_nil, List.cons_append, List.nil_append, List.append_nil]
  after_results_simp
  simp only [StableHlo.TRef.toBuf, StableHlo.TRef.ofBuf, cast_eq]
  pointwise
  rw [Attention.word_zero]
/-- The keys' rotary lanes, in the columns the kernel reads. -/
theorem v7_at (c : Dev nD) (k : Fin 2064) (j : Fin 128) :
    V m c main_v7 (ix2 k ⟨1792 + j.val, by omega⟩)
      = if h' : j.val < 64 then m ((c : Thread nD τ).loc main_arg2) (ix2 k ⟨1792 + j.val, by omega⟩) else (0 : EReal) := by
  rw [V]
  simp only [hostOps0, hostOps0_1, hostOps0_2, hostOps0_3, List.flatten_cons, List.flatten_nil, List.cons_append, List.nil_append, List.append_nil]
  after_results_simp
  simp only [StableHlo.TRef.toBuf, StableHlo.TRef.ofBuf, cast_eq]
  pointwise
  rw [Attention.word_zero]
  split_ifs <;> first | rfl | omega
/-- The cosines twice, -/
theorem v2_at (c : Dev nD) (k : Fin 2064) (j : Fin 128) :
    V m c main_v2 (ix2 k j) = if h₁ : j.val < 32 then m ((c : Thread nD τ).loc main_arg3) (ix2 k ⟨j.val, h₁⟩)
      else if h₂ : j.val < 64 then m ((c : Thread nD τ).loc main_arg3) (ix2 k ⟨j.val - 32, by omega⟩) else (0 : EReal) := by
  rw [V]
  simp only [hostOps0, hostOps0_1, hostOps0_2, hostOps0_3, List.flatten_cons, List.flatten_nil, List.cons_append, List.nil_append, List.append_nil]
  after_results_simp
  pointwise
  after_results_simp
  try pointwise
  try after_results_simp
  try pointwise
  by_cases h₁ : j.val < 32
  · rw [dif_pos h₁, dif_pos h₁]
  rw [dif_neg h₁, dif_neg h₁]
  by_cases h₂ : j.val < 64
  · rw [dif_pos (show j.val - 32 < 32 by omega), dif_pos h₂]
  · rw [dif_neg (show ¬ j.val - 32 < 32 by omega), dif_neg h₂]
/-- the sines negated on the first lanes, -/
theorem v4_at (c : Dev nD) (k : Fin 2064) (j : Fin 128) :
    V m c main_v4 (ix2 k j) = if h₁ : j.val < 32 then -(show EReal from m ((c : Thread nD τ).loc main_arg4) (ix2 k ⟨j.val, h₁⟩)) else (0 : EReal) := by
  rw [V]
  simp only [hostOps0, hostOps0_1, hostOps0_2, hostOps0_3, List.flatten_cons, List.flatten_nil, List.cons_append, List.nil_append, List.append_nil]
  after_results_simp
  pointwise
  after_results_simp
  try pointwise
  try after_results_simp
  try pointwise
  split_ifs <;> rfl
/-- and the sines on the lanes after them. -/
theorem v5_at (c : Dev nD) (k : Fin 2064) (j : Fin 128) :
    V m c main_v5 (ix2 k j) = if h₁ : 32 ≤ j.val ∧ j.val < 64 then m ((c : Thread nD τ).loc main_arg4) (ix2 k ⟨j.val - 32, by omega⟩) else (0 : EReal) := by
  rw [V]
  simp only [hostOps0, hostOps0_1, hostOps0_2, hostOps0_3, List.flatten_cons, List.flatten_nil, List.cons_append, List.nil_append, List.append_nil]
  after_results_simp
  pointwise
  after_results_simp
  try pointwise
  try after_results_simp
  try pointwise
  by_cases h₁ : j.val < 32
  · rw [dif_pos h₁, dif_neg (by omega)]
  rw [dif_neg h₁]
  by_cases h₂ : j.val < 64
  · rw [dif_pos (show j.val - 32 < 32 by omega), dif_pos (by omega)]
  · rw [dif_neg (show ¬ j.val - 32 < 32 by omega), dif_neg (by omega)]

end Cert.KernelIdeal.AttnBwd

end
-- ==== Proof.Lanes.lean ====
/-
  The rotary embedding on padded lanes: with the cosines twice, the negated sines and the sines spread over 128 lanes,
  the padded rotation is the rotation of the pair, zero past it, and so is its transpose.
-/
module

public import proofs.«01_k».proof.Proof.Tile
public import proofs.«01_k».proof.Proof.Attention

@[expose] public section

noncomputable section

namespace Cert.KernelIdeal.AttnBwd

open Idealize.ShloMosaic
open Cert.Attention

/-- The three tables, spread over the lanes. -/
def tabA (cs : Fin 32 → EReal) (j : Fin 128) : EReal := if h : j.val < 32 then cs ⟨j.val, h⟩ else if h : j.val < 64 then cs ⟨j.val - 32, by omega⟩ else 0
def tabB (sn : Fin 32 → EReal) (j : Fin 128) : EReal := if h : j.val < 32 then -sn ⟨j.val, h⟩ else 0
def tabC (sn : Fin 32 → EReal) (j : Fin 128) : EReal := if h : 32 ≤ j.val ∧ j.val < 64 then sn ⟨j.val - 32, by omega⟩ else 0

/-- The lanes of the pair, and those past it. -/
def la (j : Fin 32) : Fin 128 := ⟨j.val, by omega⟩
def lb (j : Fin 32) : Fin 128 := ⟨32 + j.val, by omega⟩
def lz (j : Fin 64) : Fin 128 := ⟨64 + j.val, by omega⟩

variable (x u : Fin 128 → EReal) (cs sn : Fin 32 → EReal) (j : Fin 32) (o : Fin 64)

theorem back_96_la : back 96 (la j) = lb j := Fin.ext (by show (j.val + 128 - 96) % 128 = 32 + j.val; omega)
theorem back_32_lb : back 32 (lb j) = la j := Fin.ext (by show (32 + j.val + 128 - 32) % 128 = j.val; omega)
theorem back_32_la : (back 32 (la j)).val = 96 + j.val := by show (j.val + 128 - 32) % 128 = 96 + j.val; omega
theorem back_96_lb : (back 96 (lb j)).val = 64 + j.val := by show (32 + j.val + 128 - 96) % 128 = 64 + j.val; omega
theorem back_32_lz : 32 ≤ (back 32 (lz o)).val := by show 32 ≤ (64 + o.val + 128 - 32) % 128; omega
theorem back_96_lz : (back 96 (lz o)).val < 32 ∨ 64 ≤ (back 96 (lz o)).val := by
  show (64 + o.val + 128 - 96) % 128 < 32 ∨ 64 ≤ (64 + o.val + 128 - 96) % 128; omega

theorem tabA_la : tabA cs (la j) = cs j := dif_pos j.isLt
theorem tabA_lb : tabA cs (lb j) = cs j := by
  unfold tabA lb
  rw [dif_neg (by show ¬ 32 + j.val < 32; omega), dif_pos (by show 32 + j.val < 64; omega)]
  congr 1; ext; show 32 + j.val - 32 = j.val; omega
theorem tabA_lz : tabA cs (lz o) = 0 := by
  unfold tabA lz
  rw [dif_neg (by show ¬ 64 + o.val < 32; omega), dif_neg (by show ¬ 64 + o.val < 64; omega)]
theorem tabB_la : tabB sn (la j) = -sn j := dif_pos j.isLt
theorem tabB_past (l : Fin 128) (h : 32 ≤ l.val) : tabB sn l = 0 := dif_neg (by omega)
theorem tabC_lb : tabC sn (lb j) = sn j := by
  unfold tabC lb
  rw [dif_pos (by show 32 ≤ 32 + j.val ∧ 32 + j.val < 64; omega)]
  congr 1; ext; show 32 + j.val - 32 = j.val; omega
theorem tabC_past (l : Fin 128) (h : l.val < 32 ∨ 64 ≤ l.val) : tabC sn l = 0 := dif_neg (by omega)

theorem turn_la : turn x (tabA cs) (tabB sn) (tabC sn) (la j) = turnA (x (la j)) (x (lb j)) (cs j) (sn j) := by
  unfold turn turnA
  rw [back_96_la, tabA_la, tabB_la, tabC_past sn _ (Or.inl j.isLt), mul_zero, add_zero, mul_neg, sub_eq_add_neg]
theorem turn_lb : turn x (tabA cs) (tabB sn) (tabC sn) (lb j) = turnB (x (la j)) (x (lb j)) (cs j) (sn j) := by
  unfold turn turnB
  rw [back_32_lb, tabA_lb, tabC_lb, tabB_past sn _ (Nat.le_add_right 32 j.val), mul_zero, add_zero]
theorem turn_lz : turn x (tabA cs) (tabB sn) (tabC sn) (lz o) = 0 := by
  unfold turn
  rw [tabA_lz, tabB_past sn _ (by show 32 ≤ 64 + o.val; omega), tabC_past sn _ (Or.inr (Nat.le_add_right 64 o.val)), mul_zero, mul_zero, mul_zero, add_zero, add_zero]

theorem unturn_la : unturn u (tabA cs) (tabB sn) (tabC sn) (la j) = u (la j) * cs j + u (lb j) * sn j := by
  unfold unturn
  rw [back_96_la, tabA_la, tabC_lb, tabB_past sn _ (by rw [back_32_la]; omega), mul_zero, add_zero]
theorem unturn_lb : unturn u (tabA cs) (tabB sn) (tabC sn) (lb j) = u (lb j) * cs j + u (la j) * -sn j := by
  unfold unturn
  rw [back_32_lb, tabA_lb, tabB_la, tabC_past sn _ (by rw [back_96_lb]; omega), mul_zero, add_zero]
theorem unturn_lz : unturn u (tabA cs) (tabB sn) (tabC sn) (lz o) = 0 := by
  unfold unturn
  rw [tabA_lz, tabB_past sn _ (back_32_lz o), tabC_past sn _ (back_96_lz o), mul_zero, mul_zero, mul_zero, add_zero, add_zero]

end Cert.KernelIdeal.AttnBwd

end
-- ==== Proof.ReadFirst.lean ====
/-
  The first tile's body over the extended reals: each array it computes, read at an index, is the quantity of the
  backward pass the shared module names. Its first rows look at the first 512 keys and its last at the first 768.
-/
module

public import proofs.«01_k».proof.Proof.FirstTile
public import proofs.«01_k».proof.Proof.Tile
public import Idealize.ShloMosaic.Lib.Pointwise

@[expose] public section

set_option maxRecDepth 16384

noncomputable section

namespace Cert.KernelIdeal.AttnBwd.FirstTile

open Idealize.ShloMosaic Idealize.ShloMosaic.TcCoe
open Cert.KernelIdeal.Gen Cert.AttnRow
open VecWindow

variable (X : Blocks Ideal)

/-- The keys the first rows look at, and the last. -/
abbrev atA (k : Fin 512) : Fin 2064 := k.castLE (by decide)
abbrev atB (k : Fin 768) : Fin 2064 := k.castLE (by decide)

theorem keys_at (k : Fin 768) (d : Fin 128) : keys X (ix2 k d) = key X (atB k) d := by
  pointwise [keys, k0_pay9]; simp only [window_ix3, Nat.zero_add]; rfl
theorem vals_at (k : Fin 768) (d : Fin 128) : vals X (ix2 k d) = val X (atB k) d := by
  pointwise [vals, k0_pay10]; simp only [window_ix3, Nat.zero_add]; rfl
theorem krot_at (k : Fin 768) (j : Fin 128) : krot X (ix2 k j) = keyPe X (atB k) j := by
  pointwise [krot, k0_pay11]; simp only [window_ix2, Nat.zero_add]; rfl
theorem keysA_at (k : Fin 512) (d : Fin 128) : keysA X (ix2 k d) = key X (atA k) d := by
  pointwise [keysA, k0_pay12, k0_pay9]; simp only [window_ix3, Nat.zero_add]; rfl
theorem krotA_at (k : Fin 512) (j : Fin 128) : krotA X (ix2 k j) = keyPe X (atA k) j := by
  pointwise [krotA, k0_pay13, k0_pay11]; simp only [window_ix2, Nat.zero_add]; rfl
theorem valsA_at (k : Fin 512) (d : Fin 128) : valsA X (ix2 k d) = val X (atA k) d := by
  pointwise [valsA, k0_pay14, k0_pay10]; simp only [window_ix3, Nat.zero_add]; rfl

/-! ## The first rows -/

theorem qA_at (r : Fin 352) (d : Fin 128) : qA X (ix2 r d) = query X (rowA r) d := by
  pointwise [qA, k0_pay15]; simp only [window_ix3, Nat.zero_add]; rfl
theorem qrotA_at (r : Fin 352) (j : Fin 128) : qrotA X (ix2 r j) = queryPe X (rowA r) j := by
  pointwise [qrotA, qpeA, c1A, c2A, k0_pay19, k0_pay16, k0_pay17, k0_pay18]; simp only [window_ix3, window_ix2, Nat.zero_add]; rfl

theorem scoreA_at (r : Fin 352) (k : Fin 512) : scoreA X (ix2 r k) = score X (rowA r) (atA k) * scale := by
  have e : ∀ j, k0_pay19 (qpeA X) (c1A X) (c2A X) (window X.c3 ![0, 0] S352x128.size inb_S688x128_S352x128_0_0) (ix2 r j) = queryPe X (rowA r) j := qrotA_at X r
  pointwise [scoreA, k0_pay21]
  simp only [e, keysA_at, krotA_at, qA_at]
  rfl

theorem maskA_at (r : Fin 352) (k : Fin 512) : k0_pay20 (ix2 r k) = if chunk (atA k).val ≤ chunk (pos 0 (rowA r)).val then 1#1 else 0#1 := by
  pointwise [k0_pay20]
  rw [addi_ofNat]
  exact sees_pos 0 (atA k) (rowA r) _ (by show 0 + r.val = 688 * 0 + r.val; omega)

/-- Past the keys they look at, the first rows are masked. -/
theorem pastA (r : Fin 352) (k : Fin 2064) (h : 512 ≤ k.val) : scores X 0 (rowA r) k = masked :=
  scores_past X 0 (rowA r) k (by
    have := r.isLt
    show chunk (688 * 0 + r.val) < _
    unfold chunk; split <;> split <;> omega)

/-- The row of scores as the body holds it. -/
theorem rowA_at (r : Fin 352) : (fun k => Scalar.select (k0_pay20 (ix2 r k)) (scoreA X (ix2 r k)) masked) = cut (by decide) (scores X 0 (rowA r)) :=
  funext fun k => by rw [maskA_at, select_sees, scoreA_at]; rfl

theorem weightA_at (r : Fin 352) (k : Fin 512) : k0_pay22 k0_pay20 (scoreA X) (ix2 r k) = weight (cut (by decide : 512 ≤ 2064) (scores X 0 (rowA r))) k := by
  rw [← rowA_at]
  pointwise [k0_pay22]
  rfl

theorem recipA_at (r : Fin 352) : k0_pay23 k0_pay20 (scoreA X) (ix2 r 0) = recip (cut (by decide : 512 ≤ 2064) (scores X 0 (rowA r))) := by
  pointwise [k0_pay23]
  simp only [weightA_at]
  rfl

theorem wA_at (r : Fin 352) (k : Fin 512) : wA X (ix2 r k) = wt X 0 (rowA r) (atA k) := by
  pointwise [wA, k0_pay25]
  rw [weightA_at, weight_cut _ _ (pastA X r)]; rfl

theorem doA_at (r : Fin 352) (v : Fin 128) : doA X (ix2 r v) = nd X 0 (rowA r) v := by
  pointwise [doA, k0_pay26]
  rw [recipA_at, recip_cut _ _ (pastA X r), window_ix2]
  simp only [Nat.zero_add]; rfl

theorem dsA_at (r : Fin 352) (k : Fin 512) : dsA X (ix2 r k) = gr X 0 (rowA r) (atA k) := by
  refine Eq.trans ?_ (grad_cut (by decide) (scores X 0 (rowA r)) (slope X (rowA r)) (pastA X r) k)
  pointwise [dsA, k0_pay24]
  simp only [weightA_at, recipA_at, valsA_at, window_ix2, Nat.zero_add]
  rfl

theorem dqNope1_at (r : Fin 352) (d : Fin 128) : dqNope1 X (ix3 0 r d) = dqLo X 0 (rowA r) d := by
  have e : ∀ k, k0_pay24 (valsA X) k0_pay20 (scoreA X) (window X.dy ![0, 0] S352x128.size inb_S688x128_S352x128_0_0) (ix2 r k) = gr X 0 (rowA r) (atA k) := dsA_at X r
  pointwise [dqNope1, k0_pay27]
  simp only [e, keysA_at]
  exact (sum_cut _ (fun k => gr X 0 (rowA r) k * key X k d) fun k hk => by rw [gr, grad_past _ _ (pastA X r) k hk, zero_mul]).symm

theorem dqPe1_at (r : Fin 352) (j : Fin 128) : dqPe1 X (ix3 0 r j) = dqHi X 0 (rowA r) j := by
  have e : ∀ k, k0_pay24 (valsA X) k0_pay20 (scoreA X) (window X.dy ![0, 0] S352x128.size inb_S688x128_S352x128_0_0) (ix2 r k) = gr X 0 (rowA r) (atA k) := dsA_at X r
  have s : ∀ j, ∑ k, gr X 0 (rowA r) (atA k) * keyPe X (atA k) j = ∑ k, gr X 0 (rowA r) k * keyPe X k j := fun j =>
    (sum_cut _ (fun k => gr X 0 (rowA r) k * keyPe X k j) fun k hk => by rw [gr, grad_past _ _ (pastA X r) k hk, zero_mul]).symm
  pointwise [dqPe1, k0_pay31, k0_pay28, k0_pay29, k0_pay30]
  simp only [e, krotA_at, s, window_ix2, Nat.zero_add]
  rfl

/-! ## The last rows -/

theorem qB_at (r : Fin 336) (d : Fin 128) : qB X (ix2 r d) = query X (rowB r) d := by
  pointwise [qB, k0_pay36]; simp only [window_ix3, Nat.zero_add]; rfl
theorem qrotB_at (r : Fin 336) (j : Fin 128) : qrotB X (ix2 r j) = queryPe X (rowB r) j := by
  pointwise [qrotB, k0_pay37]; simp only [window_ix3, window_ix2, Nat.zero_add]; rfl

theorem scoreB_at (r : Fin 336) (k : Fin 768) : scoreB X (ix2 r k) = score X (rowB r) (atB k) := by
  have e := qrotB_at X r
  have e' := qB_at X r
  unfold qrotB at e
  unfold qB at e'
  pointwise [scoreB, k0_pay38]
  simp only [e, e', keys_at, krot_at]
  rfl

theorem pastB (r : Fin 336) (k : Fin 2064) (h : 768 ≤ k.val) : scores X 0 (rowB r) k = masked :=
  scores_past X 0 (rowB r) k (by
    have := r.isLt
    have := k.isLt
    show chunk (688 * 0 + (352 + r.val)) < _
    unfold chunk; split <;> split <;> omega)

theorem weightB_at (r : Fin 336) (k : Fin 768) :
    k0_pay42 (scoreB X) k0_pay40 k0_pay41 0#32 (ix2 r k) = weight (cut (by decide : 768 ≤ 2064) (scores X 0 (rowB r))) k := by
  have e : cut (by decide : 768 ≤ 2064) (scores X 0 (rowB r)) = fun k => Scalar.select
      (IntOp.cmpi .sle (chunkWord (BitVec.ofNat 32 (atB k).val)) (chunkWord (BitVec.ofNat 32 (352 + r.val)))) (scoreB X (ix2 r k) * scale) masked :=
    funext fun k => by
      rw [sees_pos 0 (atB k) (rowB r) _ (by show 352 + r.val = 688 * 0 + (352 + r.val); omega), select_sees, scoreB_at]; rfl
  rw [e]
  pointwise [k0_pay42, k0_pay40, k0_pay41, k0_pay39]
  simp only [addi_ofNat]
  rfl

theorem recipB_at (r : Fin 336) :
    k0_pay43 (scoreB X) k0_pay40 k0_pay41 0#32 (ix2 r 0) = recip (cut (by decide : 768 ≤ 2064) (scores X 0 (rowB r))) := by
  pointwise [k0_pay43]
  simp only [weightB_at]
  rfl

theorem wB_at (r : Fin 336) (k : Fin 768) : wB X (ix2 r k) = wt X 0 (rowB r) (atB k) := by
  pointwise [wB, k0_pay45]
  rw [weightB_at, weight_cut _ _ (pastB X r)]; rfl

theorem doB_at (r : Fin 336) (v : Fin 128) : doB X (ix2 r v) = nd X 0 (rowB r) v := by
  pointwise [doB, k0_pay46]
  rw [recipB_at, recip_cut _ _ (pastB X r), window_ix2]
  simp only [Nat.zero_add]; rfl

theorem dsB_at (r : Fin 336) (k : Fin 768) : dsB X (ix2 r k) = gr X 0 (rowB r) (atB k) := by
  refine Eq.trans ?_ (grad_cut (by decide) (scores X 0 (rowB r)) (slope X (rowB r)) (pastB X r) k)
  pointwise [dsB, k0_pay44]
  simp only [weightB_at, recipB_at, vals_at, window_ix2, Nat.zero_add]
  rfl

theorem dqNope2_at (r : Fin 336) (d : Fin 128) : dqNope2 X (ix3 0 r d) = dqLo X 0 (rowB r) d := by
  pointwise [dqNope2, k0_pay47]
  simp only [dsB_at, keys_at]
  exact (sum_cut _ (fun k => gr X 0 (rowB r) k * key X k d) fun k hk => by rw [gr, grad_past _ _ (pastB X r) k hk, zero_mul]).symm

theorem dqPe2_at (r : Fin 336) (j : Fin 128) : dqPe2 X (ix3 0 r j) = dqHi X 0 (rowB r) j := by
  have s : ∀ j, ∑ k, gr X 0 (rowB r) (atB k) * keyPe X (atB k) j = ∑ k, gr X 0 (rowB r) k * keyPe X k j := fun j =>
    (sum_cut _ (fun k => gr X 0 (rowB r) k * keyPe X k j) fun k hk => by rw [gr, grad_past _ _ (pastB X r) k hk, zero_mul]).symm
  pointwise [dqPe2, k0_pay48]
  simp only [dsB_at, krot_at, s, window_ix2, Nat.zero_add]
  rfl

/-! ## The three blocks the body leaves -/

theorem dq_lo (b : Vec Ideal S1x688x256 .bf16) (r : Fin 688) (d : Fin 128) : dq X b (ix3 0 r (lo d)) = dqLo X 0 r d := by
  unfold dq
  rw [put_ix3_outside _ _ _ _ (by show ¬ (_ ∧ (128 ≤ d.val ∧ _)); omega)]
  by_cases h : r.val < 352
  · rw [put_ix3_outside _ _ _ _ (by omega), put_ix3_outside _ _ _ _ (by show ¬ (_ ∧ (128 ≤ d.val ∧ _)); omega),
      put_ix3_inside _ _ r (lo d) ⟨r.val, h⟩ d (Nat.zero_add _).symm (Nat.zero_add _).symm, dqNope1_at]; rfl
  · rw [put_ix3_inside _ _ r (lo d) ⟨r.val - 352, by omega⟩ d (by show r.val = 352 + (r.val - 352); omega) (Nat.zero_add _).symm, dqNope2_at,
      show rowB ⟨r.val - 352, by omega⟩ = r from Fin.ext (by show 352 + (r.val - 352) = r.val; omega)]

theorem dq_hi (b : Vec Ideal S1x688x256 .bf16) (r : Fin 688) (j : Fin 128) : dq X b (ix3 0 r (hi j)) = dqHi X 0 r j := by
  unfold dq
  by_cases h : r.val < 352
  · rw [put_ix3_outside _ _ _ _ (by omega), put_ix3_outside _ _ _ _ (by omega),
      put_ix3_inside _ _ r (hi j) ⟨r.val, h⟩ j (Nat.zero_add _).symm rfl, dqPe1_at]; rfl
  · rw [put_ix3_inside _ _ r (hi j) ⟨r.val - 352, by omega⟩ j (by show r.val = 352 + (r.val - 352); omega) rfl, dqPe2_at,
      show rowB ⟨r.val - 352, by omega⟩ = r from Fin.ext (by show 352 + (r.val - 352) = r.val; omega)]

/-- What the first rows and what the last add to a key's gradient, to its value's, and to the shared key's. -/
def moreA (f : Fin 688 → Fin 2064 → EReal) (g : Fin 688 → Fin 128 → EReal) (k : Fin 2064) (d : Fin 128) : EReal := ∑ r, f (rowA r) k * g (rowA r) d
def moreB (f : Fin 688 → Fin 2064 → EReal) (g : Fin 688 → Fin 128 → EReal) (k : Fin 2064) (d : Fin 128) : EReal := ∑ r, f (rowB r) k * g (rowB r) d

theorem moreA_gr (g : Fin 688 → Fin 128 → EReal) (k : Fin 2064) (d : Fin 128) (h : 512 ≤ k.val) : moreA (gr X 0) g k d = 0 :=
  Finset.sum_eq_zero fun r _ => by rw [gr, grad_past _ _ (pastA X r) k h, zero_mul]
theorem moreA_wt (g : Fin 688 → Fin 128 → EReal) (k : Fin 2064) (d : Fin 128) (h : 512 ≤ k.val) : moreA (wt X 0) g k d = 0 :=
  Finset.sum_eq_zero fun r _ => by rw [wt, weight_past _ (pastA X r) k h, zero_mul]
theorem moreB_gr (g : Fin 688 → Fin 128 → EReal) (k : Fin 2064) (d : Fin 128) (h : 768 ≤ k.val) : moreB (gr X 0) g k d = 0 :=
  Finset.sum_eq_zero fun r _ => by rw [gr, grad_past _ _ (pastB X r) k h, zero_mul]
theorem moreB_wt (g : Fin 688 → Fin 128 → EReal) (k : Fin 2064) (d : Fin 128) (h : 768 ≤ k.val) : moreB (wt X 0) g k d = 0 :=
  Finset.sum_eq_zero fun r _ => by rw [wt, weight_past _ (pastB X r) k h, zero_mul]

theorem dkvA_lo (b : Vec Ideal S1x2064x256 .f32) (k : Fin 2064) (d : Fin 128) :
    dkvA X b (ix3 0 k (lo d)) = b (ix3 0 k (lo d)) + moreA (gr X 0) (query X) k d := by
  refine (update_lo _ _ k d).trans (update_at (by decide) _ _ lo (fun _ => (Nat.zero_add _).symm) _ b (moreA_gr X _) (fun _ _ => rfl) (fun k d => ?_) k d)
  pointwise [k0_pay32]
  simp only [window_ix3, dsA_at, qA_at, Nat.zero_add]; rfl
theorem dkvA_hi (b : Vec Ideal S1x2064x256 .f32) (k : Fin 2064) (d : Fin 128) :
    dkvA X b (ix3 0 k (hi d)) = b (ix3 0 k (hi d)) + moreA (wt X 0) (nd X 0) k d := by
  refine update_at (by decide) _ _ hi (fun _ => rfl) _ b (moreA_wt X _) (fun k d => update_hi _ _ k d) (fun k d => ?_) k d
  pointwise [k0_pay33]
  simp only [window_ix3, wA_at, doA_at, Nat.zero_add]
  exact congrArg (· + _) (update_hi _ _ (atA k) d)
theorem dkvB_lo (b : Vec Ideal S1x2064x256 .f32) (k : Fin 2064) (d : Fin 128) :
    dkvB X b (ix3 0 k (lo d)) = b (ix3 0 k (lo d)) + moreB (gr X 0) (query X) k d := by
  refine (update_lo _ _ k d).trans (update_at (by decide) _ _ lo (fun _ => (Nat.zero_add _).symm) _ b (moreB_gr X _) (fun _ _ => rfl) (fun k d => ?_) k d)
  pointwise [k0_pay49]
  simp only [window_ix3, dsB_at, qB_at, Nat.zero_add]; rfl
theorem dkvB_hi (b : Vec Ideal S1x2064x256 .f32) (k : Fin 2064) (d : Fin 128) :
    dkvB X b (ix3 0 k (hi d)) = b (ix3 0 k (hi d)) + moreB (wt X 0) (nd X 0) k d := by
  refine update_at (by decide) _ _ hi (fun _ => rfl) _ b (moreB_wt X _) (fun k d => update_hi _ _ k d) (fun k d => ?_) k d
  pointwise [k0_pay3]
  simp only [window_ix3, wB_at, doB_at, Nat.zero_add]
  exact congrArg (· + _) (update_hi _ _ (atB k) d)

theorem dkv_lo (b : Vec Ideal S1x2064x256 .f32) (k : Fin 2064) (d : Fin 128) :
    dkv X b (ix3 0 k (lo d)) = b (ix3 0 k (lo d)) + ∑ r, gr X 0 r k * query X r d := by
  unfold dkv; rw [dkvB_lo, dkvA_lo, add_assoc, sum_rows]; rfl
theorem dkv_hi (b : Vec Ideal S1x2064x256 .f32) (k : Fin 2064) (d : Fin 128) :
    dkv X b (ix3 0 k (hi d)) = b (ix3 0 k (hi d)) + ∑ r, wt X 0 r k * nd X 0 r d := by
  unfold dkv; rw [dkvB_hi, dkvA_hi, add_assoc, sum_rows]; rfl

theorem dkpeA_at (b : Vec Ideal S1x2064x128 .f32) (k : Fin 2064) (j : Fin 128) :
    dkpeA X b (ix3 0 k j) = b (ix3 0 k j) + moreA (gr X 0) (queryPe X) k j := by
  refine update_at (by decide) _ _ id (fun _ => (Nat.zero_add _).symm) _ b (moreA_gr X _) (fun _ _ => rfl) (fun k d => ?_) k j
  pointwise [k0_pay35, k0_pay34]
  simp only [window_ix3, dsA_at, qrotA_at, Nat.zero_add]; rfl
theorem dkpe_at (b : Vec Ideal S1x2064x128 .f32) (k : Fin 2064) (j : Fin 128) :
    dkpe X b (ix3 0 k j) = b (ix3 0 k j) + ∑ r, gr X 0 r k * queryPe X r j := by
  refine (update_at (by decide) _ _ id (fun _ => (Nat.zero_add _).symm) _ (dkpeA X b) (moreB_gr X (queryPe X)) (fun _ _ => rfl) (fun k d => ?_) k j).trans ?_
  · pointwise [k0_pay4]
    simp only [window_ix3, dsB_at, qrotB_at, Nat.zero_add]; rfl
  · rw [id, dkpeA_at, add_assoc, sum_rows]; rfl

end Cert.KernelIdeal.AttnBwd.FirstTile

end
-- ==== Proof.ReadSecond.lean ====
/-
  The second tile's body over the extended reals: each array it computes, read at an index, is the quantity of the
  backward pass the shared module names. Its first rows look at the first 1152 keys and its last at the first 1536.
-/
module

public import proofs.«01_k».proof.Proof.SecondTile
public import proofs.«01_k».proof.Proof.Tile
public import Idealize.ShloMosaic.Lib.Pointwise

@[expose] public section

set_option maxRecDepth 16384

noncomputable section

namespace Cert.KernelIdeal.AttnBwd.SecondTile

open Idealize.ShloMosaic Idealize.ShloMosaic.TcCoe
open Cert.KernelIdeal.Gen Cert.AttnRow
open VecWindow

variable (X : Blocks Ideal)

/-- The keys the first rows look at, and the last. -/
abbrev atA (k : Fin 1152) : Fin 2064 := k.castLE (by decide)
abbrev atB (k : Fin 1536) : Fin 2064 := k.castLE (by decide)

theorem keys_at (k : Fin 1536) (d : Fin 128) : keys X (ix2 k d) = key X (atB k) d := by
  pointwise [keys, k0_pay50]; simp only [window_ix3, Nat.zero_add]; rfl
theorem vals_at (k : Fin 1536) (d : Fin 128) : vals X (ix2 k d) = val X (atB k) d := by
  pointwise [vals, k0_pay51]; simp only [window_ix3, Nat.zero_add]; rfl
theorem krot_at (k : Fin 1536) (j : Fin 128) : krot X (ix2 k j) = keyPe X (atB k) j := by
  pointwise [krot, k0_pay52]; simp only [window_ix2, Nat.zero_add]; rfl
theorem keysA_at (k : Fin 1152) (d : Fin 128) : keysA X (ix2 k d) = key X (atA k) d := by
  pointwise [keysA, k0_pay53, k0_pay50]; simp only [window_ix3, Nat.zero_add]; rfl
theorem krotA_at (k : Fin 1152) (j : Fin 128) : krotA X (ix2 k j) = keyPe X (atA k) j := by
  pointwise [krotA, k0_pay54, k0_pay52]; simp only [window_ix2, Nat.zero_add]; rfl
theorem valsA_at (k : Fin 1152) (d : Fin 128) : valsA X (ix2 k d) = val X (atA k) d := by
  pointwise [valsA, k0_pay55, k0_pay51]; simp only [window_ix3, Nat.zero_add]; rfl

/-! ## The first rows -/

theorem qA_at (r : Fin 352) (d : Fin 128) : qA X (ix2 r d) = query X (rowA r) d := by
  pointwise [qA, k0_pay56]; simp only [window_ix3, Nat.zero_add]; rfl
theorem qrotA_at (r : Fin 352) (j : Fin 128) : qrotA X (ix2 r j) = queryPe X (rowA r) j := by
  pointwise [qrotA, qpeA, c1A, c2A, k0_pay60, k0_pay57, k0_pay58, k0_pay59]; simp only [window_ix3, window_ix2, Nat.zero_add]; rfl

theorem scoreA_at (r : Fin 352) (k : Fin 1152) : scoreA X (ix2 r k) = score X (rowA r) (atA k) * scale := by
  have e : ∀ j, k0_pay60 (qpeA X) (c1A X) (c2A X) (window X.c3 ![0, 0] S352x128.size inb_S688x128_S352x128_0_0) (ix2 r j) = queryPe X (rowA r) j := qrotA_at X r
  pointwise [scoreA, k0_pay62]
  simp only [e, keysA_at, krotA_at, qA_at]
  rfl

theorem maskA_at (r : Fin 352) (k : Fin 1152) : k0_pay61 (ix2 r k) = if chunk (atA k).val ≤ chunk (pos 1 (rowA r)).val then 1#1 else 0#1 := by
  pointwise [k0_pay61]
  rw [addi_ofNat]
  exact sees_pos 1 (atA k) (rowA r) _ (by show 688 + r.val = 688 * 1 + r.val; omega)

/-- Past the keys they look at, the first rows are masked. -/
theorem pastA (r : Fin 352) (k : Fin 2064) (h : 1152 ≤ k.val) : scores X 1 (rowA r) k = masked :=
  scores_past X 1 (rowA r) k (by
    have := r.isLt
    show chunk (688 * 1 + r.val) < _
    unfold chunk; split <;> split <;> omega)

/-- The row of scores as the body holds it. -/
theorem rowA_at (r : Fin 352) : (fun k => Scalar.select (k0_pay61 (ix2 r k)) (scoreA X (ix2 r k)) masked) = cut (by decide) (scores X 1 (rowA r)) :=
  funext fun k => by rw [maskA_at, select_sees, scoreA_at]; rfl

theorem weightA_at (r : Fin 352) (k : Fin 1152) : k0_pay63 k0_pay61 (scoreA X) (ix2 r k) = weight (cut (by decide : 1152 ≤ 2064) (scores X 1 (rowA r))) k := by
  rw [← rowA_at]
  pointwise [k0_pay63]
  rfl

theorem recipA_at (r : Fin 352) : k0_pay64 k0_pay61 (scoreA X) (ix2 r 0) = recip (cut (by decide : 1152 ≤ 2064) (scores X 1 (rowA r))) := by
  pointwise [k0_pay64]
  simp only [weightA_at]
  rfl

theorem wA_at (r : Fin 352) (k : Fin 1152) : wA X (ix2 r k) = wt X 1 (rowA r) (atA k) := by
  pointwise [wA, k0_pay66]
  rw [weightA_at, weight_cut _ _ (pastA X r)]; rfl

theorem doA_at (r : Fin 352) (v : Fin 128) : doA X (ix2 r v) = nd X 1 (rowA r) v := by
  pointwise [doA, k0_pay67]
  rw [recipA_at, recip_cut _ _ (pastA X r), window_ix2]
  simp only [Nat.zero_add]; rfl

theorem dsA_at (r : Fin 352) (k : Fin 1152) : dsA X (ix2 r k) = gr X 1 (rowA r) (atA k) := by
  refine Eq.trans ?_ (grad_cut (by decide) (scores X 1 (rowA r)) (slope X (rowA r)) (pastA X r) k)
  pointwise [dsA, k0_pay65]
  simp only [weightA_at, recipA_at, valsA_at, window_ix2, Nat.zero_add]
  rfl

theorem dqNope1_at (r : Fin 352) (d : Fin 128) : dqNope1 X (ix3 0 r d) = dqLo X 1 (rowA r) d := by
  have e : ∀ k, k0_pay65 (valsA X) k0_pay61 (scoreA X) (window X.dy ![0, 0] S352x128.size inb_S688x128_S352x128_0_0) (ix2 r k) = gr X 1 (rowA r) (atA k) := dsA_at X r
  pointwise [dqNope1, k0_pay68]
  simp only [e, keysA_at]
  exact (sum_cut _ (fun k => gr X 1 (rowA r) k * key X k d) fun k hk => by rw [gr, grad_past _ _ (pastA X r) k hk, zero_mul]).symm

theorem dqPe1_at (r : Fin 352) (j : Fin 128) : dqPe1 X (ix3 0 r j) = dqHi X 1 (rowA r) j := by
  have e : ∀ k, k0_pay65 (valsA X) k0_pay61 (scoreA X) (window X.dy ![0, 0] S352x128.size inb_S688x128_S352x128_0_0) (ix2 r k) = gr X 1 (rowA r) (atA k) := dsA_at X r
  have s : ∀ j, ∑ k, gr X 1 (rowA r) (atA k) * keyPe X (atA k) j = ∑ k, gr X 1 (rowA r) k * keyPe X k j := fun j =>
    (sum_cut _ (fun k => gr X 1 (rowA r) k * keyPe X k j) fun k hk => by rw [gr, grad_past _ _ (pastA X r) k hk, zero_mul]).symm
  pointwise [dqPe1, k0_pay72, k0_pay69, k0_pay70, k0_pay71]
  simp only [e, krotA_at, s, window_ix2, Nat.zero_add]
  rfl

/-! ## The last rows -/

theorem qB_at (r : Fin 336) (d : Fin 128) : qB X (ix2 r d) = query X (rowB r) d := by
  pointwise [qB, k0_pay77]; simp only [window_ix3, Nat.zero_add]; rfl
theorem qrotB_at (r : Fin 336) (j : Fin 128) : qrotB X (ix2 r j) = queryPe X (rowB r) j := by
  pointwise [qrotB, k0_pay78]; simp only [window_ix3, window_ix2, Nat.zero_add]; rfl

theorem scoreB_at (r : Fin 336) (k : Fin 1536) : scoreB X (ix2 r k) = score X (rowB r) (atB k) := by
  have e := qrotB_at X r
  have e' := qB_at X r
  unfold qrotB at e
  unfold qB at e'
  pointwise [scoreB, k0_pay79]
  simp only [e, e', keys_at, krot_at]
  rfl

theorem pastB (r : Fin 336) (k : Fin 2064) (h : 1536 ≤ k.val) : scores X 1 (rowB r) k = masked :=
  scores_past X 1 (rowB r) k (by
    have := r.isLt
    have := k.isLt
    show chunk (688 * 1 + (352 + r.val)) < _
    unfold chunk; split <;> split <;> omega)

theorem weightB_at (r : Fin 336) (k : Fin 1536) :
    k0_pay83 (scoreB X) k0_pay81 k0_pay82 0#32 (ix2 r k) = weight (cut (by decide : 1536 ≤ 2064) (scores X 1 (rowB r))) k := by
  have e : cut (by decide : 1536 ≤ 2064) (scores X 1 (rowB r)) = fun k => Scalar.select
      (IntOp.cmpi .sle (chunkWord (BitVec.ofNat 32 (atB k).val)) (chunkWord (BitVec.ofNat 32 (1040 + r.val)))) (scoreB X (ix2 r k) * scale) masked :=
    funext fun k => by
      rw [sees_pos 1 (atB k) (rowB r) _ (by show 1040 + r.val = 688 * 1 + (352 + r.val); omega), select_sees, scoreB_at]; rfl
  rw [e]
  pointwise [k0_pay83, k0_pay81, k0_pay82, k0_pay80]
  simp only [addi_ofNat]
  rfl

theorem recipB_at (r : Fin 336) :
    k0_pay84 (scoreB X) k0_pay81 k0_pay82 0#32 (ix2 r 0) = recip (cut (by decide : 1536 ≤ 2064) (scores X 1 (rowB r))) := by
  pointwise [k0_pay84]
  simp only [weightB_at]
  rfl

theorem wB_at (r : Fin 336) (k : Fin 1536) : wB X (ix2 r k) = wt X 1 (rowB r) (atB k) := by
  pointwise [wB, k0_pay86]
  rw [weightB_at, weight_cut _ _ (pastB X r)]; rfl

theorem doB_at (r : Fin 336) (v : Fin 128) : doB X (ix2 r v) = nd X 1 (rowB r) v := by
  pointwise [doB, k0_pay87]
  rw [recipB_at, recip_cut _ _ (pastB X r), window_ix2]
  simp only [Nat.zero_add]; rfl

theorem dsB_at (r : Fin 336) (k : Fin 1536) : dsB X (ix2 r k) = gr X 1 (rowB r) (atB k) := by
  refine Eq.trans ?_ (grad_cut (by decide) (scores X 1 (rowB r)) (slope X (rowB r)) (pastB X r) k)
  pointwise [dsB, k0_pay85]
  simp only [weightB_at, recipB_at, vals_at, window_ix2, Nat.zero_add]
  rfl

theorem dqNope2_at (r : Fin 336) (d : Fin 128) : dqNope2 X (ix3 0 r d) = dqLo X 1 (rowB r) d := by
  pointwise [dqNope2, k0_pay88]
  simp only [dsB_at, keys_at]
  exact (sum_cut _ (fun k => gr X 1 (rowB r) k * key X k d) fun k hk => by rw [gr, grad_past _ _ (pastB X r) k hk, zero_mul]).symm

theorem dqPe2_at (r : Fin 336) (j : Fin 128) : dqPe2 X (ix3 0 r j) = dqHi X 1 (rowB r) j := by
  have s : ∀ j, ∑ k, gr X 1 (rowB r) (atB k) * keyPe X (atB k) j = ∑ k, gr X 1 (rowB r) k * keyPe X k j := fun j =>
    (sum_cut _ (fun k => gr X 1 (rowB r) k * keyPe X k j) fun k hk => by rw [gr, grad_past _ _ (pastB X r) k hk, zero_mul]).symm
  pointwise [dqPe2, k0_pay89]
  simp only [dsB_at, krot_at, s, window_ix2, Nat.zero_add]
  rfl

/-! ## The three blocks the body leaves -/

theorem dq_lo (b : Vec Ideal S1x688x256 .bf16) (r : Fin 688) (d : Fin 128) : dq X b (ix3 0 r (lo d)) = dqLo X 1 r d := by
  unfold dq
  rw [put_ix3_outside _ _ _ _ (by show ¬ (_ ∧ (128 ≤ d.val ∧ _)); omega)]
  by_cases h : r.val < 352
  · rw [put_ix3_outside _ _ _ _ (by omega), put_ix3_outside _ _ _ _ (by show ¬ (_ ∧ (128 ≤ d.val ∧ _)); omega),
      put_ix3_inside _ _ r (lo d) ⟨r.val, h⟩ d (Nat.zero_add _).symm (Nat.zero_add _).symm, dqNope1_at]; rfl
  · rw [put_ix3_inside _ _ r (lo d) ⟨r.val - 352, by omega⟩ d (by show r.val = 352 + (r.val - 352); omega) (Nat.zero_add _).symm, dqNope2_at,
      show rowB ⟨r.val - 352, by omega⟩ = r from Fin.ext (by show 352 + (r.val - 352) = r.val; omega)]

theorem dq_hi (b : Vec Ideal S1x688x256 .bf16) (r : Fin 688) (j : Fin 128) : dq X b (ix3 0 r (hi j)) = dqHi X 1 r j := by
  unfold dq
  by_cases h : r.val < 352
  · rw [put_ix3_outside _ _ _ _ (by omega), put_ix3_outside _ _ _ _ (by omega),
      put_ix3_inside _ _ r (hi j) ⟨r.val, h⟩ j (Nat.zero_add _).symm rfl, dqPe1_at]; rfl
  · rw [put_ix3_inside _ _ r (hi j) ⟨r.val - 352, by omega⟩ j (by show r.val = 352 + (r.val - 352); omega) rfl, dqPe2_at,
      show rowB ⟨r.val - 352, by omega⟩ = r from Fin.ext (by show 352 + (r.val - 352) = r.val; omega)]

/-- What the first rows and what the last add to a key's gradient, to its value's, and to the shared key's. -/
def moreA (f : Fin 688 → Fin 2064 → EReal) (g : Fin 688 → Fin 128 → EReal) (k : Fin 2064) (d : Fin 128) : EReal := ∑ r, f (rowA r) k * g (rowA r) d
def moreB (f : Fin 688 → Fin 2064 → EReal) (g : Fin 688 → Fin 128 → EReal) (k : Fin 2064) (d : Fin 128) : EReal := ∑ r, f (rowB r) k * g (rowB r) d

theorem moreA_gr (g : Fin 688 → Fin 128 → EReal) (k : Fin 2064) (d : Fin 128) (h : 1152 ≤ k.val) : moreA (gr X 1) g k d = 0 :=
  Finset.sum_eq_zero fun r _ => by rw [gr, grad_past _ _ (pastA X r) k h, zero_mul]
theorem moreA_wt (g : Fin 688 → Fin 128 → EReal) (k : Fin 2064) (d : Fin 128) (h : 1152 ≤ k.val) : moreA (wt X 1) g k d = 0 :=
  Finset.sum_eq_zero fun r _ => by rw [wt, weight_past _ (pastA X r) k h, zero_mul]
theorem moreB_gr (g : Fin 688 → Fin 128 → EReal) (k : Fin 2064) (d : Fin 128) (h : 1536 ≤ k.val) : moreB (gr X 1) g k d = 0 :=
  Finset.sum_eq_zero fun r _ => by rw [gr, grad_past _ _ (pastB X r) k h, zero_mul]
theorem moreB_wt (g : Fin 688 → Fin 128 → EReal) (k : Fin 2064) (d : Fin 128) (h : 1536 ≤ k.val) : moreB (wt X 1) g k d = 0 :=
  Finset.sum_eq_zero fun r _ => by rw [wt, weight_past _ (pastB X r) k h, zero_mul]

theorem dkvA_lo (b : Vec Ideal S1x2064x256 .f32) (k : Fin 2064) (d : Fin 128) :
    dkvA X b (ix3 0 k (lo d)) = b (ix3 0 k (lo d)) + moreA (gr X 1) (query X) k d := by
  refine (update_lo _ _ k d).trans (update_at (by decide) _ _ lo (fun _ => (Nat.zero_add _).symm) _ b (moreA_gr X _) (fun _ _ => rfl) (fun k d => ?_) k d)
  pointwise [k0_pay73]
  simp only [window_ix3, dsA_at, qA_at, Nat.zero_add]; rfl
theorem dkvA_hi (b : Vec Ideal S1x2064x256 .f32) (k : Fin 2064) (d : Fin 128) :
    dkvA X b (ix3 0 k (hi d)) = b (ix3 0 k (hi d)) + moreA (wt X 1) (nd X 1) k d := by
  refine update_at (by decide) _ _ hi (fun _ => rfl) _ b (moreA_wt X _) (fun k d => update_hi _ _ k d) (fun k d => ?_) k d
  pointwise [k0_pay74]
  simp only [window_ix3, wA_at, doA_at, Nat.zero_add]; rfl
theorem dkvB_lo (b : Vec Ideal S1x2064x256 .f32) (k : Fin 2064) (d : Fin 128) :
    dkvB X b (ix3 0 k (lo d)) = b (ix3 0 k (lo d)) + moreB (gr X 1) (query X) k d := by
  refine (update_lo _ _ k d).trans (update_at (by decide) _ _ lo (fun _ => (Nat.zero_add _).symm) _ b (moreB_gr X _) (fun _ _ => rfl) (fun k d => ?_) k d)
  pointwise [k0_pay90]
  simp only [window_ix3, dsB_at, qB_at, Nat.zero_add]; rfl
theorem dkvB_hi (b : Vec Ideal S1x2064x256 .f32) (k : Fin 2064) (d : Fin 128) :
    dkvB X b (ix3 0 k (hi d)) = b (ix3 0 k (hi d)) + moreB (wt X 1) (nd X 1) k d := by
  refine update_at (by decide) _ _ hi (fun _ => rfl) _ b (moreB_wt X _) (fun k d => update_hi _ _ k d) (fun k d => ?_) k d
  pointwise [k0_pay5]
  simp only [window_ix3, wB_at, doB_at, Nat.zero_add]
  exact congrArg (· + _) (update_hi _ _ (atB k) d)

theorem dkv_lo (b : Vec Ideal S1x2064x256 .f32) (k : Fin 2064) (d : Fin 128) :
    dkv X b (ix3 0 k (lo d)) = b (ix3 0 k (lo d)) + ∑ r, gr X 1 r k * query X r d := by
  unfold dkv; rw [dkvB_lo, dkvA_lo, add_assoc, sum_rows]; rfl
theorem dkv_hi (b : Vec Ideal S1x2064x256 .f32) (k : Fin 2064) (d : Fin 128) :
    dkv X b (ix3 0 k (hi d)) = b (ix3 0 k (hi d)) + ∑ r, wt X 1 r k * nd X 1 r d := by
  unfold dkv; rw [dkvB_hi, dkvA_hi, add_assoc, sum_rows]; rfl

theorem dkpeA_at (b : Vec Ideal S1x2064x128 .f32) (k : Fin 2064) (j : Fin 128) :
    dkpeA X b (ix3 0 k j) = b (ix3 0 k j) + moreA (gr X 1) (queryPe X) k j := by
  refine update_at (by decide) _ _ id (fun _ => (Nat.zero_add _).symm) _ b (moreA_gr X _) (fun _ _ => rfl) (fun k d => ?_) k j
  pointwise [k0_pay76, k0_pay75]
  simp only [window_ix3, dsA_at, qrotA_at, Nat.zero_add]; rfl
theorem dkpe_at (b : Vec Ideal S1x2064x128 .f32) (k : Fin 2064) (j : Fin 128) :
    dkpe X b (ix3 0 k j) = b (ix3 0 k j) + ∑ r, gr X 1 r k * queryPe X r j := by
  refine (update_at (by decide) _ _ id (fun _ => (Nat.zero_add _).symm) _ (dkpeA X b) (moreB_gr X (queryPe X)) (fun _ _ => rfl) (fun k d => ?_) k j).trans ?_
  · pointwise [k0_pay6]
    simp only [window_ix3, dsB_at, qrotB_at, Nat.zero_add]; rfl
  · rw [id, dkpeA_at, add_assoc, sum_rows]; rfl

end Cert.KernelIdeal.AttnBwd.SecondTile

end
-- ==== Proof.ReadThird.lean ====
/-
  The third tile's body over the extended reals: each array it computes, read at an index, is the quantity of the
  backward pass the shared module names. Its first rows look at the first 1792 keys and its last at the first 2064.
-/
module

public import proofs.«01_k».proof.Proof.ThirdTile
public import proofs.«01_k».proof.Proof.Tile
public import Idealize.ShloMosaic.Lib.Pointwise

@[expose] public section

set_option maxRecDepth 16384

noncomputable section

namespace Cert.KernelIdeal.AttnBwd.ThirdTile

open Idealize.ShloMosaic Idealize.ShloMosaic.TcCoe
open Cert.KernelIdeal.Gen Cert.AttnRow
open VecWindow

variable (X : Blocks Ideal)

/-- The keys the first rows look at, and the last. -/
abbrev atA (k : Fin 1792) : Fin 2064 := k.castLE (by decide)
abbrev atB (k : Fin 2064) : Fin 2064 := k.castLE (by decide)

theorem keys_at (k : Fin 2064) (d : Fin 128) : keys X (ix2 k d) = key X (atB k) d := by
  pointwise [keys, k0_pay91]; simp only [window_ix3, Nat.zero_add]; rfl
theorem vals_at (k : Fin 2064) (d : Fin 128) : vals X (ix2 k d) = val X (atB k) d := by
  pointwise [vals, k0_pay92]; simp only [window_ix3, Nat.zero_add]; rfl
theorem krot_at (k : Fin 2064) (j : Fin 128) : krot X (ix2 k j) = keyPe X (atB k) j := by
  pointwise [krot, k0_pay93]; simp only [window_ix2, Nat.zero_add]; rfl
theorem keysA_at (k : Fin 1792) (d : Fin 128) : keysA X (ix2 k d) = key X (atA k) d := by
  pointwise [keysA, k0_pay94, k0_pay91]; simp only [window_ix3, Nat.zero_add]; rfl
theorem krotA_at (k : Fin 1792) (j : Fin 128) : krotA X (ix2 k j) = keyPe X (atA k) j := by
  pointwise [krotA, k0_pay95, k0_pay93]; simp only [window_ix2, Nat.zero_add]; rfl
theorem valsA_at (k : Fin 1792) (d : Fin 128) : valsA X (ix2 k d) = val X (atA k) d := by
  pointwise [valsA, k0_pay96, k0_pay92]; simp only [window_ix3, Nat.zero_add]; rfl

/-! ## The first rows -/

theorem qA_at (r : Fin 352) (d : Fin 128) : qA X (ix2 r d) = query X (rowA r) d := by
  pointwise [qA, k0_pay97]; simp only [window_ix3, Nat.zero_add]; rfl
theorem qrotA_at (r : Fin 352) (j : Fin 128) : qrotA X (ix2 r j) = queryPe X (rowA r) j := by
  pointwise [qrotA, qpeA, c1A, c2A, k0_pay101, k0_pay98, k0_pay99, k0_pay100]; simp only [window_ix3, window_ix2, Nat.zero_add]; rfl

theorem scoreA_at (r : Fin 352) (k : Fin 1792) : scoreA X (ix2 r k) = score X (rowA r) (atA k) * scale := by
  have e : ∀ j, k0_pay101 (qpeA X) (c1A X) (c2A X) (window X.c3 ![0, 0] S352x128.size inb_S688x128_S352x128_0_0) (ix2 r j) = queryPe X (rowA r) j := qrotA_at X r
  pointwise [scoreA, k0_pay103]
  simp only [e, keysA_at, krotA_at, qA_at]
  rfl

theorem maskA_at (r : Fin 352) (k : Fin 1792) : k0_pay102 (ix2 r k) = if chunk (atA k).val ≤ chunk (pos 2 (rowA r)).val then 1#1 else 0#1 := by
  pointwise [k0_pay102]
  rw [addi_ofNat]
  exact sees_pos 2 (atA k) (rowA r) _ (by show 1376 + r.val = 688 * 2 + r.val; omega)

/-- Past the keys they look at, the first rows are masked. -/
theorem pastA (r : Fin 352) (k : Fin 2064) (h : 1792 ≤ k.val) : scores X 2 (rowA r) k = masked :=
  scores_past X 2 (rowA r) k (by
    have := r.isLt
    show chunk (688 * 2 + r.val) < _
    unfold chunk; split <;> split <;> omega)

/-- The row of scores as the body holds it. -/
theorem rowA_at (r : Fin 352) : (fun k => Scalar.select (k0_pay102 (ix2 r k)) (scoreA X (ix2 r k)) masked) = cut (by decide) (scores X 2 (rowA r)) :=
  funext fun k => by rw [maskA_at, select_sees, scoreA_at]; rfl

theorem weightA_at (r : Fin 352) (k : Fin 1792) : k0_pay104 k0_pay102 (scoreA X) (ix2 r k) = weight (cut (by decide : 1792 ≤ 2064) (scores X 2 (rowA r))) k := by
  rw [← rowA_at]
  pointwise [k0_pay104]
  rfl

theorem recipA_at (r : Fin 352) : k0_pay105 k0_pay102 (scoreA X) (ix2 r 0) = recip (cut (by decide : 1792 ≤ 2064) (scores X 2 (rowA r))) := by
  pointwise [k0_pay105]
  simp only [weightA_at]
  rfl

theorem wA_at (r : Fin 352) (k : Fin 1792) : wA X (ix2 r k) = wt X 2 (rowA r) (atA k) := by
  pointwise [wA, k0_pay107]
  rw [weightA_at, weight_cut _ _ (pastA X r)]; rfl

theorem doA_at (r : Fin 352) (v : Fin 128) : doA X (ix2 r v) = nd X 2 (rowA r) v := by
  pointwise [doA, k0_pay108]
  rw [recipA_at, recip_cut _ _ (pastA X r), window_ix2]
  simp only [Nat.zero_add]; rfl

theorem dsA_at (r : Fin 352) (k : Fin 1792) : dsA X (ix2 r k) = gr X 2 (rowA r) (atA k) := by
  refine Eq.trans ?_ (grad_cut (by decide) (scores X 2 (rowA r)) (slope X (rowA r)) (pastA X r) k)
  pointwise [dsA, k0_pay106]
  simp only [weightA_at, recipA_at, valsA_at, window_ix2, Nat.zero_add]
  rfl

theorem dqNope1_at (r : Fin 352) (d : Fin 128) : dqNope1 X (ix3 0 r d) = dqLo X 2 (rowA r) d := by
  have e : ∀ k, k0_pay106 (valsA X) k0_pay102 (scoreA X) (window X.dy ![0, 0] S352x128.size inb_S688x128_S352x128_0_0) (ix2 r k) = gr X 2 (rowA r) (atA k) := dsA_at X r
  pointwise [dqNope1, k0_pay109]
  simp only [e, keysA_at]
  exact (sum_cut _ (fun k => gr X 2 (rowA r) k * key X k d) fun k hk => by rw [gr, grad_past _ _ (pastA X r) k hk, zero_mul]).symm

theorem dqPe1_at (r : Fin 352) (j : Fin 128) : dqPe1 X (ix3 0 r j) = dqHi X 2 (rowA r) j := by
  have e : ∀ k, k0_pay106 (valsA X) k0_pay102 (scoreA X) (window X.dy ![0, 0] S352x128.size inb_S688x128_S352x128_0_0) (ix2 r k) = gr X 2 (rowA r) (atA k) := dsA_at X r
  have s : ∀ j, ∑ k, gr X 2 (rowA r) (atA k) * keyPe X (atA k) j = ∑ k, gr X 2 (rowA r) k * keyPe X k j := fun j =>
    (sum_cut _ (fun k => gr X 2 (rowA r) k * keyPe X k j) fun k hk => by rw [gr, grad_past _ _ (pastA X r) k hk, zero_mul]).symm
  pointwise [dqPe1, k0_pay113, k0_pay110, k0_pay111, k0_pay112]
  simp only [e, krotA_at, s, window_ix2, Nat.zero_add]
  rfl

/-! ## The last rows -/

theorem qB_at (r : Fin 336) (d : Fin 128) : qB X (ix2 r d) = query X (rowB r) d := by
  pointwise [qB, k0_pay118]; simp only [window_ix3, Nat.zero_add]; rfl
theorem qrotB_at (r : Fin 336) (j : Fin 128) : qrotB X (ix2 r j) = queryPe X (rowB r) j := by
  pointwise [qrotB, k0_pay119]; simp only [window_ix3, window_ix2, Nat.zero_add]; rfl

theorem scoreB_at (r : Fin 336) (k : Fin 2064) : scoreB X (ix2 r k) = score X (rowB r) (atB k) := by
  have e := qrotB_at X r
  have e' := qB_at X r
  unfold qrotB at e
  unfold qB at e'
  pointwise [scoreB, k0_pay120]
  simp only [e, e', keys_at, krot_at]
  rfl

theorem pastB (r : Fin 336) (k : Fin 2064) (h : 2064 ≤ k.val) : scores X 2 (rowB r) k = masked :=
  scores_past X 2 (rowB r) k (by
    have := r.isLt
    have := k.isLt
    show chunk (688 * 2 + (352 + r.val)) < _
    unfold chunk; split <;> split <;> omega)

theorem weightB_at (r : Fin 336) (k : Fin 2064) :
    k0_pay124 (scoreB X) k0_pay122 k0_pay123 0#32 (ix2 r k) = weight (cut (by decide : 2064 ≤ 2064) (scores X 2 (rowB r))) k := by
  have e : cut (by decide : 2064 ≤ 2064) (scores X 2 (rowB r)) = fun k => Scalar.select
      (IntOp.cmpi .sle (chunkWord (BitVec.ofNat 32 (atB k).val)) (chunkWord (BitVec.ofNat 32 (1728 + r.val)))) (scoreB X (ix2 r k) * scale) masked :=
    funext fun k => by
      rw [sees_pos 2 (atB k) (rowB r) _ (by show 1728 + r.val = 688 * 2 + (352 + r.val); omega), select_sees, scoreB_at]; rfl
  rw [e]
  pointwise [k0_pay124, k0_pay122, k0_pay123, k0_pay121]
  simp only [addi_ofNat]
  rfl

theorem recipB_at (r : Fin 336) :
    k0_pay125 (scoreB X) k0_pay122 k0_pay123 0#32 (ix2 r 0) = recip (cut (by decide : 2064 ≤ 2064) (scores X 2 (rowB r))) := by
  pointwise [k0_pay125]
  simp only [weightB_at]
  rfl

theorem wB_at (r : Fin 336) (k : Fin 2064) : wB X (ix2 r k) = wt X 2 (rowB r) (atB k) := by
  pointwise [wB, k0_pay127]
  rw [weightB_at, weight_cut _ _ (pastB X r)]; rfl

theorem doB_at (r : Fin 336) (v : Fin 128) : doB X (ix2 r v) = nd X 2 (rowB r) v := by
  pointwise [doB, k0_pay128]
  rw [recipB_at, recip_cut _ _ (pastB X r), window_ix2]
  simp only [Nat.zero_add]; rfl

theorem dsB_at (r : Fin 336) (k : Fin 2064) : dsB X (ix2 r k) = gr X 2 (rowB r) (atB k) := by
  refine Eq.trans ?_ (grad_cut (by decide) (scores X 2 (rowB r)) (slope X (rowB r)) (pastB X r) k)
  pointwise [dsB, k0_pay126]
  simp only [weightB_at, recipB_at, vals_at, window_ix2, Nat.zero_add]
  rfl

theorem dqNope2_at (r : Fin 336) (d : Fin 128) : dqNope2 X (ix3 0 r d) = dqLo X 2 (rowB r) d := by
  pointwise [dqNope2, k0_pay129]
  simp only [dsB_at, keys_at]
  exact (sum_cut _ (fun k => gr X 2 (rowB r) k * key X k d) fun k hk => by rw [gr, grad_past _ _ (pastB X r) k hk, zero_mul]).symm

theorem dqPe2_at (r : Fin 336) (j : Fin 128) : dqPe2 X (ix3 0 r j) = dqHi X 2 (rowB r) j := by
  have s : ∀ j, ∑ k, gr X 2 (rowB r) (atB k) * keyPe X (atB k) j = ∑ k, gr X 2 (rowB r) k * keyPe X k j := fun j =>
    (sum_cut _ (fun k => gr X 2 (rowB r) k * keyPe X k j) fun k hk => by rw [gr, grad_past _ _ (pastB X r) k hk, zero_mul]).symm
  pointwise [dqPe2, k0_pay130]
  simp only [dsB_at, krot_at, s, window_ix2, Nat.zero_add]
  rfl

/-! ## The three blocks the body leaves -/

theorem dq_lo (b : Vec Ideal S1x688x256 .bf16) (r : Fin 688) (d : Fin 128) : dq X b (ix3 0 r (lo d)) = dqLo X 2 r d := by
  unfold dq
  rw [put_ix3_outside _ _ _ _ (by show ¬ (_ ∧ (128 ≤ d.val ∧ _)); omega)]
  by_cases h : r.val < 352
  · rw [put_ix3_outside _ _ _ _ (by omega), put_ix3_outside _ _ _ _ (by show ¬ (_ ∧ (128 ≤ d.val ∧ _)); omega),
      put_ix3_inside _ _ r (lo d) ⟨r.val, h⟩ d (Nat.zero_add _).symm (Nat.zero_add _).symm, dqNope1_at]; rfl
  · rw [put_ix3_inside _ _ r (lo d) ⟨r.val - 352, by omega⟩ d (by show r.val = 352 + (r.val - 352); omega) (Nat.zero_add _).symm, dqNope2_at,
      show rowB ⟨r.val - 352, by omega⟩ = r from Fin.ext (by show 352 + (r.val - 352) = r.val; omega)]

theorem dq_hi (b : Vec Ideal S1x688x256 .bf16) (r : Fin 688) (j : Fin 128) : dq X b (ix3 0 r (hi j)) = dqHi X 2 r j := by
  unfold dq
  by_cases h : r.val < 352
  · rw [put_ix3_outside _ _ _ _ (by omega), put_ix3_outside _ _ _ _ (by omega),
      put_ix3_inside _ _ r (hi j) ⟨r.val, h⟩ j (Nat.zero_add _).symm rfl, dqPe1_at]; rfl
  · rw [put_ix3_inside _ _ r (hi j) ⟨r.val - 352, by omega⟩ j (by show r.val = 352 + (r.val - 352); omega) rfl, dqPe2_at,
      show rowB ⟨r.val - 352, by omega⟩ = r from Fin.ext (by show 352 + (r.val - 352) = r.val; omega)]

/-- What the first rows and what the last add to a key's gradient, to its value's, and to the shared key's. -/
def moreA (f : Fin 688 → Fin 2064 → EReal) (g : Fin 688 → Fin 128 → EReal) (k : Fin 2064) (d : Fin 128) : EReal := ∑ r, f (rowA r) k * g (rowA r) d
def moreB (f : Fin 688 → Fin 2064 → EReal) (g : Fin 688 → Fin 128 → EReal) (k : Fin 2064) (d : Fin 128) : EReal := ∑ r, f (rowB r) k * g (rowB r) d

theorem moreA_gr (g : Fin 688 → Fin 128 → EReal) (k : Fin 2064) (d : Fin 128) (h : 1792 ≤ k.val) : moreA (gr X 2) g k d = 0 :=
  Finset.sum_eq_zero fun r _ => by rw [gr, grad_past _ _ (pastA X r) k h, zero_mul]
theorem moreA_wt (g : Fin 688 → Fin 128 → EReal) (k : Fin 2064) (d : Fin 128) (h : 1792 ≤ k.val) : moreA (wt X 2) g k d = 0 :=
  Finset.sum_eq_zero fun r _ => by rw [wt, weight_past _ (pastA X r) k h, zero_mul]
theorem moreB_gr (g : Fin 688 → Fin 128 → EReal) (k : Fin 2064) (d : Fin 128) (h : 2064 ≤ k.val) : moreB (gr X 2) g k d = 0 :=
  Finset.sum_eq_zero fun r _ => by rw [gr, grad_past _ _ (pastB X r) k h, zero_mul]
theorem moreB_wt (g : Fin 688 → Fin 128 → EReal) (k : Fin 2064) (d : Fin 128) (h : 2064 ≤ k.val) : moreB (wt X 2) g k d = 0 :=
  Finset.sum_eq_zero fun r _ => by rw [wt, weight_past _ (pastB X r) k h, zero_mul]

theorem dkvA_lo (b : Vec Ideal S1x2064x256 .f32) (k : Fin 2064) (d : Fin 128) :
    dkvA X b (ix3 0 k (lo d)) = b (ix3 0 k (lo d)) + moreA (gr X 2) (query X) k d := by
  refine (update_lo _ _ k d).trans (update_at (by decide) _ _ lo (fun _ => (Nat.zero_add _).symm) _ b (moreA_gr X _) (fun _ _ => rfl) (fun k d => ?_) k d)
  pointwise [k0_pay114]
  simp only [window_ix3, dsA_at, qA_at, Nat.zero_add]; rfl
theorem dkvA_hi (b : Vec Ideal S1x2064x256 .f32) (k : Fin 2064) (d : Fin 128) :
    dkvA X b (ix3 0 k (hi d)) = b (ix3 0 k (hi d)) + moreA (wt X 2) (nd X 2) k d := by
  refine update_at (by decide) _ _ hi (fun _ => rfl) _ b (moreA_wt X _) (fun k d => update_hi _ _ k d) (fun k d => ?_) k d
  pointwise [k0_pay115]
  simp only [window_ix3, wA_at, doA_at, Nat.zero_add]; rfl
theorem dkvB_lo (b : Vec Ideal S1x2064x256 .f32) (k : Fin 2064) (d : Fin 128) :
    dkvB X b (ix3 0 k (lo d)) = b (ix3 0 k (lo d)) + moreB (gr X 2) (query X) k d := by
  refine (update_lo _ _ k d).trans (update_at (by decide) _ _ lo (fun _ => (Nat.zero_add _).symm) _ b (moreB_gr X _) (fun _ _ => rfl) (fun k d => ?_) k d)
  pointwise [k0_pay131]
  simp only [window_ix3, dsB_at, qB_at, Nat.zero_add]; rfl
theorem dkvB_hi (b : Vec Ideal S1x2064x256 .f32) (k : Fin 2064) (d : Fin 128) :
    dkvB X b (ix3 0 k (hi d)) = b (ix3 0 k (hi d)) + moreB (wt X 2) (nd X 2) k d := by
  refine update_at (by decide) _ _ hi (fun _ => rfl) _ b (moreB_wt X _) (fun k d => update_hi _ _ k d) (fun k d => ?_) k d
  pointwise [k0_pay7]
  simp only [window_ix3, wB_at, doB_at, Nat.zero_add]
  exact congrArg (· + _) (update_hi _ _ (atB k) d)

theorem dkv_lo (b : Vec Ideal S1x2064x256 .f32) (k : Fin 2064) (d : Fin 128) :
    dkv X b (ix3 0 k (lo d)) = b (ix3 0 k (lo d)) + ∑ r, gr X 2 r k * query X r d := by
  unfold dkv; rw [dkvB_lo, dkvA_lo, add_assoc, sum_rows]; rfl
theorem dkv_hi (b : Vec Ideal S1x2064x256 .f32) (k : Fin 2064) (d : Fin 128) :
    dkv X b (ix3 0 k (hi d)) = b (ix3 0 k (hi d)) + ∑ r, wt X 2 r k * nd X 2 r d := by
  unfold dkv; rw [dkvB_hi, dkvA_hi, add_assoc, sum_rows]; rfl

theorem dkpeA_at (b : Vec Ideal S1x2064x128 .f32) (k : Fin 2064) (j : Fin 128) :
    dkpeA X b (ix3 0 k j) = b (ix3 0 k j) + moreA (gr X 2) (queryPe X) k j := by
  refine update_at (by decide) _ _ id (fun _ => (Nat.zero_add _).symm) _ b (moreA_gr X _) (fun _ _ => rfl) (fun k d => ?_) k j
  pointwise [k0_pay117, k0_pay116]
  simp only [window_ix3, dsA_at, qrotA_at, Nat.zero_add]; rfl
theorem dkpe_at (b : Vec Ideal S1x2064x128 .f32) (k : Fin 2064) (j : Fin 128) :
    dkpe X b (ix3 0 k j) = b (ix3 0 k j) + ∑ r, gr X 2 r k * queryPe X r j := by
  refine (update_at (by decide) _ _ id (fun _ => (Nat.zero_add _).symm) _ (dkpeA X b) (moreB_gr X (queryPe X)) (fun _ _ => rfl) (fun k d => ?_) k j).trans ?_
  · pointwise [k0_pay8]
    simp only [window_ix3, dsB_at, qrotB_at, Nat.zero_add]; rfl
  · rw [id, dkpeA_at, add_assoc, sum_rows]; rfl

end Cert.KernelIdeal.AttnBwd.ThirdTile

end
-- ==== Proof.Arrays.lean ====
/-
  What the kernel's three result arrays hold after the run: the attention's gradients, of the call's arguments.
-/
module

public import proofs.«01_k».proof.Proof.Entries
public import proofs.«01_k».proof.Proof.Lanes
public import proofs.«01_k».proof.Proof.ReadFirst
public import proofs.«01_k».proof.Proof.ReadSecond
public import proofs.«01_k».proof.Proof.ReadThird

@[expose] public section

set_option maxRecDepth 16384

noncomputable section

namespace Cert.KernelIdeal.AttnBwd

open Idealize.ShloMosaic Idealize.ShloMosaic.TcCoe Idealize.ShloMosaic.Tactic
open Cert.KernelIdeal.Gen
open Cert.AttnRow
open Cert.Attention (Inputs)

variable (m : (ℓ : Loc nD τ sig) → Buf (Elt Ideal) ℓ) (c : Dev nD)

/-- The arguments a device's call is given. -/
def inputs : Inputs where
  q := m ((c : Thread nD τ).loc main_arg0)
  kv := m ((c : Thread nD τ).loc main_arg1)
  z := m ((c : Thread nD τ).loc main_arg2)
  cos := m ((c : Thread nD τ).loc main_arg3)
  sin := m ((c : Thread nD τ).loc main_arg4)
  dy := m ((c : Thread nD τ).loc main_arg5)

/-! ## What a point's blocks are made of -/

variable (t : Fin cfg0.N) (r : Fin 688) (k : Fin 2064)

theorem query_eq (d : Fin 128) : query (blocksAt m c t) r d = Attention.qn (inputs m c) (headOf t) (pos (tileOf t) r) d := by
  unfold query
  rw [q_at, v6_at, dif_pos (by show d.val < 192; omega)]
  rfl

/-- The tables of a row, and of a key. -/
theorem tables_row : (fun j => (blocksAt m c t).c1 (ix2 r j)) = tabA (fun j => (inputs m c).cos (ix2 (pos (tileOf t) r) j))
    ∧ (fun j => (blocksAt m c t).c2 (ix2 r j)) = tabB (fun j => (inputs m c).sin (ix2 (pos (tileOf t) r) j))
    ∧ (fun j => (blocksAt m c t).c3 (ix2 r j)) = tabC (fun j => (inputs m c).sin (ix2 (pos (tileOf t) r) j)) :=
  ⟨funext fun j => by rw [c1_at, v2_at]; rfl, funext fun j => by rw [c2_at, v4_at]; rfl, funext fun j => by rw [c3_at, v5_at]; rfl⟩
theorem tables_key : (fun j => (blocksAt m c t).k1 (ix2 k j)) = tabA (fun j => (inputs m c).cos (ix2 k j))
    ∧ (fun j => (blocksAt m c t).k2 (ix2 k j)) = tabB (fun j => (inputs m c).sin (ix2 k j))
    ∧ (fun j => (blocksAt m c t).k3 (ix2 k j)) = tabC (fun j => (inputs m c).sin (ix2 k j)) :=
  ⟨funext fun j => by rw [k1_at, v2_at]; rfl, funext fun j => by rw [k2_at, v4_at]; rfl, funext fun j => by rw [k3_at, v5_at]; rfl⟩

theorem queryPe_eq : queryPe (blocksAt m c t) r = turn (fun j => V m c main_v6 (ix3 (headOf t) (pos (tileOf t) r) (hi j)))
    (tabA (fun j => (inputs m c).cos (ix2 (pos (tileOf t) r) j))) (tabB (fun j => (inputs m c).sin (ix2 (pos (tileOf t) r) j)))
    (tabC (fun j => (inputs m c).sin (ix2 (pos (tileOf t) r) j))) := by
  unfold queryPe
  rw [(tables_row m c t r).1, (tables_row m c t r).2.1, (tables_row m c t r).2.2]
  simp only [q_at]
theorem queryPe_la (j : Fin 32) : queryPe (blocksAt m c t) r (la j) = Attention.qa (inputs m c) (headOf t) (pos (tileOf t) r) j := by
  rw [queryPe_eq, turn_la, v6_at, v6_at, dif_pos (by show 128 + j.val < 192; omega), dif_pos (by show 128 + (32 + j.val) < 192; omega)]
  rfl
theorem queryPe_lb (j : Fin 32) : queryPe (blocksAt m c t) r (lb j) = Attention.qb (inputs m c) (headOf t) (pos (tileOf t) r) j := by
  rw [queryPe_eq, turn_lb, v6_at, v6_at, dif_pos (by show 128 + j.val < 192; omega), dif_pos (by show 128 + (32 + j.val) < 192; omega)]
  rfl
theorem queryPe_lz (o : Fin 64) : queryPe (blocksAt m c t) r (lz o) = 0 := by rw [queryPe_eq, turn_lz]

theorem key_eq (d : Fin 128) : key (blocksAt m c t) k d = Attention.kn (inputs m c) (headOf t) k d := by unfold key; rw [kv_at]; rfl
theorem val_eq (v : Fin 128) : val (blocksAt m c t) k v = Attention.va (inputs m c) (headOf t) k v := by unfold val; rw [kv_at]; rfl
theorem dy_eq (v : Fin 128) : (blocksAt m c t).dy (ix2 r v) = Attention.dyo (inputs m c) (headOf t) (pos (tileOf t) r) v := dy_at m c t r v

theorem keyPe_eq : keyPe (blocksAt m c t) k = turn (fun j => V m c main_v7 (ix2 k ⟨1792 + j.val, by omega⟩))
    (tabA (fun j => (inputs m c).cos (ix2 k j))) (tabB (fun j => (inputs m c).sin (ix2 k j))) (tabC (fun j => (inputs m c).sin (ix2 k j))) := by
  unfold keyPe
  rw [(tables_key m c t k).1, (tables_key m c t k).2.1, (tables_key m c t k).2.2]
  simp only [kpe_at]
theorem keyPe_la (j : Fin 32) : keyPe (blocksAt m c t) k (la j) = Attention.ka (inputs m c) k j := by
  rw [keyPe_eq, turn_la, v7_at, v7_at, dif_pos (by show j.val < 64; omega), dif_pos (by show 32 + j.val < 64; omega)]
  rfl
theorem keyPe_lb (j : Fin 32) : keyPe (blocksAt m c t) k (lb j) = Attention.kb (inputs m c) k j := by
  rw [keyPe_eq, turn_lb, v7_at, v7_at, dif_pos (by show j.val < 64; omega), dif_pos (by show 32 + j.val < 64; omega)]
  rfl
theorem keyPe_lz (o : Fin 64) : keyPe (blocksAt m c t) k (lz o) = 0 := by rw [keyPe_eq, turn_lz]

/-! ## The quantities of a row -/

theorem score_eq : score (blocksAt m c t) r k = Attention.score (inputs m c) (headOf t) (pos (tileOf t) r) k := by
  unfold score Attention.score
  rw [Attention.sum_lanes (fun j => queryPe (blocksAt m c t) r j * keyPe (blocksAt m c t) k j)]
  refine congrArg₂ _ (Finset.sum_congr rfl fun d _ => by rw [query_eq, key_eq]) ?_
  refine (congrArg₂ _ rfl (Finset.sum_eq_zero fun o _ => (congrArg₂ _ (queryPe_lz m c t r o) rfl).trans (zero_mul _))).trans ((add_zero _).trans ?_)
  exact congrArg₂ _ (Finset.sum_congr rfl fun j _ => congrArg₂ _ (queryPe_la m c t r j) (keyPe_la m c t k j))
    (Finset.sum_congr rfl fun j _ => congrArg₂ _ (queryPe_lb m c t r j) (keyPe_lb m c t k j))

theorem scores_eq : scores (blocksAt m c t) (tileOf t) r = Attention.scores (inputs m c) (headOf t) (pos (tileOf t) r) :=
  funext fun k => by unfold scores Attention.scores; rw [score_eq]
theorem slope_eq : slope (blocksAt m c t) r = Attention.slope (inputs m c) (headOf t) (pos (tileOf t) r) :=
  funext fun k => Finset.sum_congr rfl fun v _ => by rw [dy_eq, val_eq]
theorem gr_eq : gr (blocksAt m c t) (tileOf t) r k = Attention.gr (inputs m c) (headOf t) (pos (tileOf t) r) k := by
  unfold gr Attention.gr; rw [scores_eq, slope_eq]

/-! ## The queries' gradient -/

theorem dqLo_eq (d : Fin 128) : dqLo (blocksAt m c t) (tileOf t) r d = Attention.dqn (inputs m c) (headOf t) (pos (tileOf t) r) d :=
  Finset.sum_congr rfl fun k _ => by rw [gr_eq, key_eq]
theorem dqHi_eq : dqHi (blocksAt m c t) (tileOf t) r = unturn (fun j => ∑ k, gr (blocksAt m c t) (tileOf t) r k * keyPe (blocksAt m c t) k j)
    (tabA (fun j => (inputs m c).cos (ix2 (pos (tileOf t) r) j))) (tabB (fun j => (inputs m c).sin (ix2 (pos (tileOf t) r) j)))
    (tabC (fun j => (inputs m c).sin (ix2 (pos (tileOf t) r) j))) := by
  unfold dqHi
  rw [(tables_row m c t r).1, (tables_row m c t r).2.1, (tables_row m c t r).2.2]
theorem ua_eq (j : Fin 32) : ∑ k, gr (blocksAt m c t) (tileOf t) r k * keyPe (blocksAt m c t) k (la j) = Attention.ua (inputs m c) (headOf t) (pos (tileOf t) r) j :=
  Finset.sum_congr rfl fun k _ => by rw [gr_eq, keyPe_la]
theorem ub_eq (j : Fin 32) : ∑ k, gr (blocksAt m c t) (tileOf t) r k * keyPe (blocksAt m c t) k (lb j) = Attention.ub (inputs m c) (headOf t) (pos (tileOf t) r) j :=
  Finset.sum_congr rfl fun k _ => by rw [gr_eq, keyPe_lb]
theorem dqHi_la (j : Fin 32) : dqHi (blocksAt m c t) (tileOf t) r (la j) = Attention.dqa (inputs m c) (headOf t) (pos (tileOf t) r) j := by
  rw [dqHi_eq, unturn_la, ua_eq, ub_eq]; rfl
theorem dqHi_lb (j : Fin 32) : dqHi (blocksAt m c t) (tileOf t) r (lb j) = Attention.dqb (inputs m c) (headOf t) (pos (tileOf t) r) j := by
  rw [dqHi_eq, unturn_lb, ua_eq, ub_eq]; rfl
theorem dqHi_lz (o : Fin 64) : dqHi (blocksAt m c t) (tileOf t) r (lz o) = 0 := by rw [dqHi_eq, unturn_lz]

/-- A tile's body, whichever it is, leaves the gradient of its queries. -/
theorem dqAt_lo (d : Fin 128) : dqAt m c t (ix3 0 r (lo d)) = dqLo (blocksAt m c t) (tileOf t) r d := by
  unfold dqAt
  by_cases h₀ : t.val % 3 = 0
  · rw [if_pos h₀, show tileOf t = 0 from Fin.ext h₀]; exact FirstTile.dq_lo _ _ r d
  rw [if_neg h₀]
  by_cases h₁ : t.val % 3 = 1
  · rw [if_pos h₁, show tileOf t = 1 from Fin.ext h₁]; exact SecondTile.dq_lo _ _ r d
  · rw [if_neg h₁, show tileOf t = 2 from Fin.ext (by show t.val % 3 = 2; omega)]; exact ThirdTile.dq_lo _ _ r d
theorem dqAt_hi (j : Fin 128) : dqAt m c t (ix3 0 r (hi j)) = dqHi (blocksAt m c t) (tileOf t) r j := by
  unfold dqAt
  by_cases h₀ : t.val % 3 = 0
  · rw [if_pos h₀, show tileOf t = 0 from Fin.ext h₀]; exact FirstTile.dq_hi _ _ r j
  rw [if_neg h₀]
  by_cases h₁ : t.val % 3 = 1
  · rw [if_pos h₁, show tileOf t = 1 from Fin.ext h₁]; exact SecondTile.dq_hi _ _ r j
  · rw [if_neg h₁, show tileOf t = 2 from Fin.ext (by show t.val % 3 = 2; omega)]; exact ThirdTile.dq_hi _ _ r j

theorem dqAt_eq (l : Fin 256) : dqAt m c t (ix3 0 r l) = Attention.dq (inputs m c) (ix3 (headOf t) (pos (tileOf t) r) l) := by
  refine Attention.eq_three (fun l => dqAt m c t (ix3 0 r l)) _ _ _ (fun d => ?_) (fun j => ?_) (fun j => ?_) (fun o => ?_) l
  · exact (dqAt_lo m c t r d).trans (dqLo_eq m c t r d)
  · exact (dqAt_hi m c t r (la j)).trans (dqHi_la m c t r j)
  · exact (dqAt_hi m c t r (lb j)).trans (dqHi_lb m c t r j)
  · refine Eq.trans ?_ ((dqAt_hi m c t r (lz o)).trans (dqHi_lz m c t r o))
    show dqAt m c t _ = dqAt m c t _
    congr 2; ext; show 192 + o.val = 128 + (64 + o.val); omega

/-- A block's index is that of its row and lane. -/
theorem eq_ix3 {n N : ℕ} (y : (⟨3, ![1, n, N]⟩ : Shape).Idx) : y = ix3 0 (y 1) (y 2) := by
  funext a
  fin_cases a
  · exact Fin.ext (by have := (y 0).isLt; show (y 0).val = 0; exact Nat.lt_one_iff.mp this)
  · rfl
  · rfl

/-- The array of the queries' gradient. -/
theorem final_dq : (dats m 0 c).arrAt 10 cfg0.N = Attention.dq (inputs m c) := by
  refine (dats m 0 c).arrAt_eq_of_covers 10 _ (by decide +kernel) fun t _ y => ?_
  blk_simp
  rw [after_10]
  have e : (win0_10.blk t).view.emb y = ix3 (headOf t) (pos (tileOf t) (y 1)) (y 2) := by blk_ext [idx t, headOf, tileOf, pos]
  exact (congrArg (dqAt m c t) (eq_ix3 y)).trans ((dqAt_eq m c t (y 1) (y 2)).trans (congrArg (Attention.dq (inputs m c)) e.symm))

/-! ## The gradients added up over a head's three tiles -/

/-- A sum over the positions is one over the tiles' rows. -/
theorem sum_tiles (f : Fin 2064 → EReal) : ∑ p, f p = ((∑ r, f (pos 0 r)) + ∑ r, f (pos 1 r)) + ∑ r, f (pos 2 r) := by
  rw [Fin.sum_univ_add (a := 1376) (b := 688) f, Fin.sum_univ_add (a := 688) (b := 688) (fun i => f (Fin.castAdd 688 i))]
  refine congrArg₂ _ (congrArg₂ _ ?_ ?_) ?_ <;>
    exact Finset.sum_congr rfl fun r _ => congrArg f (Fin.ext (by simp [pos, Fin.natAdd, Fin.castAdd]))

/-- What the first tile leaves is its own sum. -/
theorem dkvAt_lo_first (h : t.val % 3 = 0) (d : Fin 128) : dkvAt m c t.val t.isLt (ix3 0 k (lo d))
    = ∑ r, Attention.gr (inputs m c) (headOf t) (pos (tileOf t) r) k * Attention.qn (inputs m c) (headOf t) (pos (tileOf t) r) d := by
  rw [dkvAt_first m c t h, FirstTile.dkv_lo, ← show tileOf t = 0 from Fin.ext h]
  have z : k0_pay1 (F := Ideal) (ix3 0 k (lo d)) = (0 : EReal) := by pointwise [k0_pay1]
  rw [z, zero_add]
  exact Finset.sum_congr rfl fun r _ => by rw [gr_eq, query_eq]
theorem dkvAt_hi_first (h : t.val % 3 = 0) (d : Fin 128) : dkvAt m c t.val t.isLt (ix3 0 k (hi d))
    = ∑ r, weight (Attention.scores (inputs m c) (headOf t) (pos (tileOf t) r)) k
        * (Attention.dyo (inputs m c) (headOf t) (pos (tileOf t) r) d * recip (Attention.scores (inputs m c) (headOf t) (pos (tileOf t) r))) := by
  rw [dkvAt_first m c t h, FirstTile.dkv_hi, ← show tileOf t = 0 from Fin.ext h]
  have z : k0_pay1 (F := Ideal) (ix3 0 k (hi d)) = (0 : EReal) := by pointwise [k0_pay1]
  rw [z, zero_add]
  exact Finset.sum_congr rfl fun r _ => by unfold wt nd; rw [scores_eq, dy_eq]
theorem dkpeAt_first' (h : t.val % 3 = 0) (j : Fin 128) : dkpeAt m c t.val t.isLt (ix3 0 k j)
    = ∑ r, gr (blocksAt m c t) (tileOf t) r k * queryPe (blocksAt m c t) r j := by
  rw [dkpeAt_first m c t h, FirstTile.dkpe_at, ← show tileOf t = 0 from Fin.ext h]
  have z : k0_pay2 (F := Ideal) (ix3 0 k j) = (0 : EReal) := by pointwise [k0_pay2]
  rw [z, zero_add]

/-- The point before. -/
def prev : Fin cfg0.N := ⟨t.val - 1, Nat.lt_of_le_of_lt (Nat.sub_le _ _) t.isLt⟩

/-- A later tile adds its own sum. -/
theorem dkvAt_lo_later (h : t.val % 3 ≠ 0) (d : Fin 128) : dkvAt m c t.val t.isLt (ix3 0 k (lo d)) = dkvAt m c (prev t).val (prev t).isLt (ix3 0 k (lo d))
    + ∑ r, Attention.gr (inputs m c) (headOf t) (pos (tileOf t) r) k * Attention.qn (inputs m c) (headOf t) (pos (tileOf t) r) d := by
  rw [dkvAt_later m c t (by omega)]
  simp only [← gr_eq, ← query_eq]
  unfold dkvStep
  by_cases h₁ : t.val % 3 = 1
  · rw [if_neg h, if_pos h₁, SecondTile.dkv_lo, show tileOf t = 1 from Fin.ext h₁]; rfl
  · rw [if_neg h, if_neg h₁, ThirdTile.dkv_lo, show tileOf t = 2 from Fin.ext (by show t.val % 3 = 2; omega)]; rfl
theorem dkvAt_hi_later (h : t.val % 3 ≠ 0) (d : Fin 128) : dkvAt m c t.val t.isLt (ix3 0 k (hi d)) = dkvAt m c (prev t).val (prev t).isLt (ix3 0 k (hi d))
    + ∑ r, weight (Attention.scores (inputs m c) (headOf t) (pos (tileOf t) r)) k
        * (Attention.dyo (inputs m c) (headOf t) (pos (tileOf t) r) d * recip (Attention.scores (inputs m c) (headOf t) (pos (tileOf t) r))) := by
  rw [dkvAt_later m c t (by omega)]
  simp only [← scores_eq, ← dy_eq]
  unfold dkvStep
  by_cases h₁ : t.val % 3 = 1
  · rw [if_neg h, if_pos h₁, SecondTile.dkv_hi, show tileOf t = 1 from Fin.ext h₁]; rfl
  · rw [if_neg h, if_neg h₁, ThirdTile.dkv_hi, show tileOf t = 2 from Fin.ext (by show t.val % 3 = 2; omega)]; rfl
theorem dkpeAt_later' (h : t.val % 3 ≠ 0) (j : Fin 128) : dkpeAt m c t.val t.isLt (ix3 0 k j) = dkpeAt m c (prev t).val (prev t).isLt (ix3 0 k j)
    + ∑ r, gr (blocksAt m c t) (tileOf t) r k * queryPe (blocksAt m c t) r j := by
  rw [dkpeAt_later m c t (by omega)]
  unfold dkpeStep
  by_cases h₁ : t.val % 3 = 1
  · rw [if_neg h, if_pos h₁, SecondTile.dkpe_at, show tileOf t = 1 from Fin.ext h₁]; rfl
  · rw [if_neg h, if_neg h₁, ThirdTile.dkpe_at, show tileOf t = 2 from Fin.ext (by show t.val % 3 = 2; omega)]; rfl

/-- A head's three points. -/
theorem three_points (h : t.val % 3 = 2) : tileOf t = 2 ∧ (prev t).val % 3 ≠ 0 ∧ tileOf (prev t) = 1 ∧ headOf (prev t) = headOf t
    ∧ (prev (prev t)).val % 3 = 0 ∧ tileOf (prev (prev t)) = 0 ∧ headOf (prev (prev t)) = headOf t := by
  have e₁ : (prev t).val = t.val - 1 := rfl
  have e₂ : (prev (prev t)).val = t.val - 1 - 1 := rfl
  refine ⟨Fin.ext h, by omega, Fin.ext ?_, Fin.ext ?_, by omega, Fin.ext ?_, Fin.ext ?_⟩
  · show (t.val - 1) % 3 = 1; omega
  · show (t.val - 1) / 3 = t.val / 3; omega
  · show (t.val - 1 - 1) % 3 = 0; omega
  · show (t.val - 1 - 1) / 3 = t.val / 3; omega

theorem dkvAt_lo_last (h : t.val % 3 = 2) (d : Fin 128) : dkvAt m c t.val t.isLt (ix3 0 k (lo d)) = Attention.dkn (inputs m c) (headOf t) k d := by
  obtain ⟨t₂, n₁, t₁, h₁, n₀, t₀, h₀⟩ := three_points t h
  rw [dkvAt_lo_later m c t k (by omega), dkvAt_lo_later m c (prev t) k n₁, dkvAt_lo_first m c (prev (prev t)) k n₀, t₂, t₁, t₀, h₁, h₀]
  exact (sum_tiles fun p => Attention.gr (inputs m c) (headOf t) p k * Attention.qn (inputs m c) (headOf t) p d).symm
theorem dkvAt_hi_last (h : t.val % 3 = 2) (d : Fin 128) : dkvAt m c t.val t.isLt (ix3 0 k (hi d)) = Attention.dva (inputs m c) (headOf t) k d := by
  obtain ⟨t₂, n₁, t₁, h₁, n₀, t₀, h₀⟩ := three_points t h
  rw [dkvAt_hi_later m c t k (by omega), dkvAt_hi_later m c (prev t) k n₁, dkvAt_hi_first m c (prev (prev t)) k n₀, t₂, t₁, t₀, h₁, h₀]
  exact (sum_tiles fun p => weight (Attention.scores (inputs m c) (headOf t) p) k
    * (Attention.dyo (inputs m c) (headOf t) p d * recip (Attention.scores (inputs m c) (headOf t) p))).symm
/-- The rotated keys' gradient on a lane, if the queries' lane is `f` at every point. -/
theorem dkpeAt_last (h : t.val % 3 = 2) (j : Fin 128) (f : Fin 8 → Fin 2064 → EReal)
    (hf : ∀ (t : Fin cfg0.N) (r : Fin 688), queryPe (blocksAt m c t) r j = f (headOf t) (pos (tileOf t) r)) :
    dkpeAt m c t.val t.isLt (ix3 0 k j) = ∑ p, Attention.gr (inputs m c) (headOf t) p k * f (headOf t) p := by
  obtain ⟨t₂, n₁, t₁, h₁, n₀, t₀, h₀⟩ := three_points t h
  rw [dkpeAt_later' m c t k (by omega), dkpeAt_later' m c (prev t) k n₁, dkpeAt_first' m c (prev (prev t)) k n₀]
  simp only [gr_eq, hf]
  rw [t₂, t₁, t₀, h₁, h₀]
  exact (sum_tiles fun p => Attention.gr (inputs m c) (headOf t) p k * f (headOf t) p).symm

theorem dkvAt_eq (h : t.val % 3 = 2) (l : Fin 256) : dkvAt m c t.val t.isLt (ix3 0 k l) = Attention.dkv (inputs m c) (ix3 (headOf t) k l) :=
  Attention.eq_halves (fun l => dkvAt m c t.val t.isLt (ix3 0 k l)) _ _ (fun d => dkvAt_lo_last m c t k h d) (fun d => dkvAt_hi_last m c t k h d) l
theorem dkpeAt_eq (h : t.val % 3 = 2) (l : Fin 128) : dkpeAt m c t.val t.isLt (ix3 0 k l) = Attention.dkpe (inputs m c) (ix3 (headOf t) k l) :=
  Attention.eq_pair (fun l => dkpeAt m c t.val t.isLt (ix3 0 k l)) _ _
    (fun j => dkpeAt_last m c t k h (la j) (fun h p => Attention.qa (inputs m c) h p j) fun t r => queryPe_la m c t r j)
    (fun j => dkpeAt_last m c t k h (lb j) (fun h p => Attention.qb (inputs m c) h p j) fun t r => queryPe_lb m c t r j)
    (fun o => (dkpeAt_last m c t k h (lz o) (fun _ _ => 0) fun t r => queryPe_lz m c t r o).trans
      (Finset.sum_eq_zero fun _ _ => mul_zero _)) l

/-- The arrays of the keys' and values' gradient and of the rotated keys'. -/
theorem final_dkv : (dats m 0 c).arrAt 11 cfg0.N = Attention.dkv (inputs m c) := by
  refine (dats m 0 c).arrAt_eq_of_covers 11 _ (by decide +kernel) fun t hf y => ?_
  blk_simp
  rw [after_11]
  have e : (win0_11.blk t).view.emb y = ix3 (headOf t) (y 1) (y 2) := by blk_ext [idx t, headOf]
  exact (congrArg (dkvAt m c t.val t.isLt) (eq_ix3 y)).trans
    ((dkvAt_eq m c t (y 1) ((flush0_11 t).mp hf) (y 2)).trans (congrArg (Attention.dkv (inputs m c)) e.symm))
theorem final_dkpe : (dats m 0 c).arrAt 12 cfg0.N = Attention.dkpe (inputs m c) := by
  refine (dats m 0 c).arrAt_eq_of_covers 12 _ (by decide +kernel) fun t hf y => ?_
  blk_simp
  rw [after_12]
  have e : (win0_12.blk t).view.emb y = ix3 (headOf t) (y 1) (y 2) := by blk_ext [idx t, headOf]
  exact (congrArg (dkpeAt m c t.val t.isLt) (eq_ix3 y)).trans
    ((dkpeAt_eq m c t (y 1) ((flush0_12 t).mp hf) (y 2)).trans (congrArg (Attention.dkpe (inputs m c)) e.symm))

end Cert.KernelIdeal.AttnBwd

end
-- ==== Proof.AttnFwdBlocks.lean ====
/-
  What a point of the attention's forward call holds is what a point of its gradient's holds: both calls are given the same
  queries, keys, projection and rotary tables, prepared alike. So the scores of a point's blocks are the arguments' scores.
-/
module

public import proofs.«01_k».proof.Proof.Gen.AttnFwdIdeal.Frame
public import proofs.«01_k».proof.Proof.Gen.AttnFwdIdeal.Launch
public import proofs.«01_k».proof.Proof.Arrays

@[expose] public section

set_option maxRecDepth 16384

noncomputable section

namespace Cert.AttnFwdIdeal.Call

open Idealize.ShloMosaic Idealize.ShloMosaic.TcCoe Idealize.ShloMosaic.Tactic
open Cert.AttnFwdIdeal.Gen
open Cert.KernelIdeal.AttnBwd (Blocks blocksAt headOf tileOf pos)
open Cert.Attention (Inputs)

/-- A memory of the gradient's call. -/
abbrev Memory : Type := (ℓ : Loc Cert.KernelIdeal.nD Cert.KernelIdeal.τ Cert.KernelIdeal.sig) → Buf (Elt Ideal) ℓ

variable (m : (ℓ : Loc nD τ sig) → Buf (Elt Ideal) ℓ)

/-- The arguments a device's call is given; it is given no gradient. -/
def inputs (c : Dev nD) : Inputs where
  q := m ((c : Thread nD τ).loc main_arg0)
  kv := m ((c : Thread nD τ).loc main_arg1)
  z := m ((c : Thread nD τ).loc main_arg2)
  cos := m ((c : Thread nD τ).loc main_arg3)
  sin := m ((c : Thread nD τ).loc main_arg4)
  dy := fun _ => 0

/-- The gradient's call launched at these arguments. -/
def launched (m' : Memory) : Prop := ∀ c : Dev nD, Cert.KernelIdeal.AttnBwd.inputs m' c = inputs m c

theorem exists_launched : ∃ m' : Memory, launched m m' := by
  have b (ℓ : Loc Cert.KernelIdeal.nD Cert.KernelIdeal.τ Cert.KernelIdeal.sig) : Nonempty (Buf (Elt Ideal) ℓ) := inferInstance
  let ops (c : Dev nD) : List (HloOp Cert.KernelIdeal.τ Cert.KernelIdeal.sig (Elt Ideal)) :=
    [StableHlo.nullary Cert.KernelIdeal.main_arg0 (inputs m c).q, StableHlo.nullary Cert.KernelIdeal.main_arg1 (inputs m c).kv,
      StableHlo.nullary Cert.KernelIdeal.main_arg2 (inputs m c).z, StableHlo.nullary Cert.KernelIdeal.main_arg3 (inputs m c).cos,
      StableHlo.nullary Cert.KernelIdeal.main_arg4 (inputs m c).sin, StableHlo.nullary Cert.KernelIdeal.main_arg5 (inputs m c).dy]
  refine ⟨fun ℓ => StableHlo.after (ops ℓ.1) (fun d => (b (ℓ.1, d)).some) ℓ.2, fun c => ?_⟩
  rfl

/-- The tables on padded lanes: the cosines twice, the sines negated on the first lanes, the sines on the lanes after them. -/
def cosLanes (a : FVec Ideal S2064x32 .f32) : FVec Ideal S2064x128 .f32 :=
  concatenate S2064x128 1 [⟨S2064x32, a⟩, ⟨S2064x32, a⟩, ⟨S2064x64, broadcastInDim S2064x64 ![] bcast_S_S2064x64 (constant S_ .f32 0x00000000#32)⟩] concatenates_S2064x32_S2064x32_S2064x64_S2064x128_d1
def negLanes (a : FVec Ideal S2064x32 .f32) : FVec Ideal S2064x128 .f32 :=
  concatenate S2064x128 1 [⟨S2064x32, Host.negf a⟩, ⟨S2064x32, broadcastInDim S2064x32 ![] bcast_S_S2064x32 (constant S_ .f32 0x00000000#32)⟩,
    ⟨S2064x64, broadcastInDim S2064x64 ![] bcast_S_S2064x64 (constant S_ .f32 0x00000000#32)⟩] concatenates_S2064x32_S2064x32_S2064x64_S2064x128_d1
def sinLanes (a : FVec Ideal S2064x32 .f32) : FVec Ideal S2064x128 .f32 :=
  concatenate S2064x128 1 [⟨S2064x32, broadcastInDim S2064x32 ![] bcast_S_S2064x32 (constant S_ .f32 0x00000000#32)⟩, ⟨S2064x32, a⟩,
    ⟨S2064x64, broadcastInDim S2064x64 ![] bcast_S_S2064x64 (constant S_ .f32 0x00000000#32)⟩] concatenates_S2064x32_S2064x32_S2064x64_S2064x128_d1

/-- Where each window stands at a point: the head is `t / 3`, the tile of queries `t % 3`. -/
theorem idx : ∀ t : Fin cfg0.N, win0_0.index t = ![t.val / 3, t.val % 3, 0] ∧ win0_1.index t = ![t.val / 3, 0, 0]
    ∧ win0_2.index t = ![0, 14] ∧ win0_3.index t = ![t.val % 3, 0] ∧ win0_4.index t = ![t.val % 3, 0] ∧ win0_5.index t = ![t.val % 3, 0]
    ∧ win0_6.index t = ![0, 0] ∧ win0_7.index t = ![0, 0] ∧ win0_8.index t = ![0, 0] ∧ win0_9.index t = ![t.val % 3, t.val / 3] :=
  (by decide +kernel : ∀ t : Fin grid0.N, _)

/-- The blocks a point holds, with no gradient. -/
def blocks (m : (ℓ : Loc nD τ sig) → Buf (Elt Ideal) ℓ) (c : Dev nD) (t : Fin cfg0.N) : Blocks Ideal where
  q := iblk m c 0 t
  kv := iblk m c 1 t
  kpe := iblk m c 2 t
  c1 := iblk m c 3 t
  c2 := iblk m c 4 t
  c3 := iblk m c 5 t
  k1 := iblk m c 6 t
  k2 := iblk m c 7 t
  k3 := iblk m c 8 t
  dy := fun _ => 0

variable {m} {m' : Memory} (h : launched m m') (c : Dev nD) (t : Fin cfg0.N)

include h

theorem args : m' ((c : Thread Cert.KernelIdeal.nD Cert.KernelIdeal.τ).loc Cert.KernelIdeal.main_arg0) = m ((c : Thread nD τ).loc main_arg0)
    ∧ m' ((c : Thread Cert.KernelIdeal.nD Cert.KernelIdeal.τ).loc Cert.KernelIdeal.main_arg1) = m ((c : Thread nD τ).loc main_arg1)
    ∧ m' ((c : Thread Cert.KernelIdeal.nD Cert.KernelIdeal.τ).loc Cert.KernelIdeal.main_arg2) = m ((c : Thread nD τ).loc main_arg2)
    ∧ m' ((c : Thread Cert.KernelIdeal.nD Cert.KernelIdeal.τ).loc Cert.KernelIdeal.main_arg3) = m ((c : Thread nD τ).loc main_arg3)
    ∧ m' ((c : Thread Cert.KernelIdeal.nD Cert.KernelIdeal.τ).loc Cert.KernelIdeal.main_arg4) = m ((c : Thread nD τ).loc main_arg4) := by
  have e := h c
  unfold Cert.KernelIdeal.AttnBwd.inputs inputs at e
  obtain ⟨e0, e1, e2, e3, e4, _⟩ := (Inputs.mk.injEq ..).mp e
  exact ⟨e0, e1, e2, e3, e4⟩

theorem v0_eq : V m c main_v0 = Cert.KernelIdeal.Gen.V m' c Cert.KernelIdeal.main_v6 := by
  have e := (args h c).1
  rw [V, Cert.KernelIdeal.Gen.V]
  simp only [hostOps0, hostOps0_1, hostOps0_2, hostOps0_3, hostOps0_4, Cert.KernelIdeal.Gen.hostOps0, Cert.KernelIdeal.Gen.hostOps0_1, Cert.KernelIdeal.Gen.hostOps0_2,
    Cert.KernelIdeal.Gen.hostOps0_3, List.flatten_cons, List.flatten_nil, List.cons_append, List.nil_append, List.append_nil]
  after_results_simp
  simp only [StableHlo.TRef.toBuf, StableHlo.TRef.ofBuf, cast_eq]
  rw [show m' (c, Proc.tc.devRef Cert.KernelIdeal.main_arg0) = _ from e]
theorem v1_eq : V m c main_v1 = Cert.KernelIdeal.Gen.V m' c Cert.KernelIdeal.main_v7 := by
  have e := (args h c).2.2.1
  rw [V, Cert.KernelIdeal.Gen.V]
  simp only [hostOps0, hostOps0_1, hostOps0_2, hostOps0_3, hostOps0_4, Cert.KernelIdeal.Gen.hostOps0, Cert.KernelIdeal.Gen.hostOps0_1, Cert.KernelIdeal.Gen.hostOps0_2,
    Cert.KernelIdeal.Gen.hostOps0_3, List.flatten_cons, List.flatten_nil, List.cons_append, List.nil_append, List.append_nil]
  after_results_simp
  simp only [StableHlo.TRef.toBuf, StableHlo.TRef.ofBuf, cast_eq]
  rw [show m' (c, Proc.tc.devRef Cert.KernelIdeal.main_arg2) = _ from e]
theorem v4_eq : V m c main_v4 = Cert.KernelIdeal.Gen.V m' c Cert.KernelIdeal.main_v2 := by
  have l : V m c main_v4 = cosLanes (m ((c : Thread nD τ).loc main_arg3)) := by
    rw [V]
    simp only [hostOps0, hostOps0_1, hostOps0_2, hostOps0_3, hostOps0_4, List.flatten_cons, List.flatten_nil, List.cons_append, List.nil_append, List.append_nil]
    after_results_simp
    rfl
  have r : Cert.KernelIdeal.Gen.V m' c Cert.KernelIdeal.main_v2 = cosLanes (m' ((c : Thread Cert.KernelIdeal.nD Cert.KernelIdeal.τ).loc Cert.KernelIdeal.main_arg3)) := by
    rw [Cert.KernelIdeal.Gen.V]
    simp only [Cert.KernelIdeal.Gen.hostOps0, Cert.KernelIdeal.Gen.hostOps0_1, Cert.KernelIdeal.Gen.hostOps0_2, Cert.KernelIdeal.Gen.hostOps0_3,
      List.flatten_cons, List.flatten_nil, List.cons_append, List.nil_append, List.append_nil]
    after_results_simp
    rfl
  rw [l, r]
  exact congrArg cosLanes (args h c).2.2.2.1.symm
theorem v6_eq : V m c main_v6 = Cert.KernelIdeal.Gen.V m' c Cert.KernelIdeal.main_v4 := by
  have l : V m c main_v6 = negLanes (m ((c : Thread nD τ).loc main_arg4)) := by
    rw [V]
    simp only [hostOps0, hostOps0_1, hostOps0_2, hostOps0_3, hostOps0_4, List.flatten_cons, List.flatten_nil, List.cons_append, List.nil_append, List.append_nil]
    after_results_simp
    rfl
  have r : Cert.KernelIdeal.Gen.V m' c Cert.KernelIdeal.main_v4 = negLanes (m' ((c : Thread Cert.KernelIdeal.nD Cert.KernelIdeal.τ).loc Cert.KernelIdeal.main_arg4)) := by
    rw [Cert.KernelIdeal.Gen.V]
    simp only [Cert.KernelIdeal.Gen.hostOps0, Cert.KernelIdeal.Gen.hostOps0_1, Cert.KernelIdeal.Gen.hostOps0_2, Cert.KernelIdeal.Gen.hostOps0_3,
      List.flatten_cons, List.flatten_nil, List.cons_append, List.nil_append, List.append_nil]
    after_results_simp
    rfl
  rw [l, r]
  exact congrArg negLanes (args h c).2.2.2.2.symm
theorem v7_eq : V m c main_v7 = Cert.KernelIdeal.Gen.V m' c Cert.KernelIdeal.main_v5 := by
  have l : V m c main_v7 = sinLanes (m ((c : Thread nD τ).loc main_arg4)) := by
    rw [V]
    simp only [hostOps0, hostOps0_1, hostOps0_2, hostOps0_3, hostOps0_4, List.flatten_cons, List.flatten_nil, List.cons_append, List.nil_append, List.append_nil]
    after_results_simp
    rfl
  have r : Cert.KernelIdeal.Gen.V m' c Cert.KernelIdeal.main_v5 = sinLanes (m' ((c : Thread Cert.KernelIdeal.nD Cert.KernelIdeal.τ).loc Cert.KernelIdeal.main_arg4)) := by
    rw [Cert.KernelIdeal.Gen.V]
    simp only [Cert.KernelIdeal.Gen.hostOps0, Cert.KernelIdeal.Gen.hostOps0_1, Cert.KernelIdeal.Gen.hostOps0_2, Cert.KernelIdeal.Gen.hostOps0_3,
      List.flatten_cons, List.flatten_nil, List.cons_append, List.nil_append, List.append_nil]
    after_results_simp
    rfl
  rw [l, r]
  exact congrArg sinLanes (args h c).2.2.2.2.symm

/-! ## A point's blocks are the gradient's, but for the gradient -/

theorem q_eq : iblk m c 0 t = Cert.KernelIdeal.Gen.iblk m' c 0 t := by
  unfold iblk Cert.KernelIdeal.Gen.iblk
  show _ = ((Cert.KernelIdeal.cfg0.win 0).blk t).view.read (Elt Ideal) (Cert.KernelIdeal.Gen.V m' c Cert.KernelIdeal.main_v6)
  rw [← v0_eq h]
  rfl
theorem kv_eq : iblk m c 1 t = Cert.KernelIdeal.Gen.iblk m' c 1 t := by
  unfold iblk Cert.KernelIdeal.Gen.iblk
  show _ = ((Cert.KernelIdeal.cfg0.win 1).blk t).view.read (Elt Ideal) (m' ((c : Thread Cert.KernelIdeal.nD Cert.KernelIdeal.τ).loc Cert.KernelIdeal.main_arg1))
  rw [(args h c).2.1]
  rfl
theorem kpe_eq : iblk m c 2 t = Cert.KernelIdeal.Gen.iblk m' c 2 t := by
  unfold iblk Cert.KernelIdeal.Gen.iblk
  show _ = ((Cert.KernelIdeal.cfg0.win 2).blk t).view.read (Elt Ideal) (Cert.KernelIdeal.Gen.V m' c Cert.KernelIdeal.main_v7)
  rw [← v1_eq h]
  rfl
theorem c1_eq : iblk m c 3 t = Cert.KernelIdeal.Gen.iblk m' c 3 t := by
  unfold iblk Cert.KernelIdeal.Gen.iblk
  show _ = ((Cert.KernelIdeal.cfg0.win 3).blk t).view.read (Elt Ideal) (Cert.KernelIdeal.Gen.V m' c Cert.KernelIdeal.main_v2)
  rw [← v4_eq h]
  rfl
theorem c2_eq : iblk m c 4 t = Cert.KernelIdeal.Gen.iblk m' c 4 t := by
  unfold iblk Cert.KernelIdeal.Gen.iblk
  show _ = ((Cert.KernelIdeal.cfg0.win 4).blk t).view.read (Elt Ideal) (Cert.KernelIdeal.Gen.V m' c Cert.KernelIdeal.main_v4)
  rw [← v6_eq h]
  rfl
theorem c3_eq : iblk m c 5 t = Cert.KernelIdeal.Gen.iblk m' c 5 t := by
  unfold iblk Cert.KernelIdeal.Gen.iblk
  show _ = ((Cert.KernelIdeal.cfg0.win 5).blk t).view.read (Elt Ideal) (Cert.KernelIdeal.Gen.V m' c Cert.KernelIdeal.main_v5)
  rw [← v7_eq h]
  rfl
theorem k1_eq : iblk m c 6 t = Cert.KernelIdeal.Gen.iblk m' c 6 t := by
  unfold iblk Cert.KernelIdeal.Gen.iblk
  show _ = ((Cert.KernelIdeal.cfg0.win 6).blk t).view.read (Elt Ideal) (Cert.KernelIdeal.Gen.V m' c Cert.KernelIdeal.main_v2)
  rw [← v4_eq h]
  rfl
theorem k2_eq : iblk m c 7 t = Cert.KernelIdeal.Gen.iblk m' c 7 t := by
  unfold iblk Cert.KernelIdeal.Gen.iblk
  show _ = ((Cert.KernelIdeal.cfg0.win 7).blk t).view.read (Elt Ideal) (Cert.KernelIdeal.Gen.V m' c Cert.KernelIdeal.main_v4)
  rw [← v6_eq h]
  rfl
theorem k3_eq : iblk m c 8 t = Cert.KernelIdeal.Gen.iblk m' c 8 t := by
  unfold iblk Cert.KernelIdeal.Gen.iblk
  show _ = ((Cert.KernelIdeal.cfg0.win 8).blk t).view.read (Elt Ideal) (Cert.KernelIdeal.Gen.V m' c Cert.KernelIdeal.main_v5)
  rw [← v7_eq h]
  rfl

theorem blocks_eq : blocks m c t = Blocks.mk (blocksAt m' c t).q (blocksAt m' c t).kv (blocksAt m' c t).kpe (blocksAt m' c t).c1 (blocksAt m' c t).c2
    (blocksAt m' c t).c3 (blocksAt m' c t).k1 (blocksAt m' c t).k2 (blocksAt m' c t).k3 (fun _ => 0) :=
  (Blocks.mk.injEq ..).mpr ⟨q_eq h c t, kv_eq h c t, kpe_eq h c t, c1_eq h c t, c2_eq h c t, c3_eq h c t, k1_eq h c t, k2_eq h c t, k3_eq h c t, rfl⟩

omit h in
/-- Scores and values do not look at the gradient. -/
theorem scores_of (X : Blocks Ideal) (d : Vec Ideal Cert.KernelIdeal.S688x128 .f32) :
    Cert.KernelIdeal.AttnBwd.scores (Blocks.mk X.q X.kv X.kpe X.c1 X.c2 X.c3 X.k1 X.k2 X.k3 d) = Cert.KernelIdeal.AttnBwd.scores X
    ∧ Cert.KernelIdeal.AttnBwd.val (Blocks.mk X.q X.kv X.kpe X.c1 X.c2 X.c3 X.k1 X.k2 X.k3 d) = Cert.KernelIdeal.AttnBwd.val X := ⟨rfl, rfl⟩

/-- So the scores of a point's rows, and its values, are the arguments'. -/
theorem scores_blocks (r : Fin 688) : Cert.KernelIdeal.AttnBwd.scores (blocks m c t) (tileOf t) r = Attention.scores (inputs m c) (headOf t) (pos (tileOf t) r) := by
  rw [blocks_eq h, (scores_of _ _).1, ← h c]
  exact Cert.KernelIdeal.AttnBwd.scores_eq m' c t r
theorem val_blocks (k : Fin 2064) (v : Fin 128) : Cert.KernelIdeal.AttnBwd.val (blocks m c t) k v = Attention.va (inputs m c) (headOf t) k v := by
  rw [blocks_eq h, (scores_of _ _).2, ← h c]
  exact Cert.KernelIdeal.AttnBwd.val_eq m' c t k v

end Cert.AttnFwdIdeal.Call

end
-- ==== Proof.AttnFwdTiles.lean ====
/-
  What a tile of the attention's forward call stores, read at an index: the row's weights on the values it looks at, added up
  and multiplied by the reciprocal of the weights' total. The tile's keys, queries and scaled scores are the gradient's, so
  their readings are taken from the gradient's tiles.
-/
module

public import proofs.«01_k».proof.Proof.AttnFwdBlocks
public import proofs.«01_k».proof.Proof.ReadFirst
public import proofs.«01_k».proof.Proof.ReadSecond
public import proofs.«01_k».proof.Proof.ReadThird
public import proofs.«01_k».proof.Proof.Gen.AttnFwdIdeal.Skeleton
public import Idealize.ShloMosaic.Lib.Pointwise

@[expose] public section

set_option maxRecDepth 16384

noncomputable section

namespace Cert.AttnRow

variable {n N : ℕ}

/-- A row of the attention: its weights on `v`, over their total. -/
def out (s v : Fin N → EReal) : EReal := (∑ k, weight s k * v k) * recip s

/-- A row that is masked past `n` may be cut there. -/
theorem out_cut (h : n ≤ N) (s v : Fin N → EReal) (hs : ∀ k : Fin N, n ≤ k.val → s k = masked) :
    out (cut h s) (fun k => v (k.castLE h)) = out s v := by
  unfold out
  rw [recip_cut h s hs, sum_cut h (fun k => weight s k * v k) fun k hk => by rw [weight_past s hs k hk, zero_mul]]
  simp only [weight_cut h s hs]

end Cert.AttnRow

namespace Cert.AttnFwdIdeal.Call

open Idealize.ShloMosaic Idealize.ShloMosaic.TcCoe
open Cert.AttnFwdIdeal.Gen Cert.AttnRow
open Cert.KernelIdeal.AttnBwd

variable (X : Blocks Ideal)

/-! ## The first tile -/

section First
open FirstTile

/-- The scaled scores are the gradient's. -/
theorem score1_eq : k0_pay15 (keysA X) (krotA X) (qA X) (qpeA X) (c1A X) (c2A X) (VecWindow.window X.c3 ![0, 0] S352x128.size inb_S688x128_S352x128_0_0) = scoreA X := rfl

theorem out1A_at (r : Fin 352) (v : Fin 128) :
    k0_pay16 (valsA X) k0_pay14
      (k0_pay15 (keysA X) (krotA X) (qA X) (qpeA X) (c1A X) (c2A X) (VecWindow.window X.c3 ![0, 0] S352x128.size inb_S688x128_S352x128_0_0)) (ix2 r v) = out (scores X 0 (rowA r)) (fun k => val X k v) := by
  rw [score1_eq, ← out_cut (by decide : 512 ≤ 2064) _ _ (pastA X r), ← rowA_at]
  pointwise [k0_pay16]
  simp only [valsA_at]
  rfl

/-- So are the rotated keys and the last rows' rotated queries. -/
theorem krot1_eq (a b d e) : k0_pay6 (F := Ideal) a b d e = Cert.KernelIdeal.Gen.k0_pay11 a b d e := rfl
theorem krotA1_eq (a b d e) : k0_pay8 (F := Ideal) a b d e = Cert.KernelIdeal.Gen.k0_pay13 a b d e := rfl
theorem qrot1_eq (a b d e) : k0_pay18 (F := Ideal) a b d e = Cert.KernelIdeal.Gen.k0_pay37 a b d e := rfl

theorem exp1_at (r : Fin 336) (k : Fin 768) :
    k0_pay19 (keys X) (krot X) (qB X) (qrotB X) (constant S336x768 .f32 0#32) (ix2 r k)
      = weight (cut (by decide : 768 ≤ 2064) (scores X 0 (rowB r))) k := by
  have e : cut (by decide : 768 ≤ 2064) (scores X 0 (rowB r)) = fun k => Scalar.select
      (IntOp.cmpi .sle (chunkWord (BitVec.ofNat 32 (atB k).val)) (chunkWord (BitVec.ofNat 32 (352 + r.val)))) (scoreB X (ix2 r k) * scale) masked :=
    funext fun k => by
      rw [sees_pos 0 (atB k) (rowB r) _ (by show 352 + r.val = 688 * 0 + (352 + r.val); omega), select_sees, scoreB_at]; rfl
  rw [e]
  simp only [scoreB_at, score]
  pointwise [k0_pay19]
  simp only [addi_ofNat, keys_at, krot_at, qB_at, qrotB_at]
  rfl

theorem out1B_at (r : Fin 336) (v : Fin 128) :
    k0_pay1 (vals X) (k0_pay19 (keys X) (krot X) (qB X) (qrotB X) (constant S336x768 .f32 0#32))
      (k0_pay20 (keys X) (krot X) (qB X) (qrotB X) (constant S336x768 .f32 0#32)) (ix2 r v)
      = out (scores X 0 (rowB r)) (fun k => val X k v) := by
  rw [← out_cut (by decide : 768 ≤ 2064) _ _ (pastB X r)]
  pointwise [k0_pay1, k0_pay20]
  simp only [exp1_at, vals_at]
  rfl

/-- The pieces, as the tile loads what they are made of. -/
theorem piece1A (r : Fin 352) (v : Fin 128) :
    k0_pay16 (k0_pay9 (View.ld X.kv (Rect.unit (s := S1x2064x256) ![0, 0, 128] S1x768x128.size inb_S1x2064x256_S1x768x128_0_0_128))) k0_pay14 (k0_pay15 (k0_pay7 (View.ld X.kv (Rect.unit (s := S1x2064x256) ![0, 0, 0] S1x768x128.size inb_S1x2064x256_S1x768x128_0_0_0)))
      (k0_pay8 (View.ld X.kpe (Rect.unit (s := S2064x128) ![0, 0] S768x128.size inb_S2064x128_S768x128_0_0)) (View.ld X.k1 (Rect.unit (s := S2064x128) ![0, 0] S768x128.size inb_S2064x128_S768x128_0_0)) (View.ld X.k2 (Rect.unit (s := S2064x128) ![0, 0] S768x128.size inb_S2064x128_S768x128_0_0)) (View.ld X.k3 (Rect.unit (s := S2064x128) ![0, 0] S768x128.size inb_S2064x128_S768x128_0_0)))
      (k0_pay10 (View.ld X.q (Rect.unit (s := S1x688x256) ![0, 0, 0] S1x352x128.size inb_S1x688x256_S1x352x128_0_0_0))) (k0_pay11 (View.ld X.q (Rect.unit (s := S1x688x256) ![0, 0, 128] S1x352x128.size inb_S1x688x256_S1x352x128_0_0_128)))
      (k0_pay12 (View.ld X.c1 (Rect.unit (s := S688x128) ![0, 0] S352x128.size inb_S688x128_S352x128_0_0))) (k0_pay13 (View.ld X.c2 (Rect.unit (s := S688x128) ![0, 0] S352x128.size inb_S688x128_S352x128_0_0))) (View.ld X.c3 (Rect.unit (s := S688x128) ![0, 0] S352x128.size inb_S688x128_S352x128_0_0))) (ix2 r v)
      = out (scores X 0 (rowA r)) (fun k => val X k v) := by
  refine Eq.trans (congrFun ?_ _) (out1A_at X r v)
  have k := krotA1_eq
  exact congr (congrArg _ rfl) (congr (congr (congr (congr (congr (congr (congrArg _ rfl) (k _ _ _ _)) rfl) rfl) rfl) rfl) rfl)

theorem piece1B (r : Fin 336) (v : Fin 128) :
    k0_pay1 (k0_pay5 (View.ld X.kv (Rect.unit (s := S1x2064x256) ![0, 0, 128] S1x768x128.size inb_S1x2064x256_S1x768x128_0_0_128))) (k0_pay19 (k0_pay4 (View.ld X.kv (Rect.unit (s := S1x2064x256) ![0, 0, 0] S1x768x128.size inb_S1x2064x256_S1x768x128_0_0_0)))
      (k0_pay6 (View.ld X.kpe (Rect.unit (s := S2064x128) ![0, 0] S768x128.size inb_S2064x128_S768x128_0_0)) (View.ld X.k1 (Rect.unit (s := S2064x128) ![0, 0] S768x128.size inb_S2064x128_S768x128_0_0)) (View.ld X.k2 (Rect.unit (s := S2064x128) ![0, 0] S768x128.size inb_S2064x128_S768x128_0_0)) (View.ld X.k3 (Rect.unit (s := S2064x128) ![0, 0] S768x128.size inb_S2064x128_S768x128_0_0)))
      (k0_pay17 (View.ld X.q (Rect.unit (s := S1x688x256) ![0, 352, 0] S1x336x128.size inb_S1x688x256_S1x336x128_0_352_0))) (k0_pay18 (View.ld X.q (Rect.unit (s := S1x688x256) ![0, 352, 128] S1x336x128.size inb_S1x688x256_S1x336x128_0_352_128)) (View.ld X.c1 (Rect.unit (s := S688x128) ![352, 0] S336x128.size inb_S688x128_S336x128_352_0)) (View.ld X.c2 (Rect.unit (s := S688x128) ![352, 0] S336x128.size inb_S688x128_S336x128_352_0)) (View.ld X.c3 (Rect.unit (s := S688x128) ![352, 0] S336x128.size inb_S688x128_S336x128_352_0)))
      (constant S336x768 .f32 0#32))
      (k0_pay20 (k0_pay4 (View.ld X.kv (Rect.unit (s := S1x2064x256) ![0, 0, 0] S1x768x128.size inb_S1x2064x256_S1x768x128_0_0_0)))
      (k0_pay6 (View.ld X.kpe (Rect.unit (s := S2064x128) ![0, 0] S768x128.size inb_S2064x128_S768x128_0_0)) (View.ld X.k1 (Rect.unit (s := S2064x128) ![0, 0] S768x128.size inb_S2064x128_S768x128_0_0)) (View.ld X.k2 (Rect.unit (s := S2064x128) ![0, 0] S768x128.size inb_S2064x128_S768x128_0_0)) (View.ld X.k3 (Rect.unit (s := S2064x128) ![0, 0] S768x128.size inb_S2064x128_S768x128_0_0)))
      (k0_pay17 (View.ld X.q (Rect.unit (s := S1x688x256) ![0, 352, 0] S1x336x128.size inb_S1x688x256_S1x336x128_0_352_0))) (k0_pay18 (View.ld X.q (Rect.unit (s := S1x688x256) ![0, 352, 128] S1x336x128.size inb_S1x688x256_S1x336x128_0_352_128)) (View.ld X.c1 (Rect.unit (s := S688x128) ![352, 0] S336x128.size inb_S688x128_S336x128_352_0)) (View.ld X.c2 (Rect.unit (s := S688x128) ![352, 0] S336x128.size inb_S688x128_S336x128_352_0)) (View.ld X.c3 (Rect.unit (s := S688x128) ![352, 0] S336x128.size inb_S688x128_S336x128_352_0)))
      (constant S336x768 .f32 0#32)) (ix2 r v)
      = out (scores X 0 (rowB r)) (fun k => val X k v) := by
  refine Eq.trans (congrFun ?_ _) (out1B_at X r v)
  have k := krot1_eq
  have q := qrot1_eq
  exact congr (congr (congrArg _ rfl) (congr (congr (congr (congr (congrArg _ rfl) (k _ _ _ _)) rfl) (q _ _ _ _)) rfl))
    (congr (congr (congr (congr (congrArg _ rfl) (k _ _ _ _)) rfl) (q _ _ _ _)) rfl)

end First

/-! ## The second tile -/

section Second
open SecondTile

/-- The scaled scores are the gradient's. -/
theorem score2_eq : k0_pay32 (keysA X) (krotA X) (qA X) (qpeA X) (c1A X) (c2A X) (VecWindow.window X.c3 ![0, 0] S352x128.size inb_S688x128_S352x128_0_0) = scoreA X := rfl

theorem out2A_at (r : Fin 352) (v : Fin 128) :
    k0_pay33 (valsA X) k0_pay31
      (k0_pay32 (keysA X) (krotA X) (qA X) (qpeA X) (c1A X) (c2A X) (VecWindow.window X.c3 ![0, 0] S352x128.size inb_S688x128_S352x128_0_0)) (ix2 r v) = out (scores X 1 (rowA r)) (fun k => val X k v) := by
  rw [score2_eq, ← out_cut (by decide : 1152 ≤ 2064) _ _ (pastA X r), ← rowA_at]
  pointwise [k0_pay33]
  simp only [valsA_at]
  rfl

/-- So are the rotated keys and the last rows' rotated queries. -/
theorem krot2_eq (a b d e) : k0_pay23 (F := Ideal) a b d e = Cert.KernelIdeal.Gen.k0_pay52 a b d e := rfl
theorem krotA2_eq (a b d e) : k0_pay25 (F := Ideal) a b d e = Cert.KernelIdeal.Gen.k0_pay54 a b d e := rfl
theorem qrot2_eq (a b d e) : k0_pay35 (F := Ideal) a b d e = Cert.KernelIdeal.Gen.k0_pay78 a b d e := rfl

theorem exp2_at (r : Fin 336) (k : Fin 1536) :
    k0_pay36 (keys X) (krot X) (qB X) (qrotB X) (constant S336x1536 .f32 0#32) (ix2 r k)
      = weight (cut (by decide : 1536 ≤ 2064) (scores X 1 (rowB r))) k := by
  have e : cut (by decide : 1536 ≤ 2064) (scores X 1 (rowB r)) = fun k => Scalar.select
      (IntOp.cmpi .sle (chunkWord (BitVec.ofNat 32 (atB k).val)) (chunkWord (BitVec.ofNat 32 (1040 + r.val)))) (scoreB X (ix2 r k) * scale) masked :=
    funext fun k => by
      rw [sees_pos 1 (atB k) (rowB r) _ (by show 1040 + r.val = 688 * 1 + (352 + r.val); omega), select_sees, scoreB_at]; rfl
  rw [e]
  simp only [scoreB_at, score]
  pointwise [k0_pay36]
  simp only [addi_ofNat, keys_at, krot_at, qB_at, qrotB_at]
  rfl

theorem out2B_at (r : Fin 336) (v : Fin 128) :
    k0_pay2 (vals X) (k0_pay36 (keys X) (krot X) (qB X) (qrotB X) (constant S336x1536 .f32 0#32))
      (k0_pay37 (keys X) (krot X) (qB X) (qrotB X) (constant S336x1536 .f32 0#32)) (ix2 r v)
      = out (scores X 1 (rowB r)) (fun k => val X k v) := by
  rw [← out_cut (by decide : 1536 ≤ 2064) _ _ (pastB X r)]
  pointwise [k0_pay2, k0_pay37]
  simp only [exp2_at, vals_at]
  rfl

/-- The pieces, as the tile loads what they are made of. -/
theorem piece2A (r : Fin 352) (v : Fin 128) :
    k0_pay33 (k0_pay26 (View.ld X.kv (Rect.unit (s := S1x2064x256) ![0, 0, 128] S1x1536x128.size inb_S1x2064x256_S1x1536x128_0_0_128))) k0_pay31 (k0_pay32 (k0_pay24 (View.ld X.kv (Rect.unit (s := S1x2064x256) ![0, 0, 0] S1x1536x128.size inb_S1x2064x256_S1x1536x128_0_0_0)))
      (k0_pay25 (View.ld X.kpe (Rect.unit (s := S2064x128) ![0, 0] S1536x128.size inb_S2064x128_S1536x128_0_0)) (View.ld X.k1 (Rect.unit (s := S2064x128) ![0, 0] S1536x128.size inb_S2064x128_S1536x128_0_0)) (View.ld X.k2 (Rect.unit (s := S2064x128) ![0, 0] S1536x128.size inb_S2064x128_S1536x128_0_0)) (View.ld X.k3 (Rect.unit (s := S2064x128) ![0, 0] S1536x128.size inb_S2064x128_S1536x128_0_0)))
      (k0_pay27 (View.ld X.q (Rect.unit (s := S1x688x256) ![0, 0, 0] S1x352x128.size inb_S1x688x256_S1x352x128_0_0_0))) (k0_pay28 (View.ld X.q (Rect.unit (s := S1x688x256) ![0, 0, 128] S1x352x128.size inb_S1x688x256_S1x352x128_0_0_128)))
      (k0_pay29 (View.ld X.c1 (Rect.unit (s := S688x128) ![0, 0] S352x128.size inb_S688x128_S352x128_0_0))) (k0_pay30 (View.ld X.c2 (Rect.unit (s := S688x128) ![0, 0] S352x128.size inb_S688x128_S352x128_0_0))) (View.ld X.c3 (Rect.unit (s := S688x128) ![0, 0] S352x128.size inb_S688x128_S352x128_0_0))) (ix2 r v)
      = out (scores X 1 (rowA r)) (fun k => val X k v) := by
  refine Eq.trans (congrFun ?_ _) (out2A_at X r v)
  have k := krotA2_eq
  exact congr (congrArg _ rfl) (congr (congr (congr (congr (congr (congr (congrArg _ rfl) (k _ _ _ _)) rfl) rfl) rfl) rfl) rfl)

theorem piece2B (r : Fin 336) (v : Fin 128) :
    k0_pay2 (k0_pay22 (View.ld X.kv (Rect.unit (s := S1x2064x256) ![0, 0, 128] S1x1536x128.size inb_S1x2064x256_S1x1536x128_0_0_128))) (k0_pay36 (k0_pay21 (View.ld X.kv (Rect.unit (s := S1x2064x256) ![0, 0, 0] S1x1536x128.size inb_S1x2064x256_S1x1536x128_0_0_0)))
      (k0_pay23 (View.ld X.kpe (Rect.unit (s := S2064x128) ![0, 0] S1536x128.size inb_S2064x128_S1536x128_0_0)) (View.ld X.k1 (Rect.unit (s := S2064x128) ![0, 0] S1536x128.size inb_S2064x128_S1536x128_0_0)) (View.ld X.k2 (Rect.unit (s := S2064x128) ![0, 0] S1536x128.size inb_S2064x128_S1536x128_0_0)) (View.ld X.k3 (Rect.unit (s := S2064x128) ![0, 0] S1536x128.size inb_S2064x128_S1536x128_0_0)))
      (k0_pay34 (View.ld X.q (Rect.unit (s := S1x688x256) ![0, 352, 0] S1x336x128.size inb_S1x688x256_S1x336x128_0_352_0))) (k0_pay35 (View.ld X.q (Rect.unit (s := S1x688x256) ![0, 352, 128] S1x336x128.size inb_S1x688x256_S1x336x128_0_352_128)) (View.ld X.c1 (Rect.unit (s := S688x128) ![352, 0] S336x128.size inb_S688x128_S336x128_352_0)) (View.ld X.c2 (Rect.unit (s := S688x128) ![352, 0] S336x128.size inb_S688x128_S336x128_352_0)) (View.ld X.c3 (Rect.unit (s := S688x128) ![352, 0] S336x128.size inb_S688x128_S336x128_352_0)))
      (constant S336x1536 .f32 0#32))
      (k0_pay37 (k0_pay21 (View.ld X.kv (Rect.unit (s := S1x2064x256) ![0, 0, 0] S1x1536x128.size inb_S1x2064x256_S1x1536x128_0_0_0)))
      (k0_pay23 (View.ld X.kpe (Rect.unit (s := S2064x128) ![0, 0] S1536x128.size inb_S2064x128_S1536x128_0_0)) (View.ld X.k1 (Rect.unit (s := S2064x128) ![0, 0] S1536x128.size inb_S2064x128_S1536x128_0_0)) (View.ld X.k2 (Rect.unit (s := S2064x128) ![0, 0] S1536x128.size inb_S2064x128_S1536x128_0_0)) (View.ld X.k3 (Rect.unit (s := S2064x128) ![0, 0] S1536x128.size inb_S2064x128_S1536x128_0_0)))
      (k0_pay34 (View.ld X.q (Rect.unit (s := S1x688x256) ![0, 352, 0] S1x336x128.size inb_S1x688x256_S1x336x128_0_352_0))) (k0_pay35 (View.ld X.q (Rect.unit (s := S1x688x256) ![0, 352, 128] S1x336x128.size inb_S1x688x256_S1x336x128_0_352_128)) (View.ld X.c1 (Rect.unit (s := S688x128) ![352, 0] S336x128.size inb_S688x128_S336x128_352_0)) (View.ld X.c2 (Rect.unit (s := S688x128) ![352, 0] S336x128.size inb_S688x128_S336x128_352_0)) (View.ld X.c3 (Rect.unit (s := S688x128) ![352, 0] S336x128.size inb_S688x128_S336x128_352_0)))
      (constant S336x1536 .f32 0#32)) (ix2 r v)
      = out (scores X 1 (rowB r)) (fun k => val X k v) := by
  refine Eq.trans (congrFun ?_ _) (out2B_at X r v)
  have k := krot2_eq
  have q := qrot2_eq
  exact congr (congr (congrArg _ rfl) (congr (congr (congr (congr (congrArg _ rfl) (k _ _ _ _)) rfl) (q _ _ _ _)) rfl))
    (congr (congr (congr (congr (congrArg _ rfl) (k _ _ _ _)) rfl) (q _ _ _ _)) rfl)

end Second

/-! ## The third tile -/

section Third
open ThirdTile

/-- The scaled scores are the gradient's. -/
theorem score3_eq : k0_pay49 (keysA X) (krotA X) (qA X) (qpeA X) (c1A X) (c2A X) (VecWindow.window X.c3 ![0, 0] S352x128.size inb_S688x128_S352x128_0_0) = scoreA X := rfl

theorem out3A_at (r : Fin 352) (v : Fin 128) :
    k0_pay50 (valsA X) k0_pay48
      (k0_pay49 (keysA X) (krotA X) (qA X) (qpeA X) (c1A X) (c2A X) (VecWindow.window X.c3 ![0, 0] S352x128.size inb_S688x128_S352x128_0_0)) (ix2 r v) = out (scores X 2 (rowA r)) (fun k => val X k v) := by
  rw [score3_eq, ← out_cut (by decide : 1792 ≤ 2064) _ _ (pastA X r), ← rowA_at]
  pointwise [k0_pay50]
  simp only [valsA_at]
  rfl

/-- So are the rotated keys and the last rows' rotated queries. -/
theorem krot3_eq (a b d e) : k0_pay40 (F := Ideal) a b d e = Cert.KernelIdeal.Gen.k0_pay93 a b d e := rfl
theorem krotA3_eq (a b d e) : k0_pay42 (F := Ideal) a b d e = Cert.KernelIdeal.Gen.k0_pay95 a b d e := rfl
theorem qrot3_eq (a b d e) : k0_pay52 (F := Ideal) a b d e = Cert.KernelIdeal.Gen.k0_pay119 a b d e := rfl

theorem exp3_at (r : Fin 336) (k : Fin 2064) :
    k0_pay53 (keys X) (krot X) (qB X) (qrotB X) (constant S336x2064 .f32 0#32) (ix2 r k)
      = weight (cut (by decide : 2064 ≤ 2064) (scores X 2 (rowB r))) k := by
  have e : cut (by decide : 2064 ≤ 2064) (scores X 2 (rowB r)) = fun k => Scalar.select
      (IntOp.cmpi .sle (chunkWord (BitVec.ofNat 32 (atB k).val)) (chunkWord (BitVec.ofNat 32 (1728 + r.val)))) (scoreB X (ix2 r k) * scale) masked :=
    funext fun k => by
      rw [sees_pos 2 (atB k) (rowB r) _ (by show 1728 + r.val = 688 * 2 + (352 + r.val); omega), select_sees, scoreB_at]; rfl
  rw [e]
  simp only [scoreB_at, score]
  pointwise [k0_pay53]
  simp only [addi_ofNat, keys_at, krot_at, qB_at, qrotB_at]
  rfl

theorem out3B_at (r : Fin 336) (v : Fin 128) :
    k0_pay3 (vals X) (k0_pay53 (keys X) (krot X) (qB X) (qrotB X) (constant S336x2064 .f32 0#32))
      (k0_pay54 (keys X) (krot X) (qB X) (qrotB X) (constant S336x2064 .f32 0#32)) (ix2 r v)
      = out (scores X 2 (rowB r)) (fun k => val X k v) := by
  rw [← out_cut (by decide : 2064 ≤ 2064) _ _ (pastB X r)]
  pointwise [k0_pay3, k0_pay54]
  simp only [exp3_at, vals_at]
  rfl

/-- The third tile looks at all the keys: its windows of the shared key and of its tables are the whole arrays. -/
theorem whole (Y : FVec Ideal S2064x128 .f32) : VecWindow.window Y ![0, 0] S2064x128.size inb_S2064x128_S2064x128_0_0 = Y :=
  View.ld_unit_lit (Val := Elt Ideal) (S := S2064x128) (e := .f32) inb_S2064x128_S2064x128_0_0 Y (fun a => by fin_cases a <;> rfl)
theorem krot3_at_eq : k0_pay40 X.kpe X.k1 X.k2 X.k3 = krot X := by
  unfold krot
  rw [krot3_eq, whole, whole, whole, whole]
theorem krotA3_at_eq : k0_pay42 X.kpe X.k1 X.k2 X.k3 = krotA X := by
  unfold krotA
  rw [krotA3_eq, whole, whole, whole, whole]

/-- The pieces, as the tile loads what they are made of. -/
theorem piece3A (r : Fin 352) (v : Fin 128) :
    k0_pay50 (k0_pay43 (View.ld X.kv (Rect.unit (s := S1x2064x256) ![0, 0, 128] S1x2064x128.size inb_S1x2064x256_S1x2064x128_0_0_128))) k0_pay48 (k0_pay49 (k0_pay41 (View.ld X.kv (Rect.unit (s := S1x2064x256) ![0, 0, 0] S1x2064x128.size inb_S1x2064x256_S1x2064x128_0_0_0)))
      (k0_pay42 X.kpe X.k1 X.k2 X.k3)
      (k0_pay44 (View.ld X.q (Rect.unit (s := S1x688x256) ![0, 0, 0] S1x352x128.size inb_S1x688x256_S1x352x128_0_0_0))) (k0_pay45 (View.ld X.q (Rect.unit (s := S1x688x256) ![0, 0, 128] S1x352x128.size inb_S1x688x256_S1x352x128_0_0_128)))
      (k0_pay46 (View.ld X.c1 (Rect.unit (s := S688x128) ![0, 0] S352x128.size inb_S688x128_S352x128_0_0))) (k0_pay47 (View.ld X.c2 (Rect.unit (s := S688x128) ![0, 0] S352x128.size inb_S688x128_S352x128_0_0))) (View.ld X.c3 (Rect.unit (s := S688x128) ![0, 0] S352x128.size inb_S688x128_S352x128_0_0))) (ix2 r v)
      = out (scores X 2 (rowA r)) (fun k => val X k v) := by
  refine Eq.trans (congrFun ?_ _) (out3A_at X r v)
  have k := krotA3_at_eq X
  exact congr (congrArg _ rfl) (congr (congr (congr (congr (congr (congr (congrArg _ rfl) k) rfl) rfl) rfl) rfl) rfl)

theorem piece3B (r : Fin 336) (v : Fin 128) :
    k0_pay3 (k0_pay39 (View.ld X.kv (Rect.unit (s := S1x2064x256) ![0, 0, 128] S1x2064x128.size inb_S1x2064x256_S1x2064x128_0_0_128))) (k0_pay53 (k0_pay38 (View.ld X.kv (Rect.unit (s := S1x2064x256) ![0, 0, 0] S1x2064x128.size inb_S1x2064x256_S1x2064x128_0_0_0)))
      (k0_pay40 X.kpe X.k1 X.k2 X.k3)
      (k0_pay51 (View.ld X.q (Rect.unit (s := S1x688x256) ![0, 352, 0] S1x336x128.size inb_S1x688x256_S1x336x128_0_352_0))) (k0_pay52 (View.ld X.q (Rect.unit (s := S1x688x256) ![0, 352, 128] S1x336x128.size inb_S1x688x256_S1x336x128_0_352_128)) (View.ld X.c1 (Rect.unit (s := S688x128) ![352, 0] S336x128.size inb_S688x128_S336x128_352_0)) (View.ld X.c2 (Rect.unit (s := S688x128) ![352, 0] S336x128.size inb_S688x128_S336x128_352_0)) (View.ld X.c3 (Rect.unit (s := S688x128) ![352, 0] S336x128.size inb_S688x128_S336x128_352_0)))
      (constant S336x2064 .f32 0#32))
      (k0_pay54 (k0_pay38 (View.ld X.kv (Rect.unit (s := S1x2064x256) ![0, 0, 0] S1x2064x128.size inb_S1x2064x256_S1x2064x128_0_0_0)))
      (k0_pay40 X.kpe X.k1 X.k2 X.k3)
      (k0_pay51 (View.ld X.q (Rect.unit (s := S1x688x256) ![0, 352, 0] S1x336x128.size inb_S1x688x256_S1x336x128_0_352_0))) (k0_pay52 (View.ld X.q (Rect.unit (s := S1x688x256) ![0, 352, 128] S1x336x128.size inb_S1x688x256_S1x336x128_0_352_128)) (View.ld X.c1 (Rect.unit (s := S688x128) ![352, 0] S336x128.size inb_S688x128_S336x128_352_0)) (View.ld X.c2 (Rect.unit (s := S688x128) ![352, 0] S336x128.size inb_S688x128_S336x128_352_0)) (View.ld X.c3 (Rect.unit (s := S688x128) ![352, 0] S336x128.size inb_S688x128_S336x128_352_0)))
      (constant S336x2064 .f32 0#32)) (ix2 r v)
      = out (scores X 2 (rowB r)) (fun k => val X k v) := by
  refine Eq.trans (congrFun ?_ _) (out3B_at X r v)
  have k := krot3_at_eq X
  have q := qrot3_eq
  exact congr (congr (congrArg _ rfl) (congr (congr (congr (congr (congrArg _ rfl) k) rfl) (q _ _ _ _)) rfl))
    (congr (congr (congr (congr (congrArg _ rfl) k) rfl) (q _ _ _ _)) rfl)

end Third

end Cert.AttnFwdIdeal.Call

end
-- ==== Proof.AttnFwdArray.lean ====
/-
  The array the attention's forward call leaves: at a position and a head's lane, the position's weights on the head's values
  over their total.
-/
module

public import proofs.«01_k».proof.Proof.AttnFwdTiles
public import proofs.«01_k».proof.Proof.Gen.AttnFwdIdeal.Value

@[expose] public section

set_option maxRecDepth 16384

noncomputable section

namespace Cert.AttnFwdIdeal.Call

open Idealize.ShloMosaic Idealize.ShloMosaic.TcCoe Idealize.ShloMosaic.Tactic
open Cert.AttnFwdIdeal.Gen Cert.AttnRow
open Cert.KernelIdeal.AttnBwd (headOf tileOf pos rowA rowB scores val)

variable (m : (ℓ : Loc nD τ sig) → Buf (Elt Ideal) ℓ) (c : Dev nD) (t : Fin cfg0.N)

/-- A block's index is that of its row and lane. -/
theorem eq_ix2 {a b : ℕ} (y : (⟨2, ![a, b]⟩ : Shape).Idx) : y = ix2 (y 0) (y 1) := by
  funext i
  fin_cases i <;> rfl

/-- A block stored in two pieces, the last rows after the first. -/
theorem pieces_eq (b : FVec Ideal S336x128 .f32) (a : FVec Ideal S352x128 .f32) (G : Fin 688 → Fin 128 → EReal)
    (ha : ∀ r v, a (ix2 r v) = G (rowA r) v) (hb : ∀ r v, b (ix2 r v) = G (rowB r) v) (y : S688x128.Idx) :
    View.canon (Val := Elt Ideal) (s := S688x128) (e := .f32) [⟨Rect.unit (s := S688x128) ![352, 0] S336x128.size inb_S688x128_S336x128_352_0, b⟩,
      ⟨Rect.unit (s := S688x128) ![0, 0] S352x128.size inb_S688x128_S352x128_0_0, a⟩] y = G (y 0) (y 1) := by
  by_cases h : (y 0).val < 352
  · rw [View.canon_cons_of_not_mem _ _ (fun hm => by
      obtain ⟨x, rfl⟩ := LoadRect.exists_idx_of_mem _ hm
      have e : 352 + 1 * (x 0).val < 352 := h
      omega)]
    have e : y = (Rect.unit (s := S688x128) ![0, 0] S352x128.size inb_S688x128_S352x128_0_0).emb (ix2 ⟨(y 0).val, h⟩ (y 1)) := by
      funext i
      fin_cases i <;> refine Fin.ext ?_ <;> simp [Rect.emb_apply]
    exact (congrArg _ e).trans ((View.canon_cons_emb _ _ _ _).trans (ha _ _))
  · have h' : (y 0).val - 352 < 336 := by have : (y 0).val < 688 := (y 0).isLt; omega
    have e : y = (Rect.unit (s := S688x128) ![352, 0] S336x128.size inb_S688x128_S336x128_352_0).emb (ix2 ⟨(y 0).val - 352, h'⟩ (y 1)) := by
      funext i
      fin_cases i <;> refine Fin.ext ?_
      · show (y 0).val = 352 + 1 * ((y 0).val - 352); omega
      · simp [Rect.emb_apply]
    refine (congrArg _ e).trans ((View.canon_cons_emb _ _ _ _).trans ((hb _ _).trans (congrArg (fun r => G r (y 1)) (Fin.ext ?_))))
    show 352 + ((y 0).val - 352) = (y 0).val; omega

theorem tile1 (ht : t.val % 3 = 0) (y : S688x128.Idx) :
    (outsAt0 m c t.val t.isLt : FVec Ideal S688x128 .f32) y = out (scores (blocks m c t) 0 (y 0)) (fun k => val (blocks m c t) k (y 1)) := by
  rw [outsAt0_A m c t ht (by omega) (by omega)]
  frame_out
  have hA := piece1A (blocks m c t)
  have hB := piece1B (blocks m c t)
  dsimp only [blocks] at hA hB ⊢
  exact pieces_eq _ _ (fun r v => out (scores _ 0 r) (fun k => val _ k v)) hA hB y

theorem tile2 (ht : t.val % 3 = 1) (y : S688x128.Idx) :
    (outsAt0 m c t.val t.isLt : FVec Ideal S688x128 .f32) y = out (scores (blocks m c t) 1 (y 0)) (fun k => val (blocks m c t) k (y 1)) := by
  rw [outsAt0_B m c t (by omega) ht (by omega)]
  frame_out
  have hA := piece2A (blocks m c t)
  have hB := piece2B (blocks m c t)
  dsimp only [blocks] at hA hB ⊢
  exact pieces_eq _ _ (fun r v => out (scores _ 1 r) (fun k => val _ k v)) hA hB y

theorem tile3 (ht : t.val % 3 = 2) (y : S688x128.Idx) :
    (outsAt0 m c t.val t.isLt : FVec Ideal S688x128 .f32) y = out (scores (blocks m c t) 2 (y 0)) (fun k => val (blocks m c t) k (y 1)) := by
  rw [outsAt0_C m c t (by omega) (by omega) ht]
  frame_out
  have hA := piece3A (blocks m c t)
  have hB := piece3B (blocks m c t)
  dsimp only [blocks] at hA hB ⊢
  exact pieces_eq _ _ (fun r v => out (scores _ 2 r) (fun k => val _ k v)) hA hB y

theorem tile (y : S688x128.Idx) :
    (outsAt0 m c t.val t.isLt : FVec Ideal S688x128 .f32) y
      = out (Attention.scores (inputs m c) (headOf t) (pos (tileOf t) (y 0))) (fun k => Attention.va (inputs m c) (headOf t) k (y 1)) := by
  obtain ⟨m', h⟩ := exists_launched m
  refine Eq.trans ?_ (congrArg₂ out (scores_blocks h c t (y 0)) (funext fun k => val_blocks h c t k (y 1)))
  by_cases h₀ : t.val % 3 = 0
  · rw [show tileOf t = 0 from Fin.ext h₀]; exact tile1 m c t h₀ y
  by_cases h₁ : t.val % 3 = 1
  · rw [show tileOf t = 1 from Fin.ext h₁]; exact tile2 m c t h₁ y
  · have h₂ : t.val % 3 = 2 := by omega
    rw [show tileOf t = 2 from Fin.ext h₂]; exact tile3 m c t h₂ y

/-- The array, entry by entry. -/
def outputs : FVec Ideal S2064x1024 .f32 := fun j =>
  out (Attention.scores (inputs m c) ⟨(j 1).val / 128, by have := (j 1).isLt; exact Nat.div_lt_of_lt_mul this⟩ (j 0))
    (fun k => Attention.va (inputs m c) ⟨(j 1).val / 128, by have := (j 1).isLt; exact Nat.div_lt_of_lt_mul this⟩ k ⟨(j 1).val % 128, by omega⟩)

theorem final : (dats m 0 c).arrAt 9 cfg0.N = outputs m c := by
  refine (dats m 0 c).arrAt_eq_of_covers 9 _ (by decide +kernel) fun t hf y => ?_
  blk_simp [idx t]
  rw [after0_9]
  refine (tile m c t y).trans ?_
  have hy : (y 1).val < 128 := (y 1).isLt
  have e0 : (win0_9.blk t).view.emb y 0 = pos (tileOf t) (y 0) := by
    refine Fin.ext ?_; show ((win0_9.blk t).view.emb y 0).val = 688 * (t.val % 3) + (y 0).val; blk_simp [idx t]; omega
  have e1 : ((win0_9.blk t).view.emb y 1).val = 128 * (headOf t).val + (y 1).val := by
    show _ = 128 * (t.val / 3) + _; blk_simp [idx t]; omega
  unfold outputs
  rw [e0]
  have e2 : (⟨((win0_9.blk t).view.emb y 1).val / 128, by have := ((win0_9.blk t).view.emb y 1).isLt; exact Nat.div_lt_of_lt_mul this⟩ : Fin 8) = headOf t :=
    Fin.ext (by show ((win0_9.blk t).view.emb y 1).val / 128 = _; rw [e1]; omega)
  have e3 : (⟨((win0_9.blk t).view.emb y 1).val % 128, by omega⟩ : Fin 128) = y 1 :=
    Fin.ext (by show ((win0_9.blk t).view.emb y 1).val % 128 = _; rw [e1]; omega)
  rw [e2, e3]

end Cert.AttnFwdIdeal.Call

end
-- ==== Proof.Reference.lean ====
/-
  What the reference's intermediate arrays hold at an index, of the call's arguments.
-/
module

public import proofs.«01_k».proof.Proof.Gen.ReferenceIdeal.Run
public import proofs.«01_k».proof.Proof.Attention
public import proofs.«01_k».proof.Proof.Index
public import Idealize.ShloMosaic.Lib.Pointwise

@[expose] public section

set_option maxRecDepth 16384

noncomputable section

namespace Cert.ReferenceIdeal.AttnBwd

open Idealize.ShloMosaic Idealize.ShloMosaic.TcCoe Idealize.ShloMosaic.Tactic Idealize.ShloMosaic.StableHlo
open Cert.ReferenceIdeal Cert.ReferenceIdeal.Gen Cert.ReferenceIdeal.Value
open Cert.AttnRow
open Cert.Attention (Inputs)

/-- The gradient of a score as the reference writes it: the row's mean taken off with the square
    of the sum. -/
def refGrad (see : Prop) [Decidable see] {n : ℕ} (s p : Fin n → EReal) (k : Fin n) : EReal :=
  if see then (Ideal.div (p k) (total s) + -∑ x, p x * Ideal.div 1 (total s * total s) * weight s x) * weight s k * scale else 0

variable (V0 : Valuation τ sig (Elt Ideal))

/-- The arguments the line starts from. -/
def inputs : Inputs where
  q := V0 (Proc.devRef .tc main_arg0)
  kv := V0 (Proc.devRef .tc main_arg1)
  z := V0 (Proc.devRef .tc main_arg2)
  cos := V0 (Proc.devRef .tc main_arg3)
  sin := V0 (Proc.devRef .tc main_arg4)
  dy := V0 (Proc.devRef .tc main_arg5)

variable (h : Fin 8) (p k : Fin 2064)

theorem v21_at (d : Fin 128) : res_main_v21 V0 (ix3 h p d) = Attention.qn (inputs V0) h p d := by
  pointwise [res_main_v21, Attention.qn, inputs]
theorem v40_at (d : Fin 128) : res_main_v40 V0 (ix3 h k d) = Attention.kn (inputs V0) h k d := by
  pointwise [res_main_v40, Attention.kn, inputs]
theorem v41_at (d : Fin 128) : res_main_v41 V0 (ix3 h k d) = Attention.va (inputs V0) h k d := by
  pointwise [res_main_v41, Attention.va, inputs]
theorem v39_a (j : Fin 32) : res_main_v39 V0 (ix3 h p ⟨j.val, by omega⟩) = Attention.qa (inputs V0) h p j := by
  pointwise [res_main_v39, res_main_v23, res_main_v24, res_main_v22, res_main_v25, res_main_v28, res_main_v32, res_main_v35, Attention.qa, Attention.turnA, inputs]
theorem v39_b (j : Fin 32) : res_main_v39 V0 (ix3 h p ⟨32 + j.val, by omega⟩) = Attention.qb (inputs V0) h p j := by
  pointwise [res_main_v39, res_main_v23, res_main_v24, res_main_v22, res_main_v25, res_main_v28, res_main_v32, res_main_v35, Attention.qb, Attention.turnB, inputs]
theorem v11_a (j : Fin 32) : res_main_v11 V0 (ix3 h k ⟨j.val, by omega⟩) = Attention.ka (inputs V0) k j := by
  pointwise [res_main_v11, res_main_v1, res_main_v2, res_main_v0, Attention.ka, Attention.turnA, inputs]
theorem v11_b (j : Fin 32) : res_main_v11 V0 (ix3 h k ⟨32 + j.val, by omega⟩) = Attention.kb (inputs V0) k j := by
  pointwise [res_main_v11, res_main_v1, res_main_v2, res_main_v0, Attention.kb, Attention.turnB, inputs]
theorem v86_at (v : Fin 128) : res_main_v86 V0 (ix3 h p v) = Attention.dyo (inputs V0) h p v := by
  pointwise [res_main_v86, Attention.dyo, inputs]
/-- The words the reference computes a position's chunk by. -/
def sign (w : BitVec 32) : BitVec 32 := if w = 0 then 0 else if w.msb = true then -1 else 1
def chunkOf (w : BitVec 32) : BitVec 32 :=
  Scalar.select (IntOp.cmpi CmpIPredicate.slt w 16#32) 0#32
    (IntOp.addi 1#32
      (Scalar.select
        (IntOp.andi
          (IntOp.cmpi CmpIPredicate.ne (sign (IntOp.subi w 16#32)) (sign 64#32))
          (IntOp.cmpi CmpIPredicate.ne (IntOp.remsi ArithUnit.host (IntOp.subi w 16#32) 64#32) 0#32))
        (IntOp.subi (IntOp.divsi ArithUnit.host (IntOp.subi w 16#32) 64#32) 1#32)
        (IntOp.divsi ArithUnit.host (IntOp.subi w 16#32) 64#32)))
theorem chunk_words : ∀ p : Fin 2064, chunkOf (BitVec.ofNat 32 p.val) = BitVec.ofNat 32 (chunk p.val) := by decide +kernel

theorem v20_at : res_main_v20 V0 (ix1 p) = BitVec.ofNat 32 (chunk p.val) := by
  pointwise [res_main_v20, res_main_v16, res_main_v12, res_main_call0_v0, res_main_call0_v2]
  exact chunk_words p
theorem v53_1_at : res_main_v53_1 V0 (ix3 h p k) = if chunk k.val ≤ chunk p.val then 1#1 else 0#1 := by
  pointwise [res_main_v53_1]
  rw [v20_at, v20_at]
  exact sle_small ⟨chunk k.val, chunk_lt k⟩ ⟨chunk p.val, chunk_lt p⟩

/-- The scores, their greatest, the weights, their sum. -/
theorem v53_0_at : res_main_v53_0 V0 (ix3 h p k) = Attention.scores (inputs V0) h p k := by
  pointwise [res_main_v53_0]
  rw [v53_1_at, select_sees, Attention.sum_pair (fun x => (show EReal from res_main_v39 V0 (ix3 h p x)) * (show EReal from res_main_v11 V0 (ix3 h k x)))]
  simp only [v21_at, v40_at, v39_a, v39_b, v11_a, v11_b]
  rfl
theorem v54_at : res_main_v54 V0 (ix2 h p) = top (Attention.scores (inputs V0) h p) := by
  pointwise [res_main_v54]
  refine (Shape.ReducesTo.fold_fiber_r3_a2 _ _ _ _ _).trans ?_
  exact congrArg (fun f => Finset.univ.fold max masked f) (funext fun k => v53_0_at V0 h p k)

/-- The weights' line, whatever the scores and their greatest. -/
theorem weight_line (x : FVec Ideal S8x2064x2064 .f32) (y : FVec Ideal S8x2064 .f32) :
    Host.exp (subf x (broadcastInDim S8x2064x2064 ![0, 1, 2] bcast_S8x2064x1_S8x2064x2064_0_1_2 (broadcastInDim S8x2064x1 ![0, 1] bcast_S8x2064_S8x2064x1_0_1 (maximumf (broadcastInDim S8x2064 ![] bcast_S_S8x2064 (constant S_ .f32 0xFF800000#32)) y)))) (ix3 h p k)
      = Ideal.exp (x (ix3 h p k) - max masked (y (ix2 h p))) := by
  pointwise
  rfl
theorem v74_at : res_main_v74 V0 (ix3 h p k) = weight (Attention.scores (inputs V0) h p) k := by
  unfold res_main_v74
  refine (weight_line h p k _ _).trans ?_
  rw [v53_0_at, v54_at, masked_eq, max_eq_right bot_le]
  rfl
theorem v76_at : res_main_v76 V0 (ix3 h p 0) = total (Attention.scores (inputs V0) h p) := by
  pointwise [res_main_v76]
  simp only [v74_at]
  rfl
theorem v78_at : res_main_v78 V0 (ix3 h p k) = Ideal.div (weight (Attention.scores (inputs V0) h p) k) (total (Attention.scores (inputs V0) h p)) := by
  pointwise [res_main_v78]
  rw [v74_at, v76_at]
/-- The gradient of a weight after its normalisation, -/
theorem v89_at : res_main_v89 V0 (ix3 h p k) = Attention.slope (inputs V0) h p k := by
  pointwise [res_main_v89]
  simp only [v86_at, v41_at]
  rfl
/-- and the gradient of a score, as the reference adds it up. -/
theorem v104_at : res_main_v104 V0 (ix3 h p k) = refGrad (chunk k.val ≤ chunk p.val) (Attention.scores (inputs V0) h p) (Attention.slope (inputs V0) h p) k := by
  pointwise [res_main_v104]
  rw [v53_1_at, select_sees]
  simp only [v89_at, v76_at, v74_at]
  rw [Fin.sum_univ_one]
  rfl

end Cert.ReferenceIdeal.AttnBwd

end
-- ==== Proof.Softmax.lean ====
/-
  The softmax's rows: where a row of scores has a real greatest score its weights are real and their sum is positive,
  and then the gradient added up with the square of the sum is the gradient with the reciprocal taken out.
-/
module

public import proofs.«01_k».proof.Proof.Attention

@[expose] public section

noncomputable section

namespace Cert.AttnRow

open Idealize.ShloMosaic

/-! ## Real values -/

/-- A value that is a real number. -/
def IsReal (x : EReal) : Prop := ∃ r : ℝ, x = r

theorem IsReal.of_ne {x : EReal} (h₁ : x ≠ ⊤) (h₂ : x ≠ ⊥) : IsReal x := ⟨x.toReal, (EReal.coe_toReal h₁ h₂).symm⟩
theorem IsReal.ne_top {x : EReal} : IsReal x → x ≠ ⊤ := by rintro ⟨r, rfl⟩; exact EReal.coe_ne_top r
theorem IsReal.ne_bot {x : EReal} : IsReal x → x ≠ ⊥ := by rintro ⟨r, rfl⟩; exact EReal.coe_ne_bot r
theorem IsReal.add {x y : EReal} : IsReal x → IsReal y → IsReal (x + y) := by rintro ⟨r, rfl⟩ ⟨s, rfl⟩; exact ⟨r + s, (EReal.coe_add r s).symm⟩
theorem IsReal.sub {x y : EReal} : IsReal x → IsReal y → IsReal (x - y) := by rintro ⟨r, rfl⟩ ⟨s, rfl⟩; exact ⟨r - s, (EReal.coe_sub r s).symm⟩
theorem IsReal.mul {x y : EReal} : IsReal x → IsReal y → IsReal (x * y) := by rintro ⟨r, rfl⟩ ⟨s, rfl⟩; exact ⟨r * s, (EReal.coe_mul r s).symm⟩
theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem scale_real : IsReal scale := by
  refine IsReal.of_ne ?_ ?_ <;> simp [scale, Ideal.ofBits, Ideal.ieee, -EReal.coe_mul] <;> norm_num

/-- A real factor that is not negative comes out of a sum. -/
theorem sum_mul_real {ι : Type*} (s : Finset ι) (f : ι → EReal) (c : ℝ) (hc : 0 ≤ c) : ∑ i ∈ s, f i * c = (∑ i ∈ s, f i) * c := by
  classical
  induction s using Finset.induction_on with
  | empty => simp
  | insert a s ha ih =>
    rw [Finset.sum_insert ha, Finset.sum_insert ha, ih]
    exact (EReal.right_distrib_of_nonneg_of_ne_top (EReal.coe_nonneg.mpr hc) (EReal.coe_ne_top c) _ _).symm

/-! ## A row with a real greatest score -/

variable {n : ℕ} (s p : Fin n → EReal)

/-- No score is plus infinity and one is real. -/
def Regular : Prop := (∀ k, s k ≠ ⊤) ∧ ∃ k, s k ≠ ⊥

theorem top_real (h : Regular s) : IsReal (top s) := by
  obtain ⟨h₁, k, hk⟩ := h
  refine IsReal.of_ne ?_ ?_
  · refine ne_of_lt ((Finset.fold_max_lt (b := masked) (f := s) (s := Finset.univ) ⊤).mpr ⟨?_, fun k _ => lt_top_iff_ne_top.mpr (h₁ k)⟩)
    rw [masked_eq]; exact bot_lt_top
  · exact fun e => hk (le_bot_iff.mp (e ▸ ((Finset.fold_max_le (top s)).mp le_rfl).2 k (Finset.mem_univ k)))

theorem weight_real (h : Regular s) (k : Fin n) : ∃ e : ℝ, 0 ≤ e ∧ (s k ≠ ⊥ → 0 < e) ∧ weight s k = e := by
  obtain ⟨r, hr⟩ := top_real s h
  unfold weight
  rw [hr]
  by_cases hk : s k = ⊥
  · refine ⟨0, le_rfl, fun e => absurd hk e, ?_⟩
    rw [hk, sub_eq_add_neg, EReal.bot_add]; rfl
  · obtain ⟨x, hx⟩ := IsReal.of_ne (h.1 k) hk
    refine ⟨Real.exp (x - r), (Real.exp_pos _).le, fun _ => Real.exp_pos _, ?_⟩
    rw [hx, ← EReal.coe_sub]; rfl

theorem total_real (h : Regular s) : ∃ T : ℝ, 0 < T ∧ total s = T := by
  choose e h₀ h₁ he using weight_real s h
  obtain ⟨k, hk⟩ := h.2
  refine ⟨∑ x, e x, Finset.sum_pos' (fun x _ => h₀ x) ⟨k, Finset.mem_univ k, h₁ k hk⟩, ?_⟩
  unfold total
  rw [Finset.sum_congr rfl fun x _ => he x]
  exact (map_sum (⟨⟨fun x : ℝ => (x : EReal), EReal.coe_zero⟩, EReal.coe_add⟩ : ℝ →+ EReal) e Finset.univ).symm

/-- The reciprocal of the sum is a positive real, and a division by the sum is a product with it. -/
theorem recip_real (h : Regular s) : ∃ i : ℝ, 0 < i ∧ recip s = i ∧ (∀ x, Ideal.div x (total s) = x * i) ∧ ∀ x, Ideal.div x (total s * total s) = x * ((i * i : ℝ) : EReal) := by
  obtain ⟨T, hT, e⟩ := total_real s h
  have d (x : EReal) (T : ℝ) (hT : T ≠ 0) : Ideal.div x (T : EReal) = x * ((T⁻¹ : ℝ) : EReal) := by
    unfold Ideal.div
    rw [if_neg (fun h => hT (EReal.coe_eq_zero.mp h)), EReal.coe_inv]
  refine ⟨T⁻¹, inv_pos.mpr hT, ?_, fun x => ?_, fun x => ?_⟩
  · unfold recip; rw [e, d 1 T hT.ne', one_mul]
  · rw [e, d x T hT.ne']
  · rw [e, ← EReal.coe_mul, d x (T * T) (mul_pos hT hT).ne', mul_inv]

/-- The two ways of writing a score's gradient agree. -/
theorem grad_eq (h : Regular s) (k : Fin n) :
    (Ideal.div (p k) (total s) + -∑ x, p x * Ideal.div 1 (total s * total s) * weight s x) * weight s k * scale = grad s p k := by
  obtain ⟨i, hi, e₁, e₂, e₃⟩ := recip_real s h
  unfold grad
  rw [e₁, e₂, e₃, one_mul]
  have hS : ∑ x, p x * ((i * i : ℝ) : EReal) * weight s x = (∑ x, weight s x * p x) * (i : EReal) * i := by
    rw [mul_assoc, ← EReal.coe_mul, ← sum_mul_real _ _ _ (mul_pos hi hi).le]
    exact Finset.sum_congr rfl fun x _ => by rw [mul_comm (weight s x), mul_right_comm]
  rw [hS, ← neg_mul, ← EReal.right_distrib_of_nonneg_of_ne_top (EReal.coe_nonneg.mpr hi.le) (EReal.coe_ne_top i), ← sub_eq_add_neg]
  rw [mul_comm (weight s k), mul_assoc, mul_assoc, mul_assoc, mul_comm (i : EReal) (weight s k * scale), mul_assoc, mul_comm scale, mul_comm (weight s k) (_ * scale)]

end Cert.AttnRow

end
-- ==== Proof.Equation.lean ====
/-
  The reference's results are the attention's gradients, where the scores' ingredients are real.
-/
module

public import proofs.«01_k».proof.Proof.Reference
public import proofs.«01_k».proof.Proof.Softmax

@[expose] public section

set_option maxRecDepth 16384

noncomputable section

namespace Cert.Attention

open Idealize.ShloMosaic
open Cert.AttnRow

/-- What the scores are made of is real: the queries, the keys and the rotary tables. -/
structure Finite (I : Inputs) : Prop where
  q : ∀ h p l, IsReal (I.q (ix3 h p l))
  kn : ∀ (h : Fin 8) (k : Fin 2064) (d : Fin 128), IsReal (I.kv (ix3 h k ⟨d.val, by omega⟩))
  kpe : ∀ (k : Fin 2064) (j : Fin 64), IsReal (I.z (ix2 k ⟨1792 + j.val, by omega⟩))
  cos : ∀ p j, IsReal (I.cos (ix2 p j))
  sin : ∀ p j, IsReal (I.sin (ix2 p j))

variable {I : Inputs} (hI : Finite I)

include hI

theorem Finite.score (h : Fin 8) (p k : Fin 2064) : IsReal (score I h p k) := by
  have kp (j : Fin 32) : IsReal (I.z (ix2 k ⟨1792 + j.val, by omega⟩)) := hI.kpe k ⟨j.val, by omega⟩
  have kq (j : Fin 32) : IsReal (I.z (ix2 k ⟨1792 + (32 + j.val), by omega⟩)) := hI.kpe k ⟨32 + j.val, by omega⟩
  refine IsReal.add (IsReal.sum _ _ fun d => (hI.q _ _ _).mul (hI.kn _ _ _)) (IsReal.add (IsReal.sum _ _ fun j => ?_) (IsReal.sum _ _ fun j => ?_))
  · exact (((hI.q _ _ _).mul (hI.cos _ _)).sub ((hI.q _ _ _).mul (hI.sin _ _))).mul (((kp j).mul (hI.cos _ _)).sub ((kq j).mul (hI.sin _ _)))
  · exact (((hI.q _ _ _).mul (hI.cos _ _)).add ((hI.q _ _ _).mul (hI.sin _ _))).mul (((kq j).mul (hI.cos _ _)).add ((kp j).mul (hI.sin _ _)))

/-- Every row of scores is regular: its first key is never masked. -/
theorem Finite.regular (h : Fin 8) (p : Fin 2064) : Regular (scores I h p) := by
  refine ⟨fun k => ?_, 0, ?_⟩
  · unfold scores
    split
    · exact ((hI.score h p k).mul scale_real).ne_top
    · rw [masked_eq]; exact bot_ne_top
  · unfold scores
    rw [if_pos (show chunk (0 : Fin 2064).val ≤ chunk p.val from Nat.zero_le _)]
    exact ((hI.score h p 0).mul scale_real).ne_bot

end Cert.Attention

namespace Cert.ReferenceIdeal.AttnBwd

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value
open Cert.AttnRow
open Cert.Attention (Inputs)

variable (V0 : Valuation τ sig (Elt Ideal)) (hI : Attention.Finite (inputs V0)) (h : Fin 8) (p k : Fin 2064)

include hI

/-- A score's gradient; a masked one is zero. -/
theorem gr_at : res_main_v104 V0 (ix3 h p k) = Attention.gr (inputs V0) h p k := by
  rw [v104_at]
  unfold refGrad Attention.gr
  split
  · exact grad_eq _ _ (hI.regular h p) k
  · next hk =>
    unfold grad weight Attention.scores
    rw [if_neg hk, masked_eq, sub_eq_add_neg, EReal.bot_add]
    exact (zero_mul (M₀ := EReal) _).symm

/-- A row of the rotated queries' gradient before it is turned back. -/
theorem v112_at (j : Fin 32) : res_main_v112 V0 (ix3 h p j) = Attention.ua (inputs V0) h p j := by
  pointwise [res_main_v112, res_main_v106]
  simp only [gr_at V0 hI, v11_a]
  rfl
theorem v113_at (j : Fin 32) : res_main_v113 V0 (ix3 h p j) = Attention.ub (inputs V0) h p j := by
  pointwise [res_main_v113, res_main_v106]
  simp only [gr_at V0 hI, v11_b]
  rfl

omit hI in
/-- The tables, broadcast over the heads. -/
theorem tables_at (j : Fin 32) : res_main_v25 V0 (ix3 0 p j) = (inputs V0).cos (ix2 p j) ∧ res_main_v28 V0 (ix3 0 p j) = (inputs V0).sin (ix2 p j)
    ∧ res_main_v32 V0 (ix3 0 p j) = (inputs V0).cos (ix2 p j) ∧ res_main_v35 V0 (ix3 0 p j) = (inputs V0).sin (ix2 p j) := by
  refine ⟨?_, ?_, ?_, ?_⟩
  · pointwise [res_main_v25, inputs]
  · pointwise [res_main_v28, inputs]
  · pointwise [res_main_v32, inputs]
  · pointwise [res_main_v35, inputs]

omit hI in
/-- The reference's run leaves the attention's gradients. -/
theorem run (m : (ℓ : Loc nD τ sig) → Buf (Elt Ideal) ℓ) (ρ : Dev nD → PrngReg) (hI : ∀ c, Attention.Finite (inputs (launchContents m c))) :
    θ_run defs (onTc (τ := τ) (main (F := Ideal))) ⟨m, fun _ => 0, ρ⟩ fun r => ∀ c : Dev nD,
      r.2.mem ((c.tc : Thread nD τ).loc main_v131) = Attention.dq (inputs (launchContents m c))
      ∧ r.2.mem ((c.tc : Thread nD τ).loc main_v111) = Attention.dkv (inputs (launchContents m c))
      ∧ r.2.mem ((c.tc : Thread nD τ).loc main_v130) = Attention.dkpe (inputs (launchContents m c)) := by
  refine (Cert.ReferenceIdeal.Value.run (F := Ideal) m ρ).mono fun r hr c => ⟨(hr c).1.trans ?_, (hr c).2.1.trans ?_, (hr c).2.2.1.trans ?_⟩
  · clear hr
    generalize hV : launchContents m c = V0
    have hI := hV ▸ hI c
    refine Attention.eq_dq _ _ (fun h p d => ?_) (fun h p j => ?_) (fun h p j => ?_) (fun h p o => ?_)
    · pointwise
      rw [dif_pos (show d.val < 192 by omega), dif_neg (by simp), zero_add]
      simp only [gr_at V0 hI, v40_at]
      rfl
    · pointwise
      rw [dif_pos (show 128 + j.val < 192 by omega), dif_pos (show j.val < 64 by omega)]
      rw [v113_at V0 hI, v112_at V0 hI, (tables_at V0 p j).2.2.2, (tables_at V0 p j).1]
      exact add_comm _ _
    · pointwise
      rw [dif_pos (show 128 + (32 + j.val) < 192 by omega), dif_pos (show 32 + j.val < 64 by omega)]
      rw [v113_at V0 hI, v112_at V0 hI, (tables_at V0 p j).2.2.1, (tables_at V0 p j).2.1, neg_mul, ← mul_neg]
      rfl
    · pointwise
      exact Attention.word_zero
  · clear hr
    generalize hV : launchContents m c = V0
    have hI := hV ▸ hI c
    refine Attention.eq_dkv _ _ (fun h k d => ?_) (fun h k d => ?_)
    · pointwise
      rw [dif_neg (by simp), zero_add]
      simp only [gr_at V0 hI, v21_at]
      rfl
    · pointwise
      refine Finset.sum_congr rfl fun x _ => ?_
      obtain ⟨i, _, e₁, e₂, _⟩ := recip_real _ (hI.regular h x)
      rw [v86_at, v78_at, e₁, e₂, mul_left_comm]
  · clear hr
    generalize hV : launchContents m c = V0
    have hI := hV ▸ hI c
    refine Attention.eq_dkpe _ _ (fun h k j => ?_) (fun h k j => ?_) (fun h k o => ?_)
    · pointwise
      rw [dif_pos (show j.val < 64 by omega)]
      simp only [gr_at V0 hI, v39_a]
      rfl
    · pointwise
      rw [dif_pos (show 32 + j.val < 64 by omega)]
      simp only [gr_at V0 hI, v39_b]
      rfl
    · pointwise
      exact Attention.word_zero

end Cert.ReferenceIdeal.AttnBwd

end
-- ==== Proof.Precondition.lean ====
/-
  What the precondition says: the queries, the keys and the rotary tables are real.
-/
module

public import proofs.«01_k».proof.Defs
public import proofs.«01_k».proof.Proof.Arrays
public import proofs.«01_k».proof.Proof.Equation
public import Idealize.ShloMosaic.Lib.ReduceAll
public import Idealize.ShloMosaic.Lib.Pointwise
public import Idealize.ShloMosaic.Lib.Decide

@[expose] public section

set_option maxRecDepth 16384

noncomputable section

namespace Cert.Pre_finite_scores

open Idealize.ShloMosaic
open Cert.AttnRow (IsReal)

/-- The shape relations the predicate's operations take. -/
instance facts : Facts where
  slices_S8x2064x256_S8x2064x128_0_0_0 := by decide
  slices_S2064x1856_S2064x64_0_1792 := by decide
  bcast_S_S8x2064x192 := by decide
  reducesTo_S8x2064x192_S_d0_1_2 := by decide
  h_S_ := by decide
  bcast_S_S8x2064x128 := by decide
  reducesTo_S8x2064x128_S_d0_1_2 := by decide
  bcast_S_S2064x64 := by decide
  reducesTo_S2064x64_S_d0_1 := by decide
  bcast_S_S2064x32 := by decide
  reducesTo_S2064x32_S_d0_1 := by decide

instance : Subsingleton S_.Idx := ⟨fun _ _ => funext fun d => d.elim0⟩

/-- A value whose absolute value is below the word of infinity is real. -/
theorem real_of_lt {x : Ideal .f32} (h : FloatOps.cmpf (F := Ideal) .olt (FloatOps.hostAbsf x) (FloatOps.ofBits (F := Ideal) .f32 0x7F800000#32) = 1#1) :
    IsReal x := by
  have h' : max (x : EReal) (-(x : EReal)) < Ideal.ofBits .f32 0x7F800000#32 := (Ideal.cmp_olt_eq_one _ _).mp h
  have lt := lt_of_lt_of_le h' le_top
  refine IsReal.of_ne (fun e => ?_) (fun e => ?_) <;> rw [e] at lt <;> simp at lt

/-- An array all of whose absolute values are found below the word of infinity is real. -/
theorem real_of_all {s : Shape} {axes : List (Fin s.rank)} (a : FVec Ideal s .f32) (hb : S_.BroadcastsInDim s (![] : Fin 0 → Fin s.rank))
    (h : s.ReducesTo axes S_) (hu : 0 < S_.numel)
    (e : Host.reduce IntOp.andi (cmpf .olt (Host.absf a) (broadcastInDim s ![] hb (constant (F := Ideal) S_ .f32 0x7F800000#32))) (constantI S_ 1 1#1) h hu
      (Shape.Idx.first hu) = 1#1) (i : s.Idx) : IsReal (a i) :=
  real_of_lt (Host.reduce_andi_all _ _ h hu _ e i)

end Cert.Pre_finite_scores

namespace Cert.KernelIdeal.AttnBwd

open Idealize.ShloMosaic Idealize.ShloMosaic.TcCoe Idealize.SL.Sem
open Cert.Pre_finite_scores

/-- Under the precondition a device's scores are made of real values. -/
theorem finite_of_pre (m : (ℓ : Loc nD τ sig) → Buf (Elt Ideal) ℓ) (hm : Cert.Pre_KernelIdeal_finite_scores m) (c : Dev nD) :
    Attention.Finite (inputs m c) := by
  have e := congrFun (hm c) (Shape.Idx.first Facts.h_S_)
  unfold Cert.Pre_finite_scores.fn Cert.Pre_finite_scores.fn_part1 at e
  obtain ⟨e, hs⟩ := IntOp.andi_eq_one.1 e
  obtain ⟨e, hc⟩ := IntOp.andi_eq_one.1 e
  obtain ⟨e, hz⟩ := IntOp.andi_eq_one.1 e
  obtain ⟨hq, hk⟩ := IntOp.andi_eq_one.1 e
  have hk := real_of_all _ _ _ _ hk
  have hz := real_of_all _ _ _ _ hz
  refine ⟨fun h p l => real_of_all _ _ _ _ hq _, fun h k d => ?_, fun k j => ?_, fun p j => real_of_all _ _ _ _ hc _, fun p j => real_of_all _ _ _ _ hs _⟩
  · have := hk (ix3 h k d)
    revert this
    pointwise
    exact fun h => h
  · have := hz (ix2 k j)
    revert this
    pointwise
    exact fun h => h

end Cert.KernelIdeal.AttnBwd

end
-- ==== Proof.AttnFwd.lean ====
/-
  The attention's forward call against the forward lines: the probabilities the reference multiplies the values by are the
  gradient's, and under the precondition a row's reciprocal moves out of its sum.
-/
module

public import proofs.«01_k».proof.Proof.AttnFwdArray
public import proofs.«01_k».proof.Proof.Precondition
public import proofs.«01_k».proof.Proof.Gen.AttnFwdIdeal.Value
public import proofs.«01_k».proof.Proof.Gen.AttnFwdReferenceIdeal.Run

@[expose] public section

set_option maxRecDepth 16384

noncomputable section

namespace Cert.AttnFwdReferenceIdeal.Call

open Idealize.ShloMosaic Idealize.ShloMosaic.TcCoe Idealize.ShloMosaic.Tactic Idealize.ShloMosaic.StableHlo Idealize.SL.Sem
open Cert.AttnRow

open Cert.AttnFwdReferenceIdeal Cert.AttnFwdReferenceIdeal.Gen Cert.AttnFwdReferenceIdeal.Value

/-- The arguments of the gradient's reference. -/
abbrev Line : Type := Valuation Cert.ReferenceIdeal.τ Cert.ReferenceIdeal.sig (Elt Ideal)

variable (m : (ℓ : Loc nD τ sig) → Buf (Elt Ideal) ℓ) (c : Dev nD)

/-- The reference's own arguments. -/
def given : Attention.Inputs where
  q := m ((c.tc : Thread nD τ).loc main_arg0)
  kv := m ((c.tc : Thread nD τ).loc main_arg1)
  z := m ((c.tc : Thread nD τ).loc main_arg2)
  cos := m ((c.tc : Thread nD τ).loc main_arg3)
  sin := m ((c.tc : Thread nD τ).loc main_arg4)
  dy := fun _ => 0

theorem exists_line : ∃ V : Line, Cert.ReferenceIdeal.AttnBwd.inputs V = given m c := by
  have b (d : DevRef Cert.ReferenceIdeal.τ Cert.ReferenceIdeal.sig) : Nonempty (d.ty.Contents (Elt Ideal)) := inferInstance
  let ops : List (HloOp Cert.ReferenceIdeal.τ Cert.ReferenceIdeal.sig (Elt Ideal)) :=
    [nullary Cert.ReferenceIdeal.main_arg0 (given m c).q, nullary Cert.ReferenceIdeal.main_arg1 (given m c).kv,
      nullary Cert.ReferenceIdeal.main_arg2 (given m c).z, nullary Cert.ReferenceIdeal.main_arg3 (given m c).cos,
      nullary Cert.ReferenceIdeal.main_arg4 (given m c).sin, nullary Cert.ReferenceIdeal.main_arg5 (given m c).dy]
  exact ⟨after ops (fun d => (b d).some), rfl⟩

theorem v67_eq (V : Line) (h : Cert.ReferenceIdeal.AttnBwd.inputs V = given m c) :
    res_main_v67 m c = shapeCast _ (transpose S2064x8x128 [1, 0, 2] (Host.dotGeneral (φ₁ := .f32) (φ₂ := .f32) dot_S8x2064x2064_S8x2064x128_S8x2064x128_2_1_1_2_0_0 none
      (Cert.ReferenceIdeal.Value.res_main_v78 V) (Cert.ReferenceIdeal.Value.res_main_v41 V)) transposes_S8x2064x128_S2064x8x128_1_0_2)
      shapeCasts_S2064x8x128_S2064x1024 := by
  have h0 : V (Proc.devRef .tc Cert.ReferenceIdeal.main_arg0) = m ((c.tc : Thread nD τ).loc main_arg0) := congrArg Attention.Inputs.q h
  have h1 : V (Proc.devRef .tc Cert.ReferenceIdeal.main_arg1) = m ((c.tc : Thread nD τ).loc main_arg1) := congrArg Attention.Inputs.kv h
  have h2 : V (Proc.devRef .tc Cert.ReferenceIdeal.main_arg2) = m ((c.tc : Thread nD τ).loc main_arg2) := congrArg Attention.Inputs.z h
  have h3 : V (Proc.devRef .tc Cert.ReferenceIdeal.main_arg3) = m ((c.tc : Thread nD τ).loc main_arg3) := congrArg Attention.Inputs.cos h
  have h4 : V (Proc.devRef .tc Cert.ReferenceIdeal.main_arg4) = m ((c.tc : Thread nD τ).loc main_arg4) := congrArg Attention.Inputs.sin h
  unfold res_main_v67
  rw [← h0, ← h1, ← h2, ← h3, ← h4]
  rfl

theorem ref_at (p : Fin 2064) (h : Fin 8) (v : Fin 128) : ((res_main_v67 m c : FVec Ideal S2064x1024 .f32) (ix2 p ⟨128 * h.val + v.val, by omega⟩) : EReal)
    = ∑ k, (Ideal.div (weight (Attention.scores (given m c) h p) k) (total (Attention.scores (given m c) h p)) : EReal) * Attention.va (given m c) h k v := by
  obtain ⟨V, e⟩ := exists_line m c
  rw [v67_eq m c V e, ← e]
  pointwise
  change @Eq EReal _ _
  exact Finset.sum_congr rfl fun k _ => by rw [Cert.ReferenceIdeal.AttnBwd.v78_at, Cert.ReferenceIdeal.AttnBwd.v41_at]

/-- Where the scores are made of real values a row's total is a positive real, whose reciprocal moves out of the sum. -/
theorem row_eq (s v : Fin 2064 → EReal) (hs : Regular s) : ∑ k, Ideal.div (weight s k) (total s) * v k = out s v := by
  obtain ⟨i, hi, er, ed, -⟩ := recip_real s hs
  unfold out
  rw [er, ← sum_mul_real _ _ i hi.le]
  exact Finset.sum_congr rfl fun k _ => by rw [ed, mul_right_comm]

end Cert.AttnFwdReferenceIdeal.Call

namespace Cert.AttnFwdIdeal.Call

open Idealize.ShloMosaic Idealize.ShloMosaic.TcCoe Idealize.SL.Sem
open Cert.AttnFwdIdeal Cert.AttnRow
open Cert.Pre_finite_scores (real_of_all)

/-! ## The precondition -/

/-- The shape relations the predicate's operations take. -/
instance facts : Cert.Pre_finite_forward.Facts where
  slices_S8x2064x256_S8x2064x128_0_0_0 := by decide
  slices_S2064x1856_S2064x64_0_1792 := by decide
  bcast_S_S8x2064x192 := by decide
  reducesTo_S8x2064x192_S_d0_1_2 := by decide
  h_S_ := by decide
  bcast_S_S8x2064x128 := by decide
  reducesTo_S8x2064x128_S_d0_1_2 := by decide
  bcast_S_S2064x64 := by decide
  reducesTo_S2064x64_S_d0_1 := by decide
  bcast_S_S2064x32 := by decide
  reducesTo_S2064x32_S_d0_1 := by decide

/-- Under the precondition a device's scores are made of real values. -/
theorem finite_of_pre (m : (ℓ : Loc nD τ sig) → Buf (Elt Ideal) ℓ) (hm : Cert.Pre_AttnFwdIdeal_finite_forward m) (c : Dev nD) :
    Attention.Finite (inputs m c) := by
  have e := congrFun (hm c) (Shape.Idx.first Cert.Pre_finite_forward.Facts.h_S_)
  unfold Cert.Pre_finite_forward.fn Cert.Pre_finite_forward.fn_part1 at e
  obtain ⟨e, hs⟩ := IntOp.andi_eq_one.1 e
  obtain ⟨e, hc⟩ := IntOp.andi_eq_one.1 e
  obtain ⟨e, hz⟩ := IntOp.andi_eq_one.1 e
  obtain ⟨hq, hk⟩ := IntOp.andi_eq_one.1 e
  have hk := real_of_all _ _ _ _ hk
  have hz := real_of_all _ _ _ _ hz
  refine ⟨fun h p l => real_of_all _ _ _ _ hq _, fun h k d => ?_, fun k j => ?_, fun p j => real_of_all _ _ _ _ hc _, fun p j => real_of_all _ _ _ _ hs _⟩
  · have := hk (ix3 h k d)
    revert this
    pointwise
    exact fun h => h
  · have := hz (ix2 k j)
    revert this
    pointwise
    exact fun h => h

/-! ## The claim -/

theorem equal : Cert.algebraic_AttnFwdIdeal_AttnFwdReferenceIdeal_pre_finite_forward (hAttnFwdIdeal := Gen.facts)
    (hAttnFwdReferenceIdeal := Cert.AttnFwdReferenceIdeal.Gen.facts) (hPre_finite_forward := facts) :=
  fun m g m' g' hm args => ⟨fun c => outputs m c,
    (θ_run _ _ _).mono (fun _ h c => ⟨(h c).1.trans (final m c), (h c).2⟩) (Value.run_blocks m g),
    (θ_run _ _ _).mono (fun _ h c => ⟨(h c).1.trans (by
      have same : Cert.AttnFwdReferenceIdeal.Call.given m' c = inputs m c :=
        (Attention.Inputs.mk.injEq ..).mpr ⟨(args c).1, (args c).2.1, (args c).2.2.1, (args c).2.2.2.1, (args c).2.2.2.2, rfl⟩
      funext j
      have hj : (j 1).val < 1024 := (j 1).isLt
      have e : j = ix2 (j 0) ⟨128 * ((j 1).val / 128) + (j 1).val % 128, by omega⟩ :=
        (eq_ix2 j).trans (congrArg (ix2 (j 0)) (Fin.ext (Nat.div_add_mod _ _).symm))
      refine (congrArg _ e).trans ((Cert.AttnFwdReferenceIdeal.Call.ref_at m' c (j 0) ⟨(j 1).val / 128, by omega⟩ ⟨(j 1).val % 128, by omega⟩).trans ?_)
      rw [same]
      exact Cert.AttnFwdReferenceIdeal.Call.row_eq _ _ ((finite_of_pre m hm c).regular _ _)), (h c).2⟩)
      (Cert.AttnFwdReferenceIdeal.Value.run (F := Ideal) m' g')⟩

end Cert.AttnFwdIdeal.Call

end
-- ==== Proof.Norms.lean ====
/-
  The gradient of a root-mean-square norm's row: the form that the step's calls compute and the derivative's own form.
-/
module

public import proofs.«01_k».proof.Proof.Softmax

@[expose] public section

noncomputable section

namespace Cert.Norms

open Idealize.ShloMosaic
open scoped BigOperators

variable {n : ℕ} (W E : EReal) (h d : Fin n → EReal)

/-- The mean of a row's squares, and the small number the norm adds to it. -/
def power : EReal := Ideal.div (∑ j, h j * h j) W + E

/-- The factor that the norm multiplies a row by. -/
def scale : EReal := Ideal.rsqrt (power W E h)

/-- A row's gradient as the calls compute it: d is the gradient of the scaled row. -/
def inward (i : Fin n) : EReal :=
  scale W E h * (d i - h i * scale W E h * Ideal.div (∑ j, d j * (h j * scale W E h)) W)

/-- The gradient of the mean of the squares, as the derivative has it. -/
def meanward (z : EReal) : EReal := Ideal.div ((∑ j, h j * d j) * (z * Ideal.div (scale W E h) (power W E h))) W

theorem div_real (x : EReal) (w : ℝ) (hw : w ≠ 0) : Ideal.div x w = x * ((w⁻¹ : ℝ) : EReal) := by
  rw [Ideal.div, if_neg (by exact_mod_cast hw), EReal.coe_inv]

theorem square_nonneg (x : EReal) : 0 ≤ x * x := by
  rcases le_total 0 x with p | p
  · exact mul_nonneg p p
  · have q : (0 : EReal) ≤ -x := by simpa using EReal.neg_le_neg_iff.mpr p
    simpa using mul_nonneg q q

/-- A sum of squares that is not infinite is a sum of squares of real numbers. -/
theorem real_of_squares (p : ∑ j, h j * h j ≠ ⊤) (i : Fin n) : AttnRow.IsReal (h i) := by
  refine AttnRow.IsReal.of_ne ?_ ?_ <;> intro e <;>
    exact p (top_le_iff.mp ((by rw [e]; simp : (⊤ : EReal) ≤ h i * h i).trans
      (Finset.single_le_sum (f := fun j => h j * h j) (fun j _ => square_nonneg (h j)) (Finset.mem_univ i))))

/-- Twice half of it is all of it. -/
theorem halves (q : ℝ) (a : EReal) : ((q : ℝ) : EReal) * a + (q : EReal) * a = ((2 * q : ℝ) : EReal) * a := by
  have e := EReal.right_distrib_of_nonneg (a := 1) (b := 1) (c := (q : EReal) * a) zero_le_one zero_le_one
  rw [one_mul] at e
  rw [← e, EReal.coe_mul, mul_assoc, one_add_one_eq_two]
  rfl

/-- The two forms agree: with an infinite entry the factor is zero, and else it is a positive real number. -/
theorem inward_eq (w ε : ℝ) (hw : 0 < w) (hε : 0 < ε) (i : Fin n) :
    inward w ε h d i = d i * scale w ε h + h i * meanward w ε h d ((-1 / 2 : ℝ) : EReal) + meanward w ε h d ((-1 / 2 : ℝ) : EReal) * h i := by
  have hp : (0 : EReal) ≤ (∑ j, h j * h j) := Finset.sum_nonneg fun j _ => square_nonneg (h j)
  by_cases ht : ∑ j, h j * h j = ⊤
  · have hx : power w ε h = ⊤ := by
      rw [power, ht, div_real _ w hw.ne', EReal.top_mul_coe_of_pos (inv_pos.mpr hw)]; simp
    have hr : scale w ε h = 0 := by rw [scale, hx]; rfl
    have hm : meanward w ε h d ((-1 / 2 : ℝ) : EReal) = 0 := by
      rw [meanward, hr, hx, Ideal.div, Ideal.div]; simp [hw.ne']
    rw [inward, hr, hm]; simp
  · obtain ⟨s, hs⟩ := AttnRow.IsReal.of_ne ht (ne_of_gt (lt_of_lt_of_le EReal.bot_lt_zero hp))
    have hs0 : 0 ≤ s := by rw [hs] at hp; exact_mod_cast hp
    have hx : power w ε h = ((s * w⁻¹ + ε : ℝ) : EReal) := by
      rw [power, hs, div_real _ w hw.ne']; push_cast; rfl
    have hx0 : 0 < s * w⁻¹ + ε := by positivity
    set x := s * w⁻¹ + ε
    have hr : scale w ε h = (((Real.sqrt x)⁻¹ : ℝ) : EReal) := by
      rw [scale, hx]
      show (if x < 0 then ⊥ else if x = 0 then ⊤ else (((Real.sqrt x)⁻¹ : ℝ) : EReal)) = _
      rw [if_neg hx0.le.not_gt, if_neg hx0.ne']
    obtain ⟨y, hy⟩ := real_of_squares h ht i
    have hq : (Real.sqrt x)⁻¹ * (Real.sqrt x)⁻¹ = x⁻¹ := by rw [← mul_inv, Real.mul_self_sqrt hx0.le]
    have hr0 : 0 ≤ (Real.sqrt x)⁻¹ := by positivity
    set r := (Real.sqrt x)⁻¹
    have hsum : ∑ j, d j * (h j * (r : EReal)) = (∑ j, h j * d j) * (r : EReal) := by
      rw [← AttnRow.sum_mul_real _ _ r hr0]
      exact Finset.sum_congr rfl fun j _ => by rw [← mul_assoc, mul_comm (d j)]
    rw [inward, meanward, hr, hsum, hx, hy, div_real _ w hw.ne', div_real _ w hw.ne', div_real _ x hx0.ne']
    set A := ∑ j, h j * d j
    rw [EReal.mul_sub_of_nonneg_of_ne_top (EReal.coe_nonneg.mpr hr0) (EReal.coe_ne_top r), mul_comm (r : EReal) (d i), sub_eq_add_neg, add_assoc]
    congr 1
    have e1 : (r : EReal) * ((y : EReal) * r * (A * r * ((w⁻¹ : ℝ) : EReal))) = ((r * (y * r * r) * w⁻¹ : ℝ) : EReal) * A := by
      push_cast; ac_rfl
    have e2 : (y : EReal) * (A * (((-1 / 2 : ℝ) : EReal) * ((r : EReal) * ((x⁻¹ : ℝ) : EReal))) * ((w⁻¹ : ℝ) : EReal))
        = ((y * ((-1 / 2) * (r * x⁻¹)) * w⁻¹ : ℝ) : EReal) * A := by
      rw [EReal.coe_mul, EReal.coe_mul, EReal.coe_mul, EReal.coe_mul]; ac_rfl
    rw [e1, mul_comm _ (y : EReal), e2, halves, ← EReal.neg_mul, ← EReal.coe_neg, ← hq]
    congr 2
    ring

/-! ## Arrays of rows -/

/-- A row of an array. -/
abbrev row {A B : ℕ} (x : FVec Ideal ⟨2, ![A, B]⟩ .f32) (a : Fin A) : Fin B → EReal := fun j => (show EReal from x (ix2 a j))

/-- The rows' gradients: g is the gradient of the norm's rows, gain the factors of its columns. -/
def inwards {A B : ℕ} (W E : EReal) (x g : FVec Ideal ⟨2, ![A, B]⟩ .f32) (gain : FVec Ideal ⟨1, ![B]⟩ .f32) : FVec Ideal ⟨2, ![A, B]⟩ .f32 :=
  fun i => inward W E (row x (i 0)) (fun j => row g (i 0) j * (show EReal from gain (ix1 j))) (i 1)

/-- The gain's gradient, as a row. -/
def gains {A B : ℕ} (W E : EReal) (x g : FVec Ideal ⟨2, ![A, B]⟩ .f32) : FVec Ideal ⟨2, ![1, B]⟩ .f32 :=
  fun i => (∑ a : Fin A, row g a (i 1) * (row x a (i 1) * scale W E (row x a)) : EReal)

/-- Two arrays of rows are equal where they are at every row and column. -/
theorem ext_rows {A B : ℕ} {x y : FVec Ideal ⟨2, ![A, B]⟩ .f32} (e : ∀ a b, x (ix2 a b) = y (ix2 a b)) : x = y := by
  funext i
  have hi : ix2 (i 0) (i 1) = i := by funext a; fin_cases a <;> rfl
  rw [← hi]
  exact e _ _

theorem move (r a b c : EReal) : r + a + b + c = a + b + c + r := by ac_rfl

/-- The rows' gradients, of the operands that the calls take: the rows' factors r, and the gain as a row. -/
def heldRows {A B : ℕ} (W : EReal) (g x : FVec Ideal ⟨2, ![A, B]⟩ .f32) (r : FVec Ideal ⟨2, ![A, 1]⟩ .f32) (gain : FVec Ideal ⟨2, ![1, B]⟩ .f32) :
    FVec Ideal ⟨2, ![A, B]⟩ .f32 :=
  fun i => ((show EReal from r (ix2 (i 0) 0)) * (g i * gain (ix2 0 (i 1)) - x i * r (ix2 (i 0) 0)
    * Ideal.div (∑ j : Fin B, (show EReal from g (ix2 (i 0) j)) * gain (ix2 0 j) * (x (ix2 (i 0) j) * r (ix2 (i 0) 0))) W) : EReal)

/-- The gain's gradient, of the operands that the calls take. -/
def heldGain {A B : ℕ} (g x : FVec Ideal ⟨2, ![A, B]⟩ .f32) (r : FVec Ideal ⟨2, ![A, 1]⟩ .f32) : FVec Ideal ⟨2, ![1, B]⟩ .f32 :=
  fun i => (∑ a : Fin A, (show EReal from g (ix2 a (i 1))) * (x (ix2 a (i 1)) * r (ix2 a 0)) : EReal)

theorem heldRows_eq {A B : ℕ} (W E : EReal) (g x : FVec Ideal ⟨2, ![A, B]⟩ .f32) (gain : FVec Ideal ⟨1, ![B]⟩ .f32) :
    heldRows W g x (fun i => scale W E (row x (i 0))) (fun i => gain (ix1 (i 1))) = inwards W E x g gain :=
  ext_rows fun _ _ => rfl

/-- The sum of an array and a gradient that passes the norm. -/
def plus {A B : ℕ} (x res : FVec Ideal ⟨2, ![A, B]⟩ .f32) : FVec Ideal ⟨2, ![A, B]⟩ .f32 := fun i => ((show EReal from x i) + (show EReal from res i) : EReal)

/-! ## The literals -/

theorem word_2048 : Ideal.ofBits .f32 0x45000000#32 = ((2048 : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_half : Ideal.ofBits .f32 0xBF000000#32 = ((-1 / 2 : ℝ) : EReal) := by
  simp [Ideal.ofBits, Ideal.ieee, -EReal.coe_mul]; norm_num

theorem word_small : ∃ ε : ℝ, 0 < ε ∧ Ideal.ofBits .f32 0x358637BD#32 = ((ε : ℝ) : EReal) := by
  refine ⟨8796093 * 2 ^ (-43 : ℤ), by positivity, ?_⟩
  simp [Ideal.ofBits, Ideal.ieee, -EReal.coe_mul]

end Cert.Norms

end
-- ==== Proof.RmsMixRef.lean ====
/-
  The gradient of the first norm, with the gradient that passes it: the reference's form.
-/
module

public import proofs.«01_k».proof.Defs
public import proofs.«01_k».proof.Proof.Gen.RmsMixBwdReferenceIdeal.Run
public import proofs.«01_k».proof.Proof.Norms

@[expose] public section

set_option maxRecDepth 16384

noncomputable section

namespace Cert.RmsMixBwdReferenceIdeal.Call

open Idealize.ShloMosaic Idealize.ShloMosaic.TcCoe Idealize.SL.Sem
open Cert.RmsMixBwdReferenceIdeal Cert.RmsMixBwdReferenceIdeal.Gen
open Cert.Norms (inward inwards gains power scale meanward row)

variable (h dxn res : FVec Ideal S2064x2048 .f32) (gain : FVec Ideal S2048 .f32)

/-- The gradient's first rows and its other rows are the gradient. -/
theorem joined (y : FVec Ideal S2064x2048 .f32) :
    concatenate S2064x2048 0 [⟨S16x2048, extractStridedSlice S16x2048 ![0, 0] y slices_S2064x2048_S16x2048_0_0⟩,
      ⟨S2048x2048, extractStridedSlice S2048x2048 ![16, 0] y slices_S2064x2048_S2048x2048_16_0⟩] concatenates_S16x2048_S2048x2048_S2064x2048_d0 = y := by
  funext i
  pointwise []
  split
  · rfl
  · refine congrArg y ?_
    funext a
    fin_cases a
    · exact Fin.ext (by show 16 + ((i 0).val - 16) = (i 0).val; omega)
    · rfl

/-- The reference's gradient of the rows. -/
theorem rows (a : Fin 2064) (b : Fin 2048) : (addf (addf (addf res (mulf (mulf dxn (broadcastInDim S2064x2048 ![0, 1] bcast_S1x2048_S2064x2048_0_1 (broadcastInDim S1x2048 ![1] bcast_S2048_S1x2048_1 gain))) (broadcastInDim S2064x2048 ![0, 1] bcast_S2064x1_S2064x2048_0_1 (Host.rsqrt (addf (Host.divf (broadcastInDim S2064x1 ![0] bcast_S2064_S2064x1_0 (Host.reduceAdd (mulf h h) (constant S_ .f32 0x00000000#32) reducesTo_S2064x2048_S2064_d1 h_S_)) (broadcastInDim S2064x1 ![] bcast_S_S2064x1 (constant S_ .f32 0x45000000#32))) (broadcastInDim S2064x1 ![] bcast_S_S2064x1 (constant S_ .f32 0x358637BD#32))))))) (mulf h (broadcastInDim S2064x2048 ![0] bcast_S2064_S2064x2048_0 (Host.reduceAdd (Host.divf (mulf (shapeCast _ (Host.reduceAdd (mulf h (mulf dxn (broadcastInDim S2064x2048 ![0, 1] bcast_S1x2048_S2064x2048_0_1 (broadcastInDim S1x2048 ![1] bcast_S2048_S1x2048_1 gain)))) (constant S_ .f32 0x00000000#32) reducesTo_S2064x2048_S2064_d1 h_S_) shapeCasts_S2064_S2064x1) (mulf (broadcastInDim S2064x1 ![] bcast_S_S2064x1 (constant S_ .f32 0xBF000000#32)) (Host.divf (Host.rsqrt (addf (Host.divf (broadcastInDim S2064x1 ![0] bcast_S2064_S2064x1_0 (Host.reduceAdd (mulf h h) (constant S_ .f32 0x00000000#32) reducesTo_S2064x2048_S2064_d1 h_S_)) (broadcastInDim S2064x1 ![] bcast_S_S2064x1 (constant S_ .f32 0x45000000#32))) (broadcastInDim S2064x1 ![] bcast_S_S2064x1 (constant S_ .f32 0x358637BD#32)))) (addf (Host.divf (broadcastInDim S2064x1 ![0] bcast_S2064_S2064x1_0 (Host.reduceAdd (mulf h h) (constant S_ .f32 0x00000000#32) reducesTo_S2064x2048_S2064_d1 h_S_)) (broadcastInDim S2064x1 ![] bcast_S_S2064x1 (constant S_ .f32 0x45000000#32))) (broadcastInDim S2064x1 ![] bcast_S_S2064x1 (constant S_ .f32 0x358637BD#32)))))) (broadcastInDim S2064x1 ![] bcast_S_S2064x1 (constant S_ .f32 0x45000000#32))) (constant S_ .f32 0x00000000#32) reducesTo_S2064x1_S2064_d1 h_S_)))) (mulf (broadcastInDim S2064x2048 ![0] bcast_S2064_S2064x2048_0 (Host.reduceAdd (Host.divf (mulf (shapeCast _ (Host.reduceAdd (mulf h (mulf dxn (broadcastInDim S2064x2048 ![0, 1] bcast_S1x2048_S2064x2048_0_1 (broadcastInDim S1x2048 ![1] bcast_S2048_S1x2048_1 gain)))) (constant S_ .f32 0x00000000#32) reducesTo_S2064x2048_S2064_d1 h_S_) shapeCasts_S2064_S2064x1) (mulf (broadcastInDim S2064x1 ![] bcast_S_S2064x1 (constant S_ .f32 0xBF000000#32)) (Host.divf (Host.rsqrt (addf (Host.divf (broadcastInDim S2064x1 ![0] bcast_S2064_S2064x1_0 (Host.reduceAdd (mulf h h) (constant S_ .f32 0x00000000#32) reducesTo_S2064x2048_S2064_d1 h_S_)) (broadcastInDim S2064x1 ![] bcast_S_S2064x1 (constant S_ .f32 0x45000000#32))) (broadcastInDim S2064x1 ![] bcast_S_S2064x1 (constant S_ .f32 0x358637BD#32)))) (addf (Host.divf (broadcastInDim S2064x1 ![0] bcast_S2064_S2064x1_0 (Host.reduceAdd (mulf h h) (constant S_ .f32 0x00000000#32) reducesTo_S2064x2048_S2064_d1 h_S_)) (broadcastInDim S2064x1 ![] bcast_S_S2064x1 (constant S_ .f32 0x45000000#32))) (broadcastInDim S2064x1 ![] bcast_S_S2064x1 (constant S_ .f32 0x358637BD#32)))))) (broadcastInDim S2064x1 ![] bcast_S_S2064x1 (constant S_ .f32 0x45000000#32))) (constant S_ .f32 0x00000000#32) reducesTo_S2064x1_S2064_d1 h_S_)) h)) (ix2 a b)
    = (show EReal from inwards (Ideal.ofBits .f32 0x45000000#32) (Ideal.ofBits .f32 0x358637BD#32) h dxn gain (ix2 a b)) + (show EReal from res (ix2 a b)) := by
  pointwise [inwards]
  change @Eq EReal _ _
  obtain ⟨ε, hε, he⟩ := Norms.word_small
  rw [he, Norms.word_2048, Norms.word_half]
  refine Eq.trans ?_ (congrArg (· + (show EReal from res (ix2 a b))) (Norms.inward_eq (row h a) (fun j => row dxn a j * (show EReal from gain (ix1 j))) 2048 ε (by norm_num) hε b).symm)
  refine Eq.trans ?_ (Norms.move _ _ _ _)
  simp only [Finset.univ_unique, Finset.sum_singleton]
  rfl

/-- The reference's gradient of the gain. -/
theorem column : broadcastInDim S1x2048 ![1] bcast_S2048_S1x2048_1 (Host.reduceAdd (shapeCast _ (Host.reduceAdd (mulf (mulf h (broadcastInDim S2064x2048 ![0, 1] bcast_S2064x1_S2064x2048_0_1 (Host.rsqrt (addf (Host.divf (broadcastInDim S2064x1 ![0] bcast_S2064_S2064x1_0 (Host.reduceAdd (mulf h h) (constant S_ .f32 0x00000000#32) reducesTo_S2064x2048_S2064_d1 h_S_)) (broadcastInDim S2064x1 ![] bcast_S_S2064x1 (constant S_ .f32 0x45000000#32))) (broadcastInDim S2064x1 ![] bcast_S_S2064x1 (constant S_ .f32 0x358637BD#32)))))) dxn) (constant S_ .f32 0x00000000#32) reducesTo_S2064x2048_S2048_d0 h_S_) shapeCasts_S2048_S1x2048) (constant S_ .f32 0x00000000#32) reducesTo_S1x2048_S2048_d0 h_S_)
    = gains (Ideal.ofBits .f32 0x45000000#32) (Ideal.ofBits .f32 0x358637BD#32) h dxn := by
  funext i
  pointwise [gains, scale, power, row]
  change @Eq EReal _ _
  rw [Finset.univ_unique, Finset.sum_singleton]
  exact Finset.sum_congr rfl fun a _ => mul_comm (G := EReal) _ _

end Cert.RmsMixBwdReferenceIdeal.Call

end
-- ==== Proof.RmsMixBwd.lean ====
/-
  The gradient of the first norm, with the gradient that passes it: the rows' gradient and the gain's.
-/
module

public import proofs.«01_k».proof.Defs
public import proofs.«01_k».proof.Proof.Gen.RmsMixBwdIdeal.Value
public import proofs.«01_k».proof.Proof.RmsMixRef
public import proofs.«01_k».proof.Proof.Products

@[expose] public section

set_option maxRecDepth 16384

noncomputable section

namespace Cert.RmsMixBwdIdeal.Call

open Idealize.ShloMosaic Idealize.ShloMosaic.TcCoe Idealize.SL.Sem
open Cert.RmsMixBwdIdeal Cert.RmsMixBwdIdeal.Gen
open Idealize.ShloMosaic.Pipeline (Dat)
open Cert.Norms (inwards gains power scale row plus heldRows heldGain)

variable (m : (ℓ : Loc nD τ sig) → Buf (Elt Ideal) ℓ)

/-- The mean's divisor, and the small number. -/
abbrev W : EReal := Ideal.ofBits .f32 0x45000000#32
abbrev E : EReal := Ideal.ofBits .f32 0x358637BD#32

/-- The meta tokens' rows and the sequence's. -/
abbrev hid (c : Dev nD) : FVec Ideal S2064x2048 .f32 :=
  concatenate S2064x2048 0 [⟨S16x2048, m ((c : Thread nD τ).loc main_arg1)⟩, ⟨S2048x2048, m ((c : Thread nD τ).loc main_arg0)⟩] concatenates_S16x2048_S2048x2048_S2064x2048_d0

/-- The blocks of a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

theorem entry_v0 (c : Dev nD) : V m c main_v0 = hid m c := by
  rw [V]
  simp only [hostOps0]
  after_results_simp

/-- The rows' factors, of any array. -/
theorem factors (h : FVec Ideal S2064x2048 .f32) :
    Host.rsqrt (addf (Host.divf (broadcastInDim S2064x1 ![0] bcast_S2064_S2064x1_0 (Host.reduceAdd (mulf h h) (constant S_ .f32 0x00000000#32)
      reducesTo_S2064x2048_S2064_d1 h_S_)) (broadcastInDim S2064x1 ![] bcast_S_S2064x1 (constant S_ .f32 0x45000000#32)))
      (broadcastInDim S2064x1 ![] bcast_S_S2064x1 (constant S_ .f32 0x358637BD#32))) = fun i => scale W E (row h (i 0)) := by
  funext i
  pointwise [scale, power, row]

theorem entry_v8 (c : Dev nD) : V m c main_v8 = fun i => scale W E (row (hid m c) (i 0)) := by
  rw [V]
  simp only [hostOps0]
  after_results_simp
  exact factors (hid m c)

/-- The gain as a row, of any gain. -/
theorem asRow (g : FVec Ideal S2048 .f32) : shapeCast S1x2048 g shapeCasts_S2048_S1x2048 = fun i => g (ix1 (i 1)) := by
  funext i
  pointwise []

theorem entry_v9 (c : Dev nD) : V m c main_v9 = fun i => m ((c : Thread nD τ).loc main_arg2) (ix1 (i 1)) := by
  rw [V]
  simp only [hostOps0]
  after_results_simp
  exact asRow _

theorem final5 (c : Dev nD) : (dats m 0 c).arrAt 5 (cfgs 0).N
    = plus (heldRows W (V m c main_arg3) (V m c main_v0) (V m c main_v8) (V m c main_v9)) (V m c main_arg4) := by
  refine (dats m 0 c).arrAt_eq_of_covers 5 _ (by decide +kernel) fun t hf y => ?_
  have hN := lt_of_lt_of_eq t.isLt N_0
  blk_simp
  rw [after0_5]
  by_cases h : t.val % 3 = 0
  · rw [outsAt0_A m c t h (by omega)]; frame_out
    pointwise [k0_pay4, k0_pay2, k0_pay1, plus, heldRows]
    blk_point [iblk, idx t]
  · rw [outsAt0_B m c t h (by omega)]; frame_out
    pointwise [k0_pay4, k0_pay2, k0_pay1, plus, heldRows]
    blk_point [iblk, idx t]

/-- What a point adds to the gain's gradient. -/
abbrev part (c : Dev nD) (t : Fin cfg0.N) : FVec Ideal S1x2048 .f32 := k0_pay3 (F := Ideal) (iblk m c 0 t) (iblk m c 1 t) (iblk m c 2 t)

theorem first (c : Dev nD) (t : Fin cfg0.N) (h : t.val % 3 = 0) (y) :
    (show EReal from (outsAt0 m c t.val t.isLt).2 y) = 0 + (show EReal from part m c t y) := by
  have hN := lt_of_lt_of_eq t.isLt N_0
  rw [outsAt0_A m c t h (by omega)]
  frame_out
  rw [zero_add]

theorem next (c : Dev nD) (t : Fin cfg0.N) (h : ¬t.val % 3 = 0) (y) :
    (show EReal from (outsAt0 m c t.val t.isLt).2 y)
      = (show EReal from (outsAt0 m c (t.val - 1) (Nat.lt_of_le_of_lt (Nat.sub_le _ _) t.isLt)).2 y) + (show EReal from part m c t y) := by
  rw [outsAt0_B m c t h (by omega)]
  frame_out
  pointwise [k0_pay5]

theorem total (c : Dev nD) (t : Fin cfg0.N) (h : t.val % 3 = 2) (y) :
    (show EReal from (outsAt0 m c t.val t.isLt).2 y)
      = 0 + ∑ s : Fin 3, (show EReal from part m c ⟨3 * (t.val / 3) + s.val, Pipeline.run_point_lt_of_flush t h s⟩ y) :=
  Pipeline.eq_sum_fin_of_reset_step_apply_of_flush (fun n hn y => (show EReal from (outsAt0 m c n hn).2 y)) 3 (fun _ => 0)
    (fun t y => (show EReal from part m c t y)) (fun t h y => first m c t h y) (fun t h y => next m c t h y) t h y

theorem final6 (c : Dev nD) : (dats m 0 c).arrAt 6 (cfgs 0).N = heldGain (V m c main_arg3) (V m c main_v0) (V m c main_v8) := by
  refine (dats m 0 c).arrAt_eq_of_covers 6 _ (by decide +kernel) fun t hf y => ?_
  have h := (flush0_6 t).mp hf
  have hN := lt_of_lt_of_eq t.isLt N_0
  blk_simp
  rw [after0_6]
  refine (total m c t h y).trans ?_
  rw [zero_add]
  pointwise [k0_pay3, k0_pay2, k0_pay1, heldGain]
  change @Eq EReal _ _
  rw [Fin.sum_univ_tiles 3 688 (by norm_num) (fun a : Fin 2064 => _)]
  refine Finset.sum_congr rfl fun s _ => Finset.sum_congr rfl fun x _ => ?_
  blk_point [iblk, idx t, idx ⟨_, Pipeline.run_point_lt_of_flush t h s⟩]

/-- The rows' gradient and the gradient that passes the norm. -/
abbrev out (c : Dev nD) : FVec Ideal S2064x2048 .f32 :=
  plus (inwards W E (hid m c) (m ((c : Thread nD τ).loc main_arg3)) (m ((c : Thread nD τ).loc main_arg2))) (m ((c : Thread nD τ).loc main_arg4))

/-- The call and the reference compute the same arrays. -/
theorem equal : algebraic_RmsMixBwdIdeal_RmsMixBwdReferenceIdeal (hRmsMixBwdIdeal := Gen.facts) (hRmsMixBwdReferenceIdeal := Cert.RmsMixBwdReferenceIdeal.Gen.facts) :=
  fun m g m' g' _ args => ⟨
    fun c => out m c,
    fun c => gains W E (hid m c) (m ((c : Thread nD τ).loc main_arg3)),
    (θ_run _ _ _).mono (fun _ h c => by
      obtain ⟨h5, h6, hargs⟩ := h c
      refine ⟨h5.trans ((final5 m c).trans ?_), h6.trans ((final6 m c).trans ?_), hargs⟩
      · rw [entry_v0, entry_v8, entry_v9, V_main_arg3, V_main_arg4]; exact congrArg (plus · _) (Norms.heldRows_eq W E _ _ _)
      · rw [entry_v0, entry_v8, V_main_arg3]; rfl) (Value.run_blocks m g),
    (θ_run _ _ _).mono (fun _ h c => by
      obtain ⟨h0, h1, hargs⟩ := h c
      obtain ⟨a0, a1, a2, a3, a4⟩ := args c
      refine ⟨h0.trans ?_, h1.trans ?_, hargs⟩
      · rw [Cert.RmsMixBwdReferenceIdeal.Value.res_main_v40, a0, a1, a2, a3, a4]
        exact (Cert.RmsMixBwdReferenceIdeal.Call.joined _).trans (Norms.ext_rows fun a b => Cert.RmsMixBwdReferenceIdeal.Call.rows _ _ _ _ a b)
      · rw [a0, a1, a3]; exact Cert.RmsMixBwdReferenceIdeal.Call.column _ _)
      (Cert.RmsMixBwdReferenceIdeal.Value.run (F := Ideal) m' g')⟩

end Cert.RmsMixBwdIdeal.Call

end
-- ==== Proof.RmsFfnBwd.lean ====
/-
  The gradient of the feed-forward's norm, with the gradient that passes it: the rows' gradient and the gain's.
-/
module

public import proofs.«01_k».proof.Defs
public import proofs.«01_k».proof.Proof.Gen.RmsFfnBwdIdeal.Value
public import proofs.«01_k».proof.Proof.Gen.RmsFfnBwdReferenceIdeal.Run
public import proofs.«01_k».proof.Proof.RmsMixBwd
public import proofs.«01_k».proof.Proof.Products

@[expose] public section

set_option maxRecDepth 16384

noncomputable section

namespace Cert.RmsFfnBwdIdeal.Call

open Idealize.ShloMosaic Idealize.ShloMosaic.TcCoe Idealize.SL.Sem
open Cert.RmsFfnBwdIdeal Cert.RmsFfnBwdIdeal.Gen
open Idealize.ShloMosaic.Pipeline (Dat)
open Cert.Norms (inwards gains power scale row plus heldRows heldGain)

variable (m : (ℓ : Loc nD τ sig) → Buf (Elt Ideal) ℓ)

/-- The mean's divisor, and the small number. -/
abbrev W : EReal := Ideal.ofBits .f32 0x45000000#32
abbrev E : EReal := Ideal.ofBits .f32 0x358637BD#32

/-- The blocks of a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

theorem entry_v7 (c : Dev nD) : V m c main_v7 = fun i => scale W E (row (m ((c : Thread nD τ).loc main_arg0)) (i 0)) := by
  rw [V]
  simp only [hostOps0]
  after_results_simp
  exact Cert.RmsMixBwdIdeal.Call.factors (m ((c : Thread nD τ).loc main_arg0))

theorem entry_v8 (c : Dev nD) : V m c main_v8 = fun i => m ((c : Thread nD τ).loc main_arg1) (ix1 (i 1)) := by
  rw [V]
  simp only [hostOps0]
  after_results_simp
  exact Cert.RmsMixBwdIdeal.Call.asRow _

theorem final5 (c : Dev nD) : (dats m 0 c).arrAt 5 (cfgs 0).N
    = plus (heldRows W (V m c main_arg2) (V m c main_arg0) (V m c main_v7) (V m c main_v8)) (V m c main_arg3) := by
  refine (dats m 0 c).arrAt_eq_of_covers 5 _ (by decide +kernel) fun t hf y => ?_
  have hN := lt_of_lt_of_eq t.isLt N_0
  blk_simp
  rw [after0_5]
  by_cases h : t.val % 3 = 0
  · rw [outsAt0_A m c t h (by omega)]; frame_out
    pointwise [k0_pay6, k0_pay5, k0_pay3, k0_pay2, plus, heldRows]
    blk_point [iblk, idx t]
  · rw [outsAt0_B m c t h (by omega)]; frame_out
    pointwise [k0_pay6, k0_pay5, k0_pay3, k0_pay2, plus, heldRows]
    blk_point [iblk, idx t]

/-- The second copy, which the call rounds. -/
theorem final6 (c : Dev nD) : (dats m 0 c).arrAt 6 (cfgs 0).N
    = plus (heldRows W (V m c main_arg2) (V m c main_arg0) (V m c main_v7) (V m c main_v8)) (V m c main_arg3) := by
  refine (dats m 0 c).arrAt_eq_of_covers 6 _ (by decide +kernel) fun t hf y => ?_
  have hN := lt_of_lt_of_eq t.isLt N_0
  blk_simp
  rw [after0_6]
  by_cases h : t.val % 3 = 0
  · rw [outsAt0_A m c t h (by omega)]; frame_out
    pointwise [k0_pay7, k0_pay6, k0_pay5, k0_pay3, k0_pay2, plus, heldRows]
    blk_point [iblk, idx t]
  · rw [outsAt0_B m c t h (by omega)]; frame_out
    pointwise [k0_pay7, k0_pay6, k0_pay5, k0_pay3, k0_pay2, plus, heldRows]
    blk_point [iblk, idx t]

/-- What a point adds to the gain's gradient. -/
abbrev part (c : Dev nD) (t : Fin cfg0.N) : FVec Ideal S1x2048 .f32 := k0_pay4 (F := Ideal) (iblk m c 0 t) (iblk m c 1 t) (iblk m c 2 t)

theorem first (c : Dev nD) (t : Fin cfg0.N) (h : t.val % 3 = 0) (y) :
    (show EReal from (outsAt0 m c t.val t.isLt).2.2 y) = 0 + (show EReal from part m c t y) := by
  have hN := lt_of_lt_of_eq t.isLt N_0
  rw [outsAt0_A m c t h (by omega)]
  frame_out
  rw [zero_add]

theorem next (c : Dev nD) (t : Fin cfg0.N) (h : ¬t.val % 3 = 0) (y) :
    (show EReal from (outsAt0 m c t.val t.isLt).2.2 y)
      = (show EReal from (outsAt0 m c (t.val - 1) (Nat.lt_of_le_of_lt (Nat.sub_le _ _) t.isLt)).2.2 y) + (show EReal from part m c t y) := by
  rw [outsAt0_B m c t h (by omega)]
  frame_out
  pointwise [k0_pay1]

theorem total (c : Dev nD) (t : Fin cfg0.N) (h : t.val % 3 = 2) (y) :
    (show EReal from (outsAt0 m c t.val t.isLt).2.2 y)
      = 0 + ∑ s : Fin 3, (show EReal from part m c ⟨3 * (t.val / 3) + s.val, Pipeline.run_point_lt_of_flush t h s⟩ y) :=
  Pipeline.eq_sum_fin_of_reset_step_apply_of_flush (fun n hn y => (show EReal from (outsAt0 m c n hn).2.2 y)) 3 (fun _ => 0)
    (fun t y => (show EReal from part m c t y)) (fun t h y => first m c t h y) (fun t h y => next m c t h y) t h y

theorem final7 (c : Dev nD) : (dats m 0 c).arrAt 7 (cfgs 0).N = heldGain (V m c main_arg2) (V m c main_arg0) (V m c main_v7) := by
  refine (dats m 0 c).arrAt_eq_of_covers 7 _ (by decide +kernel) fun t hf y => ?_
  have h := (flush0_7 t).mp hf
  have hN := lt_of_lt_of_eq t.isLt N_0
  blk_simp
  rw [after0_7]
  refine (total m c t h y).trans ?_
  rw [zero_add]
  pointwise [k0_pay4, k0_pay3, k0_pay2, heldGain]
  change @Eq EReal _ _
  rw [Fin.sum_univ_tiles 3 688 (by norm_num) (fun a : Fin 2064 => _)]
  refine Finset.sum_congr rfl fun s _ => Finset.sum_congr rfl fun x _ => ?_
  blk_point [iblk, idx t, idx ⟨_, Pipeline.run_point_lt_of_flush t h s⟩]

/-- The rows' gradient and the gradient that passes the norm. -/
abbrev out (c : Dev nD) : FVec Ideal S2064x2048 .f32 :=
  plus (inwards W E (m ((c : Thread nD τ).loc main_arg0)) (m ((c : Thread nD τ).loc main_arg2)) (m ((c : Thread nD τ).loc main_arg1))) (m ((c : Thread nD τ).loc main_arg3))

theorem held (c : Dev nD) : plus (heldRows W (V m c main_arg2) (V m c main_arg0) (V m c main_v7) (V m c main_v8)) (V m c main_arg3) = out m c := by
  rw [entry_v7, entry_v8, V_main_arg0, V_main_arg2, V_main_arg3]
  exact congrArg (plus · _) (Norms.heldRows_eq W E _ _ _)

/-- The call and the reference compute the same arrays. -/
theorem equal : algebraic_RmsFfnBwdIdeal_RmsFfnBwdReferenceIdeal (hRmsFfnBwdIdeal := Gen.facts) (hRmsFfnBwdReferenceIdeal := Cert.RmsFfnBwdReferenceIdeal.Gen.facts) :=
  fun m g m' g' _ args => ⟨
    fun c => out m c,
    fun c => out m c,
    fun c => gains W E (m ((c : Thread nD τ).loc main_arg0)) (m ((c : Thread nD τ).loc main_arg2)),
    (θ_run _ _ _).mono (fun _ h c => by
      obtain ⟨h5, h6, h7, hargs⟩ := h c
      refine ⟨h5.trans ((final5 m c).trans (held m c)), h6.trans ((final6 m c).trans (held m c)), h7.trans ((final7 m c).trans ?_), hargs⟩
      rw [entry_v7, V_main_arg0, V_main_arg2]; rfl) (Value.run_blocks m g),
    (θ_run _ _ _).mono (fun _ h c => by
      obtain ⟨h0, h1, h2, hargs⟩ := h c
      obtain ⟨a0, a1, a2, a3⟩ := args c
      refine ⟨h0.trans ?_, h1.trans ?_, h2.trans ?_, hargs⟩
      · rw [a0, a1, a2, a3]
        exact Norms.ext_rows fun a b => Cert.RmsMixBwdReferenceIdeal.Call.rows _ _ _ _ a b
      · rw [a0, a1, a2, a3]
        exact Norms.ext_rows fun a b => Cert.RmsMixBwdReferenceIdeal.Call.rows _ _ _ _ a b
      · rw [a0, a2]; exact Cert.RmsMixBwdReferenceIdeal.Call.column _ _)
      (Cert.RmsFfnBwdReferenceIdeal.Value.run (F := Ideal) m' g')⟩

end Cert.RmsFfnBwdIdeal.Call

end
-- ==== Proof.RmsAttnRef.lean ====
/-
  The gradient of the norm of the attention's output: the reference's form.
-/
module

public import proofs.«01_k».proof.Defs
public import proofs.«01_k».proof.Proof.Gen.RmsAttnBwdReferenceIdeal.Run
public import proofs.«01_k».proof.Proof.Norms

@[expose] public section

set_option maxRecDepth 16384

noncomputable section

namespace Cert.RmsAttnBwdReferenceIdeal.Call

open Idealize.ShloMosaic Idealize.ShloMosaic.TcCoe Idealize.SL.Sem
open Cert.RmsAttnBwdReferenceIdeal Cert.RmsAttnBwdReferenceIdeal.Gen
open Cert.Norms (inward inwards gains power scale meanward row)

variable (x : FVec Ideal S2064x1024 .f32) (gain : FVec Ideal S1024 .f32) (dy : FVec Ideal S2064x2048 .f32)

/-- The columns of the gradient that belong to the attention's output. -/
def right : FVec Ideal S2064x1024 .f32 := fun i => dy (ix2 (i 0) ⟨1024 + (i 1).val, by have := (i 1).isLt; show 1024 + (i 1).val < 2048; have h : (i 1).val < 1024 := this; omega⟩)

/-- The reference's gradient of the rows. -/
theorem rows (a : Fin 2064) (b : Fin 1024) : addf (addf (mulf (mulf (extractStridedSlice S2064x1024 ![0, 1024] dy slices_S2064x2048_S2064x1024_0_1024) (broadcastInDim S2064x1024 ![0, 1] bcast_S1x1024_S2064x1024_0_1 (broadcastInDim S1x1024 ![1] bcast_S1024_S1x1024_1 gain))) (broadcastInDim S2064x1024 ![0, 1] bcast_S2064x1_S2064x1024_0_1 (Host.rsqrt (addf (Host.divf (broadcastInDim S2064x1 ![0] bcast_S2064_S2064x1_0 (Host.reduceAdd (mulf x x) (constant S_ .f32 0x00000000#32) reducesTo_S2064x1024_S2064_d1 h_S_)) (broadcastInDim S2064x1 ![] bcast_S_S2064x1 (constant S_ .f32 0x44800000#32))) (broadcastInDim S2064x1 ![] bcast_S_S2064x1 (constant S_ .f32 0x358637BD#32)))))) (mulf x (broadcastInDim S2064x1024 ![0] bcast_S2064_S2064x1024_0 (Host.reduceAdd (Host.divf (mulf (shapeCast _ (Host.reduceAdd (mulf x (mulf (extractStridedSlice S2064x1024 ![0, 1024] dy slices_S2064x2048_S2064x1024_0_1024) (broadcastInDim S2064x1024 ![0, 1] bcast_S1x1024_S2064x1024_0_1 (broadcastInDim S1x1024 ![1] bcast_S1024_S1x1024_1 gain)))) (constant S_ .f32 0x00000000#32) reducesTo_S2064x1024_S2064_d1 h_S_) shapeCasts_S2064_S2064x1) (mulf (broadcastInDim S2064x1 ![] bcast_S_S2064x1 (constant S_ .f32 0xBF000000#32)) (Host.divf (Host.rsqrt (addf (Host.divf (broadcastInDim S2064x1 ![0] bcast_S2064_S2064x1_0 (Host.reduceAdd (mulf x x) (constant S_ .f32 0x00000000#32) reducesTo_S2064x1024_S2064_d1 h_S_)) (broadcastInDim S2064x1 ![] bcast_S_S2064x1 (constant S_ .f32 0x44800000#32))) (broadcastInDim S2064x1 ![] bcast_S_S2064x1 (constant S_ .f32 0x358637BD#32)))) (addf (Host.divf (broadcastInDim S2064x1 ![0] bcast_S2064_S2064x1_0 (Host.reduceAdd (mulf x x) (constant S_ .f32 0x00000000#32) reducesTo_S2064x1024_S2064_d1 h_S_)) (broadcastInDim S2064x1 ![] bcast_S_S2064x1 (constant S_ .f32 0x44800000#32))) (broadcastInDim S2064x1 ![] bcast_S_S2064x1 (constant S_ .f32 0x358637BD#32)))))) (broadcastInDim S2064x1 ![] bcast_S_S2064x1 (constant S_ .f32 0x44800000#32))) (constant S_ .f32 0x00000000#32) reducesTo_S2064x1_S2064_d1 h_S_)))) (mulf (broadcastInDim S2064x1024 ![0] bcast_S2064_S2064x1024_0 (Host.reduceAdd (Host.divf (mulf (shapeCast _ (Host.reduceAdd (mulf x (mulf (extractStridedSlice S2064x1024 ![0, 1024] dy slices_S2064x2048_S2064x1024_0_1024) (broadcastInDim S2064x1024 ![0, 1] bcast_S1x1024_S2064x1024_0_1 (broadcastInDim S1x1024 ![1] bcast_S1024_S1x1024_1 gain)))) (constant S_ .f32 0x00000000#32) reducesTo_S2064x1024_S2064_d1 h_S_) shapeCasts_S2064_S2064x1) (mulf (broadcastInDim S2064x1 ![] bcast_S_S2064x1 (constant S_ .f32 0xBF000000#32)) (Host.divf (Host.rsqrt (addf (Host.divf (broadcastInDim S2064x1 ![0] bcast_S2064_S2064x1_0 (Host.reduceAdd (mulf x x) (constant S_ .f32 0x00000000#32) reducesTo_S2064x1024_S2064_d1 h_S_)) (broadcastInDim S2064x1 ![] bcast_S_S2064x1 (constant S_ .f32 0x44800000#32))) (broadcastInDim S2064x1 ![] bcast_S_S2064x1 (constant S_ .f32 0x358637BD#32)))) (addf (Host.divf (broadcastInDim S2064x1 ![0] bcast_S2064_S2064x1_0 (Host.reduceAdd (mulf x x) (constant S_ .f32 0x00000000#32) reducesTo_S2064x1024_S2064_d1 h_S_)) (broadcastInDim S2064x1 ![] bcast_S_S2064x1 (constant S_ .f32 0x44800000#32))) (broadcastInDim S2064x1 ![] bcast_S_S2064x1 (constant S_ .f32 0x358637BD#32)))))) (broadcastInDim S2064x1 ![] bcast_S_S2064x1 (constant S_ .f32 0x44800000#32))) (constant S_ .f32 0x00000000#32) reducesTo_S2064x1_S2064_d1 h_S_)) x) (ix2 a b)
    = (show EReal from inwards (Ideal.ofBits .f32 0x44800000#32) (Ideal.ofBits .f32 0x358637BD#32) x (right dy) gain (ix2 a b)) := by
  pointwise [inwards]
  change @Eq EReal _ _
  obtain ⟨ε, hε, he⟩ := Norms.word_small
  rw [he, Norms.word_1024, Norms.word_half]
  refine Eq.trans ?_ (Norms.inward_eq (row x a) (fun j => row (right dy) a j * (show EReal from gain (ix1 j))) 1024 ε (by norm_num) hε b).symm
  simp only [Finset.univ_unique, Finset.sum_singleton]
  rfl

/-- The reference's gradient of the gain. -/
theorem column : broadcastInDim S1x1024 ![1] bcast_S1024_S1x1024_1 (Host.reduceAdd (shapeCast _ (Host.reduceAdd (mulf (mulf x (broadcastInDim S2064x1024 ![0, 1] bcast_S2064x1_S2064x1024_0_1 (Host.rsqrt (addf (Host.divf (broadcastInDim S2064x1 ![0] bcast_S2064_S2064x1_0 (Host.reduceAdd (mulf x x) (constant S_ .f32 0x00000000#32) reducesTo_S2064x1024_S2064_d1 h_S_)) (broadcastInDim S2064x1 ![] bcast_S_S2064x1 (constant S_ .f32 0x44800000#32))) (broadcastInDim S2064x1 ![] bcast_S_S2064x1 (constant S_ .f32 0x358637BD#32)))))) (extractStridedSlice S2064x1024 ![0, 1024] dy slices_S2064x2048_S2064x1024_0_1024)) (constant S_ .f32 0x00000000#32) reducesTo_S2064x1024_S1024_d0 h_S_) shapeCasts_S1024_S1x1024) (constant S_ .f32 0x00000000#32) reducesTo_S1x1024_S1024_d0 h_S_)
    = gains (Ideal.ofBits .f32 0x44800000#32) (Ideal.ofBits .f32 0x358637BD#32) x (right dy) := by
  funext i
  pointwise [gains, scale, power, row, right]
  change @Eq EReal _ _
  rw [Finset.univ_unique, Finset.sum_singleton]
  exact Finset.sum_congr rfl fun a _ => mul_comm (G := EReal) _ _

end Cert.RmsAttnBwdReferenceIdeal.Call

end
-- ==== Proof.RmsAttnBwd.lean ====
/-
  The gradient of the norm of the attention's output: the rows' gradient and the gain's.
-/
module

public import proofs.«01_k».proof.Defs
public import proofs.«01_k».proof.Proof.Gen.RmsAttnBwdIdeal.Value
public import proofs.«01_k».proof.Proof.RmsAttnRef
public import proofs.«01_k».proof.Proof.Products

@[expose] public section

set_option maxRecDepth 16384

noncomputable section

namespace Cert.RmsAttnBwdIdeal.Call

open Idealize.ShloMosaic Idealize.ShloMosaic.TcCoe Idealize.SL.Sem
open Cert.RmsAttnBwdIdeal Cert.RmsAttnBwdIdeal.Gen
open Idealize.ShloMosaic.Pipeline (Dat)
open Cert.RmsAttnBwdReferenceIdeal.Call (right)
open Cert.Norms (inwards gains power scale row heldRows heldGain)

variable (m : (ℓ : Loc nD τ sig) → Buf (Elt Ideal) ℓ)

/-- The mean's divisor, and the small number. -/
abbrev W : EReal := Ideal.ofBits .f32 0x44800000#32
abbrev E : EReal := Ideal.ofBits .f32 0x358637BD#32

/-- The blocks of a grid point. -/
theorem idx : ∀ t : Fin cfg0.N, win0_0.index t = ![t.val, 1] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- The rows' factors, of any array. -/
theorem factors (h : FVec Ideal S2064x1024 .f32) :
    Host.rsqrt (addf (Host.divf (broadcastInDim S2064x1 ![0] bcast_S2064_S2064x1_0 (Host.reduceAdd (mulf h h) (constant S_ .f32 0x00000000#32)
      reducesTo_S2064x1024_S2064_d1 h_S_)) (broadcastInDim S2064x1 ![] bcast_S_S2064x1 (constant S_ .f32 0x44800000#32)))
      (broadcastInDim S2064x1 ![] bcast_S_S2064x1 (constant S_ .f32 0x358637BD#32))) = fun i => scale W E (row h (i 0)) := by
  funext i
  pointwise [scale, power, row]

theorem entry_v7 (c : Dev nD) : V m c main_v7 = fun i => scale W E (row (m ((c : Thread nD τ).loc main_arg0)) (i 0)) := by
  rw [V]
  simp only [hostOps0]
  after_results_simp
  exact factors (m ((c : Thread nD τ).loc main_arg0))

theorem entry_v8 (c : Dev nD) : V m c main_v8 = fun i => m ((c : Thread nD τ).loc main_arg1) (ix1 (i 1)) := by
  rw [V]
  simp only [hostOps0]
  after_results_simp
  funext i
  pointwise []

theorem final4 (c : Dev nD) : (dats m 0 c).arrAt 4 (cfgs 0).N
    = heldRows W (right (V m c main_arg2)) (V m c main_arg0) (V m c main_v7) (V m c main_v8) := by
  refine (dats m 0 c).arrAt_eq_of_covers 4 _ (by decide +kernel) fun t hf y => ?_
  have hN := lt_of_lt_of_eq t.isLt N_0
  blk_simp
  rw [after0_4]
  by_cases h : t.val % 3 = 0
  · rw [outsAt0_A m c t h (by omega)]; frame_out
    pointwise [k0_pay4, k0_pay2, k0_pay1, heldRows, right]
    blk_point [iblk, idx t]
  · rw [outsAt0_B m c t h (by omega)]; frame_out
    pointwise [k0_pay4, k0_pay2, k0_pay1, heldRows, right]
    blk_point [iblk, idx t]

/-- What a point adds to the gain's gradient. -/
abbrev part (c : Dev nD) (t : Fin cfg0.N) : FVec Ideal S1x1024 .f32 := k0_pay3 (F := Ideal) (iblk m c 0 t) (iblk m c 1 t) (iblk m c 2 t)

theorem first (c : Dev nD) (t : Fin cfg0.N) (h : t.val % 3 = 0) (y) :
    (show EReal from (outsAt0 m c t.val t.isLt).2 y) = 0 + (show EReal from part m c t y) := by
  have hN := lt_of_lt_of_eq t.isLt N_0
  rw [outsAt0_A m c t h (by omega)]
  frame_out
  rw [zero_add]

theorem next (c : Dev nD) (t : Fin cfg0.N) (h : ¬t.val % 3 = 0) (y) :
    (show EReal from (outsAt0 m c t.val t.isLt).2 y)
      = (show EReal from (outsAt0 m c (t.val - 1) (Nat.lt_of_le_of_lt (Nat.sub_le _ _) t.isLt)).2 y) + (show EReal from part m c t y) := by
  rw [outsAt0_B m c t h (by omega)]
  frame_out
  pointwise [k0_pay5]

theorem total (c : Dev nD) (t : Fin cfg0.N) (h : t.val % 3 = 2) (y) :
    (show EReal from (outsAt0 m c t.val t.isLt).2 y)
      = 0 + ∑ s : Fin 3, (show EReal from part m c ⟨3 * (t.val / 3) + s.val, Pipeline.run_point_lt_of_flush t h s⟩ y) :=
  Pipeline.eq_sum_fin_of_reset_step_apply_of_flush (fun n hn y => (show EReal from (outsAt0 m c n hn).2 y)) 3 (fun _ => 0)
    (fun t y => (show EReal from part m c t y)) (fun t h y => first m c t h y) (fun t h y => next m c t h y) t h y

theorem final5 (c : Dev nD) : (dats m 0 c).arrAt 5 (cfgs 0).N = heldGain (right (V m c main_arg2)) (V m c main_arg0) (V m c main_v7) := by
  refine (dats m 0 c).arrAt_eq_of_covers 5 _ (by decide +kernel) fun t hf y => ?_
  have h := (flush0_5 t).mp hf
  have hN := lt_of_lt_of_eq t.isLt N_0
  blk_simp
  rw [after0_5]
  refine (total m c t h y).trans ?_
  rw [zero_add]
  pointwise [k0_pay3, k0_pay2, k0_pay1, heldGain, right]
  change @Eq EReal _ _
  rw [Fin.sum_univ_tiles 3 688 (by norm_num) (fun a : Fin 2064 => _)]
  refine Finset.sum_congr rfl fun s _ => Finset.sum_congr rfl fun x _ => ?_
  blk_point [iblk, idx t, idx ⟨_, Pipeline.run_point_lt_of_flush t h s⟩]

/-- The rows' gradient. -/
abbrev out (c : Dev nD) : FVec Ideal S2064x1024 .f32 :=
  inwards W E (m ((c : Thread nD τ).loc main_arg0)) (right (m ((c : Thread nD τ).loc main_arg2))) (m ((c : Thread nD τ).loc main_arg1))

/-- The call and the reference compute the same arrays. -/
theorem equal : algebraic_RmsAttnBwdIdeal_RmsAttnBwdReferenceIdeal (hRmsAttnBwdIdeal := Gen.facts) (hRmsAttnBwdReferenceIdeal := Cert.RmsAttnBwdReferenceIdeal.Gen.facts) :=
  fun m g m' g' _ args => ⟨
    fun c => out m c,
    fun c => gains W E (m ((c : Thread nD τ).loc main_arg0)) (right (m ((c : Thread nD τ).loc main_arg2))),
    (θ_run _ _ _).mono (fun _ h c => by
      obtain ⟨h4, h5, hargs⟩ := h c
      refine ⟨h4.trans ((final4 m c).trans ?_), h5.trans ((final5 m c).trans ?_), hargs⟩
      · rw [entry_v7, entry_v8, V_main_arg0, V_main_arg2]; exact Norms.heldRows_eq W E _ _ _
      · rw [entry_v7, V_main_arg0, V_main_arg2]; rfl) (Value.run_blocks m g),
    (θ_run _ _ _).mono (fun _ h c => by
      obtain ⟨h0, h1, hargs⟩ := h c
      obtain ⟨a0, a1, a2⟩ := args c
      refine ⟨h0.trans ?_, h1.trans ?_, hargs⟩
      · rw [Cert.RmsAttnBwdReferenceIdeal.Value.res_main_v36, a0, a1, a2]
        exact Norms.ext_rows fun a b => Cert.RmsAttnBwdReferenceIdeal.Call.rows _ _ _ a b
      · rw [a0, a2]; exact Cert.RmsAttnBwdReferenceIdeal.Call.column _ _)
      (Cert.RmsAttnBwdReferenceIdeal.Value.run (F := Ideal) m' g')⟩

end Cert.RmsAttnBwdIdeal.Call

end
-- ==== Proof.Adamw.lean ====
/-
  One step of AdamW, element by element.
-/
module

public import Idealize.ShloMosaic.Lib.Pipeline.ValueKit
public import Idealize.ShloMosaic.Lib.Pointwise

@[expose] public section

noncomputable section

namespace Cert.Adamw

open Idealize.ShloMosaic

/-- The new first moment. -/
def newM (g m : EReal) : EReal := Ideal.ofBits .f32 0x3F666666#32 * m + Ideal.ofBits .f32 0x3DCCCCCD#32 * g

/-- The new second moment. -/
def newV (g v : EReal) : EReal := Ideal.ofBits .f32 0x3F7FBE77#32 * v + Ideal.ofBits .f32 0x3A83126F#32 * (g * g)

/-- The step of the weight. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

theorem zero_div {x : EReal} (h : x ≠ 0) : Ideal.div 0 x = 0 := by
  rw [Ideal.div, if_neg h, zero_mul]

theorem newM_zero : newM 0 0 = 0 := by simp [newM]

theorem newV_zero : newV 0 0 = 0 := by simp [newV]

theorem scale_ne : (Ideal.ofBits .f32 0x3F26BD02#32 : EReal) ≠ 0 := by
  simp [Ideal.ofBits, Ideal.ieee]

theorem scaleV_ne : (Ideal.ofBits .f32 0x3C231ACC#32 : EReal) ≠ 0 := by
  simp [Ideal.ofBits, Ideal.ieee]

theorem small_ne : (Ideal.ofBits .f32 0x322BCC77#32 : EReal) ≠ 0 := by
  simp [Ideal.ofBits, Ideal.ieee]

theorem sqrt_zero : Ideal.sqrt 0 = 0 := by
  show (if (0 : ℝ) < 0 then (⊥ : EReal) else ((√(0 : ℝ) : ℝ) : EReal)) = 0
  simp

/-- A weight of zero with a gradient and moments of zero stays. -/
theorem delta_zero : delta 0 0 0 0 = 0 := by
  rw [delta, newM_zero, newV_zero, zero_div scale_ne, zero_div scaleV_ne, sqrt_zero, zero_add, zero_div small_ne,
    mul_zero, zero_add, mul_zero]

variable {s : Shape} {T D : Nat}

/-- The new first moments. -/
def newMs (g m : FVec Ideal s .f32) : FVec Ideal s .f32 := fun i => newM (g i) (m i)

/-- The new second moments. -/
def newVs (g v : FVec Ideal s .f32) : FVec Ideal s .f32 := fun i => newV (g i) (v i)

/-- The steps of the weights. -/
def deltas (w g m v : FVec Ideal s .f32) : FVec Ideal s .f32 := fun i => delta (w i) (g i) (m i) (v i)

/-- The rows of `w`, and zeros up to `N` rows. -/
def tall (N : Nat) (w : FVec Ideal ⟨2, ![T, D]⟩ .f32) : FVec Ideal ⟨2, ![N, D]⟩ .f32 :=
  fun i => if h : (i 0).val < T then (show EReal from w (ix2 ⟨(i 0).val, h⟩ (i 1))) else (0 : EReal)

theorem newMs_tall (N : Nat) (g m : FVec Ideal ⟨2, ![T, D]⟩ .f32) : newMs (tall N g) (tall N m) = tall N (newMs g m) := by
  funext i
  by_cases h : (i 0).val < T <;> simp only [newMs, tall, h, dif_pos, dif_neg, not_false_eq_true]
  exact newM_zero

theorem newVs_tall (N : Nat) (g v : FVec Ideal ⟨2, ![T, D]⟩ .f32) : newVs (tall N g) (tall N v) = tall N (newVs g v) := by
  funext i
  by_cases h : (i 0).val < T <;> simp only [newVs, tall, h, dif_pos, dif_neg, not_false_eq_true]
  exact newV_zero

theorem deltas_tall (N : Nat) (w g m v : FVec Ideal ⟨2, ![T, D]⟩ .f32) :
    deltas (tall N w) (tall N g) (tall N m) (tall N v) = tall N (deltas w g m v) := by
  funext i
  by_cases h : (i 0).val < T <;> simp only [deltas, tall, h, dif_pos, dif_neg, not_false_eq_true]
  exact delta_zero

end Cert.Adamw

end
-- ==== Proof.AdamwLast.lean ====
/-
  The optimiser's step of the first norm's gain, and the sum of the meta tokens' gradients over the devices.
-/
module

public import proofs.«01_k».proof.Defs
public import proofs.«01_k».proof.Proof.Gen.AdamwLastIdeal.Value
public import proofs.«01_k».proof.Proof.Gen.AdamwLastReferenceIdeal.Run
public import proofs.«01_k».proof.Proof.Adamw

@[expose] public section

set_option maxRecDepth 16384

noncomputable section

namespace Cert.AdamwLastIdeal.Call

open Idealize.ShloMosaic Idealize.ShloMosaic.TcCoe Idealize.SL.Sem
open Cert.AdamwLastIdeal Cert.AdamwLastIdeal.Gen
open Idealize.ShloMosaic.Pipeline (Dat)
open Cert.Adamw (newM newV delta newMs newVs deltas)

variable (m : (ℓ : Loc nD τ sig) → Buf (Elt Ideal) ℓ)

/-- The sum over the devices: each one's part, except this one's own. -/
def total {A B : Nat} (device : BitVec 32) (own : FVec Ideal ⟨2, ![A, B]⟩ .f32) (parts : FVec Ideal ⟨3, ![8, A, B]⟩ .f32) : FVec Ideal ⟨2, ![A, B]⟩ .f32 :=
  fun i => (∑ d : Fin 8, Scalar.select (Scalar.cmpi .eq device (BitVec.ofNat 32 d.val)) (show EReal from own i) (show EReal from parts (ix3 d (i 0) (i 1))) : EReal)

/-- The blocks of the one grid point. -/
theorem idx : ∀ t : Fin cfg0.N, win0_0.index t = ![0] ∧ win0_1.index t = ![0, 0] ∧ win0_2.index t = ![0, 0] ∧ win0_3.index t = ![0, 0, 0]
    ∧ win0_4.index t = ![0, 0] ∧ win0_5.index t = ![0, 0] ∧ win0_6.index t = ![0, 0] ∧ win0_7.index t = ![0, 0, 0]
    ∧ win0_8.index t = ![0, 0] ∧ win0_9.index t = ![0, 0] ∧ win0_10.index t = ![0, 0] ∧ win0_11.index t = ![0, 0]
    ∧ win0_12.index t = ![0, 0] :=
  (by decide +kernel : ∀ t : Fin grid0.N, _)

/-- The choice does not mind which side is which. -/
theorem select_swap (a b : BitVec 32) (x y : EReal) : Scalar.select (IntOp.cmpi .eq a b) x y = Scalar.select (Scalar.cmpi .eq b a) x y := by
  by_cases h : a = b
  · subst h; rfl
  · have h' : ¬b = a := fun e => h e.symm
    have e1 : (a == b) = false := by simpa using h
    have e2 : (b == a) = false := by simpa using h'
    simp [Scalar.select, Scalar.cmpi, IntOp.cmpi, e1, e2]

/-- The gain's gradient. -/
abbrev gain (c : Dev nD) : FVec Ideal ⟨2, ![1, 2048]⟩ .f32 :=
  total (m ((c : Thread nD τ).loc main_arg0) (ix1 0)) (m ((c : Thread nD τ).loc main_arg1)) (m ((c : Thread nD τ).loc main_arg3))

/-- The meta tokens' gradient. -/
abbrev metas (c : Dev nD) : FVec Ideal ⟨2, ![16, 2048]⟩ .f32 :=
  total (m ((c : Thread nD τ).loc main_arg0) (ix1 0)) (m ((c : Thread nD τ).loc main_arg2)) (m ((c : Thread nD τ).loc main_arg7))

theorem final8 (c : Dev nD) : (dats m 0 c).arrAt 8 (cfgs 0).N = gain m c := by
  refine (dats m 0 c).arrAt_eq_of_covers 8 _ (by decide +kernel) fun t hf y => ?_
  blk_simp
  rw [after0_8, outsAt0]; frame_out
  pointwise [k0_pay3, k0_pay2, gain, total]
  change @Eq EReal _ _
  rw [Fin.sum_univ_eight]
  blk_point [iblk, V, idx t] <;> rfl

theorem final9 (c : Dev nD) : (dats m 0 c).arrAt 9 (cfgs 0).N = deltas (m ((c : Thread nD τ).loc main_arg4)) (gain m c) (m ((c : Thread nD τ).loc main_arg5)) (m ((c : Thread nD τ).loc main_arg6)) := by
  refine (dats m 0 c).arrAt_eq_of_covers 9 _ (by decide +kernel) fun t hf y => ?_
  blk_simp
  rw [after0_9, outsAt0]; frame_out
  pointwise [k0_pay6, k0_pay5, k0_pay4, k0_pay3, k0_pay2, gain, deltas, delta, newM, newV, total]
  change @Eq EReal _ _
  rw [Fin.sum_univ_eight]
  blk_point [iblk, V, idx t] <;> rfl

theorem final10 (c : Dev nD) : (dats m 0 c).arrAt 10 (cfgs 0).N = newMs (gain m c) (m ((c : Thread nD τ).loc main_arg5)) := by
  refine (dats m 0 c).arrAt_eq_of_covers 10 _ (by decide +kernel) fun t hf y => ?_
  blk_simp
  rw [after0_10, outsAt0]; frame_out
  pointwise [k0_pay4, k0_pay3, k0_pay2, gain, newMs, newM, total]
  change @Eq EReal _ _
  rw [Fin.sum_univ_eight]
  blk_point [iblk, V, idx t] <;> rfl

theorem final11 (c : Dev nD) : (dats m 0 c).arrAt 11 (cfgs 0).N = newVs (gain m c) (m ((c : Thread nD τ).loc main_arg6)) := by
  refine (dats m 0 c).arrAt_eq_of_covers 11 _ (by decide +kernel) fun t hf y => ?_
  blk_simp
  rw [after0_11, outsAt0]; frame_out
  pointwise [k0_pay5, k0_pay3, k0_pay2, gain, newVs, newV, total]
  change @Eq EReal _ _
  rw [Fin.sum_univ_eight]
  blk_point [iblk, V, idx t] <;> rfl

theorem final12 (c : Dev nD) : (dats m 0 c).arrAt 12 (cfgs 0).N = metas m c := by
  refine (dats m 0 c).arrAt_eq_of_covers 12 _ (by decide +kernel) fun t hf y => ?_
  blk_simp
  rw [after0_12, outsAt0]; frame_out
  pointwise [k0_pay7, k0_pay1, metas, total]
  change @Eq EReal _ _
  rw [Fin.sum_univ_eight]
  blk_point [iblk, V, idx t] <;> rfl

/-- The reference's sum of the gain's gradients. -/
theorem ref_gain (device : IVec ⟨1, ![1]⟩ 32) (own : FVec Ideal ⟨2, ![1, 2048]⟩ .f32) (parts : FVec Ideal ⟨3, ![8, 1, 2048]⟩ .f32) :
    Host.reduceAdd (select (cmpi .eq (iotaInDim Cert.AdamwLastReferenceIdeal.S8x1x2048 32 0) (broadcastInDim Cert.AdamwLastReferenceIdeal.S8x1x2048 ![] Cert.AdamwLastReferenceIdeal.Gen.bcast_S_S8x1x2048
          (shapeCast _ device Cert.AdamwLastReferenceIdeal.Gen.shapeCasts_S1_S_)))
        (broadcastInDim Cert.AdamwLastReferenceIdeal.S8x1x2048 ![0, 1, 2] Cert.AdamwLastReferenceIdeal.Gen.bcast_S1x1x2048_S8x1x2048_0_1_2
          (broadcastInDim Cert.AdamwLastReferenceIdeal.S1x1x2048 ![1, 2] Cert.AdamwLastReferenceIdeal.Gen.bcast_S1x2048_S1x1x2048_1_2 own)) parts)
      (constant Cert.AdamwLastReferenceIdeal.S_ .f32 0x00000000#32) Cert.AdamwLastReferenceIdeal.Gen.reducesTo_S8x1x2048_S1x2048_d0 Cert.AdamwLastReferenceIdeal.Gen.h_S_
    = total (device (ix1 0)) own parts := by
  funext i
  pointwise [total]
  change @Eq EReal _ _
  refine Finset.sum_congr rfl fun d _ => ?_
  rw [select_swap]
  have h : i = ix2 0 (i 1) := by funext a; fin_cases a <;> [exact Fin.eq_zero (i 0); rfl]
  rw [h]
  rfl

/-- The reference's sum of the meta tokens' gradients. -/
theorem ref_metas (device : IVec ⟨1, ![1]⟩ 32) (own : FVec Ideal ⟨2, ![16, 2048]⟩ .f32) (parts : FVec Ideal ⟨3, ![8, 16, 2048]⟩ .f32) :
    Host.reduceAdd (select (cmpi .eq (iotaInDim Cert.AdamwLastReferenceIdeal.S8x16x2048 32 0) (broadcastInDim Cert.AdamwLastReferenceIdeal.S8x16x2048 ![] Cert.AdamwLastReferenceIdeal.Gen.bcast_S_S8x16x2048
          (shapeCast _ device Cert.AdamwLastReferenceIdeal.Gen.shapeCasts_S1_S_)))
        (broadcastInDim Cert.AdamwLastReferenceIdeal.S8x16x2048 ![0, 1, 2] Cert.AdamwLastReferenceIdeal.Gen.bcast_S1x16x2048_S8x16x2048_0_1_2
          (broadcastInDim Cert.AdamwLastReferenceIdeal.S1x16x2048 ![1, 2] Cert.AdamwLastReferenceIdeal.Gen.bcast_S16x2048_S1x16x2048_1_2 own)) parts)
      (constant Cert.AdamwLastReferenceIdeal.S_ .f32 0x00000000#32) Cert.AdamwLastReferenceIdeal.Gen.reducesTo_S8x16x2048_S16x2048_d0 Cert.AdamwLastReferenceIdeal.Gen.h_S_
    = total (device (ix1 0)) own parts := by
  funext i
  pointwise [total]
  change @Eq EReal _ _
  refine Finset.sum_congr rfl fun d _ => ?_
  rw [select_swap]

set_option maxHeartbeats 1000000 in
/-- The call and the reference compute the same arrays. -/
theorem equal : algebraic_AdamwLastIdeal_AdamwLastReferenceIdeal (hAdamwLastIdeal := Gen.facts) (hAdamwLastReferenceIdeal := Cert.AdamwLastReferenceIdeal.Gen.facts) :=
  fun m g m' g' _ args => ⟨
    fun c => gain m c,
    fun c => deltas (m ((c : Thread nD τ).loc main_arg4)) (gain m c) (m ((c : Thread nD τ).loc main_arg5)) (m ((c : Thread nD τ).loc main_arg6)),
    fun c => newMs (gain m c) (m ((c : Thread nD τ).loc main_arg5)),
    fun c => newVs (gain m c) (m ((c : Thread nD τ).loc main_arg6)),
    fun c => metas m c,
    (θ_run _ _ _).mono (fun _ h c => by
      obtain ⟨h8, h9, h10, h11, h12, hargs⟩ := h c
      exact ⟨h8.trans (final8 m c), h9.trans (final9 m c), h10.trans (final10 m c), h11.trans (final11 m c), h12.trans (final12 m c), hargs⟩)
      (Value.run_blocks m g),
    (θ_run _ _ _).mono (fun _ h c => by
      obtain ⟨h0, h1, h2, h3, h4, hargs⟩ := h c
      obtain ⟨a0, a1, a2, a3, a4, a5, a6, a7⟩ := args c
      refine ⟨h0.trans ?_, h1.trans ?_, h2.trans ?_, h3.trans ?_, h4.trans ?_, hargs⟩
      · rw [a0, a1, a3]; exact ref_gain _ _ _
      · rw [a0, a1, a3, a4, a5, a6, ref_gain]; funext i; pointwise [deltas, delta, newM, newV]
      · rw [a0, a1, a3, a5, ref_gain]; funext i; pointwise [newMs, newM]
      · rw [a0, a1, a3, a6, ref_gain]; funext i; pointwise [newVs, newV]
      · rw [a0, a2, a7]; exact ref_metas _ _ _)
      (Cert.AdamwLastReferenceIdeal.Value.run (F := Ideal) m' g')⟩

end Cert.AdamwLastIdeal.Call

end
-- ==== Proof.AdamwCols.lean ====
/-
  The optimiser's step of the meta tokens and of the convolution's weights.
-/
module

public import proofs.«01_k».proof.Defs
public import proofs.«01_k».proof.Proof.Gen.AdamwColsIdeal.Value
public import proofs.«01_k».proof.Proof.Gen.AdamwColsReferenceIdeal.Run
public import proofs.«01_k».proof.Proof.Adamw
public import proofs.«01_k».proof.Proof.Products

@[expose] public section

set_option maxRecDepth 16384

noncomputable section

namespace Cert.AdamwColsIdeal.Call

open Idealize.ShloMosaic Idealize.ShloMosaic.TcCoe Idealize.SL.Sem
open Cert.AdamwColsIdeal Cert.AdamwColsIdeal.Gen
open Idealize.ShloMosaic.Pipeline (Dat)
open Cert.Adamw (newM newV delta newMs newVs deltas tall)

variable (m : (ℓ : Loc nD τ sig) → Buf (Elt Ideal) ℓ)

/-- The blocks of the one grid point. -/
theorem idx : ∀ t : Fin cfg0.N, win0_0.index t = ![0, 0, 0] ∧ win0_1.index t = ![0, 0] ∧ win0_2.index t = ![0, 0] ∧ win0_3.index t = ![0, 0]
    ∧ win0_4.index t = ![0, 0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] :=
  (by decide +kernel : ∀ t : Fin grid0.N, _)

/-- The meta tokens' gradient, as the call takes it. -/
abbrev gMeta (c : Dev nD) : FVec Ideal ⟨2, ![16, 256]⟩ .f32 := fun i => V m c main_v0 (ix3 0 (i 0) (i 1))

/-- The convolution's gradient, as the call takes it. -/
abbrev gConv (c : Dev nD) : FVec Ideal ⟨2, ![8, 688]⟩ .f32 := fun i => V m c main_v2 (ix3 0 (i 0) (i 1))

theorem gMeta_eq (c : Dev nD) : gMeta m c = m ((c : Thread nD τ).loc main_arg0) := by
  unfold gMeta
  rw [V]
  simp only [hostOps0, hostOps0_1, hostOps0_2, hostOps0_3, hostOps0_4, hostOps0_5, hostOps0_6, hostOps0_7, List.flatten_cons, List.flatten_nil, List.cons_append, List.nil_append, List.append_nil]
  after_results_simp
  funext i
  pointwise

theorem gConv_eq (c : Dev nD) : gConv m c = tall 8 (m ((c : Thread nD τ).loc main_arg4)) := by
  unfold gConv
  rw [V]
  simp only [hostOps0, hostOps0_1, hostOps0_2, hostOps0_3, hostOps0_4, hostOps0_5, hostOps0_6, hostOps0_7, List.flatten_cons, List.flatten_nil, List.cons_append, List.nil_append, List.append_nil]
  after_results_simp
  simp only [StableHlo.TRef.toBuf, StableHlo.TRef.ofBuf, cast_eq]
  funext i
  pointwise [tall]
  rw [Products.word_zero]

theorem entry_v3 (c : Dev nD) : V m c main_v3 = tall 8 (m ((c : Thread nD τ).loc main_arg5)) := by
  rw [V]
  simp only [hostOps0, hostOps0_1, hostOps0_2, hostOps0_3, hostOps0_4, hostOps0_5, hostOps0_6, hostOps0_7, List.flatten_cons, List.flatten_nil, List.cons_append, List.nil_append, List.append_nil]
  after_results_simp
  simp only [StableHlo.TRef.toBuf, StableHlo.TRef.ofBuf, cast_eq]
  funext i
  pointwise [tall]
  rw [Products.word_zero]

theorem entry_v4 (c : Dev nD) : V m c main_v4 = tall 8 (m ((c : Thread nD τ).loc main_arg6)) := by
  rw [V]
  simp only [hostOps0, hostOps0_1, hostOps0_2, hostOps0_3, hostOps0_4, hostOps0_5, hostOps0_6, hostOps0_7, List.flatten_cons, List.flatten_nil, List.cons_append, List.nil_append, List.append_nil]
  after_results_simp
  simp only [StableHlo.TRef.toBuf, StableHlo.TRef.ofBuf, cast_eq]
  funext i
  pointwise [tall]
  rw [Products.word_zero]

theorem entry_v5 (c : Dev nD) : V m c main_v5 = tall 8 (m ((c : Thread nD τ).loc main_arg7)) := by
  rw [V]
  simp only [hostOps0, hostOps0_1, hostOps0_2, hostOps0_3, hostOps0_4, hostOps0_5, hostOps0_6, hostOps0_7, List.flatten_cons, List.flatten_nil, List.cons_append, List.nil_append, List.append_nil]
  after_results_simp
  simp only [StableHlo.TRef.toBuf, StableHlo.TRef.ofBuf, cast_eq]
  funext i
  pointwise [tall]
  rw [Products.word_zero]

theorem final8 (c : Dev nD) : (dats m 0 c).arrAt 8 (cfgs 0).N = gMeta m c := by
  refine (dats m 0 c).arrAt_eq_of_covers 8 _ (by decide +kernel) fun t hf y => ?_
  blk_simp
  rw [after0_8]; frame_out
  pointwise [k0_pay1]
  blk_point [iblk, idx t]

theorem final9 (c : Dev nD) : (dats m 0 c).arrAt 9 (cfgs 0).N
    = deltas (V m c main_arg1) (gMeta m c) (V m c main_arg2) (V m c main_arg3) := by
  refine (dats m 0 c).arrAt_eq_of_covers 9 _ (by decide +kernel) fun t hf y => ?_
  blk_simp
  rw [after0_9]; frame_out
  pointwise [k0_pay4, k0_pay2, k0_pay3, k0_pay1, deltas, delta, newM, newV]
  blk_point [iblk, idx t]

theorem final10 (c : Dev nD) : (dats m 0 c).arrAt 10 (cfgs 0).N = newMs (gMeta m c) (V m c main_arg2) := by
  refine (dats m 0 c).arrAt_eq_of_covers 10 _ (by decide +kernel) fun t hf y => ?_
  blk_simp
  rw [after0_10]; frame_out
  pointwise [k0_pay2, k0_pay1, newMs, newM]
  blk_point [iblk, idx t]

theorem final11 (c : Dev nD) : (dats m 0 c).arrAt 11 (cfgs 0).N = newVs (gMeta m c) (V m c main_arg3) := by
  refine (dats m 0 c).arrAt_eq_of_covers 11 _ (by decide +kernel) fun t hf y => ?_
  blk_simp
  rw [after0_11]; frame_out
  pointwise [k0_pay3, k0_pay1, newVs, newV]
  blk_point [iblk, idx t]

theorem final12 (c : Dev nD) : (dats m 0 c).arrAt 12 (cfgs 0).N = gConv m c := by
  refine (dats m 0 c).arrAt_eq_of_covers 12 _ (by decide +kernel) fun t hf y => ?_
  blk_simp
  rw [after0_12]; frame_out
  pointwise [k0_pay5]
  blk_point [iblk, idx t]

theorem final13 (c : Dev nD) : (dats m 0 c).arrAt 13 (cfgs 0).N = deltas (V m c main_v3) (gConv m c) (V m c main_v4) (V m c main_v5) := by
  refine (dats m 0 c).arrAt_eq_of_covers 13 _ (by decide +kernel) fun t hf y => ?_
  blk_simp
  rw [after0_13]; frame_out
  pointwise [k0_pay8, k0_pay7, k0_pay6, k0_pay5, deltas, delta, newM, newV]
  blk_point [iblk, idx t]

theorem final14 (c : Dev nD) : (dats m 0 c).arrAt 14 (cfgs 0).N = newMs (gConv m c) (V m c main_v4) := by
  refine (dats m 0 c).arrAt_eq_of_covers 14 _ (by decide +kernel) fun t hf y => ?_
  blk_simp
  rw [after0_14]; frame_out
  pointwise [k0_pay6, k0_pay5, newMs, newM]
  blk_point [iblk, idx t]

theorem final15 (c : Dev nD) : (dats m 0 c).arrAt 15 (cfgs 0).N = newVs (gConv m c) (V m c main_v5) := by
  refine (dats m 0 c).arrAt_eq_of_covers 15 _ (by decide +kernel) fun t hf y => ?_
  blk_simp
  rw [after0_15]; frame_out
  pointwise [k0_pay7, k0_pay5, newVs, newV]
  blk_point [iblk, idx t]

/-- The reference's rows of zeros. -/
theorem pad_tall (w : FVec Ideal Cert.AdamwColsReferenceIdeal.S3x688 .f32) :
    pad Cert.AdamwColsReferenceIdeal.S8x688 ![0, 0] ![5, 0] ![0, 0] w (sitofp .f32 (constantI Cert.AdamwColsReferenceIdeal.S_ 32 0#32))
      Cert.AdamwColsReferenceIdeal.Gen.pads_S3x688_S8x688_050_000 Cert.AdamwColsReferenceIdeal.Gen.h_S_ = tall 8 w := by
  funext i
  pointwise [tall]
  rw [Products.word_zero]

set_option maxHeartbeats 1000000 in
/-- The call and the reference compute the same arrays. -/
theorem equal : algebraic_AdamwColsIdeal_AdamwColsReferenceIdeal (hAdamwColsIdeal := Gen.facts) (hAdamwColsReferenceIdeal := Cert.AdamwColsReferenceIdeal.Gen.facts) :=
  fun m g m' g' _ args => ⟨
    fun c => m ((c : Thread nD τ).loc main_arg0),
    fun c => deltas (m ((c : Thread nD τ).loc main_arg1)) (m ((c : Thread nD τ).loc main_arg0)) (m ((c : Thread nD τ).loc main_arg2)) (m ((c : Thread nD τ).loc main_arg3)),
    fun c => newMs (m ((c : Thread nD τ).loc main_arg0)) (m ((c : Thread nD τ).loc main_arg2)),
    fun c => newVs (m ((c : Thread nD τ).loc main_arg0)) (m ((c : Thread nD τ).loc main_arg3)),
    fun c => tall 8 (m ((c : Thread nD τ).loc main_arg4)),
    fun c => tall 8 (deltas (m ((c : Thread nD τ).loc main_arg5)) (m ((c : Thread nD τ).loc main_arg4)) (m ((c : Thread nD τ).loc main_arg6)) (m ((c : Thread nD τ).loc main_arg7))),
    fun c => tall 8 (newMs (m ((c : Thread nD τ).loc main_arg4)) (m ((c : Thread nD τ).loc main_arg6))),
    fun c => tall 8 (newVs (m ((c : Thread nD τ).loc main_arg4)) (m ((c : Thread nD τ).loc main_arg7))),
    (θ_run _ _ _).mono (fun _ h c => by
      obtain ⟨h8, h9, h10, h11, h12, h13, h14, h15, hargs⟩ := h c
      refine ⟨h8.trans ((final8 m c).trans (gMeta_eq m c)), h9.trans ((final9 m c).trans ?_), h10.trans ((final10 m c).trans ?_),
        h11.trans ((final11 m c).trans ?_), h12.trans ((final12 m c).trans (gConv_eq m c)), h13.trans ((final13 m c).trans ?_),
        h14.trans ((final14 m c).trans ?_), h15.trans ((final15 m c).trans ?_), hargs⟩
      · rw [gMeta_eq, V_main_arg1, V_main_arg2, V_main_arg3]
      · rw [gMeta_eq, V_main_arg2]
      · rw [gMeta_eq, V_main_arg3]
      · rw [gConv_eq, entry_v3, entry_v4, entry_v5, Adamw.deltas_tall]
      · rw [gConv_eq, entry_v4, Adamw.newMs_tall]
      · rw [gConv_eq, entry_v5, Adamw.newVs_tall]) (Value.run_blocks m g),
    (θ_run _ _ _).mono (fun _ h c => by
      obtain ⟨h0, h1, h2, h3, h4, h5, h6, h7, hargs⟩ := h c
      obtain ⟨a0, a1, a2, a3, a4, a5, a6, a7⟩ := args c
      refine ⟨h0.trans a0, h1.trans ?_, h2.trans ?_, h3.trans ?_, h4.trans ?_, h5.trans ?_, h6.trans ?_, h7.trans ?_, hargs⟩
      · rw [a0, a1, a2, a3]; funext i; pointwise [deltas, delta, newM, newV]
      · rw [a0, a2]; funext i; pointwise [newMs, newM]
      · rw [a0, a3]; funext i; pointwise [newVs, newV]
      · rw [a4]; exact pad_tall _
      · rw [a4, a5, a6, a7]; exact (pad_tall _).trans (congrArg (tall 8) (by funext i; pointwise [deltas, delta, newM, newV]))
      · rw [a4, a6]; exact (pad_tall _).trans (congrArg (tall 8) (by funext i; pointwise [newMs, newM]))
      · rw [a4, a7]; exact (pad_tall _).trans (congrArg (tall 8) (by funext i; pointwise [newVs, newV])))
      (Cert.AdamwColsReferenceIdeal.Value.run (F := Ideal) m' g')⟩

end Cert.AdamwColsIdeal.Call

end
-- ==== Proof.Same.lean ====
/-
  The kernel and the idealized kernel are one text: their regions and their runs are the same programs.
-/
module

public import proofs.«01_k».proof.Proof.Gen.Kernel
public import proofs.«01_k».proof.Proof.Gen.KernelIdeal

@[expose] public section

noncomputable section

namespace Cert.AttnBwdText

open Idealize.ShloMosaic

variable {F : FTy → Type} [FloatOps F]

theorem body (i) (a1) (h1) (a2) (h2) (a3) (h3) (a4) (h4) (a5) (h5) (a6) (h6) (a7) (h7) (a8) (h8) (a9) (h9) (b1) (g1) (b2) (g2) (b3) (g3) (b4) (g4) :
    Cert.Kernel.cc0_attn_bwd (F := F) i a1 h1 a2 h2 a3 h3 a4 h4 a5 h5 a6 h6 a7 h7 a8 h8 a9 h9 b1 g1 b2 g2 b3 g3 b4 g4
      = Cert.KernelIdeal.cc0_attn_bwd (F := F) i a1 h1 a2 h2 a3 h3 a4 h4 a5 h5 a6 h6 a7 h7 a8 h8 a9 h9 b1 g1 b2 g2 b3 g3 b4 g4 := by
  unfold Cert.Kernel.cc0_attn_bwd Cert.KernelIdeal.cc0_attn_bwd
  rfl

theorem regions : Cert.Kernel.defs₀ (F := F) = Cert.KernelIdeal.defs₀ (F := F) := by
  unfold Cert.Kernel.defs₀ Cert.KernelIdeal.defs₀
  refine congrArg Defs.onTc (funext fun l => funext fun p => ?_)
  match l, p with
  | 0, (t, s) => exact body ..
  | ⟨n + 1, h⟩, _ => exact absurd h (Nat.not_lt.2 (Nat.le_add_left _ _))

theorem runs : Cert.Kernel.defs (F := F) = Cert.KernelIdeal.defs (F := F) := by
  unfold Cert.Kernel.defs Cert.KernelIdeal.defs
  exact congrArg (Pipeline.defs _) regions

theorem mains : Cert.Kernel.main (F := F) = Cert.KernelIdeal.main (F := F) := rfl

end Cert.AttnBwdText

end
-- ==== Proof.lean ====
/- The attention gradient's call computes the attention's gradients: its frames, its idealization's ledger, and the equation with its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UpBwdW
public import proofs.«01_k».proof.Proof.Gen.UpBwdW.Skeleton
public import proofs.«01_k».proof.Proof.Gen.UpBwdW.Launch
public import proofs.«01_k».proof.Proof.Gen.UpBwdW.Points
public import proofs.«01_k».proof.Proof.Gen.UpBwdW.Frame
public import proofs.«01_k».proof.Proof.Gen.UpBwdWIdeal
public import proofs.«01_k».proof.Proof.Gen.UpBwdWIdeal.Skeleton
public import proofs.«01_k».proof.Proof.Gen.UpBwdWIdeal.Launch
public import proofs.«01_k».proof.Proof.Gen.UpBwdWIdeal.Points
public import proofs.«01_k».proof.Proof.Gen.UpBwdWIdeal.Frame
public import proofs.«01_k».proof.Proof.Gen.UpBwdWIdeal.Value
public import proofs.«01_k».proof.Proof.Gen.UpBwdWReferenceIdeal
public import proofs.«01_k».proof.Proof.Gen.UpBwdWReferenceIdeal.Run
public import proofs.«01_k».proof.Proof.UpBwdW
public import proofs.«01_k».proof.Proof.Gen.UpBwdX
public import proofs.«01_k».proof.Proof.Gen.UpBwdX.Skeleton
public import proofs.«01_k».proof.Proof.Gen.UpBwdX.Launch
public import proofs.«01_k».proof.Proof.Gen.UpBwdX.Points
public import proofs.«01_k».proof.Proof.Gen.UpBwdX.Frame
public import proofs.«01_k».proof.Proof.Gen.UpBwdXIdeal
public import proofs.«01_k».proof.Proof.Gen.UpBwdXIdeal.Skeleton
public import proofs.«01_k».proof.Proof.Gen.UpBwdXIdeal.Launch
public import proofs.«01_k».proof.Proof.Gen.UpBwdXIdeal.Points
public import proofs.«01_k».proof.Proof.Gen.UpBwdXIdeal.Frame
public import proofs.«01_k».proof.Proof.Gen.UpBwdXIdeal.Value
public import proofs.«01_k».proof.Proof.Gen.UpBwdXReferenceIdeal
public import proofs.«01_k».proof.Proof.Gen.UpBwdXReferenceIdeal.Run
public import proofs.«01_k».proof.Proof.UpBwdX
public import proofs.«01_k».proof.Proof.Gen.DownBwdX
public import proofs.«01_k».proof.Proof.Gen.DownBwdX.Skeleton
public import proofs.«01_k».proof.Proof.Gen.DownBwdX.Launch
public import proofs.«01_k».proof.Proof.Gen.DownBwdX.Points
public import proofs.«01_k».proof.Proof.Gen.DownBwdX.Frame
public import proofs.«01_k».proof.Proof.Gen.DownBwdXIdeal
public import proofs.«01_k».proof.Proof.Gen.DownBwdXIdeal.Skeleton
public import proofs.«01_k».proof.Proof.Gen.DownBwdXIdeal.Launch
public import proofs.«01_k».proof.Proof.Gen.DownBwdXIdeal.Points
public import proofs.«01_k».proof.Proof.Gen.DownBwdXIdeal.Frame
public import proofs.«01_k».proof.Proof.Gen.DownBwdXIdeal.Value
public import proofs.«01_k».proof.Proof.Gen.DownBwdXReferenceIdeal
public import proofs.«01_k».proof.Proof.Gen.DownBwdXReferenceIdeal.Run
public import proofs.«01_k».proof.Proof.DownBwdX
public import proofs.«01_k».proof.Proof.Gen.DownBwdW
public import proofs.«01_k».proof.Proof.Gen.DownBwdW.Skeleton
public import proofs.«01_k».proof.Proof.Gen.DownBwdW.Launch
public import proofs.«01_k».proof.Proof.Gen.DownBwdW.Points
public import proofs.«01_k».proof.Proof.Gen.DownBwdW.Frame
public import proofs.«01_k».proof.Proof.Gen.DownBwdWIdeal
public import proofs.«01_k».proof.Proof.Gen.DownBwdWIdeal.Skeleton
public import proofs.«01_k».proof.Proof.Gen.DownBwdWIdeal.Launch
public import proofs.«01_k».proof.Proof.Gen.DownBwdWIdeal.Points
public import proofs.«01_k».proof.Proof.Gen.DownBwdWIdeal.Frame
public import proofs.«01_k».proof.Proof.Gen.DownBwdWIdeal.Value
public import proofs.«01_k».proof.Proof.Gen.DownBwdWReferenceIdeal
public import proofs.«01_k».proof.Proof.Gen.DownBwdWReferenceIdeal.Run
public import proofs.«01_k».proof.Proof.DownBwdW
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProj.Frame
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjIdeal.Frame
public import proofs.«01_k».proof.Proof.Gen.UpProjIdeal.Value
public import proofs.«01_k».proof.Proof.Gen.UpProjReferenceIdeal
public import proofs.«01_k».proof.Proof.Gen.UpProjReferenceIdeal.Run
public import proofs.«01_k».proof.Proof.UpProj
public import proofs.«01_k».proof.Proof.Gen.DownProj
public import proofs.«01_k».proof.Proof.Gen.DownProj.Skeleton
public import proofs.«01_k».proof.Proof.Gen.DownProj.Launch
public import proofs.«01_k».proof.Proof.Gen.DownProj.Points
public import proofs.«01_k».proof.Proof.Gen.DownProj.Frame
public import proofs.«01_k».proof.Proof.Gen.DownProjIdeal
public import proofs.«01_k».proof.Proof.Gen.DownProjIdeal.Skeleton
public import proofs.«01_k».proof.Proof.Gen.DownProjIdeal.Launch
public import proofs.«01_k».proof.Proof.Gen.DownProjIdeal.Points
public import proofs.«01_k».proof.Proof.Gen.DownProjIdeal.Frame
public import proofs.«01_k».proof.Proof.Gen.DownProjIdeal.Value
public import proofs.«01_k».proof.Proof.Gen.DownProjReferenceIdeal
public import proofs.«01_k».proof.Proof.Gen.DownProjReferenceIdeal.Run
public import proofs.«01_k».proof.Proof.DownProj
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.InProj
public import proofs.«01_k».proof.Proof.Gen.InBwdX
public import proofs.«01_k».proof.Proof.Gen.InBwdX.Skeleton
public import proofs.«01_k».proof.Proof.Gen.InBwdX.Launch
public import proofs.«01_k».proof.Proof.Gen.InBwdX.Points
public import proofs.«01_k».proof.Proof.Gen.InBwdX.Frame
public import proofs.«01_k».proof.Proof.Gen.InBwdXIdeal
public import proofs.«01_k».proof.Proof.Gen.InBwdXIdeal.Skeleton
public import proofs.«01_k».proof.Proof.Gen.InBwdXIdeal.Launch
public import proofs.«01_k».proof.Proof.Gen.InBwdXIdeal.Points
public import proofs.«01_k».proof.Proof.Gen.InBwdXIdeal.Frame
public import proofs.«01_k».proof.Proof.Gen.InBwdXIdeal.Value
public import proofs.«01_k».proof.Proof.Gen.InBwdXReferenceIdeal
public import proofs.«01_k».proof.Proof.Gen.InBwdXReferenceIdeal.Run
public import proofs.«01_k».proof.Proof.InBwdX
public import proofs.«01_k».proof.Proof.Gen.InBwdW
public import proofs.«01_k».proof.Proof.Gen.InBwdW.Skeleton
public import proofs.«01_k».proof.Proof.Gen.InBwdW.Launch
public import proofs.«01_k».proof.Proof.Gen.InBwdW.Points
public import proofs.«01_k».proof.Proof.Gen.InBwdW.Frame
public import proofs.«01_k».proof.Proof.Gen.InBwdWIdeal
public import proofs.«01_k».proof.Proof.Gen.InBwdWIdeal.Skeleton
public import proofs.«01_k».proof.Proof.Gen.InBwdWIdeal.Launch
public import proofs.«01_k».proof.Proof.Gen.InBwdWIdeal.Points
public import proofs.«01_k».proof.Proof.Gen.InBwdWIdeal.Frame
public import proofs.«01_k».proof.Proof.Gen.InBwdWIdeal.Value
public import proofs.«01_k».proof.Proof.Gen.InBwdWReferenceIdeal
public import proofs.«01_k».proof.Proof.Gen.InBwdWReferenceIdeal.Run
public import proofs.«01_k».proof.Proof.InBwdW
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.OutProj
public import proofs.«01_k».proof.Proof.Gen.OutBwdX
public import proofs.«01_k».proof.Proof.Gen.OutBwdX.Skeleton
public import proofs.«01_k».proof.Proof.Gen.OutBwdX.Launch
public import proofs.«01_k».proof.Proof.Gen.OutBwdX.Points
public import proofs.«01_k».proof.Proof.Gen.OutBwdX.Frame
public import proofs.«01_k».proof.Proof.Gen.OutBwdXIdeal
public import proofs.«01_k».proof.Proof.Gen.OutBwdXIdeal.Skeleton
public import proofs.«01_k».proof.Proof.Gen.OutBwdXIdeal.Launch
public import proofs.«01_k».proof.Proof.Gen.OutBwdXIdeal.Points
public import proofs.«01_k».proof.Proof.Gen.OutBwdXIdeal.Frame
public import proofs.«01_k».proof.Proof.Gen.OutBwdXIdeal.Value
public import proofs.«01_k».proof.Proof.Gen.OutBwdXReferenceIdeal
public import proofs.«01_k».proof.Proof.Gen.OutBwdXReferenceIdeal.Run
public import proofs.«01_k».proof.Proof.OutBwdX
public import proofs.«01_k».proof.Proof.Gen.OutBwdW
public import proofs.«01_k».proof.Proof.Gen.OutBwdW.Skeleton
public import proofs.«01_k».proof.Proof.Gen.OutBwdW.Launch
public import proofs.«01_k».proof.Proof.Gen.OutBwdW.Points
public import proofs.«01_k».proof.Proof.Gen.OutBwdW.Frame
public import proofs.«01_k».proof.Proof.Gen.OutBwdWIdeal
public import proofs.«01_k».proof.Proof.Gen.OutBwdWIdeal.Skeleton
public import proofs.«01_k».proof.Proof.Gen.OutBwdWIdeal.Launch
public import proofs.«01_k».proof.Proof.Gen.OutBwdWIdeal.Points
public import proofs.«01_k».proof.Proof.Gen.OutBwdWIdeal.Frame
public import proofs.«01_k».proof.Proof.Gen.OutBwdWIdeal.Value
public import proofs.«01_k».proof.Proof.Gen.OutBwdWReferenceIdeal
public import proofs.«01_k».proof.Proof.Gen.OutBwdWReferenceIdeal.Run
public import proofs.«01_k».proof.Proof.OutBwdW
public import proofs.«01_k».proof.Proof.Gen.GluProj
public import proofs.«01_k».proof.Proof.Gen.GluProj.Skeleton
public import proofs.«01_k».proof.Proof.Gen.GluProj.Launch
public import proofs.«01_k».proof.Proof.Gen.GluProj.Points
public import proofs.«01_k».proof.Proof.Gen.GluProj.Frame
public import proofs.«01_k».proof.Proof.Gen.GluProjIdeal
public import proofs.«01_k».proof.Proof.Gen.GluProjIdeal.Skeleton
public import proofs.«01_k».proof.Proof.Gen.GluProjIdeal.Launch
public import proofs.«01_k».proof.Proof.Gen.GluProjIdeal.Points
public import proofs.«01_k».proof.Proof.Gen.GluProjIdeal.Frame
public import proofs.«01_k».proof.Proof.Gen.GluProjIdeal.Value
public import proofs.«01_k».proof.Proof.Gen.GluProjReferenceIdeal
public import proofs.«01_k».proof.Proof.Gen.GluProjReferenceIdeal.Run
public import proofs.«01_k».proof.Proof.GluProj
public import proofs.«01_k».proof.Proof.Gen.GluBwdX
public import proofs.«01_k».proof.Proof.Gen.GluBwdX.Skeleton
public import proofs.«01_k».proof.Proof.Gen.GluBwdX.Launch
public import proofs.«01_k».proof.Proof.Gen.GluBwdX.Points
public import proofs.«01_k».proof.Proof.Gen.GluBwdX.Frame
public import proofs.«01_k».proof.Proof.Gen.GluBwdXIdeal
public import proofs.«01_k».proof.Proof.Gen.GluBwdXIdeal.Skeleton
public import proofs.«01_k».proof.Proof.Gen.GluBwdXIdeal.Launch
public import proofs.«01_k».proof.Proof.Gen.GluBwdXIdeal.Points
public import proofs.«01_k».proof.Proof.Gen.GluBwdXIdeal.Frame
public import proofs.«01_k».proof.Proof.Gen.GluBwdXIdeal.Value
public import proofs.«01_k».proof.Proof.Gen.GluBwdXReferenceIdeal
public import proofs.«01_k».proof.Proof.Gen.GluBwdXReferenceIdeal.Run
public import proofs.«01_k».proof.Proof.GluBwdX
public import proofs.«01_k».proof.Proof.Gen.GluBwdW
public import proofs.«01_k».proof.Proof.Gen.GluBwdW.Skeleton
public import proofs.«01_k».proof.Proof.Gen.GluBwdW.Launch
public import proofs.«01_k».proof.Proof.Gen.GluBwdW.Points
public import proofs.«01_k».proof.Proof.Gen.GluBwdW.Frame
public import proofs.«01_k».proof.Proof.Gen.GluBwdWIdeal
public import proofs.«01_k».proof.Proof.Gen.GluBwdWIdeal.Skeleton
public import proofs.«01_k».proof.Proof.Gen.GluBwdWIdeal.Launch
public import proofs.«01_k».proof.Proof.Gen.GluBwdWIdeal.Points
public import proofs.«01_k».proof.Proof.Gen.GluBwdWIdeal.Frame
public import proofs.«01_k».proof.Proof.Gen.GluBwdWIdeal.Value
public import proofs.«01_k».proof.Proof.Gen.GluBwdWReferenceIdeal
public import proofs.«01_k».proof.Proof.Gen.GluBwdWReferenceIdeal.Run
public import proofs.«01_k».proof.Proof.GluBwdW
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.QProjReferenceIdeal
public import proofs.«01_k».proof.Proof.Gen.QProjReferenceIdeal.Run
public import proofs.«01_k».proof.Proof.QProj
public import proofs.«01_k».proof.Proof.Gen.QBwdW
public import proofs.«01_k».proof.Proof.Gen.QBwdW.Skeleton
public import proofs.«01_k».proof.Proof.Gen.QBwdW.Launch
public import proofs.«01_k».proof.Proof.Gen.QBwdW.Points
public import proofs.«01_k».proof.Proof.Gen.QBwdW.Frame
public import proofs.«01_k».proof.Proof.Gen.QBwdWIdeal
public import proofs.«01_k».proof.Proof.Gen.QBwdWIdeal.Skeleton
public import proofs.«01_k».proof.Proof.Gen.QBwdWIdeal.Launch
public import proofs.«01_k».proof.Proof.Gen.QBwdWIdeal.Points
public import proofs.«01_k».proof.Proof.Gen.QBwdWIdeal.Frame
public import proofs.«01_k».proof.Proof.Gen.QBwdWIdeal.Value
public import proofs.«01_k».proof.Proof.Gen.QBwdWReferenceIdeal
public import proofs.«01_k».proof.Proof.Gen.QBwdWReferenceIdeal.Run
public import proofs.«01_k».proof.Proof.QBwdW
public import proofs.«01_k».proof.Proof.Gen.QBwdX
public import proofs.«01_k».proof.Proof.Gen.QBwdX.Skeleton
public import proofs.«01_k».proof.Proof.Gen.QBwdX.Launch
public import proofs.«01_k».proof.Proof.Gen.QBwdX.Points
public import proofs.«01_k».proof.Proof.Gen.QBwdX.Frame
public import proofs.«01_k».proof.Proof.Gen.QBwdXIdeal
public import proofs.«01_k».proof.Proof.Gen.QBwdXIdeal.Skeleton
public import proofs.«01_k».proof.Proof.Gen.QBwdXIdeal.Launch
public import proofs.«01_k».proof.Proof.Gen.QBwdXIdeal.Points
public import proofs.«01_k».proof.Proof.Gen.QBwdXIdeal.Frame
public import proofs.«01_k».proof.Proof.Gen.QBwdXIdeal.Value
public import proofs.«01_k».proof.Proof.Gen.QBwdXReferenceIdeal
public import proofs.«01_k».proof.Proof.Gen.QBwdXReferenceIdeal.Run
public import proofs.«01_k».proof.Proof.QBwdX
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjIdeal.Value
public import proofs.«01_k».proof.Proof.Gen.KvProjReferenceIdeal
public import proofs.«01_k».proof.Proof.Gen.KvProjReferenceIdeal.Run
public import proofs.«01_k».proof.Proof.KvProj
public import proofs.«01_k».proof.Proof.Gen.KvBwdW
public import proofs.«01_k».proof.Proof.Gen.KvBwdW.Skeleton
public import proofs.«01_k».proof.Proof.Gen.KvBwdW.Launch
public import proofs.«01_k».proof.Proof.Gen.KvBwdW.Points
public import proofs.«01_k».proof.Proof.Gen.KvBwdW.Frame
public import proofs.«01_k».proof.Proof.Gen.KvBwdWIdeal
public import proofs.«01_k».proof.Proof.Gen.KvBwdWIdeal.Skeleton
public import proofs.«01_k».proof.Proof.Gen.KvBwdWIdeal.Launch
public import proofs.«01_k».proof.Proof.Gen.KvBwdWIdeal.Points
public import proofs.«01_k».proof.Proof.Gen.KvBwdWIdeal.Frame
public import proofs.«01_k».proof.Proof.Gen.KvBwdWIdeal.Value
public import proofs.«01_k».proof.Proof.Gen.KvBwdWReferenceIdeal
public import proofs.«01_k».proof.Proof.Gen.KvBwdWReferenceIdeal.Run
public import proofs.«01_k».proof.Proof.KvBwdW
public import proofs.«01_k».proof.Proof.Gen.KvBwdX
public import proofs.«01_k».proof.Proof.Gen.KvBwdX.Skeleton
public import proofs.«01_k».proof.Proof.Gen.KvBwdX.Launch
public import proofs.«01_k».proof.Proof.Gen.KvBwdX.Points
public import proofs.«01_k».proof.Proof.Gen.KvBwdX.Frame
public import proofs.«01_k».proof.Proof.Gen.KvBwdXIdeal
public import proofs.«01_k».proof.Proof.Gen.KvBwdXIdeal.Skeleton
public import proofs.«01_k».proof.Proof.Gen.KvBwdXIdeal.Launch
public import proofs.«01_k».proof.Proof.Gen.KvBwdXIdeal.Points
public import proofs.«01_k».proof.Proof.Gen.KvBwdXIdeal.Frame
public import proofs.«01_k».proof.Proof.Gen.KvBwdXIdeal.Value
public import proofs.«01_k».proof.Proof.Gen.KvBwdXReferenceIdeal
public import proofs.«01_k».proof.Proof.Gen.KvBwdXReferenceIdeal.Run
public import proofs.«01_k».proof.Proof.KvBwdX
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdReferenceIdeal
public import proofs.«01_k».proof.Proof.Gen.AttnFwdReferenceIdeal.Run
public import proofs.«01_k».proof.Proof.AttnFwd
public import proofs.«01_k».proof.Proof.Gen.RmsMixBwd
public import proofs.«01_k».proof.Proof.Gen.RmsMixBwd.Skeleton
public import proofs.«01_k».proof.Proof.Gen.RmsMixBwd.Launch
public import proofs.«01_k».proof.Proof.Gen.RmsMixBwd.Points
public import proofs.«01_k».proof.Proof.Gen.RmsMixBwd.Frame
public import proofs.«01_k».proof.Proof.Gen.RmsMixBwdIdeal
public import proofs.«01_k».proof.Proof.Gen.RmsMixBwdIdeal.Skeleton
public import proofs.«01_k».proof.Proof.Gen.RmsMixBwdIdeal.Launch
public import proofs.«01_k».proof.Proof.Gen.RmsMixBwdIdeal.Points
public import proofs.«01_k».proof.Proof.Gen.RmsMixBwdIdeal.Frame
public import proofs.«01_k».proof.Proof.Gen.RmsMixBwdIdeal.Value
public import proofs.«01_k».proof.Proof.Gen.RmsMixBwdReferenceIdeal
public import proofs.«01_k».proof.Proof.Gen.RmsMixBwdReferenceIdeal.Run
public import proofs.«01_k».proof.Proof.RmsMixBwd
public import proofs.«01_k».proof.Proof.Gen.RmsFfnBwd
public import proofs.«01_k».proof.Proof.Gen.RmsFfnBwd.Skeleton
public import proofs.«01_k».proof.Proof.Gen.RmsFfnBwd.Launch
public import proofs.«01_k».proof.Proof.Gen.RmsFfnBwd.Points
public import proofs.«01_k».proof.Proof.Gen.RmsFfnBwd.Frame
public import proofs.«01_k».proof.Proof.Gen.RmsFfnBwdIdeal
public import proofs.«01_k».proof.Proof.Gen.RmsFfnBwdIdeal.Skeleton
public import proofs.«01_k».proof.Proof.Gen.RmsFfnBwdIdeal.Launch
public import proofs.«01_k».proof.Proof.Gen.RmsFfnBwdIdeal.Points
public import proofs.«01_k».proof.Proof.Gen.RmsFfnBwdIdeal.Frame
public import proofs.«01_k».proof.Proof.Gen.RmsFfnBwdIdeal.Value
public import proofs.«01_k».proof.Proof.Gen.RmsFfnBwdReferenceIdeal
public import proofs.«01_k».proof.Proof.Gen.RmsFfnBwdReferenceIdeal.Run
public import proofs.«01_k».proof.Proof.RmsFfnBwd
public import proofs.«01_k».proof.Proof.Gen.RmsAttnBwd
public import proofs.«01_k».proof.Proof.Gen.RmsAttnBwd.Skeleton
public import proofs.«01_k».proof.Proof.Gen.RmsAttnBwd.Launch
public import proofs.«01_k».proof.Proof.Gen.RmsAttnBwd.Points
public import proofs.«01_k».proof.Proof.Gen.RmsAttnBwd.Frame
public import proofs.«01_k».proof.Proof.Gen.RmsAttnBwdIdeal
public import proofs.«01_k».proof.Proof.Gen.RmsAttnBwdIdeal.Skeleton
public import proofs.«01_k».proof.Proof.Gen.RmsAttnBwdIdeal.Launch
public import proofs.«01_k».proof.Proof.Gen.RmsAttnBwdIdeal.Points
public import proofs.«01_k».proof.Proof.Gen.RmsAttnBwdIdeal.Frame
public import proofs.«01_k».proof.Proof.Gen.RmsAttnBwdIdeal.Value
public import proofs.«01_k».proof.Proof.Gen.RmsAttnBwdReferenceIdeal
public import proofs.«01_k».proof.Proof.Gen.RmsAttnBwdReferenceIdeal.Run
public import proofs.«01_k».proof.Proof.RmsAttnBwd
public import proofs.«01_k».proof.Proof.Gen.AdamwLast
public import proofs.«01_k».proof.Proof.Gen.AdamwLast.Skeleton
public import proofs.«01_k».proof.Proof.Gen.AdamwLast.Launch
public import proofs.«01_k».proof.Proof.Gen.AdamwLast.Points
public import proofs.«01_k».proof.Proof.Gen.AdamwLast.Frame
public import proofs.«01_k».proof.Proof.Gen.AdamwLastIdeal
public import proofs.«01_k».proof.Proof.Gen.AdamwLastIdeal.Skeleton
public import proofs.«01_k».proof.Proof.Gen.AdamwLastIdeal.Launch
public import proofs.«01_k».proof.Proof.Gen.AdamwLastIdeal.Points
public import proofs.«01_k».proof.Proof.Gen.AdamwLastIdeal.Frame
public import proofs.«01_k».proof.Proof.Gen.AdamwLastIdeal.Value
public import proofs.«01_k».proof.Proof.Gen.AdamwLastReferenceIdeal
public import proofs.«01_k».proof.Proof.Gen.AdamwLastReferenceIdeal.Run
public import proofs.«01_k».proof.Proof.AdamwLast
public import proofs.«01_k».proof.Proof.Gen.AdamwCols
public import proofs.«01_k».proof.Proof.Gen.AdamwCols.Skeleton
public import proofs.«01_k».proof.Proof.Gen.AdamwCols.Launch
public import proofs.«01_k».proof.Proof.Gen.AdamwCols.Points
public import proofs.«01_k».proof.Proof.Gen.AdamwCols.Frame
public import proofs.«01_k».proof.Proof.Gen.AdamwColsIdeal
public import proofs.«01_k».proof.Proof.Gen.AdamwColsIdeal.Skeleton
public import proofs.«01_k».proof.Proof.Gen.AdamwColsIdeal.Launch
public import proofs.«01_k».proof.Proof.Gen.AdamwColsIdeal.Points
public import proofs.«01_k».proof.Proof.Gen.AdamwColsIdeal.Frame
public import proofs.«01_k».proof.Proof.Gen.AdamwColsIdeal.Value
public import proofs.«01_k».proof.Proof.Gen.AdamwColsReferenceIdeal
public import proofs.«01_k».proof.Proof.Gen.AdamwColsReferenceIdeal.Run
public import proofs.«01_k».proof.Proof.AdamwCols
public import proofs.«01_k».proof.Proof.Precondition
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

section Frames

open Cert.KernelIdeal Cert.KernelIdeal.Gen Cert.KernelIdeal.AttnBwd

variable {F : FTy → Type} [FloatOps F] (m : (ℓ : Loc nD τ sig) → Buf (Elt F) ℓ) (ρ : Dev nD → PrngReg)

/-- The gradient's call ends with its arguments as launched and its semaphores at zero, over any reading of floats. -/
theorem call_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (entry m) ((θ_run defs _ _).mono (fun _ h => h.1) (run m ρ)))
    ((θ_run defs _ _).mono (fun _ h => h.2) (run m ρ))

end Frames

/-- The kernel's frame at words: its text is the idealized kernel's. -/
theorem frame_kernel : Cert.quiescent_Kernel := fun m ρ _ => by
  rw [AttnBwdText.runs, AttnBwdText.mains]
  exact (θ_run Cert.KernelIdeal.defs _ _).mono (fun _ h => h) (call_frame (F := Bits) m ρ)

/-- The idealized kernel's frame. -/
theorem frame_kernel_ideal : Cert.quiescent_KernelIdeal := fun m ρ _ => call_frame (F := Ideal) m ρ

theorem frame_kernel_ideal_pre : Cert.quiescent_KernelIdeal_pre_finite_scores := fun m ρ _ => call_frame (F := Ideal) m ρ

/-- The reference's run leaves its arguments, and it declares no semaphore. -/
theorem frame_reference_ideal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem frame_reference_ideal_pre : Cert.quiescent_ReferenceIdeal_pre_finite_scores := fun m ρ _ => frame_reference_ideal m ρ trivial

/-- The call's three results are the reference's. -/
theorem equal : Cert.algebraic_KernelIdeal_ReferenceIdeal_pre_finite_scores := fun m ρ m' ρ' hm args => by
  have same (c : Dev Cert.KernelIdeal.nD) :
      Cert.ReferenceIdeal.AttnBwd.inputs (StableHlo.launchContents m' c) = Cert.KernelIdeal.AttnBwd.inputs m c := by
    obtain ⟨e0, e1, e2, e3, e4, e5⟩ := args c
    unfold Cert.ReferenceIdeal.AttnBwd.inputs Cert.KernelIdeal.AttnBwd.inputs
    exact (Attention.Inputs.mk.injEq ..).mpr ⟨e0, e1, e2, e3, e4, e5⟩
  refine ⟨fun c => Attention.dq (Cert.KernelIdeal.AttnBwd.inputs m c), fun c => Attention.dkv (Cert.KernelIdeal.AttnBwd.inputs m c),
    fun c => Attention.dkpe (Cert.KernelIdeal.AttnBwd.inputs m c), ?_, ?_⟩
  · refine (θ_run Cert.KernelIdeal.defs _ _).mono (fun r h c => ?_) (θ_run_and (Cert.KernelIdeal.AttnBwd.run m ρ) (call_frame m ρ))
    have w := (h.1.1 c).1
    exact ⟨(w 10).trans (Cert.KernelIdeal.AttnBwd.final_dq m c), (w 11).trans (Cert.KernelIdeal.AttnBwd.final_dkv m c),
      (w 12).trans (Cert.KernelIdeal.AttnBwd.final_dkpe m c), h.2.1 c⟩
  · refine (θ_run Cert.ReferenceIdeal.defs _ _).mono (fun r h c => ?_)
      (θ_run_and (Cert.ReferenceIdeal.AttnBwd.run m' ρ' fun c => by rw [same c]; exact Cert.KernelIdeal.AttnBwd.finite_of_pre m hm c)
        (frame_reference_ideal m' ρ' trivial))
    obtain ⟨a, b, d⟩ := h.1 c
    rw [same c] at a b d
    exact ⟨a, b, d, h.2.1 c⟩

theorem frame_UpBwdW : Cert.quiescent_UpBwdW (hUpBwdW := Cert.UpBwdW.Gen.facts) := fun m ρ _ => Cert.UpBwdW.Gen.frame m ρ

theorem frame_UpBwdWIdeal : Cert.quiescent_UpBwdWIdeal (hUpBwdWIdeal := Cert.UpBwdWIdeal.Gen.facts) := fun m ρ _ => Cert.UpBwdWIdeal.Gen.frame m ρ

theorem frame_UpBwdWReferenceIdeal : Cert.quiescent_UpBwdWReferenceIdeal (hUpBwdWReferenceIdeal := Cert.UpBwdWReferenceIdeal.Gen.facts) := fun m ρ _ =>
  (θ_run Cert.UpBwdWReferenceIdeal.defs _ _).mono (fun r h => ⟨fun c => (h c).2,
      Idealize.ShloMosaic.sem_eq_zero_of_no_sems (by decide) r.2⟩)
    (Cert.UpBwdWReferenceIdeal.Value.run (F := Ideal) m ρ)

theorem frame_UpBwdX : Cert.quiescent_UpBwdX (hUpBwdX := Cert.UpBwdX.Gen.facts) := fun m ρ _ => Cert.UpBwdX.Gen.frame m ρ

theorem frame_UpBwdXIdeal : Cert.quiescent_UpBwdXIdeal (hUpBwdXIdeal := Cert.UpBwdXIdeal.Gen.facts) := fun m ρ _ => Cert.UpBwdXIdeal.Gen.frame m ρ

theorem frame_UpBwdXReferenceIdeal : Cert.quiescent_UpBwdXReferenceIdeal (hUpBwdXReferenceIdeal := Cert.UpBwdXReferenceIdeal.Gen.facts) := fun m ρ _ =>
  (θ_run Cert.UpBwdXReferenceIdeal.defs _ _).mono (fun r h => ⟨fun c => (h c).2,
      Idealize.ShloMosaic.sem_eq_zero_of_no_sems (by decide) r.2⟩)
    (Cert.UpBwdXReferenceIdeal.Value.run (F := Ideal) m ρ)

theorem frame_DownBwdX : Cert.quiescent_DownBwdX (hDownBwdX := Cert.DownBwdX.Gen.facts) := fun m ρ _ => Cert.DownBwdX.Gen.frame m ρ

theorem frame_DownBwdXIdeal : Cert.quiescent_DownBwdXIdeal (hDownBwdXIdeal := Cert.DownBwdXIdeal.Gen.facts) := fun m ρ _ => Cert.DownBwdXIdeal.Gen.frame m ρ

theorem frame_DownBwdXReferenceIdeal : Cert.quiescent_DownBwdXReferenceIdeal (hDownBwdXReferenceIdeal := Cert.DownBwdXReferenceIdeal.Gen.facts) := fun m ρ _ =>
  (θ_run Cert.DownBwdXReferenceIdeal.defs _ _).mono (fun r h => ⟨fun c => (h c).2,
      Idealize.ShloMosaic.sem_eq_zero_of_no_sems (by decide) r.2⟩)
    (Cert.DownBwdXReferenceIdeal.Value.run (F := Ideal) m ρ)

theorem frame_DownBwdW : Cert.quiescent_DownBwdW (hDownBwdW := Cert.DownBwdW.Gen.facts) := fun m ρ _ => Cert.DownBwdW.Gen.frame m ρ

theorem frame_DownBwdWIdeal : Cert.quiescent_DownBwdWIdeal (hDownBwdWIdeal := Cert.DownBwdWIdeal.Gen.facts) := fun m ρ _ => Cert.DownBwdWIdeal.Gen.frame m ρ

theorem frame_DownBwdWReferenceIdeal : Cert.quiescent_DownBwdWReferenceIdeal (hDownBwdWReferenceIdeal := Cert.DownBwdWReferenceIdeal.Gen.facts) := fun m ρ _ =>
  (θ_run Cert.DownBwdWReferenceIdeal.defs _ _).mono (fun r h => ⟨fun c => (h c).2,
      Idealize.ShloMosaic.sem_eq_zero_of_no_sems (by decide) r.2⟩)
    (Cert.DownBwdWReferenceIdeal.Value.run (F := Ideal) m ρ)

theorem frame_UpProj : Cert.quiescent_UpProj (hUpProj := Cert.UpProj.Gen.facts) := fun m ρ _ => Cert.UpProj.Gen.frame m ρ

theorem frame_UpProjIdeal : Cert.quiescent_UpProjIdeal (hUpProjIdeal := Cert.UpProjIdeal.Gen.facts) := fun m ρ _ => Cert.UpProjIdeal.Gen.frame m ρ

theorem frame_UpProjReferenceIdeal : Cert.quiescent_UpProjReferenceIdeal (hUpProjReferenceIdeal := Cert.UpProjReferenceIdeal.Gen.facts) := fun m ρ _ =>
  (θ_run Cert.UpProjReferenceIdeal.defs _ _).mono (fun r h => ⟨fun c => (h c).2,
      Idealize.ShloMosaic.sem_eq_zero_of_no_sems (by decide) r.2⟩)
    (Cert.UpProjReferenceIdeal.Value.run (F := Ideal) m ρ)

theorem frame_DownProj : Cert.quiescent_DownProj (hDownProj := Cert.DownProj.Gen.facts) := fun m ρ _ => Cert.DownProj.Gen.frame m ρ

theorem frame_DownProjIdeal : Cert.quiescent_DownProjIdeal (hDownProjIdeal := Cert.DownProjIdeal.Gen.facts) := fun m ρ _ => Cert.DownProjIdeal.Gen.frame m ρ

theorem frame_DownProjReferenceIdeal : Cert.quiescent_DownProjReferenceIdeal (hDownProjReferenceIdeal := Cert.DownProjReferenceIdeal.Gen.facts) := fun m ρ _ =>
  (θ_run Cert.DownProjReferenceIdeal.defs _ _).mono (fun r h => ⟨fun c => (h c).2,
      Idealize.ShloMosaic.sem_eq_zero_of_no_sems (by decide) r.2⟩)
    (Cert.DownProjReferenceIdeal.Value.run (F := Ideal) m ρ)

theorem frame_InProj : Cert.quiescent_InProj (hInProj := Cert.InProj.Gen.facts) := fun m ρ _ => Cert.InProj.Gen.frame m ρ

theorem frame_InProjIdeal : Cert.quiescent_InProjIdeal (hInProjIdeal := Cert.InProjIdeal.Gen.facts) := fun m ρ _ => Cert.InProjIdeal.Gen.frame m ρ

theorem frame_InProjReferenceIdeal : Cert.quiescent_InProjReferenceIdeal (hInProjReferenceIdeal := Cert.InProjReferenceIdeal.Gen.facts) := fun m ρ _ =>
  (θ_run Cert.InProjReferenceIdeal.defs _ _).mono (fun r h => ⟨fun c => (h c).2,
      Idealize.ShloMosaic.sem_eq_zero_of_no_sems (by decide) r.2⟩)
    (Cert.InProjReferenceIdeal.Value.run (F := Ideal) m ρ)

theorem frame_InBwdX : Cert.quiescent_InBwdX (hInBwdX := Cert.InBwdX.Gen.facts) := fun m ρ _ => Cert.InBwdX.Gen.frame m ρ

theorem frame_InBwdXIdeal : Cert.quiescent_InBwdXIdeal (hInBwdXIdeal := Cert.InBwdXIdeal.Gen.facts) := fun m ρ _ => Cert.InBwdXIdeal.Gen.frame m ρ

theorem frame_InBwdXReferenceIdeal : Cert.quiescent_InBwdXReferenceIdeal (hInBwdXReferenceIdeal := Cert.InBwdXReferenceIdeal.Gen.facts) := fun m ρ _ =>
  (θ_run Cert.InBwdXReferenceIdeal.defs _ _).mono (fun r h => ⟨fun c => (h c).2,
      Idealize.ShloMosaic.sem_eq_zero_of_no_sems (by decide) r.2⟩)
    (Cert.InBwdXReferenceIdeal.Value.run (F := Ideal) m ρ)

theorem frame_InBwdW : Cert.quiescent_InBwdW (hInBwdW := Cert.InBwdW.Gen.facts) := fun m ρ _ => Cert.InBwdW.Gen.frame m ρ

theorem frame_InBwdWIdeal : Cert.quiescent_InBwdWIdeal (hInBwdWIdeal := Cert.InBwdWIdeal.Gen.facts) := fun m ρ _ => Cert.InBwdWIdeal.Gen.frame m ρ

theorem frame_InBwdWReferenceIdeal : Cert.quiescent_InBwdWReferenceIdeal (hInBwdWReferenceIdeal := Cert.InBwdWReferenceIdeal.Gen.facts) := fun m ρ _ =>
  (θ_run Cert.InBwdWReferenceIdeal.defs _ _).mono (fun r h => ⟨fun c => (h c).2,
      Idealize.ShloMosaic.sem_eq_zero_of_no_sems (by decide) r.2⟩)
    (Cert.InBwdWReferenceIdeal.Value.run (F := Ideal) m ρ)

theorem frame_OutProj : Cert.quiescent_OutProj (hOutProj := Cert.OutProj.Gen.facts) := fun m ρ _ => Cert.OutProj.Gen.frame m ρ

theorem frame_OutProjIdeal : Cert.quiescent_OutProjIdeal (hOutProjIdeal := Cert.OutProjIdeal.Gen.facts) := fun m ρ _ => Cert.OutProjIdeal.Gen.frame m ρ

theorem frame_OutProjReferenceIdeal : Cert.quiescent_OutProjReferenceIdeal (hOutProjReferenceIdeal := Cert.OutProjReferenceIdeal.Gen.facts) := fun m ρ _ =>
  (θ_run Cert.OutProjReferenceIdeal.defs _ _).mono (fun r h => ⟨fun c => (h c).2,
      Idealize.ShloMosaic.sem_eq_zero_of_no_sems (by decide) r.2⟩)
    (Cert.OutProjReferenceIdeal.Value.run (F := Ideal) m ρ)

theorem frame_OutBwdX : Cert.quiescent_OutBwdX (hOutBwdX := Cert.OutBwdX.Gen.facts) := fun m ρ _ => Cert.OutBwdX.Gen.frame m ρ

theorem frame_OutBwdXIdeal : Cert.quiescent_OutBwdXIdeal (hOutBwdXIdeal := Cert.OutBwdXIdeal.Gen.facts) := fun m ρ _ => Cert.OutBwdXIdeal.Gen.frame m ρ

theorem frame_OutBwdXReferenceIdeal : Cert.quiescent_OutBwdXReferenceIdeal (hOutBwdXReferenceIdeal := Cert.OutBwdXReferenceIdeal.Gen.facts) := fun m ρ _ =>
  (θ_run Cert.OutBwdXReferenceIdeal.defs _ _).mono (fun r h => ⟨fun c => (h c).2,
      Idealize.ShloMosaic.sem_eq_zero_of_no_sems (by decide) r.2⟩)
    (Cert.OutBwdXReferenceIdeal.Value.run (F := Ideal) m ρ)

theorem frame_OutBwdW : Cert.quiescent_OutBwdW (hOutBwdW := Cert.OutBwdW.Gen.facts) := fun m ρ _ => Cert.OutBwdW.Gen.frame m ρ

theorem frame_OutBwdWIdeal : Cert.quiescent_OutBwdWIdeal (hOutBwdWIdeal := Cert.OutBwdWIdeal.Gen.facts) := fun m ρ _ => Cert.OutBwdWIdeal.Gen.frame m ρ

theorem frame_OutBwdWReferenceIdeal : Cert.quiescent_OutBwdWReferenceIdeal (hOutBwdWReferenceIdeal := Cert.OutBwdWReferenceIdeal.Gen.facts) := fun m ρ _ =>
  (θ_run Cert.OutBwdWReferenceIdeal.defs _ _).mono (fun r h => ⟨fun c => (h c).2,
      Idealize.ShloMosaic.sem_eq_zero_of_no_sems (by decide) r.2⟩)
    (Cert.OutBwdWReferenceIdeal.Value.run (F := Ideal) m ρ)

theorem frame_GluProj : Cert.quiescent_GluProj (hGluProj := Cert.GluProj.Gen.facts) := fun m ρ _ => Cert.GluProj.Gen.frame m ρ

theorem frame_GluProjIdeal : Cert.quiescent_GluProjIdeal (hGluProjIdeal := Cert.GluProjIdeal.Gen.facts) := fun m ρ _ => Cert.GluProjIdeal.Gen.frame m ρ

theorem frame_GluProjReferenceIdeal : Cert.quiescent_GluProjReferenceIdeal (hGluProjReferenceIdeal := Cert.GluProjReferenceIdeal.Gen.facts) := fun m ρ _ =>
  (θ_run Cert.GluProjReferenceIdeal.defs _ _).mono (fun r h => ⟨fun c => (h c).2,
      Idealize.ShloMosaic.sem_eq_zero_of_no_sems (by decide) r.2⟩)
    (Cert.GluProjReferenceIdeal.Value.run (F := Ideal) m ρ)

theorem frame_GluBwdX : Cert.quiescent_GluBwdX (hGluBwdX := Cert.GluBwdX.Gen.facts) := fun m ρ _ => Cert.GluBwdX.Gen.frame m ρ

theorem frame_GluBwdXIdeal : Cert.quiescent_GluBwdXIdeal (hGluBwdXIdeal := Cert.GluBwdXIdeal.Gen.facts) := fun m ρ _ => Cert.GluBwdXIdeal.Gen.frame m ρ

theorem frame_GluBwdXReferenceIdeal : Cert.quiescent_GluBwdXReferenceIdeal (hGluBwdXReferenceIdeal := Cert.GluBwdXReferenceIdeal.Gen.facts) := fun m ρ _ =>
  (θ_run Cert.GluBwdXReferenceIdeal.defs _ _).mono (fun r h => ⟨fun c => (h c).2,
      Idealize.ShloMosaic.sem_eq_zero_of_no_sems (by decide) r.2⟩)
    (Cert.GluBwdXReferenceIdeal.Value.run (F := Ideal) m ρ)

theorem frame_GluBwdW : Cert.quiescent_GluBwdW (hGluBwdW := Cert.GluBwdW.Gen.facts) := fun m ρ _ => Cert.GluBwdW.Gen.frame m ρ

theorem frame_GluBwdWIdeal : Cert.quiescent_GluBwdWIdeal (hGluBwdWIdeal := Cert.GluBwdWIdeal.Gen.facts) := fun m ρ _ => Cert.GluBwdWIdeal.Gen.frame m ρ

theorem frame_GluBwdWReferenceIdeal : Cert.quiescent_GluBwdWReferenceIdeal (hGluBwdWReferenceIdeal := Cert.GluBwdWReferenceIdeal.Gen.facts) := fun m ρ _ =>
  (θ_run Cert.GluBwdWReferenceIdeal.defs _ _).mono (fun r h => ⟨fun c => (h c).2,
      Idealize.ShloMosaic.sem_eq_zero_of_no_sems (by decide) r.2⟩)
    (Cert.GluBwdWReferenceIdeal.Value.run (F := Ideal) m ρ)

theorem frame_QProj : Cert.quiescent_QProj (hQProj := Cert.QProj.Gen.facts) := fun m ρ _ => Cert.QProj.Gen.frame m ρ

theorem frame_QProjIdeal : Cert.quiescent_QProjIdeal (hQProjIdeal := Cert.QProjIdeal.Gen.facts) := fun m ρ _ => Cert.QProjIdeal.Gen.frame m ρ

theorem frame_QProjReferenceIdeal : Cert.quiescent_QProjReferenceIdeal (hQProjReferenceIdeal := Cert.QProjReferenceIdeal.Gen.facts) := fun m ρ _ =>
  (θ_run Cert.QProjReferenceIdeal.defs _ _).mono (fun r h => ⟨fun c => (h c).2,
      Idealize.ShloMosaic.sem_eq_zero_of_no_sems (by decide) r.2⟩)
    (Cert.QProjReferenceIdeal.Value.run (F := Ideal) m ρ)

theorem frame_QBwdW : Cert.quiescent_QBwdW (hQBwdW := Cert.QBwdW.Gen.facts) := fun m ρ _ => Cert.QBwdW.Gen.frame m ρ

theorem frame_QBwdWIdeal : Cert.quiescent_QBwdWIdeal (hQBwdWIdeal := Cert.QBwdWIdeal.Gen.facts) := fun m ρ _ => Cert.QBwdWIdeal.Gen.frame m ρ

theorem frame_QBwdWReferenceIdeal : Cert.quiescent_QBwdWReferenceIdeal (hQBwdWReferenceIdeal := Cert.QBwdWReferenceIdeal.Gen.facts) := fun m ρ _ =>
  (θ_run Cert.QBwdWReferenceIdeal.defs _ _).mono (fun r h => ⟨fun c => (h c).2,
      Idealize.ShloMosaic.sem_eq_zero_of_no_sems (by decide) r.2⟩)
    (Cert.QBwdWReferenceIdeal.Value.run (F := Ideal) m ρ)

theorem frame_QBwdX : Cert.quiescent_QBwdX (hQBwdX := Cert.QBwdX.Gen.facts) := fun m ρ _ => Cert.QBwdX.Gen.frame m ρ

theorem frame_QBwdXIdeal : Cert.quiescent_QBwdXIdeal (hQBwdXIdeal := Cert.QBwdXIdeal.Gen.facts) := fun m ρ _ => Cert.QBwdXIdeal.Gen.frame m ρ

theorem frame_QBwdXReferenceIdeal : Cert.quiescent_QBwdXReferenceIdeal (hQBwdXReferenceIdeal := Cert.QBwdXReferenceIdeal.Gen.facts) := fun m ρ _ =>
  (θ_run Cert.QBwdXReferenceIdeal.defs _ _).mono (fun r h => ⟨fun c => (h c).2,
      Idealize.ShloMosaic.sem_eq_zero_of_no_sems (by decide) r.2⟩)
    (Cert.QBwdXReferenceIdeal.Value.run (F := Ideal) m ρ)

theorem frame_KvProj : Cert.quiescent_KvProj (hKvProj := Cert.KvProj.Gen.facts) := fun m ρ _ => Cert.KvProj.Gen.frame m ρ

theorem frame_KvProjIdeal : Cert.quiescent_KvProjIdeal (hKvProjIdeal := Cert.KvProjIdeal.Gen.facts) := fun m ρ _ => Cert.KvProjIdeal.Gen.frame m ρ

theorem frame_KvProjReferenceIdeal : Cert.quiescent_KvProjReferenceIdeal (hKvProjReferenceIdeal := Cert.KvProjReferenceIdeal.Gen.facts) := fun m ρ _ =>
  (θ_run Cert.KvProjReferenceIdeal.defs _ _).mono (fun r h => ⟨fun c => (h c).2,
      Idealize.ShloMosaic.sem_eq_zero_of_no_sems (by decide) r.2⟩)
    (Cert.KvProjReferenceIdeal.Value.run (F := Ideal) m ρ)

theorem frame_KvBwdW : Cert.quiescent_KvBwdW (hKvBwdW := Cert.KvBwdW.Gen.facts) := fun m ρ _ => Cert.KvBwdW.Gen.frame m ρ

theorem frame_KvBwdWIdeal : Cert.quiescent_KvBwdWIdeal (hKvBwdWIdeal := Cert.KvBwdWIdeal.Gen.facts) := fun m ρ _ => Cert.KvBwdWIdeal.Gen.frame m ρ

theorem frame_KvBwdWReferenceIdeal : Cert.quiescent_KvBwdWReferenceIdeal (hKvBwdWReferenceIdeal := Cert.KvBwdWReferenceIdeal.Gen.facts) := fun m ρ _ =>
  (θ_run Cert.KvBwdWReferenceIdeal.defs _ _).mono (fun r h => ⟨fun c => (h c).2,
      Idealize.ShloMosaic.sem_eq_zero_of_no_sems (by decide) r.2⟩)
    (Cert.KvBwdWReferenceIdeal.Value.run (F := Ideal) m ρ)

theorem frame_KvBwdX : Cert.quiescent_KvBwdX (hKvBwdX := Cert.KvBwdX.Gen.facts) := fun m ρ _ => Cert.KvBwdX.Gen.frame m ρ

theorem frame_KvBwdXIdeal : Cert.quiescent_KvBwdXIdeal (hKvBwdXIdeal := Cert.KvBwdXIdeal.Gen.facts) := fun m ρ _ => Cert.KvBwdXIdeal.Gen.frame m ρ

theorem frame_KvBwdXReferenceIdeal : Cert.quiescent_KvBwdXReferenceIdeal (hKvBwdXReferenceIdeal := Cert.KvBwdXReferenceIdeal.Gen.facts) := fun m ρ _ =>
  (θ_run Cert.KvBwdXReferenceIdeal.defs _ _).mono (fun r h => ⟨fun c => (h c).2,
      Idealize.ShloMosaic.sem_eq_zero_of_no_sems (by decide) r.2⟩)
    (Cert.KvBwdXReferenceIdeal.Value.run (F := Ideal) m ρ)

theorem frame_AttnFwd : Cert.quiescent_AttnFwd (hAttnFwd := Cert.AttnFwd.Gen.facts) := fun m ρ _ => Cert.AttnFwd.Gen.frame m ρ

theorem frame_AttnFwdIdeal : Cert.quiescent_AttnFwdIdeal (hAttnFwdIdeal := Cert.AttnFwdIdeal.Gen.facts) := fun m ρ _ => Cert.AttnFwdIdeal.Gen.frame m ρ

theorem frame_AttnFwdReferenceIdeal : Cert.quiescent_AttnFwdReferenceIdeal (hAttnFwdReferenceIdeal := Cert.AttnFwdReferenceIdeal.Gen.facts) := fun m ρ _ =>
  (θ_run Cert.AttnFwdReferenceIdeal.defs _ _).mono (fun r h => ⟨fun c => (h c).2,
      Idealize.ShloMosaic.sem_eq_zero_of_no_sems (by decide) r.2⟩)
    (Cert.AttnFwdReferenceIdeal.Value.run (F := Ideal) m ρ)

theorem frame_AttnFwdIdeal_pre : Cert.quiescent_AttnFwdIdeal_pre_finite_forward (hAttnFwdIdeal := Cert.AttnFwdIdeal.Gen.facts)
    (hPre_finite_forward := Cert.AttnFwdIdeal.Call.facts) := fun m ρ _ => frame_AttnFwdIdeal m ρ trivial

theorem frame_AttnFwdReferenceIdeal_pre : Cert.quiescent_AttnFwdReferenceIdeal_pre_finite_forward (hAttnFwdReferenceIdeal := Cert.AttnFwdReferenceIdeal.Gen.facts)
    (hPre_finite_forward := Cert.AttnFwdIdeal.Call.facts) := fun m ρ _ => frame_AttnFwdReferenceIdeal m ρ trivial

theorem frame_RmsMixBwd : Cert.quiescent_RmsMixBwd (hRmsMixBwd := Cert.RmsMixBwd.Gen.facts) := fun m ρ _ => Cert.RmsMixBwd.Gen.frame m ρ

theorem frame_RmsMixBwdIdeal : Cert.quiescent_RmsMixBwdIdeal (hRmsMixBwdIdeal := Cert.RmsMixBwdIdeal.Gen.facts) := fun m ρ _ => Cert.RmsMixBwdIdeal.Gen.frame m ρ

theorem frame_RmsMixBwdReferenceIdeal : Cert.quiescent_RmsMixBwdReferenceIdeal (hRmsMixBwdReferenceIdeal := Cert.RmsMixBwdReferenceIdeal.Gen.facts) := fun m ρ _ =>
  (θ_run Cert.RmsMixBwdReferenceIdeal.defs _ _).mono (fun r h => ⟨fun c => (h c).2.2,
      Idealize.ShloMosaic.sem_eq_zero_of_no_sems (by decide) r.2⟩)
    (Cert.RmsMixBwdReferenceIdeal.Value.run (F := Ideal) m ρ)

theorem frame_RmsFfnBwd : Cert.quiescent_RmsFfnBwd (hRmsFfnBwd := Cert.RmsFfnBwd.Gen.facts) := fun m ρ _ => Cert.RmsFfnBwd.Gen.frame m ρ

theorem frame_RmsFfnBwdIdeal : Cert.quiescent_RmsFfnBwdIdeal (hRmsFfnBwdIdeal := Cert.RmsFfnBwdIdeal.Gen.facts) := fun m ρ _ => Cert.RmsFfnBwdIdeal.Gen.frame m ρ

theorem frame_RmsFfnBwdReferenceIdeal : Cert.quiescent_RmsFfnBwdReferenceIdeal (hRmsFfnBwdReferenceIdeal := Cert.RmsFfnBwdReferenceIdeal.Gen.facts) := fun m ρ _ =>
  (θ_run Cert.RmsFfnBwdReferenceIdeal.defs _ _).mono (fun r h => ⟨fun c => (h c).2.2.2,
      Idealize.ShloMosaic.sem_eq_zero_of_no_sems (by decide) r.2⟩)
    (Cert.RmsFfnBwdReferenceIdeal.Value.run (F := Ideal) m ρ)

theorem frame_RmsAttnBwd : Cert.quiescent_RmsAttnBwd (hRmsAttnBwd := Cert.RmsAttnBwd.Gen.facts) := fun m ρ _ => Cert.RmsAttnBwd.Gen.frame m ρ

theorem frame_RmsAttnBwdIdeal : Cert.quiescent_RmsAttnBwdIdeal (hRmsAttnBwdIdeal := Cert.RmsAttnBwdIdeal.Gen.facts) := fun m ρ _ => Cert.RmsAttnBwdIdeal.Gen.frame m ρ

theorem frame_RmsAttnBwdReferenceIdeal : Cert.quiescent_RmsAttnBwdReferenceIdeal (hRmsAttnBwdReferenceIdeal := Cert.RmsAttnBwdReferenceIdeal.Gen.facts) := fun m ρ _ =>
  (θ_run Cert.RmsAttnBwdReferenceIdeal.defs _ _).mono (fun r h => ⟨fun c => (h c).2.2,
      Idealize.ShloMosaic.sem_eq_zero_of_no_sems (by decide) r.2⟩)
    (Cert.RmsAttnBwdReferenceIdeal.Value.run (F := Ideal) m ρ)

theorem frame_AdamwLast : Cert.quiescent_AdamwLast (hAdamwLast := Cert.AdamwLast.Gen.facts) := fun m ρ _ => Cert.AdamwLast.Gen.frame m ρ

theorem frame_AdamwLastIdeal : Cert.quiescent_AdamwLastIdeal (hAdamwLastIdeal := Cert.AdamwLastIdeal.Gen.facts) := fun m ρ _ => Cert.AdamwLastIdeal.Gen.frame m ρ

theorem frame_AdamwLastReferenceIdeal : Cert.quiescent_AdamwLastReferenceIdeal (hAdamwLastReferenceIdeal := Cert.AdamwLastReferenceIdeal.Gen.facts) := fun m ρ _ =>
  (θ_run Cert.AdamwLastReferenceIdeal.defs _ _).mono (fun r h => ⟨fun c => (h c).2.2.2.2.2,
      Idealize.ShloMosaic.sem_eq_zero_of_no_sems (by decide) r.2⟩)
    (Cert.AdamwLastReferenceIdeal.Value.run (F := Ideal) m ρ)

theorem frame_AdamwCols : Cert.quiescent_AdamwCols (hAdamwCols := Cert.AdamwCols.Gen.facts) := fun m ρ _ => Cert.AdamwCols.Gen.frame m ρ

theorem frame_AdamwColsIdeal : Cert.quiescent_AdamwColsIdeal (hAdamwColsIdeal := Cert.AdamwColsIdeal.Gen.facts) := fun m ρ _ => Cert.AdamwColsIdeal.Gen.frame m ρ

theorem frame_AdamwColsReferenceIdeal : Cert.quiescent_AdamwColsReferenceIdeal (hAdamwColsReferenceIdeal := Cert.AdamwColsReferenceIdeal.Gen.facts) := fun m ρ _ =>
  (θ_run Cert.AdamwColsReferenceIdeal.defs _ _).mono (fun r h => ⟨fun c => (h c).2.2.2.2.2.2.2.2,
      Idealize.ShloMosaic.sem_eq_zero_of_no_sems (by decide) r.2⟩)
    (Cert.AdamwColsReferenceIdeal.Value.run (F := Ideal) m ρ)

theorem claim : Cert.Claim := ⟨Cert.Kernel.Gen.facts, Cert.KernelIdeal.Gen.facts, Cert.ReferenceIdeal.Gen.facts, Cert.UpBwdW.Gen.facts, Cert.UpBwdWIdeal.Gen.facts, Cert.UpBwdWReferenceIdeal.Gen.facts, Cert.UpBwdX.Gen.facts, Cert.UpBwdXIdeal.Gen.facts, Cert.UpBwdXReferenceIdeal.Gen.facts, Cert.DownBwdX.Gen.facts, Cert.DownBwdXIdeal.Gen.facts, Cert.DownBwdXReferenceIdeal.Gen.facts, Cert.DownBwdW.Gen.facts, Cert.DownBwdWIdeal.Gen.facts, Cert.DownBwdWReferenceIdeal.Gen.facts, Cert.UpProj.Gen.facts, Cert.UpProjIdeal.Gen.facts, Cert.UpProjReferenceIdeal.Gen.facts, Cert.DownProj.Gen.facts, Cert.DownProjIdeal.Gen.facts, Cert.DownProjReferenceIdeal.Gen.facts, Cert.InProj.Gen.facts, Cert.InProjIdeal.Gen.facts, Cert.InProjReferenceIdeal.Gen.facts, Cert.InBwdX.Gen.facts, Cert.InBwdXIdeal.Gen.facts, Cert.InBwdXReferenceIdeal.Gen.facts, Cert.InBwdW.Gen.facts, Cert.InBwdWIdeal.Gen.facts, Cert.InBwdWReferenceIdeal.Gen.facts, Cert.OutProj.Gen.facts, Cert.OutProjIdeal.Gen.facts, Cert.OutProjReferenceIdeal.Gen.facts, Cert.OutBwdX.Gen.facts, Cert.OutBwdXIdeal.Gen.facts, Cert.OutBwdXReferenceIdeal.Gen.facts, Cert.OutBwdW.Gen.facts, Cert.OutBwdWIdeal.Gen.facts, Cert.OutBwdWReferenceIdeal.Gen.facts, Cert.GluProj.Gen.facts, Cert.GluProjIdeal.Gen.facts, Cert.GluProjReferenceIdeal.Gen.facts, Cert.GluBwdX.Gen.facts, Cert.GluBwdXIdeal.Gen.facts, Cert.GluBwdXReferenceIdeal.Gen.facts, Cert.GluBwdW.Gen.facts, Cert.GluBwdWIdeal.Gen.facts, Cert.GluBwdWReferenceIdeal.Gen.facts, Cert.QProj.Gen.facts, Cert.QProjIdeal.Gen.facts, Cert.QProjReferenceIdeal.Gen.facts, Cert.QBwdW.Gen.facts, Cert.QBwdWIdeal.Gen.facts, Cert.QBwdWReferenceIdeal.Gen.facts, Cert.QBwdX.Gen.facts, Cert.QBwdXIdeal.Gen.facts, Cert.QBwdXReferenceIdeal.Gen.facts, Cert.KvProj.Gen.facts, Cert.KvProjIdeal.Gen.facts, Cert.KvProjReferenceIdeal.Gen.facts, Cert.KvBwdW.Gen.facts, Cert.KvBwdWIdeal.Gen.facts, Cert.KvBwdWReferenceIdeal.Gen.facts, Cert.KvBwdX.Gen.facts, Cert.KvBwdXIdeal.Gen.facts, Cert.KvBwdXReferenceIdeal.Gen.facts, Cert.AttnFwd.Gen.facts, Cert.AttnFwdIdeal.Gen.facts, Cert.AttnFwdReferenceIdeal.Gen.facts, Cert.RmsMixBwd.Gen.facts, Cert.RmsMixBwdIdeal.Gen.facts, Cert.RmsMixBwdReferenceIdeal.Gen.facts, Cert.RmsFfnBwd.Gen.facts, Cert.RmsFfnBwdIdeal.Gen.facts, Cert.RmsFfnBwdReferenceIdeal.Gen.facts, Cert.RmsAttnBwd.Gen.facts, Cert.RmsAttnBwdIdeal.Gen.facts, Cert.RmsAttnBwdReferenceIdeal.Gen.facts, Cert.AdamwLast.Gen.facts, Cert.AdamwLastIdeal.Gen.facts, Cert.AdamwLastReferenceIdeal.Gen.facts, Cert.AdamwCols.Gen.facts, Cert.AdamwColsIdeal.Gen.facts, Cert.AdamwColsReferenceIdeal.Gen.facts, Cert.Pre_finite_scores.facts, Cert.AttnFwdIdeal.Call.facts,
  frame_kernel, frame_kernel_ideal, frame_kernel_ideal_pre, frame_reference_ideal, frame_reference_ideal_pre,
  frame_UpBwdW, frame_UpBwdWIdeal, frame_UpBwdWReferenceIdeal,
  frame_UpBwdX, frame_UpBwdXIdeal, frame_UpBwdXReferenceIdeal,
  frame_DownBwdX, frame_DownBwdXIdeal, frame_DownBwdXReferenceIdeal,
  frame_DownBwdW, frame_DownBwdWIdeal, frame_DownBwdWReferenceIdeal,
  frame_UpProj, frame_UpProjIdeal, frame_UpProjReferenceIdeal,
  frame_DownProj, frame_DownProjIdeal, frame_DownProjReferenceIdeal,
  frame_InProj, frame_InProjIdeal, frame_InProjReferenceIdeal,
  frame_InBwdX, frame_InBwdXIdeal, frame_InBwdXReferenceIdeal,
  frame_InBwdW, frame_InBwdWIdeal, frame_InBwdWReferenceIdeal,
  frame_OutProj, frame_OutProjIdeal, frame_OutProjReferenceIdeal,
  frame_OutBwdX, frame_OutBwdXIdeal, frame_OutBwdXReferenceIdeal,
  frame_OutBwdW, frame_OutBwdWIdeal, frame_OutBwdWReferenceIdeal,
  frame_GluProj, frame_GluProjIdeal, frame_GluProjReferenceIdeal,
  frame_GluBwdX, frame_GluBwdXIdeal, frame_GluBwdXReferenceIdeal,
  frame_GluBwdW, frame_GluBwdWIdeal, frame_GluBwdWReferenceIdeal,
  frame_QProj, frame_QProjIdeal, frame_QProjReferenceIdeal,
  frame_QBwdW, frame_QBwdWIdeal, frame_QBwdWReferenceIdeal,
  frame_QBwdX, frame_QBwdXIdeal, frame_QBwdXReferenceIdeal,
  frame_KvProj, frame_KvProjIdeal, frame_KvProjReferenceIdeal,
  frame_KvBwdW, frame_KvBwdWIdeal, frame_KvBwdWReferenceIdeal,
  frame_KvBwdX, frame_KvBwdXIdeal, frame_KvBwdXReferenceIdeal,
  frame_AttnFwd, frame_AttnFwdIdeal, frame_AttnFwdIdeal_pre, frame_AttnFwdReferenceIdeal, frame_AttnFwdReferenceIdeal_pre,
  frame_RmsMixBwd, frame_RmsMixBwdIdeal, frame_RmsMixBwdReferenceIdeal,
  frame_RmsFfnBwd, frame_RmsFfnBwdIdeal, frame_RmsFfnBwdReferenceIdeal,
  frame_RmsAttnBwd, frame_RmsAttnBwdIdeal, frame_RmsAttnBwdReferenceIdeal,
  frame_AdamwLast, frame_AdamwLastIdeal, frame_AdamwLastReferenceIdeal,
  frame_AdamwCols, frame_AdamwColsIdeal, frame_AdamwColsReferenceIdeal,
  trivial, equal, trivial, Cert.UpBwdWIdeal.Call.equal, trivial, Cert.UpBwdXIdeal.Call.equal, trivial, Cert.DownBwdXIdeal.Call.equal, trivial, Cert.DownBwdWIdeal.Call.equal, trivial, Cert.UpProjIdeal.Call.equal, trivial, Cert.DownProjIdeal.Call.equal, trivial, Cert.InProjIdeal.Call.equal, trivial, Cert.InBwdXIdeal.Call.equal, trivial, Cert.InBwdWIdeal.Call.equal, trivial, Cert.OutProjIdeal.Call.equal, trivial, Cert.OutBwdXIdeal.Call.equal, trivial, Cert.OutBwdWIdeal.Call.equal, trivial, Cert.GluProjIdeal.Call.equal, trivial, Cert.GluBwdXIdeal.Call.equal, trivial, Cert.GluBwdWIdeal.Call.equal, trivial, Cert.QProjIdeal.Call.equal, trivial, Cert.QBwdWIdeal.Call.equal, trivial, Cert.QBwdXIdeal.Call.equal, trivial, Cert.KvProjIdeal.Call.equal, trivial, Cert.KvBwdWIdeal.Call.equal, trivial, Cert.KvBwdXIdeal.Call.equal, trivial, Cert.AttnFwdIdeal.Call.equal, trivial, Cert.RmsMixBwdIdeal.Call.equal, trivial, Cert.RmsFfnBwdIdeal.Call.equal, trivial, Cert.RmsAttnBwdIdeal.Call.equal, trivial, Cert.AdamwLastIdeal.Call.equal, trivial, Cert.AdamwColsIdeal.Call.equal⟩

end Cert.Proof

end
